-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x128x64 : Shape := ⟨3, ![4096, 128, 64]⟩
abbrev S1024x128x128 : Shape := ⟨3, ![1024, 128, 128]⟩
abbrev S1024x128 : Shape := ⟨2, ![1024, 128]⟩
abbrev S8192 : Shape := ⟨1, ![8192]⟩
abbrev S8192x1 : Shape := ⟨2, ![8192, 1]⟩
abbrev S_ : Shape := ⟨0, ![]⟩

class Facts : Prop where
  bcast_S_S8192 : S_.BroadcastsInDim S8192 (![] : Fin 0 → Fin S8192.rank)
  bcast_S_S8192x1 : S_.BroadcastsInDim S8192x1 (![] : Fin 0 → Fin S8192x1.rank)

variable [Facts]

def fn {F : FTy → Type} [FloatOps F] (main_arg0 : FVec F S4096x128x64 .f32) (main_arg1 : FVec F S1024x128x128 .f32) (main_arg2 : FVec F S1024x128 .f32) (main_arg3 : IVec S8192 32) (main_arg4 : IVec S8192 32) (main_arg5 : IVec S8192x1 32) : IVec S8192 1 × IVec S8192 1 × IVec S8192x1 1 :=
  let main_c : IVec S_ 32 := constantI S_ 32 0#32
  let main_v0 : IVec S8192 32 := broadcastInDim S8192 ![] bcast_S_S8192 main_c
  let main_v1 : IVec S8192 1 := cmpi .sge main_arg3 main_v0
  let main_c_0 : IVec S_ 32 := constantI S_ 32 1024#32
  let main_v2 : IVec S8192 32 := broadcastInDim S8192 ![] bcast_S_S8192 main_c_0
  let main_v3 : IVec S8192 1 := cmpi .slt main_arg3 main_v2
  let main_v4 : IVec S8192 1 := andi main_v1 main_v3
  let main_c_1 : IVec S_ 32 := constantI S_ 32 0#32
  let main_v5 : IVec S8192 32 := broadcastInDim S8192 ![] bcast_S_S8192 main_c_1
  let main_v6 : IVec S8192 1 := cmpi .sge main_arg4 main_v5
  let main_c_2 : IVec S_ 32 := constantI S_ 32 1024#32
  let main_v7 : IVec S8192 32 := broadcastInDim S8192 ![] bcast_S_S8192 main_c_2
  let main_v8 : IVec S8192 1 := cmpi .slt main_arg4 main_v7
  let main_v9 : IVec S8192 1 := andi main_v6 main_v8
  let main_c_3 : IVec S_ 32 := constantI S_ 32 0#32
  let main_v10 : IVec S8192x1 32 := broadcastInDim S8192x1 ![] bcast_S_S8192x1 main_c_3
  let main_v11 : IVec S8192x1 1 := cmpi .sge main_arg5 main_v10
  let main_c_4 : IVec S_ 32 := constantI S_ 32 4#32
  let main_v12 : IVec S8192x1 32 := broadcastInDim S8192x1 ![] bcast_S_S8192x1 main_c_4
  let main_v13 : IVec S8192x1 1 := cmpi .slt main_arg5 main_v12
  let main_v14 : IVec S8192x1 1 := andi main_v11 main_v13
  (main_v4, main_v9, main_v14)
-- ==== Kernel.lean ====
abbrev S4096x128x64 : Shape := ⟨3, ![4096, 128, 64]⟩
abbrev S1024x128x128 : Shape := ⟨3, ![1024, 128, 128]⟩
abbrev S1024x128 : Shape := ⟨2, ![1024, 128]⟩
abbrev S8192 : Shape := ⟨1, ![8192]⟩
abbrev S8192x1 : Shape := ⟨2, ![8192, 1]⟩
abbrev S_ : Shape := ⟨0, ![]⟩
abbrev S1024x1x128 : Shape := ⟨3, ![1024, 1, 128]⟩
abbrev S4x256x128x64 : Shape := ⟨4, ![4, 256, 128, 64]⟩
abbrev S1024x64x128 : Shape := ⟨3, ![1024, 64, 128]⟩
abbrev S3x64x128x64 : Shape := ⟨4, ![3, 64, 128, 64]⟩
abbrev S3x64x128x128 : Shape := ⟨4, ![3, 64, 128, 128]⟩
abbrev S3x64x1x128 : Shape := ⟨4, ![3, 64, 1, 128]⟩
abbrev S32x128x4x64 : Shape := ⟨4, ![32, 128, 4, 64]⟩
abbrev S3 : Shape := ⟨1, ![3]⟩
abbrev S1 : Shape := ⟨1, ![1]⟩
abbrev S1x1x128x64 : Shape := ⟨4, ![1, 1, 128, 64]⟩
abbrev S128x64 : Shape := ⟨2, ![128, 64]⟩
abbrev S1x128x64 : Shape := ⟨3, ![1, 128, 64]⟩
abbrev S1x1x128x128 : Shape := ⟨4, ![1, 1, 128, 128]⟩
abbrev S128x128 : Shape := ⟨2, ![128, 128]⟩
abbrev S1x128x128 : Shape := ⟨3, ![1, 128, 128]⟩
abbrev S1x1x1x128 : Shape := ⟨4, ![1, 1, 1, 128]⟩
abbrev S1x128 : Shape := ⟨2, ![1, 128]⟩
abbrev S1x1x128 : Shape := ⟨3, ![1, 1, 128]⟩
abbrev S1x64x128x64 : Shape := ⟨4, ![1, 64, 128, 64]⟩
abbrev S64x128x64 : Shape := ⟨3, ![64, 128, 64]⟩
abbrev S1x64x128x128 : Shape := ⟨4, ![1, 64, 128, 128]⟩
abbrev S64x128x128 : Shape := ⟨3, ![64, 128, 128]⟩
abbrev S1x64x1x128 : Shape := ⟨4, ![1, 64, 1, 128]⟩
abbrev S64x1x128 : Shape := ⟨3, ![64, 1, 128]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S256x256 : Shape := ⟨2, ![256, 256]⟩
abbrev S256x128 : Shape := ⟨2, ![256, 128]⟩
abbrev S128x256 : Shape := ⟨2, ![128, 256]⟩
abbrev S128x4x64 : Shape := ⟨3, ![128, 4, 64]⟩
abbrev S1x128x4x64 : Shape := ⟨4, ![1, 128, 4, 64]⟩
abbrev S1x32x128x64 : Shape := ⟨4, ![1, 32, 128, 64]⟩
abbrev S32x128x64 : Shape := ⟨3, ![32, 128, 64]⟩
abbrev S32x128x1x64 : Shape := ⟨4, ![32, 128, 1, 64]⟩
abbrev S1024x128x64 : Shape := ⟨3, ![1024, 128, 64]⟩

abbrev nBuf : Space → Nat
  | .hbm => 12
  | .vmem => 5
  | .smem => 3
  | _ => 0

abbrev bufTy : (tb : Table) → Fin (tcTables nBuf tb) → BufTy
  | .hbm, ⟨0, _⟩ => ⟨S4096x128x64, .f32⟩
  | .hbm, ⟨1, _⟩ => ⟨S1024x128x128, .f32⟩
  | .hbm, ⟨2, _⟩ => ⟨S1024x128, .f32⟩
  | .hbm, ⟨3, _⟩ => ⟨S8192x1, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S1024x128x128, .bf16⟩
  | .hbm, ⟨9, _⟩ => ⟨S1024x1x128, .f32⟩
  | .hbm, ⟨10, _⟩ => ⟨S4x256x128x64, .f32⟩
  | .hbm, ⟨11, _⟩ => ⟨S1024x128x64, .f32⟩
  | .local _ .vmem, ⟨0, _⟩ => ⟨S1024x64x128, .f32⟩
  | .local _ .vmem, ⟨1, _⟩ => ⟨S3x64x128x64, .f32⟩
  | .local _ .vmem, ⟨2, _⟩ => ⟨S3x64x128x128, .bf16⟩
  | .local _ .vmem, ⟨3, _⟩ => ⟨S3x64x1x128, .f32⟩
  | .local _ .vmem, ⟨4, _⟩ => ⟨S32x128x4x64, .f32⟩
  | .local _ .smem, ⟨0, _⟩ => ⟨S8192, .i32⟩
  | .local _ .smem, ⟨1, _⟩ => ⟨S8192, .i32⟩
  | .local _ .smem, ⟨2, _⟩ => ⟨S8192, .i32⟩
  | _, _ => ⟨S4096x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v3 : Ref sig .tc := ⟨.smem, 0, rfl⟩
abbrev main_arg4 : Ref sig .tc := ⟨.smem, 1, rfl⟩
abbrev main_arg3 : Ref sig .tc := ⟨.smem, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := ⟨1, ![128], ![false]⟩

abbrev pre0 : Pipeline.Prefetch sig := ⟨3, ![main_v3.idx, main_arg4.idx, main_arg3.idx], fun | 0 => main_v3.names | 1 => main_arg4.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v2151 : BitVec 32) : Fin 3 → Nat :=
  let c0_i32_1062 : BitVec 32 := 0#32
  let c0_i32_1063 : BitVec 32 := 0#32
  ![v2151.toNat, 0, 0]

def k0_chk1 (i : grid0.Coords) (v2151 : BitVec 32) : Prop :=
  (∀ (k0_h1 : k0_cond1 i = 1#1), ∀ a, (k0_off1 v2151) a + S1x128x64.size a ≤ S4096x128x64.size a)
theorem k0_off1_inb : ∀ (i : grid0.Coords) (v2151 : BitVec 32) (k0_hw1 : k0_chk1 i v2151), ∀ (k0_h1 : k0_cond1 i = 1#1), ∀ a, (k0_off1 v2151) a + S1x128x64.size a ≤ S4096x128x64.size a := fun i v2151 k0_hw1 k0_h1 => k0_hw1 k0_h1

def k0_off2 (v2152 : BitVec 32) : Fin 3 → Nat :=
  let c0_i32_1069 : BitVec 32 := 0#32
  let c0_i32_1070 : BitVec 32 := 0#32
  ![v2152.toNat, 0, 0]

def k0_off3 (v2152 : BitVec 32) : Fin 3 → Nat :=
  let c0_i32_1076 : BitVec 32 := 0#32
  let c0_i32_1077 : BitVec 32 := 0#32
  ![v2152.toNat, 0, 0]

def k0_chk2 (i : grid0.Coords) (v2152 : BitVec 32) : Prop :=
  (∀ (k0_h1 : k0_cond1 i = 1#1), ∀ a, (k0_off2 v2152) a + S1x128x128.size a ≤ S1024x128x128.size a) ∧
  (∀ (k0_h1 : k0_cond1 i = 1#1), ∀ (hinb : ∀ a, (k0_off2 v2152) a + S1x128x128.size a ≤ S1024x128x128.size a), (Rect.unit (s := S1024x128x128) (k0_off2 v2152) S1x128x128.size hinb).WholeWords (EltTy.packing .bf16)) ∧
  (∀ (k0_h1 : k0_cond1 i = 1#1), ∀ a, (k0_off3 v2152) a + S1x1x128.size a ≤ S1024x1x128.size a)
theorem k0_off2_inb : ∀ (i : grid0.Coords) (v2152 : BitVec 32) (k0_hw2 : k0_chk2 i v2152), ∀ (k0_h1 : k0_cond1 i = 1#1), ∀ a, (k0_off2 v2152) a + S1x128x128.size a ≤ S1024x128x128.size a := fun i v2152 k0_hw2 k0_h1 => k0_hw2.1 k0_h1
theorem k0_off2_wordsbf16 : ∀ (i : grid0.Coords) (v2152 : BitVec 32) (k0_hw2 : k0_chk2 i v2152), ∀ (k0_h1 : k0_cond1 i = 1#1), (Rect.unit (s := S1024x128x128) (k0_off2 v2152) S1x128x128.size (k0_off2_inb i v2152 k0_hw2 k0_h1)).WholeWords (EltTy.packing .bf16) := fun i v2152 k0_hw2 k0_h1 => k0_hw2.2.1 k0_h1 (k0_off2_inb i v2152 k0_hw2 k0_h1)
theorem k0_off3_inb : ∀ (i : grid0.Coords) (v2152 : BitVec 32) (k0_hw2 : k0_chk2 i v2152), ∀ (k0_h1 : k0_cond1 i = 1#1), ∀ a, (k0_off3 v2152) a + S1x1x128.size a ≤ S1024x1x128.size a := fun i v2152 k0_hw2 k0_h1 => k0_hw2.2.2 k0_h1

def k0_off4 (v2171 : BitVec 32) : Fin 3 → Nat :=
  let c0_i32_1085 : BitVec 32 := 0#32
  let c0_i32_1086 : BitVec 32 := 0#32
  ![v2171.toNat, 0, 0]

def k0_chk3 (i : grid0.Coords) (v2171 : BitVec 32) : Prop :=
  (∀ (k0_h1 : k0_cond1 i = 1#1), ∀ a, (k0_off4 v2171) a + S1x128x64.size a ≤ S4096x128x64.size a)
theorem k0_off4_inb : ∀ (i : grid0.Coords) (v2171 : BitVec 32) (k0_hw3 : k0_chk3 i v2171), ∀ (k0_h1 : k0_cond1 i = 1#1), ∀ a, (k0_off4 v2171) a + S1x128x64.size a ≤ S4096x128x64.size a := fun i v2171 k0_hw3 k0_h1 => k0_hw3 k0_h1

def k0_off5 (v2172 : BitVec 32) : Fin 3 → Nat :=
  let c0_i32_1092 : BitVec 32 := 0#32
  let c0_i32_1093 : BitVec 32 := 0#32
  ![v2172.toNat, 0, 0]

def k0_off6 (v2172 : BitVec 32) : Fin 3 → Nat :=
  let c0_i32_1099 : BitVec 32 := 0#32
  let c0_i32_1100 : BitVec 32 := 0#32
  ![v2172.toNat, 0, 0]

def k0_chk4 (i : grid0.Coords) (v2172 : BitVec 32) : Prop :=
  (∀ (k0_h1 : k0_cond1 i = 1#1), ∀ a, (k0_off5 v2172) a + S1x128x128.size a ≤ S1024x128x128.size a) ∧
  (∀ (k0_h1 : k0_cond1 i = 1#1), ∀ (hinb : ∀ a, (k0_off5 v2172) a + S1x128x128.size a ≤ S1024x128x128.size a), (Rect.unit (s := S1024x128x128) (k0_off5 v2172) S1x128x128.size hinb).WholeWords (EltTy.packing .bf16)) ∧
  (∀ (k0_h1 : k0_cond1 i = 1#1), ∀ a, (k0_off6 v2172) a + S1x1x128.size a ≤ S1024x1x128.size a)
theorem k0_off5_inb : ∀ (i : grid0.Coords) (v2172 : BitVec 32) (k0_hw4 : k0_chk4 i v2172), ∀ (k0_h1 : k0_cond1 i = 1#1), ∀ a, (k0_off5 v2172) a + S1x128x128.size a ≤ S1024x128x128.size a := fun i v2172 k0_hw4 k0_h1 => k0_hw4.1 k0_h1
theorem k0_off5_wordsbf16 : ∀ (i : grid0.Coords) (v2172 : BitVec 32) (k0_hw4 : k0_chk4 i v2172), ∀ (k0_h1 : k0_cond1 i = 1#1), (Rect.unit (s := S1024x128x128) (k0_off5 v2172) S1x128x128.size (k0_off5_inb i v2172 k0_hw4 k0_h1)).WholeWords (EltTy.packing .bf16) := fun i v2172 k0_hw4 k0_h1 => k0_hw4.2.1 k0_h1 (k0_off5_inb i v2172 k0_hw4 k0_h1)
theorem k0_off6_inb : ∀ (i : grid0.Coords) (v2172 : BitVec 32) (k0_hw4 : k0_chk4 i v2172), ∀ (k0_h1 : k0_cond1 i = 1#1), ∀ a, (k0_off6 v2172) a + S1x1x128.size a ≤ S1024x1x128.size a := fun i v2172 k0_hw4 k0_h1 => k0_hw4.2.2 k0_h1

def k0_off7 (v2191 : BitVec 32) : Fin 3 → Nat :=
  let c0_i32_1108 : BitVec 32 := 0#32
  let c0_i32_1109 : BitVec 32 := 0#32
  ![v2191.toNat, 0, 0]

def k0_chk5 (i : grid0.Coords) (v2191 : BitVec 32) : Prop :=
  (∀ (k0_h1 : k0_cond1 i = 1#1), ∀ a, (k0_off7 v2191) a + S1x128x64.size a ≤ S4096x128x64.size a)
theorem k0_off7_inb : ∀ (i : grid0.Coords) (v2191 : BitVec 32) (k0_hw5 : k0_chk5 i v2191), ∀ (k0_h1 : k0_cond1 i = 1#1), ∀ a, (k0_off7 v2191) a + S1x128x64.size a ≤ S4096x128x64.size a := fun i v2191 k0_hw5 k0_h1 => k0_hw5 k0_h1

def k0_off8 (v2192 : BitVec 32) : Fin 3 → Nat :=
  let c0_i32_1115 : BitVec 32 := 0#32
  let c0_i32_1116 : BitVec 32 := 0#32
  ![v2192.toNat, 0, 0]

def k0_off9 (v2192 : BitVec 32) : Fin 3 → Nat :=
  let c0_i32_1122 : BitVec 32 := 0#32
  let c0_i32_1123 : BitVec 32 := 0#32
  ![v2192.toNat, 0, 0]

def k0_chk6 (i : grid0.Coords) (v2192 : BitVec 32) : Prop :=
  (∀ (k0_h1 : k0_cond1 i = 1#1), ∀ a, (k0_off8 v2192) a + S1x128x128.size a ≤ S1024x128x128.size a) ∧
  (∀ (k0_h1 : k0_cond1 i = 1#1), ∀ (hinb : ∀ a, (k0_off8 v2192) a + S1x128x128.size a ≤ S1024x128x128.size a), (Rect.unit (s := S1024x128x128) (k0_off8 v2192) S1x128x128.size hinb).WholeWords (EltTy.packing .bf16)) ∧
  (∀ (k0_h1 : k0_cond1 i = 1#1), ∀ a, (k0_off9 v2192) a + S1x1x128.size a ≤ S1024x1x128.size a)
theorem k0_off8_inb : ∀ (i : grid0.Coords) (v2192 : BitVec 32) (k0_hw6 : k0_chk6 i v2192), ∀ (k0_h1 : k0_cond1 i = 1#1), ∀ a, (k0_off8 v2192) a + S1x128x128.size a ≤ S1024x128x128.size a := fun i v2192 k0_hw6 k0_h1 => k0_hw6.1 k0_h1
theorem k0_off8_wordsbf16 : ∀ (i : grid0.Coords) (v2192 : BitVec 32) (k0_hw6 : k0_chk6 i v2192), ∀ (k0_h1 : k0_cond1 i = 1#1), (Rect.unit (s := S1024x128x128) (k0_off8 v2192) S1x128x128.size (k0_off8_inb i v2192 k0_hw6 k0_h1)).WholeWords (EltTy.packing .bf16) := fun i v2192 k0_hw6 k0_h1 => k0_hw6.2.1 k0_h1 (k0_off8_inb i v2192 k0_hw6 k0_h1)
theorem k0_off9_inb : ∀ (i : grid0.Coords) (v2192 : BitVec 32) (k0_hw6 : k0_chk6 i v2192), ∀ (k0_h1 : k0_cond1 i = 1#1), ∀ a, (k0_off9 v2192) a + S1x1x128.size a ≤ S1024x1x128.size a := fun i v2192 k0_hw6 k0_h1 => k0_hw6.2.2 k0_h1

def k0_off10 (v2211 : BitVec 32) : Fin 3 → Nat :=
  let c0_i32_1131 : BitVec 32 := 0#32
  let c0_i32_1132 : BitVec 32 := 0#32
  ![v2211.toNat, 0, 0]

def k0_chk7 (i : grid0.Coords) (v2211 : BitVec 32) : Prop :=
  (∀ (k0_h1 : k0_cond1 i = 1#1), ∀ a, (k0_off10 v2211) a + S1x128x64.size a ≤ S4096x128x64.size a)
theorem k0_off10_inb : ∀ (i : grid0.Coords) (v2211 : BitVec 32) (k0_hw7 : k0_chk7 i v2211), ∀ (k0_h1 : k0_cond1 i = 1#1), ∀ a, (k0_off10 v2211) a + S1x128x64.size a ≤ S4096x128x64.size a := fun i v2211 k0_hw7 k0_h1 => k0_hw7 k0_h1

def k0_off11 (v2212 : BitVec 32) : Fin 3 → Nat :=
  let c0_i32_1138 : BitVec 32 := 0#32
  let c0_i32_1139 : BitVec 32 := 0#32
  ![v2212.toNat, 0, 0]

def k0_off12 (v2212 : BitVec 32) : Fin 3 → Nat :=
  let c0_i32_1145 : BitVec 32 := 0#32
  let c0_i32_1146 : BitVec 32 := 0#32
  ![v2212.toNat, 0, 0]

def k0_chk8 (i : grid0.Coords) (v2212 : BitVec 32) : Prop :=
  (∀ (k0_h1 : k0_cond1 i = 1#1), ∀ a, (k0_off11 v2212) a + S1x128x128.size a ≤ S1024x128x128.size a) ∧
  (∀ (k0_h1 : k0_cond1 i = 1#1), ∀ (hinb : ∀ a, (k0_off11 v2212) a + S1x128x128.size a ≤ S1024x128x128.size a), (Rect.unit (s := S1024x128x128) (k0_off11 v2212) S1x128x128.size hinb).WholeWords (EltTy.packing .bf16)) ∧
  (∀ (k0_h1 : k0_cond1 i = 1#1), ∀ a, (k0_off12 v2212) a + S1x1x128.size a ≤ S1024x1x128.size a)
theorem k0_off11_inb : ∀ (i : grid0.Coords) (v2212 : BitVec 32) (k0_hw8 : k0_chk8 i v2212), ∀ (k0_h1 : k0_cond1 i = 1#1), ∀ a, (k0_off11 v2212) a + S1x128x128.size a ≤ S1024x128x128.size a := fun i v2212 k0_hw8 k0_h1 => k0_hw8.1 k0_h1
theorem k0_off11_wordsbf16 : ∀ (i : grid0.Coords) (v2212 : BitVec 32) (k0_hw8 : k0_chk8 i v2212), ∀ (k0_h1 : k0_cond1 i = 1#1), (Rect.unit (s := S1024x128x128) (k0_off11 v2212) S1x128x128.size (k0_off11_inb i v2212 k0_hw8 k0_h1)).WholeWords (EltTy.packing .bf16) := fun i v2212 k0_hw8 k0_h1 => k0_hw8.2.1 k0_h1 (k0_off11_inb i v2212 k0_hw8 k0_h1)
theorem k0_off12_inb : ∀ (i : grid0.Coords) (v2212 : BitVec 32) (k0_hw8 : k0_chk8 i v2212), ∀ (k0_h1 : k0_cond1 i = 1#1), ∀ a, (k0_off12 v2212) a + S1x1x128.size a ≤ S1024x1x128.size a := fun i v2212 k0_hw8 k0_h1 => k0_hw8.2.2 k0_h1

def k0_off13 (v2231 : BitVec 32) : Fin 3 → Nat :=
  let c0_i32_1154 : BitVec 32 := 0#32
  let c0_i32_1155 : BitVec 32 := 0#32
  ![v2231.toNat, 0, 0]

def k0_chk9 (i : grid0.Coords) (v2231 : BitVec 32) : Prop :=
  (∀ (k0_h1 : k0_cond1 i = 1#1), ∀ a, (k0_off13 v2231) a + S1x128x64.size a ≤ S4096x128x64.size a)
theorem k0_off13_inb : ∀ (i : grid0.Coords) (v2231 : BitVec 32) (k0_hw9 : k0_chk9 i v2231), ∀ (k0_h1 : k0_cond1 i = 1#1), ∀ a, (k0_off13 v2231) a + S1x128x64.size a ≤ S4096x128x64.size a := fun i v2231 k0_hw9 k0_h1 => k0_hw9 k0_h1

def k0_off14 (v2232 : BitVec 32) : Fin 3 → Nat :=
  let c0_i32_1161 : BitVec 32 := 0#32
  let c0_i32_1162 : BitVec 32 := 0#32
  ![v2232.toNat, 0, 0]

def k0_off15 (v2232 : BitVec 32) : Fin 3 → Nat :=
  let c0_i32_1168 : BitVec 32 := 0#32
  let c0_i32_1169 : BitVec 32 := 0#32
  ![v2232.toNat, 0, 0]

def k0_chk10 (i : grid0.Coords) (v2232 : BitVec 32) : Prop :=
  (∀ (k0_h1 : k0_cond1 i = 1#1), ∀ a, (k0_off14 v2232) a + S1x128x128.size a ≤ S1024x128x128.size a) ∧
  (∀ (k0_h1 : k0_cond1 i = 1#1), ∀ (hinb : ∀ a, (k0_off14 v2232) a + S1x128x128.size a ≤ S1024x128x128.size a), (Rect.unit (s := S1024x128x128) (k0_off14 v2232) S1x128x128.size hinb).WholeWords (EltTy.packing .bf16)) ∧
  (∀ (k0_h1 : k0_cond1 i = 1#1), ∀ a, (k0_off15 v2232) a + S1x1x128.size a ≤ S1024x1x128.size a)
theorem k0_off14_inb : ∀ (i : grid0.Coords) (v2232 : BitVec 32) (k0_hw10 : k0_chk10 i v2232), ∀ (k0_h1 : k0_cond1 i = 1#1), ∀ a, (k0_off14 v2232) a + S1x128x128.size a ≤ S1024x128x128.size a := fun i v2232 k0_hw10 k0_h1 => k0_hw10.1 k0_h1
theorem k0_off14_wordsbf16 : ∀ (i : grid0.Coords) (v2232 : BitVec 32) (k0_hw10 : k0_chk10 i v2232), ∀ (k0_h1 : k0_cond1 i = 1#1), (Rect.unit (s := S1024x128x128) (k0_off14 v2232) S1x128x128.size (k0_off14_inb i v2232 k0_hw10 k0_h1)).WholeWords (EltTy.packing .bf16) := fun i v2232 k0_hw10 k0_h1 => k0_hw10.2.1 k0_h1 (k0_off14_inb i v2232 k0_hw10 k0_h1)
theorem k0_off15_inb : ∀ (i : grid0.Coords) (v2232 : BitVec 32) (k0_hw10 : k0_chk10 i v2232), ∀ (k0_h1 : k0_cond1 i = 1#1), ∀ a, (k0_off15 v2232) a + S1x1x128.size a ≤ S1024x1x128.size a := fun i v2232 k0_hw10 k0_h1 => k0_hw10.2.2 k0_h1

def k0_off16 (v2251 : BitVec 32) : Fin 3 → Nat :=
  let c0_i32_1177 : BitVec 32 := 0#32
  let c0_i32_1178 : BitVec 32 := 0#32
  ![v2251.toNat, 0, 0]

def k0_chk11 (i : grid0.Coords) (v2251 : BitVec 32) : Prop :=
  (∀ (k0_h1 : k0_cond1 i = 1#1), ∀ a, (k0_off16 v2251) a + S1x128x64.size a ≤ S4096x128x64.size a)
theorem k0_off16_inb : ∀ (i : grid0.Coords) (v2251 : BitVec 32) (k0_hw11 : k0_chk11 i v2251), ∀ (k0_h1 : k0_cond1 i = 1#1), ∀ a, (k0_off16 v2251) a + S1x128x64.size a ≤ S4096x128x64.size a := fun i v2251 k0_hw11 k0_h1 => k0_hw11 k0_h1

def k0_off17 (v2252 : BitVec 32) : Fin 3 → Nat :=
  let c0_i32_1184 : BitVec 32 := 0#32
  let c0_i32_1185 : BitVec 32 := 0#32
  ![v2252.toNat, 0, 0]

def k0_off18 (v2252 : BitVec 32) : Fin 3 → Nat :=
  let c0_i32_1191 : BitVec 32 := 0#32
  let c0_i32_1192 : BitVec 32 := 0#32
  ![v2252.toNat, 0, 0]

def k0_chk12 (i : grid0.Coords) (v2252 : BitVec 32) : Prop :=
  (∀ (k0_h1 : k0_cond1 i = 1#1), ∀ a, (k0_off17 v2252) a + S1x128x128.size a ≤ S1024x128x128.size a) ∧
  (∀ (k0_h1 : k0_cond1 i = 1#1), ∀ (hinb : ∀ a, (k0_off17 v2252) a + S1x128x128.size a ≤ S1024x128x128.size a), (Rect.unit (s := S1024x128x128) (k0_off17 v2252) S1x128x128.size hinb).WholeWords (EltTy.packing .bf16)) ∧
  (∀ (k0_h1 : k0_cond1 i = 1#1), ∀ a, (k0_off18 v2252) a + S1x1x128.size a ≤ S1024x1x128.size a)
theorem k0_off17_inb : ∀ (i : grid0.Coords) (v2252 : BitVec 32) (k0_hw12 : k0_chk12 i v2252), ∀ (k0_h1 : k0_cond1 i = 1#1), ∀ a, (k0_off17 v2252) a + S1x128x128.size a ≤ S1024x128x128.size a := fun i v2252 k0_hw12 k0_h1 => k0_hw12.1 k0_h1
theorem k0_off17_wordsbf16 : ∀ (i : grid0.Coords) (v2252 : BitVec 32) (k0_hw12 : k0_chk12 i v2252), ∀ (k0_h1 : k0_cond1 i = 1#1), (Rect.unit (s := S1024x128x128) (k0_off17 v2252) S1x128x128.size (k0_off17_inb i v2252 k0_hw12 k0_h1)).WholeWords (EltTy.packing .bf16) := fun i v2252 k0_hw12 k0_h1 => k0_hw12.2.1 k0_h1 (k0_off17_inb i v2252 k0_hw12 k0_h1)
theorem k0_off18_inb : ∀ (i : grid0.Coords) (v2252 : BitVec 32) (k0_hw12 : k0_chk12 i v2252), ∀ (k0_h1 : k0_cond1 i = 1#1), ∀ a, (k0_off18 v2252) a + S1x1x128.size a ≤ S1024x1x128.size a := fun i v2252 k0_hw12 k0_h1 => k0_hw12.2.2 k0_h1

def k0_off19 (v2271 : BitVec 32) : Fin 3 → Nat :=
  let c0_i32_1200 : BitVec 32 := 0#32
  let c0_i32_1201 : BitVec 32 := 0#32
  ![v2271.toNat, 0, 0]

def k0_chk13 (i : grid0.Coords) (v2271 : BitVec 32) : Prop :=
  (∀ (k0_h1 : k0_cond1 i = 1#1), ∀ a, (k0_off19 v2271) a + S1x128x64.size a ≤ S4096x128x64.size a)
theorem k0_off19_inb : ∀ (i : grid0.Coords) (v2271 : BitVec 32) (k0_hw13 : k0_chk13 i v2271), ∀ (k0_h1 : k0_cond1 i = 1#1), ∀ a, (k0_off19 v2271) a + S1x128x64.size a ≤ S4096x128x64.size a := fun i v2271 k0_hw13 k0_h1 => k0_hw13 k0_h1

def k0_off20 (v2272 : BitVec 32) : Fin 3 → Nat :=
  let c0_i32_1207 : BitVec 32 := 0#32
  let c0_i32_1208 : BitVec 32 := 0#32
  ![v2272.toNat, 0, 0]

def k0_off21 (v2272 : BitVec 32) : Fin 3 → Nat :=
  let c0_i32_1214 : BitVec 32 := 0#32
  let c0_i32_1215 : BitVec 32 := 0#32
  ![v2272.toNat, 0, 0]

def k0_chk14 (i : grid0.Coords) (v2272 : BitVec 32) : Prop :=
  (∀ (k0_h1 : k0_cond1 i = 1#1), ∀ a, (k0_off20 v2272) a + S1x128x128.size a ≤ S1024x128x128.size a) ∧
  (∀ (k0_h1 : k0_cond1 i = 1#1), ∀ (hinb : ∀ a, (k0_off20 v2272) a + S1x128x128.size a ≤ S1024x128x128.size a), (Rect.unit (s := S1024x128x128) (k0_off20 v2272) S1x128x128.size hinb).WholeWords (EltTy.packing .bf16)) ∧
  (∀ (k0_h1 : k0_cond1 i = 1#1), ∀ a, (k0_off21 v2272) a + S1x1x128.size a ≤ S1024x1x128.size a)
theorem k0_off20_inb : ∀ (i : grid0.Coords) (v2272 : BitVec 32) (k0_hw14 : k0_chk14 i v2272), ∀ (k0_h1 : k0_cond1 i = 1#1), ∀ a, (k0_off20 v2272) a + S1x128x128.size a ≤ S1024x128x128.size a := fun i v2272 k0_hw14 k0_h1 => k0_hw14.1 k0_h1
theorem k0_off20_wordsbf16 : ∀ (i : grid0.Coords) (v2272 : BitVec 32) (k0_hw14 : k0_chk14 i v2272), ∀ (k0_h1 : k0_cond1 i = 1#1), (Rect.unit (s := S1024x128x128) (k0_off20 v2272) S1x128x128.size (k0_off20_inb i v2272 k0_hw14 k0_h1)).WholeWords (EltTy.packing .bf16) := fun i v2272 k0_hw14 k0_h1 => k0_hw14.2.1 k0_h1 (k0_off20_inb i v2272 k0_hw14 k0_h1)
theorem k0_off21_inb : ∀ (i : grid0.Coords) (v2272 : BitVec 32) (k0_hw14 : k0_chk14 i v2272), ∀ (k0_h1 : k0_cond1 i = 1#1), ∀ a, (k0_off21 v2272) a + S1x1x128.size a ≤ S1024x1x128.size a := fun i v2272 k0_hw14 k0_h1 => k0_hw14.2.2 k0_h1

def k0_off22 (v2291 : BitVec 32) : Fin 3 → Nat :=
  let c0_i32_1223 : BitVec 32 := 0#32
  let c0_i32_1224 : BitVec 32 := 0#32
  ![v2291.toNat, 0, 0]

def k0_chk15 (i : grid0.Coords) (v2291 : BitVec 32) : Prop :=
  (∀ (k0_h1 : k0_cond1 i = 1#1), ∀ a, (k0_off22 v2291) a + S1x128x64.size a ≤ S4096x128x64.size a)
theorem k0_off22_inb : ∀ (i : grid0.Coords) (v2291 : BitVec 32) (k0_hw15 : k0_chk15 i v2291), ∀ (k0_h1 : k0_cond1 i = 1#1), ∀ a, (k0_off22 v2291) a + S1x128x64.size a ≤ S4096x128x64.size a := fun i v2291 k0_hw15 k0_h1 => k0_hw15 k0_h1

def k0_off23 (v2292 : BitVec 32) : Fin 3 → Nat :=
  let c0_i32_1230 : BitVec 32 := 0#32
  let c0_i32_1231 : BitVec 32 := 0#32
  ![v2292.toNat, 0, 0]

def k0_off24 (v2292 : BitVec 32) : Fin 3 → Nat :=
  let c0_i32_1237 : BitVec 32 := 0#32
  let c0_i32_1238 : BitVec 32 := 0#32
  ![v2292.toNat, 0, 0]

def k0_chk16 (i : grid0.Coords) (v2292 : BitVec 32) : Prop :=
  (∀ (k0_h1 : k0_cond1 i = 1#1), ∀ a, (k0_off23 v2292) a + S1x128x128.size a ≤ S1024x128x128.size a) ∧
  (∀ (k0_h1 : k0_cond1 i = 1#1), ∀ (hinb : ∀ a, (k0_off23 v2292) a + S1x128x128.size a ≤ S1024x128x128.size a), (Rect.unit (s := S1024x128x128) (k0_off23 v2292) S1x128x128.size hinb).WholeWords (EltTy.packing .bf16)) ∧
  (∀ (k0_h1 : k0_cond1 i = 1#1), ∀ a, (k0_off24 v2292) a + S1x1x128.size a ≤ S1024x1x128.size a)
theorem k0_off23_inb : ∀ (i : grid0.Coords) (v2292 : BitVec 32) (k0_hw16 : k0_chk16 i v2292), ∀ (k0_h1 : k0_cond1 i = 1#1), ∀ a, (k0_off23 v2292) a + S1x128x128.size a ≤ S1024x128x128.size a := fun i v2292 k0_hw16 k0_h1 => k0_hw16.1 k0_h1
theorem k0_off23_wordsbf16 : ∀ (i : grid0.Coords) (v2292 : BitVec 32) (k0_hw16 : k0_chk16 i v2292), ∀ (k0_h1 : k0_cond1 i = 1#1), (Rect.unit (s := S1024x128x128) (k0_off23 v2292) S1x128x128.size (k0_off23_inb i v2292 k0_hw16 k0_h1)).WholeWords (EltTy.packing .bf16) := fun i v2292 k0_hw16 k0_h1 => k0_hw16.2.1 k0_h1 (k0_off23_inb i v2292 k0_hw16 k0_h1)
theorem k0_off24_inb : ∀ (i : grid0.Coords) (v2292 : BitVec 32) (k0_hw16 : k0_chk16 i v2292), ∀ (k0_h1 : k0_cond1 i = 1#1), ∀ a, (k0_off24 v2292) a + S1x1x128.size a ≤ S1024x1x128.size a := fun i v2292 k0_hw16 k0_h1 => k0_hw16.2.2 k0_h1

def k0_off25 (v2311 : BitVec 32) : Fin 3 → Nat :=
  let c0_i32_1246 : BitVec 32 := 0#32
  let c0_i32_1247 : BitVec 32 := 0#32
  ![v2311.toNat, 0, 0]

def k0_chk17 (i : grid0.Coords) (v2311 : BitVec 32) : Prop :=
  (∀ (k0_h1 : k0_cond1 i = 1#1), ∀ a, (k0_off25 v2311) a + S1x128x64.size a ≤ S4096x128x64.size a)
theorem k0_off25_inb : ∀ (i : grid0.Coords) (v2311 : BitVec 32) (k0_hw17 : k0_chk17 i v2311), ∀ (k0_h1 : k0_cond1 i = 1#1), ∀ a, (k0_off25 v2311) a + S1x128x64.size a ≤ S4096x128x64.size a := fun i v2311 k0_hw17 k0_h1 => k0_hw17 k0_h1

def k0_off26 (v2312 : BitVec 32) : Fin 3 → Nat :=
  let c0_i32_1253 : BitVec 32 := 0#32
  let c0_i32_1254 : BitVec 32 := 0#32
  ![v2312.toNat, 0, 0]

def k0_off27 (v2312 : BitVec 32) : Fin 3 → Nat :=
  let c0_i32_1260 : BitVec 32 := 0#32
  let c0_i32_1261 : BitVec 32 := 0#32
  ![v2312.toNat, 0, 0]

def k0_chk18 (i : grid0.Coords) (v2312 : BitVec 32) : Prop :=
  (∀ (k0_h1 : k0_cond1 i = 1#1), ∀ a, (k0_off26 v2312) a + S1x128x128.size a ≤ S1024x128x128.size a) ∧
  (∀ (k0_h1 : k0_cond1 i = 1#1), ∀ (hinb : ∀ a, (k0_off26 v2312) a + S1x128x128.size a ≤ S1024x128x128.size a), (Rect.unit (s := S1024x128x128) (k0_off26 v2312) S1x128x128.size hinb).WholeWords (EltTy.packing .bf16)) ∧
  (∀ (k0_h1 : k0_cond1 i = 1#1), ∀ a, (k0_off27 v2312) a + S1x1x128.size a ≤ S1024x1x128.size a)
theorem k0_off26_inb : ∀ (i : grid0.Coords) (v2312 : BitVec 32) (k0_hw18 : k0_chk18 i v2312), ∀ (k0_h1 : k0_cond1 i = 1#1), ∀ a, (k0_off26 v2312) a + S1x128x128.size a ≤ S1024x128x128.size a := fun i v2312 k0_hw18 k0_h1 => k0_hw18.1 k0_h1
theorem k0_off26_wordsbf16 : ∀ (i : grid0.Coords) (v2312 : BitVec 32) (k0_hw18 : k0_chk18 i v2312), ∀ (k0_h1 : k0_cond1 i = 1#1), (Rect.unit (s := S1024x128x128) (k0_off26 v2312) S1x128x128.size (k0_off26_inb i v2312 k0_hw18 k0_h1)).WholeWords (EltTy.packing .bf16) := fun i v2312 k0_hw18 k0_h1 => k0_hw18.2.1 k0_h1 (k0_off26_inb i v2312 k0_hw18 k0_h1)
theorem k0_off27_inb : ∀ (i : grid0.Coords) (v2312 : BitVec 32) (k0_hw18 : k0_chk18 i v2312), ∀ (k0_h1 : k0_cond1 i = 1#1), ∀ a, (k0_off27 v2312) a + S1x1x128.size a ≤ S1024x1x128.size a := fun i v2312 k0_hw18 k0_h1 => k0_hw18.2.2 k0_h1

def k0_off28 (v2331 : BitVec 32) : Fin 3 → Nat :=
  let c0_i32_1269 : BitVec 32 := 0#32
  let c0_i32_1270 : BitVec 32 := 0#32
  ![v2331.toNat, 0, 0]

def k0_chk19 (i : grid0.Coords) (v2331 : BitVec 32) : Prop :=
  (∀ (k0_h1 : k0_cond1 i = 1#1), ∀ a, (k0_off28 v2331) a + S1x128x64.size a ≤ S4096x128x64.size a)
theorem k0_off28_inb : ∀ (i : grid0.Coords) (v2331 : BitVec 32) (k0_hw19 : k0_chk19 i v2331), ∀ (k0_h1 : k0_cond1 i = 1#1), ∀ a, (k0_off28 v2331) a + S1x128x64.size a ≤ S4096x128x64.size a := fun i v2331 k0_hw19 k0_h1 => k0_hw19 k0_h1

def k0_off29 (v2332 : BitVec 32) : Fin 3 → Nat :=
  let c0_i32_1276 : BitVec 32 := 0#32
  let c0_i32_1277 : BitVec 32 := 0#32
  ![v2332.toNat, 0, 0]

def k0_off30 (v2332 : BitVec 32) : Fin 3 → Nat :=
  let c0_i32_1283 : BitVec 32 := 0#32
  let c0_i32_1284 : BitVec 32 := 0#32
  ![v2332.toNat, 0, 0]

def k0_chk20 (i : grid0.Coords) (v2332 : BitVec 32) : Prop :=
  (∀ (k0_h1 : k0_cond1 i = 1#1), ∀ a, (k0_off29 v2332) a + S1x128x128.size a ≤ S1024x128x128.size a) ∧
  (∀ (k0_h1 : k0_cond1 i = 1#1), ∀ (hinb : ∀ a, (k0_off29 v2332) a + S1x128x128.size a ≤ S1024x128x128.size a), (Rect.unit (s := S1024x128x128) (k0_off29 v2332) S1x128x128.size hinb).WholeWords (EltTy.packing .bf16)) ∧
  (∀ (k0_h1 : k0_cond1 i = 1#1), ∀ a, (k0_off30 v2332) a + S1x1x128.size a ≤ S1024x1x128.size a)
theorem k0_off29_inb : ∀ (i : grid0.Coords) (v2332 : BitVec 32) (k0_hw20 : k0_chk20 i v2332), ∀ (k0_h1 : k0_cond1 i = 1#1), ∀ a, (k0_off29 v2332) a + S1x128x128.size a ≤ S1024x128x128.size a := fun i v2332 k0_hw20 k0_h1 => k0_hw20.1 k0_h1
theorem k0_off29_wordsbf16 : ∀ (i : grid0.Coords) (v2332 : BitVec 32) (k0_hw20 : k0_chk20 i v2332), ∀ (k0_h1 : k0_cond1 i = 1#1), (Rect.unit (s := S1024x128x128) (k0_off29 v2332) S1x128x128.size (k0_off29_inb i v2332 k0_hw20 k0_h1)).WholeWords (EltTy.packing .bf16) := fun i v2332 k0_hw20 k0_h1 => k0_hw20.2.1 k0_h1 (k0_off29_inb i v2332 k0_hw20 k0_h1)
theorem k0_off30_inb : ∀ (i : grid0.Coords) (v2332 : BitVec 32) (k0_hw20 : k0_chk20 i v2332), ∀ (k0_h1 : k0_cond1 i = 1#1), ∀ a, (k0_off30 v2332) a + S1x1x128.size a ≤ S1024x1x128.size a := fun i v2332 k0_hw20 k0_h1 => k0_hw20.2.2 k0_h1

def k0_off31 (v2351 : BitVec 32) : Fin 3 → Nat :=
  let c0_i32_1292 : BitVec 32 := 0#32
  let c0_i32_1293 : BitVec 32 := 0#32
  ![v2351.toNat, 0, 0]

def k0_chk21 (i : grid0.Coords) (v2351 : BitVec 32) : Prop :=
  (∀ (k0_h1 : k0_cond1 i = 1#1), ∀ a, (k0_off31 v2351) a + S1x128x64.size a ≤ S4096x128x64.size a)
theorem k0_off31_inb : ∀ (i : grid0.Coords) (v2351 : BitVec 32) (k0_hw21 : k0_chk21 i v2351), ∀ (k0_h1 : k0_cond1 i = 1#1), ∀ a, (k0_off31 v2351) a + S1x128x64.size a ≤ S4096x128x64.size a := fun i v2351 k0_hw21 k0_h1 => k0_hw21 k0_h1

def k0_off32 (v2352 : BitVec 32) : Fin 3 → Nat :=
  let c0_i32_1299 : BitVec 32 := 0#32
  let c0_i32_1300 : BitVec 32 := 0#32
  ![v2352.toNat, 0, 0]

def k0_off33 (v2352 : BitVec 32) : Fin 3 → Nat :=
  let c0_i32_1306 : BitVec 32 := 0#32
  let c0_i32_1307 : BitVec 32 := 0#32
  ![v2352.toNat, 0, 0]

def k0_chk22 (i : grid0.Coords) (v2352 : BitVec 32) : Prop :=
  (∀ (k0_h1 : k0_cond1 i = 1#1), ∀ a, (k0_off32 v2352) a + S1x128x128.size a ≤ S1024x128x128.size a) ∧
  (∀ (k0_h1 : k0_cond1 i = 1#1), ∀ (hinb : ∀ a, (k0_off32 v2352) a + S1x128x128.size a ≤ S1024x128x128.size a), (Rect.unit (s := S1024x128x128) (k0_off32 v2352) S1x128x128.size hinb).WholeWords (EltTy.packing .bf16)) ∧
  (∀ (k0_h1 : k0_cond1 i = 1#1), ∀ a, (k0_off33 v2352) a + S1x1x128.size a ≤ S1024x1x128.size a)
theorem k0_off32_inb : ∀ (i : grid0.Coords) (v2352 : BitVec 32) (k0_hw22 : k0_chk22 i v2352), ∀ (k0_h1 : k0_cond1 i = 1#1), ∀ a, (k0_off32 v2352) a + S1x128x128.size a ≤ S1024x128x128.size a := fun i v2352 k0_hw22 k0_h1 => k0_hw22.1 k0_h1
theorem k0_off32_wordsbf16 : ∀ (i : grid0.Coords) (v2352 : BitVec 32) (k0_hw22 : k0_chk22 i v2352), ∀ (k0_h1 : k0_cond1 i = 1#1), (Rect.unit (s := S1024x128x128) (k0_off32 v2352) S1x128x128.size (k0_off32_inb i v2352 k0_hw22 k0_h1)).WholeWords (EltTy.packing .bf16) := fun i v2352 k0_hw22 k0_h1 => k0_hw22.2.1 k0_h1 (k0_off32_inb i v2352 k0_hw22 k0_h1)
theorem k0_off33_inb : ∀ (i : grid0.Coords) (v2352 : BitVec 32) (k0_hw22 : k0_chk22 i v2352), ∀ (k0_h1 : k0_cond1 i = 1#1), ∀ a, (k0_off33 v2352) a + S1x1x128.size a ≤ S1024x1x128.size a := fun i v2352 k0_hw22 k0_h1 => k0_hw22.2.2 k0_h1

def k0_off34 (v2371 : BitVec 32) : Fin 3 → Nat :=
  let c0_i32_1315 : BitVec 32 := 0#32
  let c0_i32_1316 : BitVec 32 := 0#32
  ![v2371.toNat, 0, 0]

def k0_chk23 (i : grid0.Coords) (v2371 : BitVec 32) : Prop :=
  (∀ (k0_h1 : k0_cond1 i = 1#1), ∀ a, (k0_off34 v2371) a + S1x128x64.size a ≤ S4096x128x64.size a)
theorem k0_off34_inb : ∀ (i : grid0.Coords) (v2371 : BitVec 32) (k0_hw23 : k0_chk23 i v2371), ∀ (k0_h1 : k0_cond1 i = 1#1), ∀ a, (k0_off34 v2371) a + S1x128x64.size a ≤ S4096x128x64.size a := fun i v2371 k0_hw23 k0_h1 => k0_hw23 k0_h1

def k0_off35 (v2372 : BitVec 32) : Fin 3 → Nat :=
  let c0_i32_1322 : BitVec 32 := 0#32
  let c0_i32_1323 : BitVec 32 := 0#32
  ![v2372.toNat, 0, 0]

def k0_off36 (v2372 : BitVec 32) : Fin 3 → Nat :=
  let c0_i32_1329 : BitVec 32 := 0#32
  let c0_i32_1330 : BitVec 32 := 0#32
  ![v2372.toNat, 0, 0]

def k0_chk24 (i : grid0.Coords) (v2372 : BitVec 32) : Prop :=
  (∀ (k0_h1 : k0_cond1 i = 1#1), ∀ a, (k0_off35 v2372) a + S1x128x128.size a ≤ S1024x128x128.size a) ∧
  (∀ (k0_h1 : k0_cond1 i = 1#1), ∀ (hinb : ∀ a, (k0_off35 v2372) a + S1x128x128.size a ≤ S1024x128x128.size a), (Rect.unit (s := S1024x128x128) (k0_off35 v2372) S1x128x128.size hinb).WholeWords (EltTy.packing .bf16)) ∧
  (∀ (k0_h1 : k0_cond1 i = 1#1), ∀ a, (k0_off36 v2372) a + S1x1x128.size a ≤ S1024x1x128.size a)
theorem k0_off35_inb : ∀ (i : grid0.Coords) (v2372 : BitVec 32) (k0_hw24 : k0_chk24 i v2372), ∀ (k0_h1 : k0_cond1 i = 1#1), ∀ a, (k0_off35 v2372) a + S1x128x128.size a ≤ S1024x128x128.size a := fun i v2372 k0_hw24 k0_h1 => k0_hw24.1 k0_h1
theorem k0_off35_wordsbf16 : ∀ (i : grid0.Coords) (v2372 : BitVec 32) (k0_hw24 : k0_chk24 i v2372), ∀ (k0_h1 : k0_cond1 i = 1#1), (Rect.unit (s := S1024x128x128) (k0_off35 v2372) S1x128x128.size (k0_off35_inb i v2372 k0_hw24 k0_h1)).WholeWords (EltTy.packing .bf16) := fun i v2372 k0_hw24 k0_h1 => k0_hw24.2.1 k0_h1 (k0_off35_inb i v2372 k0_hw24 k0_h1)
theorem k0_off36_inb : ∀ (i : grid0.Coords) (v2372 : BitVec 32) (k0_hw24 : k0_chk24 i v2372), ∀ (k0_h1 : k0_cond1 i = 1#1), ∀ a, (k0_off36 v2372) a + S1x1x128.size a ≤ S1024x1x128.size a := fun i v2372 k0_hw24 k0_h1 => k0_hw24.2.2 k0_h1

def k0_off37 (v2391 : BitVec 32) : Fin 3 → Nat :=
  let c0_i32_1338 : BitVec 32 := 0#32
  let c0_i32_1339 : BitVec 32 := 0#32
  ![v2391.toNat, 0, 0]

def k0_chk25 (i : grid0.Coords) (v2391 : BitVec 32) : Prop :=
  (∀ (k0_h1 : k0_cond1 i = 1#1), ∀ a, (k0_off37 v2391) a + S1x128x64.size a ≤ S4096x128x64.size a)
theorem k0_off37_inb : ∀ (i : grid0.Coords) (v2391 : BitVec 32) (k0_hw25 : k0_chk25 i v2391), ∀ (k0_h1 : k0_cond1 i = 1#1), ∀ a, (k0_off37 v2391) a + S1x128x64.size a ≤ S4096x128x64.size a := fun i v2391 k0_hw25 k0_h1 => k0_hw25 k0_h1

def k0_off38 (v2392 : BitVec 32) : Fin 3 → Nat :=
  let c0_i32_1345 : BitVec 32 := 0#32
  let c0_i32_1346 : BitVec 32 := 0#32
  ![v2392.toNat, 0, 0]

def k0_off39 (v2392 : BitVec 32) : Fin 3 → Nat :=
  let c0_i32_1352 : BitVec 32 := 0#32
  let c0_i32_1353 : BitVec 32 := 0#32
  ![v2392.toNat, 0, 0]

def k0_chk26 (i : grid0.Coords) (v2392 : BitVec 32) : Prop :=
  (∀ (k0_h1 : k0_cond1 i = 1#1), ∀ a, (k0_off38 v2392) a + S1x128x128.size a ≤ S1024x128x128.size a) ∧
  (∀ (k0_h1 : k0_cond1 i = 1#1), ∀ (hinb : ∀ a, (k0_off38 v2392) a + S1x128x128.size a ≤ S1024x128x128.size a), (Rect.unit (s := S1024x128x128) (k0_off38 v2392) S1x128x128.size hinb).WholeWords (EltTy.packing .bf16)) ∧
  (∀ (k0_h1 : k0_cond1 i = 1#1), ∀ a, (k0_off39 v2392) a + S1x1x128.size a ≤ S1024x1x128.size a)
theorem k0_off38_inb : ∀ (i : grid0.Coords) (v2392 : BitVec 32) (k0_hw26 : k0_chk26 i v2392), ∀ (k0_h1 : k0_cond1 i = 1#1), ∀ a, (k0_off38 v2392) a + S1x128x128.size a ≤ S1024x128x128.size a := fun i v2392 k0_hw26 k0_h1 => k0_hw26.1 k0_h1
theorem k0_off38_wordsbf16 : ∀ (i : grid0.Coords) (v2392 : BitVec 32) (k0_hw26 : k0_chk26 i v2392), ∀ (k0_h1 : k0_cond1 i = 1#1), (Rect.unit (s := S1024x128x128) (k0_off38 v2392) S1x128x128.size (k0_off38_inb i v2392 k0_hw26 k0_h1)).WholeWords (EltTy.packing .bf16) := fun i v2392 k0_hw26 k0_h1 => k0_hw26.2.1 k0_h1 (k0_off38_inb i v2392 k0_hw26 k0_h1)
theorem k0_off39_inb : ∀ (i : grid0.Coords) (v2392 : BitVec 32) (k0_hw26 : k0_chk26 i v2392), ∀ (k0_h1 : k0_cond1 i = 1#1), ∀ a, (k0_off39 v2392) a + S1x1x128.size a ≤ S1024x1x128.size a := fun i v2392 k0_hw26 k0_h1 => k0_hw26.2.2 k0_h1

def k0_off40 (v2411 : BitVec 32) : Fin 3 → Nat :=
  let c0_i32_1361 : BitVec 32 := 0#32
  let c0_i32_1362 : BitVec 32 := 0#32
  ![v2411.toNat, 0, 0]

def k0_chk27 (i : grid0.Coords) (v2411 : BitVec 32) : Prop :=
  (∀ (k0_h1 : k0_cond1 i = 1#1), ∀ a, (k0_off40 v2411) a + S1x128x64.size a ≤ S4096x128x64.size a)
theorem k0_off40_inb : ∀ (i : grid0.Coords) (v2411 : BitVec 32) (k0_hw27 : k0_chk27 i v2411), ∀ (k0_h1 : k0_cond1 i = 1#1), ∀ a, (k0_off40 v2411) a + S1x128x64.size a ≤ S4096x128x64.size a := fun i v2411 k0_hw27 k0_h1 => k0_hw27 k0_h1

def k0_off41 (v2412 : BitVec 32) : Fin 3 → Nat :=
  let c0_i32_1368 : BitVec 32 := 0#32
  let c0_i32_1369 : BitVec 32 := 0#32
  ![v2412.toNat, 0, 0]

def k0_off42 (v2412 : BitVec 32) : Fin 3 → Nat :=
  let c0_i32_1375 : BitVec 32 := 0#32
  let c0_i32_1376 : BitVec 32 := 0#32
  ![v2412.toNat, 0, 0]

def k0_chk28 (i : grid0.Coords) (v2412 : BitVec 32) : Prop :=
  (∀ (k0_h1 : k0_cond1 i = 1#1), ∀ a, (k0_off41 v2412) a + S1x128x128.size a ≤ S1024x128x128.size a) ∧
  (∀ (k0_h1 : k0_cond1 i = 1#1), ∀ (hinb : ∀ a, (k0_off41 v2412) a + S1x128x128.size a ≤ S1024x128x128.size a), (Rect.unit (s := S1024x128x128) (k0_off41 v2412) S1x128x128.size hinb).WholeWords (EltTy.packing .bf16)) ∧
  (∀ (k0_h1 : k0_cond1 i = 1#1), ∀ a, (k0_off42 v2412) a + S1x1x128.size a ≤ S1024x1x128.size a)
theorem k0_off41_inb : ∀ (i : grid0.Coords) (v2412 : BitVec 32) (k0_hw28 : k0_chk28 i v2412), ∀ (k0_h1 : k0_cond1 i = 1#1), ∀ a, (k0_off41 v2412) a + S1x128x128.size a ≤ S1024x128x128.size a := fun i v2412 k0_hw28 k0_h1 => k0_hw28.1 k0_h1
theorem k0_off41_wordsbf16 : ∀ (i : grid0.Coords) (v2412 : BitVec 32) (k0_hw28 : k0_chk28 i v2412), ∀ (k0_h1 : k0_cond1 i = 1#1), (Rect.unit (s := S1024x128x128) (k0_off41 v2412) S1x128x128.size (k0_off41_inb i v2412 k0_hw28 k0_h1)).WholeWords (EltTy.packing .bf16) := fun i v2412 k0_hw28 k0_h1 => k0_hw28.2.1 k0_h1 (k0_off41_inb i v2412 k0_hw28 k0_h1)
theorem k0_off42_inb : ∀ (i : grid0.Coords) (v2412 : BitVec 32) (k0_hw28 : k0_chk28 i v2412), ∀ (k0_h1 : k0_cond1 i = 1#1), ∀ a, (k0_off42 v2412) a + S1x1x128.size a ≤ S1024x1x128.size a := fun i v2412 k0_hw28 k0_h1 => k0_hw28.2.2 k0_h1

def k0_off43 (v2431 : BitVec 32) : Fin 3 → Nat :=
  let c0_i32_1384 : BitVec 32 := 0#32
  let c0_i32_1385 : BitVec 32 := 0#32
  ![v2431.toNat, 0, 0]

def k0_chk29 (i : grid0.Coords) (v2431 : BitVec 32) : Prop :=
  (∀ (k0_h1 : k0_cond1 i = 1#1), ∀ a, (k0_off43 v2431) a + S1x128x64.size a ≤ S4096x128x64.size a)
theorem k0_off43_inb : ∀ (i : grid0.Coords) (v2431 : BitVec 32) (k0_hw29 : k0_chk29 i v2431), ∀ (k0_h1 : k0_cond1 i = 1#1), ∀ a, (k0_off43 v2431) a + S1x128x64.size a ≤ S4096x128x64.size a := fun i v2431 k0_hw29 k0_h1 => k0_hw29 k0_h1

def k0_off44 (v2432 : BitVec 32) : Fin 3 → Nat :=
  let c0_i32_1391 : BitVec 32 := 0#32
  let c0_i32_1392 : BitVec 32 := 0#32
  ![v2432.toNat, 0, 0]

def k0_off45 (v2432 : BitVec 32) : Fin 3 → Nat :=
  let c0_i32_1398 : BitVec 32 := 0#32
  let c0_i32_1399 : BitVec 32 := 0#32
  ![v2432.toNat, 0, 0]

def k0_chk30 (i : grid0.Coords) (v2432 : BitVec 32) : Prop :=
  (∀ (k0_h1 : k0_cond1 i = 1#1), ∀ a, (k0_off44 v2432) a + S1x128x128.size a ≤ S1024x128x128.size a) ∧
  (∀ (k0_h1 : k0_cond1 i = 1#1), ∀ (hinb : ∀ a, (k0_off44 v2432) a + S1x128x128.size a ≤ S1024x128x128.size a), (Rect.unit (s := S1024x128x128) (k0_off44 v2432) S1x128x128.size hinb).WholeWords (EltTy.packing .bf16)) ∧
  (∀ (k0_h1 : k0_cond1 i = 1#1), ∀ a, (k0_off45 v2432) a + S1x1x128.size a ≤ S1024x1x128.size a)
theorem k0_off44_inb : ∀ (i : grid0.Coords) (v2432 : BitVec 32) (k0_hw30 : k0_chk30 i v2432), ∀ (k0_h1 : k0_cond1 i = 1#1), ∀ a, (k0_off44 v2432) a + S1x128x128.size a ≤ S1024x128x128.size a := fun i v2432 k0_hw30 k0_h1 => k0_hw30.1 k0_h1
theorem k0_off44_wordsbf16 : ∀ (i : grid0.Coords) (v2432 : BitVec 32) (k0_hw30 : k0_chk30 i v2432), ∀ (k0_h1 : k0_cond1 i = 1#1), (Rect.unit (s := S1024x128x128) (k0_off44 v2432) S1x128x128.size (k0_off44_inb i v2432 k0_hw30 k0_h1)).WholeWords (EltTy.packing .bf16) := fun i v2432 k0_hw30 k0_h1 => k0_hw30.2.1 k0_h1 (k0_off44_inb i v2432 k0_hw30 k0_h1)
theorem k0_off45_inb : ∀ (i : grid0.Coords) (v2432 : BitVec 32) (k0_hw30 : k0_chk30 i v2432), ∀ (k0_h1 : k0_cond1 i = 1#1), ∀ a, (k0_off45 v2432) a + S1x1x128.size a ≤ S1024x1x128.size a := fun i v2432 k0_hw30 k0_h1 => k0_hw30.2.2 k0_h1

def k0_off46 (v2451 : BitVec 32) : Fin 3 → Nat :=
  let c0_i32_1407 : BitVec 32 := 0#32
  let c0_i32_1408 : BitVec 32 := 0#32
  ![v2451.toNat, 0, 0]

def k0_chk31 (i : grid0.Coords) (v2451 : BitVec 32) : Prop :=
  (∀ (k0_h1 : k0_cond1 i = 1#1), ∀ a, (k0_off46 v2451) a + S1x128x64.size a ≤ S4096x128x64.size a)
theorem k0_off46_inb : ∀ (i : grid0.Coords) (v2451 : BitVec 32) (k0_hw31 : k0_chk31 i v2451), ∀ (k0_h1 : k0_cond1 i = 1#1), ∀ a, (k0_off46 v2451) a + S1x128x64.size a ≤ S4096x128x64.size a := fun i v2451 k0_hw31 k0_h1 => k0_hw31 k0_h1

def k0_off47 (v2452 : BitVec 32) : Fin 3 → Nat :=
  let c0_i32_1414 : BitVec 32 := 0#32
  let c0_i32_1415 : BitVec 32 := 0#32
  ![v2452.toNat, 0, 0]

def k0_off48 (v2452 : BitVec 32) : Fin 3 → Nat :=
  let c0_i32_1421 : BitVec 32 := 0#32
  let c0_i32_1422 : BitVec 32 := 0#32
  ![v2452.toNat, 0, 0]

def k0_chk32 (i : grid0.Coords) (v2452 : BitVec 32) : Prop :=
  (∀ (k0_h1 : k0_cond1 i = 1#1), ∀ a, (k0_off47 v2452) a + S1x128x128.size a ≤ S1024x128x128.size a) ∧
  (∀ (k0_h1 : k0_cond1 i = 1#1), ∀ (hinb : ∀ a, (k0_off47 v2452) a + S1x128x128.size a ≤ S1024x128x128.size a), (Rect.unit (s := S1024x128x128) (k0_off47 v2452) S1x128x128.size hinb).WholeWords (EltTy.packing .bf16)) ∧
  (∀ (k0_h1 : k0_cond1 i = 1#1), ∀ a, (k0_off48 v2452) a + S1x1x128.size a ≤ S1024x1x128.size a)
theorem k0_off47_inb : ∀ (i : grid0.Coords) (v2452 : BitVec 32) (k0_hw32 : k0_chk32 i v2452), ∀ (k0_h1 : k0_cond1 i = 1#1), ∀ a, (k0_off47 v2452) a + S1x128x128.size a ≤ S1024x128x128.size a := fun i v2452 k0_hw32 k0_h1 => k0_hw32.1 k0_h1
theorem k0_off47_wordsbf16 : ∀ (i : grid0.Coords) (v2452 : BitVec 32) (k0_hw32 : k0_chk32 i v2452), ∀ (k0_h1 : k0_cond1 i = 1#1), (Rect.unit (s := S1024x128x128) (k0_off47 v2452) S1x128x128.size (k0_off47_inb i v2452 k0_hw32 k0_h1)).WholeWords (EltTy.packing .bf16) := fun i v2452 k0_hw32 k0_h1 => k0_hw32.2.1 k0_h1 (k0_off47_inb i v2452 k0_hw32 k0_h1)
theorem k0_off48_inb : ∀ (i : grid0.Coords) (v2452 : BitVec 32) (k0_hw32 : k0_chk32 i v2452), ∀ (k0_h1 : k0_cond1 i = 1#1), ∀ a, (k0_off48 v2452) a + S1x1x128.size a ≤ S1024x1x128.size a := fun i v2452 k0_hw32 k0_h1 => k0_hw32.2.2 k0_h1

def k0_off49 (v2471 : BitVec 32) : Fin 3 → Nat :=
  let c0_i32_1430 : BitVec 32 := 0#32
  let c0_i32_1431 : BitVec 32 := 0#32
  ![v2471.toNat, 0, 0]

def k0_chk33 (i : grid0.Coords) (v2471 : BitVec 32) : Prop :=
  (∀ (k0_h1 : k0_cond1 i = 1#1), ∀ a, (k0_off49 v2471) a + S1x128x64.size a ≤ S4096x128x64.size a)
theorem k0_off49_inb : ∀ (i : grid0.Coords) (v2471 : BitVec 32) (k0_hw33 : k0_chk33 i v2471), ∀ (k0_h1 : k0_cond1 i = 1#1), ∀ a, (k0_off49 v2471) a + S1x128x64.size a ≤ S4096x128x64.size a := fun i v2471 k0_hw33 k0_h1 => k0_hw33 k0_h1

def k0_off50 (v2472 : BitVec 32) : Fin 3 → Nat :=
  let c0_i32_1437 : BitVec 32 := 0#32
  let c0_i32_1438 : BitVec 32 := 0#32
  ![v2472.toNat, 0, 0]

def k0_off51 (v2472 : BitVec 32) : Fin 3 → Nat :=
  let c0_i32_1444 : BitVec 32 := 0#32
  let c0_i32_1445 : BitVec 32 := 0#32
  ![v2472.toNat, 0, 0]

def k0_chk34 (i : grid0.Coords) (v2472 : BitVec 32) : Prop :=
  (∀ (k0_h1 : k0_cond1 i = 1#1), ∀ a, (k0_off50 v2472) a + S1x128x128.size a ≤ S1024x128x128.size a) ∧
  (∀ (k0_h1 : k0_cond1 i = 1#1), ∀ (hinb : ∀ a, (k0_off50 v2472) a + S1x128x128.size a ≤ S1024x128x128.size a), (Rect.unit (s := S1024x128x128) (k0_off50 v2472) S1x128x128.size hinb).WholeWords (EltTy.packing .bf16)) ∧
  (∀ (k0_h1 : k0_cond1 i = 1#1), ∀ a, (k0_off51 v2472) a + S1x1x128.size a ≤ S1024x1x128.size a)
theorem k0_off50_inb : ∀ (i : grid0.Coords) (v2472 : BitVec 32) (k0_hw34 : k0_chk34 i v2472), ∀ (k0_h1 : k0_cond1 i = 1#1), ∀ a, (k0_off50 v2472) a + S1x128x128.size a ≤ S1024x128x128.size a := fun i v2472 k0_hw34 k0_h1 => k0_hw34.1 k0_h1
theorem k0_off50_wordsbf16 : ∀ (i : grid0.Coords) (v2472 : BitVec 32) (k0_hw34 : k0_chk34 i v2472), ∀ (k0_h1 : k0_cond1 i = 1#1), (Rect.unit (s := S1024x128x128) (k0_off50 v2472) S1x128x128.size (k0_off50_inb i v2472 k0_hw34 k0_h1)).WholeWords (EltTy.packing .bf16) := fun i v2472 k0_hw34 k0_h1 => k0_hw34.2.1 k0_h1 (k0_off50_inb i v2472 k0_hw34 k0_h1)
theorem k0_off51_inb : ∀ (i : grid0.Coords) (v2472 : BitVec 32) (k0_hw34 : k0_chk34 i v2472), ∀ (k0_h1 : k0_cond1 i = 1#1), ∀ a, (k0_off51 v2472) a + S1x1x128.size a ≤ S1024x1x128.size a := fun i v2472 k0_hw34 k0_h1 => k0_hw34.2.2 k0_h1

def k0_off52 (v2491 : BitVec 32) : Fin 3 → Nat :=
  let c0_i32_1453 : BitVec 32 := 0#32
  let c0_i32_1454 : BitVec 32 := 0#32
  ![v2491.toNat, 0, 0]

def k0_chk35 (i : grid0.Coords) (v2491 : BitVec 32) : Prop :=
  (∀ (k0_h1 : k0_cond1 i = 1#1), ∀ a, (k0_off52 v2491) a + S1x128x64.size a ≤ S4096x128x64.size a)
theorem k0_off52_inb : ∀ (i : grid0.Coords) (v2491 : BitVec 32) (k0_hw35 : k0_chk35 i v2491), ∀ (k0_h1 : k0_cond1 i = 1#1), ∀ a, (k0_off52 v2491) a + S1x128x64.size a ≤ S4096x128x64.size a := fun i v2491 k0_hw35 k0_h1 => k0_hw35 k0_h1

def k0_off53 (v2492 : BitVec 32) : Fin 3 → Nat :=
  let c0_i32_1460 : BitVec 32 := 0#32
  let c0_i32_1461 : BitVec 32 := 0#32
  ![v2492.toNat, 0, 0]

def k0_off54 (v2492 : BitVec 32) : Fin 3 → Nat :=
  let c0_i32_1467 : BitVec 32 := 0#32
  let c0_i32_1468 : BitVec 32 := 0#32
  ![v2492.toNat, 0, 0]

def k0_chk36 (i : grid0.Coords) (v2492 : BitVec 32) : Prop :=
  (∀ (k0_h1 : k0_cond1 i = 1#1), ∀ a, (k0_off53 v2492) a + S1x128x128.size a ≤ S1024x128x128.size a) ∧
  (∀ (k0_h1 : k0_cond1 i = 1#1), ∀ (hinb : ∀ a, (k0_off53 v2492) a + S1x128x128.size a ≤ S1024x128x128.size a), (Rect.unit (s := S1024x128x128) (k0_off53 v2492) S1x128x128.size hinb).WholeWords (EltTy.packing .bf16)) ∧
  (∀ (k0_h1 : k0_cond1 i = 1#1), ∀ a, (k0_off54 v2492) a + S1x1x128.size a ≤ S1024x1x128.size a)
theorem k0_off53_inb : ∀ (i : grid0.Coords) (v2492 : BitVec 32) (k0_hw36 : k0_chk36 i v2492), ∀ (k0_h1 : k0_cond1 i = 1#1), ∀ a, (k0_off53 v2492) a + S1x128x128.size a ≤ S1024x128x128.size a := fun i v2492 k0_hw36 k0_h1 => k0_hw36.1 k0_h1
theorem k0_off53_wordsbf16 : ∀ (i : grid0.Coords) (v2492 : BitVec 32) (k0_hw36 : k0_chk36 i v2492), ∀ (k0_h1 : k0_cond1 i = 1#1), (Rect.unit (s := S1024x128x128) (k0_off53 v2492) S1x128x128.size (k0_off53_inb i v2492 k0_hw36 k0_h1)).WholeWords (EltTy.packing .bf16) := fun i v2492 k0_hw36 k0_h1 => k0_hw36.2.1 k0_h1 (k0_off53_inb i v2492 k0_hw36 k0_h1)
theorem k0_off54_inb : ∀ (i : grid0.Coords) (v2492 : BitVec 32) (k0_hw36 : k0_chk36 i v2492), ∀ (k0_h1 : k0_cond1 i = 1#1), ∀ a, (k0_off54 v2492) a + S1x1x128.size a ≤ S1024x1x128.size a := fun i v2492 k0_hw36 k0_h1 => k0_hw36.2.2 k0_h1

def k0_off55 (v2511 : BitVec 32) : Fin 3 → Nat :=
  let c0_i32_1476 : BitVec 32 := 0#32
  let c0_i32_1477 : BitVec 32 := 0#32
  ![v2511.toNat, 0, 0]

def k0_chk37 (i : grid0.Coords) (v2511 : BitVec 32) : Prop :=
  (∀ (k0_h1 : k0_cond1 i = 1#1), ∀ a, (k0_off55 v2511) a + S1x128x64.size a ≤ S4096x128x64.size a)
theorem k0_off55_inb : ∀ (i : grid0.Coords) (v2511 : BitVec 32) (k0_hw37 : k0_chk37 i v2511), ∀ (k0_h1 : k0_cond1 i = 1#1), ∀ a, (k0_off55 v2511) a + S1x128x64.size a ≤ S4096x128x64.size a := fun i v2511 k0_hw37 k0_h1 => k0_hw37 k0_h1

def k0_off56 (v2512 : BitVec 32) : Fin 3 → Nat :=
  let c0_i32_1483 : BitVec 32 := 0#32
  let c0_i32_1484 : BitVec 32 := 0#32
  ![v2512.toNat, 0, 0]

def k0_off57 (v2512 : BitVec 32) : Fin 3 → Nat :=
  let c0_i32_1490 : BitVec 32 := 0#32
  let c0_i32_1491 : BitVec 32 := 0#32
  ![v2512.toNat, 0, 0]

def k0_chk38 (i : grid0.Coords) (v2512 : BitVec 32) : Prop :=
  (∀ (k0_h1 : k0_cond1 i = 1#1), ∀ a, (k0_off56 v2512) a + S1x128x128.size a ≤ S1024x128x128.size a) ∧
  (∀ (k0_h1 : k0_cond1 i = 1#1), ∀ (hinb : ∀ a, (k0_off56 v2512) a + S1x128x128.size a ≤ S1024x128x128.size a), (Rect.unit (s := S1024x128x128) (k0_off56 v2512) S1x128x128.size hinb).WholeWords (EltTy.packing .bf16)) ∧
  (∀ (k0_h1 : k0_cond1 i = 1#1), ∀ a, (k0_off57 v2512) a + S1x1x128.size a ≤ S1024x1x128.size a)
theorem k0_off56_inb : ∀ (i : grid0.Coords) (v2512 : BitVec 32) (k0_hw38 : k0_chk38 i v2512), ∀ (k0_h1 : k0_cond1 i = 1#1), ∀ a, (k0_off56 v2512) a + S1x128x128.size a ≤ S1024x128x128.size a := fun i v2512 k0_hw38 k0_h1 => k0_hw38.1 k0_h1
theorem k0_off56_wordsbf16 : ∀ (i : grid0.Coords) (v2512 : BitVec 32) (k0_hw38 : k0_chk38 i v2512), ∀ (k0_h1 : k0_cond1 i = 1#1), (Rect.unit (s := S1024x128x128) (k0_off56 v2512) S1x128x128.size (k0_off56_inb i v2512 k0_hw38 k0_h1)).WholeWords (EltTy.packing .bf16) := fun i v2512 k0_hw38 k0_h1 => k0_hw38.2.1 k0_h1 (k0_off56_inb i v2512 k0_hw38 k0_h1)
theorem k0_off57_inb : ∀ (i : grid0.Coords) (v2512 : BitVec 32) (k0_hw38 : k0_chk38 i v2512), ∀ (k0_h1 : k0_cond1 i = 1#1), ∀ a, (k0_off57 v2512) a + S1x1x128.size a ≤ S1024x1x128.size a := fun i v2512 k0_hw38 k0_h1 => k0_hw38.2.2 k0_h1

def k0_off58 (v2531 : BitVec 32) : Fin 3 → Nat :=
  let c0_i32_1499 : BitVec 32 := 0#32
  let c0_i32_1500 : BitVec 32 := 0#32
  ![v2531.toNat, 0, 0]

def k0_chk39 (i : grid0.Coords) (v2531 : BitVec 32) : Prop :=
  (∀ (k0_h1 : k0_cond1 i = 1#1), ∀ a, (k0_off58 v2531) a + S1x128x64.size a ≤ S4096x128x64.size a)
theorem k0_off58_inb : ∀ (i : grid0.Coords) (v2531 : BitVec 32) (k0_hw39 : k0_chk39 i v2531), ∀ (k0_h1 : k0_cond1 i = 1#1), ∀ a, (k0_off58 v2531) a + S1x128x64.size a ≤ S4096x128x64.size a := fun i v2531 k0_hw39 k0_h1 => k0_hw39 k0_h1

def k0_off59 (v2532 : BitVec 32) : Fin 3 → Nat :=
  let c0_i32_1506 : BitVec 32 := 0#32
  let c0_i32_1507 : BitVec 32 := 0#32
  ![v2532.toNat, 0, 0]

def k0_off60 (v2532 : BitVec 32) : Fin 3 → Nat :=
  let c0_i32_1513 : BitVec 32 := 0#32
  let c0_i32_1514 : BitVec 32 := 0#32
  ![v2532.toNat, 0, 0]

def k0_chk40 (i : grid0.Coords) (v2532 : BitVec 32) : Prop :=
  (∀ (k0_h1 : k0_cond1 i = 1#1), ∀ a, (k0_off59 v2532) a + S1x128x128.size a ≤ S1024x128x128.size a) ∧
  (∀ (k0_h1 : k0_cond1 i = 1#1), ∀ (hinb : ∀ a, (k0_off59 v2532) a + S1x128x128.size a ≤ S1024x128x128.size a), (Rect.unit (s := S1024x128x128) (k0_off59 v2532) S1x128x128.size hinb).WholeWords (EltTy.packing .bf16)) ∧
  (∀ (k0_h1 : k0_cond1 i = 1#1), ∀ a, (k0_off60 v2532) a + S1x1x128.size a ≤ S1024x1x128.size a)
theorem k0_off59_inb : ∀ (i : grid0.Coords) (v2532 : BitVec 32) (k0_hw40 : k0_chk40 i v2532), ∀ (k0_h1 : k0_cond1 i = 1#1), ∀ a, (k0_off59 v2532) a + S1x128x128.size a ≤ S1024x128x128.size a := fun i v2532 k0_hw40 k0_h1 => k0_hw40.1 k0_h1
theorem k0_off59_wordsbf16 : ∀ (i : grid0.Coords) (v2532 : BitVec 32) (k0_hw40 : k0_chk40 i v2532), ∀ (k0_h1 : k0_cond1 i = 1#1), (Rect.unit (s := S1024x128x128) (k0_off59 v2532) S1x128x128.size (k0_off59_inb i v2532 k0_hw40 k0_h1)).WholeWords (EltTy.packing .bf16) := fun i v2532 k0_hw40 k0_h1 => k0_hw40.2.1 k0_h1 (k0_off59_inb i v2532 k0_hw40 k0_h1)
theorem k0_off60_inb : ∀ (i : grid0.Coords) (v2532 : BitVec 32) (k0_hw40 : k0_chk40 i v2532), ∀ (k0_h1 : k0_cond1 i = 1#1), ∀ a, (k0_off60 v2532) a + S1x1x128.size a ≤ S1024x1x128.size a := fun i v2532 k0_hw40 k0_h1 => k0_hw40.2.2 k0_h1

def k0_off61 (v2551 : BitVec 32) : Fin 3 → Nat :=
  let c0_i32_1522 : BitVec 32 := 0#32
  let c0_i32_1523 : BitVec 32 := 0#32
  ![v2551.toNat, 0, 0]

def k0_chk41 (i : grid0.Coords) (v2551 : BitVec 32) : Prop :=
  (∀ (k0_h1 : k0_cond1 i = 1#1), ∀ a, (k0_off61 v2551) a + S1x128x64.size a ≤ S4096x128x64.size a)
theorem k0_off61_inb : ∀ (i : grid0.Coords) (v2551 : BitVec 32) (k0_hw41 : k0_chk41 i v2551), ∀ (k0_h1 : k0_cond1 i = 1#1), ∀ a, (k0_off61 v2551) a + S1x128x64.size a ≤ S4096x128x64.size a := fun i v2551 k0_hw41 k0_h1 => k0_hw41 k0_h1

def k0_off62 (v2552 : BitVec 32) : Fin 3 → Nat :=
  let c0_i32_1529 : BitVec 32 := 0#32
  let c0_i32_1530 : BitVec 32 := 0#32
  ![v2552.toNat, 0, 0]

def k0_off63 (v2552 : BitVec 32) : Fin 3 → Nat :=
  let c0_i32_1536 : BitVec 32 := 0#32
  let c0_i32_1537 : BitVec 32 := 0#32
  ![v2552.toNat, 0, 0]

def k0_chk42 (i : grid0.Coords) (v2552 : BitVec 32) : Prop :=
  (∀ (k0_h1 : k0_cond1 i = 1#1), ∀ a, (k0_off62 v2552) a + S1x128x128.size a ≤ S1024x128x128.size a) ∧
  (∀ (k0_h1 : k0_cond1 i = 1#1), ∀ (hinb : ∀ a, (k0_off62 v2552) a + S1x128x128.size a ≤ S1024x128x128.size a), (Rect.unit (s := S1024x128x128) (k0_off62 v2552) S1x128x128.size hinb).WholeWords (EltTy.packing .bf16)) ∧
  (∀ (k0_h1 : k0_cond1 i = 1#1), ∀ a, (k0_off63 v2552) a + S1x1x128.size a ≤ S1024x1x128.size a)
theorem k0_off62_inb : ∀ (i : grid0.Coords) (v2552 : BitVec 32) (k0_hw42 : k0_chk42 i v2552), ∀ (k0_h1 : k0_cond1 i = 1#1), ∀ a, (k0_off62 v2552) a + S1x128x128.size a ≤ S1024x128x128.size a := fun i v2552 k0_hw42 k0_h1 => k0_hw42.1 k0_h1
theorem k0_off62_wordsbf16 : ∀ (i : grid0.Coords) (v2552 : BitVec 32) (k0_hw42 : k0_chk42 i v2552), ∀ (k0_h1 : k0_cond1 i = 1#1), (Rect.unit (s := S1024x128x128) (k0_off62 v2552) S1x128x128.size (k0_off62_inb i v2552 k0_hw42 k0_h1)).WholeWords (EltTy.packing .bf16) := fun i v2552 k0_hw42 k0_h1 => k0_hw42.2.1 k0_h1 (k0_off62_inb i v2552 k0_hw42 k0_h1)
theorem k0_off63_inb : ∀ (i : grid0.Coords) (v2552 : BitVec 32) (k0_hw42 : k0_chk42 i v2552), ∀ (k0_h1 : k0_cond1 i = 1#1), ∀ a, (k0_off63 v2552) a + S1x1x128.size a ≤ S1024x1x128.size a := fun i v2552 k0_hw42 k0_h1 => k0_hw42.2.2 k0_h1

def k0_off64 (v2571 : BitVec 32) : Fin 3 → Nat :=
  let c0_i32_1545 : BitVec 32 := 0#32
  let c0_i32_1546 : BitVec 32 := 0#32
  ![v2571.toNat, 0, 0]

def k0_chk43 (i : grid0.Coords) (v2571 : BitVec 32) : Prop :=
  (∀ (k0_h1 : k0_cond1 i = 1#1), ∀ a, (k0_off64 v2571) a + S1x128x64.size a ≤ S4096x128x64.size a)
theorem k0_off64_inb : ∀ (i : grid0.Coords) (v2571 : BitVec 32) (k0_hw43 : k0_chk43 i v2571), ∀ (k0_h1 : k0_cond1 i = 1#1), ∀ a, (k0_off64 v2571) a + S1x128x64.size a ≤ S4096x128x64.size a := fun i v2571 k0_hw43 k0_h1 => k0_hw43 k0_h1

def k0_off65 (v2572 : BitVec 32) : Fin 3 → Nat :=
  let c0_i32_1552 : BitVec 32 := 0#32
  let c0_i32_1553 : BitVec 32 := 0#32
  ![v2572.toNat, 0, 0]

def k0_off66 (v2572 : BitVec 32) : Fin 3 → Nat :=
  let c0_i32_1559 : BitVec 32 := 0#32
  let c0_i32_1560 : BitVec 32 := 0#32
  ![v2572.toNat, 0, 0]

def k0_chk44 (i : grid0.Coords) (v2572 : BitVec 32) : Prop :=
  (∀ (k0_h1 : k0_cond1 i = 1#1), ∀ a, (k0_off65 v2572) a + S1x128x128.size a ≤ S1024x128x128.size a) ∧
  (∀ (k0_h1 : k0_cond1 i = 1#1), ∀ (hinb : ∀ a, (k0_off65 v2572) a + S1x128x128.size a ≤ S1024x128x128.size a), (Rect.unit (s := S1024x128x128) (k0_off65 v2572) S1x128x128.size hinb).WholeWords (EltTy.packing .bf16)) ∧
  (∀ (k0_h1 : k0_cond1 i = 1#1), ∀ a, (k0_off66 v2572) a + S1x1x128.size a ≤ S1024x1x128.size a)
theorem k0_off65_inb : ∀ (i : grid0.Coords) (v2572 : BitVec 32) (k0_hw44 : k0_chk44 i v2572), ∀ (k0_h1 : k0_cond1 i = 1#1), ∀ a, (k0_off65 v2572) a + S1x128x128.size a ≤ S1024x128x128.size a := fun i v2572 k0_hw44 k0_h1 => k0_hw44.1 k0_h1
theorem k0_off65_wordsbf16 : ∀ (i : grid0.Coords) (v2572 : BitVec 32) (k0_hw44 : k0_chk44 i v2572), ∀ (k0_h1 : k0_cond1 i = 1#1), (Rect.unit (s := S1024x128x128) (k0_off65 v2572) S1x128x128.size (k0_off65_inb i v2572 k0_hw44 k0_h1)).WholeWords (EltTy.packing .bf16) := fun i v2572 k0_hw44 k0_h1 => k0_hw44.2.1 k0_h1 (k0_off65_inb i v2572 k0_hw44 k0_h1)
theorem k0_off66_inb : ∀ (i : grid0.Coords) (v2572 : BitVec 32) (k0_hw44 : k0_chk44 i v2572), ∀ (k0_h1 : k0_cond1 i = 1#1), ∀ a, (k0_off66 v2572) a + S1x1x128.size a ≤ S1024x1x128.size a := fun i v2572 k0_hw44 k0_h1 => k0_hw44.2.2 k0_h1

def k0_off67 (v2591 : BitVec 32) : Fin 3 → Nat :=
  let c0_i32_1568 : BitVec 32 := 0#32
  let c0_i32_1569 : BitVec 32 := 0#32
  ![v2591.toNat, 0, 0]

def k0_chk45 (i : grid0.Coords) (v2591 : BitVec 32) : Prop :=
  (∀ (k0_h1 : k0_cond1 i = 1#1), ∀ a, (k0_off67 v2591) a + S1x128x64.size a ≤ S4096x128x64.size a)
theorem k0_off67_inb : ∀ (i : grid0.Coords) (v2591 : BitVec 32) (k0_hw45 : k0_chk45 i v2591), ∀ (k0_h1 : k0_cond1 i = 1#1), ∀ a, (k0_off67 v2591) a + S1x128x64.size a ≤ S4096x128x64.size a := fun i v2591 k0_hw45 k0_h1 => k0_hw45 k0_h1

def k0_off68 (v2592 : BitVec 32) : Fin 3 → Nat :=
  let c0_i32_1575 : BitVec 32 := 0#32
  let c0_i32_1576 : BitVec 32 := 0#32
  ![v2592.toNat, 0, 0]

def k0_off69 (v2592 : BitVec 32) : Fin 3 → Nat :=
  let c0_i32_1582 : BitVec 32 := 0#32
  let c0_i32_1583 : BitVec 32 := 0#32
  ![v2592.toNat, 0, 0]

def k0_chk46 (i : grid0.Coords) (v2592 : BitVec 32) : Prop :=
  (∀ (k0_h1 : k0_cond1 i = 1#1), ∀ a, (k0_off68 v2592) a + S1x128x128.size a ≤ S1024x128x128.size a) ∧
  (∀ (k0_h1 : k0_cond1 i = 1#1), ∀ (hinb : ∀ a, (k0_off68 v2592) a + S1x128x128.size a ≤ S1024x128x128.size a), (Rect.unit (s := S1024x128x128) (k0_off68 v2592) S1x128x128.size hinb).WholeWords (EltTy.packing .bf16)) ∧
  (∀ (k0_h1 : k0_cond1 i = 1#1), ∀ a, (k0_off69 v2592) a + S1x1x128.size a ≤ S1024x1x128.size a)
theorem k0_off68_inb : ∀ (i : grid0.Coords) (v2592 : BitVec 32) (k0_hw46 : k0_chk46 i v2592), ∀ (k0_h1 : k0_cond1 i = 1#1), ∀ a, (k0_off68 v2592) a + S1x128x128.size a ≤ S1024x128x128.size a := fun i v2592 k0_hw46 k0_h1 => k0_hw46.1 k0_h1
theorem k0_off68_wordsbf16 : ∀ (i : grid0.Coords) (v2592 : BitVec 32) (k0_hw46 : k0_chk46 i v2592), ∀ (k0_h1 : k0_cond1 i = 1#1), (Rect.unit (s := S1024x128x128) (k0_off68 v2592) S1x128x128.size (k0_off68_inb i v2592 k0_hw46 k0_h1)).WholeWords (EltTy.packing .bf16) := fun i v2592 k0_hw46 k0_h1 => k0_hw46.2.1 k0_h1 (k0_off68_inb i v2592 k0_hw46 k0_h1)
theorem k0_off69_inb : ∀ (i : grid0.Coords) (v2592 : BitVec 32) (k0_hw46 : k0_chk46 i v2592), ∀ (k0_h1 : k0_cond1 i = 1#1), ∀ a, (k0_off69 v2592) a + S1x1x128.size a ≤ S1024x1x128.size a := fun i v2592 k0_hw46 k0_h1 => k0_hw46.2.2 k0_h1

def k0_off70 (v2611 : BitVec 32) : Fin 3 → Nat :=
  let c0_i32_1591 : BitVec 32 := 0#32
  let c0_i32_1592 : BitVec 32 := 0#32
  ![v2611.toNat, 0, 0]

def k0_chk47 (i : grid0.Coords) (v2611 : BitVec 32) : Prop :=
  (∀ (k0_h1 : k0_cond1 i = 1#1), ∀ a, (k0_off70 v2611) a + S1x128x64.size a ≤ S4096x128x64.size a)
theorem k0_off70_inb : ∀ (i : grid0.Coords) (v2611 : BitVec 32) (k0_hw47 : k0_chk47 i v2611), ∀ (k0_h1 : k0_cond1 i = 1#1), ∀ a, (k0_off70 v2611) a + S1x128x64.size a ≤ S4096x128x64.size a := fun i v2611 k0_hw47 k0_h1 => k0_hw47 k0_h1

def k0_off71 (v2612 : BitVec 32) : Fin 3 → Nat :=
  let c0_i32_1598 : BitVec 32 := 0#32
  let c0_i32_1599 : BitVec 32 := 0#32
  ![v2612.toNat, 0, 0]

def k0_off72 (v2612 : BitVec 32) : Fin 3 → Nat :=
  let c0_i32_1605 : BitVec 32 := 0#32
  let c0_i32_1606 : BitVec 32 := 0#32
  ![v2612.toNat, 0, 0]

def k0_chk48 (i : grid0.Coords) (v2612 : BitVec 32) : Prop :=
  (∀ (k0_h1 : k0_cond1 i = 1#1), ∀ a, (k0_off71 v2612) a + S1x128x128.size a ≤ S1024x128x128.size a) ∧
  (∀ (k0_h1 : k0_cond1 i = 1#1), ∀ (hinb : ∀ a, (k0_off71 v2612) a + S1x128x128.size a ≤ S1024x128x128.size a), (Rect.unit (s := S1024x128x128) (k0_off71 v2612) S1x128x128.size hinb).WholeWords (EltTy.packing .bf16)) ∧
  (∀ (k0_h1 : k0_cond1 i = 1#1), ∀ a, (k0_off72 v2612) a + S1x1x128.size a ≤ S1024x1x128.size a)
theorem k0_off71_inb : ∀ (i : grid0.Coords) (v2612 : BitVec 32) (k0_hw48 : k0_chk48 i v2612), ∀ (k0_h1 : k0_cond1 i = 1#1), ∀ a, (k0_off71 v2612) a + S1x128x128.size a ≤ S1024x128x128.size a := fun i v2612 k0_hw48 k0_h1 => k0_hw48.1 k0_h1
theorem k0_off71_wordsbf16 : ∀ (i : grid0.Coords) (v2612 : BitVec 32) (k0_hw48 : k0_chk48 i v2612), ∀ (k0_h1 : k0_cond1 i = 1#1), (Rect.unit (s := S1024x128x128) (k0_off71 v2612) S1x128x128.size (k0_off71_inb i v2612 k0_hw48 k0_h1)).WholeWords (EltTy.packing .bf16) := fun i v2612 k0_hw48 k0_h1 => k0_hw48.2.1 k0_h1 (k0_off71_inb i v2612 k0_hw48 k0_h1)
theorem k0_off72_inb : ∀ (i : grid0.Coords) (v2612 : BitVec 32) (k0_hw48 : k0_chk48 i v2612), ∀ (k0_h1 : k0_cond1 i = 1#1), ∀ a, (k0_off72 v2612) a + S1x1x128.size a ≤ S1024x1x128.size a := fun i v2612 k0_hw48 k0_h1 => k0_hw48.2.2 k0_h1

def k0_off73 (v2631 : BitVec 32) : Fin 3 → Nat :=
  let c0_i32_1614 : BitVec 32 := 0#32
  let c0_i32_1615 : BitVec 32 := 0#32
  ![v2631.toNat, 0, 0]

def k0_chk49 (i : grid0.Coords) (v2631 : BitVec 32) : Prop :=
  (∀ (k0_h1 : k0_cond1 i = 1#1), ∀ a, (k0_off73 v2631) a + S1x128x64.size a ≤ S4096x128x64.size a)
theorem k0_off73_inb : ∀ (i : grid0.Coords) (v2631 : BitVec 32) (k0_hw49 : k0_chk49 i v2631), ∀ (k0_h1 : k0_cond1 i = 1#1), ∀ a, (k0_off73 v2631) a + S1x128x64.size a ≤ S4096x128x64.size a := fun i v2631 k0_hw49 k0_h1 => k0_hw49 k0_h1

def k0_off74 (v2632 : BitVec 32) : Fin 3 → Nat :=
  let c0_i32_1621 : BitVec 32 := 0#32
  let c0_i32_1622 : BitVec 32 := 0#32
  ![v2632.toNat, 0, 0]

def k0_off75 (v2632 : BitVec 32) : Fin 3 → Nat :=
  let c0_i32_1628 : BitVec 32 := 0#32
  let c0_i32_1629 : BitVec 32 := 0#32
  ![v2632.toNat, 0, 0]

def k0_chk50 (i : grid0.Coords) (v2632 : BitVec 32) : Prop :=
  (∀ (k0_h1 : k0_cond1 i = 1#1), ∀ a, (k0_off74 v2632) a + S1x128x128.size a ≤ S1024x128x128.size a) ∧
  (∀ (k0_h1 : k0_cond1 i = 1#1), ∀ (hinb : ∀ a, (k0_off74 v2632) a + S1x128x128.size a ≤ S1024x128x128.size a), (Rect.unit (s := S1024x128x128) (k0_off74 v2632) S1x128x128.size hinb).WholeWords (EltTy.packing .bf16)) ∧
  (∀ (k0_h1 : k0_cond1 i = 1#1), ∀ a, (k0_off75 v2632) a + S1x1x128.size a ≤ S1024x1x128.size a)
theorem k0_off74_inb : ∀ (i : grid0.Coords) (v2632 : BitVec 32) (k0_hw50 : k0_chk50 i v2632), ∀ (k0_h1 : k0_cond1 i = 1#1), ∀ a, (k0_off74 v2632) a + S1x128x128.size a ≤ S1024x128x128.size a := fun i v2632 k0_hw50 k0_h1 => k0_hw50.1 k0_h1
theorem k0_off74_wordsbf16 : ∀ (i : grid0.Coords) (v2632 : BitVec 32) (k0_hw50 : k0_chk50 i v2632), ∀ (k0_h1 : k0_cond1 i = 1#1), (Rect.unit (s := S1024x128x128) (k0_off74 v2632) S1x128x128.size (k0_off74_inb i v2632 k0_hw50 k0_h1)).WholeWords (EltTy.packing .bf16) := fun i v2632 k0_hw50 k0_h1 => k0_hw50.2.1 k0_h1 (k0_off74_inb i v2632 k0_hw50 k0_h1)
theorem k0_off75_inb : ∀ (i : grid0.Coords) (v2632 : BitVec 32) (k0_hw50 : k0_chk50 i v2632), ∀ (k0_h1 : k0_cond1 i = 1#1), ∀ a, (k0_off75 v2632) a + S1x1x128.size a ≤ S1024x1x128.size a := fun i v2632 k0_hw50 k0_h1 => k0_hw50.2.2 k0_h1

def k0_off76 (v2651 : BitVec 32) : Fin 3 → Nat :=
  let c0_i32_1637 : BitVec 32 := 0#32
  let c0_i32_1638 : BitVec 32 := 0#32
  ![v2651.toNat, 0, 0]

def k0_chk51 (i : grid0.Coords) (v2651 : BitVec 32) : Prop :=
  (∀ (k0_h1 : k0_cond1 i = 1#1), ∀ a, (k0_off76 v2651) a + S1x128x64.size a ≤ S4096x128x64.size a)
theorem k0_off76_inb : ∀ (i : grid0.Coords) (v2651 : BitVec 32) (k0_hw51 : k0_chk51 i v2651), ∀ (k0_h1 : k0_cond1 i = 1#1), ∀ a, (k0_off76 v2651) a + S1x128x64.size a ≤ S4096x128x64.size a := fun i v2651 k0_hw51 k0_h1 => k0_hw51 k0_h1

def k0_off77 (v2652 : BitVec 32) : Fin 3 → Nat :=
  let c0_i32_1644 : BitVec 32 := 0#32
  let c0_i32_1645 : BitVec 32 := 0#32
  ![v2652.toNat, 0, 0]

def k0_off78 (v2652 : BitVec 32) : Fin 3 → Nat :=
  let c0_i32_1651 : BitVec 32 := 0#32
  let c0_i32_1652 : BitVec 32 := 0#32
  ![v2652.toNat, 0, 0]

def k0_chk52 (i : grid0.Coords) (v2652 : BitVec 32) : Prop :=
  (∀ (k0_h1 : k0_cond1 i = 1#1), ∀ a, (k0_off77 v2652) a + S1x128x128.size a ≤ S1024x128x128.size a) ∧
  (∀ (k0_h1 : k0_cond1 i = 1#1), ∀ (hinb : ∀ a, (k0_off77 v2652) a + S1x128x128.size a ≤ S1024x128x128.size a), (Rect.unit (s := S1024x128x128) (k0_off77 v2652) S1x128x128.size hinb).WholeWords (EltTy.packing .bf16)) ∧
  (∀ (k0_h1 : k0_cond1 i = 1#1), ∀ a, (k0_off78 v2652) a + S1x1x128.size a ≤ S1024x1x128.size a)
theorem k0_off77_inb : ∀ (i : grid0.Coords) (v2652 : BitVec 32) (k0_hw52 : k0_chk52 i v2652), ∀ (k0_h1 : k0_cond1 i = 1#1), ∀ a, (k0_off77 v2652) a + S1x128x128.size a ≤ S1024x128x128.size a := fun i v2652 k0_hw52 k0_h1 => k0_hw52.1 k0_h1
theorem k0_off77_wordsbf16 : ∀ (i : grid0.Coords) (v2652 : BitVec 32) (k0_hw52 : k0_chk52 i v2652), ∀ (k0_h1 : k0_cond1 i = 1#1), (Rect.unit (s := S1024x128x128) (k0_off77 v2652) S1x128x128.size (k0_off77_inb i v2652 k0_hw52 k0_h1)).WholeWords (EltTy.packing .bf16) := fun i v2652 k0_hw52 k0_h1 => k0_hw52.2.1 k0_h1 (k0_off77_inb i v2652 k0_hw52 k0_h1)
theorem k0_off78_inb : ∀ (i : grid0.Coords) (v2652 : BitVec 32) (k0_hw52 : k0_chk52 i v2652), ∀ (k0_h1 : k0_cond1 i = 1#1), ∀ a, (k0_off78 v2652) a + S1x1x128.size a ≤ S1024x1x128.size a := fun i v2652 k0_hw52 k0_h1 => k0_hw52.2.2 k0_h1

def k0_off79 (v2671 : BitVec 32) : Fin 3 → Nat :=
  let c0_i32_1660 : BitVec 32 := 0#32
  let c0_i32_1661 : BitVec 32 := 0#32
  ![v2671.toNat, 0, 0]

def k0_chk53 (i : grid0.Coords) (v2671 : BitVec 32) : Prop :=
  (∀ (k0_h1 : k0_cond1 i = 1#1), ∀ a, (k0_off79 v2671) a + S1x128x64.size a ≤ S4096x128x64.size a)
theorem k0_off79_inb : ∀ (i : grid0.Coords) (v2671 : BitVec 32) (k0_hw53 : k0_chk53 i v2671), ∀ (k0_h1 : k0_cond1 i = 1#1), ∀ a, (k0_off79 v2671) a + S1x128x64.size a ≤ S4096x128x64.size a := fun i v2671 k0_hw53 k0_h1 => k0_hw53 k0_h1

def k0_off80 (v2672 : BitVec 32) : Fin 3 → Nat :=
  let c0_i32_1667 : BitVec 32 := 0#32
  let c0_i32_1668 : BitVec 32 := 0#32
  ![v2672.toNat, 0, 0]

def k0_off81 (v2672 : BitVec 32) : Fin 3 → Nat :=
  let c0_i32_1674 : BitVec 32 := 0#32
  let c0_i32_1675 : BitVec 32 := 0#32
  ![v2672.toNat, 0, 0]

def k0_chk54 (i : grid0.Coords) (v2672 : BitVec 32) : Prop :=
  (∀ (k0_h1 : k0_cond1 i = 1#1), ∀ a, (k0_off80 v2672) a + S1x128x128.size a ≤ S1024x128x128.size a) ∧
  (∀ (k0_h1 : k0_cond1 i = 1#1), ∀ (hinb : ∀ a, (k0_off80 v2672) a + S1x128x128.size a ≤ S1024x128x128.size a), (Rect.unit (s := S1024x128x128) (k0_off80 v2672) S1x128x128.size hinb).WholeWords (EltTy.packing .bf16)) ∧
  (∀ (k0_h1 : k0_cond1 i = 1#1), ∀ a, (k0_off81 v2672) a + S1x1x128.size a ≤ S1024x1x128.size a)
theorem k0_off80_inb : ∀ (i : grid0.Coords) (v2672 : BitVec 32) (k0_hw54 : k0_chk54 i v2672), ∀ (k0_h1 : k0_cond1 i = 1#1), ∀ a, (k0_off80 v2672) a + S1x128x128.size a ≤ S1024x128x128.size a := fun i v2672 k0_hw54 k0_h1 => k0_hw54.1 k0_h1
theorem k0_off80_wordsbf16 : ∀ (i : grid0.Coords) (v2672 : BitVec 32) (k0_hw54 : k0_chk54 i v2672), ∀ (k0_h1 : k0_cond1 i = 1#1), (Rect.unit (s := S1024x128x128) (k0_off80 v2672) S1x128x128.size (k0_off80_inb i v2672 k0_hw54 k0_h1)).WholeWords (EltTy.packing .bf16) := fun i v2672 k0_hw54 k0_h1 => k0_hw54.2.1 k0_h1 (k0_off80_inb i v2672 k0_hw54 k0_h1)
theorem k0_off81_inb : ∀ (i : grid0.Coords) (v2672 : BitVec 32) (k0_hw54 : k0_chk54 i v2672), ∀ (k0_h1 : k0_cond1 i = 1#1), ∀ a, (k0_off81 v2672) a + S1x1x128.size a ≤ S1024x1x128.size a := fun i v2672 k0_hw54 k0_h1 => k0_hw54.2.2 k0_h1

def k0_off82 (v2691 : BitVec 32) : Fin 3 → Nat :=
  let c0_i32_1683 : BitVec 32 := 0#32
  let c0_i32_1684 : BitVec 32 := 0#32
  ![v2691.toNat, 0, 0]

def k0_chk55 (i : grid0.Coords) (v2691 : BitVec 32) : Prop :=
  (∀ (k0_h1 : k0_cond1 i = 1#1), ∀ a, (k0_off82 v2691) a + S1x128x64.size a ≤ S4096x128x64.size a)
theorem k0_off82_inb : ∀ (i : grid0.Coords) (v2691 : BitVec 32) (k0_hw55 : k0_chk55 i v2691), ∀ (k0_h1 : k0_cond1 i = 1#1), ∀ a, (k0_off82 v2691) a + S1x128x64.size a ≤ S4096x128x64.size a := fun i v2691 k0_hw55 k0_h1 => k0_hw55 k0_h1

def k0_off83 (v2692 : BitVec 32) : Fin 3 → Nat :=
  let c0_i32_1690 : BitVec 32 := 0#32
  let c0_i32_1691 : BitVec 32 := 0#32
  ![v2692.toNat, 0, 0]

def k0_off84 (v2692 : BitVec 32) : Fin 3 → Nat :=
  let c0_i32_1697 : BitVec 32 := 0#32
  let c0_i32_1698 : BitVec 32 := 0#32
  ![v2692.toNat, 0, 0]

def k0_chk56 (i : grid0.Coords) (v2692 : BitVec 32) : Prop :=
  (∀ (k0_h1 : k0_cond1 i = 1#1), ∀ a, (k0_off83 v2692) a + S1x128x128.size a ≤ S1024x128x128.size a) ∧
  (∀ (k0_h1 : k0_cond1 i = 1#1), ∀ (hinb : ∀ a, (k0_off83 v2692) a + S1x128x128.size a ≤ S1024x128x128.size a), (Rect.unit (s := S1024x128x128) (k0_off83 v2692) S1x128x128.size hinb).WholeWords (EltTy.packing .bf16)) ∧
  (∀ (k0_h1 : k0_cond1 i = 1#1), ∀ a, (k0_off84 v2692) a + S1x1x128.size a ≤ S1024x1x128.size a)
theorem k0_off83_inb : ∀ (i : grid0.Coords) (v2692 : BitVec 32) (k0_hw56 : k0_chk56 i v2692), ∀ (k0_h1 : k0_cond1 i = 1#1), ∀ a, (k0_off83 v2692) a + S1x128x128.size a ≤ S1024x128x128.size a := fun i v2692 k0_hw56 k0_h1 => k0_hw56.1 k0_h1
theorem k0_off83_wordsbf16 : ∀ (i : grid0.Coords) (v2692 : BitVec 32) (k0_hw56 : k0_chk56 i v2692), ∀ (k0_h1 : k0_cond1 i = 1#1), (Rect.unit (s := S1024x128x128) (k0_off83 v2692) S1x128x128.size (k0_off83_inb i v2692 k0_hw56 k0_h1)).WholeWords (EltTy.packing .bf16) := fun i v2692 k0_hw56 k0_h1 => k0_hw56.2.1 k0_h1 (k0_off83_inb i v2692 k0_hw56 k0_h1)
theorem k0_off84_inb : ∀ (i : grid0.Coords) (v2692 : BitVec 32) (k0_hw56 : k0_chk56 i v2692), ∀ (k0_h1 : k0_cond1 i = 1#1), ∀ a, (k0_off84 v2692) a + S1x1x128.size a ≤ S1024x1x128.size a := fun i v2692 k0_hw56 k0_h1 => k0_hw56.2.2 k0_h1

def k0_off85 (v2711 : BitVec 32) : Fin 3 → Nat :=
  let c0_i32_1706 : BitVec 32 := 0#32
  let c0_i32_1707 : BitVec 32 := 0#32
  ![v2711.toNat, 0, 0]

def k0_chk57 (i : grid0.Coords) (v2711 : BitVec 32) : Prop :=
  (∀ (k0_h1 : k0_cond1 i = 1#1), ∀ a, (k0_off85 v2711) a + S1x128x64.size a ≤ S4096x128x64.size a)
theorem k0_off85_inb : ∀ (i : grid0.Coords) (v2711 : BitVec 32) (k0_hw57 : k0_chk57 i v2711), ∀ (k0_h1 : k0_cond1 i = 1#1), ∀ a, (k0_off85 v2711) a + S1x128x64.size a ≤ S4096x128x64.size a := fun i v2711 k0_hw57 k0_h1 => k0_hw57 k0_h1

def k0_off86 (v2712 : BitVec 32) : Fin 3 → Nat :=
  let c0_i32_1713 : BitVec 32 := 0#32
  let c0_i32_1714 : BitVec 32 := 0#32
  ![v2712.toNat, 0, 0]

def k0_off87 (v2712 : BitVec 32) : Fin 3 → Nat :=
  let c0_i32_1720 : BitVec 32 := 0#32
  let c0_i32_1721 : BitVec 32 := 0#32
  ![v2712.toNat, 0, 0]

def k0_chk58 (i : grid0.Coords) (v2712 : BitVec 32) : Prop :=
  (∀ (k0_h1 : k0_cond1 i = 1#1), ∀ a, (k0_off86 v2712) a + S1x128x128.size a ≤ S1024x128x128.size a) ∧
  (∀ (k0_h1 : k0_cond1 i = 1#1), ∀ (hinb : ∀ a, (k0_off86 v2712) a + S1x128x128.size a ≤ S1024x128x128.size a), (Rect.unit (s := S1024x128x128) (k0_off86 v2712) S1x128x128.size hinb).WholeWords (EltTy.packing .bf16)) ∧
  (∀ (k0_h1 : k0_cond1 i = 1#1), ∀ a, (k0_off87 v2712) a + S1x1x128.size a ≤ S1024x1x128.size a)
theorem k0_off86_inb : ∀ (i : grid0.Coords) (v2712 : BitVec 32) (k0_hw58 : k0_chk58 i v2712), ∀ (k0_h1 : k0_cond1 i = 1#1), ∀ a, (k0_off86 v2712) a + S1x128x128.size a ≤ S1024x128x128.size a := fun i v2712 k0_hw58 k0_h1 => k0_hw58.1 k0_h1
theorem k0_off86_wordsbf16 : ∀ (i : grid0.Coords) (v2712 : BitVec 32) (k0_hw58 : k0_chk58 i v2712), ∀ (k0_h1 : k0_cond1 i = 1#1), (Rect.unit (s := S1024x128x128) (k0_off86 v2712) S1x128x128.size (k0_off86_inb i v2712 k0_hw58 k0_h1)).WholeWords (EltTy.packing .bf16) := fun i v2712 k0_hw58 k0_h1 => k0_hw58.2.1 k0_h1 (k0_off86_inb i v2712 k0_hw58 k0_h1)
theorem k0_off87_inb : ∀ (i : grid0.Coords) (v2712 : BitVec 32) (k0_hw58 : k0_chk58 i v2712), ∀ (k0_h1 : k0_cond1 i = 1#1), ∀ a, (k0_off87 v2712) a + S1x1x128.size a ≤ S1024x1x128.size a := fun i v2712 k0_hw58 k0_h1 => k0_hw58.2.2 k0_h1

def k0_off88 (v2731 : BitVec 32) : Fin 3 → Nat :=
  let c0_i32_1729 : BitVec 32 := 0#32
  let c0_i32_1730 : BitVec 32 := 0#32
  ![v2731.toNat, 0, 0]

def k0_chk59 (i : grid0.Coords) (v2731 : BitVec 32) : Prop :=
  (∀ (k0_h1 : k0_cond1 i = 1#1), ∀ a, (k0_off88 v2731) a + S1x128x64.size a ≤ S4096x128x64.size a)
theorem k0_off88_inb : ∀ (i : grid0.Coords) (v2731 : BitVec 32) (k0_hw59 : k0_chk59 i v2731), ∀ (k0_h1 : k0_cond1 i = 1#1), ∀ a, (k0_off88 v2731) a + S1x128x64.size a ≤ S4096x128x64.size a := fun i v2731 k0_hw59 k0_h1 => k0_hw59 k0_h1

def k0_off89 (v2732 : BitVec 32) : Fin 3 → Nat :=
  let c0_i32_1736 : BitVec 32 := 0#32
  let c0_i32_1737 : BitVec 32 := 0#32
  ![v2732.toNat, 0, 0]

def k0_off90 (v2732 : BitVec 32) : Fin 3 → Nat :=
  let c0_i32_1743 : BitVec 32 := 0#32
  let c0_i32_1744 : BitVec 32 := 0#32
  ![v2732.toNat, 0, 0]

def k0_chk60 (i : grid0.Coords) (v2732 : BitVec 32) : Prop :=
  (∀ (k0_h1 : k0_cond1 i = 1#1), ∀ a, (k0_off89 v2732) a + S1x128x128.size a ≤ S1024x128x128.size a) ∧
  (∀ (k0_h1 : k0_cond1 i = 1#1), ∀ (hinb : ∀ a, (k0_off89 v2732) a + S1x128x128.size a ≤ S1024x128x128.size a), (Rect.unit (s := S1024x128x128) (k0_off89 v2732) S1x128x128.size hinb).WholeWords (EltTy.packing .bf16)) ∧
  (∀ (k0_h1 : k0_cond1 i = 1#1), ∀ a, (k0_off90 v2732) a + S1x1x128.size a ≤ S1024x1x128.size a)
theorem k0_off89_inb : ∀ (i : grid0.Coords) (v2732 : BitVec 32) (k0_hw60 : k0_chk60 i v2732), ∀ (k0_h1 : k0_cond1 i = 1#1), ∀ a, (k0_off89 v2732) a + S1x128x128.size a ≤ S1024x128x128.size a := fun i v2732 k0_hw60 k0_h1 => k0_hw60.1 k0_h1
theorem k0_off89_wordsbf16 : ∀ (i : grid0.Coords) (v2732 : BitVec 32) (k0_hw60 : k0_chk60 i v2732), ∀ (k0_h1 : k0_cond1 i = 1#1), (Rect.unit (s := S1024x128x128) (k0_off89 v2732) S1x128x128.size (k0_off89_inb i v2732 k0_hw60 k0_h1)).WholeWords (EltTy.packing .bf16) := fun i v2732 k0_hw60 k0_h1 => k0_hw60.2.1 k0_h1 (k0_off89_inb i v2732 k0_hw60 k0_h1)
theorem k0_off90_inb : ∀ (i : grid0.Coords) (v2732 : BitVec 32) (k0_hw60 : k0_chk60 i v2732), ∀ (k0_h1 : k0_cond1 i = 1#1), ∀ a, (k0_off90 v2732) a + S1x1x128.size a ≤ S1024x1x128.size a := fun i v2732 k0_hw60 k0_h1 => k0_hw60.2.2 k0_h1

def k0_off91 (v2751 : BitVec 32) : Fin 3 → Nat :=
  let c0_i32_1752 : BitVec 32 := 0#32
  let c0_i32_1753 : BitVec 32 := 0#32
  ![v2751.toNat, 0, 0]

def k0_chk61 (i : grid0.Coords) (v2751 : BitVec 32) : Prop :=
  (∀ (k0_h1 : k0_cond1 i = 1#1), ∀ a, (k0_off91 v2751) a + S1x128x64.size a ≤ S4096x128x64.size a)
theorem k0_off91_inb : ∀ (i : grid0.Coords) (v2751 : BitVec 32) (k0_hw61 : k0_chk61 i v2751), ∀ (k0_h1 : k0_cond1 i = 1#1), ∀ a, (k0_off91 v2751) a + S1x128x64.size a ≤ S4096x128x64.size a := fun i v2751 k0_hw61 k0_h1 => k0_hw61 k0_h1

def k0_off92 (v2752 : BitVec 32) : Fin 3 → Nat :=
  let c0_i32_1759 : BitVec 32 := 0#32
  let c0_i32_1760 : BitVec 32 := 0#32
  ![v2752.toNat, 0, 0]

def k0_off93 (v2752 : BitVec 32) : Fin 3 → Nat :=
  let c0_i32_1766 : BitVec 32 := 0#32
  let c0_i32_1767 : BitVec 32 := 0#32
  ![v2752.toNat, 0, 0]

def k0_chk62 (i : grid0.Coords) (v2752 : BitVec 32) : Prop :=
  (∀ (k0_h1 : k0_cond1 i = 1#1), ∀ a, (k0_off92 v2752) a + S1x128x128.size a ≤ S1024x128x128.size a) ∧
  (∀ (k0_h1 : k0_cond1 i = 1#1), ∀ (hinb : ∀ a, (k0_off92 v2752) a + S1x128x128.size a ≤ S1024x128x128.size a), (Rect.unit (s := S1024x128x128) (k0_off92 v2752) S1x128x128.size hinb).WholeWords (EltTy.packing .bf16)) ∧
  (∀ (k0_h1 : k0_cond1 i = 1#1), ∀ a, (k0_off93 v2752) a + S1x1x128.size a ≤ S1024x1x128.size a)
theorem k0_off92_inb : ∀ (i : grid0.Coords) (v2752 : BitVec 32) (k0_hw62 : k0_chk62 i v2752), ∀ (k0_h1 : k0_cond1 i = 1#1), ∀ a, (k0_off92 v2752) a + S1x128x128.size a ≤ S1024x128x128.size a := fun i v2752 k0_hw62 k0_h1 => k0_hw62.1 k0_h1
theorem k0_off92_wordsbf16 : ∀ (i : grid0.Coords) (v2752 : BitVec 32) (k0_hw62 : k0_chk62 i v2752), ∀ (k0_h1 : k0_cond1 i = 1#1), (Rect.unit (s := S1024x128x128) (k0_off92 v2752) S1x128x128.size (k0_off92_inb i v2752 k0_hw62 k0_h1)).WholeWords (EltTy.packing .bf16) := fun i v2752 k0_hw62 k0_h1 => k0_hw62.2.1 k0_h1 (k0_off92_inb i v2752 k0_hw62 k0_h1)
theorem k0_off93_inb : ∀ (i : grid0.Coords) (v2752 : BitVec 32) (k0_hw62 : k0_chk62 i v2752), ∀ (k0_h1 : k0_cond1 i = 1#1), ∀ a, (k0_off93 v2752) a + S1x1x128.size a ≤ S1024x1x128.size a := fun i v2752 k0_hw62 k0_h1 => k0_hw62.2.2 k0_h1

def k0_off94 (v2771 : BitVec 32) : Fin 3 → Nat :=
  let c0_i32_1775 : BitVec 32 := 0#32
  let c0_i32_1776 : BitVec 32 := 0#32
  ![v2771.toNat, 0, 0]

def k0_chk63 (i : grid0.Coords) (v2771 : BitVec 32) : Prop :=
  (∀ (k0_h1 : k0_cond1 i = 1#1), ∀ a, (k0_off94 v2771) a + S1x128x64.size a ≤ S4096x128x64.size a)
theorem k0_off94_inb : ∀ (i : grid0.Coords) (v2771 : BitVec 32) (k0_hw63 : k0_chk63 i v2771), ∀ (k0_h1 : k0_cond1 i = 1#1), ∀ a, (k0_off94 v2771) a + S1x128x64.size a ≤ S4096x128x64.size a := fun i v2771 k0_hw63 k0_h1 => k0_hw63 k0_h1

def k0_off95 (v2772 : BitVec 32) : Fin 3 → Nat :=
  let c0_i32_1782 : BitVec 32 := 0#32
  let c0_i32_1783 : BitVec 32 := 0#32
  ![v2772.toNat, 0, 0]

def k0_off96 (v2772 : BitVec 32) : Fin 3 → Nat :=
  let c0_i32_1789 : BitVec 32 := 0#32
  let c0_i32_1790 : BitVec 32 := 0#32
  ![v2772.toNat, 0, 0]

def k0_chk64 (i : grid0.Coords) (v2772 : BitVec 32) : Prop :=
  (∀ (k0_h1 : k0_cond1 i = 1#1), ∀ a, (k0_off95 v2772) a + S1x128x128.size a ≤ S1024x128x128.size a) ∧
  (∀ (k0_h1 : k0_cond1 i = 1#1), ∀ (hinb : ∀ a, (k0_off95 v2772) a + S1x128x128.size a ≤ S1024x128x128.size a), (Rect.unit (s := S1024x128x128) (k0_off95 v2772) S1x128x128.size hinb).WholeWords (EltTy.packing .bf16)) ∧
  (∀ (k0_h1 : k0_cond1 i = 1#1), ∀ a, (k0_off96 v2772) a + S1x1x128.size a ≤ S1024x1x128.size a)
theorem k0_off95_inb : ∀ (i : grid0.Coords) (v2772 : BitVec 32) (k0_hw64 : k0_chk64 i v2772), ∀ (k0_h1 : k0_cond1 i = 1#1), ∀ a, (k0_off95 v2772) a + S1x128x128.size a ≤ S1024x128x128.size a := fun i v2772 k0_hw64 k0_h1 => k0_hw64.1 k0_h1
theorem k0_off95_wordsbf16 : ∀ (i : grid0.Coords) (v2772 : BitVec 32) (k0_hw64 : k0_chk64 i v2772), ∀ (k0_h1 : k0_cond1 i = 1#1), (Rect.unit (s := S1024x128x128) (k0_off95 v2772) S1x128x128.size (k0_off95_inb i v2772 k0_hw64 k0_h1)).WholeWords (EltTy.packing .bf16) := fun i v2772 k0_hw64 k0_h1 => k0_hw64.2.1 k0_h1 (k0_off95_inb i v2772 k0_hw64 k0_h1)
theorem k0_off96_inb : ∀ (i : grid0.Coords) (v2772 : BitVec 32) (k0_hw64 : k0_chk64 i v2772), ∀ (k0_h1 : k0_cond1 i = 1#1), ∀ a, (k0_off96 v2772) a + S1x1x128.size a ≤ S1024x1x128.size a := fun i v2772 k0_hw64 k0_h1 => k0_hw64.2.2 k0_h1

def k0_off97 (v2791 : BitVec 32) : Fin 3 → Nat :=
  let c0_i32_1798 : BitVec 32 := 0#32
  let c0_i32_1799 : BitVec 32 := 0#32
  ![v2791.toNat, 0, 0]

def k0_chk65 (i : grid0.Coords) (v2791 : BitVec 32) : Prop :=
  (∀ (k0_h1 : k0_cond1 i = 1#1), ∀ a, (k0_off97 v2791) a + S1x128x64.size a ≤ S4096x128x64.size a)
theorem k0_off97_inb : ∀ (i : grid0.Coords) (v2791 : BitVec 32) (k0_hw65 : k0_chk65 i v2791), ∀ (k0_h1 : k0_cond1 i = 1#1), ∀ a, (k0_off97 v2791) a + S1x128x64.size a ≤ S4096x128x64.size a := fun i v2791 k0_hw65 k0_h1 => k0_hw65 k0_h1

def k0_off98 (v2792 : BitVec 32) : Fin 3 → Nat :=
  let c0_i32_1805 : BitVec 32 := 0#32
  let c0_i32_1806 : BitVec 32 := 0#32
  ![v2792.toNat, 0, 0]

def k0_off99 (v2792 : BitVec 32) : Fin 3 → Nat :=
  let c0_i32_1812 : BitVec 32 := 0#32
  let c0_i32_1813 : BitVec 32 := 0#32
  ![v2792.toNat, 0, 0]

def k0_chk66 (i : grid0.Coords) (v2792 : BitVec 32) : Prop :=
  (∀ (k0_h1 : k0_cond1 i = 1#1), ∀ a, (k0_off98 v2792) a + S1x128x128.size a ≤ S1024x128x128.size a) ∧
  (∀ (k0_h1 : k0_cond1 i = 1#1), ∀ (hinb : ∀ a, (k0_off98 v2792) a + S1x128x128.size a ≤ S1024x128x128.size a), (Rect.unit (s := S1024x128x128) (k0_off98 v2792) S1x128x128.size hinb).WholeWords (EltTy.packing .bf16)) ∧
  (∀ (k0_h1 : k0_cond1 i = 1#1), ∀ a, (k0_off99 v2792) a + S1x1x128.size a ≤ S1024x1x128.size a)
theorem k0_off98_inb : ∀ (i : grid0.Coords) (v2792 : BitVec 32) (k0_hw66 : k0_chk66 i v2792), ∀ (k0_h1 : k0_cond1 i = 1#1), ∀ a, (k0_off98 v2792) a + S1x128x128.size a ≤ S1024x128x128.size a := fun i v2792 k0_hw66 k0_h1 => k0_hw66.1 k0_h1
theorem k0_off98_wordsbf16 : ∀ (i : grid0.Coords) (v2792 : BitVec 32) (k0_hw66 : k0_chk66 i v2792), ∀ (k0_h1 : k0_cond1 i = 1#1), (Rect.unit (s := S1024x128x128) (k0_off98 v2792) S1x128x128.size (k0_off98_inb i v2792 k0_hw66 k0_h1)).WholeWords (EltTy.packing .bf16) := fun i v2792 k0_hw66 k0_h1 => k0_hw66.2.1 k0_h1 (k0_off98_inb i v2792 k0_hw66 k0_h1)
theorem k0_off99_inb : ∀ (i : grid0.Coords) (v2792 : BitVec 32) (k0_hw66 : k0_chk66 i v2792), ∀ (k0_h1 : k0_cond1 i = 1#1), ∀ a, (k0_off99 v2792) a + S1x1x128.size a ≤ S1024x1x128.size a := fun i v2792 k0_hw66 k0_h1 => k0_hw66.2.2 k0_h1

def k0_off100 (v2811 : BitVec 32) : Fin 3 → Nat :=
  let c0_i32_1821 : BitVec 32 := 0#32
  let c0_i32_1822 : BitVec 32 := 0#32
  ![v2811.toNat, 0, 0]

def k0_chk67 (i : grid0.Coords) (v2811 : BitVec 32) : Prop :=
  (∀ (k0_h1 : k0_cond1 i = 1#1), ∀ a, (k0_off100 v2811) a + S1x128x64.size a ≤ S4096x128x64.size a)
theorem k0_off100_inb : ∀ (i : grid0.Coords) (v2811 : BitVec 32) (k0_hw67 : k0_chk67 i v2811), ∀ (k0_h1 : k0_cond1 i = 1#1), ∀ a, (k0_off100 v2811) a + S1x128x64.size a ≤ S4096x128x64.size a := fun i v2811 k0_hw67 k0_h1 => k0_hw67 k0_h1

def k0_off101 (v2812 : BitVec 32) : Fin 3 → Nat :=
  let c0_i32_1828 : BitVec 32 := 0#32
  let c0_i32_1829 : BitVec 32 := 0#32
  ![v2812.toNat, 0, 0]

def k0_off102 (v2812 : BitVec 32) : Fin 3 → Nat :=
  let c0_i32_1835 : BitVec 32 := 0#32
  let c0_i32_1836 : BitVec 32 := 0#32
  ![v2812.toNat, 0, 0]

def k0_chk68 (i : grid0.Coords) (v2812 : BitVec 32) : Prop :=
  (∀ (k0_h1 : k0_cond1 i = 1#1), ∀ a, (k0_off101 v2812) a + S1x128x128.size a ≤ S1024x128x128.size a) ∧
  (∀ (k0_h1 : k0_cond1 i = 1#1), ∀ (hinb : ∀ a, (k0_off101 v2812) a + S1x128x128.size a ≤ S1024x128x128.size a), (Rect.unit (s := S1024x128x128) (k0_off101 v2812) S1x128x128.size hinb).WholeWords (EltTy.packing .bf16)) ∧
  (∀ (k0_h1 : k0_cond1 i = 1#1), ∀ a, (k0_off102 v2812) a + S1x1x128.size a ≤ S1024x1x128.size a)
theorem k0_off101_inb : ∀ (i : grid0.Coords) (v2812 : BitVec 32) (k0_hw68 : k0_chk68 i v2812), ∀ (k0_h1 : k0_cond1 i = 1#1), ∀ a, (k0_off101 v2812) a + S1x128x128.size a ≤ S1024x128x128.size a := fun i v2812 k0_hw68 k0_h1 => k0_hw68.1 k0_h1
theorem k0_off101_wordsbf16 : ∀ (i : grid0.Coords) (v2812 : BitVec 32) (k0_hw68 : k0_chk68 i v2812), ∀ (k0_h1 : k0_cond1 i = 1#1), (Rect.unit (s := S1024x128x128) (k0_off101 v2812) S1x128x128.size (k0_off101_inb i v2812 k0_hw68 k0_h1)).WholeWords (EltTy.packing .bf16) := fun i v2812 k0_hw68 k0_h1 => k0_hw68.2.1 k0_h1 (k0_off101_inb i v2812 k0_hw68 k0_h1)
theorem k0_off102_inb : ∀ (i : grid0.Coords) (v2812 : BitVec 32) (k0_hw68 : k0_chk68 i v2812), ∀ (k0_h1 : k0_cond1 i = 1#1), ∀ a, (k0_off102 v2812) a + S1x1x128.size a ≤ S1024x1x128.size a := fun i v2812 k0_hw68 k0_h1 => k0_hw68.2.2 k0_h1

def k0_off103 (v2831 : BitVec 32) : Fin 3 → Nat :=
  let c0_i32_1844 : BitVec 32 := 0#32
  let c0_i32_1845 : BitVec 32 := 0#32
  ![v2831.toNat, 0, 0]

def k0_chk69 (i : grid0.Coords) (v2831 : BitVec 32) : Prop :=
  (∀ (k0_h1 : k0_cond1 i = 1#1), ∀ a, (k0_off103 v2831) a + S1x128x64.size a ≤ S4096x128x64.size a)
theorem k0_off103_inb : ∀ (i : grid0.Coords) (v2831 : BitVec 32) (k0_hw69 : k0_chk69 i v2831), ∀ (k0_h1 : k0_cond1 i = 1#1), ∀ a, (k0_off103 v2831) a + S1x128x64.size a ≤ S4096x128x64.size a := fun i v2831 k0_hw69 k0_h1 => k0_hw69 k0_h1

def k0_off104 (v2832 : BitVec 32) : Fin 3 → Nat :=
  let c0_i32_1851 : BitVec 32 := 0#32
  let c0_i32_1852 : BitVec 32 := 0#32
  ![v2832.toNat, 0, 0]

def k0_off105 (v2832 : BitVec 32) : Fin 3 → Nat :=
  let c0_i32_1858 : BitVec 32 := 0#32
  let c0_i32_1859 : BitVec 32 := 0#32
  ![v2832.toNat, 0, 0]

def k0_chk70 (i : grid0.Coords) (v2832 : BitVec 32) : Prop :=
  (∀ (k0_h1 : k0_cond1 i = 1#1), ∀ a, (k0_off104 v2832) a + S1x128x128.size a ≤ S1024x128x128.size a) ∧
  (∀ (k0_h1 : k0_cond1 i = 1#1), ∀ (hinb : ∀ a, (k0_off104 v2832) a + S1x128x128.size a ≤ S1024x128x128.size a), (Rect.unit (s := S1024x128x128) (k0_off104 v2832) S1x128x128.size hinb).WholeWords (EltTy.packing .bf16)) ∧
  (∀ (k0_h1 : k0_cond1 i = 1#1), ∀ a, (k0_off105 v2832) a + S1x1x128.size a ≤ S1024x1x128.size a)
theorem k0_off104_inb : ∀ (i : grid0.Coords) (v2832 : BitVec 32) (k0_hw70 : k0_chk70 i v2832), ∀ (k0_h1 : k0_cond1 i = 1#1), ∀ a, (k0_off104 v2832) a + S1x128x128.size a ≤ S1024x128x128.size a := fun i v2832 k0_hw70 k0_h1 => k0_hw70.1 k0_h1
theorem k0_off104_wordsbf16 : ∀ (i : grid0.Coords) (v2832 : BitVec 32) (k0_hw70 : k0_chk70 i v2832), ∀ (k0_h1 : k0_cond1 i = 1#1), (Rect.unit (s := S1024x128x128) (k0_off104 v2832) S1x128x128.size (k0_off104_inb i v2832 k0_hw70 k0_h1)).WholeWords (EltTy.packing .bf16) := fun i v2832 k0_hw70 k0_h1 => k0_hw70.2.1 k0_h1 (k0_off104_inb i v2832 k0_hw70 k0_h1)
theorem k0_off105_inb : ∀ (i : grid0.Coords) (v2832 : BitVec 32) (k0_hw70 : k0_chk70 i v2832), ∀ (k0_h1 : k0_cond1 i = 1#1), ∀ a, (k0_off105 v2832) a + S1x1x128.size a ≤ S1024x1x128.size a := fun i v2832 k0_hw70 k0_h1 => k0_hw70.2.2 k0_h1

def k0_off106 (v2851 : BitVec 32) : Fin 3 → Nat :=
  let c0_i32_1867 : BitVec 32 := 0#32
  let c0_i32_1868 : BitVec 32 := 0#32
  ![v2851.toNat, 0, 0]

def k0_chk71 (i : grid0.Coords) (v2851 : BitVec 32) : Prop :=
  (∀ (k0_h1 : k0_cond1 i = 1#1), ∀ a, (k0_off106 v2851) a + S1x128x64.size a ≤ S4096x128x64.size a)
theorem k0_off106_inb : ∀ (i : grid0.Coords) (v2851 : BitVec 32) (k0_hw71 : k0_chk71 i v2851), ∀ (k0_h1 : k0_cond1 i = 1#1), ∀ a, (k0_off106 v2851) a + S1x128x64.size a ≤ S4096x128x64.size a := fun i v2851 k0_hw71 k0_h1 => k0_hw71 k0_h1

def k0_off107 (v2852 : BitVec 32) : Fin 3 → Nat :=
  let c0_i32_1874 : BitVec 32 := 0#32
  let c0_i32_1875 : BitVec 32 := 0#32
  ![v2852.toNat, 0, 0]

def k0_off108 (v2852 : BitVec 32) : Fin 3 → Nat :=
  let c0_i32_1881 : BitVec 32 := 0#32
  let c0_i32_1882 : BitVec 32 := 0#32
  ![v2852.toNat, 0, 0]

def k0_chk72 (i : grid0.Coords) (v2852 : BitVec 32) : Prop :=
  (∀ (k0_h1 : k0_cond1 i = 1#1), ∀ a, (k0_off107 v2852) a + S1x128x128.size a ≤ S1024x128x128.size a) ∧
  (∀ (k0_h1 : k0_cond1 i = 1#1), ∀ (hinb : ∀ a, (k0_off107 v2852) a + S1x128x128.size a ≤ S1024x128x128.size a), (Rect.unit (s := S1024x128x128) (k0_off107 v2852) S1x128x128.size hinb).WholeWords (EltTy.packing .bf16)) ∧
  (∀ (k0_h1 : k0_cond1 i = 1#1), ∀ a, (k0_off108 v2852) a + S1x1x128.size a ≤ S1024x1x128.size a)
theorem k0_off107_inb : ∀ (i : grid0.Coords) (v2852 : BitVec 32) (k0_hw72 : k0_chk72 i v2852), ∀ (k0_h1 : k0_cond1 i = 1#1), ∀ a, (k0_off107 v2852) a + S1x128x128.size a ≤ S1024x128x128.size a := fun i v2852 k0_hw72 k0_h1 => k0_hw72.1 k0_h1
theorem k0_off107_wordsbf16 : ∀ (i : grid0.Coords) (v2852 : BitVec 32) (k0_hw72 : k0_chk72 i v2852), ∀ (k0_h1 : k0_cond1 i = 1#1), (Rect.unit (s := S1024x128x128) (k0_off107 v2852) S1x128x128.size (k0_off107_inb i v2852 k0_hw72 k0_h1)).WholeWords (EltTy.packing .bf16) := fun i v2852 k0_hw72 k0_h1 => k0_hw72.2.1 k0_h1 (k0_off107_inb i v2852 k0_hw72 k0_h1)
theorem k0_off108_inb : ∀ (i : grid0.Coords) (v2852 : BitVec 32) (k0_hw72 : k0_chk72 i v2852), ∀ (k0_h1 : k0_cond1 i = 1#1), ∀ a, (k0_off108 v2852) a + S1x1x128.size a ≤ S1024x1x128.size a := fun i v2852 k0_hw72 k0_h1 => k0_hw72.2.2 k0_h1

def k0_off109 (v2871 : BitVec 32) : Fin 3 → Nat :=
  let c0_i32_1890 : BitVec 32 := 0#32
  let c0_i32_1891 : BitVec 32 := 0#32
  ![v2871.toNat, 0, 0]

def k0_chk73 (i : grid0.Coords) (v2871 : BitVec 32) : Prop :=
  (∀ (k0_h1 : k0_cond1 i = 1#1), ∀ a, (k0_off109 v2871) a + S1x128x64.size a ≤ S4096x128x64.size a)
theorem k0_off109_inb : ∀ (i : grid0.Coords) (v2871 : BitVec 32) (k0_hw73 : k0_chk73 i v2871), ∀ (k0_h1 : k0_cond1 i = 1#1), ∀ a, (k0_off109 v2871) a + S1x128x64.size a ≤ S4096x128x64.size a := fun i v2871 k0_hw73 k0_h1 => k0_hw73 k0_h1

def k0_off110 (v2872 : BitVec 32) : Fin 3 → Nat :=
  let c0_i32_1897 : BitVec 32 := 0#32
  let c0_i32_1898 : BitVec 32 := 0#32
  ![v2872.toNat, 0, 0]

def k0_off111 (v2872 : BitVec 32) : Fin 3 → Nat :=
  let c0_i32_1904 : BitVec 32 := 0#32
  let c0_i32_1905 : BitVec 32 := 0#32
  ![v2872.toNat, 0, 0]

def k0_chk74 (i : grid0.Coords) (v2872 : BitVec 32) : Prop :=
  (∀ (k0_h1 : k0_cond1 i = 1#1), ∀ a, (k0_off110 v2872) a + S1x128x128.size a ≤ S1024x128x128.size a) ∧
  (∀ (k0_h1 : k0_cond1 i = 1#1), ∀ (hinb : ∀ a, (k0_off110 v2872) a + S1x128x128.size a ≤ S1024x128x128.size a), (Rect.unit (s := S1024x128x128) (k0_off110 v2872) S1x128x128.size hinb).WholeWords (EltTy.packing .bf16)) ∧
  (∀ (k0_h1 : k0_cond1 i = 1#1), ∀ a, (k0_off111 v2872) a + S1x1x128.size a ≤ S1024x1x128.size a)
theorem k0_off110_inb : ∀ (i : grid0.Coords) (v2872 : BitVec 32) (k0_hw74 : k0_chk74 i v2872), ∀ (k0_h1 : k0_cond1 i = 1#1), ∀ a, (k0_off110 v2872) a + S1x128x128.size a ≤ S1024x128x128.size a := fun i v2872 k0_hw74 k0_h1 => k0_hw74.1 k0_h1
theorem k0_off110_wordsbf16 : ∀ (i : grid0.Coords) (v2872 : BitVec 32) (k0_hw74 : k0_chk74 i v2872), ∀ (k0_h1 : k0_cond1 i = 1#1), (Rect.unit (s := S1024x128x128) (k0_off110 v2872) S1x128x128.size (k0_off110_inb i v2872 k0_hw74 k0_h1)).WholeWords (EltTy.packing .bf16) := fun i v2872 k0_hw74 k0_h1 => k0_hw74.2.1 k0_h1 (k0_off110_inb i v2872 k0_hw74 k0_h1)
theorem k0_off111_inb : ∀ (i : grid0.Coords) (v2872 : BitVec 32) (k0_hw74 : k0_chk74 i v2872), ∀ (k0_h1 : k0_cond1 i = 1#1), ∀ a, (k0_off111 v2872) a + S1x1x128.size a ≤ S1024x1x128.size a := fun i v2872 k0_hw74 k0_h1 => k0_hw74.2.2 k0_h1

def k0_off112 (v2891 : BitVec 32) : Fin 3 → Nat :=
  let c0_i32_1913 : BitVec 32 := 0#32
  let c0_i32_1914 : BitVec 32 := 0#32
  ![v2891.toNat, 0, 0]

def k0_chk75 (i : grid0.Coords) (v2891 : BitVec 32) : Prop :=
  (∀ (k0_h1 : k0_cond1 i = 1#1), ∀ a, (k0_off112 v2891) a + S1x128x64.size a ≤ S4096x128x64.size a)
theorem k0_off112_inb : ∀ (i : grid0.Coords) (v2891 : BitVec 32) (k0_hw75 : k0_chk75 i v2891), ∀ (k0_h1 : k0_cond1 i = 1#1), ∀ a, (k0_off112 v2891) a + S1x128x64.size a ≤ S4096x128x64.size a := fun i v2891 k0_hw75 k0_h1 => k0_hw75 k0_h1

def k0_off113 (v2892 : BitVec 32) : Fin 3 → Nat :=
  let c0_i32_1920 : BitVec 32 := 0#32
  let c0_i32_1921 : BitVec 32 := 0#32
  ![v2892.toNat, 0, 0]

def k0_off114 (v2892 : BitVec 32) : Fin 3 → Nat :=
  let c0_i32_1927 : BitVec 32 := 0#32
  let c0_i32_1928 : BitVec 32 := 0#32
  ![v2892.toNat, 0, 0]

def k0_chk76 (i : grid0.Coords) (v2892 : BitVec 32) : Prop :=
  (∀ (k0_h1 : k0_cond1 i = 1#1), ∀ a, (k0_off113 v2892) a + S1x128x128.size a ≤ S1024x128x128.size a) ∧
  (∀ (k0_h1 : k0_cond1 i = 1#1), ∀ (hinb : ∀ a, (k0_off113 v2892) a + S1x128x128.size a ≤ S1024x128x128.size a), (Rect.unit (s := S1024x128x128) (k0_off113 v2892) S1x128x128.size hinb).WholeWords (EltTy.packing .bf16)) ∧
  (∀ (k0_h1 : k0_cond1 i = 1#1), ∀ a, (k0_off114 v2892) a + S1x1x128.size a ≤ S1024x1x128.size a)
theorem k0_off113_inb : ∀ (i : grid0.Coords) (v2892 : BitVec 32) (k0_hw76 : k0_chk76 i v2892), ∀ (k0_h1 : k0_cond1 i = 1#1), ∀ a, (k0_off113 v2892) a + S1x128x128.size a ≤ S1024x128x128.size a := fun i v2892 k0_hw76 k0_h1 => k0_hw76.1 k0_h1
theorem k0_off113_wordsbf16 : ∀ (i : grid0.Coords) (v2892 : BitVec 32) (k0_hw76 : k0_chk76 i v2892), ∀ (k0_h1 : k0_cond1 i = 1#1), (Rect.unit (s := S1024x128x128) (k0_off113 v2892) S1x128x128.size (k0_off113_inb i v2892 k0_hw76 k0_h1)).WholeWords (EltTy.packing .bf16) := fun i v2892 k0_hw76 k0_h1 => k0_hw76.2.1 k0_h1 (k0_off113_inb i v2892 k0_hw76 k0_h1)
theorem k0_off114_inb : ∀ (i : grid0.Coords) (v2892 : BitVec 32) (k0_hw76 : k0_chk76 i v2892), ∀ (k0_h1 : k0_cond1 i = 1#1), ∀ a, (k0_off114 v2892) a + S1x1x128.size a ≤ S1024x1x128.size a := fun i v2892 k0_hw76 k0_h1 => k0_hw76.2.2 k0_h1

def k0_off115 (v2911 : BitVec 32) : Fin 3 → Nat :=
  let c0_i32_1936 : BitVec 32 := 0#32
  let c0_i32_1937 : BitVec 32 := 0#32
  ![v2911.toNat, 0, 0]

def k0_chk77 (i : grid0.Coords) (v2911 : BitVec 32) : Prop :=
  (∀ (k0_h1 : k0_cond1 i = 1#1), ∀ a, (k0_off115 v2911) a + S1x128x64.size a ≤ S4096x128x64.size a)
theorem k0_off115_inb : ∀ (i : grid0.Coords) (v2911 : BitVec 32) (k0_hw77 : k0_chk77 i v2911), ∀ (k0_h1 : k0_cond1 i = 1#1), ∀ a, (k0_off115 v2911) a + S1x128x64.size a ≤ S4096x128x64.size a := fun i v2911 k0_hw77 k0_h1 => k0_hw77 k0_h1

def k0_off116 (v2912 : BitVec 32) : Fin 3 → Nat :=
  let c0_i32_1943 : BitVec 32 := 0#32
  let c0_i32_1944 : BitVec 32 := 0#32
  ![v2912.toNat, 0, 0]

def k0_off117 (v2912 : BitVec 32) : Fin 3 → Nat :=
  let c0_i32_1950 : BitVec 32 := 0#32
  let c0_i32_1951 : BitVec 32 := 0#32
  ![v2912.toNat, 0, 0]

def k0_chk78 (i : grid0.Coords) (v2912 : BitVec 32) : Prop :=
  (∀ (k0_h1 : k0_cond1 i = 1#1), ∀ a, (k0_off116 v2912) a + S1x128x128.size a ≤ S1024x128x128.size a) ∧
  (∀ (k0_h1 : k0_cond1 i = 1#1), ∀ (hinb : ∀ a, (k0_off116 v2912) a + S1x128x128.size a ≤ S1024x128x128.size a), (Rect.unit (s := S1024x128x128) (k0_off116 v2912) S1x128x128.size hinb).WholeWords (EltTy.packing .bf16)) ∧
  (∀ (k0_h1 : k0_cond1 i = 1#1), ∀ a, (k0_off117 v2912) a + S1x1x128.size a ≤ S1024x1x128.size a)
theorem k0_off116_inb : ∀ (i : grid0.Coords) (v2912 : BitVec 32) (k0_hw78 : k0_chk78 i v2912), ∀ (k0_h1 : k0_cond1 i = 1#1), ∀ a, (k0_off116 v2912) a + S1x128x128.size a ≤ S1024x128x128.size a := fun i v2912 k0_hw78 k0_h1 => k0_hw78.1 k0_h1
theorem k0_off116_wordsbf16 : ∀ (i : grid0.Coords) (v2912 : BitVec 32) (k0_hw78 : k0_chk78 i v2912), ∀ (k0_h1 : k0_cond1 i = 1#1), (Rect.unit (s := S1024x128x128) (k0_off116 v2912) S1x128x128.size (k0_off116_inb i v2912 k0_hw78 k0_h1)).WholeWords (EltTy.packing .bf16) := fun i v2912 k0_hw78 k0_h1 => k0_hw78.2.1 k0_h1 (k0_off116_inb i v2912 k0_hw78 k0_h1)
theorem k0_off117_inb : ∀ (i : grid0.Coords) (v2912 : BitVec 32) (k0_hw78 : k0_chk78 i v2912), ∀ (k0_h1 : k0_cond1 i = 1#1), ∀ a, (k0_off117 v2912) a + S1x1x128.size a ≤ S1024x1x128.size a := fun i v2912 k0_hw78 k0_h1 => k0_hw78.2.2 k0_h1

def k0_off118 (v2931 : BitVec 32) : Fin 3 → Nat :=
  let c0_i32_1959 : BitVec 32 := 0#32
  let c0_i32_1960 : BitVec 32 := 0#32
  ![v2931.toNat, 0, 0]

def k0_chk79 (i : grid0.Coords) (v2931 : BitVec 32) : Prop :=
  (∀ (k0_h1 : k0_cond1 i = 1#1), ∀ a, (k0_off118 v2931) a + S1x128x64.size a ≤ S4096x128x64.size a)
theorem k0_off118_inb : ∀ (i : grid0.Coords) (v2931 : BitVec 32) (k0_hw79 : k0_chk79 i v2931), ∀ (k0_h1 : k0_cond1 i = 1#1), ∀ a, (k0_off118 v2931) a + S1x128x64.size a ≤ S4096x128x64.size a := fun i v2931 k0_hw79 k0_h1 => k0_hw79 k0_h1

def k0_off119 (v2932 : BitVec 32) : Fin 3 → Nat :=
  let c0_i32_1966 : BitVec 32 := 0#32
  let c0_i32_1967 : BitVec 32 := 0#32
  ![v2932.toNat, 0, 0]

def k0_off120 (v2932 : BitVec 32) : Fin 3 → Nat :=
  let c0_i32_1973 : BitVec 32 := 0#32
  let c0_i32_1974 : BitVec 32 := 0#32
  ![v2932.toNat, 0, 0]

def k0_chk80 (i : grid0.Coords) (v2932 : BitVec 32) : Prop :=
  (∀ (k0_h1 : k0_cond1 i = 1#1), ∀ a, (k0_off119 v2932) a + S1x128x128.size a ≤ S1024x128x128.size a) ∧
  (∀ (k0_h1 : k0_cond1 i = 1#1), ∀ (hinb : ∀ a, (k0_off119 v2932) a + S1x128x128.size a ≤ S1024x128x128.size a), (Rect.unit (s := S1024x128x128) (k0_off119 v2932) S1x128x128.size hinb).WholeWords (EltTy.packing .bf16)) ∧
  (∀ (k0_h1 : k0_cond1 i = 1#1), ∀ a, (k0_off120 v2932) a + S1x1x128.size a ≤ S1024x1x128.size a)
theorem k0_off119_inb : ∀ (i : grid0.Coords) (v2932 : BitVec 32) (k0_hw80 : k0_chk80 i v2932), ∀ (k0_h1 : k0_cond1 i = 1#1), ∀ a, (k0_off119 v2932) a + S1x128x128.size a ≤ S1024x128x128.size a := fun i v2932 k0_hw80 k0_h1 => k0_hw80.1 k0_h1
theorem k0_off119_wordsbf16 : ∀ (i : grid0.Coords) (v2932 : BitVec 32) (k0_hw80 : k0_chk80 i v2932), ∀ (k0_h1 : k0_cond1 i = 1#1), (Rect.unit (s := S1024x128x128) (k0_off119 v2932) S1x128x128.size (k0_off119_inb i v2932 k0_hw80 k0_h1)).WholeWords (EltTy.packing .bf16) := fun i v2932 k0_hw80 k0_h1 => k0_hw80.2.1 k0_h1 (k0_off119_inb i v2932 k0_hw80 k0_h1)
theorem k0_off120_inb : ∀ (i : grid0.Coords) (v2932 : BitVec 32) (k0_hw80 : k0_chk80 i v2932), ∀ (k0_h1 : k0_cond1 i = 1#1), ∀ a, (k0_off120 v2932) a + S1x1x128.size a ≤ S1024x1x128.size a := fun i v2932 k0_hw80 k0_h1 => k0_hw80.2.2 k0_h1

def k0_off121 (v2951 : BitVec 32) : Fin 3 → Nat :=
  let c0_i32_1982 : BitVec 32 := 0#32
  let c0_i32_1983 : BitVec 32 := 0#32
  ![v2951.toNat, 0, 0]

def k0_chk81 (i : grid0.Coords) (v2951 : BitVec 32) : Prop :=
  (∀ (k0_h1 : k0_cond1 i = 1#1), ∀ a, (k0_off121 v2951) a + S1x128x64.size a ≤ S4096x128x64.size a)
theorem k0_off121_inb : ∀ (i : grid0.Coords) (v2951 : BitVec 32) (k0_hw81 : k0_chk81 i v2951), ∀ (k0_h1 : k0_cond1 i = 1#1), ∀ a, (k0_off121 v2951) a + S1x128x64.size a ≤ S4096x128x64.size a := fun i v2951 k0_hw81 k0_h1 => k0_hw81 k0_h1

def k0_off122 (v2952 : BitVec 32) : Fin 3 → Nat :=
  let c0_i32_1989 : BitVec 32 := 0#32
  let c0_i32_1990 : BitVec 32 := 0#32
  ![v2952.toNat, 0, 0]

def k0_off123 (v2952 : BitVec 32) : Fin 3 → Nat :=
  let c0_i32_1996 : BitVec 32 := 0#32
  let c0_i32_1997 : BitVec 32 := 0#32
  ![v2952.toNat, 0, 0]

def k0_chk82 (i : grid0.Coords) (v2952 : BitVec 32) : Prop :=
  (∀ (k0_h1 : k0_cond1 i = 1#1), ∀ a, (k0_off122 v2952) a + S1x128x128.size a ≤ S1024x128x128.size a) ∧
  (∀ (k0_h1 : k0_cond1 i = 1#1), ∀ (hinb : ∀ a, (k0_off122 v2952) a + S1x128x128.size a ≤ S1024x128x128.size a), (Rect.unit (s := S1024x128x128) (k0_off122 v2952) S1x128x128.size hinb).WholeWords (EltTy.packing .bf16)) ∧
  (∀ (k0_h1 : k0_cond1 i = 1#1), ∀ a, (k0_off123 v2952) a + S1x1x128.size a ≤ S1024x1x128.size a)
theorem k0_off122_inb : ∀ (i : grid0.Coords) (v2952 : BitVec 32) (k0_hw82 : k0_chk82 i v2952), ∀ (k0_h1 : k0_cond1 i = 1#1), ∀ a, (k0_off122 v2952) a + S1x128x128.size a ≤ S1024x128x128.size a := fun i v2952 k0_hw82 k0_h1 => k0_hw82.1 k0_h1
theorem k0_off122_wordsbf16 : ∀ (i : grid0.Coords) (v2952 : BitVec 32) (k0_hw82 : k0_chk82 i v2952), ∀ (k0_h1 : k0_cond1 i = 1#1), (Rect.unit (s := S1024x128x128) (k0_off122 v2952) S1x128x128.size (k0_off122_inb i v2952 k0_hw82 k0_h1)).WholeWords (EltTy.packing .bf16) := fun i v2952 k0_hw82 k0_h1 => k0_hw82.2.1 k0_h1 (k0_off122_inb i v2952 k0_hw82 k0_h1)
theorem k0_off123_inb : ∀ (i : grid0.Coords) (v2952 : BitVec 32) (k0_hw82 : k0_chk82 i v2952), ∀ (k0_h1 : k0_cond1 i = 1#1), ∀ a, (k0_off123 v2952) a + S1x1x128.size a ≤ S1024x1x128.size a := fun i v2952 k0_hw82 k0_h1 => k0_hw82.2.2 k0_h1

def k0_off124 (v2971 : BitVec 32) : Fin 3 → Nat :=
  let c0_i32_2005 : BitVec 32 := 0#32
  let c0_i32_2006 : BitVec 32 := 0#32
  ![v2971.toNat, 0, 0]

def k0_chk83 (i : grid0.Coords) (v2971 : BitVec 32) : Prop :=
  (∀ (k0_h1 : k0_cond1 i = 1#1), ∀ a, (k0_off124 v2971) a + S1x128x64.size a ≤ S4096x128x64.size a)
theorem k0_off124_inb : ∀ (i : grid0.Coords) (v2971 : BitVec 32) (k0_hw83 : k0_chk83 i v2971), ∀ (k0_h1 : k0_cond1 i = 1#1), ∀ a, (k0_off124 v2971) a + S1x128x64.size a ≤ S4096x128x64.size a := fun i v2971 k0_hw83 k0_h1 => k0_hw83 k0_h1

def k0_off125 (v2972 : BitVec 32) : Fin 3 → Nat :=
  let c0_i32_2012 : BitVec 32 := 0#32
  let c0_i32_2013 : BitVec 32 := 0#32
  ![v2972.toNat, 0, 0]

def k0_off126 (v2972 : BitVec 32) : Fin 3 → Nat :=
  let c0_i32_2019 : BitVec 32 := 0#32
  let c0_i32_2020 : BitVec 32 := 0#32
  ![v2972.toNat, 0, 0]

def k0_chk84 (i : grid0.Coords) (v2972 : BitVec 32) : Prop :=
  (∀ (k0_h1 : k0_cond1 i = 1#1), ∀ a, (k0_off125 v2972) a + S1x128x128.size a ≤ S1024x128x128.size a) ∧
  (∀ (k0_h1 : k0_cond1 i = 1#1), ∀ (hinb : ∀ a, (k0_off125 v2972) a + S1x128x128.size a ≤ S1024x128x128.size a), (Rect.unit (s := S1024x128x128) (k0_off125 v2972) S1x128x128.size hinb).WholeWords (EltTy.packing .bf16)) ∧
  (∀ (k0_h1 : k0_cond1 i = 1#1), ∀ a, (k0_off126 v2972) a + S1x1x128.size a ≤ S1024x1x128.size a)
theorem k0_off125_inb : ∀ (i : grid0.Coords) (v2972 : BitVec 32) (k0_hw84 : k0_chk84 i v2972), ∀ (k0_h1 : k0_cond1 i = 1#1), ∀ a, (k0_off125 v2972) a + S1x128x128.size a ≤ S1024x128x128.size a := fun i v2972 k0_hw84 k0_h1 => k0_hw84.1 k0_h1
theorem k0_off125_wordsbf16 : ∀ (i : grid0.Coords) (v2972 : BitVec 32) (k0_hw84 : k0_chk84 i v2972), ∀ (k0_h1 : k0_cond1 i = 1#1), (Rect.unit (s := S1024x128x128) (k0_off125 v2972) S1x128x128.size (k0_off125_inb i v2972 k0_hw84 k0_h1)).WholeWords (EltTy.packing .bf16) := fun i v2972 k0_hw84 k0_h1 => k0_hw84.2.1 k0_h1 (k0_off125_inb i v2972 k0_hw84 k0_h1)
theorem k0_off126_inb : ∀ (i : grid0.Coords) (v2972 : BitVec 32) (k0_hw84 : k0_chk84 i v2972), ∀ (k0_h1 : k0_cond1 i = 1#1), ∀ a, (k0_off126 v2972) a + S1x1x128.size a ≤ S1024x1x128.size a := fun i v2972 k0_hw84 k0_h1 => k0_hw84.2.2 k0_h1

def k0_off127 (v2991 : BitVec 32) : Fin 3 → Nat :=
  let c0_i32_2028 : BitVec 32 := 0#32
  let c0_i32_2029 : BitVec 32 := 0#32
  ![v2991.toNat, 0, 0]

def k0_chk85 (i : grid0.Coords) (v2991 : BitVec 32) : Prop :=
  (∀ (k0_h1 : k0_cond1 i = 1#1), ∀ a, (k0_off127 v2991) a + S1x128x64.size a ≤ S4096x128x64.size a)
theorem k0_off127_inb : ∀ (i : grid0.Coords) (v2991 : BitVec 32) (k0_hw85 : k0_chk85 i v2991), ∀ (k0_h1 : k0_cond1 i = 1#1), ∀ a, (k0_off127 v2991) a + S1x128x64.size a ≤ S4096x128x64.size a := fun i v2991 k0_hw85 k0_h1 => k0_hw85 k0_h1

def k0_off128 (v2992 : BitVec 32) : Fin 3 → Nat :=
  let c0_i32_2035 : BitVec 32 := 0#32
  let c0_i32_2036 : BitVec 32 := 0#32
  ![v2992.toNat, 0, 0]

def k0_off129 (v2992 : BitVec 32) : Fin 3 → Nat :=
  let c0_i32_2042 : BitVec 32 := 0#32
  let c0_i32_2043 : BitVec 32 := 0#32
  ![v2992.toNat, 0, 0]

def k0_chk86 (i : grid0.Coords) (v2992 : BitVec 32) : Prop :=
  (∀ (k0_h1 : k0_cond1 i = 1#1), ∀ a, (k0_off128 v2992) a + S1x128x128.size a ≤ S1024x128x128.size a) ∧
  (∀ (k0_h1 : k0_cond1 i = 1#1), ∀ (hinb : ∀ a, (k0_off128 v2992) a + S1x128x128.size a ≤ S1024x128x128.size a), (Rect.unit (s := S1024x128x128) (k0_off128 v2992) S1x128x128.size hinb).WholeWords (EltTy.packing .bf16)) ∧
  (∀ (k0_h1 : k0_cond1 i = 1#1), ∀ a, (k0_off129 v2992) a + S1x1x128.size a ≤ S1024x1x128.size a)
theorem k0_off128_inb : ∀ (i : grid0.Coords) (v2992 : BitVec 32) (k0_hw86 : k0_chk86 i v2992), ∀ (k0_h1 : k0_cond1 i = 1#1), ∀ a, (k0_off128 v2992) a + S1x128x128.size a ≤ S1024x128x128.size a := fun i v2992 k0_hw86 k0_h1 => k0_hw86.1 k0_h1
theorem k0_off128_wordsbf16 : ∀ (i : grid0.Coords) (v2992 : BitVec 32) (k0_hw86 : k0_chk86 i v2992), ∀ (k0_h1 : k0_cond1 i = 1#1), (Rect.unit (s := S1024x128x128) (k0_off128 v2992) S1x128x128.size (k0_off128_inb i v2992 k0_hw86 k0_h1)).WholeWords (EltTy.packing .bf16) := fun i v2992 k0_hw86 k0_h1 => k0_hw86.2.1 k0_h1 (k0_off128_inb i v2992 k0_hw86 k0_h1)
theorem k0_off129_inb : ∀ (i : grid0.Coords) (v2992 : BitVec 32) (k0_hw86 : k0_chk86 i v2992), ∀ (k0_h1 : k0_cond1 i = 1#1), ∀ a, (k0_off129 v2992) a + S1x1x128.size a ≤ S1024x1x128.size a := fun i v2992 k0_hw86 k0_h1 => k0_hw86.2.2 k0_h1

def k0_off130 (v3011 : BitVec 32) : Fin 3 → Nat :=
  let c0_i32_2051 : BitVec 32 := 0#32
  let c0_i32_2052 : BitVec 32 := 0#32
  ![v3011.toNat, 0, 0]

def k0_chk87 (i : grid0.Coords) (v3011 : BitVec 32) : Prop :=
  (∀ (k0_h1 : k0_cond1 i = 1#1), ∀ a, (k0_off130 v3011) a + S1x128x64.size a ≤ S4096x128x64.size a)
theorem k0_off130_inb : ∀ (i : grid0.Coords) (v3011 : BitVec 32) (k0_hw87 : k0_chk87 i v3011), ∀ (k0_h1 : k0_cond1 i = 1#1), ∀ a, (k0_off130 v3011) a + S1x128x64.size a ≤ S4096x128x64.size a := fun i v3011 k0_hw87 k0_h1 => k0_hw87 k0_h1

def k0_off131 (v3012 : BitVec 32) : Fin 3 → Nat :=
  let c0_i32_2058 : BitVec 32 := 0#32
  let c0_i32_2059 : BitVec 32 := 0#32
  ![v3012.toNat, 0, 0]

def k0_off132 (v3012 : BitVec 32) : Fin 3 → Nat :=
  let c0_i32_2065 : BitVec 32 := 0#32
  let c0_i32_2066 : BitVec 32 := 0#32
  ![v3012.toNat, 0, 0]

def k0_chk88 (i : grid0.Coords) (v3012 : BitVec 32) : Prop :=
  (∀ (k0_h1 : k0_cond1 i = 1#1), ∀ a, (k0_off131 v3012) a + S1x128x128.size a ≤ S1024x128x128.size a) ∧
  (∀ (k0_h1 : k0_cond1 i = 1#1), ∀ (hinb : ∀ a, (k0_off131 v3012) a + S1x128x128.size a ≤ S1024x128x128.size a), (Rect.unit (s := S1024x128x128) (k0_off131 v3012) S1x128x128.size hinb).WholeWords (EltTy.packing .bf16)) ∧
  (∀ (k0_h1 : k0_cond1 i = 1#1), ∀ a, (k0_off132 v3012) a + S1x1x128.size a ≤ S1024x1x128.size a)
theorem k0_off131_inb : ∀ (i : grid0.Coords) (v3012 : BitVec 32) (k0_hw88 : k0_chk88 i v3012), ∀ (k0_h1 : k0_cond1 i = 1#1), ∀ a, (k0_off131 v3012) a + S1x128x128.size a ≤ S1024x128x128.size a := fun i v3012 k0_hw88 k0_h1 => k0_hw88.1 k0_h1
theorem k0_off131_wordsbf16 : ∀ (i : grid0.Coords) (v3012 : BitVec 32) (k0_hw88 : k0_chk88 i v3012), ∀ (k0_h1 : k0_cond1 i = 1#1), (Rect.unit (s := S1024x128x128) (k0_off131 v3012) S1x128x128.size (k0_off131_inb i v3012 k0_hw88 k0_h1)).WholeWords (EltTy.packing .bf16) := fun i v3012 k0_hw88 k0_h1 => k0_hw88.2.1 k0_h1 (k0_off131_inb i v3012 k0_hw88 k0_h1)
theorem k0_off132_inb : ∀ (i : grid0.Coords) (v3012 : BitVec 32) (k0_hw88 : k0_chk88 i v3012), ∀ (k0_h1 : k0_cond1 i = 1#1), ∀ a, (k0_off132 v3012) a + S1x1x128.size a ≤ S1024x1x128.size a := fun i v3012 k0_hw88 k0_h1 => k0_hw88.2.2 k0_h1

def k0_off133 (v3031 : BitVec 32) : Fin 3 → Nat :=
  let c0_i32_2074 : BitVec 32 := 0#32
  let c0_i32_2075 : BitVec 32 := 0#32
  ![v3031.toNat, 0, 0]

def k0_chk89 (i : grid0.Coords) (v3031 : BitVec 32) : Prop :=
  (∀ (k0_h1 : k0_cond1 i = 1#1), ∀ a, (k0_off133 v3031) a + S1x128x64.size a ≤ S4096x128x64.size a)
theorem k0_off133_inb : ∀ (i : grid0.Coords) (v3031 : BitVec 32) (k0_hw89 : k0_chk89 i v3031), ∀ (k0_h1 : k0_cond1 i = 1#1), ∀ a, (k0_off133 v3031) a + S1x128x64.size a ≤ S4096x128x64.size a := fun i v3031 k0_hw89 k0_h1 => k0_hw89 k0_h1

def k0_off134 (v3032 : BitVec 32) : Fin 3 → Nat :=
  let c0_i32_2081 : BitVec 32 := 0#32
  let c0_i32_2082 : BitVec 32 := 0#32
  ![v3032.toNat, 0, 0]

def k0_off135 (v3032 : BitVec 32) : Fin 3 → Nat :=
  let c0_i32_2088 : BitVec 32 := 0#32
  let c0_i32_2089 : BitVec 32 := 0#32
  ![v3032.toNat, 0, 0]

def k0_chk90 (i : grid0.Coords) (v3032 : BitVec 32) : Prop :=
  (∀ (k0_h1 : k0_cond1 i = 1#1), ∀ a, (k0_off134 v3032) a + S1x128x128.size a ≤ S1024x128x128.size a) ∧
  (∀ (k0_h1 : k0_cond1 i = 1#1), ∀ (hinb : ∀ a, (k0_off134 v3032) a + S1x128x128.size a ≤ S1024x128x128.size a), (Rect.unit (s := S1024x128x128) (k0_off134 v3032) S1x128x128.size hinb).WholeWords (EltTy.packing .bf16)) ∧
  (∀ (k0_h1 : k0_cond1 i = 1#1), ∀ a, (k0_off135 v3032) a + S1x1x128.size a ≤ S1024x1x128.size a)
theorem k0_off134_inb : ∀ (i : grid0.Coords) (v3032 : BitVec 32) (k0_hw90 : k0_chk90 i v3032), ∀ (k0_h1 : k0_cond1 i = 1#1), ∀ a, (k0_off134 v3032) a + S1x128x128.size a ≤ S1024x128x128.size a := fun i v3032 k0_hw90 k0_h1 => k0_hw90.1 k0_h1
theorem k0_off134_wordsbf16 : ∀ (i : grid0.Coords) (v3032 : BitVec 32) (k0_hw90 : k0_chk90 i v3032), ∀ (k0_h1 : k0_cond1 i = 1#1), (Rect.unit (s := S1024x128x128) (k0_off134 v3032) S1x128x128.size (k0_off134_inb i v3032 k0_hw90 k0_h1)).WholeWords (EltTy.packing .bf16) := fun i v3032 k0_hw90 k0_h1 => k0_hw90.2.1 k0_h1 (k0_off134_inb i v3032 k0_hw90 k0_h1)
theorem k0_off135_inb : ∀ (i : grid0.Coords) (v3032 : BitVec 32) (k0_hw90 : k0_chk90 i v3032), ∀ (k0_h1 : k0_cond1 i = 1#1), ∀ a, (k0_off135 v3032) a + S1x1x128.size a ≤ S1024x1x128.size a := fun i v3032 k0_hw90 k0_h1 => k0_hw90.2.2 k0_h1

def k0_off136 (v3051 : BitVec 32) : Fin 3 → Nat :=
  let c0_i32_2097 : BitVec 32 := 0#32
  let c0_i32_2098 : BitVec 32 := 0#32
  ![v3051.toNat, 0, 0]

def k0_chk91 (i : grid0.Coords) (v3051 : BitVec 32) : Prop :=
  (∀ (k0_h1 : k0_cond1 i = 1#1), ∀ a, (k0_off136 v3051) a + S1x128x64.size a ≤ S4096x128x64.size a)
theorem k0_off136_inb : ∀ (i : grid0.Coords) (v3051 : BitVec 32) (k0_hw91 : k0_chk91 i v3051), ∀ (k0_h1 : k0_cond1 i = 1#1), ∀ a, (k0_off136 v3051) a + S1x128x64.size a ≤ S4096x128x64.size a := fun i v3051 k0_hw91 k0_h1 => k0_hw91 k0_h1

def k0_off137 (v3052 : BitVec 32) : Fin 3 → Nat :=
  let c0_i32_2104 : BitVec 32 := 0#32
  let c0_i32_2105 : BitVec 32 := 0#32
  ![v3052.toNat, 0, 0]

def k0_off138 (v3052 : BitVec 32) : Fin 3 → Nat :=
  let c0_i32_2111 : BitVec 32 := 0#32
  let c0_i32_2112 : BitVec 32 := 0#32
  ![v3052.toNat, 0, 0]

def k0_chk92 (i : grid0.Coords) (v3052 : BitVec 32) : Prop :=
  (∀ (k0_h1 : k0_cond1 i = 1#1), ∀ a, (k0_off137 v3052) a + S1x128x128.size a ≤ S1024x128x128.size a) ∧
  (∀ (k0_h1 : k0_cond1 i = 1#1), ∀ (hinb : ∀ a, (k0_off137 v3052) a + S1x128x128.size a ≤ S1024x128x128.size a), (Rect.unit (s := S1024x128x128) (k0_off137 v3052) S1x128x128.size hinb).WholeWords (EltTy.packing .bf16)) ∧
  (∀ (k0_h1 : k0_cond1 i = 1#1), ∀ a, (k0_off138 v3052) a + S1x1x128.size a ≤ S1024x1x128.size a)
theorem k0_off137_inb : ∀ (i : grid0.Coords) (v3052 : BitVec 32) (k0_hw92 : k0_chk92 i v3052), ∀ (k0_h1 : k0_cond1 i = 1#1), ∀ a, (k0_off137 v3052) a + S1x128x128.size a ≤ S1024x128x128.size a := fun i v3052 k0_hw92 k0_h1 => k0_hw92.1 k0_h1
theorem k0_off137_wordsbf16 : ∀ (i : grid0.Coords) (v3052 : BitVec 32) (k0_hw92 : k0_chk92 i v3052), ∀ (k0_h1 : k0_cond1 i = 1#1), (Rect.unit (s := S1024x128x128) (k0_off137 v3052) S1x128x128.size (k0_off137_inb i v3052 k0_hw92 k0_h1)).WholeWords (EltTy.packing .bf16) := fun i v3052 k0_hw92 k0_h1 => k0_hw92.2.1 k0_h1 (k0_off137_inb i v3052 k0_hw92 k0_h1)
theorem k0_off138_inb : ∀ (i : grid0.Coords) (v3052 : BitVec 32) (k0_hw92 : k0_chk92 i v3052), ∀ (k0_h1 : k0_cond1 i = 1#1), ∀ a, (k0_off138 v3052) a + S1x1x128.size a ≤ S1024x1x128.size a := fun i v3052 k0_hw92 k0_h1 => k0_hw92.2.2 k0_h1

def k0_off139 (v3071 : BitVec 32) : Fin 3 → Nat :=
  let c0_i32_2120 : BitVec 32 := 0#32
  let c0_i32_2121 : BitVec 32 := 0#32
  ![v3071.toNat, 0, 0]

def k0_chk93 (i : grid0.Coords) (v3071 : BitVec 32) : Prop :=
  (∀ (k0_h1 : k0_cond1 i = 1#1), ∀ a, (k0_off139 v3071) a + S1x128x64.size a ≤ S4096x128x64.size a)
theorem k0_off139_inb : ∀ (i : grid0.Coords) (v3071 : BitVec 32) (k0_hw93 : k0_chk93 i v3071), ∀ (k0_h1 : k0_cond1 i = 1#1), ∀ a, (k0_off139 v3071) a + S1x128x64.size a ≤ S4096x128x64.size a := fun i v3071 k0_hw93 k0_h1 => k0_hw93 k0_h1

def k0_off140 (v3072 : BitVec 32) : Fin 3 → Nat :=
  let c0_i32_2127 : BitVec 32 := 0#32
  let c0_i32_2128 : BitVec 32 := 0#32
  ![v3072.toNat, 0, 0]

def k0_off141 (v3072 : BitVec 32) : Fin 3 → Nat :=
  let c0_i32_2134 : BitVec 32 := 0#32
  let c0_i32_2135 : BitVec 32 := 0#32
  ![v3072.toNat, 0, 0]

def k0_chk94 (i : grid0.Coords) (v3072 : BitVec 32) : Prop :=
  (∀ (k0_h1 : k0_cond1 i = 1#1), ∀ a, (k0_off140 v3072) a + S1x128x128.size a ≤ S1024x128x128.size a) ∧
  (∀ (k0_h1 : k0_cond1 i = 1#1), ∀ (hinb : ∀ a, (k0_off140 v3072) a + S1x128x128.size a ≤ S1024x128x128.size a), (Rect.unit (s := S1024x128x128) (k0_off140 v3072) S1x128x128.size hinb).WholeWords (EltTy.packing .bf16)) ∧
  (∀ (k0_h1 : k0_cond1 i = 1#1), ∀ a, (k0_off141 v3072) a + S1x1x128.size a ≤ S1024x1x128.size a)
theorem k0_off140_inb : ∀ (i : grid0.Coords) (v3072 : BitVec 32) (k0_hw94 : k0_chk94 i v3072), ∀ (k0_h1 : k0_cond1 i = 1#1), ∀ a, (k0_off140 v3072) a + S1x128x128.size a ≤ S1024x128x128.size a := fun i v3072 k0_hw94 k0_h1 => k0_hw94.1 k0_h1
theorem k0_off140_wordsbf16 : ∀ (i : grid0.Coords) (v3072 : BitVec 32) (k0_hw94 : k0_chk94 i v3072), ∀ (k0_h1 : k0_cond1 i = 1#1), (Rect.unit (s := S1024x128x128) (k0_off140 v3072) S1x128x128.size (k0_off140_inb i v3072 k0_hw94 k0_h1)).WholeWords (EltTy.packing .bf16) := fun i v3072 k0_hw94 k0_h1 => k0_hw94.2.1 k0_h1 (k0_off140_inb i v3072 k0_hw94 k0_h1)
theorem k0_off141_inb : ∀ (i : grid0.Coords) (v3072 : BitVec 32) (k0_hw94 : k0_chk94 i v3072), ∀ (k0_h1 : k0_cond1 i = 1#1), ∀ a, (k0_off141 v3072) a + S1x1x128.size a ≤ S1024x1x128.size a := fun i v3072 k0_hw94 k0_h1 => k0_hw94.2.2 k0_h1

def k0_off142 (v3091 : BitVec 32) : Fin 3 → Nat :=
  let c0_i32_2143 : BitVec 32 := 0#32
  let c0_i32_2144 : BitVec 32 := 0#32
  ![v3091.toNat, 0, 0]

def k0_chk95 (i : grid0.Coords) (v3091 : BitVec 32) : Prop :=
  (∀ (k0_h1 : k0_cond1 i = 1#1), ∀ a, (k0_off142 v3091) a + S1x128x64.size a ≤ S4096x128x64.size a)
theorem k0_off142_inb : ∀ (i : grid0.Coords) (v3091 : BitVec 32) (k0_hw95 : k0_chk95 i v3091), ∀ (k0_h1 : k0_cond1 i = 1#1), ∀ a, (k0_off142 v3091) a + S1x128x64.size a ≤ S4096x128x64.size a := fun i v3091 k0_hw95 k0_h1 => k0_hw95 k0_h1

def k0_off143 (v3092 : BitVec 32) : Fin 3 → Nat :=
  let c0_i32_2150 : BitVec 32 := 0#32
  let c0_i32_2151 : BitVec 32 := 0#32
  ![v3092.toNat, 0, 0]

def k0_off144 (v3092 : BitVec 32) : Fin 3 → Nat :=
  let c0_i32_2157 : BitVec 32 := 0#32
  let c0_i32_2158 : BitVec 32 := 0#32
  ![v3092.toNat, 0, 0]

def k0_chk96 (i : grid0.Coords) (v3092 : BitVec 32) : Prop :=
  (∀ (k0_h1 : k0_cond1 i = 1#1), ∀ a, (k0_off143 v3092) a + S1x128x128.size a ≤ S1024x128x128.size a) ∧
  (∀ (k0_h1 : k0_cond1 i = 1#1), ∀ (hinb : ∀ a, (k0_off143 v3092) a + S1x128x128.size a ≤ S1024x128x128.size a), (Rect.unit (s := S1024x128x128) (k0_off143 v3092) S1x128x128.size hinb).WholeWords (EltTy.packing .bf16)) ∧
  (∀ (k0_h1 : k0_cond1 i = 1#1), ∀ a, (k0_off144 v3092) a + S1x1x128.size a ≤ S1024x1x128.size a)
theorem k0_off143_inb : ∀ (i : grid0.Coords) (v3092 : BitVec 32) (k0_hw96 : k0_chk96 i v3092), ∀ (k0_h1 : k0_cond1 i = 1#1), ∀ a, (k0_off143 v3092) a + S1x128x128.size a ≤ S1024x128x128.size a := fun i v3092 k0_hw96 k0_h1 => k0_hw96.1 k0_h1
theorem k0_off143_wordsbf16 : ∀ (i : grid0.Coords) (v3092 : BitVec 32) (k0_hw96 : k0_chk96 i v3092), ∀ (k0_h1 : k0_cond1 i = 1#1), (Rect.unit (s := S1024x128x128) (k0_off143 v3092) S1x128x128.size (k0_off143_inb i v3092 k0_hw96 k0_h1)).WholeWords (EltTy.packing .bf16) := fun i v3092 k0_hw96 k0_h1 => k0_hw96.2.1 k0_h1 (k0_off143_inb i v3092 k0_hw96 k0_h1)
theorem k0_off144_inb : ∀ (i : grid0.Coords) (v3092 : BitVec 32) (k0_hw96 : k0_chk96 i v3092), ∀ (k0_h1 : k0_cond1 i = 1#1), ∀ a, (k0_off144 v3092) a + S1x1x128.size a ≤ S1024x1x128.size a := fun i v3092 k0_hw96 k0_h1 => k0_hw96.2.2 k0_h1

def k0_off145 (v3111 : BitVec 32) : Fin 3 → Nat :=
  let c0_i32_2166 : BitVec 32 := 0#32
  let c0_i32_2167 : BitVec 32 := 0#32
  ![v3111.toNat, 0, 0]

def k0_chk97 (i : grid0.Coords) (v3111 : BitVec 32) : Prop :=
  (∀ (k0_h1 : k0_cond1 i = 1#1), ∀ a, (k0_off145 v3111) a + S1x128x64.size a ≤ S4096x128x64.size a)
theorem k0_off145_inb : ∀ (i : grid0.Coords) (v3111 : BitVec 32) (k0_hw97 : k0_chk97 i v3111), ∀ (k0_h1 : k0_cond1 i = 1#1), ∀ a, (k0_off145 v3111) a + S1x128x64.size a ≤ S4096x128x64.size a := fun i v3111 k0_hw97 k0_h1 => k0_hw97 k0_h1

def k0_off146 (v3112 : BitVec 32) : Fin 3 → Nat :=
  let c0_i32_2173 : BitVec 32 := 0#32
  let c0_i32_2174 : BitVec 32 := 0#32
  ![v3112.toNat, 0, 0]

def k0_off147 (v3112 : BitVec 32) : Fin 3 → Nat :=
  let c0_i32_2180 : BitVec 32 := 0#32
  let c0_i32_2181 : BitVec 32 := 0#32
  ![v3112.toNat, 0, 0]

def k0_chk98 (i : grid0.Coords) (v3112 : BitVec 32) : Prop :=
  (∀ (k0_h1 : k0_cond1 i = 1#1), ∀ a, (k0_off146 v3112) a + S1x128x128.size a ≤ S1024x128x128.size a) ∧
  (∀ (k0_h1 : k0_cond1 i = 1#1), ∀ (hinb : ∀ a, (k0_off146 v3112) a + S1x128x128.size a ≤ S1024x128x128.size a), (Rect.unit (s := S1024x128x128) (k0_off146 v3112) S1x128x128.size hinb).WholeWords (EltTy.packing .bf16)) ∧
  (∀ (k0_h1 : k0_cond1 i = 1#1), ∀ a, (k0_off147 v3112) a + S1x1x128.size a ≤ S1024x1x128.size a)
theorem k0_off146_inb : ∀ (i : grid0.Coords) (v3112 : BitVec 32) (k0_hw98 : k0_chk98 i v3112), ∀ (k0_h1 : k0_cond1 i = 1#1), ∀ a, (k0_off146 v3112) a + S1x128x128.size a ≤ S1024x128x128.size a := fun i v3112 k0_hw98 k0_h1 => k0_hw98.1 k0_h1
theorem k0_off146_wordsbf16 : ∀ (i : grid0.Coords) (v3112 : BitVec 32) (k0_hw98 : k0_chk98 i v3112), ∀ (k0_h1 : k0_cond1 i = 1#1), (Rect.unit (s := S1024x128x128) (k0_off146 v3112) S1x128x128.size (k0_off146_inb i v3112 k0_hw98 k0_h1)).WholeWords (EltTy.packing .bf16) := fun i v3112 k0_hw98 k0_h1 => k0_hw98.2.1 k0_h1 (k0_off146_inb i v3112 k0_hw98 k0_h1)
theorem k0_off147_inb : ∀ (i : grid0.Coords) (v3112 : BitVec 32) (k0_hw98 : k0_chk98 i v3112), ∀ (k0_h1 : k0_cond1 i = 1#1), ∀ a, (k0_off147 v3112) a + S1x1x128.size a ≤ S1024x1x128.size a := fun i v3112 k0_hw98 k0_h1 => k0_hw98.2.2 k0_h1

def k0_off148 (v3131 : BitVec 32) : Fin 3 → Nat :=
  let c0_i32_2189 : BitVec 32 := 0#32
  let c0_i32_2190 : BitVec 32 := 0#32
  ![v3131.toNat, 0, 0]

def k0_chk99 (i : grid0.Coords) (v3131 : BitVec 32) : Prop :=
  (∀ (k0_h1 : k0_cond1 i = 1#1), ∀ a, (k0_off148 v3131) a + S1x128x64.size a ≤ S4096x128x64.size a)
theorem k0_off148_inb : ∀ (i : grid0.Coords) (v3131 : BitVec 32) (k0_hw99 : k0_chk99 i v3131), ∀ (k0_h1 : k0_cond1 i = 1#1), ∀ a, (k0_off148 v3131) a + S1x128x64.size a ≤ S4096x128x64.size a := fun i v3131 k0_hw99 k0_h1 => k0_hw99 k0_h1

def k0_off149 (v3132 : BitVec 32) : Fin 3 → Nat :=
  let c0_i32_2196 : BitVec 32 := 0#32
  let c0_i32_2197 : BitVec 32 := 0#32
  ![v3132.toNat, 0, 0]

def k0_off150 (v3132 : BitVec 32) : Fin 3 → Nat :=
  let c0_i32_2203 : BitVec 32 := 0#32
  let c0_i32_2204 : BitVec 32 := 0#32
  ![v3132.toNat, 0, 0]

def k0_chk100 (i : grid0.Coords) (v3132 : BitVec 32) : Prop :=
  (∀ (k0_h1 : k0_cond1 i = 1#1), ∀ a, (k0_off149 v3132) a + S1x128x128.size a ≤ S1024x128x128.size a) ∧
  (∀ (k0_h1 : k0_cond1 i = 1#1), ∀ (hinb : ∀ a, (k0_off149 v3132) a + S1x128x128.size a ≤ S1024x128x128.size a), (Rect.unit (s := S1024x128x128) (k0_off149 v3132) S1x128x128.size hinb).WholeWords (EltTy.packing .bf16)) ∧
  (∀ (k0_h1 : k0_cond1 i = 1#1), ∀ a, (k0_off150 v3132) a + S1x1x128.size a ≤ S1024x1x128.size a)
theorem k0_off149_inb : ∀ (i : grid0.Coords) (v3132 : BitVec 32) (k0_hw100 : k0_chk100 i v3132), ∀ (k0_h1 : k0_cond1 i = 1#1), ∀ a, (k0_off149 v3132) a + S1x128x128.size a ≤ S1024x128x128.size a := fun i v3132 k0_hw100 k0_h1 => k0_hw100.1 k0_h1
theorem k0_off149_wordsbf16 : ∀ (i : grid0.Coords) (v3132 : BitVec 32) (k0_hw100 : k0_chk100 i v3132), ∀ (k0_h1 : k0_cond1 i = 1#1), (Rect.unit (s := S1024x128x128) (k0_off149 v3132) S1x128x128.size (k0_off149_inb i v3132 k0_hw100 k0_h1)).WholeWords (EltTy.packing .bf16) := fun i v3132 k0_hw100 k0_h1 => k0_hw100.2.1 k0_h1 (k0_off149_inb i v3132 k0_hw100 k0_h1)
theorem k0_off150_inb : ∀ (i : grid0.Coords) (v3132 : BitVec 32) (k0_hw100 : k0_chk100 i v3132), ∀ (k0_h1 : k0_cond1 i = 1#1), ∀ a, (k0_off150 v3132) a + S1x1x128.size a ≤ S1024x1x128.size a := fun i v3132 k0_hw100 k0_h1 => k0_hw100.2.2 k0_h1

def k0_off151 (v3151 : BitVec 32) : Fin 3 → Nat :=
  let c0_i32_2212 : BitVec 32 := 0#32
  let c0_i32_2213 : BitVec 32 := 0#32
  ![v3151.toNat, 0, 0]

def k0_chk101 (i : grid0.Coords) (v3151 : BitVec 32) : Prop :=
  (∀ (k0_h1 : k0_cond1 i = 1#1), ∀ a, (k0_off151 v3151) a + S1x128x64.size a ≤ S4096x128x64.size a)
theorem k0_off151_inb : ∀ (i : grid0.Coords) (v3151 : BitVec 32) (k0_hw101 : k0_chk101 i v3151), ∀ (k0_h1 : k0_cond1 i = 1#1), ∀ a, (k0_off151 v3151) a + S1x128x64.size a ≤ S4096x128x64.size a := fun i v3151 k0_hw101 k0_h1 => k0_hw101 k0_h1

def k0_off152 (v3152 : BitVec 32) : Fin 3 → Nat :=
  let c0_i32_2219 : BitVec 32 := 0#32
  let c0_i32_2220 : BitVec 32 := 0#32
  ![v3152.toNat, 0, 0]

def k0_off153 (v3152 : BitVec 32) : Fin 3 → Nat :=
  let c0_i32_2226 : BitVec 32 := 0#32
  let c0_i32_2227 : BitVec 32 := 0#32
  ![v3152.toNat, 0, 0]

def k0_chk102 (i : grid0.Coords) (v3152 : BitVec 32) : Prop :=
  (∀ (k0_h1 : k0_cond1 i = 1#1), ∀ a, (k0_off152 v3152) a + S1x128x128.size a ≤ S1024x128x128.size a) ∧
  (∀ (k0_h1 : k0_cond1 i = 1#1), ∀ (hinb : ∀ a, (k0_off152 v3152) a + S1x128x128.size a ≤ S1024x128x128.size a), (Rect.unit (s := S1024x128x128) (k0_off152 v3152) S1x128x128.size hinb).WholeWords (EltTy.packing .bf16)) ∧
  (∀ (k0_h1 : k0_cond1 i = 1#1), ∀ a, (k0_off153 v3152) a + S1x1x128.size a ≤ S1024x1x128.size a)
theorem k0_off152_inb : ∀ (i : grid0.Coords) (v3152 : BitVec 32) (k0_hw102 : k0_chk102 i v3152), ∀ (k0_h1 : k0_cond1 i = 1#1), ∀ a, (k0_off152 v3152) a + S1x128x128.size a ≤ S1024x128x128.size a := fun i v3152 k0_hw102 k0_h1 => k0_hw102.1 k0_h1
theorem k0_off152_wordsbf16 : ∀ (i : grid0.Coords) (v3152 : BitVec 32) (k0_hw102 : k0_chk102 i v3152), ∀ (k0_h1 : k0_cond1 i = 1#1), (Rect.unit (s := S1024x128x128) (k0_off152 v3152) S1x128x128.size (k0_off152_inb i v3152 k0_hw102 k0_h1)).WholeWords (EltTy.packing .bf16) := fun i v3152 k0_hw102 k0_h1 => k0_hw102.2.1 k0_h1 (k0_off152_inb i v3152 k0_hw102 k0_h1)
theorem k0_off153_inb : ∀ (i : grid0.Coords) (v3152 : BitVec 32) (k0_hw102 : k0_chk102 i v3152), ∀ (k0_h1 : k0_cond1 i = 1#1), ∀ a, (k0_off153 v3152) a + S1x1x128.size a ≤ S1024x1x128.size a := fun i v3152 k0_hw102 k0_h1 => k0_hw102.2.2 k0_h1

def k0_off154 (v3171 : BitVec 32) : Fin 3 → Nat :=
  let c0_i32_2235 : BitVec 32 := 0#32
  let c0_i32_2236 : BitVec 32 := 0#32
  ![v3171.toNat, 0, 0]

def k0_chk103 (i : grid0.Coords) (v3171 : BitVec 32) : Prop :=
  (∀ (k0_h1 : k0_cond1 i = 1#1), ∀ a, (k0_off154 v3171) a + S1x128x64.size a ≤ S4096x128x64.size a)
theorem k0_off154_inb : ∀ (i : grid0.Coords) (v3171 : BitVec 32) (k0_hw103 : k0_chk103 i v3171), ∀ (k0_h1 : k0_cond1 i = 1#1), ∀ a, (k0_off154 v3171) a + S1x128x64.size a ≤ S4096x128x64.size a := fun i v3171 k0_hw103 k0_h1 => k0_hw103 k0_h1

def k0_off155 (v3172 : BitVec 32) : Fin 3 → Nat :=
  let c0_i32_2242 : BitVec 32 := 0#32
  let c0_i32_2243 : BitVec 32 := 0#32
  ![v3172.toNat, 0, 0]

def k0_off156 (v3172 : BitVec 32) : Fin 3 → Nat :=
  let c0_i32_2249 : BitVec 32 := 0#32
  let c0_i32_2250 : BitVec 32 := 0#32
  ![v3172.toNat, 0, 0]

def k0_chk104 (i : grid0.Coords) (v3172 : BitVec 32) : Prop :=
  (∀ (k0_h1 : k0_cond1 i = 1#1), ∀ a, (k0_off155 v3172) a + S1x128x128.size a ≤ S1024x128x128.size a) ∧
  (∀ (k0_h1 : k0_cond1 i = 1#1), ∀ (hinb : ∀ a, (k0_off155 v3172) a + S1x128x128.size a ≤ S1024x128x128.size a), (Rect.unit (s := S1024x128x128) (k0_off155 v3172) S1x128x128.size hinb).WholeWords (EltTy.packing .bf16)) ∧
  (∀ (k0_h1 : k0_cond1 i = 1#1), ∀ a, (k0_off156 v3172) a + S1x1x128.size a ≤ S1024x1x128.size a)
theorem k0_off155_inb : ∀ (i : grid0.Coords) (v3172 : BitVec 32) (k0_hw104 : k0_chk104 i v3172), ∀ (k0_h1 : k0_cond1 i = 1#1), ∀ a, (k0_off155 v3172) a + S1x128x128.size a ≤ S1024x128x128.size a := fun i v3172 k0_hw104 k0_h1 => k0_hw104.1 k0_h1
theorem k0_off155_wordsbf16 : ∀ (i : grid0.Coords) (v3172 : BitVec 32) (k0_hw104 : k0_chk104 i v3172), ∀ (k0_h1 : k0_cond1 i = 1#1), (Rect.unit (s := S1024x128x128) (k0_off155 v3172) S1x128x128.size (k0_off155_inb i v3172 k0_hw104 k0_h1)).WholeWords (EltTy.packing .bf16) := fun i v3172 k0_hw104 k0_h1 => k0_hw104.2.1 k0_h1 (k0_off155_inb i v3172 k0_hw104 k0_h1)
theorem k0_off156_inb : ∀ (i : grid0.Coords) (v3172 : BitVec 32) (k0_hw104 : k0_chk104 i v3172), ∀ (k0_h1 : k0_cond1 i = 1#1), ∀ a, (k0_off156 v3172) a + S1x1x128.size a ≤ S1024x1x128.size a := fun i v3172 k0_hw104 k0_h1 => k0_hw104.2.2 k0_h1

def k0_off157 (v3191 : BitVec 32) : Fin 3 → Nat :=
  let c0_i32_2258 : BitVec 32 := 0#32
  let c0_i32_2259 : BitVec 32 := 0#32
  ![v3191.toNat, 0, 0]

def k0_chk105 (i : grid0.Coords) (v3191 : BitVec 32) : Prop :=
  (∀ (k0_h1 : k0_cond1 i = 1#1), ∀ a, (k0_off157 v3191) a + S1x128x64.size a ≤ S4096x128x64.size a)
theorem k0_off157_inb : ∀ (i : grid0.Coords) (v3191 : BitVec 32) (k0_hw105 : k0_chk105 i v3191), ∀ (k0_h1 : k0_cond1 i = 1#1), ∀ a, (k0_off157 v3191) a + S1x128x64.size a ≤ S4096x128x64.size a := fun i v3191 k0_hw105 k0_h1 => k0_hw105 k0_h1

def k0_off158 (v3192 : BitVec 32) : Fin 3 → Nat :=
  let c0_i32_2265 : BitVec 32 := 0#32
  let c0_i32_2266 : BitVec 32 := 0#32
  ![v3192.toNat, 0, 0]

def k0_off159 (v3192 : BitVec 32) : Fin 3 → Nat :=
  let c0_i32_2272 : BitVec 32 := 0#32
  let c0_i32_2273 : BitVec 32 := 0#32
  ![v3192.toNat, 0, 0]

def k0_chk106 (i : grid0.Coords) (v3192 : BitVec 32) : Prop :=
  (∀ (k0_h1 : k0_cond1 i = 1#1), ∀ a, (k0_off158 v3192) a + S1x128x128.size a ≤ S1024x128x128.size a) ∧
  (∀ (k0_h1 : k0_cond1 i = 1#1), ∀ (hinb : ∀ a, (k0_off158 v3192) a + S1x128x128.size a ≤ S1024x128x128.size a), (Rect.unit (s := S1024x128x128) (k0_off158 v3192) S1x128x128.size hinb).WholeWords (EltTy.packing .bf16)) ∧
  (∀ (k0_h1 : k0_cond1 i = 1#1), ∀ a, (k0_off159 v3192) a + S1x1x128.size a ≤ S1024x1x128.size a)
theorem k0_off158_inb : ∀ (i : grid0.Coords) (v3192 : BitVec 32) (k0_hw106 : k0_chk106 i v3192), ∀ (k0_h1 : k0_cond1 i = 1#1), ∀ a, (k0_off158 v3192) a + S1x128x128.size a ≤ S1024x128x128.size a := fun i v3192 k0_hw106 k0_h1 => k0_hw106.1 k0_h1
theorem k0_off158_wordsbf16 : ∀ (i : grid0.Coords) (v3192 : BitVec 32) (k0_hw106 : k0_chk106 i v3192), ∀ (k0_h1 : k0_cond1 i = 1#1), (Rect.unit (s := S1024x128x128) (k0_off158 v3192) S1x128x128.size (k0_off158_inb i v3192 k0_hw106 k0_h1)).WholeWords (EltTy.packing .bf16) := fun i v3192 k0_hw106 k0_h1 => k0_hw106.2.1 k0_h1 (k0_off158_inb i v3192 k0_hw106 k0_h1)
theorem k0_off159_inb : ∀ (i : grid0.Coords) (v3192 : BitVec 32) (k0_hw106 : k0_chk106 i v3192), ∀ (k0_h1 : k0_cond1 i = 1#1), ∀ a, (k0_off159 v3192) a + S1x1x128.size a ≤ S1024x1x128.size a := fun i v3192 k0_hw106 k0_h1 => k0_hw106.2.2 k0_h1

def k0_off160 (v3211 : BitVec 32) : Fin 3 → Nat :=
  let c0_i32_2281 : BitVec 32 := 0#32
  let c0_i32_2282 : BitVec 32 := 0#32
  ![v3211.toNat, 0, 0]

def k0_chk107 (i : grid0.Coords) (v3211 : BitVec 32) : Prop :=
  (∀ (k0_h1 : k0_cond1 i = 1#1), ∀ a, (k0_off160 v3211) a + S1x128x64.size a ≤ S4096x128x64.size a)
theorem k0_off160_inb : ∀ (i : grid0.Coords) (v3211 : BitVec 32) (k0_hw107 : k0_chk107 i v3211), ∀ (k0_h1 : k0_cond1 i = 1#1), ∀ a, (k0_off160 v3211) a + S1x128x64.size a ≤ S4096x128x64.size a := fun i v3211 k0_hw107 k0_h1 => k0_hw107 k0_h1

def k0_off161 (v3212 : BitVec 32) : Fin 3 → Nat :=
  let c0_i32_2288 : BitVec 32 := 0#32
  let c0_i32_2289 : BitVec 32 := 0#32
  ![v3212.toNat, 0, 0]

def k0_off162 (v3212 : BitVec 32) : Fin 3 → Nat :=
  let c0_i32_2295 : BitVec 32 := 0#32
  let c0_i32_2296 : BitVec 32 := 0#32
  ![v3212.toNat, 0, 0]

def k0_chk108 (i : grid0.Coords) (v3212 : BitVec 32) : Prop :=
  (∀ (k0_h1 : k0_cond1 i = 1#1), ∀ a, (k0_off161 v3212) a + S1x128x128.size a ≤ S1024x128x128.size a) ∧
  (∀ (k0_h1 : k0_cond1 i = 1#1), ∀ (hinb : ∀ a, (k0_off161 v3212) a + S1x128x128.size a ≤ S1024x128x128.size a), (Rect.unit (s := S1024x128x128) (k0_off161 v3212) S1x128x128.size hinb).WholeWords (EltTy.packing .bf16)) ∧
  (∀ (k0_h1 : k0_cond1 i = 1#1), ∀ a, (k0_off162 v3212) a + S1x1x128.size a ≤ S1024x1x128.size a)
theorem k0_off161_inb : ∀ (i : grid0.Coords) (v3212 : BitVec 32) (k0_hw108 : k0_chk108 i v3212), ∀ (k0_h1 : k0_cond1 i = 1#1), ∀ a, (k0_off161 v3212) a + S1x128x128.size a ≤ S1024x128x128.size a := fun i v3212 k0_hw108 k0_h1 => k0_hw108.1 k0_h1
theorem k0_off161_wordsbf16 : ∀ (i : grid0.Coords) (v3212 : BitVec 32) (k0_hw108 : k0_chk108 i v3212), ∀ (k0_h1 : k0_cond1 i = 1#1), (Rect.unit (s := S1024x128x128) (k0_off161 v3212) S1x128x128.size (k0_off161_inb i v3212 k0_hw108 k0_h1)).WholeWords (EltTy.packing .bf16) := fun i v3212 k0_hw108 k0_h1 => k0_hw108.2.1 k0_h1 (k0_off161_inb i v3212 k0_hw108 k0_h1)
theorem k0_off162_inb : ∀ (i : grid0.Coords) (v3212 : BitVec 32) (k0_hw108 : k0_chk108 i v3212), ∀ (k0_h1 : k0_cond1 i = 1#1), ∀ a, (k0_off162 v3212) a + S1x1x128.size a ≤ S1024x1x128.size a := fun i v3212 k0_hw108 k0_h1 => k0_hw108.2.2 k0_h1

def k0_off163 (v3231 : BitVec 32) : Fin 3 → Nat :=
  let c0_i32_2304 : BitVec 32 := 0#32
  let c0_i32_2305 : BitVec 32 := 0#32
  ![v3231.toNat, 0, 0]

def k0_chk109 (i : grid0.Coords) (v3231 : BitVec 32) : Prop :=
  (∀ (k0_h1 : k0_cond1 i = 1#1), ∀ a, (k0_off163 v3231) a + S1x128x64.size a ≤ S4096x128x64.size a)
theorem k0_off163_inb : ∀ (i : grid0.Coords) (v3231 : BitVec 32) (k0_hw109 : k0_chk109 i v3231), ∀ (k0_h1 : k0_cond1 i = 1#1), ∀ a, (k0_off163 v3231) a + S1x128x64.size a ≤ S4096x128x64.size a := fun i v3231 k0_hw109 k0_h1 => k0_hw109 k0_h1

def k0_off164 (v3232 : BitVec 32) : Fin 3 → Nat :=
  let c0_i32_2311 : BitVec 32 := 0#32
  let c0_i32_2312 : BitVec 32 := 0#32
  ![v3232.toNat, 0, 0]

def k0_off165 (v3232 : BitVec 32) : Fin 3 → Nat :=
  let c0_i32_2318 : BitVec 32 := 0#32
  let c0_i32_2319 : BitVec 32 := 0#32
  ![v3232.toNat, 0, 0]

def k0_chk110 (i : grid0.Coords) (v3232 : BitVec 32) : Prop :=
  (∀ (k0_h1 : k0_cond1 i = 1#1), ∀ a, (k0_off164 v3232) a + S1x128x128.size a ≤ S1024x128x128.size a) ∧
  (∀ (k0_h1 : k0_cond1 i = 1#1), ∀ (hinb : ∀ a, (k0_off164 v3232) a + S1x128x128.size a ≤ S1024x128x128.size a), (Rect.unit (s := S1024x128x128) (k0_off164 v3232) S1x128x128.size hinb).WholeWords (EltTy.packing .bf16)) ∧
  (∀ (k0_h1 : k0_cond1 i = 1#1), ∀ a, (k0_off165 v3232) a + S1x1x128.size a ≤ S1024x1x128.size a)
theorem k0_off164_inb : ∀ (i : grid0.Coords) (v3232 : BitVec 32) (k0_hw110 : k0_chk110 i v3232), ∀ (k0_h1 : k0_cond1 i = 1#1), ∀ a, (k0_off164 v3232) a + S1x128x128.size a ≤ S1024x128x128.size a := fun i v3232 k0_hw110 k0_h1 => k0_hw110.1 k0_h1
theorem k0_off164_wordsbf16 : ∀ (i : grid0.Coords) (v3232 : BitVec 32) (k0_hw110 : k0_chk110 i v3232), ∀ (k0_h1 : k0_cond1 i = 1#1), (Rect.unit (s := S1024x128x128) (k0_off164 v3232) S1x128x128.size (k0_off164_inb i v3232 k0_hw110 k0_h1)).WholeWords (EltTy.packing .bf16) := fun i v3232 k0_hw110 k0_h1 => k0_hw110.2.1 k0_h1 (k0_off164_inb i v3232 k0_hw110 k0_h1)
theorem k0_off165_inb : ∀ (i : grid0.Coords) (v3232 : BitVec 32) (k0_hw110 : k0_chk110 i v3232), ∀ (k0_h1 : k0_cond1 i = 1#1), ∀ a, (k0_off165 v3232) a + S1x1x128.size a ≤ S1024x1x128.size a := fun i v3232 k0_hw110 k0_h1 => k0_hw110.2.2 k0_h1

def k0_off166 (v3251 : BitVec 32) : Fin 3 → Nat :=
  let c0_i32_2327 : BitVec 32 := 0#32
  let c0_i32_2328 : BitVec 32 := 0#32
  ![v3251.toNat, 0, 0]

def k0_chk111 (i : grid0.Coords) (v3251 : BitVec 32) : Prop :=
  (∀ (k0_h1 : k0_cond1 i = 1#1), ∀ a, (k0_off166 v3251) a + S1x128x64.size a ≤ S4096x128x64.size a)
theorem k0_off166_inb : ∀ (i : grid0.Coords) (v3251 : BitVec 32) (k0_hw111 : k0_chk111 i v3251), ∀ (k0_h1 : k0_cond1 i = 1#1), ∀ a, (k0_off166 v3251) a + S1x128x64.size a ≤ S4096x128x64.size a := fun i v3251 k0_hw111 k0_h1 => k0_hw111 k0_h1

def k0_off167 (v3252 : BitVec 32) : Fin 3 → Nat :=
  let c0_i32_2334 : BitVec 32 := 0#32
  let c0_i32_2335 : BitVec 32 := 0#32
  ![v3252.toNat, 0, 0]

def k0_off168 (v3252 : BitVec 32) : Fin 3 → Nat :=
  let c0_i32_2341 : BitVec 32 := 0#32
  let c0_i32_2342 : BitVec 32 := 0#32
  ![v3252.toNat, 0, 0]

def k0_chk112 (i : grid0.Coords) (v3252 : BitVec 32) : Prop :=
  (∀ (k0_h1 : k0_cond1 i = 1#1), ∀ a, (k0_off167 v3252) a + S1x128x128.size a ≤ S1024x128x128.size a) ∧
  (∀ (k0_h1 : k0_cond1 i = 1#1), ∀ (hinb : ∀ a, (k0_off167 v3252) a + S1x128x128.size a ≤ S1024x128x128.size a), (Rect.unit (s := S1024x128x128) (k0_off167 v3252) S1x128x128.size hinb).WholeWords (EltTy.packing .bf16)) ∧
  (∀ (k0_h1 : k0_cond1 i = 1#1), ∀ a, (k0_off168 v3252) a + S1x1x128.size a ≤ S1024x1x128.size a)
theorem k0_off167_inb : ∀ (i : grid0.Coords) (v3252 : BitVec 32) (k0_hw112 : k0_chk112 i v3252), ∀ (k0_h1 : k0_cond1 i = 1#1), ∀ a, (k0_off167 v3252) a + S1x128x128.size a ≤ S1024x128x128.size a := fun i v3252 k0_hw112 k0_h1 => k0_hw112.1 k0_h1
theorem k0_off167_wordsbf16 : ∀ (i : grid0.Coords) (v3252 : BitVec 32) (k0_hw112 : k0_chk112 i v3252), ∀ (k0_h1 : k0_cond1 i = 1#1), (Rect.unit (s := S1024x128x128) (k0_off167 v3252) S1x128x128.size (k0_off167_inb i v3252 k0_hw112 k0_h1)).WholeWords (EltTy.packing .bf16) := fun i v3252 k0_hw112 k0_h1 => k0_hw112.2.1 k0_h1 (k0_off167_inb i v3252 k0_hw112 k0_h1)
theorem k0_off168_inb : ∀ (i : grid0.Coords) (v3252 : BitVec 32) (k0_hw112 : k0_chk112 i v3252), ∀ (k0_h1 : k0_cond1 i = 1#1), ∀ a, (k0_off168 v3252) a + S1x1x128.size a ≤ S1024x1x128.size a := fun i v3252 k0_hw112 k0_h1 => k0_hw112.2.2 k0_h1

def k0_off169 (v3271 : BitVec 32) : Fin 3 → Nat :=
  let c0_i32_2350 : BitVec 32 := 0#32
  let c0_i32_2351 : BitVec 32 := 0#32
  ![v3271.toNat, 0, 0]

def k0_chk113 (i : grid0.Coords) (v3271 : BitVec 32) : Prop :=
  (∀ (k0_h1 : k0_cond1 i = 1#1), ∀ a, (k0_off169 v3271) a + S1x128x64.size a ≤ S4096x128x64.size a)
theorem k0_off169_inb : ∀ (i : grid0.Coords) (v3271 : BitVec 32) (k0_hw113 : k0_chk113 i v3271), ∀ (k0_h1 : k0_cond1 i = 1#1), ∀ a, (k0_off169 v3271) a + S1x128x64.size a ≤ S4096x128x64.size a := fun i v3271 k0_hw113 k0_h1 => k0_hw113 k0_h1

def k0_off170 (v3272 : BitVec 32) : Fin 3 → Nat :=
  let c0_i32_2357 : BitVec 32 := 0#32
  let c0_i32_2358 : BitVec 32 := 0#32
  ![v3272.toNat, 0, 0]

def k0_off171 (v3272 : BitVec 32) : Fin 3 → Nat :=
  let c0_i32_2364 : BitVec 32 := 0#32
  let c0_i32_2365 : BitVec 32 := 0#32
  ![v3272.toNat, 0, 0]

def k0_chk114 (i : grid0.Coords) (v3272 : BitVec 32) : Prop :=
  (∀ (k0_h1 : k0_cond1 i = 1#1), ∀ a, (k0_off170 v3272) a + S1x128x128.size a ≤ S1024x128x128.size a) ∧
  (∀ (k0_h1 : k0_cond1 i = 1#1), ∀ (hinb : ∀ a, (k0_off170 v3272) a + S1x128x128.size a ≤ S1024x128x128.size a), (Rect.unit (s := S1024x128x128) (k0_off170 v3272) S1x128x128.size hinb).WholeWords (EltTy.packing .bf16)) ∧
  (∀ (k0_h1 : k0_cond1 i = 1#1), ∀ a, (k0_off171 v3272) a + S1x1x128.size a ≤ S1024x1x128.size a)
theorem k0_off170_inb : ∀ (i : grid0.Coords) (v3272 : BitVec 32) (k0_hw114 : k0_chk114 i v3272), ∀ (k0_h1 : k0_cond1 i = 1#1), ∀ a, (k0_off170 v3272) a + S1x128x128.size a ≤ S1024x128x128.size a := fun i v3272 k0_hw114 k0_h1 => k0_hw114.1 k0_h1
theorem k0_off170_wordsbf16 : ∀ (i : grid0.Coords) (v3272 : BitVec 32) (k0_hw114 : k0_chk114 i v3272), ∀ (k0_h1 : k0_cond1 i = 1#1), (Rect.unit (s := S1024x128x128) (k0_off170 v3272) S1x128x128.size (k0_off170_inb i v3272 k0_hw114 k0_h1)).WholeWords (EltTy.packing .bf16) := fun i v3272 k0_hw114 k0_h1 => k0_hw114.2.1 k0_h1 (k0_off170_inb i v3272 k0_hw114 k0_h1)
theorem k0_off171_inb : ∀ (i : grid0.Coords) (v3272 : BitVec 32) (k0_hw114 : k0_chk114 i v3272), ∀ (k0_h1 : k0_cond1 i = 1#1), ∀ a, (k0_off171 v3272) a + S1x1x128.size a ≤ S1024x1x128.size a := fun i v3272 k0_hw114 k0_h1 => k0_hw114.2.2 k0_h1

def k0_off172 (v3291 : BitVec 32) : Fin 3 → Nat :=
  let c0_i32_2373 : BitVec 32 := 0#32
  let c0_i32_2374 : BitVec 32 := 0#32
  ![v3291.toNat, 0, 0]

def k0_chk115 (i : grid0.Coords) (v3291 : BitVec 32) : Prop :=
  (∀ (k0_h1 : k0_cond1 i = 1#1), ∀ a, (k0_off172 v3291) a + S1x128x64.size a ≤ S4096x128x64.size a)
theorem k0_off172_inb : ∀ (i : grid0.Coords) (v3291 : BitVec 32) (k0_hw115 : k0_chk115 i v3291), ∀ (k0_h1 : k0_cond1 i = 1#1), ∀ a, (k0_off172 v3291) a + S1x128x64.size a ≤ S4096x128x64.size a := fun i v3291 k0_hw115 k0_h1 => k0_hw115 k0_h1

def k0_off173 (v3292 : BitVec 32) : Fin 3 → Nat :=
  let c0_i32_2380 : BitVec 32 := 0#32
  let c0_i32_2381 : BitVec 32 := 0#32
  ![v3292.toNat, 0, 0]

def k0_off174 (v3292 : BitVec 32) : Fin 3 → Nat :=
  let c0_i32_2387 : BitVec 32 := 0#32
  let c0_i32_2388 : BitVec 32 := 0#32
  ![v3292.toNat, 0, 0]

def k0_chk116 (i : grid0.Coords) (v3292 : BitVec 32) : Prop :=
  (∀ (k0_h1 : k0_cond1 i = 1#1), ∀ a, (k0_off173 v3292) a + S1x128x128.size a ≤ S1024x128x128.size a) ∧
  (∀ (k0_h1 : k0_cond1 i = 1#1), ∀ (hinb : ∀ a, (k0_off173 v3292) a + S1x128x128.size a ≤ S1024x128x128.size a), (Rect.unit (s := S1024x128x128) (k0_off173 v3292) S1x128x128.size hinb).WholeWords (EltTy.packing .bf16)) ∧
  (∀ (k0_h1 : k0_cond1 i = 1#1), ∀ a, (k0_off174 v3292) a + S1x1x128.size a ≤ S1024x1x128.size a)
theorem k0_off173_inb : ∀ (i : grid0.Coords) (v3292 : BitVec 32) (k0_hw116 : k0_chk116 i v3292), ∀ (k0_h1 : k0_cond1 i = 1#1), ∀ a, (k0_off173 v3292) a + S1x128x128.size a ≤ S1024x128x128.size a := fun i v3292 k0_hw116 k0_h1 => k0_hw116.1 k0_h1
theorem k0_off173_wordsbf16 : ∀ (i : grid0.Coords) (v3292 : BitVec 32) (k0_hw116 : k0_chk116 i v3292), ∀ (k0_h1 : k0_cond1 i = 1#1), (Rect.unit (s := S1024x128x128) (k0_off173 v3292) S1x128x128.size (k0_off173_inb i v3292 k0_hw116 k0_h1)).WholeWords (EltTy.packing .bf16) := fun i v3292 k0_hw116 k0_h1 => k0_hw116.2.1 k0_h1 (k0_off173_inb i v3292 k0_hw116 k0_h1)
theorem k0_off174_inb : ∀ (i : grid0.Coords) (v3292 : BitVec 32) (k0_hw116 : k0_chk116 i v3292), ∀ (k0_h1 : k0_cond1 i = 1#1), ∀ a, (k0_off174 v3292) a + S1x1x128.size a ≤ S1024x1x128.size a := fun i v3292 k0_hw116 k0_h1 => k0_hw116.2.2 k0_h1

def k0_off175 (v3311 : BitVec 32) : Fin 3 → Nat :=
  let c0_i32_2396 : BitVec 32 := 0#32
  let c0_i32_2397 : BitVec 32 := 0#32
  ![v3311.toNat, 0, 0]

def k0_chk117 (i : grid0.Coords) (v3311 : BitVec 32) : Prop :=
  (∀ (k0_h1 : k0_cond1 i = 1#1), ∀ a, (k0_off175 v3311) a + S1x128x64.size a ≤ S4096x128x64.size a)
theorem k0_off175_inb : ∀ (i : grid0.Coords) (v3311 : BitVec 32) (k0_hw117 : k0_chk117 i v3311), ∀ (k0_h1 : k0_cond1 i = 1#1), ∀ a, (k0_off175 v3311) a + S1x128x64.size a ≤ S4096x128x64.size a := fun i v3311 k0_hw117 k0_h1 => k0_hw117 k0_h1

def k0_off176 (v3312 : BitVec 32) : Fin 3 → Nat :=
  let c0_i32_2403 : BitVec 32 := 0#32
  let c0_i32_2404 : BitVec 32 := 0#32
  ![v3312.toNat, 0, 0]

def k0_off177 (v3312 : BitVec 32) : Fin 3 → Nat :=
  let c0_i32_2410 : BitVec 32 := 0#32
  let c0_i32_2411 : BitVec 32 := 0#32
  ![v3312.toNat, 0, 0]

def k0_chk118 (i : grid0.Coords) (v3312 : BitVec 32) : Prop :=
  (∀ (k0_h1 : k0_cond1 i = 1#1), ∀ a, (k0_off176 v3312) a + S1x128x128.size a ≤ S1024x128x128.size a) ∧
  (∀ (k0_h1 : k0_cond1 i = 1#1), ∀ (hinb : ∀ a, (k0_off176 v3312) a + S1x128x128.size a ≤ S1024x128x128.size a), (Rect.unit (s := S1024x128x128) (k0_off176 v3312) S1x128x128.size hinb).WholeWords (EltTy.packing .bf16)) ∧
  (∀ (k0_h1 : k0_cond1 i = 1#1), ∀ a, (k0_off177 v3312) a + S1x1x128.size a ≤ S1024x1x128.size a)
theorem k0_off176_inb : ∀ (i : grid0.Coords) (v3312 : BitVec 32) (k0_hw118 : k0_chk118 i v3312), ∀ (k0_h1 : k0_cond1 i = 1#1), ∀ a, (k0_off176 v3312) a + S1x128x128.size a ≤ S1024x128x128.size a := fun i v3312 k0_hw118 k0_h1 => k0_hw118.1 k0_h1
theorem k0_off176_wordsbf16 : ∀ (i : grid0.Coords) (v3312 : BitVec 32) (k0_hw118 : k0_chk118 i v3312), ∀ (k0_h1 : k0_cond1 i = 1#1), (Rect.unit (s := S1024x128x128) (k0_off176 v3312) S1x128x128.size (k0_off176_inb i v3312 k0_hw118 k0_h1)).WholeWords (EltTy.packing .bf16) := fun i v3312 k0_hw118 k0_h1 => k0_hw118.2.1 k0_h1 (k0_off176_inb i v3312 k0_hw118 k0_h1)
theorem k0_off177_inb : ∀ (i : grid0.Coords) (v3312 : BitVec 32) (k0_hw118 : k0_chk118 i v3312), ∀ (k0_h1 : k0_cond1 i = 1#1), ∀ a, (k0_off177 v3312) a + S1x1x128.size a ≤ S1024x1x128.size a := fun i v3312 k0_hw118 k0_h1 => k0_hw118.2.2 k0_h1

def k0_off178 (v3331 : BitVec 32) : Fin 3 → Nat :=
  let c0_i32_2419 : BitVec 32 := 0#32
  let c0_i32_2420 : BitVec 32 := 0#32
  ![v3331.toNat, 0, 0]

def k0_chk119 (i : grid0.Coords) (v3331 : BitVec 32) : Prop :=
  (∀ (k0_h1 : k0_cond1 i = 1#1), ∀ a, (k0_off178 v3331) a + S1x128x64.size a ≤ S4096x128x64.size a)
theorem k0_off178_inb : ∀ (i : grid0.Coords) (v3331 : BitVec 32) (k0_hw119 : k0_chk119 i v3331), ∀ (k0_h1 : k0_cond1 i = 1#1), ∀ a, (k0_off178 v3331) a + S1x128x64.size a ≤ S4096x128x64.size a := fun i v3331 k0_hw119 k0_h1 => k0_hw119 k0_h1

def k0_off179 (v3332 : BitVec 32) : Fin 3 → Nat :=
  let c0_i32_2426 : BitVec 32 := 0#32
  let c0_i32_2427 : BitVec 32 := 0#32
  ![v3332.toNat, 0, 0]

def k0_off180 (v3332 : BitVec 32) : Fin 3 → Nat :=
  let c0_i32_2433 : BitVec 32 := 0#32
  let c0_i32_2434 : BitVec 32 := 0#32
  ![v3332.toNat, 0, 0]

def k0_chk120 (i : grid0.Coords) (v3332 : BitVec 32) : Prop :=
  (∀ (k0_h1 : k0_cond1 i = 1#1), ∀ a, (k0_off179 v3332) a + S1x128x128.size a ≤ S1024x128x128.size a) ∧
  (∀ (k0_h1 : k0_cond1 i = 1#1), ∀ (hinb : ∀ a, (k0_off179 v3332) a + S1x128x128.size a ≤ S1024x128x128.size a), (Rect.unit (s := S1024x128x128) (k0_off179 v3332) S1x128x128.size hinb).WholeWords (EltTy.packing .bf16)) ∧
  (∀ (k0_h1 : k0_cond1 i = 1#1), ∀ a, (k0_off180 v3332) a + S1x1x128.size a ≤ S1024x1x128.size a)
theorem k0_off179_inb : ∀ (i : grid0.Coords) (v3332 : BitVec 32) (k0_hw120 : k0_chk120 i v3332), ∀ (k0_h1 : k0_cond1 i = 1#1), ∀ a, (k0_off179 v3332) a + S1x128x128.size a ≤ S1024x128x128.size a := fun i v3332 k0_hw120 k0_h1 => k0_hw120.1 k0_h1
theorem k0_off179_wordsbf16 : ∀ (i : grid0.Coords) (v3332 : BitVec 32) (k0_hw120 : k0_chk120 i v3332), ∀ (k0_h1 : k0_cond1 i = 1#1), (Rect.unit (s := S1024x128x128) (k0_off179 v3332) S1x128x128.size (k0_off179_inb i v3332 k0_hw120 k0_h1)).WholeWords (EltTy.packing .bf16) := fun i v3332 k0_hw120 k0_h1 => k0_hw120.2.1 k0_h1 (k0_off179_inb i v3332 k0_hw120 k0_h1)
theorem k0_off180_inb : ∀ (i : grid0.Coords) (v3332 : BitVec 32) (k0_hw120 : k0_chk120 i v3332), ∀ (k0_h1 : k0_cond1 i = 1#1), ∀ a, (k0_off180 v3332) a + S1x1x128.size a ≤ S1024x1x128.size a := fun i v3332 k0_hw120 k0_h1 => k0_hw120.2.2 k0_h1

def k0_off181 (v3351 : BitVec 32) : Fin 3 → Nat :=
  let c0_i32_2442 : BitVec 32 := 0#32
  let c0_i32_2443 : BitVec 32 := 0#32
  ![v3351.toNat, 0, 0]

def k0_chk121 (i : grid0.Coords) (v3351 : BitVec 32) : Prop :=
  (∀ (k0_h1 : k0_cond1 i = 1#1), ∀ a, (k0_off181 v3351) a + S1x128x64.size a ≤ S4096x128x64.size a)
theorem k0_off181_inb : ∀ (i : grid0.Coords) (v3351 : BitVec 32) (k0_hw121 : k0_chk121 i v3351), ∀ (k0_h1 : k0_cond1 i = 1#1), ∀ a, (k0_off181 v3351) a + S1x128x64.size a ≤ S4096x128x64.size a := fun i v3351 k0_hw121 k0_h1 => k0_hw121 k0_h1

def k0_off182 (v3352 : BitVec 32) : Fin 3 → Nat :=
  let c0_i32_2449 : BitVec 32 := 0#32
  let c0_i32_2450 : BitVec 32 := 0#32
  ![v3352.toNat, 0, 0]

def k0_off183 (v3352 : BitVec 32) : Fin 3 → Nat :=
  let c0_i32_2456 : BitVec 32 := 0#32
  let c0_i32_2457 : BitVec 32 := 0#32
  ![v3352.toNat, 0, 0]

def k0_chk122 (i : grid0.Coords) (v3352 : BitVec 32) : Prop :=
  (∀ (k0_h1 : k0_cond1 i = 1#1), ∀ a, (k0_off182 v3352) a + S1x128x128.size a ≤ S1024x128x128.size a) ∧
  (∀ (k0_h1 : k0_cond1 i = 1#1), ∀ (hinb : ∀ a, (k0_off182 v3352) a + S1x128x128.size a ≤ S1024x128x128.size a), (Rect.unit (s := S1024x128x128) (k0_off182 v3352) S1x128x128.size hinb).WholeWords (EltTy.packing .bf16)) ∧
  (∀ (k0_h1 : k0_cond1 i = 1#1), ∀ a, (k0_off183 v3352) a + S1x1x128.size a ≤ S1024x1x128.size a)
theorem k0_off182_inb : ∀ (i : grid0.Coords) (v3352 : BitVec 32) (k0_hw122 : k0_chk122 i v3352), ∀ (k0_h1 : k0_cond1 i = 1#1), ∀ a, (k0_off182 v3352) a + S1x128x128.size a ≤ S1024x128x128.size a := fun i v3352 k0_hw122 k0_h1 => k0_hw122.1 k0_h1
theorem k0_off182_wordsbf16 : ∀ (i : grid0.Coords) (v3352 : BitVec 32) (k0_hw122 : k0_chk122 i v3352), ∀ (k0_h1 : k0_cond1 i = 1#1), (Rect.unit (s := S1024x128x128) (k0_off182 v3352) S1x128x128.size (k0_off182_inb i v3352 k0_hw122 k0_h1)).WholeWords (EltTy.packing .bf16) := fun i v3352 k0_hw122 k0_h1 => k0_hw122.2.1 k0_h1 (k0_off182_inb i v3352 k0_hw122 k0_h1)
theorem k0_off183_inb : ∀ (i : grid0.Coords) (v3352 : BitVec 32) (k0_hw122 : k0_chk122 i v3352), ∀ (k0_h1 : k0_cond1 i = 1#1), ∀ a, (k0_off183 v3352) a + S1x1x128.size a ≤ S1024x1x128.size a := fun i v3352 k0_hw122 k0_h1 => k0_hw122.2.2 k0_h1

def k0_off184 (v3371 : BitVec 32) : Fin 3 → Nat :=
  let c0_i32_2465 : BitVec 32 := 0#32
  let c0_i32_2466 : BitVec 32 := 0#32
  ![v3371.toNat, 0, 0]

def k0_chk123 (i : grid0.Coords) (v3371 : BitVec 32) : Prop :=
  (∀ (k0_h1 : k0_cond1 i = 1#1), ∀ a, (k0_off184 v3371) a + S1x128x64.size a ≤ S4096x128x64.size a)
theorem k0_off184_inb : ∀ (i : grid0.Coords) (v3371 : BitVec 32) (k0_hw123 : k0_chk123 i v3371), ∀ (k0_h1 : k0_cond1 i = 1#1), ∀ a, (k0_off184 v3371) a + S1x128x64.size a ≤ S4096x128x64.size a := fun i v3371 k0_hw123 k0_h1 => k0_hw123 k0_h1

def k0_off185 (v3372 : BitVec 32) : Fin 3 → Nat :=
  let c0_i32_2472 : BitVec 32 := 0#32
  let c0_i32_2473 : BitVec 32 := 0#32
  ![v3372.toNat, 0, 0]

def k0_off186 (v3372 : BitVec 32) : Fin 3 → Nat :=
  let c0_i32_2479 : BitVec 32 := 0#32
  let c0_i32_2480 : BitVec 32 := 0#32
  ![v3372.toNat, 0, 0]

def k0_chk124 (i : grid0.Coords) (v3372 : BitVec 32) : Prop :=
  (∀ (k0_h1 : k0_cond1 i = 1#1), ∀ a, (k0_off185 v3372) a + S1x128x128.size a ≤ S1024x128x128.size a) ∧
  (∀ (k0_h1 : k0_cond1 i = 1#1), ∀ (hinb : ∀ a, (k0_off185 v3372) a + S1x128x128.size a ≤ S1024x128x128.size a), (Rect.unit (s := S1024x128x128) (k0_off185 v3372) S1x128x128.size hinb).WholeWords (EltTy.packing .bf16)) ∧
  (∀ (k0_h1 : k0_cond1 i = 1#1), ∀ a, (k0_off186 v3372) a + S1x1x128.size a ≤ S1024x1x128.size a)
theorem k0_off185_inb : ∀ (i : grid0.Coords) (v3372 : BitVec 32) (k0_hw124 : k0_chk124 i v3372), ∀ (k0_h1 : k0_cond1 i = 1#1), ∀ a, (k0_off185 v3372) a + S1x128x128.size a ≤ S1024x128x128.size a := fun i v3372 k0_hw124 k0_h1 => k0_hw124.1 k0_h1
theorem k0_off185_wordsbf16 : ∀ (i : grid0.Coords) (v3372 : BitVec 32) (k0_hw124 : k0_chk124 i v3372), ∀ (k0_h1 : k0_cond1 i = 1#1), (Rect.unit (s := S1024x128x128) (k0_off185 v3372) S1x128x128.size (k0_off185_inb i v3372 k0_hw124 k0_h1)).WholeWords (EltTy.packing .bf16) := fun i v3372 k0_hw124 k0_h1 => k0_hw124.2.1 k0_h1 (k0_off185_inb i v3372 k0_hw124 k0_h1)
theorem k0_off186_inb : ∀ (i : grid0.Coords) (v3372 : BitVec 32) (k0_hw124 : k0_chk124 i v3372), ∀ (k0_h1 : k0_cond1 i = 1#1), ∀ a, (k0_off186 v3372) a + S1x1x128.size a ≤ S1024x1x128.size a := fun i v3372 k0_hw124 k0_h1 => k0_hw124.2.2 k0_h1

def k0_off187 (v3391 : BitVec 32) : Fin 3 → Nat :=
  let c0_i32_2488 : BitVec 32 := 0#32
  let c0_i32_2489 : BitVec 32 := 0#32
  ![v3391.toNat, 0, 0]

def k0_chk125 (i : grid0.Coords) (v3391 : BitVec 32) : Prop :=
  (∀ (k0_h1 : k0_cond1 i = 1#1), ∀ a, (k0_off187 v3391) a + S1x128x64.size a ≤ S4096x128x64.size a)
theorem k0_off187_inb : ∀ (i : grid0.Coords) (v3391 : BitVec 32) (k0_hw125 : k0_chk125 i v3391), ∀ (k0_h1 : k0_cond1 i = 1#1), ∀ a, (k0_off187 v3391) a + S1x128x64.size a ≤ S4096x128x64.size a := fun i v3391 k0_hw125 k0_h1 => k0_hw125 k0_h1

def k0_off188 (v3392 : BitVec 32) : Fin 3 → Nat :=
  let c0_i32_2495 : BitVec 32 := 0#32
  let c0_i32_2496 : BitVec 32 := 0#32
  ![v3392.toNat, 0, 0]

def k0_off189 (v3392 : BitVec 32) : Fin 3 → Nat :=
  let c0_i32_2502 : BitVec 32 := 0#32
  let c0_i32_2503 : BitVec 32 := 0#32
  ![v3392.toNat, 0, 0]

def k0_chk126 (i : grid0.Coords) (v3392 : BitVec 32) : Prop :=
  (∀ (k0_h1 : k0_cond1 i = 1#1), ∀ a, (k0_off188 v3392) a + S1x128x128.size a ≤ S1024x128x128.size a) ∧
  (∀ (k0_h1 : k0_cond1 i = 1#1), ∀ (hinb : ∀ a, (k0_off188 v3392) a + S1x128x128.size a ≤ S1024x128x128.size a), (Rect.unit (s := S1024x128x128) (k0_off188 v3392) S1x128x128.size hinb).WholeWords (EltTy.packing .bf16)) ∧
  (∀ (k0_h1 : k0_cond1 i = 1#1), ∀ a, (k0_off189 v3392) a + S1x1x128.size a ≤ S1024x1x128.size a)
theorem k0_off188_inb : ∀ (i : grid0.Coords) (v3392 : BitVec 32) (k0_hw126 : k0_chk126 i v3392), ∀ (k0_h1 : k0_cond1 i = 1#1), ∀ a, (k0_off188 v3392) a + S1x128x128.size a ≤ S1024x128x128.size a := fun i v3392 k0_hw126 k0_h1 => k0_hw126.1 k0_h1
theorem k0_off188_wordsbf16 : ∀ (i : grid0.Coords) (v3392 : BitVec 32) (k0_hw126 : k0_chk126 i v3392), ∀ (k0_h1 : k0_cond1 i = 1#1), (Rect.unit (s := S1024x128x128) (k0_off188 v3392) S1x128x128.size (k0_off188_inb i v3392 k0_hw126 k0_h1)).WholeWords (EltTy.packing .bf16) := fun i v3392 k0_hw126 k0_h1 => k0_hw126.2.1 k0_h1 (k0_off188_inb i v3392 k0_hw126 k0_h1)
theorem k0_off189_inb : ∀ (i : grid0.Coords) (v3392 : BitVec 32) (k0_hw126 : k0_chk126 i v3392), ∀ (k0_h1 : k0_cond1 i = 1#1), ∀ a, (k0_off189 v3392) a + S1x1x128.size a ≤ S1024x1x128.size a := fun i v3392 k0_hw126 k0_h1 => k0_hw126.2.2 k0_h1

def k0_off190 (v3411 : BitVec 32) : Fin 3 → Nat :=
  let c0_i32_2511 : BitVec 32 := 0#32
  let c0_i32_2512 : BitVec 32 := 0#32
  ![v3411.toNat, 0, 0]

def k0_chk127 (i : grid0.Coords) (v3411 : BitVec 32) : Prop :=
  (∀ (k0_h1 : k0_cond1 i = 1#1), ∀ a, (k0_off190 v3411) a + S1x128x64.size a ≤ S4096x128x64.size a)
theorem k0_off190_inb : ∀ (i : grid0.Coords) (v3411 : BitVec 32) (k0_hw127 : k0_chk127 i v3411), ∀ (k0_h1 : k0_cond1 i = 1#1), ∀ a, (k0_off190 v3411) a + S1x128x64.size a ≤ S4096x128x64.size a := fun i v3411 k0_hw127 k0_h1 => k0_hw127 k0_h1

def k0_off191 (v3412 : BitVec 32) : Fin 3 → Nat :=
  let c0_i32_2518 : BitVec 32 := 0#32
  let c0_i32_2519 : BitVec 32 := 0#32
  ![v3412.toNat, 0, 0]

def k0_off192 (v3412 : BitVec 32) : Fin 3 → Nat :=
  let c0_i32_2525 : BitVec 32 := 0#32
  let c0_i32_2526 : BitVec 32 := 0#32
  ![v3412.toNat, 0, 0]

def k0_chk128 (i : grid0.Coords) (v3412 : BitVec 32) : Prop :=
  (∀ (k0_h1 : k0_cond1 i = 1#1), ∀ a, (k0_off191 v3412) a + S1x128x128.size a ≤ S1024x128x128.size a) ∧
  (∀ (k0_h1 : k0_cond1 i = 1#1), ∀ (hinb : ∀ a, (k0_off191 v3412) a + S1x128x128.size a ≤ S1024x128x128.size a), (Rect.unit (s := S1024x128x128) (k0_off191 v3412) S1x128x128.size hinb).WholeWords (EltTy.packing .bf16)) ∧
  (∀ (k0_h1 : k0_cond1 i = 1#1), ∀ a, (k0_off192 v3412) a + S1x1x128.size a ≤ S1024x1x128.size a)
theorem k0_off191_inb : ∀ (i : grid0.Coords) (v3412 : BitVec 32) (k0_hw128 : k0_chk128 i v3412), ∀ (k0_h1 : k0_cond1 i = 1#1), ∀ a, (k0_off191 v3412) a + S1x128x128.size a ≤ S1024x128x128.size a := fun i v3412 k0_hw128 k0_h1 => k0_hw128.1 k0_h1
theorem k0_off191_wordsbf16 : ∀ (i : grid0.Coords) (v3412 : BitVec 32) (k0_hw128 : k0_chk128 i v3412), ∀ (k0_h1 : k0_cond1 i = 1#1), (Rect.unit (s := S1024x128x128) (k0_off191 v3412) S1x128x128.size (k0_off191_inb i v3412 k0_hw128 k0_h1)).WholeWords (EltTy.packing .bf16) := fun i v3412 k0_hw128 k0_h1 => k0_hw128.2.1 k0_h1 (k0_off191_inb i v3412 k0_hw128 k0_h1)
theorem k0_off192_inb : ∀ (i : grid0.Coords) (v3412 : BitVec 32) (k0_hw128 : k0_chk128 i v3412), ∀ (k0_h1 : k0_cond1 i = 1#1), ∀ a, (k0_off192 v3412) a + S1x1x128.size a ≤ S1024x1x128.size a := fun i v3412 k0_hw128 k0_h1 => k0_hw128.2.2 k0_h1

def k0_off193 (v3431 : BitVec 32) : Fin 3 → Nat :=
  let c0_i32_2533 : BitVec 32 := 0#32
  let c0_i32_2534 : BitVec 32 := 0#32
  ![v3431.toNat, 0, 0]

def k0_chk129 (i : grid0.Coords) (v3431 : BitVec 32) : Prop :=
  (∀ (k0_h1 : k0_cond1 i = 1#1), ∀ a, (k0_off193 v3431) a + S1x128x64.size a ≤ S4096x128x64.size a)
theorem k0_off193_inb : ∀ (i : grid0.Coords) (v3431 : BitVec 32) (k0_hw129 : k0_chk129 i v3431), ∀ (k0_h1 : k0_cond1 i = 1#1), ∀ a, (k0_off193 v3431) a + S1x128x64.size a ≤ S4096x128x64.size a := fun i v3431 k0_hw129 k0_h1 => k0_hw129 k0_h1

def k0_off194 (v3432 : BitVec 32) : Fin 3 → Nat :=
  let c0_i32_2540 : BitVec 32 := 0#32
  let c0_i32_2541 : BitVec 32 := 0#32
  ![v3432.toNat, 0, 0]

def k0_off195 (v3432 : BitVec 32) : Fin 3 → Nat :=
  let c0_i32_2547 : BitVec 32 := 0#32
  let c0_i32_2548 : BitVec 32 := 0#32
  ![v3432.toNat, 0, 0]

def k0_chk130 (i : grid0.Coords) (v3432 : BitVec 32) : Prop :=
  (∀ (k0_h1 : k0_cond1 i = 1#1), ∀ a, (k0_off194 v3432) a + S1x128x128.size a ≤ S1024x128x128.size a) ∧
  (∀ (k0_h1 : k0_cond1 i = 1#1), ∀ (hinb : ∀ a, (k0_off194 v3432) a + S1x128x128.size a ≤ S1024x128x128.size a), (Rect.unit (s := S1024x128x128) (k0_off194 v3432) S1x128x128.size hinb).WholeWords (EltTy.packing .bf16)) ∧
  (∀ (k0_h1 : k0_cond1 i = 1#1), ∀ a, (k0_off195 v3432) a + S1x1x128.size a ≤ S1024x1x128.size a)
theorem k0_off194_inb : ∀ (i : grid0.Coords) (v3432 : BitVec 32) (k0_hw130 : k0_chk130 i v3432), ∀ (k0_h1 : k0_cond1 i = 1#1), ∀ a, (k0_off194 v3432) a + S1x128x128.size a ≤ S1024x128x128.size a := fun i v3432 k0_hw130 k0_h1 => k0_hw130.1 k0_h1
theorem k0_off194_wordsbf16 : ∀ (i : grid0.Coords) (v3432 : BitVec 32) (k0_hw130 : k0_chk130 i v3432), ∀ (k0_h1 : k0_cond1 i = 1#1), (Rect.unit (s := S1024x128x128) (k0_off194 v3432) S1x128x128.size (k0_off194_inb i v3432 k0_hw130 k0_h1)).WholeWords (EltTy.packing .bf16) := fun i v3432 k0_hw130 k0_h1 => k0_hw130.2.1 k0_h1 (k0_off194_inb i v3432 k0_hw130 k0_h1)
theorem k0_off195_inb : ∀ (i : grid0.Coords) (v3432 : BitVec 32) (k0_hw130 : k0_chk130 i v3432), ∀ (k0_h1 : k0_cond1 i = 1#1), ∀ a, (k0_off195 v3432) a + S1x1x128.size a ≤ S1024x1x128.size a := fun i v3432 k0_hw130 k0_h1 => k0_hw130.2.2 k0_h1

def k0_off196 (v3451 : BitVec 32) : Fin 3 → Nat :=
  let c0_i32_2555 : BitVec 32 := 0#32
  let c0_i32_2556 : BitVec 32 := 0#32
  ![v3451.toNat, 0, 0]

def k0_chk131 (i : grid0.Coords) (v3451 : BitVec 32) : Prop :=
  (∀ (k0_h1 : k0_cond1 i = 1#1), ∀ a, (k0_off196 v3451) a + S1x128x64.size a ≤ S4096x128x64.size a)
theorem k0_off196_inb : ∀ (i : grid0.Coords) (v3451 : BitVec 32) (k0_hw131 : k0_chk131 i v3451), ∀ (k0_h1 : k0_cond1 i = 1#1), ∀ a, (k0_off196 v3451) a + S1x128x64.size a ≤ S4096x128x64.size a := fun i v3451 k0_hw131 k0_h1 => k0_hw131 k0_h1

def k0_off197 (v3452 : BitVec 32) : Fin 3 → Nat :=
  let c0_i32_2562 : BitVec 32 := 0#32
  let c0_i32_2563 : BitVec 32 := 0#32
  ![v3452.toNat, 0, 0]

def k0_off198 (v3452 : BitVec 32) : Fin 3 → Nat :=
  let c0_i32_2569 : BitVec 32 := 0#32
  let c0_i32_2570 : BitVec 32 := 0#32
  ![v3452.toNat, 0, 0]

def k0_chk132 (i : grid0.Coords) (v3452 : BitVec 32) : Prop :=
  (∀ (k0_h1 : k0_cond1 i = 1#1), ∀ a, (k0_off197 v3452) a + S1x128x128.size a ≤ S1024x128x128.size a) ∧
  (∀ (k0_h1 : k0_cond1 i = 1#1), ∀ (hinb : ∀ a, (k0_off197 v3452) a + S1x128x128.size a ≤ S1024x128x128.size a), (Rect.unit (s := S1024x128x128) (k0_off197 v3452) S1x128x128.size hinb).WholeWords (EltTy.packing .bf16)) ∧
  (∀ (k0_h1 : k0_cond1 i = 1#1), ∀ a, (k0_off198 v3452) a + S1x1x128.size a ≤ S1024x1x128.size a)
theorem k0_off197_inb : ∀ (i : grid0.Coords) (v3452 : BitVec 32) (k0_hw132 : k0_chk132 i v3452), ∀ (k0_h1 : k0_cond1 i = 1#1), ∀ a, (k0_off197 v3452) a + S1x128x128.size a ≤ S1024x128x128.size a := fun i v3452 k0_hw132 k0_h1 => k0_hw132.1 k0_h1
theorem k0_off197_wordsbf16 : ∀ (i : grid0.Coords) (v3452 : BitVec 32) (k0_hw132 : k0_chk132 i v3452), ∀ (k0_h1 : k0_cond1 i = 1#1), (Rect.unit (s := S1024x128x128) (k0_off197 v3452) S1x128x128.size (k0_off197_inb i v3452 k0_hw132 k0_h1)).WholeWords (EltTy.packing .bf16) := fun i v3452 k0_hw132 k0_h1 => k0_hw132.2.1 k0_h1 (k0_off197_inb i v3452 k0_hw132 k0_h1)
theorem k0_off198_inb : ∀ (i : grid0.Coords) (v3452 : BitVec 32) (k0_hw132 : k0_chk132 i v3452), ∀ (k0_h1 : k0_cond1 i = 1#1), ∀ a, (k0_off198 v3452) a + S1x1x128.size a ≤ S1024x1x128.size a := fun i v3452 k0_hw132 k0_h1 => k0_hw132.2.2 k0_h1

def k0_off199 (v3471 : BitVec 32) : Fin 3 → Nat :=
  let c0_i32_2577 : BitVec 32 := 0#32
  let c0_i32_2578 : BitVec 32 := 0#32
  ![v3471.toNat, 0, 0]

def k0_chk133 (i : grid0.Coords) (v3471 : BitVec 32) : Prop :=
  (∀ (k0_h1 : k0_cond1 i = 1#1), ∀ a, (k0_off199 v3471) a + S1x128x64.size a ≤ S4096x128x64.size a)
theorem k0_off199_inb : ∀ (i : grid0.Coords) (v3471 : BitVec 32) (k0_hw133 : k0_chk133 i v3471), ∀ (k0_h1 : k0_cond1 i = 1#1), ∀ a, (k0_off199 v3471) a + S1x128x64.size a ≤ S4096x128x64.size a := fun i v3471 k0_hw133 k0_h1 => k0_hw133 k0_h1

def k0_off200 (v3472 : BitVec 32) : Fin 3 → Nat :=
  let c0_i32_2584 : BitVec 32 := 0#32
  let c0_i32_2585 : BitVec 32 := 0#32
  ![v3472.toNat, 0, 0]

def k0_off201 (v3472 : BitVec 32) : Fin 3 → Nat :=
  let c0_i32_2591 : BitVec 32 := 0#32
  let c0_i32_2592 : BitVec 32 := 0#32
  ![v3472.toNat, 0, 0]

def k0_chk134 (i : grid0.Coords) (v3472 : BitVec 32) : Prop :=
  (∀ (k0_h1 : k0_cond1 i = 1#1), ∀ a, (k0_off200 v3472) a + S1x128x128.size a ≤ S1024x128x128.size a) ∧
  (∀ (k0_h1 : k0_cond1 i = 1#1), ∀ (hinb : ∀ a, (k0_off200 v3472) a + S1x128x128.size a ≤ S1024x128x128.size a), (Rect.unit (s := S1024x128x128) (k0_off200 v3472) S1x128x128.size hinb).WholeWords (EltTy.packing .bf16)) ∧
  (∀ (k0_h1 : k0_cond1 i = 1#1), ∀ a, (k0_off201 v3472) a + S1x1x128.size a ≤ S1024x1x128.size a)
theorem k0_off200_inb : ∀ (i : grid0.Coords) (v3472 : BitVec 32) (k0_hw134 : k0_chk134 i v3472), ∀ (k0_h1 : k0_cond1 i = 1#1), ∀ a, (k0_off200 v3472) a + S1x128x128.size a ≤ S1024x128x128.size a := fun i v3472 k0_hw134 k0_h1 => k0_hw134.1 k0_h1
theorem k0_off200_wordsbf16 : ∀ (i : grid0.Coords) (v3472 : BitVec 32) (k0_hw134 : k0_chk134 i v3472), ∀ (k0_h1 : k0_cond1 i = 1#1), (Rect.unit (s := S1024x128x128) (k0_off200 v3472) S1x128x128.size (k0_off200_inb i v3472 k0_hw134 k0_h1)).WholeWords (EltTy.packing .bf16) := fun i v3472 k0_hw134 k0_h1 => k0_hw134.2.1 k0_h1 (k0_off200_inb i v3472 k0_hw134 k0_h1)
theorem k0_off201_inb : ∀ (i : grid0.Coords) (v3472 : BitVec 32) (k0_hw134 : k0_chk134 i v3472), ∀ (k0_h1 : k0_cond1 i = 1#1), ∀ a, (k0_off201 v3472) a + S1x1x128.size a ≤ S1024x1x128.size a := fun i v3472 k0_hw134 k0_h1 => k0_hw134.2.2 k0_h1

def k0_off202 (v3491 : BitVec 32) : Fin 3 → Nat :=
  let c0_i32_2599 : BitVec 32 := 0#32
  let c0_i32_2600 : BitVec 32 := 0#32
  ![v3491.toNat, 0, 0]

def k0_chk135 (i : grid0.Coords) (v3491 : BitVec 32) : Prop :=
  (∀ (k0_h1 : k0_cond1 i = 1#1), ∀ a, (k0_off202 v3491) a + S1x128x64.size a ≤ S4096x128x64.size a)
theorem k0_off202_inb : ∀ (i : grid0.Coords) (v3491 : BitVec 32) (k0_hw135 : k0_chk135 i v3491), ∀ (k0_h1 : k0_cond1 i = 1#1), ∀ a, (k0_off202 v3491) a + S1x128x64.size a ≤ S4096x128x64.size a := fun i v3491 k0_hw135 k0_h1 => k0_hw135 k0_h1

def k0_off203 (v3492 : BitVec 32) : Fin 3 → Nat :=
  let c0_i32_2606 : BitVec 32 := 0#32
  let c0_i32_2607 : BitVec 32 := 0#32
  ![v3492.toNat, 0, 0]

def k0_off204 (v3492 : BitVec 32) : Fin 3 → Nat :=
  let c0_i32_2613 : BitVec 32 := 0#32
  let c0_i32_2614 : BitVec 32 := 0#32
  ![v3492.toNat, 0, 0]

def k0_chk136 (i : grid0.Coords) (v3492 : BitVec 32) : Prop :=
  (∀ (k0_h1 : k0_cond1 i = 1#1), ∀ a, (k0_off203 v3492) a + S1x128x128.size a ≤ S1024x128x128.size a) ∧
  (∀ (k0_h1 : k0_cond1 i = 1#1), ∀ (hinb : ∀ a, (k0_off203 v3492) a + S1x128x128.size a ≤ S1024x128x128.size a), (Rect.unit (s := S1024x128x128) (k0_off203 v3492) S1x128x128.size hinb).WholeWords (EltTy.packing .bf16)) ∧
  (∀ (k0_h1 : k0_cond1 i = 1#1), ∀ a, (k0_off204 v3492) a + S1x1x128.size a ≤ S1024x1x128.size a)
theorem k0_off203_inb : ∀ (i : grid0.Coords) (v3492 : BitVec 32) (k0_hw136 : k0_chk136 i v3492), ∀ (k0_h1 : k0_cond1 i = 1#1), ∀ a, (k0_off203 v3492) a + S1x128x128.size a ≤ S1024x128x128.size a := fun i v3492 k0_hw136 k0_h1 => k0_hw136.1 k0_h1
theorem k0_off203_wordsbf16 : ∀ (i : grid0.Coords) (v3492 : BitVec 32) (k0_hw136 : k0_chk136 i v3492), ∀ (k0_h1 : k0_cond1 i = 1#1), (Rect.unit (s := S1024x128x128) (k0_off203 v3492) S1x128x128.size (k0_off203_inb i v3492 k0_hw136 k0_h1)).WholeWords (EltTy.packing .bf16) := fun i v3492 k0_hw136 k0_h1 => k0_hw136.2.1 k0_h1 (k0_off203_inb i v3492 k0_hw136 k0_h1)
theorem k0_off204_inb : ∀ (i : grid0.Coords) (v3492 : BitVec 32) (k0_hw136 : k0_chk136 i v3492), ∀ (k0_h1 : k0_cond1 i = 1#1), ∀ a, (k0_off204 v3492) a + S1x1x128.size a ≤ S1024x1x128.size a := fun i v3492 k0_hw136 k0_h1 => k0_hw136.2.2 k0_h1

def k0_off205 (v3511 : BitVec 32) : Fin 3 → Nat :=
  let c0_i32_2621 : BitVec 32 := 0#32
  let c0_i32_2622 : BitVec 32 := 0#32
  ![v3511.toNat, 0, 0]

def k0_chk137 (i : grid0.Coords) (v3511 : BitVec 32) : Prop :=
  (∀ (k0_h1 : k0_cond1 i = 1#1), ∀ a, (k0_off205 v3511) a + S1x128x64.size a ≤ S4096x128x64.size a)
theorem k0_off205_inb : ∀ (i : grid0.Coords) (v3511 : BitVec 32) (k0_hw137 : k0_chk137 i v3511), ∀ (k0_h1 : k0_cond1 i = 1#1), ∀ a, (k0_off205 v3511) a + S1x128x64.size a ≤ S4096x128x64.size a := fun i v3511 k0_hw137 k0_h1 => k0_hw137 k0_h1

def k0_off206 (v3512 : BitVec 32) : Fin 3 → Nat :=
  let c0_i32_2628 : BitVec 32 := 0#32
  let c0_i32_2629 : BitVec 32 := 0#32
  ![v3512.toNat, 0, 0]

def k0_off207 (v3512 : BitVec 32) : Fin 3 → Nat :=
  let c0_i32_2635 : BitVec 32 := 0#32
  let c0_i32_2636 : BitVec 32 := 0#32
  ![v3512.toNat, 0, 0]

def k0_chk138 (i : grid0.Coords) (v3512 : BitVec 32) : Prop :=
  (∀ (k0_h1 : k0_cond1 i = 1#1), ∀ a, (k0_off206 v3512) a + S1x128x128.size a ≤ S1024x128x128.size a) ∧
  (∀ (k0_h1 : k0_cond1 i = 1#1), ∀ (hinb : ∀ a, (k0_off206 v3512) a + S1x128x128.size a ≤ S1024x128x128.size a), (Rect.unit (s := S1024x128x128) (k0_off206 v3512) S1x128x128.size hinb).WholeWords (EltTy.packing .bf16)) ∧
  (∀ (k0_h1 : k0_cond1 i = 1#1), ∀ a, (k0_off207 v3512) a + S1x1x128.size a ≤ S1024x1x128.size a)
theorem k0_off206_inb : ∀ (i : grid0.Coords) (v3512 : BitVec 32) (k0_hw138 : k0_chk138 i v3512), ∀ (k0_h1 : k0_cond1 i = 1#1), ∀ a, (k0_off206 v3512) a + S1x128x128.size a ≤ S1024x128x128.size a := fun i v3512 k0_hw138 k0_h1 => k0_hw138.1 k0_h1
theorem k0_off206_wordsbf16 : ∀ (i : grid0.Coords) (v3512 : BitVec 32) (k0_hw138 : k0_chk138 i v3512), ∀ (k0_h1 : k0_cond1 i = 1#1), (Rect.unit (s := S1024x128x128) (k0_off206 v3512) S1x128x128.size (k0_off206_inb i v3512 k0_hw138 k0_h1)).WholeWords (EltTy.packing .bf16) := fun i v3512 k0_hw138 k0_h1 => k0_hw138.2.1 k0_h1 (k0_off206_inb i v3512 k0_hw138 k0_h1)
theorem k0_off207_inb : ∀ (i : grid0.Coords) (v3512 : BitVec 32) (k0_hw138 : k0_chk138 i v3512), ∀ (k0_h1 : k0_cond1 i = 1#1), ∀ a, (k0_off207 v3512) a + S1x1x128.size a ≤ S1024x1x128.size a := fun i v3512 k0_hw138 k0_h1 => k0_hw138.2.2 k0_h1

def k0_off208 (v3531 : BitVec 32) : Fin 3 → Nat :=
  let c0_i32_2643 : BitVec 32 := 0#32
  let c0_i32_2644 : BitVec 32 := 0#32
  ![v3531.toNat, 0, 0]

def k0_chk139 (i : grid0.Coords) (v3531 : BitVec 32) : Prop :=
  (∀ (k0_h1 : k0_cond1 i = 1#1), ∀ a, (k0_off208 v3531) a + S1x128x64.size a ≤ S4096x128x64.size a)
theorem k0_off208_inb : ∀ (i : grid0.Coords) (v3531 : BitVec 32) (k0_hw139 : k0_chk139 i v3531), ∀ (k0_h1 : k0_cond1 i = 1#1), ∀ a, (k0_off208 v3531) a + S1x128x64.size a ≤ S4096x128x64.size a := fun i v3531 k0_hw139 k0_h1 => k0_hw139 k0_h1

def k0_off209 (v3532 : BitVec 32) : Fin 3 → Nat :=
  let c0_i32_2650 : BitVec 32 := 0#32
  let c0_i32_2651 : BitVec 32 := 0#32
  ![v3532.toNat, 0, 0]

def k0_off210 (v3532 : BitVec 32) : Fin 3 → Nat :=
  let c0_i32_2657 : BitVec 32 := 0#32
  let c0_i32_2658 : BitVec 32 := 0#32
  ![v3532.toNat, 0, 0]

def k0_chk140 (i : grid0.Coords) (v3532 : BitVec 32) : Prop :=
  (∀ (k0_h1 : k0_cond1 i = 1#1), ∀ a, (k0_off209 v3532) a + S1x128x128.size a ≤ S1024x128x128.size a) ∧
  (∀ (k0_h1 : k0_cond1 i = 1#1), ∀ (hinb : ∀ a, (k0_off209 v3532) a + S1x128x128.size a ≤ S1024x128x128.size a), (Rect.unit (s := S1024x128x128) (k0_off209 v3532) S1x128x128.size hinb).WholeWords (EltTy.packing .bf16)) ∧
  (∀ (k0_h1 : k0_cond1 i = 1#1), ∀ a, (k0_off210 v3532) a + S1x1x128.size a ≤ S1024x1x128.size a)
theorem k0_off209_inb : ∀ (i : grid0.Coords) (v3532 : BitVec 32) (k0_hw140 : k0_chk140 i v3532), ∀ (k0_h1 : k0_cond1 i = 1#1), ∀ a, (k0_off209 v3532) a + S1x128x128.size a ≤ S1024x128x128.size a := fun i v3532 k0_hw140 k0_h1 => k0_hw140.1 k0_h1
theorem k0_off209_wordsbf16 : ∀ (i : grid0.Coords) (v3532 : BitVec 32) (k0_hw140 : k0_chk140 i v3532), ∀ (k0_h1 : k0_cond1 i = 1#1), (Rect.unit (s := S1024x128x128) (k0_off209 v3532) S1x128x128.size (k0_off209_inb i v3532 k0_hw140 k0_h1)).WholeWords (EltTy.packing .bf16) := fun i v3532 k0_hw140 k0_h1 => k0_hw140.2.1 k0_h1 (k0_off209_inb i v3532 k0_hw140 k0_h1)
theorem k0_off210_inb : ∀ (i : grid0.Coords) (v3532 : BitVec 32) (k0_hw140 : k0_chk140 i v3532), ∀ (k0_h1 : k0_cond1 i = 1#1), ∀ a, (k0_off210 v3532) a + S1x1x128.size a ≤ S1024x1x128.size a := fun i v3532 k0_hw140 k0_h1 => k0_hw140.2.2 k0_h1

def k0_off211 (v3551 : BitVec 32) : Fin 3 → Nat :=
  let c0_i32_2665 : BitVec 32 := 0#32
  let c0_i32_2666 : BitVec 32 := 0#32
  ![v3551.toNat, 0, 0]

def k0_chk141 (i : grid0.Coords) (v3551 : BitVec 32) : Prop :=
  (∀ (k0_h1 : k0_cond1 i = 1#1), ∀ a, (k0_off211 v3551) a + S1x128x64.size a ≤ S4096x128x64.size a)
theorem k0_off211_inb : ∀ (i : grid0.Coords) (v3551 : BitVec 32) (k0_hw141 : k0_chk141 i v3551), ∀ (k0_h1 : k0_cond1 i = 1#1), ∀ a, (k0_off211 v3551) a + S1x128x64.size a ≤ S4096x128x64.size a := fun i v3551 k0_hw141 k0_h1 => k0_hw141 k0_h1

def k0_off212 (v3552 : BitVec 32) : Fin 3 → Nat :=
  let c0_i32_2672 : BitVec 32 := 0#32
  let c0_i32_2673 : BitVec 32 := 0#32
  ![v3552.toNat, 0, 0]

def k0_off213 (v3552 : BitVec 32) : Fin 3 → Nat :=
  let c0_i32_2679 : BitVec 32 := 0#32
  let c0_i32_2680 : BitVec 32 := 0#32
  ![v3552.toNat, 0, 0]

def k0_chk142 (i : grid0.Coords) (v3552 : BitVec 32) : Prop :=
  (∀ (k0_h1 : k0_cond1 i = 1#1), ∀ a, (k0_off212 v3552) a + S1x128x128.size a ≤ S1024x128x128.size a) ∧
  (∀ (k0_h1 : k0_cond1 i = 1#1), ∀ (hinb : ∀ a, (k0_off212 v3552) a + S1x128x128.size a ≤ S1024x128x128.size a), (Rect.unit (s := S1024x128x128) (k0_off212 v3552) S1x128x128.size hinb).WholeWords (EltTy.packing .bf16)) ∧
  (∀ (k0_h1 : k0_cond1 i = 1#1), ∀ a, (k0_off213 v3552) a + S1x1x128.size a ≤ S1024x1x128.size a)
theorem k0_off212_inb : ∀ (i : grid0.Coords) (v3552 : BitVec 32) (k0_hw142 : k0_chk142 i v3552), ∀ (k0_h1 : k0_cond1 i = 1#1), ∀ a, (k0_off212 v3552) a + S1x128x128.size a ≤ S1024x128x128.size a := fun i v3552 k0_hw142 k0_h1 => k0_hw142.1 k0_h1
theorem k0_off212_wordsbf16 : ∀ (i : grid0.Coords) (v3552 : BitVec 32) (k0_hw142 : k0_chk142 i v3552), ∀ (k0_h1 : k0_cond1 i = 1#1), (Rect.unit (s := S1024x128x128) (k0_off212 v3552) S1x128x128.size (k0_off212_inb i v3552 k0_hw142 k0_h1)).WholeWords (EltTy.packing .bf16) := fun i v3552 k0_hw142 k0_h1 => k0_hw142.2.1 k0_h1 (k0_off212_inb i v3552 k0_hw142 k0_h1)
theorem k0_off213_inb : ∀ (i : grid0.Coords) (v3552 : BitVec 32) (k0_hw142 : k0_chk142 i v3552), ∀ (k0_h1 : k0_cond1 i = 1#1), ∀ a, (k0_off213 v3552) a + S1x1x128.size a ≤ S1024x1x128.size a := fun i v3552 k0_hw142 k0_h1 => k0_hw142.2.2 k0_h1

def k0_off214 (v3571 : BitVec 32) : Fin 3 → Nat :=
  let c0_i32_2687 : BitVec 32 := 0#32
  let c0_i32_2688 : BitVec 32 := 0#32
  ![v3571.toNat, 0, 0]

def k0_chk143 (i : grid0.Coords) (v3571 : BitVec 32) : Prop :=
  (∀ (k0_h1 : k0_cond1 i = 1#1), ∀ a, (k0_off214 v3571) a + S1x128x64.size a ≤ S4096x128x64.size a)
theorem k0_off214_inb : ∀ (i : grid0.Coords) (v3571 : BitVec 32) (k0_hw143 : k0_chk143 i v3571), ∀ (k0_h1 : k0_cond1 i = 1#1), ∀ a, (k0_off214 v3571) a + S1x128x64.size a ≤ S4096x128x64.size a := fun i v3571 k0_hw143 k0_h1 => k0_hw143 k0_h1

def k0_off215 (v3572 : BitVec 32) : Fin 3 → Nat :=
  let c0_i32_2694 : BitVec 32 := 0#32
  let c0_i32_2695 : BitVec 32 := 0#32
  ![v3572.toNat, 0, 0]

def k0_off216 (v3572 : BitVec 32) : Fin 3 → Nat :=
  let c0_i32_2701 : BitVec 32 := 0#32
  let c0_i32_2702 : BitVec 32 := 0#32
  ![v3572.toNat, 0, 0]

def k0_chk144 (i : grid0.Coords) (v3572 : BitVec 32) : Prop :=
  (∀ (k0_h1 : k0_cond1 i = 1#1), ∀ a, (k0_off215 v3572) a + S1x128x128.size a ≤ S1024x128x128.size a) ∧
  (∀ (k0_h1 : k0_cond1 i = 1#1), ∀ (hinb : ∀ a, (k0_off215 v3572) a + S1x128x128.size a ≤ S1024x128x128.size a), (Rect.unit (s := S1024x128x128) (k0_off215 v3572) S1x128x128.size hinb).WholeWords (EltTy.packing .bf16)) ∧
  (∀ (k0_h1 : k0_cond1 i = 1#1), ∀ a, (k0_off216 v3572) a + S1x1x128.size a ≤ S1024x1x128.size a)
theorem k0_off215_inb : ∀ (i : grid0.Coords) (v3572 : BitVec 32) (k0_hw144 : k0_chk144 i v3572), ∀ (k0_h1 : k0_cond1 i = 1#1), ∀ a, (k0_off215 v3572) a + S1x128x128.size a ≤ S1024x128x128.size a := fun i v3572 k0_hw144 k0_h1 => k0_hw144.1 k0_h1
theorem k0_off215_wordsbf16 : ∀ (i : grid0.Coords) (v3572 : BitVec 32) (k0_hw144 : k0_chk144 i v3572), ∀ (k0_h1 : k0_cond1 i = 1#1), (Rect.unit (s := S1024x128x128) (k0_off215 v3572) S1x128x128.size (k0_off215_inb i v3572 k0_hw144 k0_h1)).WholeWords (EltTy.packing .bf16) := fun i v3572 k0_hw144 k0_h1 => k0_hw144.2.1 k0_h1 (k0_off215_inb i v3572 k0_hw144 k0_h1)
theorem k0_off216_inb : ∀ (i : grid0.Coords) (v3572 : BitVec 32) (k0_hw144 : k0_chk144 i v3572), ∀ (k0_h1 : k0_cond1 i = 1#1), ∀ a, (k0_off216 v3572) a + S1x1x128.size a ≤ S1024x1x128.size a := fun i v3572 k0_hw144 k0_h1 => k0_hw144.2.2 k0_h1

def k0_off217 (v3591 : BitVec 32) : Fin 3 → Nat :=
  let c0_i32_2709 : BitVec 32 := 0#32
  let c0_i32_2710 : BitVec 32 := 0#32
  ![v3591.toNat, 0, 0]

def k0_chk145 (i : grid0.Coords) (v3591 : BitVec 32) : Prop :=
  (∀ (k0_h1 : k0_cond1 i = 1#1), ∀ a, (k0_off217 v3591) a + S1x128x64.size a ≤ S4096x128x64.size a)
theorem k0_off217_inb : ∀ (i : grid0.Coords) (v3591 : BitVec 32) (k0_hw145 : k0_chk145 i v3591), ∀ (k0_h1 : k0_cond1 i = 1#1), ∀ a, (k0_off217 v3591) a + S1x128x64.size a ≤ S4096x128x64.size a := fun i v3591 k0_hw145 k0_h1 => k0_hw145 k0_h1

def k0_off218 (v3592 : BitVec 32) : Fin 3 → Nat :=
  let c0_i32_2716 : BitVec 32 := 0#32
  let c0_i32_2717 : BitVec 32 := 0#32
  ![v3592.toNat, 0, 0]

def k0_off219 (v3592 : BitVec 32) : Fin 3 → Nat :=
  let c0_i32_2723 : BitVec 32 := 0#32
  let c0_i32_2724 : BitVec 32 := 0#32
  ![v3592.toNat, 0, 0]

def k0_chk146 (i : grid0.Coords) (v3592 : BitVec 32) : Prop :=
  (∀ (k0_h1 : k0_cond1 i = 1#1), ∀ a, (k0_off218 v3592) a + S1x128x128.size a ≤ S1024x128x128.size a) ∧
  (∀ (k0_h1 : k0_cond1 i = 1#1), ∀ (hinb : ∀ a, (k0_off218 v3592) a + S1x128x128.size a ≤ S1024x128x128.size a), (Rect.unit (s := S1024x128x128) (k0_off218 v3592) S1x128x128.size hinb).WholeWords (EltTy.packing .bf16)) ∧
  (∀ (k0_h1 : k0_cond1 i = 1#1), ∀ a, (k0_off219 v3592) a + S1x1x128.size a ≤ S1024x1x128.size a)
theorem k0_off218_inb : ∀ (i : grid0.Coords) (v3592 : BitVec 32) (k0_hw146 : k0_chk146 i v3592), ∀ (k0_h1 : k0_cond1 i = 1#1), ∀ a, (k0_off218 v3592) a + S1x128x128.size a ≤ S1024x128x128.size a := fun i v3592 k0_hw146 k0_h1 => k0_hw146.1 k0_h1
theorem k0_off218_wordsbf16 : ∀ (i : grid0.Coords) (v3592 : BitVec 32) (k0_hw146 : k0_chk146 i v3592), ∀ (k0_h1 : k0_cond1 i = 1#1), (Rect.unit (s := S1024x128x128) (k0_off218 v3592) S1x128x128.size (k0_off218_inb i v3592 k0_hw146 k0_h1)).WholeWords (EltTy.packing .bf16) := fun i v3592 k0_hw146 k0_h1 => k0_hw146.2.1 k0_h1 (k0_off218_inb i v3592 k0_hw146 k0_h1)
theorem k0_off219_inb : ∀ (i : grid0.Coords) (v3592 : BitVec 32) (k0_hw146 : k0_chk146 i v3592), ∀ (k0_h1 : k0_cond1 i = 1#1), ∀ a, (k0_off219 v3592) a + S1x1x128.size a ≤ S1024x1x128.size a := fun i v3592 k0_hw146 k0_h1 => k0_hw146.2.2 k0_h1

def k0_off220 (v3611 : BitVec 32) : Fin 3 → Nat :=
  let c0_i32_2731 : BitVec 32 := 0#32
  let c0_i32_2732 : BitVec 32 := 0#32
  ![v3611.toNat, 0, 0]

def k0_chk147 (i : grid0.Coords) (v3611 : BitVec 32) : Prop :=
  (∀ (k0_h1 : k0_cond1 i = 1#1), ∀ a, (k0_off220 v3611) a + S1x128x64.size a ≤ S4096x128x64.size a)
theorem k0_off220_inb : ∀ (i : grid0.Coords) (v3611 : BitVec 32) (k0_hw147 : k0_chk147 i v3611), ∀ (k0_h1 : k0_cond1 i = 1#1), ∀ a, (k0_off220 v3611) a + S1x128x64.size a ≤ S4096x128x64.size a := fun i v3611 k0_hw147 k0_h1 => k0_hw147 k0_h1

def k0_off221 (v3612 : BitVec 32) : Fin 3 → Nat :=
  let c0_i32_2738 : BitVec 32 := 0#32
  let c0_i32_2739 : BitVec 32 := 0#32
  ![v3612.toNat, 0, 0]

def k0_off222 (v3612 : BitVec 32) : Fin 3 → Nat :=
  let c0_i32_2745 : BitVec 32 := 0#32
  let c0_i32_2746 : BitVec 32 := 0#32
  ![v3612.toNat, 0, 0]

def k0_chk148 (i : grid0.Coords) (v3612 : BitVec 32) : Prop :=
  (∀ (k0_h1 : k0_cond1 i = 1#1), ∀ a, (k0_off221 v3612) a + S1x128x128.size a ≤ S1024x128x128.size a) ∧
  (∀ (k0_h1 : k0_cond1 i = 1#1), ∀ (hinb : ∀ a, (k0_off221 v3612) a + S1x128x128.size a ≤ S1024x128x128.size a), (Rect.unit (s := S1024x128x128) (k0_off221 v3612) S1x128x128.size hinb).WholeWords (EltTy.packing .bf16)) ∧
  (∀ (k0_h1 : k0_cond1 i = 1#1), ∀ a, (k0_off222 v3612) a + S1x1x128.size a ≤ S1024x1x128.size a)
theorem k0_off221_inb : ∀ (i : grid0.Coords) (v3612 : BitVec 32) (k0_hw148 : k0_chk148 i v3612), ∀ (k0_h1 : k0_cond1 i = 1#1), ∀ a, (k0_off221 v3612) a + S1x128x128.size a ≤ S1024x128x128.size a := fun i v3612 k0_hw148 k0_h1 => k0_hw148.1 k0_h1
theorem k0_off221_wordsbf16 : ∀ (i : grid0.Coords) (v3612 : BitVec 32) (k0_hw148 : k0_chk148 i v3612), ∀ (k0_h1 : k0_cond1 i = 1#1), (Rect.unit (s := S1024x128x128) (k0_off221 v3612) S1x128x128.size (k0_off221_inb i v3612 k0_hw148 k0_h1)).WholeWords (EltTy.packing .bf16) := fun i v3612 k0_hw148 k0_h1 => k0_hw148.2.1 k0_h1 (k0_off221_inb i v3612 k0_hw148 k0_h1)
theorem k0_off222_inb : ∀ (i : grid0.Coords) (v3612 : BitVec 32) (k0_hw148 : k0_chk148 i v3612), ∀ (k0_h1 : k0_cond1 i = 1#1), ∀ a, (k0_off222 v3612) a + S1x1x128.size a ≤ S1024x1x128.size a := fun i v3612 k0_hw148 k0_h1 => k0_hw148.2.2 k0_h1

def k0_off223 (v3631 : BitVec 32) : Fin 3 → Nat :=
  let c0_i32_2753 : BitVec 32 := 0#32
  let c0_i32_2754 : BitVec 32 := 0#32
  ![v3631.toNat, 0, 0]

def k0_chk149 (i : grid0.Coords) (v3631 : BitVec 32) : Prop :=
  (∀ (k0_h1 : k0_cond1 i = 1#1), ∀ a, (k0_off223 v3631) a + S1x128x64.size a ≤ S4096x128x64.size a)
theorem k0_off223_inb : ∀ (i : grid0.Coords) (v3631 : BitVec 32) (k0_hw149 : k0_chk149 i v3631), ∀ (k0_h1 : k0_cond1 i = 1#1), ∀ a, (k0_off223 v3631) a + S1x128x64.size a ≤ S4096x128x64.size a := fun i v3631 k0_hw149 k0_h1 => k0_hw149 k0_h1

def k0_off224 (v3632 : BitVec 32) : Fin 3 → Nat :=
  let c0_i32_2760 : BitVec 32 := 0#32
  let c0_i32_2761 : BitVec 32 := 0#32
  ![v3632.toNat, 0, 0]

def k0_off225 (v3632 : BitVec 32) : Fin 3 → Nat :=
  let c0_i32_2767 : BitVec 32 := 0#32
  let c0_i32_2768 : BitVec 32 := 0#32
  ![v3632.toNat, 0, 0]

def k0_chk150 (i : grid0.Coords) (v3632 : BitVec 32) : Prop :=
  (∀ (k0_h1 : k0_cond1 i = 1#1), ∀ a, (k0_off224 v3632) a + S1x128x128.size a ≤ S1024x128x128.size a) ∧
  (∀ (k0_h1 : k0_cond1 i = 1#1), ∀ (hinb : ∀ a, (k0_off224 v3632) a + S1x128x128.size a ≤ S1024x128x128.size a), (Rect.unit (s := S1024x128x128) (k0_off224 v3632) S1x128x128.size hinb).WholeWords (EltTy.packing .bf16)) ∧
  (∀ (k0_h1 : k0_cond1 i = 1#1), ∀ a, (k0_off225 v3632) a + S1x1x128.size a ≤ S1024x1x128.size a)
theorem k0_off224_inb : ∀ (i : grid0.Coords) (v3632 : BitVec 32) (k0_hw150 : k0_chk150 i v3632), ∀ (k0_h1 : k0_cond1 i = 1#1), ∀ a, (k0_off224 v3632) a + S1x128x128.size a ≤ S1024x128x128.size a := fun i v3632 k0_hw150 k0_h1 => k0_hw150.1 k0_h1
theorem k0_off224_wordsbf16 : ∀ (i : grid0.Coords) (v3632 : BitVec 32) (k0_hw150 : k0_chk150 i v3632), ∀ (k0_h1 : k0_cond1 i = 1#1), (Rect.unit (s := S1024x128x128) (k0_off224 v3632) S1x128x128.size (k0_off224_inb i v3632 k0_hw150 k0_h1)).WholeWords (EltTy.packing .bf16) := fun i v3632 k0_hw150 k0_h1 => k0_hw150.2.1 k0_h1 (k0_off224_inb i v3632 k0_hw150 k0_h1)
theorem k0_off225_inb : ∀ (i : grid0.Coords) (v3632 : BitVec 32) (k0_hw150 : k0_chk150 i v3632), ∀ (k0_h1 : k0_cond1 i = 1#1), ∀ a, (k0_off225 v3632) a + S1x1x128.size a ≤ S1024x1x128.size a := fun i v3632 k0_hw150 k0_h1 => k0_hw150.2.2 k0_h1

def k0_off226 (v3651 : BitVec 32) : Fin 3 → Nat :=
  let c0_i32_2775 : BitVec 32 := 0#32
  let c0_i32_2776 : BitVec 32 := 0#32
  ![v3651.toNat, 0, 0]

def k0_chk151 (i : grid0.Coords) (v3651 : BitVec 32) : Prop :=
  (∀ (k0_h1 : k0_cond1 i = 1#1), ∀ a, (k0_off226 v3651) a + S1x128x64.size a ≤ S4096x128x64.size a)
theorem k0_off226_inb : ∀ (i : grid0.Coords) (v3651 : BitVec 32) (k0_hw151 : k0_chk151 i v3651), ∀ (k0_h1 : k0_cond1 i = 1#1), ∀ a, (k0_off226 v3651) a + S1x128x64.size a ≤ S4096x128x64.size a := fun i v3651 k0_hw151 k0_h1 => k0_hw151 k0_h1

def k0_off227 (v3652 : BitVec 32) : Fin 3 → Nat :=
  let c0_i32_2782 : BitVec 32 := 0#32
  let c0_i32_2783 : BitVec 32 := 0#32
  ![v3652.toNat, 0, 0]

def k0_off228 (v3652 : BitVec 32) : Fin 3 → Nat :=
  let c0_i32_2789 : BitVec 32 := 0#32
  let c0_i32_2790 : BitVec 32 := 0#32
  ![v3652.toNat, 0, 0]

def k0_chk152 (i : grid0.Coords) (v3652 : BitVec 32) : Prop :=
  (∀ (k0_h1 : k0_cond1 i = 1#1), ∀ a, (k0_off227 v3652) a + S1x128x128.size a ≤ S1024x128x128.size a) ∧
  (∀ (k0_h1 : k0_cond1 i = 1#1), ∀ (hinb : ∀ a, (k0_off227 v3652) a + S1x128x128.size a ≤ S1024x128x128.size a), (Rect.unit (s := S1024x128x128) (k0_off227 v3652) S1x128x128.size hinb).WholeWords (EltTy.packing .bf16)) ∧
  (∀ (k0_h1 : k0_cond1 i = 1#1), ∀ a, (k0_off228 v3652) a + S1x1x128.size a ≤ S1024x1x128.size a)
theorem k0_off227_inb : ∀ (i : grid0.Coords) (v3652 : BitVec 32) (k0_hw152 : k0_chk152 i v3652), ∀ (k0_h1 : k0_cond1 i = 1#1), ∀ a, (k0_off227 v3652) a + S1x128x128.size a ≤ S1024x128x128.size a := fun i v3652 k0_hw152 k0_h1 => k0_hw152.1 k0_h1
theorem k0_off227_wordsbf16 : ∀ (i : grid0.Coords) (v3652 : BitVec 32) (k0_hw152 : k0_chk152 i v3652), ∀ (k0_h1 : k0_cond1 i = 1#1), (Rect.unit (s := S1024x128x128) (k0_off227 v3652) S1x128x128.size (k0_off227_inb i v3652 k0_hw152 k0_h1)).WholeWords (EltTy.packing .bf16) := fun i v3652 k0_hw152 k0_h1 => k0_hw152.2.1 k0_h1 (k0_off227_inb i v3652 k0_hw152 k0_h1)
theorem k0_off228_inb : ∀ (i : grid0.Coords) (v3652 : BitVec 32) (k0_hw152 : k0_chk152 i v3652), ∀ (k0_h1 : k0_cond1 i = 1#1), ∀ a, (k0_off228 v3652) a + S1x1x128.size a ≤ S1024x1x128.size a := fun i v3652 k0_hw152 k0_h1 => k0_hw152.2.2 k0_h1

def k0_off229 (v3671 : BitVec 32) : Fin 3 → Nat :=
  let c0_i32_2797 : BitVec 32 := 0#32
  let c0_i32_2798 : BitVec 32 := 0#32
  ![v3671.toNat, 0, 0]

def k0_chk153 (i : grid0.Coords) (v3671 : BitVec 32) : Prop :=
  (∀ (k0_h1 : k0_cond1 i = 1#1), ∀ a, (k0_off229 v3671) a + S1x128x64.size a ≤ S4096x128x64.size a)
theorem k0_off229_inb : ∀ (i : grid0.Coords) (v3671 : BitVec 32) (k0_hw153 : k0_chk153 i v3671), ∀ (k0_h1 : k0_cond1 i = 1#1), ∀ a, (k0_off229 v3671) a + S1x128x64.size a ≤ S4096x128x64.size a := fun i v3671 k0_hw153 k0_h1 => k0_hw153 k0_h1

def k0_off230 (v3672 : BitVec 32) : Fin 3 → Nat :=
  let c0_i32_2804 : BitVec 32 := 0#32
  let c0_i32_2805 : BitVec 32 := 0#32
  ![v3672.toNat, 0, 0]

def k0_off231 (v3672 : BitVec 32) : Fin 3 → Nat :=
  let c0_i32_2811 : BitVec 32 := 0#32
  let c0_i32_2812 : BitVec 32 := 0#32
  ![v3672.toNat, 0, 0]

def k0_chk154 (i : grid0.Coords) (v3672 : BitVec 32) : Prop :=
  (∀ (k0_h1 : k0_cond1 i = 1#1), ∀ a, (k0_off230 v3672) a + S1x128x128.size a ≤ S1024x128x128.size a) ∧
  (∀ (k0_h1 : k0_cond1 i = 1#1), ∀ (hinb : ∀ a, (k0_off230 v3672) a + S1x128x128.size a ≤ S1024x128x128.size a), (Rect.unit (s := S1024x128x128) (k0_off230 v3672) S1x128x128.size hinb).WholeWords (EltTy.packing .bf16)) ∧
  (∀ (k0_h1 : k0_cond1 i = 1#1), ∀ a, (k0_off231 v3672) a + S1x1x128.size a ≤ S1024x1x128.size a)
theorem k0_off230_inb : ∀ (i : grid0.Coords) (v3672 : BitVec 32) (k0_hw154 : k0_chk154 i v3672), ∀ (k0_h1 : k0_cond1 i = 1#1), ∀ a, (k0_off230 v3672) a + S1x128x128.size a ≤ S1024x128x128.size a := fun i v3672 k0_hw154 k0_h1 => k0_hw154.1 k0_h1
theorem k0_off230_wordsbf16 : ∀ (i : grid0.Coords) (v3672 : BitVec 32) (k0_hw154 : k0_chk154 i v3672), ∀ (k0_h1 : k0_cond1 i = 1#1), (Rect.unit (s := S1024x128x128) (k0_off230 v3672) S1x128x128.size (k0_off230_inb i v3672 k0_hw154 k0_h1)).WholeWords (EltTy.packing .bf16) := fun i v3672 k0_hw154 k0_h1 => k0_hw154.2.1 k0_h1 (k0_off230_inb i v3672 k0_hw154 k0_h1)
theorem k0_off231_inb : ∀ (i : grid0.Coords) (v3672 : BitVec 32) (k0_hw154 : k0_chk154 i v3672), ∀ (k0_h1 : k0_cond1 i = 1#1), ∀ a, (k0_off231 v3672) a + S1x1x128.size a ≤ S1024x1x128.size a := fun i v3672 k0_hw154 k0_h1 => k0_hw154.2.2 k0_h1

def k0_off232 (v3691 : BitVec 32) : Fin 3 → Nat :=
  let c0_i32_2819 : BitVec 32 := 0#32
  let c0_i32_2820 : BitVec 32 := 0#32
  ![v3691.toNat, 0, 0]

def k0_chk155 (i : grid0.Coords) (v3691 : BitVec 32) : Prop :=
  (∀ (k0_h1 : k0_cond1 i = 1#1), ∀ a, (k0_off232 v3691) a + S1x128x64.size a ≤ S4096x128x64.size a)
theorem k0_off232_inb : ∀ (i : grid0.Coords) (v3691 : BitVec 32) (k0_hw155 : k0_chk155 i v3691), ∀ (k0_h1 : k0_cond1 i = 1#1), ∀ a, (k0_off232 v3691) a + S1x128x64.size a ≤ S4096x128x64.size a := fun i v3691 k0_hw155 k0_h1 => k0_hw155 k0_h1

def k0_off233 (v3692 : BitVec 32) : Fin 3 → Nat :=
  let c0_i32_2826 : BitVec 32 := 0#32
  let c0_i32_2827 : BitVec 32 := 0#32
  ![v3692.toNat, 0, 0]

def k0_off234 (v3692 : BitVec 32) : Fin 3 → Nat :=
  let c0_i32_2833 : BitVec 32 := 0#32
  let c0_i32_2834 : BitVec 32 := 0#32
  ![v3692.toNat, 0, 0]

def k0_chk156 (i : grid0.Coords) (v3692 : BitVec 32) : Prop :=
  (∀ (k0_h1 : k0_cond1 i = 1#1), ∀ a, (k0_off233 v3692) a + S1x128x128.size a ≤ S1024x128x128.size a) ∧
  (∀ (k0_h1 : k0_cond1 i = 1#1), ∀ (hinb : ∀ a, (k0_off233 v3692) a + S1x128x128.size a ≤ S1024x128x128.size a), (Rect.unit (s := S1024x128x128) (k0_off233 v3692) S1x128x128.size hinb).WholeWords (EltTy.packing .bf16)) ∧
  (∀ (k0_h1 : k0_cond1 i = 1#1), ∀ a, (k0_off234 v3692) a + S1x1x128.size a ≤ S1024x1x128.size a)
theorem k0_off233_inb : ∀ (i : grid0.Coords) (v3692 : BitVec 32) (k0_hw156 : k0_chk156 i v3692), ∀ (k0_h1 : k0_cond1 i = 1#1), ∀ a, (k0_off233 v3692) a + S1x128x128.size a ≤ S1024x128x128.size a := fun i v3692 k0_hw156 k0_h1 => k0_hw156.1 k0_h1
theorem k0_off233_wordsbf16 : ∀ (i : grid0.Coords) (v3692 : BitVec 32) (k0_hw156 : k0_chk156 i v3692), ∀ (k0_h1 : k0_cond1 i = 1#1), (Rect.unit (s := S1024x128x128) (k0_off233 v3692) S1x128x128.size (k0_off233_inb i v3692 k0_hw156 k0_h1)).WholeWords (EltTy.packing .bf16) := fun i v3692 k0_hw156 k0_h1 => k0_hw156.2.1 k0_h1 (k0_off233_inb i v3692 k0_hw156 k0_h1)
theorem k0_off234_inb : ∀ (i : grid0.Coords) (v3692 : BitVec 32) (k0_hw156 : k0_chk156 i v3692), ∀ (k0_h1 : k0_cond1 i = 1#1), ∀ a, (k0_off234 v3692) a + S1x1x128.size a ≤ S1024x1x128.size a := fun i v3692 k0_hw156 k0_h1 => k0_hw156.2.2 k0_h1

def k0_off235 (v3711 : BitVec 32) : Fin 3 → Nat :=
  let c0_i32_2841 : BitVec 32 := 0#32
  let c0_i32_2842 : BitVec 32 := 0#32
  ![v3711.toNat, 0, 0]

def k0_chk157 (i : grid0.Coords) (v3711 : BitVec 32) : Prop :=
  (∀ (k0_h1 : k0_cond1 i = 1#1), ∀ a, (k0_off235 v3711) a + S1x128x64.size a ≤ S4096x128x64.size a)
theorem k0_off235_inb : ∀ (i : grid0.Coords) (v3711 : BitVec 32) (k0_hw157 : k0_chk157 i v3711), ∀ (k0_h1 : k0_cond1 i = 1#1), ∀ a, (k0_off235 v3711) a + S1x128x64.size a ≤ S4096x128x64.size a := fun i v3711 k0_hw157 k0_h1 => k0_hw157 k0_h1

def k0_off236 (v3712 : BitVec 32) : Fin 3 → Nat :=
  let c0_i32_2848 : BitVec 32 := 0#32
  let c0_i32_2849 : BitVec 32 := 0#32
  ![v3712.toNat, 0, 0]

def k0_off237 (v3712 : BitVec 32) : Fin 3 → Nat :=
  let c0_i32_2855 : BitVec 32 := 0#32
  let c0_i32_2856 : BitVec 32 := 0#32
  ![v3712.toNat, 0, 0]

def k0_chk158 (i : grid0.Coords) (v3712 : BitVec 32) : Prop :=
  (∀ (k0_h1 : k0_cond1 i = 1#1), ∀ a, (k0_off236 v3712) a + S1x128x128.size a ≤ S1024x128x128.size a) ∧
  (∀ (k0_h1 : k0_cond1 i = 1#1), ∀ (hinb : ∀ a, (k0_off236 v3712) a + S1x128x128.size a ≤ S1024x128x128.size a), (Rect.unit (s := S1024x128x128) (k0_off236 v3712) S1x128x128.size hinb).WholeWords (EltTy.packing .bf16)) ∧
  (∀ (k0_h1 : k0_cond1 i = 1#1), ∀ a, (k0_off237 v3712) a + S1x1x128.size a ≤ S1024x1x128.size a)
theorem k0_off236_inb : ∀ (i : grid0.Coords) (v3712 : BitVec 32) (k0_hw158 : k0_chk158 i v3712), ∀ (k0_h1 : k0_cond1 i = 1#1), ∀ a, (k0_off236 v3712) a + S1x128x128.size a ≤ S1024x128x128.size a := fun i v3712 k0_hw158 k0_h1 => k0_hw158.1 k0_h1
theorem k0_off236_wordsbf16 : ∀ (i : grid0.Coords) (v3712 : BitVec 32) (k0_hw158 : k0_chk158 i v3712), ∀ (k0_h1 : k0_cond1 i = 1#1), (Rect.unit (s := S1024x128x128) (k0_off236 v3712) S1x128x128.size (k0_off236_inb i v3712 k0_hw158 k0_h1)).WholeWords (EltTy.packing .bf16) := fun i v3712 k0_hw158 k0_h1 => k0_hw158.2.1 k0_h1 (k0_off236_inb i v3712 k0_hw158 k0_h1)
theorem k0_off237_inb : ∀ (i : grid0.Coords) (v3712 : BitVec 32) (k0_hw158 : k0_chk158 i v3712), ∀ (k0_h1 : k0_cond1 i = 1#1), ∀ a, (k0_off237 v3712) a + S1x1x128.size a ≤ S1024x1x128.size a := fun i v3712 k0_hw158 k0_h1 => k0_hw158.2.2 k0_h1

def k0_off238 (v3731 : BitVec 32) : Fin 3 → Nat :=
  let c0_i32_2863 : BitVec 32 := 0#32
  let c0_i32_2864 : BitVec 32 := 0#32
  ![v3731.toNat, 0, 0]

def k0_chk159 (i : grid0.Coords) (v3731 : BitVec 32) : Prop :=
  (∀ (k0_h1 : k0_cond1 i = 1#1), ∀ a, (k0_off238 v3731) a + S1x128x64.size a ≤ S4096x128x64.size a)
theorem k0_off238_inb : ∀ (i : grid0.Coords) (v3731 : BitVec 32) (k0_hw159 : k0_chk159 i v3731), ∀ (k0_h1 : k0_cond1 i = 1#1), ∀ a, (k0_off238 v3731) a + S1x128x64.size a ≤ S4096x128x64.size a := fun i v3731 k0_hw159 k0_h1 => k0_hw159 k0_h1

def k0_off239 (v3732 : BitVec 32) : Fin 3 → Nat :=
  let c0_i32_2870 : BitVec 32 := 0#32
  let c0_i32_2871 : BitVec 32 := 0#32
  ![v3732.toNat, 0, 0]

def k0_off240 (v3732 : BitVec 32) : Fin 3 → Nat :=
  let c0_i32_2877 : BitVec 32 := 0#32
  let c0_i32_2878 : BitVec 32 := 0#32
  ![v3732.toNat, 0, 0]

def k0_chk160 (i : grid0.Coords) (v3732 : BitVec 32) : Prop :=
  (∀ (k0_h1 : k0_cond1 i = 1#1), ∀ a, (k0_off239 v3732) a + S1x128x128.size a ≤ S1024x128x128.size a) ∧
  (∀ (k0_h1 : k0_cond1 i = 1#1), ∀ (hinb : ∀ a, (k0_off239 v3732) a + S1x128x128.size a ≤ S1024x128x128.size a), (Rect.unit (s := S1024x128x128) (k0_off239 v3732) S1x128x128.size hinb).WholeWords (EltTy.packing .bf16)) ∧
  (∀ (k0_h1 : k0_cond1 i = 1#1), ∀ a, (k0_off240 v3732) a + S1x1x128.size a ≤ S1024x1x128.size a)
theorem k0_off239_inb : ∀ (i : grid0.Coords) (v3732 : BitVec 32) (k0_hw160 : k0_chk160 i v3732), ∀ (k0_h1 : k0_cond1 i = 1#1), ∀ a, (k0_off239 v3732) a + S1x128x128.size a ≤ S1024x128x128.size a := fun i v3732 k0_hw160 k0_h1 => k0_hw160.1 k0_h1
theorem k0_off239_wordsbf16 : ∀ (i : grid0.Coords) (v3732 : BitVec 32) (k0_hw160 : k0_chk160 i v3732), ∀ (k0_h1 : k0_cond1 i = 1#1), (Rect.unit (s := S1024x128x128) (k0_off239 v3732) S1x128x128.size (k0_off239_inb i v3732 k0_hw160 k0_h1)).WholeWords (EltTy.packing .bf16) := fun i v3732 k0_hw160 k0_h1 => k0_hw160.2.1 k0_h1 (k0_off239_inb i v3732 k0_hw160 k0_h1)
theorem k0_off240_inb : ∀ (i : grid0.Coords) (v3732 : BitVec 32) (k0_hw160 : k0_chk160 i v3732), ∀ (k0_h1 : k0_cond1 i = 1#1), ∀ a, (k0_off240 v3732) a + S1x1x128.size a ≤ S1024x1x128.size a := fun i v3732 k0_hw160 k0_h1 => k0_hw160.2.2 k0_h1

def k0_off241 (v3751 : BitVec 32) : Fin 3 → Nat :=
  let c0_i32_2885 : BitVec 32 := 0#32
  let c0_i32_2886 : BitVec 32 := 0#32
  ![v3751.toNat, 0, 0]

def k0_chk161 (i : grid0.Coords) (v3751 : BitVec 32) : Prop :=
  (∀ (k0_h1 : k0_cond1 i = 1#1), ∀ a, (k0_off241 v3751) a + S1x128x64.size a ≤ S4096x128x64.size a)
theorem k0_off241_inb : ∀ (i : grid0.Coords) (v3751 : BitVec 32) (k0_hw161 : k0_chk161 i v3751), ∀ (k0_h1 : k0_cond1 i = 1#1), ∀ a, (k0_off241 v3751) a + S1x128x64.size a ≤ S4096x128x64.size a := fun i v3751 k0_hw161 k0_h1 => k0_hw161 k0_h1

def k0_off242 (v3752 : BitVec 32) : Fin 3 → Nat :=
  let c0_i32_2892 : BitVec 32 := 0#32
  let c0_i32_2893 : BitVec 32 := 0#32
  ![v3752.toNat, 0, 0]

def k0_off243 (v3752 : BitVec 32) : Fin 3 → Nat :=
  let c0_i32_2899 : BitVec 32 := 0#32
  let c0_i32_2900 : BitVec 32 := 0#32
  ![v3752.toNat, 0, 0]

def k0_chk162 (i : grid0.Coords) (v3752 : BitVec 32) : Prop :=
  (∀ (k0_h1 : k0_cond1 i = 1#1), ∀ a, (k0_off242 v3752) a + S1x128x128.size a ≤ S1024x128x128.size a) ∧
  (∀ (k0_h1 : k0_cond1 i = 1#1), ∀ (hinb : ∀ a, (k0_off242 v3752) a + S1x128x128.size a ≤ S1024x128x128.size a), (Rect.unit (s := S1024x128x128) (k0_off242 v3752) S1x128x128.size hinb).WholeWords (EltTy.packing .bf16)) ∧
  (∀ (k0_h1 : k0_cond1 i = 1#1), ∀ a, (k0_off243 v3752) a + S1x1x128.size a ≤ S1024x1x128.size a)
theorem k0_off242_inb : ∀ (i : grid0.Coords) (v3752 : BitVec 32) (k0_hw162 : k0_chk162 i v3752), ∀ (k0_h1 : k0_cond1 i = 1#1), ∀ a, (k0_off242 v3752) a + S1x128x128.size a ≤ S1024x128x128.size a := fun i v3752 k0_hw162 k0_h1 => k0_hw162.1 k0_h1
theorem k0_off242_wordsbf16 : ∀ (i : grid0.Coords) (v3752 : BitVec 32) (k0_hw162 : k0_chk162 i v3752), ∀ (k0_h1 : k0_cond1 i = 1#1), (Rect.unit (s := S1024x128x128) (k0_off242 v3752) S1x128x128.size (k0_off242_inb i v3752 k0_hw162 k0_h1)).WholeWords (EltTy.packing .bf16) := fun i v3752 k0_hw162 k0_h1 => k0_hw162.2.1 k0_h1 (k0_off242_inb i v3752 k0_hw162 k0_h1)
theorem k0_off243_inb : ∀ (i : grid0.Coords) (v3752 : BitVec 32) (k0_hw162 : k0_chk162 i v3752), ∀ (k0_h1 : k0_cond1 i = 1#1), ∀ a, (k0_off243 v3752) a + S1x1x128.size a ≤ S1024x1x128.size a := fun i v3752 k0_hw162 k0_h1 => k0_hw162.2.2 k0_h1

def k0_off244 (v3771 : BitVec 32) : Fin 3 → Nat :=
  let c0_i32_2907 : BitVec 32 := 0#32
  let c0_i32_2908 : BitVec 32 := 0#32
  ![v3771.toNat, 0, 0]

def k0_chk163 (i : grid0.Coords) (v3771 : BitVec 32) : Prop :=
  (∀ (k0_h1 : k0_cond1 i = 1#1), ∀ a, (k0_off244 v3771) a + S1x128x64.size a ≤ S4096x128x64.size a)
theorem k0_off244_inb : ∀ (i : grid0.Coords) (v3771 : BitVec 32) (k0_hw163 : k0_chk163 i v3771), ∀ (k0_h1 : k0_cond1 i = 1#1), ∀ a, (k0_off244 v3771) a + S1x128x64.size a ≤ S4096x128x64.size a := fun i v3771 k0_hw163 k0_h1 => k0_hw163 k0_h1

def k0_off245 (v3772 : BitVec 32) : Fin 3 → Nat :=
  let c0_i32_2914 : BitVec 32 := 0#32
  let c0_i32_2915 : BitVec 32 := 0#32
  ![v3772.toNat, 0, 0]

def k0_off246 (v3772 : BitVec 32) : Fin 3 → Nat :=
  let c0_i32_2921 : BitVec 32 := 0#32
  let c0_i32_2922 : BitVec 32 := 0#32
  ![v3772.toNat, 0, 0]

def k0_chk164 (i : grid0.Coords) (v3772 : BitVec 32) : Prop :=
  (∀ (k0_h1 : k0_cond1 i = 1#1), ∀ a, (k0_off245 v3772) a + S1x128x128.size a ≤ S1024x128x128.size a) ∧
  (∀ (k0_h1 : k0_cond1 i = 1#1), ∀ (hinb : ∀ a, (k0_off245 v3772) a + S1x128x128.size a ≤ S1024x128x128.size a), (Rect.unit (s := S1024x128x128) (k0_off245 v3772) S1x128x128.size hinb).WholeWords (EltTy.packing .bf16)) ∧
  (∀ (k0_h1 : k0_cond1 i = 1#1), ∀ a, (k0_off246 v3772) a + S1x1x128.size a ≤ S1024x1x128.size a)
theorem k0_off245_inb : ∀ (i : grid0.Coords) (v3772 : BitVec 32) (k0_hw164 : k0_chk164 i v3772), ∀ (k0_h1 : k0_cond1 i = 1#1), ∀ a, (k0_off245 v3772) a + S1x128x128.size a ≤ S1024x128x128.size a := fun i v3772 k0_hw164 k0_h1 => k0_hw164.1 k0_h1
theorem k0_off245_wordsbf16 : ∀ (i : grid0.Coords) (v3772 : BitVec 32) (k0_hw164 : k0_chk164 i v3772), ∀ (k0_h1 : k0_cond1 i = 1#1), (Rect.unit (s := S1024x128x128) (k0_off245 v3772) S1x128x128.size (k0_off245_inb i v3772 k0_hw164 k0_h1)).WholeWords (EltTy.packing .bf16) := fun i v3772 k0_hw164 k0_h1 => k0_hw164.2.1 k0_h1 (k0_off245_inb i v3772 k0_hw164 k0_h1)
theorem k0_off246_inb : ∀ (i : grid0.Coords) (v3772 : BitVec 32) (k0_hw164 : k0_chk164 i v3772), ∀ (k0_h1 : k0_cond1 i = 1#1), ∀ a, (k0_off246 v3772) a + S1x1x128.size a ≤ S1024x1x128.size a := fun i v3772 k0_hw164 k0_h1 => k0_hw164.2.2 k0_h1

def k0_off247 (v3791 : BitVec 32) : Fin 3 → Nat :=
  let c0_i32_2929 : BitVec 32 := 0#32
  let c0_i32_2930 : BitVec 32 := 0#32
  ![v3791.toNat, 0, 0]

def k0_chk165 (i : grid0.Coords) (v3791 : BitVec 32) : Prop :=
  (∀ (k0_h1 : k0_cond1 i = 1#1), ∀ a, (k0_off247 v3791) a + S1x128x64.size a ≤ S4096x128x64.size a)
theorem k0_off247_inb : ∀ (i : grid0.Coords) (v3791 : BitVec 32) (k0_hw165 : k0_chk165 i v3791), ∀ (k0_h1 : k0_cond1 i = 1#1), ∀ a, (k0_off247 v3791) a + S1x128x64.size a ≤ S4096x128x64.size a := fun i v3791 k0_hw165 k0_h1 => k0_hw165 k0_h1

def k0_off248 (v3792 : BitVec 32) : Fin 3 → Nat :=
  let c0_i32_2936 : BitVec 32 := 0#32
  let c0_i32_2937 : BitVec 32 := 0#32
  ![v3792.toNat, 0, 0]

def k0_off249 (v3792 : BitVec 32) : Fin 3 → Nat :=
  let c0_i32_2943 : BitVec 32 := 0#32
  let c0_i32_2944 : BitVec 32 := 0#32
  ![v3792.toNat, 0, 0]

def k0_chk166 (i : grid0.Coords) (v3792 : BitVec 32) : Prop :=
  (∀ (k0_h1 : k0_cond1 i = 1#1), ∀ a, (k0_off248 v3792) a + S1x128x128.size a ≤ S1024x128x128.size a) ∧
  (∀ (k0_h1 : k0_cond1 i = 1#1), ∀ (hinb : ∀ a, (k0_off248 v3792) a + S1x128x128.size a ≤ S1024x128x128.size a), (Rect.unit (s := S1024x128x128) (k0_off248 v3792) S1x128x128.size hinb).WholeWords (EltTy.packing .bf16)) ∧
  (∀ (k0_h1 : k0_cond1 i = 1#1), ∀ a, (k0_off249 v3792) a + S1x1x128.size a ≤ S1024x1x128.size a)
theorem k0_off248_inb : ∀ (i : grid0.Coords) (v3792 : BitVec 32) (k0_hw166 : k0_chk166 i v3792), ∀ (k0_h1 : k0_cond1 i = 1#1), ∀ a, (k0_off248 v3792) a + S1x128x128.size a ≤ S1024x128x128.size a := fun i v3792 k0_hw166 k0_h1 => k0_hw166.1 k0_h1
theorem k0_off248_wordsbf16 : ∀ (i : grid0.Coords) (v3792 : BitVec 32) (k0_hw166 : k0_chk166 i v3792), ∀ (k0_h1 : k0_cond1 i = 1#1), (Rect.unit (s := S1024x128x128) (k0_off248 v3792) S1x128x128.size (k0_off248_inb i v3792 k0_hw166 k0_h1)).WholeWords (EltTy.packing .bf16) := fun i v3792 k0_hw166 k0_h1 => k0_hw166.2.1 k0_h1 (k0_off248_inb i v3792 k0_hw166 k0_h1)
theorem k0_off249_inb : ∀ (i : grid0.Coords) (v3792 : BitVec 32) (k0_hw166 : k0_chk166 i v3792), ∀ (k0_h1 : k0_cond1 i = 1#1), ∀ a, (k0_off249 v3792) a + S1x1x128.size a ≤ S1024x1x128.size a := fun i v3792 k0_hw166 k0_h1 => k0_hw166.2.2 k0_h1

def k0_off250 (v3811 : BitVec 32) : Fin 3 → Nat :=
  let c0_i32_2951 : BitVec 32 := 0#32
  let c0_i32_2952 : BitVec 32 := 0#32
  ![v3811.toNat, 0, 0]

def k0_chk167 (i : grid0.Coords) (v3811 : BitVec 32) : Prop :=
  (∀ (k0_h1 : k0_cond1 i = 1#1), ∀ a, (k0_off250 v3811) a + S1x128x64.size a ≤ S4096x128x64.size a)
theorem k0_off250_inb : ∀ (i : grid0.Coords) (v3811 : BitVec 32) (k0_hw167 : k0_chk167 i v3811), ∀ (k0_h1 : k0_cond1 i = 1#1), ∀ a, (k0_off250 v3811) a + S1x128x64.size a ≤ S4096x128x64.size a := fun i v3811 k0_hw167 k0_h1 => k0_hw167 k0_h1

def k0_off251 (v3812 : BitVec 32) : Fin 3 → Nat :=
  let c0_i32_2958 : BitVec 32 := 0#32
  let c0_i32_2959 : BitVec 32 := 0#32
  ![v3812.toNat, 0, 0]

def k0_off252 (v3812 : BitVec 32) : Fin 3 → Nat :=
  let c0_i32_2965 : BitVec 32 := 0#32
  let c0_i32_2966 : BitVec 32 := 0#32
  ![v3812.toNat, 0, 0]

def k0_chk168 (i : grid0.Coords) (v3812 : BitVec 32) : Prop :=
  (∀ (k0_h1 : k0_cond1 i = 1#1), ∀ a, (k0_off251 v3812) a + S1x128x128.size a ≤ S1024x128x128.size a) ∧
  (∀ (k0_h1 : k0_cond1 i = 1#1), ∀ (hinb : ∀ a, (k0_off251 v3812) a + S1x128x128.size a ≤ S1024x128x128.size a), (Rect.unit (s := S1024x128x128) (k0_off251 v3812) S1x128x128.size hinb).WholeWords (EltTy.packing .bf16)) ∧
  (∀ (k0_h1 : k0_cond1 i = 1#1), ∀ a, (k0_off252 v3812) a + S1x1x128.size a ≤ S1024x1x128.size a)
theorem k0_off251_inb : ∀ (i : grid0.Coords) (v3812 : BitVec 32) (k0_hw168 : k0_chk168 i v3812), ∀ (k0_h1 : k0_cond1 i = 1#1), ∀ a, (k0_off251 v3812) a + S1x128x128.size a ≤ S1024x128x128.size a := fun i v3812 k0_hw168 k0_h1 => k0_hw168.1 k0_h1
theorem k0_off251_wordsbf16 : ∀ (i : grid0.Coords) (v3812 : BitVec 32) (k0_hw168 : k0_chk168 i v3812), ∀ (k0_h1 : k0_cond1 i = 1#1), (Rect.unit (s := S1024x128x128) (k0_off251 v3812) S1x128x128.size (k0_off251_inb i v3812 k0_hw168 k0_h1)).WholeWords (EltTy.packing .bf16) := fun i v3812 k0_hw168 k0_h1 => k0_hw168.2.1 k0_h1 (k0_off251_inb i v3812 k0_hw168 k0_h1)
theorem k0_off252_inb : ∀ (i : grid0.Coords) (v3812 : BitVec 32) (k0_hw168 : k0_chk168 i v3812), ∀ (k0_h1 : k0_cond1 i = 1#1), ∀ a, (k0_off252 v3812) a + S1x1x128.size a ≤ S1024x1x128.size a := fun i v3812 k0_hw168 k0_h1 => k0_hw168.2.2 k0_h1

def k0_off253 (v3831 : BitVec 32) : Fin 3 → Nat :=
  let c0_i32_2973 : BitVec 32 := 0#32
  let c0_i32_2974 : BitVec 32 := 0#32
  ![v3831.toNat, 0, 0]

def k0_chk169 (i : grid0.Coords) (v3831 : BitVec 32) : Prop :=
  (∀ (k0_h1 : k0_cond1 i = 1#1), ∀ a, (k0_off253 v3831) a + S1x128x64.size a ≤ S4096x128x64.size a)
theorem k0_off253_inb : ∀ (i : grid0.Coords) (v3831 : BitVec 32) (k0_hw169 : k0_chk169 i v3831), ∀ (k0_h1 : k0_cond1 i = 1#1), ∀ a, (k0_off253 v3831) a + S1x128x64.size a ≤ S4096x128x64.size a := fun i v3831 k0_hw169 k0_h1 => k0_hw169 k0_h1

def k0_off254 (v3832 : BitVec 32) : Fin 3 → Nat :=
  let c0_i32_2980 : BitVec 32 := 0#32
  let c0_i32_2981 : BitVec 32 := 0#32
  ![v3832.toNat, 0, 0]

def k0_off255 (v3832 : BitVec 32) : Fin 3 → Nat :=
  let c0_i32_2987 : BitVec 32 := 0#32
  let c0_i32_2988 : BitVec 32 := 0#32
  ![v3832.toNat, 0, 0]

def k0_chk170 (i : grid0.Coords) (v3832 : BitVec 32) : Prop :=
  (∀ (k0_h1 : k0_cond1 i = 1#1), ∀ a, (k0_off254 v3832) a + S1x128x128.size a ≤ S1024x128x128.size a) ∧
  (∀ (k0_h1 : k0_cond1 i = 1#1), ∀ (hinb : ∀ a, (k0_off254 v3832) a + S1x128x128.size a ≤ S1024x128x128.size a), (Rect.unit (s := S1024x128x128) (k0_off254 v3832) S1x128x128.size hinb).WholeWords (EltTy.packing .bf16)) ∧
  (∀ (k0_h1 : k0_cond1 i = 1#1), ∀ a, (k0_off255 v3832) a + S1x1x128.size a ≤ S1024x1x128.size a)
theorem k0_off254_inb : ∀ (i : grid0.Coords) (v3832 : BitVec 32) (k0_hw170 : k0_chk170 i v3832), ∀ (k0_h1 : k0_cond1 i = 1#1), ∀ a, (k0_off254 v3832) a + S1x128x128.size a ≤ S1024x128x128.size a := fun i v3832 k0_hw170 k0_h1 => k0_hw170.1 k0_h1
theorem k0_off254_wordsbf16 : ∀ (i : grid0.Coords) (v3832 : BitVec 32) (k0_hw170 : k0_chk170 i v3832), ∀ (k0_h1 : k0_cond1 i = 1#1), (Rect.unit (s := S1024x128x128) (k0_off254 v3832) S1x128x128.size (k0_off254_inb i v3832 k0_hw170 k0_h1)).WholeWords (EltTy.packing .bf16) := fun i v3832 k0_hw170 k0_h1 => k0_hw170.2.1 k0_h1 (k0_off254_inb i v3832 k0_hw170 k0_h1)
theorem k0_off255_inb : ∀ (i : grid0.Coords) (v3832 : BitVec 32) (k0_hw170 : k0_chk170 i v3832), ∀ (k0_h1 : k0_cond1 i = 1#1), ∀ a, (k0_off255 v3832) a + S1x1x128.size a ≤ S1024x1x128.size a := fun i v3832 k0_hw170 k0_h1 => k0_hw170.2.2 k0_h1

def k0_off256 (v3851 : BitVec 32) : Fin 3 → Nat :=
  let c0_i32_2995 : BitVec 32 := 0#32
  let c0_i32_2996 : BitVec 32 := 0#32
  ![v3851.toNat, 0, 0]

def k0_chk171 (i : grid0.Coords) (v3851 : BitVec 32) : Prop :=
  (∀ (k0_h1 : k0_cond1 i = 1#1), ∀ a, (k0_off256 v3851) a + S1x128x64.size a ≤ S4096x128x64.size a)
theorem k0_off256_inb : ∀ (i : grid0.Coords) (v3851 : BitVec 32) (k0_hw171 : k0_chk171 i v3851), ∀ (k0_h1 : k0_cond1 i = 1#1), ∀ a, (k0_off256 v3851) a + S1x128x64.size a ≤ S4096x128x64.size a := fun i v3851 k0_hw171 k0_h1 => k0_hw171 k0_h1

def k0_off257 (v3852 : BitVec 32) : Fin 3 → Nat :=
  let c0_i32_3002 : BitVec 32 := 0#32
  let c0_i32_3003 : BitVec 32 := 0#32
  ![v3852.toNat, 0, 0]

def k0_off258 (v3852 : BitVec 32) : Fin 3 → Nat :=
  let c0_i32_3009 : BitVec 32 := 0#32
  let c0_i32_3010 : BitVec 32 := 0#32
  ![v3852.toNat, 0, 0]

def k0_chk172 (i : grid0.Coords) (v3852 : BitVec 32) : Prop :=
  (∀ (k0_h1 : k0_cond1 i = 1#1), ∀ a, (k0_off257 v3852) a + S1x128x128.size a ≤ S1024x128x128.size a) ∧
  (∀ (k0_h1 : k0_cond1 i = 1#1), ∀ (hinb : ∀ a, (k0_off257 v3852) a + S1x128x128.size a ≤ S1024x128x128.size a), (Rect.unit (s := S1024x128x128) (k0_off257 v3852) S1x128x128.size hinb).WholeWords (EltTy.packing .bf16)) ∧
  (∀ (k0_h1 : k0_cond1 i = 1#1), ∀ a, (k0_off258 v3852) a + S1x1x128.size a ≤ S1024x1x128.size a)
theorem k0_off257_inb : ∀ (i : grid0.Coords) (v3852 : BitVec 32) (k0_hw172 : k0_chk172 i v3852), ∀ (k0_h1 : k0_cond1 i = 1#1), ∀ a, (k0_off257 v3852) a + S1x128x128.size a ≤ S1024x128x128.size a := fun i v3852 k0_hw172 k0_h1 => k0_hw172.1 k0_h1
theorem k0_off257_wordsbf16 : ∀ (i : grid0.Coords) (v3852 : BitVec 32) (k0_hw172 : k0_chk172 i v3852), ∀ (k0_h1 : k0_cond1 i = 1#1), (Rect.unit (s := S1024x128x128) (k0_off257 v3852) S1x128x128.size (k0_off257_inb i v3852 k0_hw172 k0_h1)).WholeWords (EltTy.packing .bf16) := fun i v3852 k0_hw172 k0_h1 => k0_hw172.2.1 k0_h1 (k0_off257_inb i v3852 k0_hw172 k0_h1)
theorem k0_off258_inb : ∀ (i : grid0.Coords) (v3852 : BitVec 32) (k0_hw172 : k0_chk172 i v3852), ∀ (k0_h1 : k0_cond1 i = 1#1), ∀ a, (k0_off258 v3852) a + S1x1x128.size a ≤ S1024x1x128.size a := fun i v3852 k0_hw172 k0_h1 => k0_hw172.2.2 k0_h1

def k0_off259 (v3871 : BitVec 32) : Fin 3 → Nat :=
  let c0_i32_3017 : BitVec 32 := 0#32
  let c0_i32_3018 : BitVec 32 := 0#32
  ![v3871.toNat, 0, 0]

def k0_chk173 (i : grid0.Coords) (v3871 : BitVec 32) : Prop :=
  (∀ (k0_h1 : k0_cond1 i = 1#1), ∀ a, (k0_off259 v3871) a + S1x128x64.size a ≤ S4096x128x64.size a)
theorem k0_off259_inb : ∀ (i : grid0.Coords) (v3871 : BitVec 32) (k0_hw173 : k0_chk173 i v3871), ∀ (k0_h1 : k0_cond1 i = 1#1), ∀ a, (k0_off259 v3871) a + S1x128x64.size a ≤ S4096x128x64.size a := fun i v3871 k0_hw173 k0_h1 => k0_hw173 k0_h1

def k0_off260 (v3872 : BitVec 32) : Fin 3 → Nat :=
  let c0_i32_3024 : BitVec 32 := 0#32
  let c0_i32_3025 : BitVec 32 := 0#32
  ![v3872.toNat, 0, 0]

def k0_off261 (v3872 : BitVec 32) : Fin 3 → Nat :=
  let c0_i32_3031 : BitVec 32 := 0#32
  let c0_i32_3032 : BitVec 32 := 0#32
  ![v3872.toNat, 0, 0]

def k0_chk174 (i : grid0.Coords) (v3872 : BitVec 32) : Prop :=
  (∀ (k0_h1 : k0_cond1 i = 1#1), ∀ a, (k0_off260 v3872) a + S1x128x128.size a ≤ S1024x128x128.size a) ∧
  (∀ (k0_h1 : k0_cond1 i = 1#1), ∀ (hinb : ∀ a, (k0_off260 v3872) a + S1x128x128.size a ≤ S1024x128x128.size a), (Rect.unit (s := S1024x128x128) (k0_off260 v3872) S1x128x128.size hinb).WholeWords (EltTy.packing .bf16)) ∧
  (∀ (k0_h1 : k0_cond1 i = 1#1), ∀ a, (k0_off261 v3872) a + S1x1x128.size a ≤ S1024x1x128.size a)
theorem k0_off260_inb : ∀ (i : grid0.Coords) (v3872 : BitVec 32) (k0_hw174 : k0_chk174 i v3872), ∀ (k0_h1 : k0_cond1 i = 1#1), ∀ a, (k0_off260 v3872) a + S1x128x128.size a ≤ S1024x128x128.size a := fun i v3872 k0_hw174 k0_h1 => k0_hw174.1 k0_h1
theorem k0_off260_wordsbf16 : ∀ (i : grid0.Coords) (v3872 : BitVec 32) (k0_hw174 : k0_chk174 i v3872), ∀ (k0_h1 : k0_cond1 i = 1#1), (Rect.unit (s := S1024x128x128) (k0_off260 v3872) S1x128x128.size (k0_off260_inb i v3872 k0_hw174 k0_h1)).WholeWords (EltTy.packing .bf16) := fun i v3872 k0_hw174 k0_h1 => k0_hw174.2.1 k0_h1 (k0_off260_inb i v3872 k0_hw174 k0_h1)
theorem k0_off261_inb : ∀ (i : grid0.Coords) (v3872 : BitVec 32) (k0_hw174 : k0_chk174 i v3872), ∀ (k0_h1 : k0_cond1 i = 1#1), ∀ a, (k0_off261 v3872) a + S1x1x128.size a ≤ S1024x1x128.size a := fun i v3872 k0_hw174 k0_h1 => k0_hw174.2.2 k0_h1

def k0_off262 (v3891 : BitVec 32) : Fin 3 → Nat :=
  let c0_i32_3039 : BitVec 32 := 0#32
  let c0_i32_3040 : BitVec 32 := 0#32
  ![v3891.toNat, 0, 0]

def k0_chk175 (i : grid0.Coords) (v3891 : BitVec 32) : Prop :=
  (∀ (k0_h1 : k0_cond1 i = 1#1), ∀ a, (k0_off262 v3891) a + S1x128x64.size a ≤ S4096x128x64.size a)
theorem k0_off262_inb : ∀ (i : grid0.Coords) (v3891 : BitVec 32) (k0_hw175 : k0_chk175 i v3891), ∀ (k0_h1 : k0_cond1 i = 1#1), ∀ a, (k0_off262 v3891) a + S1x128x64.size a ≤ S4096x128x64.size a := fun i v3891 k0_hw175 k0_h1 => k0_hw175 k0_h1

def k0_off263 (v3892 : BitVec 32) : Fin 3 → Nat :=
  let c0_i32_3046 : BitVec 32 := 0#32
  let c0_i32_3047 : BitVec 32 := 0#32
  ![v3892.toNat, 0, 0]

def k0_off264 (v3892 : BitVec 32) : Fin 3 → Nat :=
  let c0_i32_3053 : BitVec 32 := 0#32
  let c0_i32_3054 : BitVec 32 := 0#32
  ![v3892.toNat, 0, 0]

def k0_chk176 (i : grid0.Coords) (v3892 : BitVec 32) : Prop :=
  (∀ (k0_h1 : k0_cond1 i = 1#1), ∀ a, (k0_off263 v3892) a + S1x128x128.size a ≤ S1024x128x128.size a) ∧
  (∀ (k0_h1 : k0_cond1 i = 1#1), ∀ (hinb : ∀ a, (k0_off263 v3892) a + S1x128x128.size a ≤ S1024x128x128.size a), (Rect.unit (s := S1024x128x128) (k0_off263 v3892) S1x128x128.size hinb).WholeWords (EltTy.packing .bf16)) ∧
  (∀ (k0_h1 : k0_cond1 i = 1#1), ∀ a, (k0_off264 v3892) a + S1x1x128.size a ≤ S1024x1x128.size a)
theorem k0_off263_inb : ∀ (i : grid0.Coords) (v3892 : BitVec 32) (k0_hw176 : k0_chk176 i v3892), ∀ (k0_h1 : k0_cond1 i = 1#1), ∀ a, (k0_off263 v3892) a + S1x128x128.size a ≤ S1024x128x128.size a := fun i v3892 k0_hw176 k0_h1 => k0_hw176.1 k0_h1
theorem k0_off263_wordsbf16 : ∀ (i : grid0.Coords) (v3892 : BitVec 32) (k0_hw176 : k0_chk176 i v3892), ∀ (k0_h1 : k0_cond1 i = 1#1), (Rect.unit (s := S1024x128x128) (k0_off263 v3892) S1x128x128.size (k0_off263_inb i v3892 k0_hw176 k0_h1)).WholeWords (EltTy.packing .bf16) := fun i v3892 k0_hw176 k0_h1 => k0_hw176.2.1 k0_h1 (k0_off263_inb i v3892 k0_hw176 k0_h1)
theorem k0_off264_inb : ∀ (i : grid0.Coords) (v3892 : BitVec 32) (k0_hw176 : k0_chk176 i v3892), ∀ (k0_h1 : k0_cond1 i = 1#1), ∀ a, (k0_off264 v3892) a + S1x1x128.size a ≤ S1024x1x128.size a := fun i v3892 k0_hw176 k0_h1 => k0_hw176.2.2 k0_h1

def k0_off265 (v3911 : BitVec 32) : Fin 3 → Nat :=
  let c0_i32_3061 : BitVec 32 := 0#32
  let c0_i32_3062 : BitVec 32 := 0#32
  ![v3911.toNat, 0, 0]

def k0_chk177 (i : grid0.Coords) (v3911 : BitVec 32) : Prop :=
  (∀ (k0_h1 : k0_cond1 i = 1#1), ∀ a, (k0_off265 v3911) a + S1x128x64.size a ≤ S4096x128x64.size a)
theorem k0_off265_inb : ∀ (i : grid0.Coords) (v3911 : BitVec 32) (k0_hw177 : k0_chk177 i v3911), ∀ (k0_h1 : k0_cond1 i = 1#1), ∀ a, (k0_off265 v3911) a + S1x128x64.size a ≤ S4096x128x64.size a := fun i v3911 k0_hw177 k0_h1 => k0_hw177 k0_h1

def k0_off266 (v3912 : BitVec 32) : Fin 3 → Nat :=
  let c0_i32_3068 : BitVec 32 := 0#32
  let c0_i32_3069 : BitVec 32 := 0#32
  ![v3912.toNat, 0, 0]

def k0_off267 (v3912 : BitVec 32) : Fin 3 → Nat :=
  let c0_i32_3075 : BitVec 32 := 0#32
  let c0_i32_3076 : BitVec 32 := 0#32
  ![v3912.toNat, 0, 0]

def k0_chk178 (i : grid0.Coords) (v3912 : BitVec 32) : Prop :=
  (∀ (k0_h1 : k0_cond1 i = 1#1), ∀ a, (k0_off266 v3912) a + S1x128x128.size a ≤ S1024x128x128.size a) ∧
  (∀ (k0_h1 : k0_cond1 i = 1#1), ∀ (hinb : ∀ a, (k0_off266 v3912) a + S1x128x128.size a ≤ S1024x128x128.size a), (Rect.unit (s := S1024x128x128) (k0_off266 v3912) S1x128x128.size hinb).WholeWords (EltTy.packing .bf16)) ∧
  (∀ (k0_h1 : k0_cond1 i = 1#1), ∀ a, (k0_off267 v3912) a + S1x1x128.size a ≤ S1024x1x128.size a)
theorem k0_off266_inb : ∀ (i : grid0.Coords) (v3912 : BitVec 32) (k0_hw178 : k0_chk178 i v3912), ∀ (k0_h1 : k0_cond1 i = 1#1), ∀ a, (k0_off266 v3912) a + S1x128x128.size a ≤ S1024x128x128.size a := fun i v3912 k0_hw178 k0_h1 => k0_hw178.1 k0_h1
theorem k0_off266_wordsbf16 : ∀ (i : grid0.Coords) (v3912 : BitVec 32) (k0_hw178 : k0_chk178 i v3912), ∀ (k0_h1 : k0_cond1 i = 1#1), (Rect.unit (s := S1024x128x128) (k0_off266 v3912) S1x128x128.size (k0_off266_inb i v3912 k0_hw178 k0_h1)).WholeWords (EltTy.packing .bf16) := fun i v3912 k0_hw178 k0_h1 => k0_hw178.2.1 k0_h1 (k0_off266_inb i v3912 k0_hw178 k0_h1)
theorem k0_off267_inb : ∀ (i : grid0.Coords) (v3912 : BitVec 32) (k0_hw178 : k0_chk178 i v3912), ∀ (k0_h1 : k0_cond1 i = 1#1), ∀ a, (k0_off267 v3912) a + S1x1x128.size a ≤ S1024x1x128.size a := fun i v3912 k0_hw178 k0_h1 => k0_hw178.2.2 k0_h1

def k0_off268 (v3931 : BitVec 32) : Fin 3 → Nat :=
  let c0_i32_3083 : BitVec 32 := 0#32
  let c0_i32_3084 : BitVec 32 := 0#32
  ![v3931.toNat, 0, 0]

def k0_chk179 (i : grid0.Coords) (v3931 : BitVec 32) : Prop :=
  (∀ (k0_h1 : k0_cond1 i = 1#1), ∀ a, (k0_off268 v3931) a + S1x128x64.size a ≤ S4096x128x64.size a)
theorem k0_off268_inb : ∀ (i : grid0.Coords) (v3931 : BitVec 32) (k0_hw179 : k0_chk179 i v3931), ∀ (k0_h1 : k0_cond1 i = 1#1), ∀ a, (k0_off268 v3931) a + S1x128x64.size a ≤ S4096x128x64.size a := fun i v3931 k0_hw179 k0_h1 => k0_hw179 k0_h1

def k0_off269 (v3932 : BitVec 32) : Fin 3 → Nat :=
  let c0_i32_3090 : BitVec 32 := 0#32
  let c0_i32_3091 : BitVec 32 := 0#32
  ![v3932.toNat, 0, 0]

def k0_off270 (v3932 : BitVec 32) : Fin 3 → Nat :=
  let c0_i32_3097 : BitVec 32 := 0#32
  let c0_i32_3098 : BitVec 32 := 0#32
  ![v3932.toNat, 0, 0]

def k0_chk180 (i : grid0.Coords) (v3932 : BitVec 32) : Prop :=
  (∀ (k0_h1 : k0_cond1 i = 1#1), ∀ a, (k0_off269 v3932) a + S1x128x128.size a ≤ S1024x128x128.size a) ∧
  (∀ (k0_h1 : k0_cond1 i = 1#1), ∀ (hinb : ∀ a, (k0_off269 v3932) a + S1x128x128.size a ≤ S1024x128x128.size a), (Rect.unit (s := S1024x128x128) (k0_off269 v3932) S1x128x128.size hinb).WholeWords (EltTy.packing .bf16)) ∧
  (∀ (k0_h1 : k0_cond1 i = 1#1), ∀ a, (k0_off270 v3932) a + S1x1x128.size a ≤ S1024x1x128.size a)
theorem k0_off269_inb : ∀ (i : grid0.Coords) (v3932 : BitVec 32) (k0_hw180 : k0_chk180 i v3932), ∀ (k0_h1 : k0_cond1 i = 1#1), ∀ a, (k0_off269 v3932) a + S1x128x128.size a ≤ S1024x128x128.size a := fun i v3932 k0_hw180 k0_h1 => k0_hw180.1 k0_h1
theorem k0_off269_wordsbf16 : ∀ (i : grid0.Coords) (v3932 : BitVec 32) (k0_hw180 : k0_chk180 i v3932), ∀ (k0_h1 : k0_cond1 i = 1#1), (Rect.unit (s := S1024x128x128) (k0_off269 v3932) S1x128x128.size (k0_off269_inb i v3932 k0_hw180 k0_h1)).WholeWords (EltTy.packing .bf16) := fun i v3932 k0_hw180 k0_h1 => k0_hw180.2.1 k0_h1 (k0_off269_inb i v3932 k0_hw180 k0_h1)
theorem k0_off270_inb : ∀ (i : grid0.Coords) (v3932 : BitVec 32) (k0_hw180 : k0_chk180 i v3932), ∀ (k0_h1 : k0_cond1 i = 1#1), ∀ a, (k0_off270 v3932) a + S1x1x128.size a ≤ S1024x1x128.size a := fun i v3932 k0_hw180 k0_h1 => k0_hw180.2.2 k0_h1

def k0_off271 (v3951 : BitVec 32) : Fin 3 → Nat :=
  let c0_i32_3105 : BitVec 32 := 0#32
  let c0_i32_3106 : BitVec 32 := 0#32
  ![v3951.toNat, 0, 0]

def k0_chk181 (i : grid0.Coords) (v3951 : BitVec 32) : Prop :=
  (∀ (k0_h1 : k0_cond1 i = 1#1), ∀ a, (k0_off271 v3951) a + S1x128x64.size a ≤ S4096x128x64.size a)
theorem k0_off271_inb : ∀ (i : grid0.Coords) (v3951 : BitVec 32) (k0_hw181 : k0_chk181 i v3951), ∀ (k0_h1 : k0_cond1 i = 1#1), ∀ a, (k0_off271 v3951) a + S1x128x64.size a ≤ S4096x128x64.size a := fun i v3951 k0_hw181 k0_h1 => k0_hw181 k0_h1

def k0_off272 (v3952 : BitVec 32) : Fin 3 → Nat :=
  let c0_i32_3112 : BitVec 32 := 0#32
  let c0_i32_3113 : BitVec 32 := 0#32
  ![v3952.toNat, 0, 0]

def k0_off273 (v3952 : BitVec 32) : Fin 3 → Nat :=
  let c0_i32_3119 : BitVec 32 := 0#32
  let c0_i32_3120 : BitVec 32 := 0#32
  ![v3952.toNat, 0, 0]

def k0_chk182 (i : grid0.Coords) (v3952 : BitVec 32) : Prop :=
  (∀ (k0_h1 : k0_cond1 i = 1#1), ∀ a, (k0_off272 v3952) a + S1x128x128.size a ≤ S1024x128x128.size a) ∧
  (∀ (k0_h1 : k0_cond1 i = 1#1), ∀ (hinb : ∀ a, (k0_off272 v3952) a + S1x128x128.size a ≤ S1024x128x128.size a), (Rect.unit (s := S1024x128x128) (k0_off272 v3952) S1x128x128.size hinb).WholeWords (EltTy.packing .bf16)) ∧
  (∀ (k0_h1 : k0_cond1 i = 1#1), ∀ a, (k0_off273 v3952) a + S1x1x128.size a ≤ S1024x1x128.size a)
theorem k0_off272_inb : ∀ (i : grid0.Coords) (v3952 : BitVec 32) (k0_hw182 : k0_chk182 i v3952), ∀ (k0_h1 : k0_cond1 i = 1#1), ∀ a, (k0_off272 v3952) a + S1x128x128.size a ≤ S1024x128x128.size a := fun i v3952 k0_hw182 k0_h1 => k0_hw182.1 k0_h1
theorem k0_off272_wordsbf16 : ∀ (i : grid0.Coords) (v3952 : BitVec 32) (k0_hw182 : k0_chk182 i v3952), ∀ (k0_h1 : k0_cond1 i = 1#1), (Rect.unit (s := S1024x128x128) (k0_off272 v3952) S1x128x128.size (k0_off272_inb i v3952 k0_hw182 k0_h1)).WholeWords (EltTy.packing .bf16) := fun i v3952 k0_hw182 k0_h1 => k0_hw182.2.1 k0_h1 (k0_off272_inb i v3952 k0_hw182 k0_h1)
theorem k0_off273_inb : ∀ (i : grid0.Coords) (v3952 : BitVec 32) (k0_hw182 : k0_chk182 i v3952), ∀ (k0_h1 : k0_cond1 i = 1#1), ∀ a, (k0_off273 v3952) a + S1x1x128.size a ≤ S1024x1x128.size a := fun i v3952 k0_hw182 k0_h1 => k0_hw182.2.2 k0_h1

def k0_off274 (v3971 : BitVec 32) : Fin 3 → Nat :=
  let c0_i32_3127 : BitVec 32 := 0#32
  let c0_i32_3128 : BitVec 32 := 0#32
  ![v3971.toNat, 0, 0]

def k0_chk183 (i : grid0.Coords) (v3971 : BitVec 32) : Prop :=
  (∀ (k0_h1 : k0_cond1 i = 1#1), ∀ a, (k0_off274 v3971) a + S1x128x64.size a ≤ S4096x128x64.size a)
theorem k0_off274_inb : ∀ (i : grid0.Coords) (v3971 : BitVec 32) (k0_hw183 : k0_chk183 i v3971), ∀ (k0_h1 : k0_cond1 i = 1#1), ∀ a, (k0_off274 v3971) a + S1x128x64.size a ≤ S4096x128x64.size a := fun i v3971 k0_hw183 k0_h1 => k0_hw183 k0_h1

def k0_off275 (v3972 : BitVec 32) : Fin 3 → Nat :=
  let c0_i32_3134 : BitVec 32 := 0#32
  let c0_i32_3135 : BitVec 32 := 0#32
  ![v3972.toNat, 0, 0]

def k0_off276 (v3972 : BitVec 32) : Fin 3 → Nat :=
  let c0_i32_3141 : BitVec 32 := 0#32
  let c0_i32_3142 : BitVec 32 := 0#32
  ![v3972.toNat, 0, 0]

def k0_chk184 (i : grid0.Coords) (v3972 : BitVec 32) : Prop :=
  (∀ (k0_h1 : k0_cond1 i = 1#1), ∀ a, (k0_off275 v3972) a + S1x128x128.size a ≤ S1024x128x128.size a) ∧
  (∀ (k0_h1 : k0_cond1 i = 1#1), ∀ (hinb : ∀ a, (k0_off275 v3972) a + S1x128x128.size a ≤ S1024x128x128.size a), (Rect.unit (s := S1024x128x128) (k0_off275 v3972) S1x128x128.size hinb).WholeWords (EltTy.packing .bf16)) ∧
  (∀ (k0_h1 : k0_cond1 i = 1#1), ∀ a, (k0_off276 v3972) a + S1x1x128.size a ≤ S1024x1x128.size a)
theorem k0_off275_inb : ∀ (i : grid0.Coords) (v3972 : BitVec 32) (k0_hw184 : k0_chk184 i v3972), ∀ (k0_h1 : k0_cond1 i = 1#1), ∀ a, (k0_off275 v3972) a + S1x128x128.size a ≤ S1024x128x128.size a := fun i v3972 k0_hw184 k0_h1 => k0_hw184.1 k0_h1
theorem k0_off275_wordsbf16 : ∀ (i : grid0.Coords) (v3972 : BitVec 32) (k0_hw184 : k0_chk184 i v3972), ∀ (k0_h1 : k0_cond1 i = 1#1), (Rect.unit (s := S1024x128x128) (k0_off275 v3972) S1x128x128.size (k0_off275_inb i v3972 k0_hw184 k0_h1)).WholeWords (EltTy.packing .bf16) := fun i v3972 k0_hw184 k0_h1 => k0_hw184.2.1 k0_h1 (k0_off275_inb i v3972 k0_hw184 k0_h1)
theorem k0_off276_inb : ∀ (i : grid0.Coords) (v3972 : BitVec 32) (k0_hw184 : k0_chk184 i v3972), ∀ (k0_h1 : k0_cond1 i = 1#1), ∀ a, (k0_off276 v3972) a + S1x1x128.size a ≤ S1024x1x128.size a := fun i v3972 k0_hw184 k0_h1 => k0_hw184.2.2 k0_h1

def k0_off277 (v3991 : BitVec 32) : Fin 3 → Nat :=
  let c0_i32_3149 : BitVec 32 := 0#32
  let c0_i32_3150 : BitVec 32 := 0#32
  ![v3991.toNat, 0, 0]

def k0_chk185 (i : grid0.Coords) (v3991 : BitVec 32) : Prop :=
  (∀ (k0_h1 : k0_cond1 i = 1#1), ∀ a, (k0_off277 v3991) a + S1x128x64.size a ≤ S4096x128x64.size a)
theorem k0_off277_inb : ∀ (i : grid0.Coords) (v3991 : BitVec 32) (k0_hw185 : k0_chk185 i v3991), ∀ (k0_h1 : k0_cond1 i = 1#1), ∀ a, (k0_off277 v3991) a + S1x128x64.size a ≤ S4096x128x64.size a := fun i v3991 k0_hw185 k0_h1 => k0_hw185 k0_h1

def k0_off278 (v3992 : BitVec 32) : Fin 3 → Nat :=
  let c0_i32_3156 : BitVec 32 := 0#32
  let c0_i32_3157 : BitVec 32 := 0#32
  ![v3992.toNat, 0, 0]

def k0_off279 (v3992 : BitVec 32) : Fin 3 → Nat :=
  let c0_i32_3163 : BitVec 32 := 0#32
  let c0_i32_3164 : BitVec 32 := 0#32
  ![v3992.toNat, 0, 0]

def k0_chk186 (i : grid0.Coords) (v3992 : BitVec 32) : Prop :=
  (∀ (k0_h1 : k0_cond1 i = 1#1), ∀ a, (k0_off278 v3992) a + S1x128x128.size a ≤ S1024x128x128.size a) ∧
  (∀ (k0_h1 : k0_cond1 i = 1#1), ∀ (hinb : ∀ a, (k0_off278 v3992) a + S1x128x128.size a ≤ S1024x128x128.size a), (Rect.unit (s := S1024x128x128) (k0_off278 v3992) S1x128x128.size hinb).WholeWords (EltTy.packing .bf16)) ∧
  (∀ (k0_h1 : k0_cond1 i = 1#1), ∀ a, (k0_off279 v3992) a + S1x1x128.size a ≤ S1024x1x128.size a)
theorem k0_off278_inb : ∀ (i : grid0.Coords) (v3992 : BitVec 32) (k0_hw186 : k0_chk186 i v3992), ∀ (k0_h1 : k0_cond1 i = 1#1), ∀ a, (k0_off278 v3992) a + S1x128x128.size a ≤ S1024x128x128.size a := fun i v3992 k0_hw186 k0_h1 => k0_hw186.1 k0_h1
theorem k0_off278_wordsbf16 : ∀ (i : grid0.Coords) (v3992 : BitVec 32) (k0_hw186 : k0_chk186 i v3992), ∀ (k0_h1 : k0_cond1 i = 1#1), (Rect.unit (s := S1024x128x128) (k0_off278 v3992) S1x128x128.size (k0_off278_inb i v3992 k0_hw186 k0_h1)).WholeWords (EltTy.packing .bf16) := fun i v3992 k0_hw186 k0_h1 => k0_hw186.2.1 k0_h1 (k0_off278_inb i v3992 k0_hw186 k0_h1)
theorem k0_off279_inb : ∀ (i : grid0.Coords) (v3992 : BitVec 32) (k0_hw186 : k0_chk186 i v3992), ∀ (k0_h1 : k0_cond1 i = 1#1), ∀ a, (k0_off279 v3992) a + S1x1x128.size a ≤ S1024x1x128.size a := fun i v3992 k0_hw186 k0_h1 => k0_hw186.2.2 k0_h1

def k0_off280 (v4011 : BitVec 32) : Fin 3 → Nat :=
  let c0_i32_3171 : BitVec 32 := 0#32
  let c0_i32_3172 : BitVec 32 := 0#32
  ![v4011.toNat, 0, 0]

def k0_chk187 (i : grid0.Coords) (v4011 : BitVec 32) : Prop :=
  (∀ (k0_h1 : k0_cond1 i = 1#1), ∀ a, (k0_off280 v4011) a + S1x128x64.size a ≤ S4096x128x64.size a)
theorem k0_off280_inb : ∀ (i : grid0.Coords) (v4011 : BitVec 32) (k0_hw187 : k0_chk187 i v4011), ∀ (k0_h1 : k0_cond1 i = 1#1), ∀ a, (k0_off280 v4011) a + S1x128x64.size a ≤ S4096x128x64.size a := fun i v4011 k0_hw187 k0_h1 => k0_hw187 k0_h1

def k0_off281 (v4012 : BitVec 32) : Fin 3 → Nat :=
  let c0_i32_3178 : BitVec 32 := 0#32
  let c0_i32_3179 : BitVec 32 := 0#32
  ![v4012.toNat, 0, 0]

def k0_off282 (v4012 : BitVec 32) : Fin 3 → Nat :=
  let c0_i32_3185 : BitVec 32 := 0#32
  let c0_i32_3186 : BitVec 32 := 0#32
  ![v4012.toNat, 0, 0]

def k0_chk188 (i : grid0.Coords) (v4012 : BitVec 32) : Prop :=
  (∀ (k0_h1 : k0_cond1 i = 1#1), ∀ a, (k0_off281 v4012) a + S1x128x128.size a ≤ S1024x128x128.size a) ∧
  (∀ (k0_h1 : k0_cond1 i = 1#1), ∀ (hinb : ∀ a, (k0_off281 v4012) a + S1x128x128.size a ≤ S1024x128x128.size a), (Rect.unit (s := S1024x128x128) (k0_off281 v4012) S1x128x128.size hinb).WholeWords (EltTy.packing .bf16)) ∧
  (∀ (k0_h1 : k0_cond1 i = 1#1), ∀ a, (k0_off282 v4012) a + S1x1x128.size a ≤ S1024x1x128.size a)
theorem k0_off281_inb : ∀ (i : grid0.Coords) (v4012 : BitVec 32) (k0_hw188 : k0_chk188 i v4012), ∀ (k0_h1 : k0_cond1 i = 1#1), ∀ a, (k0_off281 v4012) a + S1x128x128.size a ≤ S1024x128x128.size a := fun i v4012 k0_hw188 k0_h1 => k0_hw188.1 k0_h1
theorem k0_off281_wordsbf16 : ∀ (i : grid0.Coords) (v4012 : BitVec 32) (k0_hw188 : k0_chk188 i v4012), ∀ (k0_h1 : k0_cond1 i = 1#1), (Rect.unit (s := S1024x128x128) (k0_off281 v4012) S1x128x128.size (k0_off281_inb i v4012 k0_hw188 k0_h1)).WholeWords (EltTy.packing .bf16) := fun i v4012 k0_hw188 k0_h1 => k0_hw188.2.1 k0_h1 (k0_off281_inb i v4012 k0_hw188 k0_h1)
theorem k0_off282_inb : ∀ (i : grid0.Coords) (v4012 : BitVec 32) (k0_hw188 : k0_chk188 i v4012), ∀ (k0_h1 : k0_cond1 i = 1#1), ∀ a, (k0_off282 v4012) a + S1x1x128.size a ≤ S1024x1x128.size a := fun i v4012 k0_hw188 k0_h1 => k0_hw188.2.2 k0_h1

def k0_off283 (v4031 : BitVec 32) : Fin 3 → Nat :=
  let c0_i32_3193 : BitVec 32 := 0#32
  let c0_i32_3194 : BitVec 32 := 0#32
  ![v4031.toNat, 0, 0]

def k0_chk189 (i : grid0.Coords) (v4031 : BitVec 32) : Prop :=
  (∀ (k0_h1 : k0_cond1 i = 1#1), ∀ a, (k0_off283 v4031) a + S1x128x64.size a ≤ S4096x128x64.size a)
theorem k0_off283_inb : ∀ (i : grid0.Coords) (v4031 : BitVec 32) (k0_hw189 : k0_chk189 i v4031), ∀ (k0_h1 : k0_cond1 i = 1#1), ∀ a, (k0_off283 v4031) a + S1x128x64.size a ≤ S4096x128x64.size a := fun i v4031 k0_hw189 k0_h1 => k0_hw189 k0_h1

def k0_off284 (v4032 : BitVec 32) : Fin 3 → Nat :=
  let c0_i32_3200 : BitVec 32 := 0#32
  let c0_i32_3201 : BitVec 32 := 0#32
  ![v4032.toNat, 0, 0]

def k0_off285 (v4032 : BitVec 32) : Fin 3 → Nat :=
  let c0_i32_3207 : BitVec 32 := 0#32
  let c0_i32_3208 : BitVec 32 := 0#32
  ![v4032.toNat, 0, 0]

def k0_chk190 (i : grid0.Coords) (v4032 : BitVec 32) : Prop :=
  (∀ (k0_h1 : k0_cond1 i = 1#1), ∀ a, (k0_off284 v4032) a + S1x128x128.size a ≤ S1024x128x128.size a) ∧
  (∀ (k0_h1 : k0_cond1 i = 1#1), ∀ (hinb : ∀ a, (k0_off284 v4032) a + S1x128x128.size a ≤ S1024x128x128.size a), (Rect.unit (s := S1024x128x128) (k0_off284 v4032) S1x128x128.size hinb).WholeWords (EltTy.packing .bf16)) ∧
  (∀ (k0_h1 : k0_cond1 i = 1#1), ∀ a, (k0_off285 v4032) a + S1x1x128.size a ≤ S1024x1x128.size a)
theorem k0_off284_inb : ∀ (i : grid0.Coords) (v4032 : BitVec 32) (k0_hw190 : k0_chk190 i v4032), ∀ (k0_h1 : k0_cond1 i = 1#1), ∀ a, (k0_off284 v4032) a + S1x128x128.size a ≤ S1024x128x128.size a := fun i v4032 k0_hw190 k0_h1 => k0_hw190.1 k0_h1
theorem k0_off284_wordsbf16 : ∀ (i : grid0.Coords) (v4032 : BitVec 32) (k0_hw190 : k0_chk190 i v4032), ∀ (k0_h1 : k0_cond1 i = 1#1), (Rect.unit (s := S1024x128x128) (k0_off284 v4032) S1x128x128.size (k0_off284_inb i v4032 k0_hw190 k0_h1)).WholeWords (EltTy.packing .bf16) := fun i v4032 k0_hw190 k0_h1 => k0_hw190.2.1 k0_h1 (k0_off284_inb i v4032 k0_hw190 k0_h1)
theorem k0_off285_inb : ∀ (i : grid0.Coords) (v4032 : BitVec 32) (k0_hw190 : k0_chk190 i v4032), ∀ (k0_h1 : k0_cond1 i = 1#1), ∀ a, (k0_off285 v4032) a + S1x1x128.size a ≤ S1024x1x128.size a := fun i v4032 k0_hw190 k0_h1 => k0_hw190.2.2 k0_h1

def k0_off286 (v4051 : BitVec 32) : Fin 3 → Nat :=
  let c0_i32_3215 : BitVec 32 := 0#32
  let c0_i32_3216 : BitVec 32 := 0#32
  ![v4051.toNat, 0, 0]

def k0_chk191 (i : grid0.Coords) (v4051 : BitVec 32) : Prop :=
  (∀ (k0_h1 : k0_cond1 i = 1#1), ∀ a, (k0_off286 v4051) a + S1x128x64.size a ≤ S4096x128x64.size a)
theorem k0_off286_inb : ∀ (i : grid0.Coords) (v4051 : BitVec 32) (k0_hw191 : k0_chk191 i v4051), ∀ (k0_h1 : k0_cond1 i = 1#1), ∀ a, (k0_off286 v4051) a + S1x128x64.size a ≤ S4096x128x64.size a := fun i v4051 k0_hw191 k0_h1 => k0_hw191 k0_h1

def k0_off287 (v4052 : BitVec 32) : Fin 3 → Nat :=
  let c0_i32_3222 : BitVec 32 := 0#32
  let c0_i32_3223 : BitVec 32 := 0#32
  ![v4052.toNat, 0, 0]

def k0_off288 (v4052 : BitVec 32) : Fin 3 → Nat :=
  let c0_i32_3229 : BitVec 32 := 0#32
  let c0_i32_3230 : BitVec 32 := 0#32
  ![v4052.toNat, 0, 0]

def k0_chk192 (i : grid0.Coords) (v4052 : BitVec 32) : Prop :=
  (∀ (k0_h1 : k0_cond1 i = 1#1), ∀ a, (k0_off287 v4052) a + S1x128x128.size a ≤ S1024x128x128.size a) ∧
  (∀ (k0_h1 : k0_cond1 i = 1#1), ∀ (hinb : ∀ a, (k0_off287 v4052) a + S1x128x128.size a ≤ S1024x128x128.size a), (Rect.unit (s := S1024x128x128) (k0_off287 v4052) S1x128x128.size hinb).WholeWords (EltTy.packing .bf16)) ∧
  (∀ (k0_h1 : k0_cond1 i = 1#1), ∀ a, (k0_off288 v4052) a + S1x1x128.size a ≤ S1024x1x128.size a)
theorem k0_off287_inb : ∀ (i : grid0.Coords) (v4052 : BitVec 32) (k0_hw192 : k0_chk192 i v4052), ∀ (k0_h1 : k0_cond1 i = 1#1), ∀ a, (k0_off287 v4052) a + S1x128x128.size a ≤ S1024x128x128.size a := fun i v4052 k0_hw192 k0_h1 => k0_hw192.1 k0_h1
theorem k0_off287_wordsbf16 : ∀ (i : grid0.Coords) (v4052 : BitVec 32) (k0_hw192 : k0_chk192 i v4052), ∀ (k0_h1 : k0_cond1 i = 1#1), (Rect.unit (s := S1024x128x128) (k0_off287 v4052) S1x128x128.size (k0_off287_inb i v4052 k0_hw192 k0_h1)).WholeWords (EltTy.packing .bf16) := fun i v4052 k0_hw192 k0_h1 => k0_hw192.2.1 k0_h1 (k0_off287_inb i v4052 k0_hw192 k0_h1)
theorem k0_off288_inb : ∀ (i : grid0.Coords) (v4052 : BitVec 32) (k0_hw192 : k0_chk192 i v4052), ∀ (k0_h1 : k0_cond1 i = 1#1), ∀ a, (k0_off288 v4052) a + S1x1x128.size a ≤ S1024x1x128.size a := fun i v4052 k0_hw192 k0_h1 => k0_hw192.2.2 k0_h1

def k0_off289 (v4071 : BitVec 32) : Fin 3 → Nat :=
  let c0_i32_3237 : BitVec 32 := 0#32
  let c0_i32_3238 : BitVec 32 := 0#32
  ![v4071.toNat, 0, 0]

def k0_chk193 (i : grid0.Coords) (v4071 : BitVec 32) : Prop :=
  (∀ (k0_h1 : k0_cond1 i = 1#1), ∀ a, (k0_off289 v4071) a + S1x128x64.size a ≤ S4096x128x64.size a)
theorem k0_off289_inb : ∀ (i : grid0.Coords) (v4071 : BitVec 32) (k0_hw193 : k0_chk193 i v4071), ∀ (k0_h1 : k0_cond1 i = 1#1), ∀ a, (k0_off289 v4071) a + S1x128x64.size a ≤ S4096x128x64.size a := fun i v4071 k0_hw193 k0_h1 => k0_hw193 k0_h1

def k0_off290 (v4072 : BitVec 32) : Fin 3 → Nat :=
  let c0_i32_3244 : BitVec 32 := 0#32
  let c0_i32_3245 : BitVec 32 := 0#32
  ![v4072.toNat, 0, 0]

def k0_off291 (v4072 : BitVec 32) : Fin 3 → Nat :=
  let c0_i32_3251 : BitVec 32 := 0#32
  let c0_i32_3252 : BitVec 32 := 0#32
  ![v4072.toNat, 0, 0]

def k0_chk194 (i : grid0.Coords) (v4072 : BitVec 32) : Prop :=
  (∀ (k0_h1 : k0_cond1 i = 1#1), ∀ a, (k0_off290 v4072) a + S1x128x128.size a ≤ S1024x128x128.size a) ∧
  (∀ (k0_h1 : k0_cond1 i = 1#1), ∀ (hinb : ∀ a, (k0_off290 v4072) a + S1x128x128.size a ≤ S1024x128x128.size a), (Rect.unit (s := S1024x128x128) (k0_off290 v4072) S1x128x128.size hinb).WholeWords (EltTy.packing .bf16)) ∧
  (∀ (k0_h1 : k0_cond1 i = 1#1), ∀ a, (k0_off291 v4072) a + S1x1x128.size a ≤ S1024x1x128.size a)
theorem k0_off290_inb : ∀ (i : grid0.Coords) (v4072 : BitVec 32) (k0_hw194 : k0_chk194 i v4072), ∀ (k0_h1 : k0_cond1 i = 1#1), ∀ a, (k0_off290 v4072) a + S1x128x128.size a ≤ S1024x128x128.size a := fun i v4072 k0_hw194 k0_h1 => k0_hw194.1 k0_h1
theorem k0_off290_wordsbf16 : ∀ (i : grid0.Coords) (v4072 : BitVec 32) (k0_hw194 : k0_chk194 i v4072), ∀ (k0_h1 : k0_cond1 i = 1#1), (Rect.unit (s := S1024x128x128) (k0_off290 v4072) S1x128x128.size (k0_off290_inb i v4072 k0_hw194 k0_h1)).WholeWords (EltTy.packing .bf16) := fun i v4072 k0_hw194 k0_h1 => k0_hw194.2.1 k0_h1 (k0_off290_inb i v4072 k0_hw194 k0_h1)
theorem k0_off291_inb : ∀ (i : grid0.Coords) (v4072 : BitVec 32) (k0_hw194 : k0_chk194 i v4072), ∀ (k0_h1 : k0_cond1 i = 1#1), ∀ a, (k0_off291 v4072) a + S1x1x128.size a ≤ S1024x1x128.size a := fun i v4072 k0_hw194 k0_h1 => k0_hw194.2.2 k0_h1

def k0_off292 (v4091 : BitVec 32) : Fin 3 → Nat :=
  let c0_i32_3259 : BitVec 32 := 0#32
  let c0_i32_3260 : BitVec 32 := 0#32
  ![v4091.toNat, 0, 0]

def k0_chk195 (i : grid0.Coords) (v4091 : BitVec 32) : Prop :=
  (∀ (k0_h1 : k0_cond1 i = 1#1), ∀ a, (k0_off292 v4091) a + S1x128x64.size a ≤ S4096x128x64.size a)
theorem k0_off292_inb : ∀ (i : grid0.Coords) (v4091 : BitVec 32) (k0_hw195 : k0_chk195 i v4091), ∀ (k0_h1 : k0_cond1 i = 1#1), ∀ a, (k0_off292 v4091) a + S1x128x64.size a ≤ S4096x128x64.size a := fun i v4091 k0_hw195 k0_h1 => k0_hw195 k0_h1

def k0_off293 (v4092 : BitVec 32) : Fin 3 → Nat :=
  let c0_i32_3266 : BitVec 32 := 0#32
  let c0_i32_3267 : BitVec 32 := 0#32
  ![v4092.toNat, 0, 0]

def k0_off294 (v4092 : BitVec 32) : Fin 3 → Nat :=
  let c0_i32_3273 : BitVec 32 := 0#32
  let c0_i32_3274 : BitVec 32 := 0#32
  ![v4092.toNat, 0, 0]

def k0_chk196 (i : grid0.Coords) (v4092 : BitVec 32) : Prop :=
  (∀ (k0_h1 : k0_cond1 i = 1#1), ∀ a, (k0_off293 v4092) a + S1x128x128.size a ≤ S1024x128x128.size a) ∧
  (∀ (k0_h1 : k0_cond1 i = 1#1), ∀ (hinb : ∀ a, (k0_off293 v4092) a + S1x128x128.size a ≤ S1024x128x128.size a), (Rect.unit (s := S1024x128x128) (k0_off293 v4092) S1x128x128.size hinb).WholeWords (EltTy.packing .bf16)) ∧
  (∀ (k0_h1 : k0_cond1 i = 1#1), ∀ a, (k0_off294 v4092) a + S1x1x128.size a ≤ S1024x1x128.size a)
theorem k0_off293_inb : ∀ (i : grid0.Coords) (v4092 : BitVec 32) (k0_hw196 : k0_chk196 i v4092), ∀ (k0_h1 : k0_cond1 i = 1#1), ∀ a, (k0_off293 v4092) a + S1x128x128.size a ≤ S1024x128x128.size a := fun i v4092 k0_hw196 k0_h1 => k0_hw196.1 k0_h1
theorem k0_off293_wordsbf16 : ∀ (i : grid0.Coords) (v4092 : BitVec 32) (k0_hw196 : k0_chk196 i v4092), ∀ (k0_h1 : k0_cond1 i = 1#1), (Rect.unit (s := S1024x128x128) (k0_off293 v4092) S1x128x128.size (k0_off293_inb i v4092 k0_hw196 k0_h1)).WholeWords (EltTy.packing .bf16) := fun i v4092 k0_hw196 k0_h1 => k0_hw196.2.1 k0_h1 (k0_off293_inb i v4092 k0_hw196 k0_h1)
theorem k0_off294_inb : ∀ (i : grid0.Coords) (v4092 : BitVec 32) (k0_hw196 : k0_chk196 i v4092), ∀ (k0_h1 : k0_cond1 i = 1#1), ∀ a, (k0_off294 v4092) a + S1x1x128.size a ≤ S1024x1x128.size a := fun i v4092 k0_hw196 k0_h1 => k0_hw196.2.2 k0_h1

def k0_off295 (v4111 : BitVec 32) : Fin 3 → Nat :=
  let c0_i32_3281 : BitVec 32 := 0#32
  let c0_i32_3282 : BitVec 32 := 0#32
  ![v4111.toNat, 0, 0]

def k0_chk197 (i : grid0.Coords) (v4111 : BitVec 32) : Prop :=
  (∀ (k0_h1 : k0_cond1 i = 1#1), ∀ a, (k0_off295 v4111) a + S1x128x64.size a ≤ S4096x128x64.size a)
theorem k0_off295_inb : ∀ (i : grid0.Coords) (v4111 : BitVec 32) (k0_hw197 : k0_chk197 i v4111), ∀ (k0_h1 : k0_cond1 i = 1#1), ∀ a, (k0_off295 v4111) a + S1x128x64.size a ≤ S4096x128x64.size a := fun i v4111 k0_hw197 k0_h1 => k0_hw197 k0_h1

def k0_off296 (v4112 : BitVec 32) : Fin 3 → Nat :=
  let c0_i32_3288 : BitVec 32 := 0#32
  let c0_i32_3289 : BitVec 32 := 0#32
  ![v4112.toNat, 0, 0]

def k0_off297 (v4112 : BitVec 32) : Fin 3 → Nat :=
  let c0_i32_3295 : BitVec 32 := 0#32
  let c0_i32_3296 : BitVec 32 := 0#32
  ![v4112.toNat, 0, 0]

def k0_chk198 (i : grid0.Coords) (v4112 : BitVec 32) : Prop :=
  (∀ (k0_h1 : k0_cond1 i = 1#1), ∀ a, (k0_off296 v4112) a + S1x128x128.size a ≤ S1024x128x128.size a) ∧
  (∀ (k0_h1 : k0_cond1 i = 1#1), ∀ (hinb : ∀ a, (k0_off296 v4112) a + S1x128x128.size a ≤ S1024x128x128.size a), (Rect.unit (s := S1024x128x128) (k0_off296 v4112) S1x128x128.size hinb).WholeWords (EltTy.packing .bf16)) ∧
  (∀ (k0_h1 : k0_cond1 i = 1#1), ∀ a, (k0_off297 v4112) a + S1x1x128.size a ≤ S1024x1x128.size a)
theorem k0_off296_inb : ∀ (i : grid0.Coords) (v4112 : BitVec 32) (k0_hw198 : k0_chk198 i v4112), ∀ (k0_h1 : k0_cond1 i = 1#1), ∀ a, (k0_off296 v4112) a + S1x128x128.size a ≤ S1024x128x128.size a := fun i v4112 k0_hw198 k0_h1 => k0_hw198.1 k0_h1
theorem k0_off296_wordsbf16 : ∀ (i : grid0.Coords) (v4112 : BitVec 32) (k0_hw198 : k0_chk198 i v4112), ∀ (k0_h1 : k0_cond1 i = 1#1), (Rect.unit (s := S1024x128x128) (k0_off296 v4112) S1x128x128.size (k0_off296_inb i v4112 k0_hw198 k0_h1)).WholeWords (EltTy.packing .bf16) := fun i v4112 k0_hw198 k0_h1 => k0_hw198.2.1 k0_h1 (k0_off296_inb i v4112 k0_hw198 k0_h1)
theorem k0_off297_inb : ∀ (i : grid0.Coords) (v4112 : BitVec 32) (k0_hw198 : k0_chk198 i v4112), ∀ (k0_h1 : k0_cond1 i = 1#1), ∀ a, (k0_off297 v4112) a + S1x1x128.size a ≤ S1024x1x128.size a := fun i v4112 k0_hw198 k0_h1 => k0_hw198.2.2 k0_h1

def k0_off298 (v4131 : BitVec 32) : Fin 3 → Nat :=
  let c0_i32_3303 : BitVec 32 := 0#32
  let c0_i32_3304 : BitVec 32 := 0#32
  ![v4131.toNat, 0, 0]

def k0_chk199 (i : grid0.Coords) (v4131 : BitVec 32) : Prop :=
  (∀ (k0_h1 : k0_cond1 i = 1#1), ∀ a, (k0_off298 v4131) a + S1x128x64.size a ≤ S4096x128x64.size a)
theorem k0_off298_inb : ∀ (i : grid0.Coords) (v4131 : BitVec 32) (k0_hw199 : k0_chk199 i v4131), ∀ (k0_h1 : k0_cond1 i = 1#1), ∀ a, (k0_off298 v4131) a + S1x128x64.size a ≤ S4096x128x64.size a := fun i v4131 k0_hw199 k0_h1 => k0_hw199 k0_h1

def k0_off299 (v4132 : BitVec 32) : Fin 3 → Nat :=
  let c0_i32_3310 : BitVec 32 := 0#32
  let c0_i32_3311 : BitVec 32 := 0#32
  ![v4132.toNat, 0, 0]

def k0_off300 (v4132 : BitVec 32) : Fin 3 → Nat :=
  let c0_i32_3317 : BitVec 32 := 0#32
  let c0_i32_3318 : BitVec 32 := 0#32
  ![v4132.toNat, 0, 0]

def k0_chk200 (i : grid0.Coords) (v4132 : BitVec 32) : Prop :=
  (∀ (k0_h1 : k0_cond1 i = 1#1), ∀ a, (k0_off299 v4132) a + S1x128x128.size a ≤ S1024x128x128.size a) ∧
  (∀ (k0_h1 : k0_cond1 i = 1#1), ∀ (hinb : ∀ a, (k0_off299 v4132) a + S1x128x128.size a ≤ S1024x128x128.size a), (Rect.unit (s := S1024x128x128) (k0_off299 v4132) S1x128x128.size hinb).WholeWords (EltTy.packing .bf16)) ∧
  (∀ (k0_h1 : k0_cond1 i = 1#1), ∀ a, (k0_off300 v4132) a + S1x1x128.size a ≤ S1024x1x128.size a)
theorem k0_off299_inb : ∀ (i : grid0.Coords) (v4132 : BitVec 32) (k0_hw200 : k0_chk200 i v4132), ∀ (k0_h1 : k0_cond1 i = 1#1), ∀ a, (k0_off299 v4132) a + S1x128x128.size a ≤ S1024x128x128.size a := fun i v4132 k0_hw200 k0_h1 => k0_hw200.1 k0_h1
theorem k0_off299_wordsbf16 : ∀ (i : grid0.Coords) (v4132 : BitVec 32) (k0_hw200 : k0_chk200 i v4132), ∀ (k0_h1 : k0_cond1 i = 1#1), (Rect.unit (s := S1024x128x128) (k0_off299 v4132) S1x128x128.size (k0_off299_inb i v4132 k0_hw200 k0_h1)).WholeWords (EltTy.packing .bf16) := fun i v4132 k0_hw200 k0_h1 => k0_hw200.2.1 k0_h1 (k0_off299_inb i v4132 k0_hw200 k0_h1)
theorem k0_off300_inb : ∀ (i : grid0.Coords) (v4132 : BitVec 32) (k0_hw200 : k0_chk200 i v4132), ∀ (k0_h1 : k0_cond1 i = 1#1), ∀ a, (k0_off300 v4132) a + S1x1x128.size a ≤ S1024x1x128.size a := fun i v4132 k0_hw200 k0_h1 => k0_hw200.2.2 k0_h1

def k0_off301 (v4151 : BitVec 32) : Fin 3 → Nat :=
  let c0_i32_3325 : BitVec 32 := 0#32
  let c0_i32_3326 : BitVec 32 := 0#32
  ![v4151.toNat, 0, 0]

def k0_chk201 (i : grid0.Coords) (v4151 : BitVec 32) : Prop :=
  (∀ (k0_h1 : k0_cond1 i = 1#1), ∀ a, (k0_off301 v4151) a + S1x128x64.size a ≤ S4096x128x64.size a)
theorem k0_off301_inb : ∀ (i : grid0.Coords) (v4151 : BitVec 32) (k0_hw201 : k0_chk201 i v4151), ∀ (k0_h1 : k0_cond1 i = 1#1), ∀ a, (k0_off301 v4151) a + S1x128x64.size a ≤ S4096x128x64.size a := fun i v4151 k0_hw201 k0_h1 => k0_hw201 k0_h1

def k0_off302 (v4152 : BitVec 32) : Fin 3 → Nat :=
  let c0_i32_3332 : BitVec 32 := 0#32
  let c0_i32_3333 : BitVec 32 := 0#32
  ![v4152.toNat, 0, 0]

def k0_off303 (v4152 : BitVec 32) : Fin 3 → Nat :=
  let c0_i32_3339 : BitVec 32 := 0#32
  let c0_i32_3340 : BitVec 32 := 0#32
  ![v4152.toNat, 0, 0]

def k0_chk202 (i : grid0.Coords) (v4152 : BitVec 32) : Prop :=
  (∀ (k0_h1 : k0_cond1 i = 1#1), ∀ a, (k0_off302 v4152) a + S1x128x128.size a ≤ S1024x128x128.size a) ∧
  (∀ (k0_h1 : k0_cond1 i = 1#1), ∀ (hinb : ∀ a, (k0_off302 v4152) a + S1x128x128.size a ≤ S1024x128x128.size a), (Rect.unit (s := S1024x128x128) (k0_off302 v4152) S1x128x128.size hinb).WholeWords (EltTy.packing .bf16)) ∧
  (∀ (k0_h1 : k0_cond1 i = 1#1), ∀ a, (k0_off303 v4152) a + S1x1x128.size a ≤ S1024x1x128.size a)
theorem k0_off302_inb : ∀ (i : grid0.Coords) (v4152 : BitVec 32) (k0_hw202 : k0_chk202 i v4152), ∀ (k0_h1 : k0_cond1 i = 1#1), ∀ a, (k0_off302 v4152) a + S1x128x128.size a ≤ S1024x128x128.size a := fun i v4152 k0_hw202 k0_h1 => k0_hw202.1 k0_h1
theorem k0_off302_wordsbf16 : ∀ (i : grid0.Coords) (v4152 : BitVec 32) (k0_hw202 : k0_chk202 i v4152), ∀ (k0_h1 : k0_cond1 i = 1#1), (Rect.unit (s := S1024x128x128) (k0_off302 v4152) S1x128x128.size (k0_off302_inb i v4152 k0_hw202 k0_h1)).WholeWords (EltTy.packing .bf16) := fun i v4152 k0_hw202 k0_h1 => k0_hw202.2.1 k0_h1 (k0_off302_inb i v4152 k0_hw202 k0_h1)
theorem k0_off303_inb : ∀ (i : grid0.Coords) (v4152 : BitVec 32) (k0_hw202 : k0_chk202 i v4152), ∀ (k0_h1 : k0_cond1 i = 1#1), ∀ a, (k0_off303 v4152) a + S1x1x128.size a ≤ S1024x1x128.size a := fun i v4152 k0_hw202 k0_h1 => k0_hw202.2.2 k0_h1

def k0_off304 (v4171 : BitVec 32) : Fin 3 → Nat :=
  let c0_i32_3347 : BitVec 32 := 0#32
  let c0_i32_3348 : BitVec 32 := 0#32
  ![v4171.toNat, 0, 0]

def k0_chk203 (i : grid0.Coords) (v4171 : BitVec 32) : Prop :=
  (∀ (k0_h1 : k0_cond1 i = 1#1), ∀ a, (k0_off304 v4171) a + S1x128x64.size a ≤ S4096x128x64.size a)
theorem k0_off304_inb : ∀ (i : grid0.Coords) (v4171 : BitVec 32) (k0_hw203 : k0_chk203 i v4171), ∀ (k0_h1 : k0_cond1 i = 1#1), ∀ a, (k0_off304 v4171) a + S1x128x64.size a ≤ S4096x128x64.size a := fun i v4171 k0_hw203 k0_h1 => k0_hw203 k0_h1

def k0_off305 (v4172 : BitVec 32) : Fin 3 → Nat :=
  let c0_i32_3354 : BitVec 32 := 0#32
  let c0_i32_3355 : BitVec 32 := 0#32
  ![v4172.toNat, 0, 0]

def k0_off306 (v4172 : BitVec 32) : Fin 3 → Nat :=
  let c0_i32_3361 : BitVec 32 := 0#32
  let c0_i32_3362 : BitVec 32 := 0#32
  ![v4172.toNat, 0, 0]

def k0_chk204 (i : grid0.Coords) (v4172 : BitVec 32) : Prop :=
  (∀ (k0_h1 : k0_cond1 i = 1#1), ∀ a, (k0_off305 v4172) a + S1x128x128.size a ≤ S1024x128x128.size a) ∧
  (∀ (k0_h1 : k0_cond1 i = 1#1), ∀ (hinb : ∀ a, (k0_off305 v4172) a + S1x128x128.size a ≤ S1024x128x128.size a), (Rect.unit (s := S1024x128x128) (k0_off305 v4172) S1x128x128.size hinb).WholeWords (EltTy.packing .bf16)) ∧
  (∀ (k0_h1 : k0_cond1 i = 1#1), ∀ a, (k0_off306 v4172) a + S1x1x128.size a ≤ S1024x1x128.size a)
theorem k0_off305_inb : ∀ (i : grid0.Coords) (v4172 : BitVec 32) (k0_hw204 : k0_chk204 i v4172), ∀ (k0_h1 : k0_cond1 i = 1#1), ∀ a, (k0_off305 v4172) a + S1x128x128.size a ≤ S1024x128x128.size a := fun i v4172 k0_hw204 k0_h1 => k0_hw204.1 k0_h1
theorem k0_off305_wordsbf16 : ∀ (i : grid0.Coords) (v4172 : BitVec 32) (k0_hw204 : k0_chk204 i v4172), ∀ (k0_h1 : k0_cond1 i = 1#1), (Rect.unit (s := S1024x128x128) (k0_off305 v4172) S1x128x128.size (k0_off305_inb i v4172 k0_hw204 k0_h1)).WholeWords (EltTy.packing .bf16) := fun i v4172 k0_hw204 k0_h1 => k0_hw204.2.1 k0_h1 (k0_off305_inb i v4172 k0_hw204 k0_h1)
theorem k0_off306_inb : ∀ (i : grid0.Coords) (v4172 : BitVec 32) (k0_hw204 : k0_chk204 i v4172), ∀ (k0_h1 : k0_cond1 i = 1#1), ∀ a, (k0_off306 v4172) a + S1x1x128.size a ≤ S1024x1x128.size a := fun i v4172 k0_hw204 k0_h1 => k0_hw204.2.2 k0_h1

def k0_off307 (v4191 : BitVec 32) : Fin 3 → Nat :=
  let c0_i32_3369 : BitVec 32 := 0#32
  let c0_i32_3370 : BitVec 32 := 0#32
  ![v4191.toNat, 0, 0]

def k0_chk205 (i : grid0.Coords) (v4191 : BitVec 32) : Prop :=
  (∀ (k0_h1 : k0_cond1 i = 1#1), ∀ a, (k0_off307 v4191) a + S1x128x64.size a ≤ S4096x128x64.size a)
theorem k0_off307_inb : ∀ (i : grid0.Coords) (v4191 : BitVec 32) (k0_hw205 : k0_chk205 i v4191), ∀ (k0_h1 : k0_cond1 i = 1#1), ∀ a, (k0_off307 v4191) a + S1x128x64.size a ≤ S4096x128x64.size a := fun i v4191 k0_hw205 k0_h1 => k0_hw205 k0_h1

def k0_off308 (v4192 : BitVec 32) : Fin 3 → Nat :=
  let c0_i32_3376 : BitVec 32 := 0#32
  let c0_i32_3377 : BitVec 32 := 0#32
  ![v4192.toNat, 0, 0]

def k0_off309 (v4192 : BitVec 32) : Fin 3 → Nat :=
  let c0_i32_3383 : BitVec 32 := 0#32
  let c0_i32_3384 : BitVec 32 := 0#32
  ![v4192.toNat, 0, 0]

def k0_chk206 (i : grid0.Coords) (v4192 : BitVec 32) : Prop :=
  (∀ (k0_h1 : k0_cond1 i = 1#1), ∀ a, (k0_off308 v4192) a + S1x128x128.size a ≤ S1024x128x128.size a) ∧
  (∀ (k0_h1 : k0_cond1 i = 1#1), ∀ (hinb : ∀ a, (k0_off308 v4192) a + S1x128x128.size a ≤ S1024x128x128.size a), (Rect.unit (s := S1024x128x128) (k0_off308 v4192) S1x128x128.size hinb).WholeWords (EltTy.packing .bf16)) ∧
  (∀ (k0_h1 : k0_cond1 i = 1#1), ∀ a, (k0_off309 v4192) a + S1x1x128.size a ≤ S1024x1x128.size a)
theorem k0_off308_inb : ∀ (i : grid0.Coords) (v4192 : BitVec 32) (k0_hw206 : k0_chk206 i v4192), ∀ (k0_h1 : k0_cond1 i = 1#1), ∀ a, (k0_off308 v4192) a + S1x128x128.size a ≤ S1024x128x128.size a := fun i v4192 k0_hw206 k0_h1 => k0_hw206.1 k0_h1
theorem k0_off308_wordsbf16 : ∀ (i : grid0.Coords) (v4192 : BitVec 32) (k0_hw206 : k0_chk206 i v4192), ∀ (k0_h1 : k0_cond1 i = 1#1), (Rect.unit (s := S1024x128x128) (k0_off308 v4192) S1x128x128.size (k0_off308_inb i v4192 k0_hw206 k0_h1)).WholeWords (EltTy.packing .bf16) := fun i v4192 k0_hw206 k0_h1 => k0_hw206.2.1 k0_h1 (k0_off308_inb i v4192 k0_hw206 k0_h1)
theorem k0_off309_inb : ∀ (i : grid0.Coords) (v4192 : BitVec 32) (k0_hw206 : k0_chk206 i v4192), ∀ (k0_h1 : k0_cond1 i = 1#1), ∀ a, (k0_off309 v4192) a + S1x1x128.size a ≤ S1024x1x128.size a := fun i v4192 k0_hw206 k0_h1 => k0_hw206.2.2 k0_h1

def k0_off310 (v4211 : BitVec 32) : Fin 3 → Nat :=
  let c0_i32_3391 : BitVec 32 := 0#32
  let c0_i32_3392 : BitVec 32 := 0#32
  ![v4211.toNat, 0, 0]

def k0_chk207 (i : grid0.Coords) (v4211 : BitVec 32) : Prop :=
  (∀ (k0_h1 : k0_cond1 i = 1#1), ∀ a, (k0_off310 v4211) a + S1x128x64.size a ≤ S4096x128x64.size a)
theorem k0_off310_inb : ∀ (i : grid0.Coords) (v4211 : BitVec 32) (k0_hw207 : k0_chk207 i v4211), ∀ (k0_h1 : k0_cond1 i = 1#1), ∀ a, (k0_off310 v4211) a + S1x128x64.size a ≤ S4096x128x64.size a := fun i v4211 k0_hw207 k0_h1 => k0_hw207 k0_h1

def k0_off311 (v4212 : BitVec 32) : Fin 3 → Nat :=
  let c0_i32_3398 : BitVec 32 := 0#32
  let c0_i32_3399 : BitVec 32 := 0#32
  ![v4212.toNat, 0, 0]

def k0_off312 (v4212 : BitVec 32) : Fin 3 → Nat :=
  let c0_i32_3405 : BitVec 32 := 0#32
  let c0_i32_3406 : BitVec 32 := 0#32
  ![v4212.toNat, 0, 0]

def k0_chk208 (i : grid0.Coords) (v4212 : BitVec 32) : Prop :=
  (∀ (k0_h1 : k0_cond1 i = 1#1), ∀ a, (k0_off311 v4212) a + S1x128x128.size a ≤ S1024x128x128.size a) ∧
  (∀ (k0_h1 : k0_cond1 i = 1#1), ∀ (hinb : ∀ a, (k0_off311 v4212) a + S1x128x128.size a ≤ S1024x128x128.size a), (Rect.unit (s := S1024x128x128) (k0_off311 v4212) S1x128x128.size hinb).WholeWords (EltTy.packing .bf16)) ∧
  (∀ (k0_h1 : k0_cond1 i = 1#1), ∀ a, (k0_off312 v4212) a + S1x1x128.size a ≤ S1024x1x128.size a)
theorem k0_off311_inb : ∀ (i : grid0.Coords) (v4212 : BitVec 32) (k0_hw208 : k0_chk208 i v4212), ∀ (k0_h1 : k0_cond1 i = 1#1), ∀ a, (k0_off311 v4212) a + S1x128x128.size a ≤ S1024x128x128.size a := fun i v4212 k0_hw208 k0_h1 => k0_hw208.1 k0_h1
theorem k0_off311_wordsbf16 : ∀ (i : grid0.Coords) (v4212 : BitVec 32) (k0_hw208 : k0_chk208 i v4212), ∀ (k0_h1 : k0_cond1 i = 1#1), (Rect.unit (s := S1024x128x128) (k0_off311 v4212) S1x128x128.size (k0_off311_inb i v4212 k0_hw208 k0_h1)).WholeWords (EltTy.packing .bf16) := fun i v4212 k0_hw208 k0_h1 => k0_hw208.2.1 k0_h1 (k0_off311_inb i v4212 k0_hw208 k0_h1)
theorem k0_off312_inb : ∀ (i : grid0.Coords) (v4212 : BitVec 32) (k0_hw208 : k0_chk208 i v4212), ∀ (k0_h1 : k0_cond1 i = 1#1), ∀ a, (k0_off312 v4212) a + S1x1x128.size a ≤ S1024x1x128.size a := fun i v4212 k0_hw208 k0_h1 => k0_hw208.2.2 k0_h1

def k0_off313 (v4231 : BitVec 32) : Fin 3 → Nat :=
  let c0_i32_3413 : BitVec 32 := 0#32
  let c0_i32_3414 : BitVec 32 := 0#32
  ![v4231.toNat, 0, 0]

def k0_chk209 (i : grid0.Coords) (v4231 : BitVec 32) : Prop :=
  (∀ (k0_h1 : k0_cond1 i = 1#1), ∀ a, (k0_off313 v4231) a + S1x128x64.size a ≤ S4096x128x64.size a)
theorem k0_off313_inb : ∀ (i : grid0.Coords) (v4231 : BitVec 32) (k0_hw209 : k0_chk209 i v4231), ∀ (k0_h1 : k0_cond1 i = 1#1), ∀ a, (k0_off313 v4231) a + S1x128x64.size a ≤ S4096x128x64.size a := fun i v4231 k0_hw209 k0_h1 => k0_hw209 k0_h1

def k0_off314 (v4232 : BitVec 32) : Fin 3 → Nat :=
  let c0_i32_3420 : BitVec 32 := 0#32
  let c0_i32_3421 : BitVec 32 := 0#32
  ![v4232.toNat, 0, 0]

def k0_off315 (v4232 : BitVec 32) : Fin 3 → Nat :=
  let c0_i32_3427 : BitVec 32 := 0#32
  let c0_i32_3428 : BitVec 32 := 0#32
  ![v4232.toNat, 0, 0]

def k0_chk210 (i : grid0.Coords) (v4232 : BitVec 32) : Prop :=
  (∀ (k0_h1 : k0_cond1 i = 1#1), ∀ a, (k0_off314 v4232) a + S1x128x128.size a ≤ S1024x128x128.size a) ∧
  (∀ (k0_h1 : k0_cond1 i = 1#1), ∀ (hinb : ∀ a, (k0_off314 v4232) a + S1x128x128.size a ≤ S1024x128x128.size a), (Rect.unit (s := S1024x128x128) (k0_off314 v4232) S1x128x128.size hinb).WholeWords (EltTy.packing .bf16)) ∧
  (∀ (k0_h1 : k0_cond1 i = 1#1), ∀ a, (k0_off315 v4232) a + S1x1x128.size a ≤ S1024x1x128.size a)
theorem k0_off314_inb : ∀ (i : grid0.Coords) (v4232 : BitVec 32) (k0_hw210 : k0_chk210 i v4232), ∀ (k0_h1 : k0_cond1 i = 1#1), ∀ a, (k0_off314 v4232) a + S1x128x128.size a ≤ S1024x128x128.size a := fun i v4232 k0_hw210 k0_h1 => k0_hw210.1 k0_h1
theorem k0_off314_wordsbf16 : ∀ (i : grid0.Coords) (v4232 : BitVec 32) (k0_hw210 : k0_chk210 i v4232), ∀ (k0_h1 : k0_cond1 i = 1#1), (Rect.unit (s := S1024x128x128) (k0_off314 v4232) S1x128x128.size (k0_off314_inb i v4232 k0_hw210 k0_h1)).WholeWords (EltTy.packing .bf16) := fun i v4232 k0_hw210 k0_h1 => k0_hw210.2.1 k0_h1 (k0_off314_inb i v4232 k0_hw210 k0_h1)
theorem k0_off315_inb : ∀ (i : grid0.Coords) (v4232 : BitVec 32) (k0_hw210 : k0_chk210 i v4232), ∀ (k0_h1 : k0_cond1 i = 1#1), ∀ a, (k0_off315 v4232) a + S1x1x128.size a ≤ S1024x1x128.size a := fun i v4232 k0_hw210 k0_h1 => k0_hw210.2.2 k0_h1

def k0_off316 (v4251 : BitVec 32) : Fin 3 → Nat :=
  let c0_i32_3435 : BitVec 32 := 0#32
  let c0_i32_3436 : BitVec 32 := 0#32
  ![v4251.toNat, 0, 0]

def k0_chk211 (i : grid0.Coords) (v4251 : BitVec 32) : Prop :=
  (∀ (k0_h1 : k0_cond1 i = 1#1), ∀ a, (k0_off316 v4251) a + S1x128x64.size a ≤ S4096x128x64.size a)
theorem k0_off316_inb : ∀ (i : grid0.Coords) (v4251 : BitVec 32) (k0_hw211 : k0_chk211 i v4251), ∀ (k0_h1 : k0_cond1 i = 1#1), ∀ a, (k0_off316 v4251) a + S1x128x64.size a ≤ S4096x128x64.size a := fun i v4251 k0_hw211 k0_h1 => k0_hw211 k0_h1

def k0_off317 (v4252 : BitVec 32) : Fin 3 → Nat :=
  let c0_i32_3442 : BitVec 32 := 0#32
  let c0_i32_3443 : BitVec 32 := 0#32
  ![v4252.toNat, 0, 0]

def k0_off318 (v4252 : BitVec 32) : Fin 3 → Nat :=
  let c0_i32_3449 : BitVec 32 := 0#32
  let c0_i32_3450 : BitVec 32 := 0#32
  ![v4252.toNat, 0, 0]

def k0_chk212 (i : grid0.Coords) (v4252 : BitVec 32) : Prop :=
  (∀ (k0_h1 : k0_cond1 i = 1#1), ∀ a, (k0_off317 v4252) a + S1x128x128.size a ≤ S1024x128x128.size a) ∧
  (∀ (k0_h1 : k0_cond1 i = 1#1), ∀ (hinb : ∀ a, (k0_off317 v4252) a + S1x128x128.size a ≤ S1024x128x128.size a), (Rect.unit (s := S1024x128x128) (k0_off317 v4252) S1x128x128.size hinb).WholeWords (EltTy.packing .bf16)) ∧
  (∀ (k0_h1 : k0_cond1 i = 1#1), ∀ a, (k0_off318 v4252) a + S1x1x128.size a ≤ S1024x1x128.size a)
theorem k0_off317_inb : ∀ (i : grid0.Coords) (v4252 : BitVec 32) (k0_hw212 : k0_chk212 i v4252), ∀ (k0_h1 : k0_cond1 i = 1#1), ∀ a, (k0_off317 v4252) a + S1x128x128.size a ≤ S1024x128x128.size a := fun i v4252 k0_hw212 k0_h1 => k0_hw212.1 k0_h1
theorem k0_off317_wordsbf16 : ∀ (i : grid0.Coords) (v4252 : BitVec 32) (k0_hw212 : k0_chk212 i v4252), ∀ (k0_h1 : k0_cond1 i = 1#1), (Rect.unit (s := S1024x128x128) (k0_off317 v4252) S1x128x128.size (k0_off317_inb i v4252 k0_hw212 k0_h1)).WholeWords (EltTy.packing .bf16) := fun i v4252 k0_hw212 k0_h1 => k0_hw212.2.1 k0_h1 (k0_off317_inb i v4252 k0_hw212 k0_h1)
theorem k0_off318_inb : ∀ (i : grid0.Coords) (v4252 : BitVec 32) (k0_hw212 : k0_chk212 i v4252), ∀ (k0_h1 : k0_cond1 i = 1#1), ∀ a, (k0_off318 v4252) a + S1x1x128.size a ≤ S1024x1x128.size a := fun i v4252 k0_hw212 k0_h1 => k0_hw212.2.2 k0_h1

def k0_off319 (v4271 : BitVec 32) : Fin 3 → Nat :=
  let c0_i32_3457 : BitVec 32 := 0#32
  let c0_i32_3458 : BitVec 32 := 0#32
  ![v4271.toNat, 0, 0]

def k0_chk213 (i : grid0.Coords) (v4271 : BitVec 32) : Prop :=
  (∀ (k0_h1 : k0_cond1 i = 1#1), ∀ a, (k0_off319 v4271) a + S1x128x64.size a ≤ S4096x128x64.size a)
theorem k0_off319_inb : ∀ (i : grid0.Coords) (v4271 : BitVec 32) (k0_hw213 : k0_chk213 i v4271), ∀ (k0_h1 : k0_cond1 i = 1#1), ∀ a, (k0_off319 v4271) a + S1x128x64.size a ≤ S4096x128x64.size a := fun i v4271 k0_hw213 k0_h1 => k0_hw213 k0_h1

def k0_off320 (v4272 : BitVec 32) : Fin 3 → Nat :=
  let c0_i32_3464 : BitVec 32 := 0#32
  let c0_i32_3465 : BitVec 32 := 0#32
  ![v4272.toNat, 0, 0]

def k0_off321 (v4272 : BitVec 32) : Fin 3 → Nat :=
  let c0_i32_3471 : BitVec 32 := 0#32
  let c0_i32_3472 : BitVec 32 := 0#32
  ![v4272.toNat, 0, 0]

def k0_chk214 (i : grid0.Coords) (v4272 : BitVec 32) : Prop :=
  (∀ (k0_h1 : k0_cond1 i = 1#1), ∀ a, (k0_off320 v4272) a + S1x128x128.size a ≤ S1024x128x128.size a) ∧
  (∀ (k0_h1 : k0_cond1 i = 1#1), ∀ (hinb : ∀ a, (k0_off320 v4272) a + S1x128x128.size a ≤ S1024x128x128.size a), (Rect.unit (s := S1024x128x128) (k0_off320 v4272) S1x128x128.size hinb).WholeWords (EltTy.packing .bf16)) ∧
  (∀ (k0_h1 : k0_cond1 i = 1#1), ∀ a, (k0_off321 v4272) a + S1x1x128.size a ≤ S1024x1x128.size a)
theorem k0_off320_inb : ∀ (i : grid0.Coords) (v4272 : BitVec 32) (k0_hw214 : k0_chk214 i v4272), ∀ (k0_h1 : k0_cond1 i = 1#1), ∀ a, (k0_off320 v4272) a + S1x128x128.size a ≤ S1024x128x128.size a := fun i v4272 k0_hw214 k0_h1 => k0_hw214.1 k0_h1
theorem k0_off320_wordsbf16 : ∀ (i : grid0.Coords) (v4272 : BitVec 32) (k0_hw214 : k0_chk214 i v4272), ∀ (k0_h1 : k0_cond1 i = 1#1), (Rect.unit (s := S1024x128x128) (k0_off320 v4272) S1x128x128.size (k0_off320_inb i v4272 k0_hw214 k0_h1)).WholeWords (EltTy.packing .bf16) := fun i v4272 k0_hw214 k0_h1 => k0_hw214.2.1 k0_h1 (k0_off320_inb i v4272 k0_hw214 k0_h1)
theorem k0_off321_inb : ∀ (i : grid0.Coords) (v4272 : BitVec 32) (k0_hw214 : k0_chk214 i v4272), ∀ (k0_h1 : k0_cond1 i = 1#1), ∀ a, (k0_off321 v4272) a + S1x1x128.size a ≤ S1024x1x128.size a := fun i v4272 k0_hw214 k0_h1 => k0_hw214.2.2 k0_h1

def k0_off322 (v4291 : BitVec 32) : Fin 3 → Nat :=
  let c0_i32_3479 : BitVec 32 := 0#32
  let c0_i32_3480 : BitVec 32 := 0#32
  ![v4291.toNat, 0, 0]

def k0_chk215 (i : grid0.Coords) (v4291 : BitVec 32) : Prop :=
  (∀ (k0_h1 : k0_cond1 i = 1#1), ∀ a, (k0_off322 v4291) a + S1x128x64.size a ≤ S4096x128x64.size a)
theorem k0_off322_inb : ∀ (i : grid0.Coords) (v4291 : BitVec 32) (k0_hw215 : k0_chk215 i v4291), ∀ (k0_h1 : k0_cond1 i = 1#1), ∀ a, (k0_off322 v4291) a + S1x128x64.size a ≤ S4096x128x64.size a := fun i v4291 k0_hw215 k0_h1 => k0_hw215 k0_h1

def k0_off323 (v4292 : BitVec 32) : Fin 3 → Nat :=
  let c0_i32_3486 : BitVec 32 := 0#32
  let c0_i32_3487 : BitVec 32 := 0#32
  ![v4292.toNat, 0, 0]

def k0_off324 (v4292 : BitVec 32) : Fin 3 → Nat :=
  let c0_i32_3493 : BitVec 32 := 0#32
  let c0_i32_3494 : BitVec 32 := 0#32
  ![v4292.toNat, 0, 0]

def k0_chk216 (i : grid0.Coords) (v4292 : BitVec 32) : Prop :=
  (∀ (k0_h1 : k0_cond1 i = 1#1), ∀ a, (k0_off323 v4292) a + S1x128x128.size a ≤ S1024x128x128.size a) ∧
  (∀ (k0_h1 : k0_cond1 i = 1#1), ∀ (hinb : ∀ a, (k0_off323 v4292) a + S1x128x128.size a ≤ S1024x128x128.size a), (Rect.unit (s := S1024x128x128) (k0_off323 v4292) S1x128x128.size hinb).WholeWords (EltTy.packing .bf16)) ∧
  (∀ (k0_h1 : k0_cond1 i = 1#1), ∀ a, (k0_off324 v4292) a + S1x1x128.size a ≤ S1024x1x128.size a)
theorem k0_off323_inb : ∀ (i : grid0.Coords) (v4292 : BitVec 32) (k0_hw216 : k0_chk216 i v4292), ∀ (k0_h1 : k0_cond1 i = 1#1), ∀ a, (k0_off323 v4292) a + S1x128x128.size a ≤ S1024x128x128.size a := fun i v4292 k0_hw216 k0_h1 => k0_hw216.1 k0_h1
theorem k0_off323_wordsbf16 : ∀ (i : grid0.Coords) (v4292 : BitVec 32) (k0_hw216 : k0_chk216 i v4292), ∀ (k0_h1 : k0_cond1 i = 1#1), (Rect.unit (s := S1024x128x128) (k0_off323 v4292) S1x128x128.size (k0_off323_inb i v4292 k0_hw216 k0_h1)).WholeWords (EltTy.packing .bf16) := fun i v4292 k0_hw216 k0_h1 => k0_hw216.2.1 k0_h1 (k0_off323_inb i v4292 k0_hw216 k0_h1)
theorem k0_off324_inb : ∀ (i : grid0.Coords) (v4292 : BitVec 32) (k0_hw216 : k0_chk216 i v4292), ∀ (k0_h1 : k0_cond1 i = 1#1), ∀ a, (k0_off324 v4292) a + S1x1x128.size a ≤ S1024x1x128.size a := fun i v4292 k0_hw216 k0_h1 => k0_hw216.2.2 k0_h1

def k0_off325 (v4311 : BitVec 32) : Fin 3 → Nat :=
  let c0_i32_3501 : BitVec 32 := 0#32
  let c0_i32_3502 : BitVec 32 := 0#32
  ![v4311.toNat, 0, 0]

def k0_chk217 (i : grid0.Coords) (v4311 : BitVec 32) : Prop :=
  (∀ (k0_h1 : k0_cond1 i = 1#1), ∀ a, (k0_off325 v4311) a + S1x128x64.size a ≤ S4096x128x64.size a)
theorem k0_off325_inb : ∀ (i : grid0.Coords) (v4311 : BitVec 32) (k0_hw217 : k0_chk217 i v4311), ∀ (k0_h1 : k0_cond1 i = 1#1), ∀ a, (k0_off325 v4311) a + S1x128x64.size a ≤ S4096x128x64.size a := fun i v4311 k0_hw217 k0_h1 => k0_hw217 k0_h1

def k0_off326 (v4312 : BitVec 32) : Fin 3 → Nat :=
  let c0_i32_3508 : BitVec 32 := 0#32
  let c0_i32_3509 : BitVec 32 := 0#32
  ![v4312.toNat, 0, 0]

def k0_off327 (v4312 : BitVec 32) : Fin 3 → Nat :=
  let c0_i32_3515 : BitVec 32 := 0#32
  let c0_i32_3516 : BitVec 32 := 0#32
  ![v4312.toNat, 0, 0]

def k0_chk218 (i : grid0.Coords) (v4312 : BitVec 32) : Prop :=
  (∀ (k0_h1 : k0_cond1 i = 1#1), ∀ a, (k0_off326 v4312) a + S1x128x128.size a ≤ S1024x128x128.size a) ∧
  (∀ (k0_h1 : k0_cond1 i = 1#1), ∀ (hinb : ∀ a, (k0_off326 v4312) a + S1x128x128.size a ≤ S1024x128x128.size a), (Rect.unit (s := S1024x128x128) (k0_off326 v4312) S1x128x128.size hinb).WholeWords (EltTy.packing .bf16)) ∧
  (∀ (k0_h1 : k0_cond1 i = 1#1), ∀ a, (k0_off327 v4312) a + S1x1x128.size a ≤ S1024x1x128.size a)
theorem k0_off326_inb : ∀ (i : grid0.Coords) (v4312 : BitVec 32) (k0_hw218 : k0_chk218 i v4312), ∀ (k0_h1 : k0_cond1 i = 1#1), ∀ a, (k0_off326 v4312) a + S1x128x128.size a ≤ S1024x128x128.size a := fun i v4312 k0_hw218 k0_h1 => k0_hw218.1 k0_h1
theorem k0_off326_wordsbf16 : ∀ (i : grid0.Coords) (v4312 : BitVec 32) (k0_hw218 : k0_chk218 i v4312), ∀ (k0_h1 : k0_cond1 i = 1#1), (Rect.unit (s := S1024x128x128) (k0_off326 v4312) S1x128x128.size (k0_off326_inb i v4312 k0_hw218 k0_h1)).WholeWords (EltTy.packing .bf16) := fun i v4312 k0_hw218 k0_h1 => k0_hw218.2.1 k0_h1 (k0_off326_inb i v4312 k0_hw218 k0_h1)
theorem k0_off327_inb : ∀ (i : grid0.Coords) (v4312 : BitVec 32) (k0_hw218 : k0_chk218 i v4312), ∀ (k0_h1 : k0_cond1 i = 1#1), ∀ a, (k0_off327 v4312) a + S1x1x128.size a ≤ S1024x1x128.size a := fun i v4312 k0_hw218 k0_h1 => k0_hw218.2.2 k0_h1

def k0_off328 (v4331 : BitVec 32) : Fin 3 → Nat :=
  let c0_i32_3523 : BitVec 32 := 0#32
  let c0_i32_3524 : BitVec 32 := 0#32
  ![v4331.toNat, 0, 0]

def k0_chk219 (i : grid0.Coords) (v4331 : BitVec 32) : Prop :=
  (∀ (k0_h1 : k0_cond1 i = 1#1), ∀ a, (k0_off328 v4331) a + S1x128x64.size a ≤ S4096x128x64.size a)
theorem k0_off328_inb : ∀ (i : grid0.Coords) (v4331 : BitVec 32) (k0_hw219 : k0_chk219 i v4331), ∀ (k0_h1 : k0_cond1 i = 1#1), ∀ a, (k0_off328 v4331) a + S1x128x64.size a ≤ S4096x128x64.size a := fun i v4331 k0_hw219 k0_h1 => k0_hw219 k0_h1

def k0_off329 (v4332 : BitVec 32) : Fin 3 → Nat :=
  let c0_i32_3530 : BitVec 32 := 0#32
  let c0_i32_3531 : BitVec 32 := 0#32
  ![v4332.toNat, 0, 0]

def k0_off330 (v4332 : BitVec 32) : Fin 3 → Nat :=
  let c0_i32_3537 : BitVec 32 := 0#32
  let c0_i32_3538 : BitVec 32 := 0#32
  ![v4332.toNat, 0, 0]

def k0_chk220 (i : grid0.Coords) (v4332 : BitVec 32) : Prop :=
  (∀ (k0_h1 : k0_cond1 i = 1#1), ∀ a, (k0_off329 v4332) a + S1x128x128.size a ≤ S1024x128x128.size a) ∧
  (∀ (k0_h1 : k0_cond1 i = 1#1), ∀ (hinb : ∀ a, (k0_off329 v4332) a + S1x128x128.size a ≤ S1024x128x128.size a), (Rect.unit (s := S1024x128x128) (k0_off329 v4332) S1x128x128.size hinb).WholeWords (EltTy.packing .bf16)) ∧
  (∀ (k0_h1 : k0_cond1 i = 1#1), ∀ a, (k0_off330 v4332) a + S1x1x128.size a ≤ S1024x1x128.size a)
theorem k0_off329_inb : ∀ (i : grid0.Coords) (v4332 : BitVec 32) (k0_hw220 : k0_chk220 i v4332), ∀ (k0_h1 : k0_cond1 i = 1#1), ∀ a, (k0_off329 v4332) a + S1x128x128.size a ≤ S1024x128x128.size a := fun i v4332 k0_hw220 k0_h1 => k0_hw220.1 k0_h1
theorem k0_off329_wordsbf16 : ∀ (i : grid0.Coords) (v4332 : BitVec 32) (k0_hw220 : k0_chk220 i v4332), ∀ (k0_h1 : k0_cond1 i = 1#1), (Rect.unit (s := S1024x128x128) (k0_off329 v4332) S1x128x128.size (k0_off329_inb i v4332 k0_hw220 k0_h1)).WholeWords (EltTy.packing .bf16) := fun i v4332 k0_hw220 k0_h1 => k0_hw220.2.1 k0_h1 (k0_off329_inb i v4332 k0_hw220 k0_h1)
theorem k0_off330_inb : ∀ (i : grid0.Coords) (v4332 : BitVec 32) (k0_hw220 : k0_chk220 i v4332), ∀ (k0_h1 : k0_cond1 i = 1#1), ∀ a, (k0_off330 v4332) a + S1x1x128.size a ≤ S1024x1x128.size a := fun i v4332 k0_hw220 k0_h1 => k0_hw220.2.2 k0_h1

def k0_off331 (v4351 : BitVec 32) : Fin 3 → Nat :=
  let c0_i32_3545 : BitVec 32 := 0#32
  let c0_i32_3546 : BitVec 32 := 0#32
  ![v4351.toNat, 0, 0]

def k0_chk221 (i : grid0.Coords) (v4351 : BitVec 32) : Prop :=
  (∀ (k0_h1 : k0_cond1 i = 1#1), ∀ a, (k0_off331 v4351) a + S1x128x64.size a ≤ S4096x128x64.size a)
theorem k0_off331_inb : ∀ (i : grid0.Coords) (v4351 : BitVec 32) (k0_hw221 : k0_chk221 i v4351), ∀ (k0_h1 : k0_cond1 i = 1#1), ∀ a, (k0_off331 v4351) a + S1x128x64.size a ≤ S4096x128x64.size a := fun i v4351 k0_hw221 k0_h1 => k0_hw221 k0_h1

def k0_off332 (v4352 : BitVec 32) : Fin 3 → Nat :=
  let c0_i32_3552 : BitVec 32 := 0#32
  let c0_i32_3553 : BitVec 32 := 0#32
  ![v4352.toNat, 0, 0]

def k0_off333 (v4352 : BitVec 32) : Fin 3 → Nat :=
  let c0_i32_3559 : BitVec 32 := 0#32
  let c0_i32_3560 : BitVec 32 := 0#32
  ![v4352.toNat, 0, 0]

def k0_chk222 (i : grid0.Coords) (v4352 : BitVec 32) : Prop :=
  (∀ (k0_h1 : k0_cond1 i = 1#1), ∀ a, (k0_off332 v4352) a + S1x128x128.size a ≤ S1024x128x128.size a) ∧
  (∀ (k0_h1 : k0_cond1 i = 1#1), ∀ (hinb : ∀ a, (k0_off332 v4352) a + S1x128x128.size a ≤ S1024x128x128.size a), (Rect.unit (s := S1024x128x128) (k0_off332 v4352) S1x128x128.size hinb).WholeWords (EltTy.packing .bf16)) ∧
  (∀ (k0_h1 : k0_cond1 i = 1#1), ∀ a, (k0_off333 v4352) a + S1x1x128.size a ≤ S1024x1x128.size a)
theorem k0_off332_inb : ∀ (i : grid0.Coords) (v4352 : BitVec 32) (k0_hw222 : k0_chk222 i v4352), ∀ (k0_h1 : k0_cond1 i = 1#1), ∀ a, (k0_off332 v4352) a + S1x128x128.size a ≤ S1024x128x128.size a := fun i v4352 k0_hw222 k0_h1 => k0_hw222.1 k0_h1
theorem k0_off332_wordsbf16 : ∀ (i : grid0.Coords) (v4352 : BitVec 32) (k0_hw222 : k0_chk222 i v4352), ∀ (k0_h1 : k0_cond1 i = 1#1), (Rect.unit (s := S1024x128x128) (k0_off332 v4352) S1x128x128.size (k0_off332_inb i v4352 k0_hw222 k0_h1)).WholeWords (EltTy.packing .bf16) := fun i v4352 k0_hw222 k0_h1 => k0_hw222.2.1 k0_h1 (k0_off332_inb i v4352 k0_hw222 k0_h1)
theorem k0_off333_inb : ∀ (i : grid0.Coords) (v4352 : BitVec 32) (k0_hw222 : k0_chk222 i v4352), ∀ (k0_h1 : k0_cond1 i = 1#1), ∀ a, (k0_off333 v4352) a + S1x1x128.size a ≤ S1024x1x128.size a := fun i v4352 k0_hw222 k0_h1 => k0_hw222.2.2 k0_h1

def k0_off334 (v4371 : BitVec 32) : Fin 3 → Nat :=
  let c0_i32_3567 : BitVec 32 := 0#32
  let c0_i32_3568 : BitVec 32 := 0#32
  ![v4371.toNat, 0, 0]

def k0_chk223 (i : grid0.Coords) (v4371 : BitVec 32) : Prop :=
  (∀ (k0_h1 : k0_cond1 i = 1#1), ∀ a, (k0_off334 v4371) a + S1x128x64.size a ≤ S4096x128x64.size a)
theorem k0_off334_inb : ∀ (i : grid0.Coords) (v4371 : BitVec 32) (k0_hw223 : k0_chk223 i v4371), ∀ (k0_h1 : k0_cond1 i = 1#1), ∀ a, (k0_off334 v4371) a + S1x128x64.size a ≤ S4096x128x64.size a := fun i v4371 k0_hw223 k0_h1 => k0_hw223 k0_h1

def k0_off335 (v4372 : BitVec 32) : Fin 3 → Nat :=
  let c0_i32_3574 : BitVec 32 := 0#32
  let c0_i32_3575 : BitVec 32 := 0#32
  ![v4372.toNat, 0, 0]

def k0_off336 (v4372 : BitVec 32) : Fin 3 → Nat :=
  let c0_i32_3581 : BitVec 32 := 0#32
  let c0_i32_3582 : BitVec 32 := 0#32
  ![v4372.toNat, 0, 0]

def k0_chk224 (i : grid0.Coords) (v4372 : BitVec 32) : Prop :=
  (∀ (k0_h1 : k0_cond1 i = 1#1), ∀ a, (k0_off335 v4372) a + S1x128x128.size a ≤ S1024x128x128.size a) ∧
  (∀ (k0_h1 : k0_cond1 i = 1#1), ∀ (hinb : ∀ a, (k0_off335 v4372) a + S1x128x128.size a ≤ S1024x128x128.size a), (Rect.unit (s := S1024x128x128) (k0_off335 v4372) S1x128x128.size hinb).WholeWords (EltTy.packing .bf16)) ∧
  (∀ (k0_h1 : k0_cond1 i = 1#1), ∀ a, (k0_off336 v4372) a + S1x1x128.size a ≤ S1024x1x128.size a)
theorem k0_off335_inb : ∀ (i : grid0.Coords) (v4372 : BitVec 32) (k0_hw224 : k0_chk224 i v4372), ∀ (k0_h1 : k0_cond1 i = 1#1), ∀ a, (k0_off335 v4372) a + S1x128x128.size a ≤ S1024x128x128.size a := fun i v4372 k0_hw224 k0_h1 => k0_hw224.1 k0_h1
theorem k0_off335_wordsbf16 : ∀ (i : grid0.Coords) (v4372 : BitVec 32) (k0_hw224 : k0_chk224 i v4372), ∀ (k0_h1 : k0_cond1 i = 1#1), (Rect.unit (s := S1024x128x128) (k0_off335 v4372) S1x128x128.size (k0_off335_inb i v4372 k0_hw224 k0_h1)).WholeWords (EltTy.packing .bf16) := fun i v4372 k0_hw224 k0_h1 => k0_hw224.2.1 k0_h1 (k0_off335_inb i v4372 k0_hw224 k0_h1)
theorem k0_off336_inb : ∀ (i : grid0.Coords) (v4372 : BitVec 32) (k0_hw224 : k0_chk224 i v4372), ∀ (k0_h1 : k0_cond1 i = 1#1), ∀ a, (k0_off336 v4372) a + S1x1x128.size a ≤ S1024x1x128.size a := fun i v4372 k0_hw224 k0_h1 => k0_hw224.2.2 k0_h1

def k0_off337 (v4391 : BitVec 32) : Fin 3 → Nat :=
  let c0_i32_3589 : BitVec 32 := 0#32
  let c0_i32_3590 : BitVec 32 := 0#32
  ![v4391.toNat, 0, 0]

def k0_chk225 (i : grid0.Coords) (v4391 : BitVec 32) : Prop :=
  (∀ (k0_h1 : k0_cond1 i = 1#1), ∀ a, (k0_off337 v4391) a + S1x128x64.size a ≤ S4096x128x64.size a)
theorem k0_off337_inb : ∀ (i : grid0.Coords) (v4391 : BitVec 32) (k0_hw225 : k0_chk225 i v4391), ∀ (k0_h1 : k0_cond1 i = 1#1), ∀ a, (k0_off337 v4391) a + S1x128x64.size a ≤ S4096x128x64.size a := fun i v4391 k0_hw225 k0_h1 => k0_hw225 k0_h1

def k0_off338 (v4392 : BitVec 32) : Fin 3 → Nat :=
  let c0_i32_3596 : BitVec 32 := 0#32
  let c0_i32_3597 : BitVec 32 := 0#32
  ![v4392.toNat, 0, 0]

def k0_off339 (v4392 : BitVec 32) : Fin 3 → Nat :=
  let c0_i32_3603 : BitVec 32 := 0#32
  let c0_i32_3604 : BitVec 32 := 0#32
  ![v4392.toNat, 0, 0]

def k0_chk226 (i : grid0.Coords) (v4392 : BitVec 32) : Prop :=
  (∀ (k0_h1 : k0_cond1 i = 1#1), ∀ a, (k0_off338 v4392) a + S1x128x128.size a ≤ S1024x128x128.size a) ∧
  (∀ (k0_h1 : k0_cond1 i = 1#1), ∀ (hinb : ∀ a, (k0_off338 v4392) a + S1x128x128.size a ≤ S1024x128x128.size a), (Rect.unit (s := S1024x128x128) (k0_off338 v4392) S1x128x128.size hinb).WholeWords (EltTy.packing .bf16)) ∧
  (∀ (k0_h1 : k0_cond1 i = 1#1), ∀ a, (k0_off339 v4392) a + S1x1x128.size a ≤ S1024x1x128.size a)
theorem k0_off338_inb : ∀ (i : grid0.Coords) (v4392 : BitVec 32) (k0_hw226 : k0_chk226 i v4392), ∀ (k0_h1 : k0_cond1 i = 1#1), ∀ a, (k0_off338 v4392) a + S1x128x128.size a ≤ S1024x128x128.size a := fun i v4392 k0_hw226 k0_h1 => k0_hw226.1 k0_h1
theorem k0_off338_wordsbf16 : ∀ (i : grid0.Coords) (v4392 : BitVec 32) (k0_hw226 : k0_chk226 i v4392), ∀ (k0_h1 : k0_cond1 i = 1#1), (Rect.unit (s := S1024x128x128) (k0_off338 v4392) S1x128x128.size (k0_off338_inb i v4392 k0_hw226 k0_h1)).WholeWords (EltTy.packing .bf16) := fun i v4392 k0_hw226 k0_h1 => k0_hw226.2.1 k0_h1 (k0_off338_inb i v4392 k0_hw226 k0_h1)
theorem k0_off339_inb : ∀ (i : grid0.Coords) (v4392 : BitVec 32) (k0_hw226 : k0_chk226 i v4392), ∀ (k0_h1 : k0_cond1 i = 1#1), ∀ a, (k0_off339 v4392) a + S1x1x128.size a ≤ S1024x1x128.size a := fun i v4392 k0_hw226 k0_h1 => k0_hw226.2.2 k0_h1

def k0_off340 (v4411 : BitVec 32) : Fin 3 → Nat :=
  let c0_i32_3611 : BitVec 32 := 0#32
  let c0_i32_3612 : BitVec 32 := 0#32
  ![v4411.toNat, 0, 0]

def k0_chk227 (i : grid0.Coords) (v4411 : BitVec 32) : Prop :=
  (∀ (k0_h1 : k0_cond1 i = 1#1), ∀ a, (k0_off340 v4411) a + S1x128x64.size a ≤ S4096x128x64.size a)
theorem k0_off340_inb : ∀ (i : grid0.Coords) (v4411 : BitVec 32) (k0_hw227 : k0_chk227 i v4411), ∀ (k0_h1 : k0_cond1 i = 1#1), ∀ a, (k0_off340 v4411) a + S1x128x64.size a ≤ S4096x128x64.size a := fun i v4411 k0_hw227 k0_h1 => k0_hw227 k0_h1

def k0_off341 (v4412 : BitVec 32) : Fin 3 → Nat :=
  let c0_i32_3618 : BitVec 32 := 0#32
  let c0_i32_3619 : BitVec 32 := 0#32
  ![v4412.toNat, 0, 0]

def k0_off342 (v4412 : BitVec 32) : Fin 3 → Nat :=
  let c0_i32_3625 : BitVec 32 := 0#32
  let c0_i32_3626 : BitVec 32 := 0#32
  ![v4412.toNat, 0, 0]

def k0_chk228 (i : grid0.Coords) (v4412 : BitVec 32) : Prop :=
  (∀ (k0_h1 : k0_cond1 i = 1#1), ∀ a, (k0_off341 v4412) a + S1x128x128.size a ≤ S1024x128x128.size a) ∧
  (∀ (k0_h1 : k0_cond1 i = 1#1), ∀ (hinb : ∀ a, (k0_off341 v4412) a + S1x128x128.size a ≤ S1024x128x128.size a), (Rect.unit (s := S1024x128x128) (k0_off341 v4412) S1x128x128.size hinb).WholeWords (EltTy.packing .bf16)) ∧
  (∀ (k0_h1 : k0_cond1 i = 1#1), ∀ a, (k0_off342 v4412) a + S1x1x128.size a ≤ S1024x1x128.size a)
theorem k0_off341_inb : ∀ (i : grid0.Coords) (v4412 : BitVec 32) (k0_hw228 : k0_chk228 i v4412), ∀ (k0_h1 : k0_cond1 i = 1#1), ∀ a, (k0_off341 v4412) a + S1x128x128.size a ≤ S1024x128x128.size a := fun i v4412 k0_hw228 k0_h1 => k0_hw228.1 k0_h1
theorem k0_off341_wordsbf16 : ∀ (i : grid0.Coords) (v4412 : BitVec 32) (k0_hw228 : k0_chk228 i v4412), ∀ (k0_h1 : k0_cond1 i = 1#1), (Rect.unit (s := S1024x128x128) (k0_off341 v4412) S1x128x128.size (k0_off341_inb i v4412 k0_hw228 k0_h1)).WholeWords (EltTy.packing .bf16) := fun i v4412 k0_hw228 k0_h1 => k0_hw228.2.1 k0_h1 (k0_off341_inb i v4412 k0_hw228 k0_h1)
theorem k0_off342_inb : ∀ (i : grid0.Coords) (v4412 : BitVec 32) (k0_hw228 : k0_chk228 i v4412), ∀ (k0_h1 : k0_cond1 i = 1#1), ∀ a, (k0_off342 v4412) a + S1x1x128.size a ≤ S1024x1x128.size a := fun i v4412 k0_hw228 k0_h1 => k0_hw228.2.2 k0_h1

def k0_off343 (v4431 : BitVec 32) : Fin 3 → Nat :=
  let c0_i32_3633 : BitVec 32 := 0#32
  let c0_i32_3634 : BitVec 32 := 0#32
  ![v4431.toNat, 0, 0]

def k0_chk229 (i : grid0.Coords) (v4431 : BitVec 32) : Prop :=
  (∀ (k0_h1 : k0_cond1 i = 1#1), ∀ a, (k0_off343 v4431) a + S1x128x64.size a ≤ S4096x128x64.size a)
theorem k0_off343_inb : ∀ (i : grid0.Coords) (v4431 : BitVec 32) (k0_hw229 : k0_chk229 i v4431), ∀ (k0_h1 : k0_cond1 i = 1#1), ∀ a, (k0_off343 v4431) a + S1x128x64.size a ≤ S4096x128x64.size a := fun i v4431 k0_hw229 k0_h1 => k0_hw229 k0_h1

def k0_off344 (v4432 : BitVec 32) : Fin 3 → Nat :=
  let c0_i32_3640 : BitVec 32 := 0#32
  let c0_i32_3641 : BitVec 32 := 0#32
  ![v4432.toNat, 0, 0]

def k0_off345 (v4432 : BitVec 32) : Fin 3 → Nat :=
  let c0_i32_3647 : BitVec 32 := 0#32
  let c0_i32_3648 : BitVec 32 := 0#32
  ![v4432.toNat, 0, 0]

def k0_chk230 (i : grid0.Coords) (v4432 : BitVec 32) : Prop :=
  (∀ (k0_h1 : k0_cond1 i = 1#1), ∀ a, (k0_off344 v4432) a + S1x128x128.size a ≤ S1024x128x128.size a) ∧
  (∀ (k0_h1 : k0_cond1 i = 1#1), ∀ (hinb : ∀ a, (k0_off344 v4432) a + S1x128x128.size a ≤ S1024x128x128.size a), (Rect.unit (s := S1024x128x128) (k0_off344 v4432) S1x128x128.size hinb).WholeWords (EltTy.packing .bf16)) ∧
  (∀ (k0_h1 : k0_cond1 i = 1#1), ∀ a, (k0_off345 v4432) a + S1x1x128.size a ≤ S1024x1x128.size a)
theorem k0_off344_inb : ∀ (i : grid0.Coords) (v4432 : BitVec 32) (k0_hw230 : k0_chk230 i v4432), ∀ (k0_h1 : k0_cond1 i = 1#1), ∀ a, (k0_off344 v4432) a + S1x128x128.size a ≤ S1024x128x128.size a := fun i v4432 k0_hw230 k0_h1 => k0_hw230.1 k0_h1
theorem k0_off344_wordsbf16 : ∀ (i : grid0.Coords) (v4432 : BitVec 32) (k0_hw230 : k0_chk230 i v4432), ∀ (k0_h1 : k0_cond1 i = 1#1), (Rect.unit (s := S1024x128x128) (k0_off344 v4432) S1x128x128.size (k0_off344_inb i v4432 k0_hw230 k0_h1)).WholeWords (EltTy.packing .bf16) := fun i v4432 k0_hw230 k0_h1 => k0_hw230.2.1 k0_h1 (k0_off344_inb i v4432 k0_hw230 k0_h1)
theorem k0_off345_inb : ∀ (i : grid0.Coords) (v4432 : BitVec 32) (k0_hw230 : k0_chk230 i v4432), ∀ (k0_h1 : k0_cond1 i = 1#1), ∀ a, (k0_off345 v4432) a + S1x1x128.size a ≤ S1024x1x128.size a := fun i v4432 k0_hw230 k0_h1 => k0_hw230.2.2 k0_h1

def k0_off346 (v4451 : BitVec 32) : Fin 3 → Nat :=
  let c0_i32_3655 : BitVec 32 := 0#32
  let c0_i32_3656 : BitVec 32 := 0#32
  ![v4451.toNat, 0, 0]

def k0_chk231 (i : grid0.Coords) (v4451 : BitVec 32) : Prop :=
  (∀ (k0_h1 : k0_cond1 i = 1#1), ∀ a, (k0_off346 v4451) a + S1x128x64.size a ≤ S4096x128x64.size a)
theorem k0_off346_inb : ∀ (i : grid0.Coords) (v4451 : BitVec 32) (k0_hw231 : k0_chk231 i v4451), ∀ (k0_h1 : k0_cond1 i = 1#1), ∀ a, (k0_off346 v4451) a + S1x128x64.size a ≤ S4096x128x64.size a := fun i v4451 k0_hw231 k0_h1 => k0_hw231 k0_h1

def k0_off347 (v4452 : BitVec 32) : Fin 3 → Nat :=
  let c0_i32_3662 : BitVec 32 := 0#32
  let c0_i32_3663 : BitVec 32 := 0#32
  ![v4452.toNat, 0, 0]

def k0_off348 (v4452 : BitVec 32) : Fin 3 → Nat :=
  let c0_i32_3669 : BitVec 32 := 0#32
  let c0_i32_3670 : BitVec 32 := 0#32
  ![v4452.toNat, 0, 0]

def k0_chk232 (i : grid0.Coords) (v4452 : BitVec 32) : Prop :=
  (∀ (k0_h1 : k0_cond1 i = 1#1), ∀ a, (k0_off347 v4452) a + S1x128x128.size a ≤ S1024x128x128.size a) ∧
  (∀ (k0_h1 : k0_cond1 i = 1#1), ∀ (hinb : ∀ a, (k0_off347 v4452) a + S1x128x128.size a ≤ S1024x128x128.size a), (Rect.unit (s := S1024x128x128) (k0_off347 v4452) S1x128x128.size hinb).WholeWords (EltTy.packing .bf16)) ∧
  (∀ (k0_h1 : k0_cond1 i = 1#1), ∀ a, (k0_off348 v4452) a + S1x1x128.size a ≤ S1024x1x128.size a)
theorem k0_off347_inb : ∀ (i : grid0.Coords) (v4452 : BitVec 32) (k0_hw232 : k0_chk232 i v4452), ∀ (k0_h1 : k0_cond1 i = 1#1), ∀ a, (k0_off347 v4452) a + S1x128x128.size a ≤ S1024x128x128.size a := fun i v4452 k0_hw232 k0_h1 => k0_hw232.1 k0_h1
theorem k0_off347_wordsbf16 : ∀ (i : grid0.Coords) (v4452 : BitVec 32) (k0_hw232 : k0_chk232 i v4452), ∀ (k0_h1 : k0_cond1 i = 1#1), (Rect.unit (s := S1024x128x128) (k0_off347 v4452) S1x128x128.size (k0_off347_inb i v4452 k0_hw232 k0_h1)).WholeWords (EltTy.packing .bf16) := fun i v4452 k0_hw232 k0_h1 => k0_hw232.2.1 k0_h1 (k0_off347_inb i v4452 k0_hw232 k0_h1)
theorem k0_off348_inb : ∀ (i : grid0.Coords) (v4452 : BitVec 32) (k0_hw232 : k0_chk232 i v4452), ∀ (k0_h1 : k0_cond1 i = 1#1), ∀ a, (k0_off348 v4452) a + S1x1x128.size a ≤ S1024x1x128.size a := fun i v4452 k0_hw232 k0_h1 => k0_hw232.2.2 k0_h1

def k0_off349 (v4471 : BitVec 32) : Fin 3 → Nat :=
  let c0_i32_3677 : BitVec 32 := 0#32
  let c0_i32_3678 : BitVec 32 := 0#32
  ![v4471.toNat, 0, 0]

def k0_chk233 (i : grid0.Coords) (v4471 : BitVec 32) : Prop :=
  (∀ (k0_h1 : k0_cond1 i = 1#1), ∀ a, (k0_off349 v4471) a + S1x128x64.size a ≤ S4096x128x64.size a)
theorem k0_off349_inb : ∀ (i : grid0.Coords) (v4471 : BitVec 32) (k0_hw233 : k0_chk233 i v4471), ∀ (k0_h1 : k0_cond1 i = 1#1), ∀ a, (k0_off349 v4471) a + S1x128x64.size a ≤ S4096x128x64.size a := fun i v4471 k0_hw233 k0_h1 => k0_hw233 k0_h1

def k0_off350 (v4472 : BitVec 32) : Fin 3 → Nat :=
  let c0_i32_3684 : BitVec 32 := 0#32
  let c0_i32_3685 : BitVec 32 := 0#32
  ![v4472.toNat, 0, 0]

def k0_off351 (v4472 : BitVec 32) : Fin 3 → Nat :=
  let c0_i32_3691 : BitVec 32 := 0#32
  let c0_i32_3692 : BitVec 32 := 0#32
  ![v4472.toNat, 0, 0]

def k0_chk234 (i : grid0.Coords) (v4472 : BitVec 32) : Prop :=
  (∀ (k0_h1 : k0_cond1 i = 1#1), ∀ a, (k0_off350 v4472) a + S1x128x128.size a ≤ S1024x128x128.size a) ∧
  (∀ (k0_h1 : k0_cond1 i = 1#1), ∀ (hinb : ∀ a, (k0_off350 v4472) a + S1x128x128.size a ≤ S1024x128x128.size a), (Rect.unit (s := S1024x128x128) (k0_off350 v4472) S1x128x128.size hinb).WholeWords (EltTy.packing .bf16)) ∧
  (∀ (k0_h1 : k0_cond1 i = 1#1), ∀ a, (k0_off351 v4472) a + S1x1x128.size a ≤ S1024x1x128.size a)
theorem k0_off350_inb : ∀ (i : grid0.Coords) (v4472 : BitVec 32) (k0_hw234 : k0_chk234 i v4472), ∀ (k0_h1 : k0_cond1 i = 1#1), ∀ a, (k0_off350 v4472) a + S1x128x128.size a ≤ S1024x128x128.size a := fun i v4472 k0_hw234 k0_h1 => k0_hw234.1 k0_h1
theorem k0_off350_wordsbf16 : ∀ (i : grid0.Coords) (v4472 : BitVec 32) (k0_hw234 : k0_chk234 i v4472), ∀ (k0_h1 : k0_cond1 i = 1#1), (Rect.unit (s := S1024x128x128) (k0_off350 v4472) S1x128x128.size (k0_off350_inb i v4472 k0_hw234 k0_h1)).WholeWords (EltTy.packing .bf16) := fun i v4472 k0_hw234 k0_h1 => k0_hw234.2.1 k0_h1 (k0_off350_inb i v4472 k0_hw234 k0_h1)
theorem k0_off351_inb : ∀ (i : grid0.Coords) (v4472 : BitVec 32) (k0_hw234 : k0_chk234 i v4472), ∀ (k0_h1 : k0_cond1 i = 1#1), ∀ a, (k0_off351 v4472) a + S1x1x128.size a ≤ S1024x1x128.size a := fun i v4472 k0_hw234 k0_h1 => k0_hw234.2.2 k0_h1

def k0_off352 (v4491 : BitVec 32) : Fin 3 → Nat :=
  let c0_i32_3699 : BitVec 32 := 0#32
  let c0_i32_3700 : BitVec 32 := 0#32
  ![v4491.toNat, 0, 0]

def k0_chk235 (i : grid0.Coords) (v4491 : BitVec 32) : Prop :=
  (∀ (k0_h1 : k0_cond1 i = 1#1), ∀ a, (k0_off352 v4491) a + S1x128x64.size a ≤ S4096x128x64.size a)
theorem k0_off352_inb : ∀ (i : grid0.Coords) (v4491 : BitVec 32) (k0_hw235 : k0_chk235 i v4491), ∀ (k0_h1 : k0_cond1 i = 1#1), ∀ a, (k0_off352 v4491) a + S1x128x64.size a ≤ S4096x128x64.size a := fun i v4491 k0_hw235 k0_h1 => k0_hw235 k0_h1

def k0_off353 (v4492 : BitVec 32) : Fin 3 → Nat :=
  let c0_i32_3706 : BitVec 32 := 0#32
  let c0_i32_3707 : BitVec 32 := 0#32
  ![v4492.toNat, 0, 0]

def k0_off354 (v4492 : BitVec 32) : Fin 3 → Nat :=
  let c0_i32_3713 : BitVec 32 := 0#32
  let c0_i32_3714 : BitVec 32 := 0#32
  ![v4492.toNat, 0, 0]

def k0_chk236 (i : grid0.Coords) (v4492 : BitVec 32) : Prop :=
  (∀ (k0_h1 : k0_cond1 i = 1#1), ∀ a, (k0_off353 v4492) a + S1x128x128.size a ≤ S1024x128x128.size a) ∧
  (∀ (k0_h1 : k0_cond1 i = 1#1), ∀ (hinb : ∀ a, (k0_off353 v4492) a + S1x128x128.size a ≤ S1024x128x128.size a), (Rect.unit (s := S1024x128x128) (k0_off353 v4492) S1x128x128.size hinb).WholeWords (EltTy.packing .bf16)) ∧
  (∀ (k0_h1 : k0_cond1 i = 1#1), ∀ a, (k0_off354 v4492) a + S1x1x128.size a ≤ S1024x1x128.size a)
theorem k0_off353_inb : ∀ (i : grid0.Coords) (v4492 : BitVec 32) (k0_hw236 : k0_chk236 i v4492), ∀ (k0_h1 : k0_cond1 i = 1#1), ∀ a, (k0_off353 v4492) a + S1x128x128.size a ≤ S1024x128x128.size a := fun i v4492 k0_hw236 k0_h1 => k0_hw236.1 k0_h1
theorem k0_off353_wordsbf16 : ∀ (i : grid0.Coords) (v4492 : BitVec 32) (k0_hw236 : k0_chk236 i v4492), ∀ (k0_h1 : k0_cond1 i = 1#1), (Rect.unit (s := S1024x128x128) (k0_off353 v4492) S1x128x128.size (k0_off353_inb i v4492 k0_hw236 k0_h1)).WholeWords (EltTy.packing .bf16) := fun i v4492 k0_hw236 k0_h1 => k0_hw236.2.1 k0_h1 (k0_off353_inb i v4492 k0_hw236 k0_h1)
theorem k0_off354_inb : ∀ (i : grid0.Coords) (v4492 : BitVec 32) (k0_hw236 : k0_chk236 i v4492), ∀ (k0_h1 : k0_cond1 i = 1#1), ∀ a, (k0_off354 v4492) a + S1x1x128.size a ≤ S1024x1x128.size a := fun i v4492 k0_hw236 k0_h1 => k0_hw236.2.2 k0_h1

def k0_off355 (v4511 : BitVec 32) : Fin 3 → Nat :=
  let c0_i32_3721 : BitVec 32 := 0#32
  let c0_i32_3722 : BitVec 32 := 0#32
  ![v4511.toNat, 0, 0]

def k0_chk237 (i : grid0.Coords) (v4511 : BitVec 32) : Prop :=
  (∀ (k0_h1 : k0_cond1 i = 1#1), ∀ a, (k0_off355 v4511) a + S1x128x64.size a ≤ S4096x128x64.size a)
theorem k0_off355_inb : ∀ (i : grid0.Coords) (v4511 : BitVec 32) (k0_hw237 : k0_chk237 i v4511), ∀ (k0_h1 : k0_cond1 i = 1#1), ∀ a, (k0_off355 v4511) a + S1x128x64.size a ≤ S4096x128x64.size a := fun i v4511 k0_hw237 k0_h1 => k0_hw237 k0_h1

def k0_off356 (v4512 : BitVec 32) : Fin 3 → Nat :=
  let c0_i32_3728 : BitVec 32 := 0#32
  let c0_i32_3729 : BitVec 32 := 0#32
  ![v4512.toNat, 0, 0]

def k0_off357 (v4512 : BitVec 32) : Fin 3 → Nat :=
  let c0_i32_3735 : BitVec 32 := 0#32
  let c0_i32_3736 : BitVec 32 := 0#32
  ![v4512.toNat, 0, 0]

def k0_chk238 (i : grid0.Coords) (v4512 : BitVec 32) : Prop :=
  (∀ (k0_h1 : k0_cond1 i = 1#1), ∀ a, (k0_off356 v4512) a + S1x128x128.size a ≤ S1024x128x128.size a) ∧
  (∀ (k0_h1 : k0_cond1 i = 1#1), ∀ (hinb : ∀ a, (k0_off356 v4512) a + S1x128x128.size a ≤ S1024x128x128.size a), (Rect.unit (s := S1024x128x128) (k0_off356 v4512) S1x128x128.size hinb).WholeWords (EltTy.packing .bf16)) ∧
  (∀ (k0_h1 : k0_cond1 i = 1#1), ∀ a, (k0_off357 v4512) a + S1x1x128.size a ≤ S1024x1x128.size a)
theorem k0_off356_inb : ∀ (i : grid0.Coords) (v4512 : BitVec 32) (k0_hw238 : k0_chk238 i v4512), ∀ (k0_h1 : k0_cond1 i = 1#1), ∀ a, (k0_off356 v4512) a + S1x128x128.size a ≤ S1024x128x128.size a := fun i v4512 k0_hw238 k0_h1 => k0_hw238.1 k0_h1
theorem k0_off356_wordsbf16 : ∀ (i : grid0.Coords) (v4512 : BitVec 32) (k0_hw238 : k0_chk238 i v4512), ∀ (k0_h1 : k0_cond1 i = 1#1), (Rect.unit (s := S1024x128x128) (k0_off356 v4512) S1x128x128.size (k0_off356_inb i v4512 k0_hw238 k0_h1)).WholeWords (EltTy.packing .bf16) := fun i v4512 k0_hw238 k0_h1 => k0_hw238.2.1 k0_h1 (k0_off356_inb i v4512 k0_hw238 k0_h1)
theorem k0_off357_inb : ∀ (i : grid0.Coords) (v4512 : BitVec 32) (k0_hw238 : k0_chk238 i v4512), ∀ (k0_h1 : k0_cond1 i = 1#1), ∀ a, (k0_off357 v4512) a + S1x1x128.size a ≤ S1024x1x128.size a := fun i v4512 k0_hw238 k0_h1 => k0_hw238.2.2 k0_h1

def k0_off358 (v4531 : BitVec 32) : Fin 3 → Nat :=
  let c0_i32_3743 : BitVec 32 := 0#32
  let c0_i32_3744 : BitVec 32 := 0#32
  ![v4531.toNat, 0, 0]

def k0_chk239 (i : grid0.Coords) (v4531 : BitVec 32) : Prop :=
  (∀ (k0_h1 : k0_cond1 i = 1#1), ∀ a, (k0_off358 v4531) a + S1x128x64.size a ≤ S4096x128x64.size a)
theorem k0_off358_inb : ∀ (i : grid0.Coords) (v4531 : BitVec 32) (k0_hw239 : k0_chk239 i v4531), ∀ (k0_h1 : k0_cond1 i = 1#1), ∀ a, (k0_off358 v4531) a + S1x128x64.size a ≤ S4096x128x64.size a := fun i v4531 k0_hw239 k0_h1 => k0_hw239 k0_h1

def k0_off359 (v4532 : BitVec 32) : Fin 3 → Nat :=
  let c0_i32_3750 : BitVec 32 := 0#32
  let c0_i32_3751 : BitVec 32 := 0#32
  ![v4532.toNat, 0, 0]

def k0_off360 (v4532 : BitVec 32) : Fin 3 → Nat :=
  let c0_i32_3757 : BitVec 32 := 0#32
  let c0_i32_3758 : BitVec 32 := 0#32
  ![v4532.toNat, 0, 0]

def k0_chk240 (i : grid0.Coords) (v4532 : BitVec 32) : Prop :=
  (∀ (k0_h1 : k0_cond1 i = 1#1), ∀ a, (k0_off359 v4532) a + S1x128x128.size a ≤ S1024x128x128.size a) ∧
  (∀ (k0_h1 : k0_cond1 i = 1#1), ∀ (hinb : ∀ a, (k0_off359 v4532) a + S1x128x128.size a ≤ S1024x128x128.size a), (Rect.unit (s := S1024x128x128) (k0_off359 v4532) S1x128x128.size hinb).WholeWords (EltTy.packing .bf16)) ∧
  (∀ (k0_h1 : k0_cond1 i = 1#1), ∀ a, (k0_off360 v4532) a + S1x1x128.size a ≤ S1024x1x128.size a)
theorem k0_off359_inb : ∀ (i : grid0.Coords) (v4532 : BitVec 32) (k0_hw240 : k0_chk240 i v4532), ∀ (k0_h1 : k0_cond1 i = 1#1), ∀ a, (k0_off359 v4532) a + S1x128x128.size a ≤ S1024x128x128.size a := fun i v4532 k0_hw240 k0_h1 => k0_hw240.1 k0_h1
theorem k0_off359_wordsbf16 : ∀ (i : grid0.Coords) (v4532 : BitVec 32) (k0_hw240 : k0_chk240 i v4532), ∀ (k0_h1 : k0_cond1 i = 1#1), (Rect.unit (s := S1024x128x128) (k0_off359 v4532) S1x128x128.size (k0_off359_inb i v4532 k0_hw240 k0_h1)).WholeWords (EltTy.packing .bf16) := fun i v4532 k0_hw240 k0_h1 => k0_hw240.2.1 k0_h1 (k0_off359_inb i v4532 k0_hw240 k0_h1)
theorem k0_off360_inb : ∀ (i : grid0.Coords) (v4532 : BitVec 32) (k0_hw240 : k0_chk240 i v4532), ∀ (k0_h1 : k0_cond1 i = 1#1), ∀ a, (k0_off360 v4532) a + S1x1x128.size a ≤ S1024x1x128.size a := fun i v4532 k0_hw240 k0_h1 => k0_hw240.2.2 k0_h1

def k0_off361 (v4551 : BitVec 32) : Fin 3 → Nat :=
  let c0_i32_3765 : BitVec 32 := 0#32
  let c0_i32_3766 : BitVec 32 := 0#32
  ![v4551.toNat, 0, 0]

def k0_chk241 (i : grid0.Coords) (v4551 : BitVec 32) : Prop :=
  (∀ (k0_h1 : k0_cond1 i = 1#1), ∀ a, (k0_off361 v4551) a + S1x128x64.size a ≤ S4096x128x64.size a)
theorem k0_off361_inb : ∀ (i : grid0.Coords) (v4551 : BitVec 32) (k0_hw241 : k0_chk241 i v4551), ∀ (k0_h1 : k0_cond1 i = 1#1), ∀ a, (k0_off361 v4551) a + S1x128x64.size a ≤ S4096x128x64.size a := fun i v4551 k0_hw241 k0_h1 => k0_hw241 k0_h1

def k0_off362 (v4552 : BitVec 32) : Fin 3 → Nat :=
  let c0_i32_3772 : BitVec 32 := 0#32
  let c0_i32_3773 : BitVec 32 := 0#32
  ![v4552.toNat, 0, 0]

def k0_off363 (v4552 : BitVec 32) : Fin 3 → Nat :=
  let c0_i32_3779 : BitVec 32 := 0#32
  let c0_i32_3780 : BitVec 32 := 0#32
  ![v4552.toNat, 0, 0]

def k0_chk242 (i : grid0.Coords) (v4552 : BitVec 32) : Prop :=
  (∀ (k0_h1 : k0_cond1 i = 1#1), ∀ a, (k0_off362 v4552) a + S1x128x128.size a ≤ S1024x128x128.size a) ∧
  (∀ (k0_h1 : k0_cond1 i = 1#1), ∀ (hinb : ∀ a, (k0_off362 v4552) a + S1x128x128.size a ≤ S1024x128x128.size a), (Rect.unit (s := S1024x128x128) (k0_off362 v4552) S1x128x128.size hinb).WholeWords (EltTy.packing .bf16)) ∧
  (∀ (k0_h1 : k0_cond1 i = 1#1), ∀ a, (k0_off363 v4552) a + S1x1x128.size a ≤ S1024x1x128.size a)
theorem k0_off362_inb : ∀ (i : grid0.Coords) (v4552 : BitVec 32) (k0_hw242 : k0_chk242 i v4552), ∀ (k0_h1 : k0_cond1 i = 1#1), ∀ a, (k0_off362 v4552) a + S1x128x128.size a ≤ S1024x128x128.size a := fun i v4552 k0_hw242 k0_h1 => k0_hw242.1 k0_h1
theorem k0_off362_wordsbf16 : ∀ (i : grid0.Coords) (v4552 : BitVec 32) (k0_hw242 : k0_chk242 i v4552), ∀ (k0_h1 : k0_cond1 i = 1#1), (Rect.unit (s := S1024x128x128) (k0_off362 v4552) S1x128x128.size (k0_off362_inb i v4552 k0_hw242 k0_h1)).WholeWords (EltTy.packing .bf16) := fun i v4552 k0_hw242 k0_h1 => k0_hw242.2.1 k0_h1 (k0_off362_inb i v4552 k0_hw242 k0_h1)
theorem k0_off363_inb : ∀ (i : grid0.Coords) (v4552 : BitVec 32) (k0_hw242 : k0_chk242 i v4552), ∀ (k0_h1 : k0_cond1 i = 1#1), ∀ a, (k0_off363 v4552) a + S1x1x128.size a ≤ S1024x1x128.size a := fun i v4552 k0_hw242 k0_h1 => k0_hw242.2.2 k0_h1

def k0_off364 (v4571 : BitVec 32) : Fin 3 → Nat :=
  let c0_i32_3787 : BitVec 32 := 0#32
  let c0_i32_3788 : BitVec 32 := 0#32
  ![v4571.toNat, 0, 0]

def k0_chk243 (i : grid0.Coords) (v4571 : BitVec 32) : Prop :=
  (∀ (k0_h1 : k0_cond1 i = 1#1), ∀ a, (k0_off364 v4571) a + S1x128x64.size a ≤ S4096x128x64.size a)
theorem k0_off364_inb : ∀ (i : grid0.Coords) (v4571 : BitVec 32) (k0_hw243 : k0_chk243 i v4571), ∀ (k0_h1 : k0_cond1 i = 1#1), ∀ a, (k0_off364 v4571) a + S1x128x64.size a ≤ S4096x128x64.size a := fun i v4571 k0_hw243 k0_h1 => k0_hw243 k0_h1

def k0_off365 (v4572 : BitVec 32) : Fin 3 → Nat :=
  let c0_i32_3794 : BitVec 32 := 0#32
  let c0_i32_3795 : BitVec 32 := 0#32
  ![v4572.toNat, 0, 0]

def k0_off366 (v4572 : BitVec 32) : Fin 3 → Nat :=
  let c0_i32_3801 : BitVec 32 := 0#32
  let c0_i32_3802 : BitVec 32 := 0#32
  ![v4572.toNat, 0, 0]

def k0_chk244 (i : grid0.Coords) (v4572 : BitVec 32) : Prop :=
  (∀ (k0_h1 : k0_cond1 i = 1#1), ∀ a, (k0_off365 v4572) a + S1x128x128.size a ≤ S1024x128x128.size a) ∧
  (∀ (k0_h1 : k0_cond1 i = 1#1), ∀ (hinb : ∀ a, (k0_off365 v4572) a + S1x128x128.size a ≤ S1024x128x128.size a), (Rect.unit (s := S1024x128x128) (k0_off365 v4572) S1x128x128.size hinb).WholeWords (EltTy.packing .bf16)) ∧
  (∀ (k0_h1 : k0_cond1 i = 1#1), ∀ a, (k0_off366 v4572) a + S1x1x128.size a ≤ S1024x1x128.size a)
theorem k0_off365_inb : ∀ (i : grid0.Coords) (v4572 : BitVec 32) (k0_hw244 : k0_chk244 i v4572), ∀ (k0_h1 : k0_cond1 i = 1#1), ∀ a, (k0_off365 v4572) a + S1x128x128.size a ≤ S1024x128x128.size a := fun i v4572 k0_hw244 k0_h1 => k0_hw244.1 k0_h1
theorem k0_off365_wordsbf16 : ∀ (i : grid0.Coords) (v4572 : BitVec 32) (k0_hw244 : k0_chk244 i v4572), ∀ (k0_h1 : k0_cond1 i = 1#1), (Rect.unit (s := S1024x128x128) (k0_off365 v4572) S1x128x128.size (k0_off365_inb i v4572 k0_hw244 k0_h1)).WholeWords (EltTy.packing .bf16) := fun i v4572 k0_hw244 k0_h1 => k0_hw244.2.1 k0_h1 (k0_off365_inb i v4572 k0_hw244 k0_h1)
theorem k0_off366_inb : ∀ (i : grid0.Coords) (v4572 : BitVec 32) (k0_hw244 : k0_chk244 i v4572), ∀ (k0_h1 : k0_cond1 i = 1#1), ∀ a, (k0_off366 v4572) a + S1x1x128.size a ≤ S1024x1x128.size a := fun i v4572 k0_hw244 k0_h1 => k0_hw244.2.2 k0_h1

def k0_off367 (v4591 : BitVec 32) : Fin 3 → Nat :=
  let c0_i32_3809 : BitVec 32 := 0#32
  let c0_i32_3810 : BitVec 32 := 0#32
  ![v4591.toNat, 0, 0]

def k0_chk245 (i : grid0.Coords) (v4591 : BitVec 32) : Prop :=
  (∀ (k0_h1 : k0_cond1 i = 1#1), ∀ a, (k0_off367 v4591) a + S1x128x64.size a ≤ S4096x128x64.size a)
theorem k0_off367_inb : ∀ (i : grid0.Coords) (v4591 : BitVec 32) (k0_hw245 : k0_chk245 i v4591), ∀ (k0_h1 : k0_cond1 i = 1#1), ∀ a, (k0_off367 v4591) a + S1x128x64.size a ≤ S4096x128x64.size a := fun i v4591 k0_hw245 k0_h1 => k0_hw245 k0_h1

def k0_off368 (v4592 : BitVec 32) : Fin 3 → Nat :=
  let c0_i32_3816 : BitVec 32 := 0#32
  let c0_i32_3817 : BitVec 32 := 0#32
  ![v4592.toNat, 0, 0]

def k0_off369 (v4592 : BitVec 32) : Fin 3 → Nat :=
  let c0_i32_3823 : BitVec 32 := 0#32
  let c0_i32_3824 : BitVec 32 := 0#32
  ![v4592.toNat, 0, 0]

def k0_chk246 (i : grid0.Coords) (v4592 : BitVec 32) : Prop :=
  (∀ (k0_h1 : k0_cond1 i = 1#1), ∀ a, (k0_off368 v4592) a + S1x128x128.size a ≤ S1024x128x128.size a) ∧
  (∀ (k0_h1 : k0_cond1 i = 1#1), ∀ (hinb : ∀ a, (k0_off368 v4592) a + S1x128x128.size a ≤ S1024x128x128.size a), (Rect.unit (s := S1024x128x128) (k0_off368 v4592) S1x128x128.size hinb).WholeWords (EltTy.packing .bf16)) ∧
  (∀ (k0_h1 : k0_cond1 i = 1#1), ∀ a, (k0_off369 v4592) a + S1x1x128.size a ≤ S1024x1x128.size a)
theorem k0_off368_inb : ∀ (i : grid0.Coords) (v4592 : BitVec 32) (k0_hw246 : k0_chk246 i v4592), ∀ (k0_h1 : k0_cond1 i = 1#1), ∀ a, (k0_off368 v4592) a + S1x128x128.size a ≤ S1024x128x128.size a := fun i v4592 k0_hw246 k0_h1 => k0_hw246.1 k0_h1
theorem k0_off368_wordsbf16 : ∀ (i : grid0.Coords) (v4592 : BitVec 32) (k0_hw246 : k0_chk246 i v4592), ∀ (k0_h1 : k0_cond1 i = 1#1), (Rect.unit (s := S1024x128x128) (k0_off368 v4592) S1x128x128.size (k0_off368_inb i v4592 k0_hw246 k0_h1)).WholeWords (EltTy.packing .bf16) := fun i v4592 k0_hw246 k0_h1 => k0_hw246.2.1 k0_h1 (k0_off368_inb i v4592 k0_hw246 k0_h1)
theorem k0_off369_inb : ∀ (i : grid0.Coords) (v4592 : BitVec 32) (k0_hw246 : k0_chk246 i v4592), ∀ (k0_h1 : k0_cond1 i = 1#1), ∀ a, (k0_off369 v4592) a + S1x1x128.size a ≤ S1024x1x128.size a := fun i v4592 k0_hw246 k0_h1 => k0_hw246.2.2 k0_h1

def k0_off370 (v4611 : BitVec 32) : Fin 3 → Nat :=
  let c0_i32_3831 : BitVec 32 := 0#32
  let c0_i32_3832 : BitVec 32 := 0#32
  ![v4611.toNat, 0, 0]

def k0_chk247 (i : grid0.Coords) (v4611 : BitVec 32) : Prop :=
  (∀ (k0_h1 : k0_cond1 i = 1#1), ∀ a, (k0_off370 v4611) a + S1x128x64.size a ≤ S4096x128x64.size a)
theorem k0_off370_inb : ∀ (i : grid0.Coords) (v4611 : BitVec 32) (k0_hw247 : k0_chk247 i v4611), ∀ (k0_h1 : k0_cond1 i = 1#1), ∀ a, (k0_off370 v4611) a + S1x128x64.size a ≤ S4096x128x64.size a := fun i v4611 k0_hw247 k0_h1 => k0_hw247 k0_h1

def k0_off371 (v4612 : BitVec 32) : Fin 3 → Nat :=
  let c0_i32_3838 : BitVec 32 := 0#32
  let c0_i32_3839 : BitVec 32 := 0#32
  ![v4612.toNat, 0, 0]

def k0_off372 (v4612 : BitVec 32) : Fin 3 → Nat :=
  let c0_i32_3845 : BitVec 32 := 0#32
  let c0_i32_3846 : BitVec 32 := 0#32
  ![v4612.toNat, 0, 0]

def k0_chk248 (i : grid0.Coords) (v4612 : BitVec 32) : Prop :=
  (∀ (k0_h1 : k0_cond1 i = 1#1), ∀ a, (k0_off371 v4612) a + S1x128x128.size a ≤ S1024x128x128.size a) ∧
  (∀ (k0_h1 : k0_cond1 i = 1#1), ∀ (hinb : ∀ a, (k0_off371 v4612) a + S1x128x128.size a ≤ S1024x128x128.size a), (Rect.unit (s := S1024x128x128) (k0_off371 v4612) S1x128x128.size hinb).WholeWords (EltTy.packing .bf16)) ∧
  (∀ (k0_h1 : k0_cond1 i = 1#1), ∀ a, (k0_off372 v4612) a + S1x1x128.size a ≤ S1024x1x128.size a)
theorem k0_off371_inb : ∀ (i : grid0.Coords) (v4612 : BitVec 32) (k0_hw248 : k0_chk248 i v4612), ∀ (k0_h1 : k0_cond1 i = 1#1), ∀ a, (k0_off371 v4612) a + S1x128x128.size a ≤ S1024x128x128.size a := fun i v4612 k0_hw248 k0_h1 => k0_hw248.1 k0_h1
theorem k0_off371_wordsbf16 : ∀ (i : grid0.Coords) (v4612 : BitVec 32) (k0_hw248 : k0_chk248 i v4612), ∀ (k0_h1 : k0_cond1 i = 1#1), (Rect.unit (s := S1024x128x128) (k0_off371 v4612) S1x128x128.size (k0_off371_inb i v4612 k0_hw248 k0_h1)).WholeWords (EltTy.packing .bf16) := fun i v4612 k0_hw248 k0_h1 => k0_hw248.2.1 k0_h1 (k0_off371_inb i v4612 k0_hw248 k0_h1)
theorem k0_off372_inb : ∀ (i : grid0.Coords) (v4612 : BitVec 32) (k0_hw248 : k0_chk248 i v4612), ∀ (k0_h1 : k0_cond1 i = 1#1), ∀ a, (k0_off372 v4612) a + S1x1x128.size a ≤ S1024x1x128.size a := fun i v4612 k0_hw248 k0_h1 => k0_hw248.2.2 k0_h1

def k0_off373 (v4631 : BitVec 32) : Fin 3 → Nat :=
  let c0_i32_3853 : BitVec 32 := 0#32
  let c0_i32_3854 : BitVec 32 := 0#32
  ![v4631.toNat, 0, 0]

def k0_chk249 (i : grid0.Coords) (v4631 : BitVec 32) : Prop :=
  (∀ (k0_h1 : k0_cond1 i = 1#1), ∀ a, (k0_off373 v4631) a + S1x128x64.size a ≤ S4096x128x64.size a)
theorem k0_off373_inb : ∀ (i : grid0.Coords) (v4631 : BitVec 32) (k0_hw249 : k0_chk249 i v4631), ∀ (k0_h1 : k0_cond1 i = 1#1), ∀ a, (k0_off373 v4631) a + S1x128x64.size a ≤ S4096x128x64.size a := fun i v4631 k0_hw249 k0_h1 => k0_hw249 k0_h1

def k0_off374 (v4632 : BitVec 32) : Fin 3 → Nat :=
  let c0_i32_3860 : BitVec 32 := 0#32
  let c0_i32_3861 : BitVec 32 := 0#32
  ![v4632.toNat, 0, 0]

def k0_off375 (v4632 : BitVec 32) : Fin 3 → Nat :=
  let c0_i32_3867 : BitVec 32 := 0#32
  let c0_i32_3868 : BitVec 32 := 0#32
  ![v4632.toNat, 0, 0]

def k0_chk250 (i : grid0.Coords) (v4632 : BitVec 32) : Prop :=
  (∀ (k0_h1 : k0_cond1 i = 1#1), ∀ a, (k0_off374 v4632) a + S1x128x128.size a ≤ S1024x128x128.size a) ∧
  (∀ (k0_h1 : k0_cond1 i = 1#1), ∀ (hinb : ∀ a, (k0_off374 v4632) a + S1x128x128.size a ≤ S1024x128x128.size a), (Rect.unit (s := S1024x128x128) (k0_off374 v4632) S1x128x128.size hinb).WholeWords (EltTy.packing .bf16)) ∧
  (∀ (k0_h1 : k0_cond1 i = 1#1), ∀ a, (k0_off375 v4632) a + S1x1x128.size a ≤ S1024x1x128.size a)
theorem k0_off374_inb : ∀ (i : grid0.Coords) (v4632 : BitVec 32) (k0_hw250 : k0_chk250 i v4632), ∀ (k0_h1 : k0_cond1 i = 1#1), ∀ a, (k0_off374 v4632) a + S1x128x128.size a ≤ S1024x128x128.size a := fun i v4632 k0_hw250 k0_h1 => k0_hw250.1 k0_h1
theorem k0_off374_wordsbf16 : ∀ (i : grid0.Coords) (v4632 : BitVec 32) (k0_hw250 : k0_chk250 i v4632), ∀ (k0_h1 : k0_cond1 i = 1#1), (Rect.unit (s := S1024x128x128) (k0_off374 v4632) S1x128x128.size (k0_off374_inb i v4632 k0_hw250 k0_h1)).WholeWords (EltTy.packing .bf16) := fun i v4632 k0_hw250 k0_h1 => k0_hw250.2.1 k0_h1 (k0_off374_inb i v4632 k0_hw250 k0_h1)
theorem k0_off375_inb : ∀ (i : grid0.Coords) (v4632 : BitVec 32) (k0_hw250 : k0_chk250 i v4632), ∀ (k0_h1 : k0_cond1 i = 1#1), ∀ a, (k0_off375 v4632) a + S1x1x128.size a ≤ S1024x1x128.size a := fun i v4632 k0_hw250 k0_h1 => k0_hw250.2.2 k0_h1

def k0_off376 (v4651 : BitVec 32) : Fin 3 → Nat :=
  let c0_i32_3875 : BitVec 32 := 0#32
  let c0_i32_3876 : BitVec 32 := 0#32
  ![v4651.toNat, 0, 0]

def k0_chk251 (i : grid0.Coords) (v4651 : BitVec 32) : Prop :=
  (∀ (k0_h1 : k0_cond1 i = 1#1), ∀ a, (k0_off376 v4651) a + S1x128x64.size a ≤ S4096x128x64.size a)
theorem k0_off376_inb : ∀ (i : grid0.Coords) (v4651 : BitVec 32) (k0_hw251 : k0_chk251 i v4651), ∀ (k0_h1 : k0_cond1 i = 1#1), ∀ a, (k0_off376 v4651) a + S1x128x64.size a ≤ S4096x128x64.size a := fun i v4651 k0_hw251 k0_h1 => k0_hw251 k0_h1

def k0_off377 (v4652 : BitVec 32) : Fin 3 → Nat :=
  let c0_i32_3882 : BitVec 32 := 0#32
  let c0_i32_3883 : BitVec 32 := 0#32
  ![v4652.toNat, 0, 0]

def k0_off378 (v4652 : BitVec 32) : Fin 3 → Nat :=
  let c0_i32_3889 : BitVec 32 := 0#32
  let c0_i32_3890 : BitVec 32 := 0#32
  ![v4652.toNat, 0, 0]

def k0_chk252 (i : grid0.Coords) (v4652 : BitVec 32) : Prop :=
  (∀ (k0_h1 : k0_cond1 i = 1#1), ∀ a, (k0_off377 v4652) a + S1x128x128.size a ≤ S1024x128x128.size a) ∧
  (∀ (k0_h1 : k0_cond1 i = 1#1), ∀ (hinb : ∀ a, (k0_off377 v4652) a + S1x128x128.size a ≤ S1024x128x128.size a), (Rect.unit (s := S1024x128x128) (k0_off377 v4652) S1x128x128.size hinb).WholeWords (EltTy.packing .bf16)) ∧
  (∀ (k0_h1 : k0_cond1 i = 1#1), ∀ a, (k0_off378 v4652) a + S1x1x128.size a ≤ S1024x1x128.size a)
theorem k0_off377_inb : ∀ (i : grid0.Coords) (v4652 : BitVec 32) (k0_hw252 : k0_chk252 i v4652), ∀ (k0_h1 : k0_cond1 i = 1#1), ∀ a, (k0_off377 v4652) a + S1x128x128.size a ≤ S1024x128x128.size a := fun i v4652 k0_hw252 k0_h1 => k0_hw252.1 k0_h1
theorem k0_off377_wordsbf16 : ∀ (i : grid0.Coords) (v4652 : BitVec 32) (k0_hw252 : k0_chk252 i v4652), ∀ (k0_h1 : k0_cond1 i = 1#1), (Rect.unit (s := S1024x128x128) (k0_off377 v4652) S1x128x128.size (k0_off377_inb i v4652 k0_hw252 k0_h1)).WholeWords (EltTy.packing .bf16) := fun i v4652 k0_hw252 k0_h1 => k0_hw252.2.1 k0_h1 (k0_off377_inb i v4652 k0_hw252 k0_h1)
theorem k0_off378_inb : ∀ (i : grid0.Coords) (v4652 : BitVec 32) (k0_hw252 : k0_chk252 i v4652), ∀ (k0_h1 : k0_cond1 i = 1#1), ∀ a, (k0_off378 v4652) a + S1x1x128.size a ≤ S1024x1x128.size a := fun i v4652 k0_hw252 k0_h1 => k0_hw252.2.2 k0_h1

def k0_off379 (v4671 : BitVec 32) : Fin 3 → Nat :=
  let c0_i32_3897 : BitVec 32 := 0#32
  let c0_i32_3898 : BitVec 32 := 0#32
  ![v4671.toNat, 0, 0]

def k0_chk253 (i : grid0.Coords) (v4671 : BitVec 32) : Prop :=
  (∀ (k0_h1 : k0_cond1 i = 1#1), ∀ a, (k0_off379 v4671) a + S1x128x64.size a ≤ S4096x128x64.size a)
theorem k0_off379_inb : ∀ (i : grid0.Coords) (v4671 : BitVec 32) (k0_hw253 : k0_chk253 i v4671), ∀ (k0_h1 : k0_cond1 i = 1#1), ∀ a, (k0_off379 v4671) a + S1x128x64.size a ≤ S4096x128x64.size a := fun i v4671 k0_hw253 k0_h1 => k0_hw253 k0_h1

def k0_off380 (v4672 : BitVec 32) : Fin 3 → Nat :=
  let c0_i32_3904 : BitVec 32 := 0#32
  let c0_i32_3905 : BitVec 32 := 0#32
  ![v4672.toNat, 0, 0]

def k0_off381 (v4672 : BitVec 32) : Fin 3 → Nat :=
  let c0_i32_3911 : BitVec 32 := 0#32
  let c0_i32_3912 : BitVec 32 := 0#32
  ![v4672.toNat, 0, 0]

def k0_chk254 (i : grid0.Coords) (v4672 : BitVec 32) : Prop :=
  (∀ (k0_h1 : k0_cond1 i = 1#1), ∀ a, (k0_off380 v4672) a + S1x128x128.size a ≤ S1024x128x128.size a) ∧
  (∀ (k0_h1 : k0_cond1 i = 1#1), ∀ (hinb : ∀ a, (k0_off380 v4672) a + S1x128x128.size a ≤ S1024x128x128.size a), (Rect.unit (s := S1024x128x128) (k0_off380 v4672) S1x128x128.size hinb).WholeWords (EltTy.packing .bf16)) ∧
  (∀ (k0_h1 : k0_cond1 i = 1#1), ∀ a, (k0_off381 v4672) a + S1x1x128.size a ≤ S1024x1x128.size a)
theorem k0_off380_inb : ∀ (i : grid0.Coords) (v4672 : BitVec 32) (k0_hw254 : k0_chk254 i v4672), ∀ (k0_h1 : k0_cond1 i = 1#1), ∀ a, (k0_off380 v4672) a + S1x128x128.size a ≤ S1024x128x128.size a := fun i v4672 k0_hw254 k0_h1 => k0_hw254.1 k0_h1
theorem k0_off380_wordsbf16 : ∀ (i : grid0.Coords) (v4672 : BitVec 32) (k0_hw254 : k0_chk254 i v4672), ∀ (k0_h1 : k0_cond1 i = 1#1), (Rect.unit (s := S1024x128x128) (k0_off380 v4672) S1x128x128.size (k0_off380_inb i v4672 k0_hw254 k0_h1)).WholeWords (EltTy.packing .bf16) := fun i v4672 k0_hw254 k0_h1 => k0_hw254.2.1 k0_h1 (k0_off380_inb i v4672 k0_hw254 k0_h1)
theorem k0_off381_inb : ∀ (i : grid0.Coords) (v4672 : BitVec 32) (k0_hw254 : k0_chk254 i v4672), ∀ (k0_h1 : k0_cond1 i = 1#1), ∀ a, (k0_off381 v4672) a + S1x1x128.size a ≤ S1024x1x128.size a := fun i v4672 k0_hw254 k0_h1 => k0_hw254.2.2 k0_h1

def k0_off382 (v4691 : BitVec 32) : Fin 3 → Nat :=
  let c0_i32_3919 : BitVec 32 := 0#32
  let c0_i32_3920 : BitVec 32 := 0#32
  ![v4691.toNat, 0, 0]

def k0_chk255 (i : grid0.Coords) (v4691 : BitVec 32) : Prop :=
  (∀ (k0_h1 : k0_cond1 i = 1#1), ∀ a, (k0_off382 v4691) a + S1x128x64.size a ≤ S4096x128x64.size a)
theorem k0_off382_inb : ∀ (i : grid0.Coords) (v4691 : BitVec 32) (k0_hw255 : k0_chk255 i v4691), ∀ (k0_h1 : k0_cond1 i = 1#1), ∀ a, (k0_off382 v4691) a + S1x128x64.size a ≤ S4096x128x64.size a := fun i v4691 k0_hw255 k0_h1 => k0_hw255 k0_h1

def k0_off383 (v4692 : BitVec 32) : Fin 3 → Nat :=
  let c0_i32_3926 : BitVec 32 := 0#32
  let c0_i32_3927 : BitVec 32 := 0#32
  ![v4692.toNat, 0, 0]

def k0_off384 (v4692 : BitVec 32) : Fin 3 → Nat :=
  let c0_i32_3933 : BitVec 32 := 0#32
  let c0_i32_3934 : BitVec 32 := 0#32
  ![v4692.toNat, 0, 0]

def k0_chk256 (i : grid0.Coords) (v4692 : BitVec 32) : Prop :=
  (∀ (k0_h1 : k0_cond1 i = 1#1), ∀ a, (k0_off383 v4692) a + S1x128x128.size a ≤ S1024x128x128.size a) ∧
  (∀ (k0_h1 : k0_cond1 i = 1#1), ∀ (hinb : ∀ a, (k0_off383 v4692) a + S1x128x128.size a ≤ S1024x128x128.size a), (Rect.unit (s := S1024x128x128) (k0_off383 v4692) S1x128x128.size hinb).WholeWords (EltTy.packing .bf16)) ∧
  (∀ (k0_h1 : k0_cond1 i = 1#1), ∀ a, (k0_off384 v4692) a + S1x1x128.size a ≤ S1024x1x128.size a)
theorem k0_off383_inb : ∀ (i : grid0.Coords) (v4692 : BitVec 32) (k0_hw256 : k0_chk256 i v4692), ∀ (k0_h1 : k0_cond1 i = 1#1), ∀ a, (k0_off383 v4692) a + S1x128x128.size a ≤ S1024x128x128.size a := fun i v4692 k0_hw256 k0_h1 => k0_hw256.1 k0_h1
theorem k0_off383_wordsbf16 : ∀ (i : grid0.Coords) (v4692 : BitVec 32) (k0_hw256 : k0_chk256 i v4692), ∀ (k0_h1 : k0_cond1 i = 1#1), (Rect.unit (s := S1024x128x128) (k0_off383 v4692) S1x128x128.size (k0_off383_inb i v4692 k0_hw256 k0_h1)).WholeWords (EltTy.packing .bf16) := fun i v4692 k0_hw256 k0_h1 => k0_hw256.2.1 k0_h1 (k0_off383_inb i v4692 k0_hw256 k0_h1)
theorem k0_off384_inb : ∀ (i : grid0.Coords) (v4692 : BitVec 32) (k0_hw256 : k0_chk256 i v4692), ∀ (k0_h1 : k0_cond1 i = 1#1), ∀ a, (k0_off384 v4692) a + S1x1x128.size a ≤ S1024x1x128.size a := fun i v4692 k0_hw256 k0_h1 => k0_hw256.2.2 k0_h1

def k0_cond2 (i : grid0.Coords) : BitVec 1 :=
  let arg0 : BitVec 32 := BitVec.ofNat 32 (i 0).val
  let c2_i32 : BitVec 32 := 2#32
  let v3 : BitVec 32 := Scalar.addi arg0 c2_i32
  let c128_i32 : BitVec 32 := 128#32
  let v4 : BitVec 1 := Scalar.cmpi .slt v3 c128_i32
  let v5 : BitVec 32 := Scalar.extui v4
  let c0_i32_1 : BitVec 32 := 0#32
  let v6 : BitVec 1 := Scalar.cmpi .ne v5 c0_i32_1
  v6

def k0_off385 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c0_i32_1060 : BitVec 32 := 0#32
  let v2160 : BitVec 32 := Scalar.addi v2159 c0_i32_1060
  let v2161 : Index := Scalar.indexCast v2160
  ![v2161.toNat]
def k0_off386 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off387 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c0_i32_1062 : BitVec 32 := 0#32
  let c0_i32_1063 : BitVec 32 := 0#32
  let c0_i32_1064 : BitVec 32 := 0#32
  ![v2158.toNat, 0, 0, 0]
def k0_off388 (v2162 : BitVec 32) : Fin 3 → Nat :=
  let c0_i32_1065 : BitVec 32 := 0#32
  let c0_i32_1066 : BitVec 32 := 0#32
  ![v2162.toNat, 0, 0]

def k0_chk257 (i : grid0.Coords) (v2162 : BitVec 32) : Prop :=
  (∀ (k0_h2 : k0_cond2 i = 1#1), ∀ a, (k0_off388 v2162) a + S1x128x64.size a ≤ S4096x128x64.size a)
theorem k0_off388_inb : ∀ (i : grid0.Coords) (v2162 : BitVec 32) (k0_hw257 : k0_chk257 i v2162), ∀ (k0_h2 : k0_cond2 i = 1#1), ∀ a, (k0_off388 v2162) a + S1x128x64.size a ≤ S4096x128x64.size a := fun i v2162 k0_hw257 k0_h2 => k0_hw257 k0_h2

def k0_off389 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off390 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c0_i32_1067 : BitVec 32 := 0#32
  let c0_i32_1068 : BitVec 32 := 0#32
  let c0_i32_1069 : BitVec 32 := 0#32
  ![v2158.toNat, 0, 0, 0]
def k0_off391 (v2165 : BitVec 32) : Fin 3 → Nat :=
  let c0_i32_1070 : BitVec 32 := 0#32
  let c0_i32_1071 : BitVec 32 := 0#32
  ![v2165.toNat, 0, 0]

def k0_off392 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off393 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c0_i32_1072 : BitVec 32 := 0#32
  let c0_i32_1073 : BitVec 32 := 0#32
  let c0_i32_1074 : BitVec 32 := 0#32
  ![v2158.toNat, 0, 0, 0]
def k0_off394 (v2165 : BitVec 32) : Fin 3 → Nat :=
  let c0_i32_1075 : BitVec 32 := 0#32
  let c0_i32_1076 : BitVec 32 := 0#32
  ![v2165.toNat, 0, 0]

def k0_chk258 (i : grid0.Coords) (v2165 : BitVec 32) : Prop :=
  (∀ (k0_h2 : k0_cond2 i = 1#1), ∀ a, (k0_off391 v2165) a + S1x128x128.size a ≤ S1024x128x128.size a) ∧
  (∀ (k0_h2 : k0_cond2 i = 1#1), ∀ (hinb : ∀ a, (k0_off391 v2165) a + S1x128x128.size a ≤ S1024x128x128.size a), (Rect.unit (s := S1024x128x128) (k0_off391 v2165) S1x128x128.size hinb).WholeWords (EltTy.packing .bf16)) ∧
  (∀ (k0_h2 : k0_cond2 i = 1#1), ∀ a, (k0_off394 v2165) a + S1x1x128.size a ≤ S1024x1x128.size a)
theorem k0_off391_inb : ∀ (i : grid0.Coords) (v2165 : BitVec 32) (k0_hw258 : k0_chk258 i v2165), ∀ (k0_h2 : k0_cond2 i = 1#1), ∀ a, (k0_off391 v2165) a + S1x128x128.size a ≤ S1024x128x128.size a := fun i v2165 k0_hw258 k0_h2 => k0_hw258.1 k0_h2
theorem k0_off391_wordsbf16 : ∀ (i : grid0.Coords) (v2165 : BitVec 32) (k0_hw258 : k0_chk258 i v2165), ∀ (k0_h2 : k0_cond2 i = 1#1), (Rect.unit (s := S1024x128x128) (k0_off391 v2165) S1x128x128.size (k0_off391_inb i v2165 k0_hw258 k0_h2)).WholeWords (EltTy.packing .bf16) := fun i v2165 k0_hw258 k0_h2 => k0_hw258.2.1 k0_h2 (k0_off391_inb i v2165 k0_hw258 k0_h2)
theorem k0_off394_inb : ∀ (i : grid0.Coords) (v2165 : BitVec 32) (k0_hw258 : k0_chk258 i v2165), ∀ (k0_h2 : k0_cond2 i = 1#1), ∀ a, (k0_off394 v2165) a + S1x1x128.size a ≤ S1024x1x128.size a := fun i v2165 k0_hw258 k0_h2 => k0_hw258.2.2 k0_h2

def k0_off395 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c1_i32_1077 : BitVec 32 := 1#32
  let v2184 : BitVec 32 := Scalar.addi v2159 c1_i32_1077
  let v2185 : Index := Scalar.indexCast v2184
  ![v2185.toNat]
def k0_off396 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c1_i32_1079 : BitVec 32 := 1#32
  let c0_i32_1080 : BitVec 32 := 0#32
  let c0_i32_1081 : BitVec 32 := 0#32
  ![v2158.toNat, 1, 0, 0]
def k0_off397 (v2186 : BitVec 32) : Fin 3 → Nat :=
  let c0_i32_1082 : BitVec 32 := 0#32
  let c0_i32_1083 : BitVec 32 := 0#32
  ![v2186.toNat, 0, 0]

def k0_chk259 (i : grid0.Coords) (v2186 : BitVec 32) : Prop :=
  (∀ (k0_h2 : k0_cond2 i = 1#1), ∀ a, (k0_off397 v2186) a + S1x128x64.size a ≤ S4096x128x64.size a)
theorem k0_off397_inb : ∀ (i : grid0.Coords) (v2186 : BitVec 32) (k0_hw259 : k0_chk259 i v2186), ∀ (k0_h2 : k0_cond2 i = 1#1), ∀ a, (k0_off397 v2186) a + S1x128x64.size a ≤ S4096x128x64.size a := fun i v2186 k0_hw259 k0_h2 => k0_hw259 k0_h2

def k0_off398 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off399 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c1_i32_1084 : BitVec 32 := 1#32
  let c0_i32_1085 : BitVec 32 := 0#32
  let c0_i32_1086 : BitVec 32 := 0#32
  ![v2158.toNat, 1, 0, 0]
def k0_off400 (v2189 : BitVec 32) : Fin 3 → Nat :=
  let c0_i32_1087 : BitVec 32 := 0#32
  let c0_i32_1088 : BitVec 32 := 0#32
  ![v2189.toNat, 0, 0]

def k0_off401 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off402 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c1_i32_1089 : BitVec 32 := 1#32
  let c0_i32_1090 : BitVec 32 := 0#32
  let c0_i32_1091 : BitVec 32 := 0#32
  ![v2158.toNat, 1, 0, 0]
def k0_off403 (v2189 : BitVec 32) : Fin 3 → Nat :=
  let c0_i32_1092 : BitVec 32 := 0#32
  let c0_i32_1093 : BitVec 32 := 0#32
  ![v2189.toNat, 0, 0]

def k0_chk260 (i : grid0.Coords) (v2189 : BitVec 32) : Prop :=
  (∀ (k0_h2 : k0_cond2 i = 1#1), ∀ a, (k0_off400 v2189) a + S1x128x128.size a ≤ S1024x128x128.size a) ∧
  (∀ (k0_h2 : k0_cond2 i = 1#1), ∀ (hinb : ∀ a, (k0_off400 v2189) a + S1x128x128.size a ≤ S1024x128x128.size a), (Rect.unit (s := S1024x128x128) (k0_off400 v2189) S1x128x128.size hinb).WholeWords (EltTy.packing .bf16)) ∧
  (∀ (k0_h2 : k0_cond2 i = 1#1), ∀ a, (k0_off403 v2189) a + S1x1x128.size a ≤ S1024x1x128.size a)
theorem k0_off400_inb : ∀ (i : grid0.Coords) (v2189 : BitVec 32) (k0_hw260 : k0_chk260 i v2189), ∀ (k0_h2 : k0_cond2 i = 1#1), ∀ a, (k0_off400 v2189) a + S1x128x128.size a ≤ S1024x128x128.size a := fun i v2189 k0_hw260 k0_h2 => k0_hw260.1 k0_h2
theorem k0_off400_wordsbf16 : ∀ (i : grid0.Coords) (v2189 : BitVec 32) (k0_hw260 : k0_chk260 i v2189), ∀ (k0_h2 : k0_cond2 i = 1#1), (Rect.unit (s := S1024x128x128) (k0_off400 v2189) S1x128x128.size (k0_off400_inb i v2189 k0_hw260 k0_h2)).WholeWords (EltTy.packing .bf16) := fun i v2189 k0_hw260 k0_h2 => k0_hw260.2.1 k0_h2 (k0_off400_inb i v2189 k0_hw260 k0_h2)
theorem k0_off403_inb : ∀ (i : grid0.Coords) (v2189 : BitVec 32) (k0_hw260 : k0_chk260 i v2189), ∀ (k0_h2 : k0_cond2 i = 1#1), ∀ a, (k0_off403 v2189) a + S1x1x128.size a ≤ S1024x1x128.size a := fun i v2189 k0_hw260 k0_h2 => k0_hw260.2.2 k0_h2

def k0_off404 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c2_i32_1094 : BitVec 32 := 2#32
  let v2208 : BitVec 32 := Scalar.addi v2159 c2_i32_1094
  let v2209 : Index := Scalar.indexCast v2208
  ![v2209.toNat]
def k0_off405 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c2_i32_1096 : BitVec 32 := 2#32
  let c0_i32_1097 : BitVec 32 := 0#32
  let c0_i32_1098 : BitVec 32 := 0#32
  ![v2158.toNat, 2, 0, 0]
def k0_off406 (v2210 : BitVec 32) : Fin 3 → Nat :=
  let c0_i32_1099 : BitVec 32 := 0#32
  let c0_i32_1100 : BitVec 32 := 0#32
  ![v2210.toNat, 0, 0]

def k0_chk261 (i : grid0.Coords) (v2210 : BitVec 32) : Prop :=
  (∀ (k0_h2 : k0_cond2 i = 1#1), ∀ a, (k0_off406 v2210) a + S1x128x64.size a ≤ S4096x128x64.size a)
theorem k0_off406_inb : ∀ (i : grid0.Coords) (v2210 : BitVec 32) (k0_hw261 : k0_chk261 i v2210), ∀ (k0_h2 : k0_cond2 i = 1#1), ∀ a, (k0_off406 v2210) a + S1x128x64.size a ≤ S4096x128x64.size a := fun i v2210 k0_hw261 k0_h2 => k0_hw261 k0_h2

def k0_off407 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off408 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c2_i32_1101 : BitVec 32 := 2#32
  let c0_i32_1102 : BitVec 32 := 0#32
  let c0_i32_1103 : BitVec 32 := 0#32
  ![v2158.toNat, 2, 0, 0]
def k0_off409 (v2213 : BitVec 32) : Fin 3 → Nat :=
  let c0_i32_1104 : BitVec 32 := 0#32
  let c0_i32_1105 : BitVec 32 := 0#32
  ![v2213.toNat, 0, 0]

def k0_off410 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off411 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c2_i32_1106 : BitVec 32 := 2#32
  let c0_i32_1107 : BitVec 32 := 0#32
  let c0_i32_1108 : BitVec 32 := 0#32
  ![v2158.toNat, 2, 0, 0]
def k0_off412 (v2213 : BitVec 32) : Fin 3 → Nat :=
  let c0_i32_1109 : BitVec 32 := 0#32
  let c0_i32_1110 : BitVec 32 := 0#32
  ![v2213.toNat, 0, 0]

def k0_chk262 (i : grid0.Coords) (v2213 : BitVec 32) : Prop :=
  (∀ (k0_h2 : k0_cond2 i = 1#1), ∀ a, (k0_off409 v2213) a + S1x128x128.size a ≤ S1024x128x128.size a) ∧
  (∀ (k0_h2 : k0_cond2 i = 1#1), ∀ (hinb : ∀ a, (k0_off409 v2213) a + S1x128x128.size a ≤ S1024x128x128.size a), (Rect.unit (s := S1024x128x128) (k0_off409 v2213) S1x128x128.size hinb).WholeWords (EltTy.packing .bf16)) ∧
  (∀ (k0_h2 : k0_cond2 i = 1#1), ∀ a, (k0_off412 v2213) a + S1x1x128.size a ≤ S1024x1x128.size a)
theorem k0_off409_inb : ∀ (i : grid0.Coords) (v2213 : BitVec 32) (k0_hw262 : k0_chk262 i v2213), ∀ (k0_h2 : k0_cond2 i = 1#1), ∀ a, (k0_off409 v2213) a + S1x128x128.size a ≤ S1024x128x128.size a := fun i v2213 k0_hw262 k0_h2 => k0_hw262.1 k0_h2
theorem k0_off409_wordsbf16 : ∀ (i : grid0.Coords) (v2213 : BitVec 32) (k0_hw262 : k0_chk262 i v2213), ∀ (k0_h2 : k0_cond2 i = 1#1), (Rect.unit (s := S1024x128x128) (k0_off409 v2213) S1x128x128.size (k0_off409_inb i v2213 k0_hw262 k0_h2)).WholeWords (EltTy.packing .bf16) := fun i v2213 k0_hw262 k0_h2 => k0_hw262.2.1 k0_h2 (k0_off409_inb i v2213 k0_hw262 k0_h2)
theorem k0_off412_inb : ∀ (i : grid0.Coords) (v2213 : BitVec 32) (k0_hw262 : k0_chk262 i v2213), ∀ (k0_h2 : k0_cond2 i = 1#1), ∀ a, (k0_off412 v2213) a + S1x1x128.size a ≤ S1024x1x128.size a := fun i v2213 k0_hw262 k0_h2 => k0_hw262.2.2 k0_h2

def k0_off413 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c3_i32_1111 : BitVec 32 := 3#32
  let v2232 : BitVec 32 := Scalar.addi v2159 c3_i32_1111
  let v2233 : Index := Scalar.indexCast v2232
  ![v2233.toNat]
def k0_off414 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c3_i32_1113 : BitVec 32 := 3#32
  let c0_i32_1114 : BitVec 32 := 0#32
  let c0_i32_1115 : BitVec 32 := 0#32
  ![v2158.toNat, 3, 0, 0]
def k0_off415 (v2234 : BitVec 32) : Fin 3 → Nat :=
  let c0_i32_1116 : BitVec 32 := 0#32
  let c0_i32_1117 : BitVec 32 := 0#32
  ![v2234.toNat, 0, 0]

def k0_chk263 (i : grid0.Coords) (v2234 : BitVec 32) : Prop :=
  (∀ (k0_h2 : k0_cond2 i = 1#1), ∀ a, (k0_off415 v2234) a + S1x128x64.size a ≤ S4096x128x64.size a)
theorem k0_off415_inb : ∀ (i : grid0.Coords) (v2234 : BitVec 32) (k0_hw263 : k0_chk263 i v2234), ∀ (k0_h2 : k0_cond2 i = 1#1), ∀ a, (k0_off415 v2234) a + S1x128x64.size a ≤ S4096x128x64.size a := fun i v2234 k0_hw263 k0_h2 => k0_hw263 k0_h2

def k0_off416 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off417 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c3_i32_1118 : BitVec 32 := 3#32
  let c0_i32_1119 : BitVec 32 := 0#32
  let c0_i32_1120 : BitVec 32 := 0#32
  ![v2158.toNat, 3, 0, 0]
def k0_off418 (v2237 : BitVec 32) : Fin 3 → Nat :=
  let c0_i32_1121 : BitVec 32 := 0#32
  let c0_i32_1122 : BitVec 32 := 0#32
  ![v2237.toNat, 0, 0]

def k0_off419 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off420 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c3_i32_1123 : BitVec 32 := 3#32
  let c0_i32_1124 : BitVec 32 := 0#32
  let c0_i32_1125 : BitVec 32 := 0#32
  ![v2158.toNat, 3, 0, 0]
def k0_off421 (v2237 : BitVec 32) : Fin 3 → Nat :=
  let c0_i32_1126 : BitVec 32 := 0#32
  let c0_i32_1127 : BitVec 32 := 0#32
  ![v2237.toNat, 0, 0]

def k0_chk264 (i : grid0.Coords) (v2237 : BitVec 32) : Prop :=
  (∀ (k0_h2 : k0_cond2 i = 1#1), ∀ a, (k0_off418 v2237) a + S1x128x128.size a ≤ S1024x128x128.size a) ∧
  (∀ (k0_h2 : k0_cond2 i = 1#1), ∀ (hinb : ∀ a, (k0_off418 v2237) a + S1x128x128.size a ≤ S1024x128x128.size a), (Rect.unit (s := S1024x128x128) (k0_off418 v2237) S1x128x128.size hinb).WholeWords (EltTy.packing .bf16)) ∧
  (∀ (k0_h2 : k0_cond2 i = 1#1), ∀ a, (k0_off421 v2237) a + S1x1x128.size a ≤ S1024x1x128.size a)
theorem k0_off418_inb : ∀ (i : grid0.Coords) (v2237 : BitVec 32) (k0_hw264 : k0_chk264 i v2237), ∀ (k0_h2 : k0_cond2 i = 1#1), ∀ a, (k0_off418 v2237) a + S1x128x128.size a ≤ S1024x128x128.size a := fun i v2237 k0_hw264 k0_h2 => k0_hw264.1 k0_h2
theorem k0_off418_wordsbf16 : ∀ (i : grid0.Coords) (v2237 : BitVec 32) (k0_hw264 : k0_chk264 i v2237), ∀ (k0_h2 : k0_cond2 i = 1#1), (Rect.unit (s := S1024x128x128) (k0_off418 v2237) S1x128x128.size (k0_off418_inb i v2237 k0_hw264 k0_h2)).WholeWords (EltTy.packing .bf16) := fun i v2237 k0_hw264 k0_h2 => k0_hw264.2.1 k0_h2 (k0_off418_inb i v2237 k0_hw264 k0_h2)
theorem k0_off421_inb : ∀ (i : grid0.Coords) (v2237 : BitVec 32) (k0_hw264 : k0_chk264 i v2237), ∀ (k0_h2 : k0_cond2 i = 1#1), ∀ a, (k0_off421 v2237) a + S1x1x128.size a ≤ S1024x1x128.size a := fun i v2237 k0_hw264 k0_h2 => k0_hw264.2.2 k0_h2

def k0_off422 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c4_i32_1128 : BitVec 32 := 4#32
  let v2256 : BitVec 32 := Scalar.addi v2159 c4_i32_1128
  let v2257 : Index := Scalar.indexCast v2256
  ![v2257.toNat]
def k0_off423 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c4_i32_1130 : BitVec 32 := 4#32
  let c0_i32_1131 : BitVec 32 := 0#32
  let c0_i32_1132 : BitVec 32 := 0#32
  ![v2158.toNat, 4, 0, 0]
def k0_off424 (v2258 : BitVec 32) : Fin 3 → Nat :=
  let c0_i32_1133 : BitVec 32 := 0#32
  let c0_i32_1134 : BitVec 32 := 0#32
  ![v2258.toNat, 0, 0]

def k0_chk265 (i : grid0.Coords) (v2258 : BitVec 32) : Prop :=
  (∀ (k0_h2 : k0_cond2 i = 1#1), ∀ a, (k0_off424 v2258) a + S1x128x64.size a ≤ S4096x128x64.size a)
theorem k0_off424_inb : ∀ (i : grid0.Coords) (v2258 : BitVec 32) (k0_hw265 : k0_chk265 i v2258), ∀ (k0_h2 : k0_cond2 i = 1#1), ∀ a, (k0_off424 v2258) a + S1x128x64.size a ≤ S4096x128x64.size a := fun i v2258 k0_hw265 k0_h2 => k0_hw265 k0_h2

def k0_off425 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off426 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c4_i32_1135 : BitVec 32 := 4#32
  let c0_i32_1136 : BitVec 32 := 0#32
  let c0_i32_1137 : BitVec 32 := 0#32
  ![v2158.toNat, 4, 0, 0]
def k0_off427 (v2261 : BitVec 32) : Fin 3 → Nat :=
  let c0_i32_1138 : BitVec 32 := 0#32
  let c0_i32_1139 : BitVec 32 := 0#32
  ![v2261.toNat, 0, 0]

def k0_off428 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off429 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c4_i32_1140 : BitVec 32 := 4#32
  let c0_i32_1141 : BitVec 32 := 0#32
  let c0_i32_1142 : BitVec 32 := 0#32
  ![v2158.toNat, 4, 0, 0]
def k0_off430 (v2261 : BitVec 32) : Fin 3 → Nat :=
  let c0_i32_1143 : BitVec 32 := 0#32
  let c0_i32_1144 : BitVec 32 := 0#32
  ![v2261.toNat, 0, 0]

def k0_chk266 (i : grid0.Coords) (v2261 : BitVec 32) : Prop :=
  (∀ (k0_h2 : k0_cond2 i = 1#1), ∀ a, (k0_off427 v2261) a + S1x128x128.size a ≤ S1024x128x128.size a) ∧
  (∀ (k0_h2 : k0_cond2 i = 1#1), ∀ (hinb : ∀ a, (k0_off427 v2261) a + S1x128x128.size a ≤ S1024x128x128.size a), (Rect.unit (s := S1024x128x128) (k0_off427 v2261) S1x128x128.size hinb).WholeWords (EltTy.packing .bf16)) ∧
  (∀ (k0_h2 : k0_cond2 i = 1#1), ∀ a, (k0_off430 v2261) a + S1x1x128.size a ≤ S1024x1x128.size a)
theorem k0_off427_inb : ∀ (i : grid0.Coords) (v2261 : BitVec 32) (k0_hw266 : k0_chk266 i v2261), ∀ (k0_h2 : k0_cond2 i = 1#1), ∀ a, (k0_off427 v2261) a + S1x128x128.size a ≤ S1024x128x128.size a := fun i v2261 k0_hw266 k0_h2 => k0_hw266.1 k0_h2
theorem k0_off427_wordsbf16 : ∀ (i : grid0.Coords) (v2261 : BitVec 32) (k0_hw266 : k0_chk266 i v2261), ∀ (k0_h2 : k0_cond2 i = 1#1), (Rect.unit (s := S1024x128x128) (k0_off427 v2261) S1x128x128.size (k0_off427_inb i v2261 k0_hw266 k0_h2)).WholeWords (EltTy.packing .bf16) := fun i v2261 k0_hw266 k0_h2 => k0_hw266.2.1 k0_h2 (k0_off427_inb i v2261 k0_hw266 k0_h2)
theorem k0_off430_inb : ∀ (i : grid0.Coords) (v2261 : BitVec 32) (k0_hw266 : k0_chk266 i v2261), ∀ (k0_h2 : k0_cond2 i = 1#1), ∀ a, (k0_off430 v2261) a + S1x1x128.size a ≤ S1024x1x128.size a := fun i v2261 k0_hw266 k0_h2 => k0_hw266.2.2 k0_h2

def k0_off431 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c5_i32_1145 : BitVec 32 := 5#32
  let v2280 : BitVec 32 := Scalar.addi v2159 c5_i32_1145
  let v2281 : Index := Scalar.indexCast v2280
  ![v2281.toNat]
def k0_off432 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c5_i32_1147 : BitVec 32 := 5#32
  let c0_i32_1148 : BitVec 32 := 0#32
  let c0_i32_1149 : BitVec 32 := 0#32
  ![v2158.toNat, 5, 0, 0]
def k0_off433 (v2282 : BitVec 32) : Fin 3 → Nat :=
  let c0_i32_1150 : BitVec 32 := 0#32
  let c0_i32_1151 : BitVec 32 := 0#32
  ![v2282.toNat, 0, 0]

def k0_chk267 (i : grid0.Coords) (v2282 : BitVec 32) : Prop :=
  (∀ (k0_h2 : k0_cond2 i = 1#1), ∀ a, (k0_off433 v2282) a + S1x128x64.size a ≤ S4096x128x64.size a)
theorem k0_off433_inb : ∀ (i : grid0.Coords) (v2282 : BitVec 32) (k0_hw267 : k0_chk267 i v2282), ∀ (k0_h2 : k0_cond2 i = 1#1), ∀ a, (k0_off433 v2282) a + S1x128x64.size a ≤ S4096x128x64.size a := fun i v2282 k0_hw267 k0_h2 => k0_hw267 k0_h2

def k0_off434 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off435 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c5_i32_1152 : BitVec 32 := 5#32
  let c0_i32_1153 : BitVec 32 := 0#32
  let c0_i32_1154 : BitVec 32 := 0#32
  ![v2158.toNat, 5, 0, 0]
def k0_off436 (v2285 : BitVec 32) : Fin 3 → Nat :=
  let c0_i32_1155 : BitVec 32 := 0#32
  let c0_i32_1156 : BitVec 32 := 0#32
  ![v2285.toNat, 0, 0]

def k0_off437 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off438 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c5_i32_1157 : BitVec 32 := 5#32
  let c0_i32_1158 : BitVec 32 := 0#32
  let c0_i32_1159 : BitVec 32 := 0#32
  ![v2158.toNat, 5, 0, 0]
def k0_off439 (v2285 : BitVec 32) : Fin 3 → Nat :=
  let c0_i32_1160 : BitVec 32 := 0#32
  let c0_i32_1161 : BitVec 32 := 0#32
  ![v2285.toNat, 0, 0]

def k0_chk268 (i : grid0.Coords) (v2285 : BitVec 32) : Prop :=
  (∀ (k0_h2 : k0_cond2 i = 1#1), ∀ a, (k0_off436 v2285) a + S1x128x128.size a ≤ S1024x128x128.size a) ∧
  (∀ (k0_h2 : k0_cond2 i = 1#1), ∀ (hinb : ∀ a, (k0_off436 v2285) a + S1x128x128.size a ≤ S1024x128x128.size a), (Rect.unit (s := S1024x128x128) (k0_off436 v2285) S1x128x128.size hinb).WholeWords (EltTy.packing .bf16)) ∧
  (∀ (k0_h2 : k0_cond2 i = 1#1), ∀ a, (k0_off439 v2285) a + S1x1x128.size a ≤ S1024x1x128.size a)
theorem k0_off436_inb : ∀ (i : grid0.Coords) (v2285 : BitVec 32) (k0_hw268 : k0_chk268 i v2285), ∀ (k0_h2 : k0_cond2 i = 1#1), ∀ a, (k0_off436 v2285) a + S1x128x128.size a ≤ S1024x128x128.size a := fun i v2285 k0_hw268 k0_h2 => k0_hw268.1 k0_h2
theorem k0_off436_wordsbf16 : ∀ (i : grid0.Coords) (v2285 : BitVec 32) (k0_hw268 : k0_chk268 i v2285), ∀ (k0_h2 : k0_cond2 i = 1#1), (Rect.unit (s := S1024x128x128) (k0_off436 v2285) S1x128x128.size (k0_off436_inb i v2285 k0_hw268 k0_h2)).WholeWords (EltTy.packing .bf16) := fun i v2285 k0_hw268 k0_h2 => k0_hw268.2.1 k0_h2 (k0_off436_inb i v2285 k0_hw268 k0_h2)
theorem k0_off439_inb : ∀ (i : grid0.Coords) (v2285 : BitVec 32) (k0_hw268 : k0_chk268 i v2285), ∀ (k0_h2 : k0_cond2 i = 1#1), ∀ a, (k0_off439 v2285) a + S1x1x128.size a ≤ S1024x1x128.size a := fun i v2285 k0_hw268 k0_h2 => k0_hw268.2.2 k0_h2

def k0_off440 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c6_i32_1162 : BitVec 32 := 6#32
  let v2304 : BitVec 32 := Scalar.addi v2159 c6_i32_1162
  let v2305 : Index := Scalar.indexCast v2304
  ![v2305.toNat]
def k0_off441 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c6_i32_1164 : BitVec 32 := 6#32
  let c0_i32_1165 : BitVec 32 := 0#32
  let c0_i32_1166 : BitVec 32 := 0#32
  ![v2158.toNat, 6, 0, 0]
def k0_off442 (v2306 : BitVec 32) : Fin 3 → Nat :=
  let c0_i32_1167 : BitVec 32 := 0#32
  let c0_i32_1168 : BitVec 32 := 0#32
  ![v2306.toNat, 0, 0]

def k0_chk269 (i : grid0.Coords) (v2306 : BitVec 32) : Prop :=
  (∀ (k0_h2 : k0_cond2 i = 1#1), ∀ a, (k0_off442 v2306) a + S1x128x64.size a ≤ S4096x128x64.size a)
theorem k0_off442_inb : ∀ (i : grid0.Coords) (v2306 : BitVec 32) (k0_hw269 : k0_chk269 i v2306), ∀ (k0_h2 : k0_cond2 i = 1#1), ∀ a, (k0_off442 v2306) a + S1x128x64.size a ≤ S4096x128x64.size a := fun i v2306 k0_hw269 k0_h2 => k0_hw269 k0_h2

def k0_off443 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off444 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c6_i32_1169 : BitVec 32 := 6#32
  let c0_i32_1170 : BitVec 32 := 0#32
  let c0_i32_1171 : BitVec 32 := 0#32
  ![v2158.toNat, 6, 0, 0]
def k0_off445 (v2309 : BitVec 32) : Fin 3 → Nat :=
  let c0_i32_1172 : BitVec 32 := 0#32
  let c0_i32_1173 : BitVec 32 := 0#32
  ![v2309.toNat, 0, 0]

def k0_off446 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off447 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c6_i32_1174 : BitVec 32 := 6#32
  let c0_i32_1175 : BitVec 32 := 0#32
  let c0_i32_1176 : BitVec 32 := 0#32
  ![v2158.toNat, 6, 0, 0]
def k0_off448 (v2309 : BitVec 32) : Fin 3 → Nat :=
  let c0_i32_1177 : BitVec 32 := 0#32
  let c0_i32_1178 : BitVec 32 := 0#32
  ![v2309.toNat, 0, 0]

def k0_chk270 (i : grid0.Coords) (v2309 : BitVec 32) : Prop :=
  (∀ (k0_h2 : k0_cond2 i = 1#1), ∀ a, (k0_off445 v2309) a + S1x128x128.size a ≤ S1024x128x128.size a) ∧
  (∀ (k0_h2 : k0_cond2 i = 1#1), ∀ (hinb : ∀ a, (k0_off445 v2309) a + S1x128x128.size a ≤ S1024x128x128.size a), (Rect.unit (s := S1024x128x128) (k0_off445 v2309) S1x128x128.size hinb).WholeWords (EltTy.packing .bf16)) ∧
  (∀ (k0_h2 : k0_cond2 i = 1#1), ∀ a, (k0_off448 v2309) a + S1x1x128.size a ≤ S1024x1x128.size a)
theorem k0_off445_inb : ∀ (i : grid0.Coords) (v2309 : BitVec 32) (k0_hw270 : k0_chk270 i v2309), ∀ (k0_h2 : k0_cond2 i = 1#1), ∀ a, (k0_off445 v2309) a + S1x128x128.size a ≤ S1024x128x128.size a := fun i v2309 k0_hw270 k0_h2 => k0_hw270.1 k0_h2
theorem k0_off445_wordsbf16 : ∀ (i : grid0.Coords) (v2309 : BitVec 32) (k0_hw270 : k0_chk270 i v2309), ∀ (k0_h2 : k0_cond2 i = 1#1), (Rect.unit (s := S1024x128x128) (k0_off445 v2309) S1x128x128.size (k0_off445_inb i v2309 k0_hw270 k0_h2)).WholeWords (EltTy.packing .bf16) := fun i v2309 k0_hw270 k0_h2 => k0_hw270.2.1 k0_h2 (k0_off445_inb i v2309 k0_hw270 k0_h2)
theorem k0_off448_inb : ∀ (i : grid0.Coords) (v2309 : BitVec 32) (k0_hw270 : k0_chk270 i v2309), ∀ (k0_h2 : k0_cond2 i = 1#1), ∀ a, (k0_off448 v2309) a + S1x1x128.size a ≤ S1024x1x128.size a := fun i v2309 k0_hw270 k0_h2 => k0_hw270.2.2 k0_h2

def k0_off449 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c7_i32_1179 : BitVec 32 := 7#32
  let v2328 : BitVec 32 := Scalar.addi v2159 c7_i32_1179
  let v2329 : Index := Scalar.indexCast v2328
  ![v2329.toNat]
def k0_off450 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c7_i32_1181 : BitVec 32 := 7#32
  let c0_i32_1182 : BitVec 32 := 0#32
  let c0_i32_1183 : BitVec 32 := 0#32
  ![v2158.toNat, 7, 0, 0]
def k0_off451 (v2330 : BitVec 32) : Fin 3 → Nat :=
  let c0_i32_1184 : BitVec 32 := 0#32
  let c0_i32_1185 : BitVec 32 := 0#32
  ![v2330.toNat, 0, 0]

def k0_chk271 (i : grid0.Coords) (v2330 : BitVec 32) : Prop :=
  (∀ (k0_h2 : k0_cond2 i = 1#1), ∀ a, (k0_off451 v2330) a + S1x128x64.size a ≤ S4096x128x64.size a)
theorem k0_off451_inb : ∀ (i : grid0.Coords) (v2330 : BitVec 32) (k0_hw271 : k0_chk271 i v2330), ∀ (k0_h2 : k0_cond2 i = 1#1), ∀ a, (k0_off451 v2330) a + S1x128x64.size a ≤ S4096x128x64.size a := fun i v2330 k0_hw271 k0_h2 => k0_hw271 k0_h2

def k0_off452 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off453 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c7_i32_1186 : BitVec 32 := 7#32
  let c0_i32_1187 : BitVec 32 := 0#32
  let c0_i32_1188 : BitVec 32 := 0#32
  ![v2158.toNat, 7, 0, 0]
def k0_off454 (v2333 : BitVec 32) : Fin 3 → Nat :=
  let c0_i32_1189 : BitVec 32 := 0#32
  let c0_i32_1190 : BitVec 32 := 0#32
  ![v2333.toNat, 0, 0]

def k0_off455 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off456 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c7_i32_1191 : BitVec 32 := 7#32
  let c0_i32_1192 : BitVec 32 := 0#32
  let c0_i32_1193 : BitVec 32 := 0#32
  ![v2158.toNat, 7, 0, 0]
def k0_off457 (v2333 : BitVec 32) : Fin 3 → Nat :=
  let c0_i32_1194 : BitVec 32 := 0#32
  let c0_i32_1195 : BitVec 32 := 0#32
  ![v2333.toNat, 0, 0]

def k0_chk272 (i : grid0.Coords) (v2333 : BitVec 32) : Prop :=
  (∀ (k0_h2 : k0_cond2 i = 1#1), ∀ a, (k0_off454 v2333) a + S1x128x128.size a ≤ S1024x128x128.size a) ∧
  (∀ (k0_h2 : k0_cond2 i = 1#1), ∀ (hinb : ∀ a, (k0_off454 v2333) a + S1x128x128.size a ≤ S1024x128x128.size a), (Rect.unit (s := S1024x128x128) (k0_off454 v2333) S1x128x128.size hinb).WholeWords (EltTy.packing .bf16)) ∧
  (∀ (k0_h2 : k0_cond2 i = 1#1), ∀ a, (k0_off457 v2333) a + S1x1x128.size a ≤ S1024x1x128.size a)
theorem k0_off454_inb : ∀ (i : grid0.Coords) (v2333 : BitVec 32) (k0_hw272 : k0_chk272 i v2333), ∀ (k0_h2 : k0_cond2 i = 1#1), ∀ a, (k0_off454 v2333) a + S1x128x128.size a ≤ S1024x128x128.size a := fun i v2333 k0_hw272 k0_h2 => k0_hw272.1 k0_h2
theorem k0_off454_wordsbf16 : ∀ (i : grid0.Coords) (v2333 : BitVec 32) (k0_hw272 : k0_chk272 i v2333), ∀ (k0_h2 : k0_cond2 i = 1#1), (Rect.unit (s := S1024x128x128) (k0_off454 v2333) S1x128x128.size (k0_off454_inb i v2333 k0_hw272 k0_h2)).WholeWords (EltTy.packing .bf16) := fun i v2333 k0_hw272 k0_h2 => k0_hw272.2.1 k0_h2 (k0_off454_inb i v2333 k0_hw272 k0_h2)
theorem k0_off457_inb : ∀ (i : grid0.Coords) (v2333 : BitVec 32) (k0_hw272 : k0_chk272 i v2333), ∀ (k0_h2 : k0_cond2 i = 1#1), ∀ a, (k0_off457 v2333) a + S1x1x128.size a ≤ S1024x1x128.size a := fun i v2333 k0_hw272 k0_h2 => k0_hw272.2.2 k0_h2

def k0_off458 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c8_i32_1196 : BitVec 32 := 8#32
  let v2352 : BitVec 32 := Scalar.addi v2159 c8_i32_1196
  let v2353 : Index := Scalar.indexCast v2352
  ![v2353.toNat]
def k0_off459 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c8_i32_1198 : BitVec 32 := 8#32
  let c0_i32_1199 : BitVec 32 := 0#32
  let c0_i32_1200 : BitVec 32 := 0#32
  ![v2158.toNat, 8, 0, 0]
def k0_off460 (v2354 : BitVec 32) : Fin 3 → Nat :=
  let c0_i32_1201 : BitVec 32 := 0#32
  let c0_i32_1202 : BitVec 32 := 0#32
  ![v2354.toNat, 0, 0]

def k0_chk273 (i : grid0.Coords) (v2354 : BitVec 32) : Prop :=
  (∀ (k0_h2 : k0_cond2 i = 1#1), ∀ a, (k0_off460 v2354) a + S1x128x64.size a ≤ S4096x128x64.size a)
theorem k0_off460_inb : ∀ (i : grid0.Coords) (v2354 : BitVec 32) (k0_hw273 : k0_chk273 i v2354), ∀ (k0_h2 : k0_cond2 i = 1#1), ∀ a, (k0_off460 v2354) a + S1x128x64.size a ≤ S4096x128x64.size a := fun i v2354 k0_hw273 k0_h2 => k0_hw273 k0_h2

def k0_off461 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off462 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c8_i32_1203 : BitVec 32 := 8#32
  let c0_i32_1204 : BitVec 32 := 0#32
  let c0_i32_1205 : BitVec 32 := 0#32
  ![v2158.toNat, 8, 0, 0]
def k0_off463 (v2357 : BitVec 32) : Fin 3 → Nat :=
  let c0_i32_1206 : BitVec 32 := 0#32
  let c0_i32_1207 : BitVec 32 := 0#32
  ![v2357.toNat, 0, 0]

def k0_off464 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off465 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c8_i32_1208 : BitVec 32 := 8#32
  let c0_i32_1209 : BitVec 32 := 0#32
  let c0_i32_1210 : BitVec 32 := 0#32
  ![v2158.toNat, 8, 0, 0]
def k0_off466 (v2357 : BitVec 32) : Fin 3 → Nat :=
  let c0_i32_1211 : BitVec 32 := 0#32
  let c0_i32_1212 : BitVec 32 := 0#32
  ![v2357.toNat, 0, 0]

def k0_chk274 (i : grid0.Coords) (v2357 : BitVec 32) : Prop :=
  (∀ (k0_h2 : k0_cond2 i = 1#1), ∀ a, (k0_off463 v2357) a + S1x128x128.size a ≤ S1024x128x128.size a) ∧
  (∀ (k0_h2 : k0_cond2 i = 1#1), ∀ (hinb : ∀ a, (k0_off463 v2357) a + S1x128x128.size a ≤ S1024x128x128.size a), (Rect.unit (s := S1024x128x128) (k0_off463 v2357) S1x128x128.size hinb).WholeWords (EltTy.packing .bf16)) ∧
  (∀ (k0_h2 : k0_cond2 i = 1#1), ∀ a, (k0_off466 v2357) a + S1x1x128.size a ≤ S1024x1x128.size a)
theorem k0_off463_inb : ∀ (i : grid0.Coords) (v2357 : BitVec 32) (k0_hw274 : k0_chk274 i v2357), ∀ (k0_h2 : k0_cond2 i = 1#1), ∀ a, (k0_off463 v2357) a + S1x128x128.size a ≤ S1024x128x128.size a := fun i v2357 k0_hw274 k0_h2 => k0_hw274.1 k0_h2
theorem k0_off463_wordsbf16 : ∀ (i : grid0.Coords) (v2357 : BitVec 32) (k0_hw274 : k0_chk274 i v2357), ∀ (k0_h2 : k0_cond2 i = 1#1), (Rect.unit (s := S1024x128x128) (k0_off463 v2357) S1x128x128.size (k0_off463_inb i v2357 k0_hw274 k0_h2)).WholeWords (EltTy.packing .bf16) := fun i v2357 k0_hw274 k0_h2 => k0_hw274.2.1 k0_h2 (k0_off463_inb i v2357 k0_hw274 k0_h2)
theorem k0_off466_inb : ∀ (i : grid0.Coords) (v2357 : BitVec 32) (k0_hw274 : k0_chk274 i v2357), ∀ (k0_h2 : k0_cond2 i = 1#1), ∀ a, (k0_off466 v2357) a + S1x1x128.size a ≤ S1024x1x128.size a := fun i v2357 k0_hw274 k0_h2 => k0_hw274.2.2 k0_h2

def k0_off467 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c9_i32_1213 : BitVec 32 := 9#32
  let v2376 : BitVec 32 := Scalar.addi v2159 c9_i32_1213
  let v2377 : Index := Scalar.indexCast v2376
  ![v2377.toNat]
def k0_off468 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c9_i32_1215 : BitVec 32 := 9#32
  let c0_i32_1216 : BitVec 32 := 0#32
  let c0_i32_1217 : BitVec 32 := 0#32
  ![v2158.toNat, 9, 0, 0]
def k0_off469 (v2378 : BitVec 32) : Fin 3 → Nat :=
  let c0_i32_1218 : BitVec 32 := 0#32
  let c0_i32_1219 : BitVec 32 := 0#32
  ![v2378.toNat, 0, 0]

def k0_chk275 (i : grid0.Coords) (v2378 : BitVec 32) : Prop :=
  (∀ (k0_h2 : k0_cond2 i = 1#1), ∀ a, (k0_off469 v2378) a + S1x128x64.size a ≤ S4096x128x64.size a)
theorem k0_off469_inb : ∀ (i : grid0.Coords) (v2378 : BitVec 32) (k0_hw275 : k0_chk275 i v2378), ∀ (k0_h2 : k0_cond2 i = 1#1), ∀ a, (k0_off469 v2378) a + S1x128x64.size a ≤ S4096x128x64.size a := fun i v2378 k0_hw275 k0_h2 => k0_hw275 k0_h2

def k0_off470 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off471 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c9_i32_1220 : BitVec 32 := 9#32
  let c0_i32_1221 : BitVec 32 := 0#32
  let c0_i32_1222 : BitVec 32 := 0#32
  ![v2158.toNat, 9, 0, 0]
def k0_off472 (v2381 : BitVec 32) : Fin 3 → Nat :=
  let c0_i32_1223 : BitVec 32 := 0#32
  let c0_i32_1224 : BitVec 32 := 0#32
  ![v2381.toNat, 0, 0]

def k0_off473 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off474 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c9_i32_1225 : BitVec 32 := 9#32
  let c0_i32_1226 : BitVec 32 := 0#32
  let c0_i32_1227 : BitVec 32 := 0#32
  ![v2158.toNat, 9, 0, 0]
def k0_off475 (v2381 : BitVec 32) : Fin 3 → Nat :=
  let c0_i32_1228 : BitVec 32 := 0#32
  let c0_i32_1229 : BitVec 32 := 0#32
  ![v2381.toNat, 0, 0]

def k0_chk276 (i : grid0.Coords) (v2381 : BitVec 32) : Prop :=
  (∀ (k0_h2 : k0_cond2 i = 1#1), ∀ a, (k0_off472 v2381) a + S1x128x128.size a ≤ S1024x128x128.size a) ∧
  (∀ (k0_h2 : k0_cond2 i = 1#1), ∀ (hinb : ∀ a, (k0_off472 v2381) a + S1x128x128.size a ≤ S1024x128x128.size a), (Rect.unit (s := S1024x128x128) (k0_off472 v2381) S1x128x128.size hinb).WholeWords (EltTy.packing .bf16)) ∧
  (∀ (k0_h2 : k0_cond2 i = 1#1), ∀ a, (k0_off475 v2381) a + S1x1x128.size a ≤ S1024x1x128.size a)
theorem k0_off472_inb : ∀ (i : grid0.Coords) (v2381 : BitVec 32) (k0_hw276 : k0_chk276 i v2381), ∀ (k0_h2 : k0_cond2 i = 1#1), ∀ a, (k0_off472 v2381) a + S1x128x128.size a ≤ S1024x128x128.size a := fun i v2381 k0_hw276 k0_h2 => k0_hw276.1 k0_h2
theorem k0_off472_wordsbf16 : ∀ (i : grid0.Coords) (v2381 : BitVec 32) (k0_hw276 : k0_chk276 i v2381), ∀ (k0_h2 : k0_cond2 i = 1#1), (Rect.unit (s := S1024x128x128) (k0_off472 v2381) S1x128x128.size (k0_off472_inb i v2381 k0_hw276 k0_h2)).WholeWords (EltTy.packing .bf16) := fun i v2381 k0_hw276 k0_h2 => k0_hw276.2.1 k0_h2 (k0_off472_inb i v2381 k0_hw276 k0_h2)
theorem k0_off475_inb : ∀ (i : grid0.Coords) (v2381 : BitVec 32) (k0_hw276 : k0_chk276 i v2381), ∀ (k0_h2 : k0_cond2 i = 1#1), ∀ a, (k0_off475 v2381) a + S1x1x128.size a ≤ S1024x1x128.size a := fun i v2381 k0_hw276 k0_h2 => k0_hw276.2.2 k0_h2

def k0_off476 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c10_i32_1230 : BitVec 32 := 10#32
  let v2400 : BitVec 32 := Scalar.addi v2159 c10_i32_1230
  let v2401 : Index := Scalar.indexCast v2400
  ![v2401.toNat]
def k0_off477 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c10_i32_1232 : BitVec 32 := 10#32
  let c0_i32_1233 : BitVec 32 := 0#32
  let c0_i32_1234 : BitVec 32 := 0#32
  ![v2158.toNat, 10, 0, 0]
def k0_off478 (v2402 : BitVec 32) : Fin 3 → Nat :=
  let c0_i32_1235 : BitVec 32 := 0#32
  let c0_i32_1236 : BitVec 32 := 0#32
  ![v2402.toNat, 0, 0]

def k0_chk277 (i : grid0.Coords) (v2402 : BitVec 32) : Prop :=
  (∀ (k0_h2 : k0_cond2 i = 1#1), ∀ a, (k0_off478 v2402) a + S1x128x64.size a ≤ S4096x128x64.size a)
theorem k0_off478_inb : ∀ (i : grid0.Coords) (v2402 : BitVec 32) (k0_hw277 : k0_chk277 i v2402), ∀ (k0_h2 : k0_cond2 i = 1#1), ∀ a, (k0_off478 v2402) a + S1x128x64.size a ≤ S4096x128x64.size a := fun i v2402 k0_hw277 k0_h2 => k0_hw277 k0_h2

def k0_off479 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off480 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c10_i32_1237 : BitVec 32 := 10#32
  let c0_i32_1238 : BitVec 32 := 0#32
  let c0_i32_1239 : BitVec 32 := 0#32
  ![v2158.toNat, 10, 0, 0]
def k0_off481 (v2405 : BitVec 32) : Fin 3 → Nat :=
  let c0_i32_1240 : BitVec 32 := 0#32
  let c0_i32_1241 : BitVec 32 := 0#32
  ![v2405.toNat, 0, 0]

def k0_off482 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off483 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c10_i32_1242 : BitVec 32 := 10#32
  let c0_i32_1243 : BitVec 32 := 0#32
  let c0_i32_1244 : BitVec 32 := 0#32
  ![v2158.toNat, 10, 0, 0]
def k0_off484 (v2405 : BitVec 32) : Fin 3 → Nat :=
  let c0_i32_1245 : BitVec 32 := 0#32
  let c0_i32_1246 : BitVec 32 := 0#32
  ![v2405.toNat, 0, 0]

def k0_chk278 (i : grid0.Coords) (v2405 : BitVec 32) : Prop :=
  (∀ (k0_h2 : k0_cond2 i = 1#1), ∀ a, (k0_off481 v2405) a + S1x128x128.size a ≤ S1024x128x128.size a) ∧
  (∀ (k0_h2 : k0_cond2 i = 1#1), ∀ (hinb : ∀ a, (k0_off481 v2405) a + S1x128x128.size a ≤ S1024x128x128.size a), (Rect.unit (s := S1024x128x128) (k0_off481 v2405) S1x128x128.size hinb).WholeWords (EltTy.packing .bf16)) ∧
  (∀ (k0_h2 : k0_cond2 i = 1#1), ∀ a, (k0_off484 v2405) a + S1x1x128.size a ≤ S1024x1x128.size a)
theorem k0_off481_inb : ∀ (i : grid0.Coords) (v2405 : BitVec 32) (k0_hw278 : k0_chk278 i v2405), ∀ (k0_h2 : k0_cond2 i = 1#1), ∀ a, (k0_off481 v2405) a + S1x128x128.size a ≤ S1024x128x128.size a := fun i v2405 k0_hw278 k0_h2 => k0_hw278.1 k0_h2
theorem k0_off481_wordsbf16 : ∀ (i : grid0.Coords) (v2405 : BitVec 32) (k0_hw278 : k0_chk278 i v2405), ∀ (k0_h2 : k0_cond2 i = 1#1), (Rect.unit (s := S1024x128x128) (k0_off481 v2405) S1x128x128.size (k0_off481_inb i v2405 k0_hw278 k0_h2)).WholeWords (EltTy.packing .bf16) := fun i v2405 k0_hw278 k0_h2 => k0_hw278.2.1 k0_h2 (k0_off481_inb i v2405 k0_hw278 k0_h2)
theorem k0_off484_inb : ∀ (i : grid0.Coords) (v2405 : BitVec 32) (k0_hw278 : k0_chk278 i v2405), ∀ (k0_h2 : k0_cond2 i = 1#1), ∀ a, (k0_off484 v2405) a + S1x1x128.size a ≤ S1024x1x128.size a := fun i v2405 k0_hw278 k0_h2 => k0_hw278.2.2 k0_h2

def k0_off485 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c11_i32_1247 : BitVec 32 := 11#32
  let v2424 : BitVec 32 := Scalar.addi v2159 c11_i32_1247
  let v2425 : Index := Scalar.indexCast v2424
  ![v2425.toNat]
def k0_off486 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c11_i32_1249 : BitVec 32 := 11#32
  let c0_i32_1250 : BitVec 32 := 0#32
  let c0_i32_1251 : BitVec 32 := 0#32
  ![v2158.toNat, 11, 0, 0]
def k0_off487 (v2426 : BitVec 32) : Fin 3 → Nat :=
  let c0_i32_1252 : BitVec 32 := 0#32
  let c0_i32_1253 : BitVec 32 := 0#32
  ![v2426.toNat, 0, 0]

def k0_chk279 (i : grid0.Coords) (v2426 : BitVec 32) : Prop :=
  (∀ (k0_h2 : k0_cond2 i = 1#1), ∀ a, (k0_off487 v2426) a + S1x128x64.size a ≤ S4096x128x64.size a)
theorem k0_off487_inb : ∀ (i : grid0.Coords) (v2426 : BitVec 32) (k0_hw279 : k0_chk279 i v2426), ∀ (k0_h2 : k0_cond2 i = 1#1), ∀ a, (k0_off487 v2426) a + S1x128x64.size a ≤ S4096x128x64.size a := fun i v2426 k0_hw279 k0_h2 => k0_hw279 k0_h2

def k0_off488 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off489 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c11_i32_1254 : BitVec 32 := 11#32
  let c0_i32_1255 : BitVec 32 := 0#32
  let c0_i32_1256 : BitVec 32 := 0#32
  ![v2158.toNat, 11, 0, 0]
def k0_off490 (v2429 : BitVec 32) : Fin 3 → Nat :=
  let c0_i32_1257 : BitVec 32 := 0#32
  let c0_i32_1258 : BitVec 32 := 0#32
  ![v2429.toNat, 0, 0]

def k0_off491 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off492 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c11_i32_1259 : BitVec 32 := 11#32
  let c0_i32_1260 : BitVec 32 := 0#32
  let c0_i32_1261 : BitVec 32 := 0#32
  ![v2158.toNat, 11, 0, 0]
def k0_off493 (v2429 : BitVec 32) : Fin 3 → Nat :=
  let c0_i32_1262 : BitVec 32 := 0#32
  let c0_i32_1263 : BitVec 32 := 0#32
  ![v2429.toNat, 0, 0]

def k0_chk280 (i : grid0.Coords) (v2429 : BitVec 32) : Prop :=
  (∀ (k0_h2 : k0_cond2 i = 1#1), ∀ a, (k0_off490 v2429) a + S1x128x128.size a ≤ S1024x128x128.size a) ∧
  (∀ (k0_h2 : k0_cond2 i = 1#1), ∀ (hinb : ∀ a, (k0_off490 v2429) a + S1x128x128.size a ≤ S1024x128x128.size a), (Rect.unit (s := S1024x128x128) (k0_off490 v2429) S1x128x128.size hinb).WholeWords (EltTy.packing .bf16)) ∧
  (∀ (k0_h2 : k0_cond2 i = 1#1), ∀ a, (k0_off493 v2429) a + S1x1x128.size a ≤ S1024x1x128.size a)
theorem k0_off490_inb : ∀ (i : grid0.Coords) (v2429 : BitVec 32) (k0_hw280 : k0_chk280 i v2429), ∀ (k0_h2 : k0_cond2 i = 1#1), ∀ a, (k0_off490 v2429) a + S1x128x128.size a ≤ S1024x128x128.size a := fun i v2429 k0_hw280 k0_h2 => k0_hw280.1 k0_h2
theorem k0_off490_wordsbf16 : ∀ (i : grid0.Coords) (v2429 : BitVec 32) (k0_hw280 : k0_chk280 i v2429), ∀ (k0_h2 : k0_cond2 i = 1#1), (Rect.unit (s := S1024x128x128) (k0_off490 v2429) S1x128x128.size (k0_off490_inb i v2429 k0_hw280 k0_h2)).WholeWords (EltTy.packing .bf16) := fun i v2429 k0_hw280 k0_h2 => k0_hw280.2.1 k0_h2 (k0_off490_inb i v2429 k0_hw280 k0_h2)
theorem k0_off493_inb : ∀ (i : grid0.Coords) (v2429 : BitVec 32) (k0_hw280 : k0_chk280 i v2429), ∀ (k0_h2 : k0_cond2 i = 1#1), ∀ a, (k0_off493 v2429) a + S1x1x128.size a ≤ S1024x1x128.size a := fun i v2429 k0_hw280 k0_h2 => k0_hw280.2.2 k0_h2

def k0_off494 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c12_i32_1264 : BitVec 32 := 12#32
  let v2448 : BitVec 32 := Scalar.addi v2159 c12_i32_1264
  let v2449 : Index := Scalar.indexCast v2448
  ![v2449.toNat]
def k0_off495 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c12_i32_1266 : BitVec 32 := 12#32
  let c0_i32_1267 : BitVec 32 := 0#32
  let c0_i32_1268 : BitVec 32 := 0#32
  ![v2158.toNat, 12, 0, 0]
def k0_off496 (v2450 : BitVec 32) : Fin 3 → Nat :=
  let c0_i32_1269 : BitVec 32 := 0#32
  let c0_i32_1270 : BitVec 32 := 0#32
  ![v2450.toNat, 0, 0]

def k0_chk281 (i : grid0.Coords) (v2450 : BitVec 32) : Prop :=
  (∀ (k0_h2 : k0_cond2 i = 1#1), ∀ a, (k0_off496 v2450) a + S1x128x64.size a ≤ S4096x128x64.size a)
theorem k0_off496_inb : ∀ (i : grid0.Coords) (v2450 : BitVec 32) (k0_hw281 : k0_chk281 i v2450), ∀ (k0_h2 : k0_cond2 i = 1#1), ∀ a, (k0_off496 v2450) a + S1x128x64.size a ≤ S4096x128x64.size a := fun i v2450 k0_hw281 k0_h2 => k0_hw281 k0_h2

def k0_off497 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off498 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c12_i32_1271 : BitVec 32 := 12#32
  let c0_i32_1272 : BitVec 32 := 0#32
  let c0_i32_1273 : BitVec 32 := 0#32
  ![v2158.toNat, 12, 0, 0]
def k0_off499 (v2453 : BitVec 32) : Fin 3 → Nat :=
  let c0_i32_1274 : BitVec 32 := 0#32
  let c0_i32_1275 : BitVec 32 := 0#32
  ![v2453.toNat, 0, 0]

def k0_off500 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off501 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c12_i32_1276 : BitVec 32 := 12#32
  let c0_i32_1277 : BitVec 32 := 0#32
  let c0_i32_1278 : BitVec 32 := 0#32
  ![v2158.toNat, 12, 0, 0]
def k0_off502 (v2453 : BitVec 32) : Fin 3 → Nat :=
  let c0_i32_1279 : BitVec 32 := 0#32
  let c0_i32_1280 : BitVec 32 := 0#32
  ![v2453.toNat, 0, 0]

def k0_chk282 (i : grid0.Coords) (v2453 : BitVec 32) : Prop :=
  (∀ (k0_h2 : k0_cond2 i = 1#1), ∀ a, (k0_off499 v2453) a + S1x128x128.size a ≤ S1024x128x128.size a) ∧
  (∀ (k0_h2 : k0_cond2 i = 1#1), ∀ (hinb : ∀ a, (k0_off499 v2453) a + S1x128x128.size a ≤ S1024x128x128.size a), (Rect.unit (s := S1024x128x128) (k0_off499 v2453) S1x128x128.size hinb).WholeWords (EltTy.packing .bf16)) ∧
  (∀ (k0_h2 : k0_cond2 i = 1#1), ∀ a, (k0_off502 v2453) a + S1x1x128.size a ≤ S1024x1x128.size a)
theorem k0_off499_inb : ∀ (i : grid0.Coords) (v2453 : BitVec 32) (k0_hw282 : k0_chk282 i v2453), ∀ (k0_h2 : k0_cond2 i = 1#1), ∀ a, (k0_off499 v2453) a + S1x128x128.size a ≤ S1024x128x128.size a := fun i v2453 k0_hw282 k0_h2 => k0_hw282.1 k0_h2
theorem k0_off499_wordsbf16 : ∀ (i : grid0.Coords) (v2453 : BitVec 32) (k0_hw282 : k0_chk282 i v2453), ∀ (k0_h2 : k0_cond2 i = 1#1), (Rect.unit (s := S1024x128x128) (k0_off499 v2453) S1x128x128.size (k0_off499_inb i v2453 k0_hw282 k0_h2)).WholeWords (EltTy.packing .bf16) := fun i v2453 k0_hw282 k0_h2 => k0_hw282.2.1 k0_h2 (k0_off499_inb i v2453 k0_hw282 k0_h2)
theorem k0_off502_inb : ∀ (i : grid0.Coords) (v2453 : BitVec 32) (k0_hw282 : k0_chk282 i v2453), ∀ (k0_h2 : k0_cond2 i = 1#1), ∀ a, (k0_off502 v2453) a + S1x1x128.size a ≤ S1024x1x128.size a := fun i v2453 k0_hw282 k0_h2 => k0_hw282.2.2 k0_h2

def k0_off503 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c13_i32_1281 : BitVec 32 := 13#32
  let v2472 : BitVec 32 := Scalar.addi v2159 c13_i32_1281
  let v2473 : Index := Scalar.indexCast v2472
  ![v2473.toNat]
def k0_off504 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c13_i32_1283 : BitVec 32 := 13#32
  let c0_i32_1284 : BitVec 32 := 0#32
  let c0_i32_1285 : BitVec 32 := 0#32
  ![v2158.toNat, 13, 0, 0]
def k0_off505 (v2474 : BitVec 32) : Fin 3 → Nat :=
  let c0_i32_1286 : BitVec 32 := 0#32
  let c0_i32_1287 : BitVec 32 := 0#32
  ![v2474.toNat, 0, 0]

def k0_chk283 (i : grid0.Coords) (v2474 : BitVec 32) : Prop :=
  (∀ (k0_h2 : k0_cond2 i = 1#1), ∀ a, (k0_off505 v2474) a + S1x128x64.size a ≤ S4096x128x64.size a)
theorem k0_off505_inb : ∀ (i : grid0.Coords) (v2474 : BitVec 32) (k0_hw283 : k0_chk283 i v2474), ∀ (k0_h2 : k0_cond2 i = 1#1), ∀ a, (k0_off505 v2474) a + S1x128x64.size a ≤ S4096x128x64.size a := fun i v2474 k0_hw283 k0_h2 => k0_hw283 k0_h2

def k0_off506 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off507 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c13_i32_1288 : BitVec 32 := 13#32
  let c0_i32_1289 : BitVec 32 := 0#32
  let c0_i32_1290 : BitVec 32 := 0#32
  ![v2158.toNat, 13, 0, 0]
def k0_off508 (v2477 : BitVec 32) : Fin 3 → Nat :=
  let c0_i32_1291 : BitVec 32 := 0#32
  let c0_i32_1292 : BitVec 32 := 0#32
  ![v2477.toNat, 0, 0]

def k0_off509 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off510 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c13_i32_1293 : BitVec 32 := 13#32
  let c0_i32_1294 : BitVec 32 := 0#32
  let c0_i32_1295 : BitVec 32 := 0#32
  ![v2158.toNat, 13, 0, 0]
def k0_off511 (v2477 : BitVec 32) : Fin 3 → Nat :=
  let c0_i32_1296 : BitVec 32 := 0#32
  let c0_i32_1297 : BitVec 32 := 0#32
  ![v2477.toNat, 0, 0]

def k0_chk284 (i : grid0.Coords) (v2477 : BitVec 32) : Prop :=
  (∀ (k0_h2 : k0_cond2 i = 1#1), ∀ a, (k0_off508 v2477) a + S1x128x128.size a ≤ S1024x128x128.size a) ∧
  (∀ (k0_h2 : k0_cond2 i = 1#1), ∀ (hinb : ∀ a, (k0_off508 v2477) a + S1x128x128.size a ≤ S1024x128x128.size a), (Rect.unit (s := S1024x128x128) (k0_off508 v2477) S1x128x128.size hinb).WholeWords (EltTy.packing .bf16)) ∧
  (∀ (k0_h2 : k0_cond2 i = 1#1), ∀ a, (k0_off511 v2477) a + S1x1x128.size a ≤ S1024x1x128.size a)
theorem k0_off508_inb : ∀ (i : grid0.Coords) (v2477 : BitVec 32) (k0_hw284 : k0_chk284 i v2477), ∀ (k0_h2 : k0_cond2 i = 1#1), ∀ a, (k0_off508 v2477) a + S1x128x128.size a ≤ S1024x128x128.size a := fun i v2477 k0_hw284 k0_h2 => k0_hw284.1 k0_h2
theorem k0_off508_wordsbf16 : ∀ (i : grid0.Coords) (v2477 : BitVec 32) (k0_hw284 : k0_chk284 i v2477), ∀ (k0_h2 : k0_cond2 i = 1#1), (Rect.unit (s := S1024x128x128) (k0_off508 v2477) S1x128x128.size (k0_off508_inb i v2477 k0_hw284 k0_h2)).WholeWords (EltTy.packing .bf16) := fun i v2477 k0_hw284 k0_h2 => k0_hw284.2.1 k0_h2 (k0_off508_inb i v2477 k0_hw284 k0_h2)
theorem k0_off511_inb : ∀ (i : grid0.Coords) (v2477 : BitVec 32) (k0_hw284 : k0_chk284 i v2477), ∀ (k0_h2 : k0_cond2 i = 1#1), ∀ a, (k0_off511 v2477) a + S1x1x128.size a ≤ S1024x1x128.size a := fun i v2477 k0_hw284 k0_h2 => k0_hw284.2.2 k0_h2

def k0_off512 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c14_i32_1298 : BitVec 32 := 14#32
  let v2496 : BitVec 32 := Scalar.addi v2159 c14_i32_1298
  let v2497 : Index := Scalar.indexCast v2496
  ![v2497.toNat]
def k0_off513 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c14_i32_1300 : BitVec 32 := 14#32
  let c0_i32_1301 : BitVec 32 := 0#32
  let c0_i32_1302 : BitVec 32 := 0#32
  ![v2158.toNat, 14, 0, 0]
def k0_off514 (v2498 : BitVec 32) : Fin 3 → Nat :=
  let c0_i32_1303 : BitVec 32 := 0#32
  let c0_i32_1304 : BitVec 32 := 0#32
  ![v2498.toNat, 0, 0]

def k0_chk285 (i : grid0.Coords) (v2498 : BitVec 32) : Prop :=
  (∀ (k0_h2 : k0_cond2 i = 1#1), ∀ a, (k0_off514 v2498) a + S1x128x64.size a ≤ S4096x128x64.size a)
theorem k0_off514_inb : ∀ (i : grid0.Coords) (v2498 : BitVec 32) (k0_hw285 : k0_chk285 i v2498), ∀ (k0_h2 : k0_cond2 i = 1#1), ∀ a, (k0_off514 v2498) a + S1x128x64.size a ≤ S4096x128x64.size a := fun i v2498 k0_hw285 k0_h2 => k0_hw285 k0_h2

def k0_off515 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off516 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c14_i32_1305 : BitVec 32 := 14#32
  let c0_i32_1306 : BitVec 32 := 0#32
  let c0_i32_1307 : BitVec 32 := 0#32
  ![v2158.toNat, 14, 0, 0]
def k0_off517 (v2501 : BitVec 32) : Fin 3 → Nat :=
  let c0_i32_1308 : BitVec 32 := 0#32
  let c0_i32_1309 : BitVec 32 := 0#32
  ![v2501.toNat, 0, 0]

def k0_off518 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off519 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c14_i32_1310 : BitVec 32 := 14#32
  let c0_i32_1311 : BitVec 32 := 0#32
  let c0_i32_1312 : BitVec 32 := 0#32
  ![v2158.toNat, 14, 0, 0]
def k0_off520 (v2501 : BitVec 32) : Fin 3 → Nat :=
  let c0_i32_1313 : BitVec 32 := 0#32
  let c0_i32_1314 : BitVec 32 := 0#32
  ![v2501.toNat, 0, 0]

def k0_chk286 (i : grid0.Coords) (v2501 : BitVec 32) : Prop :=
  (∀ (k0_h2 : k0_cond2 i = 1#1), ∀ a, (k0_off517 v2501) a + S1x128x128.size a ≤ S1024x128x128.size a) ∧
  (∀ (k0_h2 : k0_cond2 i = 1#1), ∀ (hinb : ∀ a, (k0_off517 v2501) a + S1x128x128.size a ≤ S1024x128x128.size a), (Rect.unit (s := S1024x128x128) (k0_off517 v2501) S1x128x128.size hinb).WholeWords (EltTy.packing .bf16)) ∧
  (∀ (k0_h2 : k0_cond2 i = 1#1), ∀ a, (k0_off520 v2501) a + S1x1x128.size a ≤ S1024x1x128.size a)
theorem k0_off517_inb : ∀ (i : grid0.Coords) (v2501 : BitVec 32) (k0_hw286 : k0_chk286 i v2501), ∀ (k0_h2 : k0_cond2 i = 1#1), ∀ a, (k0_off517 v2501) a + S1x128x128.size a ≤ S1024x128x128.size a := fun i v2501 k0_hw286 k0_h2 => k0_hw286.1 k0_h2
theorem k0_off517_wordsbf16 : ∀ (i : grid0.Coords) (v2501 : BitVec 32) (k0_hw286 : k0_chk286 i v2501), ∀ (k0_h2 : k0_cond2 i = 1#1), (Rect.unit (s := S1024x128x128) (k0_off517 v2501) S1x128x128.size (k0_off517_inb i v2501 k0_hw286 k0_h2)).WholeWords (EltTy.packing .bf16) := fun i v2501 k0_hw286 k0_h2 => k0_hw286.2.1 k0_h2 (k0_off517_inb i v2501 k0_hw286 k0_h2)
theorem k0_off520_inb : ∀ (i : grid0.Coords) (v2501 : BitVec 32) (k0_hw286 : k0_chk286 i v2501), ∀ (k0_h2 : k0_cond2 i = 1#1), ∀ a, (k0_off520 v2501) a + S1x1x128.size a ≤ S1024x1x128.size a := fun i v2501 k0_hw286 k0_h2 => k0_hw286.2.2 k0_h2

def k0_off521 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c15_i32_1315 : BitVec 32 := 15#32
  let v2520 : BitVec 32 := Scalar.addi v2159 c15_i32_1315
  let v2521 : Index := Scalar.indexCast v2520
  ![v2521.toNat]
def k0_off522 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c15_i32_1317 : BitVec 32 := 15#32
  let c0_i32_1318 : BitVec 32 := 0#32
  let c0_i32_1319 : BitVec 32 := 0#32
  ![v2158.toNat, 15, 0, 0]
def k0_off523 (v2522 : BitVec 32) : Fin 3 → Nat :=
  let c0_i32_1320 : BitVec 32 := 0#32
  let c0_i32_1321 : BitVec 32 := 0#32
  ![v2522.toNat, 0, 0]

def k0_chk287 (i : grid0.Coords) (v2522 : BitVec 32) : Prop :=
  (∀ (k0_h2 : k0_cond2 i = 1#1), ∀ a, (k0_off523 v2522) a + S1x128x64.size a ≤ S4096x128x64.size a)
theorem k0_off523_inb : ∀ (i : grid0.Coords) (v2522 : BitVec 32) (k0_hw287 : k0_chk287 i v2522), ∀ (k0_h2 : k0_cond2 i = 1#1), ∀ a, (k0_off523 v2522) a + S1x128x64.size a ≤ S4096x128x64.size a := fun i v2522 k0_hw287 k0_h2 => k0_hw287 k0_h2

def k0_off524 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off525 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c15_i32_1322 : BitVec 32 := 15#32
  let c0_i32_1323 : BitVec 32 := 0#32
  let c0_i32_1324 : BitVec 32 := 0#32
  ![v2158.toNat, 15, 0, 0]
def k0_off526 (v2525 : BitVec 32) : Fin 3 → Nat :=
  let c0_i32_1325 : BitVec 32 := 0#32
  let c0_i32_1326 : BitVec 32 := 0#32
  ![v2525.toNat, 0, 0]

def k0_off527 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off528 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c15_i32_1327 : BitVec 32 := 15#32
  let c0_i32_1328 : BitVec 32 := 0#32
  let c0_i32_1329 : BitVec 32 := 0#32
  ![v2158.toNat, 15, 0, 0]
def k0_off529 (v2525 : BitVec 32) : Fin 3 → Nat :=
  let c0_i32_1330 : BitVec 32 := 0#32
  let c0_i32_1331 : BitVec 32 := 0#32
  ![v2525.toNat, 0, 0]

def k0_chk288 (i : grid0.Coords) (v2525 : BitVec 32) : Prop :=
  (∀ (k0_h2 : k0_cond2 i = 1#1), ∀ a, (k0_off526 v2525) a + S1x128x128.size a ≤ S1024x128x128.size a) ∧
  (∀ (k0_h2 : k0_cond2 i = 1#1), ∀ (hinb : ∀ a, (k0_off526 v2525) a + S1x128x128.size a ≤ S1024x128x128.size a), (Rect.unit (s := S1024x128x128) (k0_off526 v2525) S1x128x128.size hinb).WholeWords (EltTy.packing .bf16)) ∧
  (∀ (k0_h2 : k0_cond2 i = 1#1), ∀ a, (k0_off529 v2525) a + S1x1x128.size a ≤ S1024x1x128.size a)
theorem k0_off526_inb : ∀ (i : grid0.Coords) (v2525 : BitVec 32) (k0_hw288 : k0_chk288 i v2525), ∀ (k0_h2 : k0_cond2 i = 1#1), ∀ a, (k0_off526 v2525) a + S1x128x128.size a ≤ S1024x128x128.size a := fun i v2525 k0_hw288 k0_h2 => k0_hw288.1 k0_h2
theorem k0_off526_wordsbf16 : ∀ (i : grid0.Coords) (v2525 : BitVec 32) (k0_hw288 : k0_chk288 i v2525), ∀ (k0_h2 : k0_cond2 i = 1#1), (Rect.unit (s := S1024x128x128) (k0_off526 v2525) S1x128x128.size (k0_off526_inb i v2525 k0_hw288 k0_h2)).WholeWords (EltTy.packing .bf16) := fun i v2525 k0_hw288 k0_h2 => k0_hw288.2.1 k0_h2 (k0_off526_inb i v2525 k0_hw288 k0_h2)
theorem k0_off529_inb : ∀ (i : grid0.Coords) (v2525 : BitVec 32) (k0_hw288 : k0_chk288 i v2525), ∀ (k0_h2 : k0_cond2 i = 1#1), ∀ a, (k0_off529 v2525) a + S1x1x128.size a ≤ S1024x1x128.size a := fun i v2525 k0_hw288 k0_h2 => k0_hw288.2.2 k0_h2

def k0_off530 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c16_i32_1332 : BitVec 32 := 16#32
  let v2544 : BitVec 32 := Scalar.addi v2159 c16_i32_1332
  let v2545 : Index := Scalar.indexCast v2544
  ![v2545.toNat]
def k0_off531 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c16_i32_1334 : BitVec 32 := 16#32
  let c0_i32_1335 : BitVec 32 := 0#32
  let c0_i32_1336 : BitVec 32 := 0#32
  ![v2158.toNat, 16, 0, 0]
def k0_off532 (v2546 : BitVec 32) : Fin 3 → Nat :=
  let c0_i32_1337 : BitVec 32 := 0#32
  let c0_i32_1338 : BitVec 32 := 0#32
  ![v2546.toNat, 0, 0]

def k0_chk289 (i : grid0.Coords) (v2546 : BitVec 32) : Prop :=
  (∀ (k0_h2 : k0_cond2 i = 1#1), ∀ a, (k0_off532 v2546) a + S1x128x64.size a ≤ S4096x128x64.size a)
theorem k0_off532_inb : ∀ (i : grid0.Coords) (v2546 : BitVec 32) (k0_hw289 : k0_chk289 i v2546), ∀ (k0_h2 : k0_cond2 i = 1#1), ∀ a, (k0_off532 v2546) a + S1x128x64.size a ≤ S4096x128x64.size a := fun i v2546 k0_hw289 k0_h2 => k0_hw289 k0_h2

def k0_off533 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off534 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c16_i32_1339 : BitVec 32 := 16#32
  let c0_i32_1340 : BitVec 32 := 0#32
  let c0_i32_1341 : BitVec 32 := 0#32
  ![v2158.toNat, 16, 0, 0]
def k0_off535 (v2549 : BitVec 32) : Fin 3 → Nat :=
  let c0_i32_1342 : BitVec 32 := 0#32
  let c0_i32_1343 : BitVec 32 := 0#32
  ![v2549.toNat, 0, 0]

def k0_off536 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off537 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c16_i32_1344 : BitVec 32 := 16#32
  let c0_i32_1345 : BitVec 32 := 0#32
  let c0_i32_1346 : BitVec 32 := 0#32
  ![v2158.toNat, 16, 0, 0]
def k0_off538 (v2549 : BitVec 32) : Fin 3 → Nat :=
  let c0_i32_1347 : BitVec 32 := 0#32
  let c0_i32_1348 : BitVec 32 := 0#32
  ![v2549.toNat, 0, 0]

def k0_chk290 (i : grid0.Coords) (v2549 : BitVec 32) : Prop :=
  (∀ (k0_h2 : k0_cond2 i = 1#1), ∀ a, (k0_off535 v2549) a + S1x128x128.size a ≤ S1024x128x128.size a) ∧
  (∀ (k0_h2 : k0_cond2 i = 1#1), ∀ (hinb : ∀ a, (k0_off535 v2549) a + S1x128x128.size a ≤ S1024x128x128.size a), (Rect.unit (s := S1024x128x128) (k0_off535 v2549) S1x128x128.size hinb).WholeWords (EltTy.packing .bf16)) ∧
  (∀ (k0_h2 : k0_cond2 i = 1#1), ∀ a, (k0_off538 v2549) a + S1x1x128.size a ≤ S1024x1x128.size a)
theorem k0_off535_inb : ∀ (i : grid0.Coords) (v2549 : BitVec 32) (k0_hw290 : k0_chk290 i v2549), ∀ (k0_h2 : k0_cond2 i = 1#1), ∀ a, (k0_off535 v2549) a + S1x128x128.size a ≤ S1024x128x128.size a := fun i v2549 k0_hw290 k0_h2 => k0_hw290.1 k0_h2
theorem k0_off535_wordsbf16 : ∀ (i : grid0.Coords) (v2549 : BitVec 32) (k0_hw290 : k0_chk290 i v2549), ∀ (k0_h2 : k0_cond2 i = 1#1), (Rect.unit (s := S1024x128x128) (k0_off535 v2549) S1x128x128.size (k0_off535_inb i v2549 k0_hw290 k0_h2)).WholeWords (EltTy.packing .bf16) := fun i v2549 k0_hw290 k0_h2 => k0_hw290.2.1 k0_h2 (k0_off535_inb i v2549 k0_hw290 k0_h2)
theorem k0_off538_inb : ∀ (i : grid0.Coords) (v2549 : BitVec 32) (k0_hw290 : k0_chk290 i v2549), ∀ (k0_h2 : k0_cond2 i = 1#1), ∀ a, (k0_off538 v2549) a + S1x1x128.size a ≤ S1024x1x128.size a := fun i v2549 k0_hw290 k0_h2 => k0_hw290.2.2 k0_h2

def k0_off539 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c17_i32_1349 : BitVec 32 := 17#32
  let v2568 : BitVec 32 := Scalar.addi v2159 c17_i32_1349
  let v2569 : Index := Scalar.indexCast v2568
  ![v2569.toNat]
def k0_off540 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c17_i32_1351 : BitVec 32 := 17#32
  let c0_i32_1352 : BitVec 32 := 0#32
  let c0_i32_1353 : BitVec 32 := 0#32
  ![v2158.toNat, 17, 0, 0]
def k0_off541 (v2570 : BitVec 32) : Fin 3 → Nat :=
  let c0_i32_1354 : BitVec 32 := 0#32
  let c0_i32_1355 : BitVec 32 := 0#32
  ![v2570.toNat, 0, 0]

def k0_chk291 (i : grid0.Coords) (v2570 : BitVec 32) : Prop :=
  (∀ (k0_h2 : k0_cond2 i = 1#1), ∀ a, (k0_off541 v2570) a + S1x128x64.size a ≤ S4096x128x64.size a)
theorem k0_off541_inb : ∀ (i : grid0.Coords) (v2570 : BitVec 32) (k0_hw291 : k0_chk291 i v2570), ∀ (k0_h2 : k0_cond2 i = 1#1), ∀ a, (k0_off541 v2570) a + S1x128x64.size a ≤ S4096x128x64.size a := fun i v2570 k0_hw291 k0_h2 => k0_hw291 k0_h2

def k0_off542 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off543 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c17_i32_1356 : BitVec 32 := 17#32
  let c0_i32_1357 : BitVec 32 := 0#32
  let c0_i32_1358 : BitVec 32 := 0#32
  ![v2158.toNat, 17, 0, 0]
def k0_off544 (v2573 : BitVec 32) : Fin 3 → Nat :=
  let c0_i32_1359 : BitVec 32 := 0#32
  let c0_i32_1360 : BitVec 32 := 0#32
  ![v2573.toNat, 0, 0]

def k0_off545 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off546 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c17_i32_1361 : BitVec 32 := 17#32
  let c0_i32_1362 : BitVec 32 := 0#32
  let c0_i32_1363 : BitVec 32 := 0#32
  ![v2158.toNat, 17, 0, 0]
def k0_off547 (v2573 : BitVec 32) : Fin 3 → Nat :=
  let c0_i32_1364 : BitVec 32 := 0#32
  let c0_i32_1365 : BitVec 32 := 0#32
  ![v2573.toNat, 0, 0]

def k0_chk292 (i : grid0.Coords) (v2573 : BitVec 32) : Prop :=
  (∀ (k0_h2 : k0_cond2 i = 1#1), ∀ a, (k0_off544 v2573) a + S1x128x128.size a ≤ S1024x128x128.size a) ∧
  (∀ (k0_h2 : k0_cond2 i = 1#1), ∀ (hinb : ∀ a, (k0_off544 v2573) a + S1x128x128.size a ≤ S1024x128x128.size a), (Rect.unit (s := S1024x128x128) (k0_off544 v2573) S1x128x128.size hinb).WholeWords (EltTy.packing .bf16)) ∧
  (∀ (k0_h2 : k0_cond2 i = 1#1), ∀ a, (k0_off547 v2573) a + S1x1x128.size a ≤ S1024x1x128.size a)
theorem k0_off544_inb : ∀ (i : grid0.Coords) (v2573 : BitVec 32) (k0_hw292 : k0_chk292 i v2573), ∀ (k0_h2 : k0_cond2 i = 1#1), ∀ a, (k0_off544 v2573) a + S1x128x128.size a ≤ S1024x128x128.size a := fun i v2573 k0_hw292 k0_h2 => k0_hw292.1 k0_h2
theorem k0_off544_wordsbf16 : ∀ (i : grid0.Coords) (v2573 : BitVec 32) (k0_hw292 : k0_chk292 i v2573), ∀ (k0_h2 : k0_cond2 i = 1#1), (Rect.unit (s := S1024x128x128) (k0_off544 v2573) S1x128x128.size (k0_off544_inb i v2573 k0_hw292 k0_h2)).WholeWords (EltTy.packing .bf16) := fun i v2573 k0_hw292 k0_h2 => k0_hw292.2.1 k0_h2 (k0_off544_inb i v2573 k0_hw292 k0_h2)
theorem k0_off547_inb : ∀ (i : grid0.Coords) (v2573 : BitVec 32) (k0_hw292 : k0_chk292 i v2573), ∀ (k0_h2 : k0_cond2 i = 1#1), ∀ a, (k0_off547 v2573) a + S1x1x128.size a ≤ S1024x1x128.size a := fun i v2573 k0_hw292 k0_h2 => k0_hw292.2.2 k0_h2

def k0_off548 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c18_i32_1366 : BitVec 32 := 18#32
  let v2592 : BitVec 32 := Scalar.addi v2159 c18_i32_1366
  let v2593 : Index := Scalar.indexCast v2592
  ![v2593.toNat]
def k0_off549 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c18_i32_1368 : BitVec 32 := 18#32
  let c0_i32_1369 : BitVec 32 := 0#32
  let c0_i32_1370 : BitVec 32 := 0#32
  ![v2158.toNat, 18, 0, 0]
def k0_off550 (v2594 : BitVec 32) : Fin 3 → Nat :=
  let c0_i32_1371 : BitVec 32 := 0#32
  let c0_i32_1372 : BitVec 32 := 0#32
  ![v2594.toNat, 0, 0]

def k0_chk293 (i : grid0.Coords) (v2594 : BitVec 32) : Prop :=
  (∀ (k0_h2 : k0_cond2 i = 1#1), ∀ a, (k0_off550 v2594) a + S1x128x64.size a ≤ S4096x128x64.size a)
theorem k0_off550_inb : ∀ (i : grid0.Coords) (v2594 : BitVec 32) (k0_hw293 : k0_chk293 i v2594), ∀ (k0_h2 : k0_cond2 i = 1#1), ∀ a, (k0_off550 v2594) a + S1x128x64.size a ≤ S4096x128x64.size a := fun i v2594 k0_hw293 k0_h2 => k0_hw293 k0_h2

def k0_off551 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off552 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c18_i32_1373 : BitVec 32 := 18#32
  let c0_i32_1374 : BitVec 32 := 0#32
  let c0_i32_1375 : BitVec 32 := 0#32
  ![v2158.toNat, 18, 0, 0]
def k0_off553 (v2597 : BitVec 32) : Fin 3 → Nat :=
  let c0_i32_1376 : BitVec 32 := 0#32
  let c0_i32_1377 : BitVec 32 := 0#32
  ![v2597.toNat, 0, 0]

def k0_off554 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off555 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c18_i32_1378 : BitVec 32 := 18#32
  let c0_i32_1379 : BitVec 32 := 0#32
  let c0_i32_1380 : BitVec 32 := 0#32
  ![v2158.toNat, 18, 0, 0]
def k0_off556 (v2597 : BitVec 32) : Fin 3 → Nat :=
  let c0_i32_1381 : BitVec 32 := 0#32
  let c0_i32_1382 : BitVec 32 := 0#32
  ![v2597.toNat, 0, 0]

def k0_chk294 (i : grid0.Coords) (v2597 : BitVec 32) : Prop :=
  (∀ (k0_h2 : k0_cond2 i = 1#1), ∀ a, (k0_off553 v2597) a + S1x128x128.size a ≤ S1024x128x128.size a) ∧
  (∀ (k0_h2 : k0_cond2 i = 1#1), ∀ (hinb : ∀ a, (k0_off553 v2597) a + S1x128x128.size a ≤ S1024x128x128.size a), (Rect.unit (s := S1024x128x128) (k0_off553 v2597) S1x128x128.size hinb).WholeWords (EltTy.packing .bf16)) ∧
  (∀ (k0_h2 : k0_cond2 i = 1#1), ∀ a, (k0_off556 v2597) a + S1x1x128.size a ≤ S1024x1x128.size a)
theorem k0_off553_inb : ∀ (i : grid0.Coords) (v2597 : BitVec 32) (k0_hw294 : k0_chk294 i v2597), ∀ (k0_h2 : k0_cond2 i = 1#1), ∀ a, (k0_off553 v2597) a + S1x128x128.size a ≤ S1024x128x128.size a := fun i v2597 k0_hw294 k0_h2 => k0_hw294.1 k0_h2
theorem k0_off553_wordsbf16 : ∀ (i : grid0.Coords) (v2597 : BitVec 32) (k0_hw294 : k0_chk294 i v2597), ∀ (k0_h2 : k0_cond2 i = 1#1), (Rect.unit (s := S1024x128x128) (k0_off553 v2597) S1x128x128.size (k0_off553_inb i v2597 k0_hw294 k0_h2)).WholeWords (EltTy.packing .bf16) := fun i v2597 k0_hw294 k0_h2 => k0_hw294.2.1 k0_h2 (k0_off553_inb i v2597 k0_hw294 k0_h2)
theorem k0_off556_inb : ∀ (i : grid0.Coords) (v2597 : BitVec 32) (k0_hw294 : k0_chk294 i v2597), ∀ (k0_h2 : k0_cond2 i = 1#1), ∀ a, (k0_off556 v2597) a + S1x1x128.size a ≤ S1024x1x128.size a := fun i v2597 k0_hw294 k0_h2 => k0_hw294.2.2 k0_h2

def k0_off557 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c19_i32_1383 : BitVec 32 := 19#32
  let v2616 : BitVec 32 := Scalar.addi v2159 c19_i32_1383
  let v2617 : Index := Scalar.indexCast v2616
  ![v2617.toNat]
def k0_off558 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c19_i32_1385 : BitVec 32 := 19#32
  let c0_i32_1386 : BitVec 32 := 0#32
  let c0_i32_1387 : BitVec 32 := 0#32
  ![v2158.toNat, 19, 0, 0]
def k0_off559 (v2618 : BitVec 32) : Fin 3 → Nat :=
  let c0_i32_1388 : BitVec 32 := 0#32
  let c0_i32_1389 : BitVec 32 := 0#32
  ![v2618.toNat, 0, 0]

def k0_chk295 (i : grid0.Coords) (v2618 : BitVec 32) : Prop :=
  (∀ (k0_h2 : k0_cond2 i = 1#1), ∀ a, (k0_off559 v2618) a + S1x128x64.size a ≤ S4096x128x64.size a)
theorem k0_off559_inb : ∀ (i : grid0.Coords) (v2618 : BitVec 32) (k0_hw295 : k0_chk295 i v2618), ∀ (k0_h2 : k0_cond2 i = 1#1), ∀ a, (k0_off559 v2618) a + S1x128x64.size a ≤ S4096x128x64.size a := fun i v2618 k0_hw295 k0_h2 => k0_hw295 k0_h2

def k0_off560 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off561 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c19_i32_1390 : BitVec 32 := 19#32
  let c0_i32_1391 : BitVec 32 := 0#32
  let c0_i32_1392 : BitVec 32 := 0#32
  ![v2158.toNat, 19, 0, 0]
def k0_off562 (v2621 : BitVec 32) : Fin 3 → Nat :=
  let c0_i32_1393 : BitVec 32 := 0#32
  let c0_i32_1394 : BitVec 32 := 0#32
  ![v2621.toNat, 0, 0]

def k0_off563 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off564 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c19_i32_1395 : BitVec 32 := 19#32
  let c0_i32_1396 : BitVec 32 := 0#32
  let c0_i32_1397 : BitVec 32 := 0#32
  ![v2158.toNat, 19, 0, 0]
def k0_off565 (v2621 : BitVec 32) : Fin 3 → Nat :=
  let c0_i32_1398 : BitVec 32 := 0#32
  let c0_i32_1399 : BitVec 32 := 0#32
  ![v2621.toNat, 0, 0]

def k0_chk296 (i : grid0.Coords) (v2621 : BitVec 32) : Prop :=
  (∀ (k0_h2 : k0_cond2 i = 1#1), ∀ a, (k0_off562 v2621) a + S1x128x128.size a ≤ S1024x128x128.size a) ∧
  (∀ (k0_h2 : k0_cond2 i = 1#1), ∀ (hinb : ∀ a, (k0_off562 v2621) a + S1x128x128.size a ≤ S1024x128x128.size a), (Rect.unit (s := S1024x128x128) (k0_off562 v2621) S1x128x128.size hinb).WholeWords (EltTy.packing .bf16)) ∧
  (∀ (k0_h2 : k0_cond2 i = 1#1), ∀ a, (k0_off565 v2621) a + S1x1x128.size a ≤ S1024x1x128.size a)
theorem k0_off562_inb : ∀ (i : grid0.Coords) (v2621 : BitVec 32) (k0_hw296 : k0_chk296 i v2621), ∀ (k0_h2 : k0_cond2 i = 1#1), ∀ a, (k0_off562 v2621) a + S1x128x128.size a ≤ S1024x128x128.size a := fun i v2621 k0_hw296 k0_h2 => k0_hw296.1 k0_h2
theorem k0_off562_wordsbf16 : ∀ (i : grid0.Coords) (v2621 : BitVec 32) (k0_hw296 : k0_chk296 i v2621), ∀ (k0_h2 : k0_cond2 i = 1#1), (Rect.unit (s := S1024x128x128) (k0_off562 v2621) S1x128x128.size (k0_off562_inb i v2621 k0_hw296 k0_h2)).WholeWords (EltTy.packing .bf16) := fun i v2621 k0_hw296 k0_h2 => k0_hw296.2.1 k0_h2 (k0_off562_inb i v2621 k0_hw296 k0_h2)
theorem k0_off565_inb : ∀ (i : grid0.Coords) (v2621 : BitVec 32) (k0_hw296 : k0_chk296 i v2621), ∀ (k0_h2 : k0_cond2 i = 1#1), ∀ a, (k0_off565 v2621) a + S1x1x128.size a ≤ S1024x1x128.size a := fun i v2621 k0_hw296 k0_h2 => k0_hw296.2.2 k0_h2

def k0_off566 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c20_i32_1400 : BitVec 32 := 20#32
  let v2640 : BitVec 32 := Scalar.addi v2159 c20_i32_1400
  let v2641 : Index := Scalar.indexCast v2640
  ![v2641.toNat]
def k0_off567 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c20_i32_1402 : BitVec 32 := 20#32
  let c0_i32_1403 : BitVec 32 := 0#32
  let c0_i32_1404 : BitVec 32 := 0#32
  ![v2158.toNat, 20, 0, 0]
def k0_off568 (v2642 : BitVec 32) : Fin 3 → Nat :=
  let c0_i32_1405 : BitVec 32 := 0#32
  let c0_i32_1406 : BitVec 32 := 0#32
  ![v2642.toNat, 0, 0]

def k0_chk297 (i : grid0.Coords) (v2642 : BitVec 32) : Prop :=
  (∀ (k0_h2 : k0_cond2 i = 1#1), ∀ a, (k0_off568 v2642) a + S1x128x64.size a ≤ S4096x128x64.size a)
theorem k0_off568_inb : ∀ (i : grid0.Coords) (v2642 : BitVec 32) (k0_hw297 : k0_chk297 i v2642), ∀ (k0_h2 : k0_cond2 i = 1#1), ∀ a, (k0_off568 v2642) a + S1x128x64.size a ≤ S4096x128x64.size a := fun i v2642 k0_hw297 k0_h2 => k0_hw297 k0_h2

def k0_off569 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off570 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c20_i32_1407 : BitVec 32 := 20#32
  let c0_i32_1408 : BitVec 32 := 0#32
  let c0_i32_1409 : BitVec 32 := 0#32
  ![v2158.toNat, 20, 0, 0]
def k0_off571 (v2645 : BitVec 32) : Fin 3 → Nat :=
  let c0_i32_1410 : BitVec 32 := 0#32
  let c0_i32_1411 : BitVec 32 := 0#32
  ![v2645.toNat, 0, 0]

def k0_off572 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off573 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c20_i32_1412 : BitVec 32 := 20#32
  let c0_i32_1413 : BitVec 32 := 0#32
  let c0_i32_1414 : BitVec 32 := 0#32
  ![v2158.toNat, 20, 0, 0]
def k0_off574 (v2645 : BitVec 32) : Fin 3 → Nat :=
  let c0_i32_1415 : BitVec 32 := 0#32
  let c0_i32_1416 : BitVec 32 := 0#32
  ![v2645.toNat, 0, 0]

def k0_chk298 (i : grid0.Coords) (v2645 : BitVec 32) : Prop :=
  (∀ (k0_h2 : k0_cond2 i = 1#1), ∀ a, (k0_off571 v2645) a + S1x128x128.size a ≤ S1024x128x128.size a) ∧
  (∀ (k0_h2 : k0_cond2 i = 1#1), ∀ (hinb : ∀ a, (k0_off571 v2645) a + S1x128x128.size a ≤ S1024x128x128.size a), (Rect.unit (s := S1024x128x128) (k0_off571 v2645) S1x128x128.size hinb).WholeWords (EltTy.packing .bf16)) ∧
  (∀ (k0_h2 : k0_cond2 i = 1#1), ∀ a, (k0_off574 v2645) a + S1x1x128.size a ≤ S1024x1x128.size a)
theorem k0_off571_inb : ∀ (i : grid0.Coords) (v2645 : BitVec 32) (k0_hw298 : k0_chk298 i v2645), ∀ (k0_h2 : k0_cond2 i = 1#1), ∀ a, (k0_off571 v2645) a + S1x128x128.size a ≤ S1024x128x128.size a := fun i v2645 k0_hw298 k0_h2 => k0_hw298.1 k0_h2
theorem k0_off571_wordsbf16 : ∀ (i : grid0.Coords) (v2645 : BitVec 32) (k0_hw298 : k0_chk298 i v2645), ∀ (k0_h2 : k0_cond2 i = 1#1), (Rect.unit (s := S1024x128x128) (k0_off571 v2645) S1x128x128.size (k0_off571_inb i v2645 k0_hw298 k0_h2)).WholeWords (EltTy.packing .bf16) := fun i v2645 k0_hw298 k0_h2 => k0_hw298.2.1 k0_h2 (k0_off571_inb i v2645 k0_hw298 k0_h2)
theorem k0_off574_inb : ∀ (i : grid0.Coords) (v2645 : BitVec 32) (k0_hw298 : k0_chk298 i v2645), ∀ (k0_h2 : k0_cond2 i = 1#1), ∀ a, (k0_off574 v2645) a + S1x1x128.size a ≤ S1024x1x128.size a := fun i v2645 k0_hw298 k0_h2 => k0_hw298.2.2 k0_h2

def k0_off575 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c21_i32_1417 : BitVec 32 := 21#32
  let v2664 : BitVec 32 := Scalar.addi v2159 c21_i32_1417
  let v2665 : Index := Scalar.indexCast v2664
  ![v2665.toNat]
def k0_off576 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c21_i32_1419 : BitVec 32 := 21#32
  let c0_i32_1420 : BitVec 32 := 0#32
  let c0_i32_1421 : BitVec 32 := 0#32
  ![v2158.toNat, 21, 0, 0]
def k0_off577 (v2666 : BitVec 32) : Fin 3 → Nat :=
  let c0_i32_1422 : BitVec 32 := 0#32
  let c0_i32_1423 : BitVec 32 := 0#32
  ![v2666.toNat, 0, 0]

def k0_chk299 (i : grid0.Coords) (v2666 : BitVec 32) : Prop :=
  (∀ (k0_h2 : k0_cond2 i = 1#1), ∀ a, (k0_off577 v2666) a + S1x128x64.size a ≤ S4096x128x64.size a)
theorem k0_off577_inb : ∀ (i : grid0.Coords) (v2666 : BitVec 32) (k0_hw299 : k0_chk299 i v2666), ∀ (k0_h2 : k0_cond2 i = 1#1), ∀ a, (k0_off577 v2666) a + S1x128x64.size a ≤ S4096x128x64.size a := fun i v2666 k0_hw299 k0_h2 => k0_hw299 k0_h2

def k0_off578 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off579 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c21_i32_1424 : BitVec 32 := 21#32
  let c0_i32_1425 : BitVec 32 := 0#32
  let c0_i32_1426 : BitVec 32 := 0#32
  ![v2158.toNat, 21, 0, 0]
def k0_off580 (v2669 : BitVec 32) : Fin 3 → Nat :=
  let c0_i32_1427 : BitVec 32 := 0#32
  let c0_i32_1428 : BitVec 32 := 0#32
  ![v2669.toNat, 0, 0]

def k0_off581 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off582 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c21_i32_1429 : BitVec 32 := 21#32
  let c0_i32_1430 : BitVec 32 := 0#32
  let c0_i32_1431 : BitVec 32 := 0#32
  ![v2158.toNat, 21, 0, 0]
def k0_off583 (v2669 : BitVec 32) : Fin 3 → Nat :=
  let c0_i32_1432 : BitVec 32 := 0#32
  let c0_i32_1433 : BitVec 32 := 0#32
  ![v2669.toNat, 0, 0]

def k0_chk300 (i : grid0.Coords) (v2669 : BitVec 32) : Prop :=
  (∀ (k0_h2 : k0_cond2 i = 1#1), ∀ a, (k0_off580 v2669) a + S1x128x128.size a ≤ S1024x128x128.size a) ∧
  (∀ (k0_h2 : k0_cond2 i = 1#1), ∀ (hinb : ∀ a, (k0_off580 v2669) a + S1x128x128.size a ≤ S1024x128x128.size a), (Rect.unit (s := S1024x128x128) (k0_off580 v2669) S1x128x128.size hinb).WholeWords (EltTy.packing .bf16)) ∧
  (∀ (k0_h2 : k0_cond2 i = 1#1), ∀ a, (k0_off583 v2669) a + S1x1x128.size a ≤ S1024x1x128.size a)
theorem k0_off580_inb : ∀ (i : grid0.Coords) (v2669 : BitVec 32) (k0_hw300 : k0_chk300 i v2669), ∀ (k0_h2 : k0_cond2 i = 1#1), ∀ a, (k0_off580 v2669) a + S1x128x128.size a ≤ S1024x128x128.size a := fun i v2669 k0_hw300 k0_h2 => k0_hw300.1 k0_h2
theorem k0_off580_wordsbf16 : ∀ (i : grid0.Coords) (v2669 : BitVec 32) (k0_hw300 : k0_chk300 i v2669), ∀ (k0_h2 : k0_cond2 i = 1#1), (Rect.unit (s := S1024x128x128) (k0_off580 v2669) S1x128x128.size (k0_off580_inb i v2669 k0_hw300 k0_h2)).WholeWords (EltTy.packing .bf16) := fun i v2669 k0_hw300 k0_h2 => k0_hw300.2.1 k0_h2 (k0_off580_inb i v2669 k0_hw300 k0_h2)
theorem k0_off583_inb : ∀ (i : grid0.Coords) (v2669 : BitVec 32) (k0_hw300 : k0_chk300 i v2669), ∀ (k0_h2 : k0_cond2 i = 1#1), ∀ a, (k0_off583 v2669) a + S1x1x128.size a ≤ S1024x1x128.size a := fun i v2669 k0_hw300 k0_h2 => k0_hw300.2.2 k0_h2

def k0_off584 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c22_i32_1434 : BitVec 32 := 22#32
  let v2688 : BitVec 32 := Scalar.addi v2159 c22_i32_1434
  let v2689 : Index := Scalar.indexCast v2688
  ![v2689.toNat]
def k0_off585 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c22_i32_1436 : BitVec 32 := 22#32
  let c0_i32_1437 : BitVec 32 := 0#32
  let c0_i32_1438 : BitVec 32 := 0#32
  ![v2158.toNat, 22, 0, 0]
def k0_off586 (v2690 : BitVec 32) : Fin 3 → Nat :=
  let c0_i32_1439 : BitVec 32 := 0#32
  let c0_i32_1440 : BitVec 32 := 0#32
  ![v2690.toNat, 0, 0]

def k0_chk301 (i : grid0.Coords) (v2690 : BitVec 32) : Prop :=
  (∀ (k0_h2 : k0_cond2 i = 1#1), ∀ a, (k0_off586 v2690) a + S1x128x64.size a ≤ S4096x128x64.size a)
theorem k0_off586_inb : ∀ (i : grid0.Coords) (v2690 : BitVec 32) (k0_hw301 : k0_chk301 i v2690), ∀ (k0_h2 : k0_cond2 i = 1#1), ∀ a, (k0_off586 v2690) a + S1x128x64.size a ≤ S4096x128x64.size a := fun i v2690 k0_hw301 k0_h2 => k0_hw301 k0_h2

def k0_off587 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off588 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c22_i32_1441 : BitVec 32 := 22#32
  let c0_i32_1442 : BitVec 32 := 0#32
  let c0_i32_1443 : BitVec 32 := 0#32
  ![v2158.toNat, 22, 0, 0]
def k0_off589 (v2693 : BitVec 32) : Fin 3 → Nat :=
  let c0_i32_1444 : BitVec 32 := 0#32
  let c0_i32_1445 : BitVec 32 := 0#32
  ![v2693.toNat, 0, 0]

def k0_off590 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off591 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c22_i32_1446 : BitVec 32 := 22#32
  let c0_i32_1447 : BitVec 32 := 0#32
  let c0_i32_1448 : BitVec 32 := 0#32
  ![v2158.toNat, 22, 0, 0]
def k0_off592 (v2693 : BitVec 32) : Fin 3 → Nat :=
  let c0_i32_1449 : BitVec 32 := 0#32
  let c0_i32_1450 : BitVec 32 := 0#32
  ![v2693.toNat, 0, 0]

def k0_chk302 (i : grid0.Coords) (v2693 : BitVec 32) : Prop :=
  (∀ (k0_h2 : k0_cond2 i = 1#1), ∀ a, (k0_off589 v2693) a + S1x128x128.size a ≤ S1024x128x128.size a) ∧
  (∀ (k0_h2 : k0_cond2 i = 1#1), ∀ (hinb : ∀ a, (k0_off589 v2693) a + S1x128x128.size a ≤ S1024x128x128.size a), (Rect.unit (s := S1024x128x128) (k0_off589 v2693) S1x128x128.size hinb).WholeWords (EltTy.packing .bf16)) ∧
  (∀ (k0_h2 : k0_cond2 i = 1#1), ∀ a, (k0_off592 v2693) a + S1x1x128.size a ≤ S1024x1x128.size a)
theorem k0_off589_inb : ∀ (i : grid0.Coords) (v2693 : BitVec 32) (k0_hw302 : k0_chk302 i v2693), ∀ (k0_h2 : k0_cond2 i = 1#1), ∀ a, (k0_off589 v2693) a + S1x128x128.size a ≤ S1024x128x128.size a := fun i v2693 k0_hw302 k0_h2 => k0_hw302.1 k0_h2
theorem k0_off589_wordsbf16 : ∀ (i : grid0.Coords) (v2693 : BitVec 32) (k0_hw302 : k0_chk302 i v2693), ∀ (k0_h2 : k0_cond2 i = 1#1), (Rect.unit (s := S1024x128x128) (k0_off589 v2693) S1x128x128.size (k0_off589_inb i v2693 k0_hw302 k0_h2)).WholeWords (EltTy.packing .bf16) := fun i v2693 k0_hw302 k0_h2 => k0_hw302.2.1 k0_h2 (k0_off589_inb i v2693 k0_hw302 k0_h2)
theorem k0_off592_inb : ∀ (i : grid0.Coords) (v2693 : BitVec 32) (k0_hw302 : k0_chk302 i v2693), ∀ (k0_h2 : k0_cond2 i = 1#1), ∀ a, (k0_off592 v2693) a + S1x1x128.size a ≤ S1024x1x128.size a := fun i v2693 k0_hw302 k0_h2 => k0_hw302.2.2 k0_h2

def k0_off593 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c23_i32_1451 : BitVec 32 := 23#32
  let v2712 : BitVec 32 := Scalar.addi v2159 c23_i32_1451
  let v2713 : Index := Scalar.indexCast v2712
  ![v2713.toNat]
def k0_off594 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c23_i32_1453 : BitVec 32 := 23#32
  let c0_i32_1454 : BitVec 32 := 0#32
  let c0_i32_1455 : BitVec 32 := 0#32
  ![v2158.toNat, 23, 0, 0]
def k0_off595 (v2714 : BitVec 32) : Fin 3 → Nat :=
  let c0_i32_1456 : BitVec 32 := 0#32
  let c0_i32_1457 : BitVec 32 := 0#32
  ![v2714.toNat, 0, 0]

def k0_chk303 (i : grid0.Coords) (v2714 : BitVec 32) : Prop :=
  (∀ (k0_h2 : k0_cond2 i = 1#1), ∀ a, (k0_off595 v2714) a + S1x128x64.size a ≤ S4096x128x64.size a)
theorem k0_off595_inb : ∀ (i : grid0.Coords) (v2714 : BitVec 32) (k0_hw303 : k0_chk303 i v2714), ∀ (k0_h2 : k0_cond2 i = 1#1), ∀ a, (k0_off595 v2714) a + S1x128x64.size a ≤ S4096x128x64.size a := fun i v2714 k0_hw303 k0_h2 => k0_hw303 k0_h2

def k0_off596 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off597 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c23_i32_1458 : BitVec 32 := 23#32
  let c0_i32_1459 : BitVec 32 := 0#32
  let c0_i32_1460 : BitVec 32 := 0#32
  ![v2158.toNat, 23, 0, 0]
def k0_off598 (v2717 : BitVec 32) : Fin 3 → Nat :=
  let c0_i32_1461 : BitVec 32 := 0#32
  let c0_i32_1462 : BitVec 32 := 0#32
  ![v2717.toNat, 0, 0]

def k0_off599 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off600 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c23_i32_1463 : BitVec 32 := 23#32
  let c0_i32_1464 : BitVec 32 := 0#32
  let c0_i32_1465 : BitVec 32 := 0#32
  ![v2158.toNat, 23, 0, 0]
def k0_off601 (v2717 : BitVec 32) : Fin 3 → Nat :=
  let c0_i32_1466 : BitVec 32 := 0#32
  let c0_i32_1467 : BitVec 32 := 0#32
  ![v2717.toNat, 0, 0]

def k0_chk304 (i : grid0.Coords) (v2717 : BitVec 32) : Prop :=
  (∀ (k0_h2 : k0_cond2 i = 1#1), ∀ a, (k0_off598 v2717) a + S1x128x128.size a ≤ S1024x128x128.size a) ∧
  (∀ (k0_h2 : k0_cond2 i = 1#1), ∀ (hinb : ∀ a, (k0_off598 v2717) a + S1x128x128.size a ≤ S1024x128x128.size a), (Rect.unit (s := S1024x128x128) (k0_off598 v2717) S1x128x128.size hinb).WholeWords (EltTy.packing .bf16)) ∧
  (∀ (k0_h2 : k0_cond2 i = 1#1), ∀ a, (k0_off601 v2717) a + S1x1x128.size a ≤ S1024x1x128.size a)
theorem k0_off598_inb : ∀ (i : grid0.Coords) (v2717 : BitVec 32) (k0_hw304 : k0_chk304 i v2717), ∀ (k0_h2 : k0_cond2 i = 1#1), ∀ a, (k0_off598 v2717) a + S1x128x128.size a ≤ S1024x128x128.size a := fun i v2717 k0_hw304 k0_h2 => k0_hw304.1 k0_h2
theorem k0_off598_wordsbf16 : ∀ (i : grid0.Coords) (v2717 : BitVec 32) (k0_hw304 : k0_chk304 i v2717), ∀ (k0_h2 : k0_cond2 i = 1#1), (Rect.unit (s := S1024x128x128) (k0_off598 v2717) S1x128x128.size (k0_off598_inb i v2717 k0_hw304 k0_h2)).WholeWords (EltTy.packing .bf16) := fun i v2717 k0_hw304 k0_h2 => k0_hw304.2.1 k0_h2 (k0_off598_inb i v2717 k0_hw304 k0_h2)
theorem k0_off601_inb : ∀ (i : grid0.Coords) (v2717 : BitVec 32) (k0_hw304 : k0_chk304 i v2717), ∀ (k0_h2 : k0_cond2 i = 1#1), ∀ a, (k0_off601 v2717) a + S1x1x128.size a ≤ S1024x1x128.size a := fun i v2717 k0_hw304 k0_h2 => k0_hw304.2.2 k0_h2

def k0_off602 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c24_i32_1468 : BitVec 32 := 24#32
  let v2736 : BitVec 32 := Scalar.addi v2159 c24_i32_1468
  let v2737 : Index := Scalar.indexCast v2736
  ![v2737.toNat]
def k0_off603 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c24_i32_1470 : BitVec 32 := 24#32
  let c0_i32_1471 : BitVec 32 := 0#32
  let c0_i32_1472 : BitVec 32 := 0#32
  ![v2158.toNat, 24, 0, 0]
def k0_off604 (v2738 : BitVec 32) : Fin 3 → Nat :=
  let c0_i32_1473 : BitVec 32 := 0#32
  let c0_i32_1474 : BitVec 32 := 0#32
  ![v2738.toNat, 0, 0]

def k0_chk305 (i : grid0.Coords) (v2738 : BitVec 32) : Prop :=
  (∀ (k0_h2 : k0_cond2 i = 1#1), ∀ a, (k0_off604 v2738) a + S1x128x64.size a ≤ S4096x128x64.size a)
theorem k0_off604_inb : ∀ (i : grid0.Coords) (v2738 : BitVec 32) (k0_hw305 : k0_chk305 i v2738), ∀ (k0_h2 : k0_cond2 i = 1#1), ∀ a, (k0_off604 v2738) a + S1x128x64.size a ≤ S4096x128x64.size a := fun i v2738 k0_hw305 k0_h2 => k0_hw305 k0_h2

def k0_off605 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off606 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c24_i32_1475 : BitVec 32 := 24#32
  let c0_i32_1476 : BitVec 32 := 0#32
  let c0_i32_1477 : BitVec 32 := 0#32
  ![v2158.toNat, 24, 0, 0]
def k0_off607 (v2741 : BitVec 32) : Fin 3 → Nat :=
  let c0_i32_1478 : BitVec 32 := 0#32
  let c0_i32_1479 : BitVec 32 := 0#32
  ![v2741.toNat, 0, 0]

def k0_off608 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off609 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c24_i32_1480 : BitVec 32 := 24#32
  let c0_i32_1481 : BitVec 32 := 0#32
  let c0_i32_1482 : BitVec 32 := 0#32
  ![v2158.toNat, 24, 0, 0]
def k0_off610 (v2741 : BitVec 32) : Fin 3 → Nat :=
  let c0_i32_1483 : BitVec 32 := 0#32
  let c0_i32_1484 : BitVec 32 := 0#32
  ![v2741.toNat, 0, 0]

def k0_chk306 (i : grid0.Coords) (v2741 : BitVec 32) : Prop :=
  (∀ (k0_h2 : k0_cond2 i = 1#1), ∀ a, (k0_off607 v2741) a + S1x128x128.size a ≤ S1024x128x128.size a) ∧
  (∀ (k0_h2 : k0_cond2 i = 1#1), ∀ (hinb : ∀ a, (k0_off607 v2741) a + S1x128x128.size a ≤ S1024x128x128.size a), (Rect.unit (s := S1024x128x128) (k0_off607 v2741) S1x128x128.size hinb).WholeWords (EltTy.packing .bf16)) ∧
  (∀ (k0_h2 : k0_cond2 i = 1#1), ∀ a, (k0_off610 v2741) a + S1x1x128.size a ≤ S1024x1x128.size a)
theorem k0_off607_inb : ∀ (i : grid0.Coords) (v2741 : BitVec 32) (k0_hw306 : k0_chk306 i v2741), ∀ (k0_h2 : k0_cond2 i = 1#1), ∀ a, (k0_off607 v2741) a + S1x128x128.size a ≤ S1024x128x128.size a := fun i v2741 k0_hw306 k0_h2 => k0_hw306.1 k0_h2
theorem k0_off607_wordsbf16 : ∀ (i : grid0.Coords) (v2741 : BitVec 32) (k0_hw306 : k0_chk306 i v2741), ∀ (k0_h2 : k0_cond2 i = 1#1), (Rect.unit (s := S1024x128x128) (k0_off607 v2741) S1x128x128.size (k0_off607_inb i v2741 k0_hw306 k0_h2)).WholeWords (EltTy.packing .bf16) := fun i v2741 k0_hw306 k0_h2 => k0_hw306.2.1 k0_h2 (k0_off607_inb i v2741 k0_hw306 k0_h2)
theorem k0_off610_inb : ∀ (i : grid0.Coords) (v2741 : BitVec 32) (k0_hw306 : k0_chk306 i v2741), ∀ (k0_h2 : k0_cond2 i = 1#1), ∀ a, (k0_off610 v2741) a + S1x1x128.size a ≤ S1024x1x128.size a := fun i v2741 k0_hw306 k0_h2 => k0_hw306.2.2 k0_h2

def k0_off611 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c25_i32_1485 : BitVec 32 := 25#32
  let v2760 : BitVec 32 := Scalar.addi v2159 c25_i32_1485
  let v2761 : Index := Scalar.indexCast v2760
  ![v2761.toNat]
def k0_off612 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c25_i32_1487 : BitVec 32 := 25#32
  let c0_i32_1488 : BitVec 32 := 0#32
  let c0_i32_1489 : BitVec 32 := 0#32
  ![v2158.toNat, 25, 0, 0]
def k0_off613 (v2762 : BitVec 32) : Fin 3 → Nat :=
  let c0_i32_1490 : BitVec 32 := 0#32
  let c0_i32_1491 : BitVec 32 := 0#32
  ![v2762.toNat, 0, 0]

def k0_chk307 (i : grid0.Coords) (v2762 : BitVec 32) : Prop :=
  (∀ (k0_h2 : k0_cond2 i = 1#1), ∀ a, (k0_off613 v2762) a + S1x128x64.size a ≤ S4096x128x64.size a)
theorem k0_off613_inb : ∀ (i : grid0.Coords) (v2762 : BitVec 32) (k0_hw307 : k0_chk307 i v2762), ∀ (k0_h2 : k0_cond2 i = 1#1), ∀ a, (k0_off613 v2762) a + S1x128x64.size a ≤ S4096x128x64.size a := fun i v2762 k0_hw307 k0_h2 => k0_hw307 k0_h2

def k0_off614 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off615 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c25_i32_1492 : BitVec 32 := 25#32
  let c0_i32_1493 : BitVec 32 := 0#32
  let c0_i32_1494 : BitVec 32 := 0#32
  ![v2158.toNat, 25, 0, 0]
def k0_off616 (v2765 : BitVec 32) : Fin 3 → Nat :=
  let c0_i32_1495 : BitVec 32 := 0#32
  let c0_i32_1496 : BitVec 32 := 0#32
  ![v2765.toNat, 0, 0]

def k0_off617 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off618 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c25_i32_1497 : BitVec 32 := 25#32
  let c0_i32_1498 : BitVec 32 := 0#32
  let c0_i32_1499 : BitVec 32 := 0#32
  ![v2158.toNat, 25, 0, 0]
def k0_off619 (v2765 : BitVec 32) : Fin 3 → Nat :=
  let c0_i32_1500 : BitVec 32 := 0#32
  let c0_i32_1501 : BitVec 32 := 0#32
  ![v2765.toNat, 0, 0]

def k0_chk308 (i : grid0.Coords) (v2765 : BitVec 32) : Prop :=
  (∀ (k0_h2 : k0_cond2 i = 1#1), ∀ a, (k0_off616 v2765) a + S1x128x128.size a ≤ S1024x128x128.size a) ∧
  (∀ (k0_h2 : k0_cond2 i = 1#1), ∀ (hinb : ∀ a, (k0_off616 v2765) a + S1x128x128.size a ≤ S1024x128x128.size a), (Rect.unit (s := S1024x128x128) (k0_off616 v2765) S1x128x128.size hinb).WholeWords (EltTy.packing .bf16)) ∧
  (∀ (k0_h2 : k0_cond2 i = 1#1), ∀ a, (k0_off619 v2765) a + S1x1x128.size a ≤ S1024x1x128.size a)
theorem k0_off616_inb : ∀ (i : grid0.Coords) (v2765 : BitVec 32) (k0_hw308 : k0_chk308 i v2765), ∀ (k0_h2 : k0_cond2 i = 1#1), ∀ a, (k0_off616 v2765) a + S1x128x128.size a ≤ S1024x128x128.size a := fun i v2765 k0_hw308 k0_h2 => k0_hw308.1 k0_h2
theorem k0_off616_wordsbf16 : ∀ (i : grid0.Coords) (v2765 : BitVec 32) (k0_hw308 : k0_chk308 i v2765), ∀ (k0_h2 : k0_cond2 i = 1#1), (Rect.unit (s := S1024x128x128) (k0_off616 v2765) S1x128x128.size (k0_off616_inb i v2765 k0_hw308 k0_h2)).WholeWords (EltTy.packing .bf16) := fun i v2765 k0_hw308 k0_h2 => k0_hw308.2.1 k0_h2 (k0_off616_inb i v2765 k0_hw308 k0_h2)
theorem k0_off619_inb : ∀ (i : grid0.Coords) (v2765 : BitVec 32) (k0_hw308 : k0_chk308 i v2765), ∀ (k0_h2 : k0_cond2 i = 1#1), ∀ a, (k0_off619 v2765) a + S1x1x128.size a ≤ S1024x1x128.size a := fun i v2765 k0_hw308 k0_h2 => k0_hw308.2.2 k0_h2

def k0_off620 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c26_i32_1502 : BitVec 32 := 26#32
  let v2784 : BitVec 32 := Scalar.addi v2159 c26_i32_1502
  let v2785 : Index := Scalar.indexCast v2784
  ![v2785.toNat]
def k0_off621 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c26_i32_1504 : BitVec 32 := 26#32
  let c0_i32_1505 : BitVec 32 := 0#32
  let c0_i32_1506 : BitVec 32 := 0#32
  ![v2158.toNat, 26, 0, 0]
def k0_off622 (v2786 : BitVec 32) : Fin 3 → Nat :=
  let c0_i32_1507 : BitVec 32 := 0#32
  let c0_i32_1508 : BitVec 32 := 0#32
  ![v2786.toNat, 0, 0]

def k0_chk309 (i : grid0.Coords) (v2786 : BitVec 32) : Prop :=
  (∀ (k0_h2 : k0_cond2 i = 1#1), ∀ a, (k0_off622 v2786) a + S1x128x64.size a ≤ S4096x128x64.size a)
theorem k0_off622_inb : ∀ (i : grid0.Coords) (v2786 : BitVec 32) (k0_hw309 : k0_chk309 i v2786), ∀ (k0_h2 : k0_cond2 i = 1#1), ∀ a, (k0_off622 v2786) a + S1x128x64.size a ≤ S4096x128x64.size a := fun i v2786 k0_hw309 k0_h2 => k0_hw309 k0_h2

def k0_off623 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off624 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c26_i32_1509 : BitVec 32 := 26#32
  let c0_i32_1510 : BitVec 32 := 0#32
  let c0_i32_1511 : BitVec 32 := 0#32
  ![v2158.toNat, 26, 0, 0]
def k0_off625 (v2789 : BitVec 32) : Fin 3 → Nat :=
  let c0_i32_1512 : BitVec 32 := 0#32
  let c0_i32_1513 : BitVec 32 := 0#32
  ![v2789.toNat, 0, 0]

def k0_off626 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off627 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c26_i32_1514 : BitVec 32 := 26#32
  let c0_i32_1515 : BitVec 32 := 0#32
  let c0_i32_1516 : BitVec 32 := 0#32
  ![v2158.toNat, 26, 0, 0]
def k0_off628 (v2789 : BitVec 32) : Fin 3 → Nat :=
  let c0_i32_1517 : BitVec 32 := 0#32
  let c0_i32_1518 : BitVec 32 := 0#32
  ![v2789.toNat, 0, 0]

def k0_chk310 (i : grid0.Coords) (v2789 : BitVec 32) : Prop :=
  (∀ (k0_h2 : k0_cond2 i = 1#1), ∀ a, (k0_off625 v2789) a + S1x128x128.size a ≤ S1024x128x128.size a) ∧
  (∀ (k0_h2 : k0_cond2 i = 1#1), ∀ (hinb : ∀ a, (k0_off625 v2789) a + S1x128x128.size a ≤ S1024x128x128.size a), (Rect.unit (s := S1024x128x128) (k0_off625 v2789) S1x128x128.size hinb).WholeWords (EltTy.packing .bf16)) ∧
  (∀ (k0_h2 : k0_cond2 i = 1#1), ∀ a, (k0_off628 v2789) a + S1x1x128.size a ≤ S1024x1x128.size a)
theorem k0_off625_inb : ∀ (i : grid0.Coords) (v2789 : BitVec 32) (k0_hw310 : k0_chk310 i v2789), ∀ (k0_h2 : k0_cond2 i = 1#1), ∀ a, (k0_off625 v2789) a + S1x128x128.size a ≤ S1024x128x128.size a := fun i v2789 k0_hw310 k0_h2 => k0_hw310.1 k0_h2
theorem k0_off625_wordsbf16 : ∀ (i : grid0.Coords) (v2789 : BitVec 32) (k0_hw310 : k0_chk310 i v2789), ∀ (k0_h2 : k0_cond2 i = 1#1), (Rect.unit (s := S1024x128x128) (k0_off625 v2789) S1x128x128.size (k0_off625_inb i v2789 k0_hw310 k0_h2)).WholeWords (EltTy.packing .bf16) := fun i v2789 k0_hw310 k0_h2 => k0_hw310.2.1 k0_h2 (k0_off625_inb i v2789 k0_hw310 k0_h2)
theorem k0_off628_inb : ∀ (i : grid0.Coords) (v2789 : BitVec 32) (k0_hw310 : k0_chk310 i v2789), ∀ (k0_h2 : k0_cond2 i = 1#1), ∀ a, (k0_off628 v2789) a + S1x1x128.size a ≤ S1024x1x128.size a := fun i v2789 k0_hw310 k0_h2 => k0_hw310.2.2 k0_h2

def k0_off629 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c27_i32_1519 : BitVec 32 := 27#32
  let v2808 : BitVec 32 := Scalar.addi v2159 c27_i32_1519
  let v2809 : Index := Scalar.indexCast v2808
  ![v2809.toNat]
def k0_off630 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c27_i32_1521 : BitVec 32 := 27#32
  let c0_i32_1522 : BitVec 32 := 0#32
  let c0_i32_1523 : BitVec 32 := 0#32
  ![v2158.toNat, 27, 0, 0]
def k0_off631 (v2810 : BitVec 32) : Fin 3 → Nat :=
  let c0_i32_1524 : BitVec 32 := 0#32
  let c0_i32_1525 : BitVec 32 := 0#32
  ![v2810.toNat, 0, 0]

def k0_chk311 (i : grid0.Coords) (v2810 : BitVec 32) : Prop :=
  (∀ (k0_h2 : k0_cond2 i = 1#1), ∀ a, (k0_off631 v2810) a + S1x128x64.size a ≤ S4096x128x64.size a)
theorem k0_off631_inb : ∀ (i : grid0.Coords) (v2810 : BitVec 32) (k0_hw311 : k0_chk311 i v2810), ∀ (k0_h2 : k0_cond2 i = 1#1), ∀ a, (k0_off631 v2810) a + S1x128x64.size a ≤ S4096x128x64.size a := fun i v2810 k0_hw311 k0_h2 => k0_hw311 k0_h2

def k0_off632 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off633 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c27_i32_1526 : BitVec 32 := 27#32
  let c0_i32_1527 : BitVec 32 := 0#32
  let c0_i32_1528 : BitVec 32 := 0#32
  ![v2158.toNat, 27, 0, 0]
def k0_off634 (v2813 : BitVec 32) : Fin 3 → Nat :=
  let c0_i32_1529 : BitVec 32 := 0#32
  let c0_i32_1530 : BitVec 32 := 0#32
  ![v2813.toNat, 0, 0]

def k0_off635 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off636 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c27_i32_1531 : BitVec 32 := 27#32
  let c0_i32_1532 : BitVec 32 := 0#32
  let c0_i32_1533 : BitVec 32 := 0#32
  ![v2158.toNat, 27, 0, 0]
def k0_off637 (v2813 : BitVec 32) : Fin 3 → Nat :=
  let c0_i32_1534 : BitVec 32 := 0#32
  let c0_i32_1535 : BitVec 32 := 0#32
  ![v2813.toNat, 0, 0]

def k0_chk312 (i : grid0.Coords) (v2813 : BitVec 32) : Prop :=
  (∀ (k0_h2 : k0_cond2 i = 1#1), ∀ a, (k0_off634 v2813) a + S1x128x128.size a ≤ S1024x128x128.size a) ∧
  (∀ (k0_h2 : k0_cond2 i = 1#1), ∀ (hinb : ∀ a, (k0_off634 v2813) a + S1x128x128.size a ≤ S1024x128x128.size a), (Rect.unit (s := S1024x128x128) (k0_off634 v2813) S1x128x128.size hinb).WholeWords (EltTy.packing .bf16)) ∧
  (∀ (k0_h2 : k0_cond2 i = 1#1), ∀ a, (k0_off637 v2813) a + S1x1x128.size a ≤ S1024x1x128.size a)
theorem k0_off634_inb : ∀ (i : grid0.Coords) (v2813 : BitVec 32) (k0_hw312 : k0_chk312 i v2813), ∀ (k0_h2 : k0_cond2 i = 1#1), ∀ a, (k0_off634 v2813) a + S1x128x128.size a ≤ S1024x128x128.size a := fun i v2813 k0_hw312 k0_h2 => k0_hw312.1 k0_h2
theorem k0_off634_wordsbf16 : ∀ (i : grid0.Coords) (v2813 : BitVec 32) (k0_hw312 : k0_chk312 i v2813), ∀ (k0_h2 : k0_cond2 i = 1#1), (Rect.unit (s := S1024x128x128) (k0_off634 v2813) S1x128x128.size (k0_off634_inb i v2813 k0_hw312 k0_h2)).WholeWords (EltTy.packing .bf16) := fun i v2813 k0_hw312 k0_h2 => k0_hw312.2.1 k0_h2 (k0_off634_inb i v2813 k0_hw312 k0_h2)
theorem k0_off637_inb : ∀ (i : grid0.Coords) (v2813 : BitVec 32) (k0_hw312 : k0_chk312 i v2813), ∀ (k0_h2 : k0_cond2 i = 1#1), ∀ a, (k0_off637 v2813) a + S1x1x128.size a ≤ S1024x1x128.size a := fun i v2813 k0_hw312 k0_h2 => k0_hw312.2.2 k0_h2

def k0_off638 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c28_i32_1536 : BitVec 32 := 28#32
  let v2832 : BitVec 32 := Scalar.addi v2159 c28_i32_1536
  let v2833 : Index := Scalar.indexCast v2832
  ![v2833.toNat]
def k0_off639 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c28_i32_1538 : BitVec 32 := 28#32
  let c0_i32_1539 : BitVec 32 := 0#32
  let c0_i32_1540 : BitVec 32 := 0#32
  ![v2158.toNat, 28, 0, 0]
def k0_off640 (v2834 : BitVec 32) : Fin 3 → Nat :=
  let c0_i32_1541 : BitVec 32 := 0#32
  let c0_i32_1542 : BitVec 32 := 0#32
  ![v2834.toNat, 0, 0]

def k0_chk313 (i : grid0.Coords) (v2834 : BitVec 32) : Prop :=
  (∀ (k0_h2 : k0_cond2 i = 1#1), ∀ a, (k0_off640 v2834) a + S1x128x64.size a ≤ S4096x128x64.size a)
theorem k0_off640_inb : ∀ (i : grid0.Coords) (v2834 : BitVec 32) (k0_hw313 : k0_chk313 i v2834), ∀ (k0_h2 : k0_cond2 i = 1#1), ∀ a, (k0_off640 v2834) a + S1x128x64.size a ≤ S4096x128x64.size a := fun i v2834 k0_hw313 k0_h2 => k0_hw313 k0_h2

def k0_off641 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off642 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c28_i32_1543 : BitVec 32 := 28#32
  let c0_i32_1544 : BitVec 32 := 0#32
  let c0_i32_1545 : BitVec 32 := 0#32
  ![v2158.toNat, 28, 0, 0]
def k0_off643 (v2837 : BitVec 32) : Fin 3 → Nat :=
  let c0_i32_1546 : BitVec 32 := 0#32
  let c0_i32_1547 : BitVec 32 := 0#32
  ![v2837.toNat, 0, 0]

def k0_off644 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off645 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c28_i32_1548 : BitVec 32 := 28#32
  let c0_i32_1549 : BitVec 32 := 0#32
  let c0_i32_1550 : BitVec 32 := 0#32
  ![v2158.toNat, 28, 0, 0]
def k0_off646 (v2837 : BitVec 32) : Fin 3 → Nat :=
  let c0_i32_1551 : BitVec 32 := 0#32
  let c0_i32_1552 : BitVec 32 := 0#32
  ![v2837.toNat, 0, 0]

def k0_chk314 (i : grid0.Coords) (v2837 : BitVec 32) : Prop :=
  (∀ (k0_h2 : k0_cond2 i = 1#1), ∀ a, (k0_off643 v2837) a + S1x128x128.size a ≤ S1024x128x128.size a) ∧
  (∀ (k0_h2 : k0_cond2 i = 1#1), ∀ (hinb : ∀ a, (k0_off643 v2837) a + S1x128x128.size a ≤ S1024x128x128.size a), (Rect.unit (s := S1024x128x128) (k0_off643 v2837) S1x128x128.size hinb).WholeWords (EltTy.packing .bf16)) ∧
  (∀ (k0_h2 : k0_cond2 i = 1#1), ∀ a, (k0_off646 v2837) a + S1x1x128.size a ≤ S1024x1x128.size a)
theorem k0_off643_inb : ∀ (i : grid0.Coords) (v2837 : BitVec 32) (k0_hw314 : k0_chk314 i v2837), ∀ (k0_h2 : k0_cond2 i = 1#1), ∀ a, (k0_off643 v2837) a + S1x128x128.size a ≤ S1024x128x128.size a := fun i v2837 k0_hw314 k0_h2 => k0_hw314.1 k0_h2
theorem k0_off643_wordsbf16 : ∀ (i : grid0.Coords) (v2837 : BitVec 32) (k0_hw314 : k0_chk314 i v2837), ∀ (k0_h2 : k0_cond2 i = 1#1), (Rect.unit (s := S1024x128x128) (k0_off643 v2837) S1x128x128.size (k0_off643_inb i v2837 k0_hw314 k0_h2)).WholeWords (EltTy.packing .bf16) := fun i v2837 k0_hw314 k0_h2 => k0_hw314.2.1 k0_h2 (k0_off643_inb i v2837 k0_hw314 k0_h2)
theorem k0_off646_inb : ∀ (i : grid0.Coords) (v2837 : BitVec 32) (k0_hw314 : k0_chk314 i v2837), ∀ (k0_h2 : k0_cond2 i = 1#1), ∀ a, (k0_off646 v2837) a + S1x1x128.size a ≤ S1024x1x128.size a := fun i v2837 k0_hw314 k0_h2 => k0_hw314.2.2 k0_h2

def k0_off647 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c29_i32_1553 : BitVec 32 := 29#32
  let v2856 : BitVec 32 := Scalar.addi v2159 c29_i32_1553
  let v2857 : Index := Scalar.indexCast v2856
  ![v2857.toNat]
def k0_off648 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c29_i32_1555 : BitVec 32 := 29#32
  let c0_i32_1556 : BitVec 32 := 0#32
  let c0_i32_1557 : BitVec 32 := 0#32
  ![v2158.toNat, 29, 0, 0]
def k0_off649 (v2858 : BitVec 32) : Fin 3 → Nat :=
  let c0_i32_1558 : BitVec 32 := 0#32
  let c0_i32_1559 : BitVec 32 := 0#32
  ![v2858.toNat, 0, 0]

def k0_chk315 (i : grid0.Coords) (v2858 : BitVec 32) : Prop :=
  (∀ (k0_h2 : k0_cond2 i = 1#1), ∀ a, (k0_off649 v2858) a + S1x128x64.size a ≤ S4096x128x64.size a)
theorem k0_off649_inb : ∀ (i : grid0.Coords) (v2858 : BitVec 32) (k0_hw315 : k0_chk315 i v2858), ∀ (k0_h2 : k0_cond2 i = 1#1), ∀ a, (k0_off649 v2858) a + S1x128x64.size a ≤ S4096x128x64.size a := fun i v2858 k0_hw315 k0_h2 => k0_hw315 k0_h2

def k0_off650 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off651 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c29_i32_1560 : BitVec 32 := 29#32
  let c0_i32_1561 : BitVec 32 := 0#32
  let c0_i32_1562 : BitVec 32 := 0#32
  ![v2158.toNat, 29, 0, 0]
def k0_off652 (v2861 : BitVec 32) : Fin 3 → Nat :=
  let c0_i32_1563 : BitVec 32 := 0#32
  let c0_i32_1564 : BitVec 32 := 0#32
  ![v2861.toNat, 0, 0]

def k0_off653 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off654 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c29_i32_1565 : BitVec 32 := 29#32
  let c0_i32_1566 : BitVec 32 := 0#32
  let c0_i32_1567 : BitVec 32 := 0#32
  ![v2158.toNat, 29, 0, 0]
def k0_off655 (v2861 : BitVec 32) : Fin 3 → Nat :=
  let c0_i32_1568 : BitVec 32 := 0#32
  let c0_i32_1569 : BitVec 32 := 0#32
  ![v2861.toNat, 0, 0]

def k0_chk316 (i : grid0.Coords) (v2861 : BitVec 32) : Prop :=
  (∀ (k0_h2 : k0_cond2 i = 1#1), ∀ a, (k0_off652 v2861) a + S1x128x128.size a ≤ S1024x128x128.size a) ∧
  (∀ (k0_h2 : k0_cond2 i = 1#1), ∀ (hinb : ∀ a, (k0_off652 v2861) a + S1x128x128.size a ≤ S1024x128x128.size a), (Rect.unit (s := S1024x128x128) (k0_off652 v2861) S1x128x128.size hinb).WholeWords (EltTy.packing .bf16)) ∧
  (∀ (k0_h2 : k0_cond2 i = 1#1), ∀ a, (k0_off655 v2861) a + S1x1x128.size a ≤ S1024x1x128.size a)
theorem k0_off652_inb : ∀ (i : grid0.Coords) (v2861 : BitVec 32) (k0_hw316 : k0_chk316 i v2861), ∀ (k0_h2 : k0_cond2 i = 1#1), ∀ a, (k0_off652 v2861) a + S1x128x128.size a ≤ S1024x128x128.size a := fun i v2861 k0_hw316 k0_h2 => k0_hw316.1 k0_h2
theorem k0_off652_wordsbf16 : ∀ (i : grid0.Coords) (v2861 : BitVec 32) (k0_hw316 : k0_chk316 i v2861), ∀ (k0_h2 : k0_cond2 i = 1#1), (Rect.unit (s := S1024x128x128) (k0_off652 v2861) S1x128x128.size (k0_off652_inb i v2861 k0_hw316 k0_h2)).WholeWords (EltTy.packing .bf16) := fun i v2861 k0_hw316 k0_h2 => k0_hw316.2.1 k0_h2 (k0_off652_inb i v2861 k0_hw316 k0_h2)
theorem k0_off655_inb : ∀ (i : grid0.Coords) (v2861 : BitVec 32) (k0_hw316 : k0_chk316 i v2861), ∀ (k0_h2 : k0_cond2 i = 1#1), ∀ a, (k0_off655 v2861) a + S1x1x128.size a ≤ S1024x1x128.size a := fun i v2861 k0_hw316 k0_h2 => k0_hw316.2.2 k0_h2

def k0_off656 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c30_i32_1570 : BitVec 32 := 30#32
  let v2880 : BitVec 32 := Scalar.addi v2159 c30_i32_1570
  let v2881 : Index := Scalar.indexCast v2880
  ![v2881.toNat]
def k0_off657 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c30_i32_1572 : BitVec 32 := 30#32
  let c0_i32_1573 : BitVec 32 := 0#32
  let c0_i32_1574 : BitVec 32 := 0#32
  ![v2158.toNat, 30, 0, 0]
def k0_off658 (v2882 : BitVec 32) : Fin 3 → Nat :=
  let c0_i32_1575 : BitVec 32 := 0#32
  let c0_i32_1576 : BitVec 32 := 0#32
  ![v2882.toNat, 0, 0]

def k0_chk317 (i : grid0.Coords) (v2882 : BitVec 32) : Prop :=
  (∀ (k0_h2 : k0_cond2 i = 1#1), ∀ a, (k0_off658 v2882) a + S1x128x64.size a ≤ S4096x128x64.size a)
theorem k0_off658_inb : ∀ (i : grid0.Coords) (v2882 : BitVec 32) (k0_hw317 : k0_chk317 i v2882), ∀ (k0_h2 : k0_cond2 i = 1#1), ∀ a, (k0_off658 v2882) a + S1x128x64.size a ≤ S4096x128x64.size a := fun i v2882 k0_hw317 k0_h2 => k0_hw317 k0_h2

def k0_off659 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off660 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c30_i32_1577 : BitVec 32 := 30#32
  let c0_i32_1578 : BitVec 32 := 0#32
  let c0_i32_1579 : BitVec 32 := 0#32
  ![v2158.toNat, 30, 0, 0]
def k0_off661 (v2885 : BitVec 32) : Fin 3 → Nat :=
  let c0_i32_1580 : BitVec 32 := 0#32
  let c0_i32_1581 : BitVec 32 := 0#32
  ![v2885.toNat, 0, 0]

def k0_off662 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off663 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c30_i32_1582 : BitVec 32 := 30#32
  let c0_i32_1583 : BitVec 32 := 0#32
  let c0_i32_1584 : BitVec 32 := 0#32
  ![v2158.toNat, 30, 0, 0]
def k0_off664 (v2885 : BitVec 32) : Fin 3 → Nat :=
  let c0_i32_1585 : BitVec 32 := 0#32
  let c0_i32_1586 : BitVec 32 := 0#32
  ![v2885.toNat, 0, 0]

def k0_chk318 (i : grid0.Coords) (v2885 : BitVec 32) : Prop :=
  (∀ (k0_h2 : k0_cond2 i = 1#1), ∀ a, (k0_off661 v2885) a + S1x128x128.size a ≤ S1024x128x128.size a) ∧
  (∀ (k0_h2 : k0_cond2 i = 1#1), ∀ (hinb : ∀ a, (k0_off661 v2885) a + S1x128x128.size a ≤ S1024x128x128.size a), (Rect.unit (s := S1024x128x128) (k0_off661 v2885) S1x128x128.size hinb).WholeWords (EltTy.packing .bf16)) ∧
  (∀ (k0_h2 : k0_cond2 i = 1#1), ∀ a, (k0_off664 v2885) a + S1x1x128.size a ≤ S1024x1x128.size a)
theorem k0_off661_inb : ∀ (i : grid0.Coords) (v2885 : BitVec 32) (k0_hw318 : k0_chk318 i v2885), ∀ (k0_h2 : k0_cond2 i = 1#1), ∀ a, (k0_off661 v2885) a + S1x128x128.size a ≤ S1024x128x128.size a := fun i v2885 k0_hw318 k0_h2 => k0_hw318.1 k0_h2
theorem k0_off661_wordsbf16 : ∀ (i : grid0.Coords) (v2885 : BitVec 32) (k0_hw318 : k0_chk318 i v2885), ∀ (k0_h2 : k0_cond2 i = 1#1), (Rect.unit (s := S1024x128x128) (k0_off661 v2885) S1x128x128.size (k0_off661_inb i v2885 k0_hw318 k0_h2)).WholeWords (EltTy.packing .bf16) := fun i v2885 k0_hw318 k0_h2 => k0_hw318.2.1 k0_h2 (k0_off661_inb i v2885 k0_hw318 k0_h2)
theorem k0_off664_inb : ∀ (i : grid0.Coords) (v2885 : BitVec 32) (k0_hw318 : k0_chk318 i v2885), ∀ (k0_h2 : k0_cond2 i = 1#1), ∀ a, (k0_off664 v2885) a + S1x1x128.size a ≤ S1024x1x128.size a := fun i v2885 k0_hw318 k0_h2 => k0_hw318.2.2 k0_h2

def k0_off665 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c31_i32_1587 : BitVec 32 := 31#32
  let v2904 : BitVec 32 := Scalar.addi v2159 c31_i32_1587
  let v2905 : Index := Scalar.indexCast v2904
  ![v2905.toNat]
def k0_off666 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c31_i32_1589 : BitVec 32 := 31#32
  let c0_i32_1590 : BitVec 32 := 0#32
  let c0_i32_1591 : BitVec 32 := 0#32
  ![v2158.toNat, 31, 0, 0]
def k0_off667 (v2906 : BitVec 32) : Fin 3 → Nat :=
  let c0_i32_1592 : BitVec 32 := 0#32
  let c0_i32_1593 : BitVec 32 := 0#32
  ![v2906.toNat, 0, 0]

def k0_chk319 (i : grid0.Coords) (v2906 : BitVec 32) : Prop :=
  (∀ (k0_h2 : k0_cond2 i = 1#1), ∀ a, (k0_off667 v2906) a + S1x128x64.size a ≤ S4096x128x64.size a)
theorem k0_off667_inb : ∀ (i : grid0.Coords) (v2906 : BitVec 32) (k0_hw319 : k0_chk319 i v2906), ∀ (k0_h2 : k0_cond2 i = 1#1), ∀ a, (k0_off667 v2906) a + S1x128x64.size a ≤ S4096x128x64.size a := fun i v2906 k0_hw319 k0_h2 => k0_hw319 k0_h2

def k0_off668 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off669 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c31_i32_1594 : BitVec 32 := 31#32
  let c0_i32_1595 : BitVec 32 := 0#32
  let c0_i32_1596 : BitVec 32 := 0#32
  ![v2158.toNat, 31, 0, 0]
def k0_off670 (v2909 : BitVec 32) : Fin 3 → Nat :=
  let c0_i32_1597 : BitVec 32 := 0#32
  let c0_i32_1598 : BitVec 32 := 0#32
  ![v2909.toNat, 0, 0]

def k0_off671 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off672 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c31_i32_1599 : BitVec 32 := 31#32
  let c0_i32_1600 : BitVec 32 := 0#32
  let c0_i32_1601 : BitVec 32 := 0#32
  ![v2158.toNat, 31, 0, 0]
def k0_off673 (v2909 : BitVec 32) : Fin 3 → Nat :=
  let c0_i32_1602 : BitVec 32 := 0#32
  let c0_i32_1603 : BitVec 32 := 0#32
  ![v2909.toNat, 0, 0]

def k0_chk320 (i : grid0.Coords) (v2909 : BitVec 32) : Prop :=
  (∀ (k0_h2 : k0_cond2 i = 1#1), ∀ a, (k0_off670 v2909) a + S1x128x128.size a ≤ S1024x128x128.size a) ∧
  (∀ (k0_h2 : k0_cond2 i = 1#1), ∀ (hinb : ∀ a, (k0_off670 v2909) a + S1x128x128.size a ≤ S1024x128x128.size a), (Rect.unit (s := S1024x128x128) (k0_off670 v2909) S1x128x128.size hinb).WholeWords (EltTy.packing .bf16)) ∧
  (∀ (k0_h2 : k0_cond2 i = 1#1), ∀ a, (k0_off673 v2909) a + S1x1x128.size a ≤ S1024x1x128.size a)
theorem k0_off670_inb : ∀ (i : grid0.Coords) (v2909 : BitVec 32) (k0_hw320 : k0_chk320 i v2909), ∀ (k0_h2 : k0_cond2 i = 1#1), ∀ a, (k0_off670 v2909) a + S1x128x128.size a ≤ S1024x128x128.size a := fun i v2909 k0_hw320 k0_h2 => k0_hw320.1 k0_h2
theorem k0_off670_wordsbf16 : ∀ (i : grid0.Coords) (v2909 : BitVec 32) (k0_hw320 : k0_chk320 i v2909), ∀ (k0_h2 : k0_cond2 i = 1#1), (Rect.unit (s := S1024x128x128) (k0_off670 v2909) S1x128x128.size (k0_off670_inb i v2909 k0_hw320 k0_h2)).WholeWords (EltTy.packing .bf16) := fun i v2909 k0_hw320 k0_h2 => k0_hw320.2.1 k0_h2 (k0_off670_inb i v2909 k0_hw320 k0_h2)
theorem k0_off673_inb : ∀ (i : grid0.Coords) (v2909 : BitVec 32) (k0_hw320 : k0_chk320 i v2909), ∀ (k0_h2 : k0_cond2 i = 1#1), ∀ a, (k0_off673 v2909) a + S1x1x128.size a ≤ S1024x1x128.size a := fun i v2909 k0_hw320 k0_h2 => k0_hw320.2.2 k0_h2

def k0_off674 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c32_i32_1604 : BitVec 32 := 32#32
  let v2928 : BitVec 32 := Scalar.addi v2159 c32_i32_1604
  let v2929 : Index := Scalar.indexCast v2928
  ![v2929.toNat]
def k0_off675 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c32_i32_1606 : BitVec 32 := 32#32
  let c0_i32_1607 : BitVec 32 := 0#32
  let c0_i32_1608 : BitVec 32 := 0#32
  ![v2158.toNat, 32, 0, 0]
def k0_off676 (v2930 : BitVec 32) : Fin 3 → Nat :=
  let c0_i32_1609 : BitVec 32 := 0#32
  let c0_i32_1610 : BitVec 32 := 0#32
  ![v2930.toNat, 0, 0]

def k0_chk321 (i : grid0.Coords) (v2930 : BitVec 32) : Prop :=
  (∀ (k0_h2 : k0_cond2 i = 1#1), ∀ a, (k0_off676 v2930) a + S1x128x64.size a ≤ S4096x128x64.size a)
theorem k0_off676_inb : ∀ (i : grid0.Coords) (v2930 : BitVec 32) (k0_hw321 : k0_chk321 i v2930), ∀ (k0_h2 : k0_cond2 i = 1#1), ∀ a, (k0_off676 v2930) a + S1x128x64.size a ≤ S4096x128x64.size a := fun i v2930 k0_hw321 k0_h2 => k0_hw321 k0_h2

def k0_off677 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off678 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c32_i32_1611 : BitVec 32 := 32#32
  let c0_i32_1612 : BitVec 32 := 0#32
  let c0_i32_1613 : BitVec 32 := 0#32
  ![v2158.toNat, 32, 0, 0]
def k0_off679 (v2933 : BitVec 32) : Fin 3 → Nat :=
  let c0_i32_1614 : BitVec 32 := 0#32
  let c0_i32_1615 : BitVec 32 := 0#32
  ![v2933.toNat, 0, 0]

def k0_off680 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off681 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c32_i32_1616 : BitVec 32 := 32#32
  let c0_i32_1617 : BitVec 32 := 0#32
  let c0_i32_1618 : BitVec 32 := 0#32
  ![v2158.toNat, 32, 0, 0]
def k0_off682 (v2933 : BitVec 32) : Fin 3 → Nat :=
  let c0_i32_1619 : BitVec 32 := 0#32
  let c0_i32_1620 : BitVec 32 := 0#32
  ![v2933.toNat, 0, 0]

def k0_chk322 (i : grid0.Coords) (v2933 : BitVec 32) : Prop :=
  (∀ (k0_h2 : k0_cond2 i = 1#1), ∀ a, (k0_off679 v2933) a + S1x128x128.size a ≤ S1024x128x128.size a) ∧
  (∀ (k0_h2 : k0_cond2 i = 1#1), ∀ (hinb : ∀ a, (k0_off679 v2933) a + S1x128x128.size a ≤ S1024x128x128.size a), (Rect.unit (s := S1024x128x128) (k0_off679 v2933) S1x128x128.size hinb).WholeWords (EltTy.packing .bf16)) ∧
  (∀ (k0_h2 : k0_cond2 i = 1#1), ∀ a, (k0_off682 v2933) a + S1x1x128.size a ≤ S1024x1x128.size a)
theorem k0_off679_inb : ∀ (i : grid0.Coords) (v2933 : BitVec 32) (k0_hw322 : k0_chk322 i v2933), ∀ (k0_h2 : k0_cond2 i = 1#1), ∀ a, (k0_off679 v2933) a + S1x128x128.size a ≤ S1024x128x128.size a := fun i v2933 k0_hw322 k0_h2 => k0_hw322.1 k0_h2
theorem k0_off679_wordsbf16 : ∀ (i : grid0.Coords) (v2933 : BitVec 32) (k0_hw322 : k0_chk322 i v2933), ∀ (k0_h2 : k0_cond2 i = 1#1), (Rect.unit (s := S1024x128x128) (k0_off679 v2933) S1x128x128.size (k0_off679_inb i v2933 k0_hw322 k0_h2)).WholeWords (EltTy.packing .bf16) := fun i v2933 k0_hw322 k0_h2 => k0_hw322.2.1 k0_h2 (k0_off679_inb i v2933 k0_hw322 k0_h2)
theorem k0_off682_inb : ∀ (i : grid0.Coords) (v2933 : BitVec 32) (k0_hw322 : k0_chk322 i v2933), ∀ (k0_h2 : k0_cond2 i = 1#1), ∀ a, (k0_off682 v2933) a + S1x1x128.size a ≤ S1024x1x128.size a := fun i v2933 k0_hw322 k0_h2 => k0_hw322.2.2 k0_h2

def k0_off683 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c33_i32_1621 : BitVec 32 := 33#32
  let v2952 : BitVec 32 := Scalar.addi v2159 c33_i32_1621
  let v2953 : Index := Scalar.indexCast v2952
  ![v2953.toNat]
def k0_off684 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c33_i32_1623 : BitVec 32 := 33#32
  let c0_i32_1624 : BitVec 32 := 0#32
  let c0_i32_1625 : BitVec 32 := 0#32
  ![v2158.toNat, 33, 0, 0]
def k0_off685 (v2954 : BitVec 32) : Fin 3 → Nat :=
  let c0_i32_1626 : BitVec 32 := 0#32
  let c0_i32_1627 : BitVec 32 := 0#32
  ![v2954.toNat, 0, 0]

def k0_chk323 (i : grid0.Coords) (v2954 : BitVec 32) : Prop :=
  (∀ (k0_h2 : k0_cond2 i = 1#1), ∀ a, (k0_off685 v2954) a + S1x128x64.size a ≤ S4096x128x64.size a)
theorem k0_off685_inb : ∀ (i : grid0.Coords) (v2954 : BitVec 32) (k0_hw323 : k0_chk323 i v2954), ∀ (k0_h2 : k0_cond2 i = 1#1), ∀ a, (k0_off685 v2954) a + S1x128x64.size a ≤ S4096x128x64.size a := fun i v2954 k0_hw323 k0_h2 => k0_hw323 k0_h2

def k0_off686 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off687 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c33_i32_1628 : BitVec 32 := 33#32
  let c0_i32_1629 : BitVec 32 := 0#32
  let c0_i32_1630 : BitVec 32 := 0#32
  ![v2158.toNat, 33, 0, 0]
def k0_off688 (v2957 : BitVec 32) : Fin 3 → Nat :=
  let c0_i32_1631 : BitVec 32 := 0#32
  let c0_i32_1632 : BitVec 32 := 0#32
  ![v2957.toNat, 0, 0]

def k0_off689 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off690 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c33_i32_1633 : BitVec 32 := 33#32
  let c0_i32_1634 : BitVec 32 := 0#32
  let c0_i32_1635 : BitVec 32 := 0#32
  ![v2158.toNat, 33, 0, 0]
def k0_off691 (v2957 : BitVec 32) : Fin 3 → Nat :=
  let c0_i32_1636 : BitVec 32 := 0#32
  let c0_i32_1637 : BitVec 32 := 0#32
  ![v2957.toNat, 0, 0]

def k0_chk324 (i : grid0.Coords) (v2957 : BitVec 32) : Prop :=
  (∀ (k0_h2 : k0_cond2 i = 1#1), ∀ a, (k0_off688 v2957) a + S1x128x128.size a ≤ S1024x128x128.size a) ∧
  (∀ (k0_h2 : k0_cond2 i = 1#1), ∀ (hinb : ∀ a, (k0_off688 v2957) a + S1x128x128.size a ≤ S1024x128x128.size a), (Rect.unit (s := S1024x128x128) (k0_off688 v2957) S1x128x128.size hinb).WholeWords (EltTy.packing .bf16)) ∧
  (∀ (k0_h2 : k0_cond2 i = 1#1), ∀ a, (k0_off691 v2957) a + S1x1x128.size a ≤ S1024x1x128.size a)
theorem k0_off688_inb : ∀ (i : grid0.Coords) (v2957 : BitVec 32) (k0_hw324 : k0_chk324 i v2957), ∀ (k0_h2 : k0_cond2 i = 1#1), ∀ a, (k0_off688 v2957) a + S1x128x128.size a ≤ S1024x128x128.size a := fun i v2957 k0_hw324 k0_h2 => k0_hw324.1 k0_h2
theorem k0_off688_wordsbf16 : ∀ (i : grid0.Coords) (v2957 : BitVec 32) (k0_hw324 : k0_chk324 i v2957), ∀ (k0_h2 : k0_cond2 i = 1#1), (Rect.unit (s := S1024x128x128) (k0_off688 v2957) S1x128x128.size (k0_off688_inb i v2957 k0_hw324 k0_h2)).WholeWords (EltTy.packing .bf16) := fun i v2957 k0_hw324 k0_h2 => k0_hw324.2.1 k0_h2 (k0_off688_inb i v2957 k0_hw324 k0_h2)
theorem k0_off691_inb : ∀ (i : grid0.Coords) (v2957 : BitVec 32) (k0_hw324 : k0_chk324 i v2957), ∀ (k0_h2 : k0_cond2 i = 1#1), ∀ a, (k0_off691 v2957) a + S1x1x128.size a ≤ S1024x1x128.size a := fun i v2957 k0_hw324 k0_h2 => k0_hw324.2.2 k0_h2

def k0_off692 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c34_i32_1638 : BitVec 32 := 34#32
  let v2976 : BitVec 32 := Scalar.addi v2159 c34_i32_1638
  let v2977 : Index := Scalar.indexCast v2976
  ![v2977.toNat]
def k0_off693 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c34_i32_1640 : BitVec 32 := 34#32
  let c0_i32_1641 : BitVec 32 := 0#32
  let c0_i32_1642 : BitVec 32 := 0#32
  ![v2158.toNat, 34, 0, 0]
def k0_off694 (v2978 : BitVec 32) : Fin 3 → Nat :=
  let c0_i32_1643 : BitVec 32 := 0#32
  let c0_i32_1644 : BitVec 32 := 0#32
  ![v2978.toNat, 0, 0]

def k0_chk325 (i : grid0.Coords) (v2978 : BitVec 32) : Prop :=
  (∀ (k0_h2 : k0_cond2 i = 1#1), ∀ a, (k0_off694 v2978) a + S1x128x64.size a ≤ S4096x128x64.size a)
theorem k0_off694_inb : ∀ (i : grid0.Coords) (v2978 : BitVec 32) (k0_hw325 : k0_chk325 i v2978), ∀ (k0_h2 : k0_cond2 i = 1#1), ∀ a, (k0_off694 v2978) a + S1x128x64.size a ≤ S4096x128x64.size a := fun i v2978 k0_hw325 k0_h2 => k0_hw325 k0_h2

def k0_off695 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off696 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c34_i32_1645 : BitVec 32 := 34#32
  let c0_i32_1646 : BitVec 32 := 0#32
  let c0_i32_1647 : BitVec 32 := 0#32
  ![v2158.toNat, 34, 0, 0]
def k0_off697 (v2981 : BitVec 32) : Fin 3 → Nat :=
  let c0_i32_1648 : BitVec 32 := 0#32
  let c0_i32_1649 : BitVec 32 := 0#32
  ![v2981.toNat, 0, 0]

def k0_off698 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off699 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c34_i32_1650 : BitVec 32 := 34#32
  let c0_i32_1651 : BitVec 32 := 0#32
  let c0_i32_1652 : BitVec 32 := 0#32
  ![v2158.toNat, 34, 0, 0]
def k0_off700 (v2981 : BitVec 32) : Fin 3 → Nat :=
  let c0_i32_1653 : BitVec 32 := 0#32
  let c0_i32_1654 : BitVec 32 := 0#32
  ![v2981.toNat, 0, 0]

def k0_chk326 (i : grid0.Coords) (v2981 : BitVec 32) : Prop :=
  (∀ (k0_h2 : k0_cond2 i = 1#1), ∀ a, (k0_off697 v2981) a + S1x128x128.size a ≤ S1024x128x128.size a) ∧
  (∀ (k0_h2 : k0_cond2 i = 1#1), ∀ (hinb : ∀ a, (k0_off697 v2981) a + S1x128x128.size a ≤ S1024x128x128.size a), (Rect.unit (s := S1024x128x128) (k0_off697 v2981) S1x128x128.size hinb).WholeWords (EltTy.packing .bf16)) ∧
  (∀ (k0_h2 : k0_cond2 i = 1#1), ∀ a, (k0_off700 v2981) a + S1x1x128.size a ≤ S1024x1x128.size a)
theorem k0_off697_inb : ∀ (i : grid0.Coords) (v2981 : BitVec 32) (k0_hw326 : k0_chk326 i v2981), ∀ (k0_h2 : k0_cond2 i = 1#1), ∀ a, (k0_off697 v2981) a + S1x128x128.size a ≤ S1024x128x128.size a := fun i v2981 k0_hw326 k0_h2 => k0_hw326.1 k0_h2
theorem k0_off697_wordsbf16 : ∀ (i : grid0.Coords) (v2981 : BitVec 32) (k0_hw326 : k0_chk326 i v2981), ∀ (k0_h2 : k0_cond2 i = 1#1), (Rect.unit (s := S1024x128x128) (k0_off697 v2981) S1x128x128.size (k0_off697_inb i v2981 k0_hw326 k0_h2)).WholeWords (EltTy.packing .bf16) := fun i v2981 k0_hw326 k0_h2 => k0_hw326.2.1 k0_h2 (k0_off697_inb i v2981 k0_hw326 k0_h2)
theorem k0_off700_inb : ∀ (i : grid0.Coords) (v2981 : BitVec 32) (k0_hw326 : k0_chk326 i v2981), ∀ (k0_h2 : k0_cond2 i = 1#1), ∀ a, (k0_off700 v2981) a + S1x1x128.size a ≤ S1024x1x128.size a := fun i v2981 k0_hw326 k0_h2 => k0_hw326.2.2 k0_h2

def k0_off701 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c35_i32_1655 : BitVec 32 := 35#32
  let v3000 : BitVec 32 := Scalar.addi v2159 c35_i32_1655
  let v3001 : Index := Scalar.indexCast v3000
  ![v3001.toNat]
def k0_off702 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c35_i32_1657 : BitVec 32 := 35#32
  let c0_i32_1658 : BitVec 32 := 0#32
  let c0_i32_1659 : BitVec 32 := 0#32
  ![v2158.toNat, 35, 0, 0]
def k0_off703 (v3002 : BitVec 32) : Fin 3 → Nat :=
  let c0_i32_1660 : BitVec 32 := 0#32
  let c0_i32_1661 : BitVec 32 := 0#32
  ![v3002.toNat, 0, 0]

def k0_chk327 (i : grid0.Coords) (v3002 : BitVec 32) : Prop :=
  (∀ (k0_h2 : k0_cond2 i = 1#1), ∀ a, (k0_off703 v3002) a + S1x128x64.size a ≤ S4096x128x64.size a)
theorem k0_off703_inb : ∀ (i : grid0.Coords) (v3002 : BitVec 32) (k0_hw327 : k0_chk327 i v3002), ∀ (k0_h2 : k0_cond2 i = 1#1), ∀ a, (k0_off703 v3002) a + S1x128x64.size a ≤ S4096x128x64.size a := fun i v3002 k0_hw327 k0_h2 => k0_hw327 k0_h2

def k0_off704 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off705 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c35_i32_1662 : BitVec 32 := 35#32
  let c0_i32_1663 : BitVec 32 := 0#32
  let c0_i32_1664 : BitVec 32 := 0#32
  ![v2158.toNat, 35, 0, 0]
def k0_off706 (v3005 : BitVec 32) : Fin 3 → Nat :=
  let c0_i32_1665 : BitVec 32 := 0#32
  let c0_i32_1666 : BitVec 32 := 0#32
  ![v3005.toNat, 0, 0]

def k0_off707 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off708 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c35_i32_1667 : BitVec 32 := 35#32
  let c0_i32_1668 : BitVec 32 := 0#32
  let c0_i32_1669 : BitVec 32 := 0#32
  ![v2158.toNat, 35, 0, 0]
def k0_off709 (v3005 : BitVec 32) : Fin 3 → Nat :=
  let c0_i32_1670 : BitVec 32 := 0#32
  let c0_i32_1671 : BitVec 32 := 0#32
  ![v3005.toNat, 0, 0]

def k0_chk328 (i : grid0.Coords) (v3005 : BitVec 32) : Prop :=
  (∀ (k0_h2 : k0_cond2 i = 1#1), ∀ a, (k0_off706 v3005) a + S1x128x128.size a ≤ S1024x128x128.size a) ∧
  (∀ (k0_h2 : k0_cond2 i = 1#1), ∀ (hinb : ∀ a, (k0_off706 v3005) a + S1x128x128.size a ≤ S1024x128x128.size a), (Rect.unit (s := S1024x128x128) (k0_off706 v3005) S1x128x128.size hinb).WholeWords (EltTy.packing .bf16)) ∧
  (∀ (k0_h2 : k0_cond2 i = 1#1), ∀ a, (k0_off709 v3005) a + S1x1x128.size a ≤ S1024x1x128.size a)
theorem k0_off706_inb : ∀ (i : grid0.Coords) (v3005 : BitVec 32) (k0_hw328 : k0_chk328 i v3005), ∀ (k0_h2 : k0_cond2 i = 1#1), ∀ a, (k0_off706 v3005) a + S1x128x128.size a ≤ S1024x128x128.size a := fun i v3005 k0_hw328 k0_h2 => k0_hw328.1 k0_h2
theorem k0_off706_wordsbf16 : ∀ (i : grid0.Coords) (v3005 : BitVec 32) (k0_hw328 : k0_chk328 i v3005), ∀ (k0_h2 : k0_cond2 i = 1#1), (Rect.unit (s := S1024x128x128) (k0_off706 v3005) S1x128x128.size (k0_off706_inb i v3005 k0_hw328 k0_h2)).WholeWords (EltTy.packing .bf16) := fun i v3005 k0_hw328 k0_h2 => k0_hw328.2.1 k0_h2 (k0_off706_inb i v3005 k0_hw328 k0_h2)
theorem k0_off709_inb : ∀ (i : grid0.Coords) (v3005 : BitVec 32) (k0_hw328 : k0_chk328 i v3005), ∀ (k0_h2 : k0_cond2 i = 1#1), ∀ a, (k0_off709 v3005) a + S1x1x128.size a ≤ S1024x1x128.size a := fun i v3005 k0_hw328 k0_h2 => k0_hw328.2.2 k0_h2

def k0_off710 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c36_i32_1672 : BitVec 32 := 36#32
  let v3024 : BitVec 32 := Scalar.addi v2159 c36_i32_1672
  let v3025 : Index := Scalar.indexCast v3024
  ![v3025.toNat]
def k0_off711 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c36_i32_1674 : BitVec 32 := 36#32
  let c0_i32_1675 : BitVec 32 := 0#32
  let c0_i32_1676 : BitVec 32 := 0#32
  ![v2158.toNat, 36, 0, 0]
def k0_off712 (v3026 : BitVec 32) : Fin 3 → Nat :=
  let c0_i32_1677 : BitVec 32 := 0#32
  let c0_i32_1678 : BitVec 32 := 0#32
  ![v3026.toNat, 0, 0]

def k0_chk329 (i : grid0.Coords) (v3026 : BitVec 32) : Prop :=
  (∀ (k0_h2 : k0_cond2 i = 1#1), ∀ a, (k0_off712 v3026) a + S1x128x64.size a ≤ S4096x128x64.size a)
theorem k0_off712_inb : ∀ (i : grid0.Coords) (v3026 : BitVec 32) (k0_hw329 : k0_chk329 i v3026), ∀ (k0_h2 : k0_cond2 i = 1#1), ∀ a, (k0_off712 v3026) a + S1x128x64.size a ≤ S4096x128x64.size a := fun i v3026 k0_hw329 k0_h2 => k0_hw329 k0_h2

def k0_off713 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off714 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c36_i32_1679 : BitVec 32 := 36#32
  let c0_i32_1680 : BitVec 32 := 0#32
  let c0_i32_1681 : BitVec 32 := 0#32
  ![v2158.toNat, 36, 0, 0]
def k0_off715 (v3029 : BitVec 32) : Fin 3 → Nat :=
  let c0_i32_1682 : BitVec 32 := 0#32
  let c0_i32_1683 : BitVec 32 := 0#32
  ![v3029.toNat, 0, 0]

def k0_off716 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off717 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c36_i32_1684 : BitVec 32 := 36#32
  let c0_i32_1685 : BitVec 32 := 0#32
  let c0_i32_1686 : BitVec 32 := 0#32
  ![v2158.toNat, 36, 0, 0]
def k0_off718 (v3029 : BitVec 32) : Fin 3 → Nat :=
  let c0_i32_1687 : BitVec 32 := 0#32
  let c0_i32_1688 : BitVec 32 := 0#32
  ![v3029.toNat, 0, 0]

def k0_chk330 (i : grid0.Coords) (v3029 : BitVec 32) : Prop :=
  (∀ (k0_h2 : k0_cond2 i = 1#1), ∀ a, (k0_off715 v3029) a + S1x128x128.size a ≤ S1024x128x128.size a) ∧
  (∀ (k0_h2 : k0_cond2 i = 1#1), ∀ (hinb : ∀ a, (k0_off715 v3029) a + S1x128x128.size a ≤ S1024x128x128.size a), (Rect.unit (s := S1024x128x128) (k0_off715 v3029) S1x128x128.size hinb).WholeWords (EltTy.packing .bf16)) ∧
  (∀ (k0_h2 : k0_cond2 i = 1#1), ∀ a, (k0_off718 v3029) a + S1x1x128.size a ≤ S1024x1x128.size a)
theorem k0_off715_inb : ∀ (i : grid0.Coords) (v3029 : BitVec 32) (k0_hw330 : k0_chk330 i v3029), ∀ (k0_h2 : k0_cond2 i = 1#1), ∀ a, (k0_off715 v3029) a + S1x128x128.size a ≤ S1024x128x128.size a := fun i v3029 k0_hw330 k0_h2 => k0_hw330.1 k0_h2
theorem k0_off715_wordsbf16 : ∀ (i : grid0.Coords) (v3029 : BitVec 32) (k0_hw330 : k0_chk330 i v3029), ∀ (k0_h2 : k0_cond2 i = 1#1), (Rect.unit (s := S1024x128x128) (k0_off715 v3029) S1x128x128.size (k0_off715_inb i v3029 k0_hw330 k0_h2)).WholeWords (EltTy.packing .bf16) := fun i v3029 k0_hw330 k0_h2 => k0_hw330.2.1 k0_h2 (k0_off715_inb i v3029 k0_hw330 k0_h2)
theorem k0_off718_inb : ∀ (i : grid0.Coords) (v3029 : BitVec 32) (k0_hw330 : k0_chk330 i v3029), ∀ (k0_h2 : k0_cond2 i = 1#1), ∀ a, (k0_off718 v3029) a + S1x1x128.size a ≤ S1024x1x128.size a := fun i v3029 k0_hw330 k0_h2 => k0_hw330.2.2 k0_h2

def k0_off719 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c37_i32_1689 : BitVec 32 := 37#32
  let v3048 : BitVec 32 := Scalar.addi v2159 c37_i32_1689
  let v3049 : Index := Scalar.indexCast v3048
  ![v3049.toNat]
def k0_off720 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c37_i32_1691 : BitVec 32 := 37#32
  let c0_i32_1692 : BitVec 32 := 0#32
  let c0_i32_1693 : BitVec 32 := 0#32
  ![v2158.toNat, 37, 0, 0]
def k0_off721 (v3050 : BitVec 32) : Fin 3 → Nat :=
  let c0_i32_1694 : BitVec 32 := 0#32
  let c0_i32_1695 : BitVec 32 := 0#32
  ![v3050.toNat, 0, 0]

def k0_chk331 (i : grid0.Coords) (v3050 : BitVec 32) : Prop :=
  (∀ (k0_h2 : k0_cond2 i = 1#1), ∀ a, (k0_off721 v3050) a + S1x128x64.size a ≤ S4096x128x64.size a)
theorem k0_off721_inb : ∀ (i : grid0.Coords) (v3050 : BitVec 32) (k0_hw331 : k0_chk331 i v3050), ∀ (k0_h2 : k0_cond2 i = 1#1), ∀ a, (k0_off721 v3050) a + S1x128x64.size a ≤ S4096x128x64.size a := fun i v3050 k0_hw331 k0_h2 => k0_hw331 k0_h2

def k0_off722 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off723 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c37_i32_1696 : BitVec 32 := 37#32
  let c0_i32_1697 : BitVec 32 := 0#32
  let c0_i32_1698 : BitVec 32 := 0#32
  ![v2158.toNat, 37, 0, 0]
def k0_off724 (v3053 : BitVec 32) : Fin 3 → Nat :=
  let c0_i32_1699 : BitVec 32 := 0#32
  let c0_i32_1700 : BitVec 32 := 0#32
  ![v3053.toNat, 0, 0]

def k0_off725 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off726 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c37_i32_1701 : BitVec 32 := 37#32
  let c0_i32_1702 : BitVec 32 := 0#32
  let c0_i32_1703 : BitVec 32 := 0#32
  ![v2158.toNat, 37, 0, 0]
def k0_off727 (v3053 : BitVec 32) : Fin 3 → Nat :=
  let c0_i32_1704 : BitVec 32 := 0#32
  let c0_i32_1705 : BitVec 32 := 0#32
  ![v3053.toNat, 0, 0]

def k0_chk332 (i : grid0.Coords) (v3053 : BitVec 32) : Prop :=
  (∀ (k0_h2 : k0_cond2 i = 1#1), ∀ a, (k0_off724 v3053) a + S1x128x128.size a ≤ S1024x128x128.size a) ∧
  (∀ (k0_h2 : k0_cond2 i = 1#1), ∀ (hinb : ∀ a, (k0_off724 v3053) a + S1x128x128.size a ≤ S1024x128x128.size a), (Rect.unit (s := S1024x128x128) (k0_off724 v3053) S1x128x128.size hinb).WholeWords (EltTy.packing .bf16)) ∧
  (∀ (k0_h2 : k0_cond2 i = 1#1), ∀ a, (k0_off727 v3053) a + S1x1x128.size a ≤ S1024x1x128.size a)
theorem k0_off724_inb : ∀ (i : grid0.Coords) (v3053 : BitVec 32) (k0_hw332 : k0_chk332 i v3053), ∀ (k0_h2 : k0_cond2 i = 1#1), ∀ a, (k0_off724 v3053) a + S1x128x128.size a ≤ S1024x128x128.size a := fun i v3053 k0_hw332 k0_h2 => k0_hw332.1 k0_h2
theorem k0_off724_wordsbf16 : ∀ (i : grid0.Coords) (v3053 : BitVec 32) (k0_hw332 : k0_chk332 i v3053), ∀ (k0_h2 : k0_cond2 i = 1#1), (Rect.unit (s := S1024x128x128) (k0_off724 v3053) S1x128x128.size (k0_off724_inb i v3053 k0_hw332 k0_h2)).WholeWords (EltTy.packing .bf16) := fun i v3053 k0_hw332 k0_h2 => k0_hw332.2.1 k0_h2 (k0_off724_inb i v3053 k0_hw332 k0_h2)
theorem k0_off727_inb : ∀ (i : grid0.Coords) (v3053 : BitVec 32) (k0_hw332 : k0_chk332 i v3053), ∀ (k0_h2 : k0_cond2 i = 1#1), ∀ a, (k0_off727 v3053) a + S1x1x128.size a ≤ S1024x1x128.size a := fun i v3053 k0_hw332 k0_h2 => k0_hw332.2.2 k0_h2

def k0_off728 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c38_i32_1706 : BitVec 32 := 38#32
  let v3072 : BitVec 32 := Scalar.addi v2159 c38_i32_1706
  let v3073 : Index := Scalar.indexCast v3072
  ![v3073.toNat]
def k0_off729 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c38_i32_1708 : BitVec 32 := 38#32
  let c0_i32_1709 : BitVec 32 := 0#32
  let c0_i32_1710 : BitVec 32 := 0#32
  ![v2158.toNat, 38, 0, 0]
def k0_off730 (v3074 : BitVec 32) : Fin 3 → Nat :=
  let c0_i32_1711 : BitVec 32 := 0#32
  let c0_i32_1712 : BitVec 32 := 0#32
  ![v3074.toNat, 0, 0]

def k0_chk333 (i : grid0.Coords) (v3074 : BitVec 32) : Prop :=
  (∀ (k0_h2 : k0_cond2 i = 1#1), ∀ a, (k0_off730 v3074) a + S1x128x64.size a ≤ S4096x128x64.size a)
theorem k0_off730_inb : ∀ (i : grid0.Coords) (v3074 : BitVec 32) (k0_hw333 : k0_chk333 i v3074), ∀ (k0_h2 : k0_cond2 i = 1#1), ∀ a, (k0_off730 v3074) a + S1x128x64.size a ≤ S4096x128x64.size a := fun i v3074 k0_hw333 k0_h2 => k0_hw333 k0_h2

def k0_off731 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off732 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c38_i32_1713 : BitVec 32 := 38#32
  let c0_i32_1714 : BitVec 32 := 0#32
  let c0_i32_1715 : BitVec 32 := 0#32
  ![v2158.toNat, 38, 0, 0]
def k0_off733 (v3077 : BitVec 32) : Fin 3 → Nat :=
  let c0_i32_1716 : BitVec 32 := 0#32
  let c0_i32_1717 : BitVec 32 := 0#32
  ![v3077.toNat, 0, 0]

def k0_off734 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off735 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c38_i32_1718 : BitVec 32 := 38#32
  let c0_i32_1719 : BitVec 32 := 0#32
  let c0_i32_1720 : BitVec 32 := 0#32
  ![v2158.toNat, 38, 0, 0]
def k0_off736 (v3077 : BitVec 32) : Fin 3 → Nat :=
  let c0_i32_1721 : BitVec 32 := 0#32
  let c0_i32_1722 : BitVec 32 := 0#32
  ![v3077.toNat, 0, 0]

def k0_chk334 (i : grid0.Coords) (v3077 : BitVec 32) : Prop :=
  (∀ (k0_h2 : k0_cond2 i = 1#1), ∀ a, (k0_off733 v3077) a + S1x128x128.size a ≤ S1024x128x128.size a) ∧
  (∀ (k0_h2 : k0_cond2 i = 1#1), ∀ (hinb : ∀ a, (k0_off733 v3077) a + S1x128x128.size a ≤ S1024x128x128.size a), (Rect.unit (s := S1024x128x128) (k0_off733 v3077) S1x128x128.size hinb).WholeWords (EltTy.packing .bf16)) ∧
  (∀ (k0_h2 : k0_cond2 i = 1#1), ∀ a, (k0_off736 v3077) a + S1x1x128.size a ≤ S1024x1x128.size a)
theorem k0_off733_inb : ∀ (i : grid0.Coords) (v3077 : BitVec 32) (k0_hw334 : k0_chk334 i v3077), ∀ (k0_h2 : k0_cond2 i = 1#1), ∀ a, (k0_off733 v3077) a + S1x128x128.size a ≤ S1024x128x128.size a := fun i v3077 k0_hw334 k0_h2 => k0_hw334.1 k0_h2
theorem k0_off733_wordsbf16 : ∀ (i : grid0.Coords) (v3077 : BitVec 32) (k0_hw334 : k0_chk334 i v3077), ∀ (k0_h2 : k0_cond2 i = 1#1), (Rect.unit (s := S1024x128x128) (k0_off733 v3077) S1x128x128.size (k0_off733_inb i v3077 k0_hw334 k0_h2)).WholeWords (EltTy.packing .bf16) := fun i v3077 k0_hw334 k0_h2 => k0_hw334.2.1 k0_h2 (k0_off733_inb i v3077 k0_hw334 k0_h2)
theorem k0_off736_inb : ∀ (i : grid0.Coords) (v3077 : BitVec 32) (k0_hw334 : k0_chk334 i v3077), ∀ (k0_h2 : k0_cond2 i = 1#1), ∀ a, (k0_off736 v3077) a + S1x1x128.size a ≤ S1024x1x128.size a := fun i v3077 k0_hw334 k0_h2 => k0_hw334.2.2 k0_h2

def k0_off737 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c39_i32_1723 : BitVec 32 := 39#32
  let v3096 : BitVec 32 := Scalar.addi v2159 c39_i32_1723
  let v3097 : Index := Scalar.indexCast v3096
  ![v3097.toNat]
def k0_off738 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c39_i32_1725 : BitVec 32 := 39#32
  let c0_i32_1726 : BitVec 32 := 0#32
  let c0_i32_1727 : BitVec 32 := 0#32
  ![v2158.toNat, 39, 0, 0]
def k0_off739 (v3098 : BitVec 32) : Fin 3 → Nat :=
  let c0_i32_1728 : BitVec 32 := 0#32
  let c0_i32_1729 : BitVec 32 := 0#32
  ![v3098.toNat, 0, 0]

def k0_chk335 (i : grid0.Coords) (v3098 : BitVec 32) : Prop :=
  (∀ (k0_h2 : k0_cond2 i = 1#1), ∀ a, (k0_off739 v3098) a + S1x128x64.size a ≤ S4096x128x64.size a)
theorem k0_off739_inb : ∀ (i : grid0.Coords) (v3098 : BitVec 32) (k0_hw335 : k0_chk335 i v3098), ∀ (k0_h2 : k0_cond2 i = 1#1), ∀ a, (k0_off739 v3098) a + S1x128x64.size a ≤ S4096x128x64.size a := fun i v3098 k0_hw335 k0_h2 => k0_hw335 k0_h2

def k0_off740 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off741 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c39_i32_1730 : BitVec 32 := 39#32
  let c0_i32_1731 : BitVec 32 := 0#32
  let c0_i32_1732 : BitVec 32 := 0#32
  ![v2158.toNat, 39, 0, 0]
def k0_off742 (v3101 : BitVec 32) : Fin 3 → Nat :=
  let c0_i32_1733 : BitVec 32 := 0#32
  let c0_i32_1734 : BitVec 32 := 0#32
  ![v3101.toNat, 0, 0]

def k0_off743 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off744 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c39_i32_1735 : BitVec 32 := 39#32
  let c0_i32_1736 : BitVec 32 := 0#32
  let c0_i32_1737 : BitVec 32 := 0#32
  ![v2158.toNat, 39, 0, 0]
def k0_off745 (v3101 : BitVec 32) : Fin 3 → Nat :=
  let c0_i32_1738 : BitVec 32 := 0#32
  let c0_i32_1739 : BitVec 32 := 0#32
  ![v3101.toNat, 0, 0]

def k0_chk336 (i : grid0.Coords) (v3101 : BitVec 32) : Prop :=
  (∀ (k0_h2 : k0_cond2 i = 1#1), ∀ a, (k0_off742 v3101) a + S1x128x128.size a ≤ S1024x128x128.size a) ∧
  (∀ (k0_h2 : k0_cond2 i = 1#1), ∀ (hinb : ∀ a, (k0_off742 v3101) a + S1x128x128.size a ≤ S1024x128x128.size a), (Rect.unit (s := S1024x128x128) (k0_off742 v3101) S1x128x128.size hinb).WholeWords (EltTy.packing .bf16)) ∧
  (∀ (k0_h2 : k0_cond2 i = 1#1), ∀ a, (k0_off745 v3101) a + S1x1x128.size a ≤ S1024x1x128.size a)
theorem k0_off742_inb : ∀ (i : grid0.Coords) (v3101 : BitVec 32) (k0_hw336 : k0_chk336 i v3101), ∀ (k0_h2 : k0_cond2 i = 1#1), ∀ a, (k0_off742 v3101) a + S1x128x128.size a ≤ S1024x128x128.size a := fun i v3101 k0_hw336 k0_h2 => k0_hw336.1 k0_h2
theorem k0_off742_wordsbf16 : ∀ (i : grid0.Coords) (v3101 : BitVec 32) (k0_hw336 : k0_chk336 i v3101), ∀ (k0_h2 : k0_cond2 i = 1#1), (Rect.unit (s := S1024x128x128) (k0_off742 v3101) S1x128x128.size (k0_off742_inb i v3101 k0_hw336 k0_h2)).WholeWords (EltTy.packing .bf16) := fun i v3101 k0_hw336 k0_h2 => k0_hw336.2.1 k0_h2 (k0_off742_inb i v3101 k0_hw336 k0_h2)
theorem k0_off745_inb : ∀ (i : grid0.Coords) (v3101 : BitVec 32) (k0_hw336 : k0_chk336 i v3101), ∀ (k0_h2 : k0_cond2 i = 1#1), ∀ a, (k0_off745 v3101) a + S1x1x128.size a ≤ S1024x1x128.size a := fun i v3101 k0_hw336 k0_h2 => k0_hw336.2.2 k0_h2

def k0_off746 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c40_i32_1740 : BitVec 32 := 40#32
  let v3120 : BitVec 32 := Scalar.addi v2159 c40_i32_1740
  let v3121 : Index := Scalar.indexCast v3120
  ![v3121.toNat]
def k0_off747 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c40_i32_1742 : BitVec 32 := 40#32
  let c0_i32_1743 : BitVec 32 := 0#32
  let c0_i32_1744 : BitVec 32 := 0#32
  ![v2158.toNat, 40, 0, 0]
def k0_off748 (v3122 : BitVec 32) : Fin 3 → Nat :=
  let c0_i32_1745 : BitVec 32 := 0#32
  let c0_i32_1746 : BitVec 32 := 0#32
  ![v3122.toNat, 0, 0]

def k0_chk337 (i : grid0.Coords) (v3122 : BitVec 32) : Prop :=
  (∀ (k0_h2 : k0_cond2 i = 1#1), ∀ a, (k0_off748 v3122) a + S1x128x64.size a ≤ S4096x128x64.size a)
theorem k0_off748_inb : ∀ (i : grid0.Coords) (v3122 : BitVec 32) (k0_hw337 : k0_chk337 i v3122), ∀ (k0_h2 : k0_cond2 i = 1#1), ∀ a, (k0_off748 v3122) a + S1x128x64.size a ≤ S4096x128x64.size a := fun i v3122 k0_hw337 k0_h2 => k0_hw337 k0_h2

def k0_off749 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off750 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c40_i32_1747 : BitVec 32 := 40#32
  let c0_i32_1748 : BitVec 32 := 0#32
  let c0_i32_1749 : BitVec 32 := 0#32
  ![v2158.toNat, 40, 0, 0]
def k0_off751 (v3125 : BitVec 32) : Fin 3 → Nat :=
  let c0_i32_1750 : BitVec 32 := 0#32
  let c0_i32_1751 : BitVec 32 := 0#32
  ![v3125.toNat, 0, 0]

def k0_off752 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off753 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c40_i32_1752 : BitVec 32 := 40#32
  let c0_i32_1753 : BitVec 32 := 0#32
  let c0_i32_1754 : BitVec 32 := 0#32
  ![v2158.toNat, 40, 0, 0]
def k0_off754 (v3125 : BitVec 32) : Fin 3 → Nat :=
  let c0_i32_1755 : BitVec 32 := 0#32
  let c0_i32_1756 : BitVec 32 := 0#32
  ![v3125.toNat, 0, 0]

def k0_chk338 (i : grid0.Coords) (v3125 : BitVec 32) : Prop :=
  (∀ (k0_h2 : k0_cond2 i = 1#1), ∀ a, (k0_off751 v3125) a + S1x128x128.size a ≤ S1024x128x128.size a) ∧
  (∀ (k0_h2 : k0_cond2 i = 1#1), ∀ (hinb : ∀ a, (k0_off751 v3125) a + S1x128x128.size a ≤ S1024x128x128.size a), (Rect.unit (s := S1024x128x128) (k0_off751 v3125) S1x128x128.size hinb).WholeWords (EltTy.packing .bf16)) ∧
  (∀ (k0_h2 : k0_cond2 i = 1#1), ∀ a, (k0_off754 v3125) a + S1x1x128.size a ≤ S1024x1x128.size a)
theorem k0_off751_inb : ∀ (i : grid0.Coords) (v3125 : BitVec 32) (k0_hw338 : k0_chk338 i v3125), ∀ (k0_h2 : k0_cond2 i = 1#1), ∀ a, (k0_off751 v3125) a + S1x128x128.size a ≤ S1024x128x128.size a := fun i v3125 k0_hw338 k0_h2 => k0_hw338.1 k0_h2
theorem k0_off751_wordsbf16 : ∀ (i : grid0.Coords) (v3125 : BitVec 32) (k0_hw338 : k0_chk338 i v3125), ∀ (k0_h2 : k0_cond2 i = 1#1), (Rect.unit (s := S1024x128x128) (k0_off751 v3125) S1x128x128.size (k0_off751_inb i v3125 k0_hw338 k0_h2)).WholeWords (EltTy.packing .bf16) := fun i v3125 k0_hw338 k0_h2 => k0_hw338.2.1 k0_h2 (k0_off751_inb i v3125 k0_hw338 k0_h2)
theorem k0_off754_inb : ∀ (i : grid0.Coords) (v3125 : BitVec 32) (k0_hw338 : k0_chk338 i v3125), ∀ (k0_h2 : k0_cond2 i = 1#1), ∀ a, (k0_off754 v3125) a + S1x1x128.size a ≤ S1024x1x128.size a := fun i v3125 k0_hw338 k0_h2 => k0_hw338.2.2 k0_h2

def k0_off755 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c41_i32_1757 : BitVec 32 := 41#32
  let v3144 : BitVec 32 := Scalar.addi v2159 c41_i32_1757
  let v3145 : Index := Scalar.indexCast v3144
  ![v3145.toNat]
def k0_off756 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c41_i32_1759 : BitVec 32 := 41#32
  let c0_i32_1760 : BitVec 32 := 0#32
  let c0_i32_1761 : BitVec 32 := 0#32
  ![v2158.toNat, 41, 0, 0]
def k0_off757 (v3146 : BitVec 32) : Fin 3 → Nat :=
  let c0_i32_1762 : BitVec 32 := 0#32
  let c0_i32_1763 : BitVec 32 := 0#32
  ![v3146.toNat, 0, 0]

def k0_chk339 (i : grid0.Coords) (v3146 : BitVec 32) : Prop :=
  (∀ (k0_h2 : k0_cond2 i = 1#1), ∀ a, (k0_off757 v3146) a + S1x128x64.size a ≤ S4096x128x64.size a)
theorem k0_off757_inb : ∀ (i : grid0.Coords) (v3146 : BitVec 32) (k0_hw339 : k0_chk339 i v3146), ∀ (k0_h2 : k0_cond2 i = 1#1), ∀ a, (k0_off757 v3146) a + S1x128x64.size a ≤ S4096x128x64.size a := fun i v3146 k0_hw339 k0_h2 => k0_hw339 k0_h2

def k0_off758 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off759 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c41_i32_1764 : BitVec 32 := 41#32
  let c0_i32_1765 : BitVec 32 := 0#32
  let c0_i32_1766 : BitVec 32 := 0#32
  ![v2158.toNat, 41, 0, 0]
def k0_off760 (v3149 : BitVec 32) : Fin 3 → Nat :=
  let c0_i32_1767 : BitVec 32 := 0#32
  let c0_i32_1768 : BitVec 32 := 0#32
  ![v3149.toNat, 0, 0]

def k0_off761 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off762 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c41_i32_1769 : BitVec 32 := 41#32
  let c0_i32_1770 : BitVec 32 := 0#32
  let c0_i32_1771 : BitVec 32 := 0#32
  ![v2158.toNat, 41, 0, 0]
def k0_off763 (v3149 : BitVec 32) : Fin 3 → Nat :=
  let c0_i32_1772 : BitVec 32 := 0#32
  let c0_i32_1773 : BitVec 32 := 0#32
  ![v3149.toNat, 0, 0]

def k0_chk340 (i : grid0.Coords) (v3149 : BitVec 32) : Prop :=
  (∀ (k0_h2 : k0_cond2 i = 1#1), ∀ a, (k0_off760 v3149) a + S1x128x128.size a ≤ S1024x128x128.size a) ∧
  (∀ (k0_h2 : k0_cond2 i = 1#1), ∀ (hinb : ∀ a, (k0_off760 v3149) a + S1x128x128.size a ≤ S1024x128x128.size a), (Rect.unit (s := S1024x128x128) (k0_off760 v3149) S1x128x128.size hinb).WholeWords (EltTy.packing .bf16)) ∧
  (∀ (k0_h2 : k0_cond2 i = 1#1), ∀ a, (k0_off763 v3149) a + S1x1x128.size a ≤ S1024x1x128.size a)
theorem k0_off760_inb : ∀ (i : grid0.Coords) (v3149 : BitVec 32) (k0_hw340 : k0_chk340 i v3149), ∀ (k0_h2 : k0_cond2 i = 1#1), ∀ a, (k0_off760 v3149) a + S1x128x128.size a ≤ S1024x128x128.size a := fun i v3149 k0_hw340 k0_h2 => k0_hw340.1 k0_h2
theorem k0_off760_wordsbf16 : ∀ (i : grid0.Coords) (v3149 : BitVec 32) (k0_hw340 : k0_chk340 i v3149), ∀ (k0_h2 : k0_cond2 i = 1#1), (Rect.unit (s := S1024x128x128) (k0_off760 v3149) S1x128x128.size (k0_off760_inb i v3149 k0_hw340 k0_h2)).WholeWords (EltTy.packing .bf16) := fun i v3149 k0_hw340 k0_h2 => k0_hw340.2.1 k0_h2 (k0_off760_inb i v3149 k0_hw340 k0_h2)
theorem k0_off763_inb : ∀ (i : grid0.Coords) (v3149 : BitVec 32) (k0_hw340 : k0_chk340 i v3149), ∀ (k0_h2 : k0_cond2 i = 1#1), ∀ a, (k0_off763 v3149) a + S1x1x128.size a ≤ S1024x1x128.size a := fun i v3149 k0_hw340 k0_h2 => k0_hw340.2.2 k0_h2

def k0_off764 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c42_i32_1774 : BitVec 32 := 42#32
  let v3168 : BitVec 32 := Scalar.addi v2159 c42_i32_1774
  let v3169 : Index := Scalar.indexCast v3168
  ![v3169.toNat]
def k0_off765 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c42_i32_1776 : BitVec 32 := 42#32
  let c0_i32_1777 : BitVec 32 := 0#32
  let c0_i32_1778 : BitVec 32 := 0#32
  ![v2158.toNat, 42, 0, 0]
def k0_off766 (v3170 : BitVec 32) : Fin 3 → Nat :=
  let c0_i32_1779 : BitVec 32 := 0#32
  let c0_i32_1780 : BitVec 32 := 0#32
  ![v3170.toNat, 0, 0]

def k0_chk341 (i : grid0.Coords) (v3170 : BitVec 32) : Prop :=
  (∀ (k0_h2 : k0_cond2 i = 1#1), ∀ a, (k0_off766 v3170) a + S1x128x64.size a ≤ S4096x128x64.size a)
theorem k0_off766_inb : ∀ (i : grid0.Coords) (v3170 : BitVec 32) (k0_hw341 : k0_chk341 i v3170), ∀ (k0_h2 : k0_cond2 i = 1#1), ∀ a, (k0_off766 v3170) a + S1x128x64.size a ≤ S4096x128x64.size a := fun i v3170 k0_hw341 k0_h2 => k0_hw341 k0_h2

def k0_off767 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off768 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c42_i32_1781 : BitVec 32 := 42#32
  let c0_i32_1782 : BitVec 32 := 0#32
  let c0_i32_1783 : BitVec 32 := 0#32
  ![v2158.toNat, 42, 0, 0]
def k0_off769 (v3173 : BitVec 32) : Fin 3 → Nat :=
  let c0_i32_1784 : BitVec 32 := 0#32
  let c0_i32_1785 : BitVec 32 := 0#32
  ![v3173.toNat, 0, 0]

def k0_off770 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off771 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c42_i32_1786 : BitVec 32 := 42#32
  let c0_i32_1787 : BitVec 32 := 0#32
  let c0_i32_1788 : BitVec 32 := 0#32
  ![v2158.toNat, 42, 0, 0]
def k0_off772 (v3173 : BitVec 32) : Fin 3 → Nat :=
  let c0_i32_1789 : BitVec 32 := 0#32
  let c0_i32_1790 : BitVec 32 := 0#32
  ![v3173.toNat, 0, 0]

def k0_chk342 (i : grid0.Coords) (v3173 : BitVec 32) : Prop :=
  (∀ (k0_h2 : k0_cond2 i = 1#1), ∀ a, (k0_off769 v3173) a + S1x128x128.size a ≤ S1024x128x128.size a) ∧
  (∀ (k0_h2 : k0_cond2 i = 1#1), ∀ (hinb : ∀ a, (k0_off769 v3173) a + S1x128x128.size a ≤ S1024x128x128.size a), (Rect.unit (s := S1024x128x128) (k0_off769 v3173) S1x128x128.size hinb).WholeWords (EltTy.packing .bf16)) ∧
  (∀ (k0_h2 : k0_cond2 i = 1#1), ∀ a, (k0_off772 v3173) a + S1x1x128.size a ≤ S1024x1x128.size a)
theorem k0_off769_inb : ∀ (i : grid0.Coords) (v3173 : BitVec 32) (k0_hw342 : k0_chk342 i v3173), ∀ (k0_h2 : k0_cond2 i = 1#1), ∀ a, (k0_off769 v3173) a + S1x128x128.size a ≤ S1024x128x128.size a := fun i v3173 k0_hw342 k0_h2 => k0_hw342.1 k0_h2
theorem k0_off769_wordsbf16 : ∀ (i : grid0.Coords) (v3173 : BitVec 32) (k0_hw342 : k0_chk342 i v3173), ∀ (k0_h2 : k0_cond2 i = 1#1), (Rect.unit (s := S1024x128x128) (k0_off769 v3173) S1x128x128.size (k0_off769_inb i v3173 k0_hw342 k0_h2)).WholeWords (EltTy.packing .bf16) := fun i v3173 k0_hw342 k0_h2 => k0_hw342.2.1 k0_h2 (k0_off769_inb i v3173 k0_hw342 k0_h2)
theorem k0_off772_inb : ∀ (i : grid0.Coords) (v3173 : BitVec 32) (k0_hw342 : k0_chk342 i v3173), ∀ (k0_h2 : k0_cond2 i = 1#1), ∀ a, (k0_off772 v3173) a + S1x1x128.size a ≤ S1024x1x128.size a := fun i v3173 k0_hw342 k0_h2 => k0_hw342.2.2 k0_h2

def k0_off773 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c43_i32_1791 : BitVec 32 := 43#32
  let v3192 : BitVec 32 := Scalar.addi v2159 c43_i32_1791
  let v3193 : Index := Scalar.indexCast v3192
  ![v3193.toNat]
def k0_off774 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c43_i32_1793 : BitVec 32 := 43#32
  let c0_i32_1794 : BitVec 32 := 0#32
  let c0_i32_1795 : BitVec 32 := 0#32
  ![v2158.toNat, 43, 0, 0]
def k0_off775 (v3194 : BitVec 32) : Fin 3 → Nat :=
  let c0_i32_1796 : BitVec 32 := 0#32
  let c0_i32_1797 : BitVec 32 := 0#32
  ![v3194.toNat, 0, 0]

def k0_chk343 (i : grid0.Coords) (v3194 : BitVec 32) : Prop :=
  (∀ (k0_h2 : k0_cond2 i = 1#1), ∀ a, (k0_off775 v3194) a + S1x128x64.size a ≤ S4096x128x64.size a)
theorem k0_off775_inb : ∀ (i : grid0.Coords) (v3194 : BitVec 32) (k0_hw343 : k0_chk343 i v3194), ∀ (k0_h2 : k0_cond2 i = 1#1), ∀ a, (k0_off775 v3194) a + S1x128x64.size a ≤ S4096x128x64.size a := fun i v3194 k0_hw343 k0_h2 => k0_hw343 k0_h2

def k0_off776 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off777 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c43_i32_1798 : BitVec 32 := 43#32
  let c0_i32_1799 : BitVec 32 := 0#32
  let c0_i32_1800 : BitVec 32 := 0#32
  ![v2158.toNat, 43, 0, 0]
def k0_off778 (v3197 : BitVec 32) : Fin 3 → Nat :=
  let c0_i32_1801 : BitVec 32 := 0#32
  let c0_i32_1802 : BitVec 32 := 0#32
  ![v3197.toNat, 0, 0]

def k0_off779 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off780 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c43_i32_1803 : BitVec 32 := 43#32
  let c0_i32_1804 : BitVec 32 := 0#32
  let c0_i32_1805 : BitVec 32 := 0#32
  ![v2158.toNat, 43, 0, 0]
def k0_off781 (v3197 : BitVec 32) : Fin 3 → Nat :=
  let c0_i32_1806 : BitVec 32 := 0#32
  let c0_i32_1807 : BitVec 32 := 0#32
  ![v3197.toNat, 0, 0]

def k0_chk344 (i : grid0.Coords) (v3197 : BitVec 32) : Prop :=
  (∀ (k0_h2 : k0_cond2 i = 1#1), ∀ a, (k0_off778 v3197) a + S1x128x128.size a ≤ S1024x128x128.size a) ∧
  (∀ (k0_h2 : k0_cond2 i = 1#1), ∀ (hinb : ∀ a, (k0_off778 v3197) a + S1x128x128.size a ≤ S1024x128x128.size a), (Rect.unit (s := S1024x128x128) (k0_off778 v3197) S1x128x128.size hinb).WholeWords (EltTy.packing .bf16)) ∧
  (∀ (k0_h2 : k0_cond2 i = 1#1), ∀ a, (k0_off781 v3197) a + S1x1x128.size a ≤ S1024x1x128.size a)
theorem k0_off778_inb : ∀ (i : grid0.Coords) (v3197 : BitVec 32) (k0_hw344 : k0_chk344 i v3197), ∀ (k0_h2 : k0_cond2 i = 1#1), ∀ a, (k0_off778 v3197) a + S1x128x128.size a ≤ S1024x128x128.size a := fun i v3197 k0_hw344 k0_h2 => k0_hw344.1 k0_h2
theorem k0_off778_wordsbf16 : ∀ (i : grid0.Coords) (v3197 : BitVec 32) (k0_hw344 : k0_chk344 i v3197), ∀ (k0_h2 : k0_cond2 i = 1#1), (Rect.unit (s := S1024x128x128) (k0_off778 v3197) S1x128x128.size (k0_off778_inb i v3197 k0_hw344 k0_h2)).WholeWords (EltTy.packing .bf16) := fun i v3197 k0_hw344 k0_h2 => k0_hw344.2.1 k0_h2 (k0_off778_inb i v3197 k0_hw344 k0_h2)
theorem k0_off781_inb : ∀ (i : grid0.Coords) (v3197 : BitVec 32) (k0_hw344 : k0_chk344 i v3197), ∀ (k0_h2 : k0_cond2 i = 1#1), ∀ a, (k0_off781 v3197) a + S1x1x128.size a ≤ S1024x1x128.size a := fun i v3197 k0_hw344 k0_h2 => k0_hw344.2.2 k0_h2

def k0_off782 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c44_i32_1808 : BitVec 32 := 44#32
  let v3216 : BitVec 32 := Scalar.addi v2159 c44_i32_1808
  let v3217 : Index := Scalar.indexCast v3216
  ![v3217.toNat]
def k0_off783 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c44_i32_1810 : BitVec 32 := 44#32
  let c0_i32_1811 : BitVec 32 := 0#32
  let c0_i32_1812 : BitVec 32 := 0#32
  ![v2158.toNat, 44, 0, 0]
def k0_off784 (v3218 : BitVec 32) : Fin 3 → Nat :=
  let c0_i32_1813 : BitVec 32 := 0#32
  let c0_i32_1814 : BitVec 32 := 0#32
  ![v3218.toNat, 0, 0]

def k0_chk345 (i : grid0.Coords) (v3218 : BitVec 32) : Prop :=
  (∀ (k0_h2 : k0_cond2 i = 1#1), ∀ a, (k0_off784 v3218) a + S1x128x64.size a ≤ S4096x128x64.size a)
theorem k0_off784_inb : ∀ (i : grid0.Coords) (v3218 : BitVec 32) (k0_hw345 : k0_chk345 i v3218), ∀ (k0_h2 : k0_cond2 i = 1#1), ∀ a, (k0_off784 v3218) a + S1x128x64.size a ≤ S4096x128x64.size a := fun i v3218 k0_hw345 k0_h2 => k0_hw345 k0_h2

def k0_off785 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off786 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c44_i32_1815 : BitVec 32 := 44#32
  let c0_i32_1816 : BitVec 32 := 0#32
  let c0_i32_1817 : BitVec 32 := 0#32
  ![v2158.toNat, 44, 0, 0]
def k0_off787 (v3221 : BitVec 32) : Fin 3 → Nat :=
  let c0_i32_1818 : BitVec 32 := 0#32
  let c0_i32_1819 : BitVec 32 := 0#32
  ![v3221.toNat, 0, 0]

def k0_off788 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off789 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c44_i32_1820 : BitVec 32 := 44#32
  let c0_i32_1821 : BitVec 32 := 0#32
  let c0_i32_1822 : BitVec 32 := 0#32
  ![v2158.toNat, 44, 0, 0]
def k0_off790 (v3221 : BitVec 32) : Fin 3 → Nat :=
  let c0_i32_1823 : BitVec 32 := 0#32
  let c0_i32_1824 : BitVec 32 := 0#32
  ![v3221.toNat, 0, 0]

def k0_chk346 (i : grid0.Coords) (v3221 : BitVec 32) : Prop :=
  (∀ (k0_h2 : k0_cond2 i = 1#1), ∀ a, (k0_off787 v3221) a + S1x128x128.size a ≤ S1024x128x128.size a) ∧
  (∀ (k0_h2 : k0_cond2 i = 1#1), ∀ (hinb : ∀ a, (k0_off787 v3221) a + S1x128x128.size a ≤ S1024x128x128.size a), (Rect.unit (s := S1024x128x128) (k0_off787 v3221) S1x128x128.size hinb).WholeWords (EltTy.packing .bf16)) ∧
  (∀ (k0_h2 : k0_cond2 i = 1#1), ∀ a, (k0_off790 v3221) a + S1x1x128.size a ≤ S1024x1x128.size a)
theorem k0_off787_inb : ∀ (i : grid0.Coords) (v3221 : BitVec 32) (k0_hw346 : k0_chk346 i v3221), ∀ (k0_h2 : k0_cond2 i = 1#1), ∀ a, (k0_off787 v3221) a + S1x128x128.size a ≤ S1024x128x128.size a := fun i v3221 k0_hw346 k0_h2 => k0_hw346.1 k0_h2
theorem k0_off787_wordsbf16 : ∀ (i : grid0.Coords) (v3221 : BitVec 32) (k0_hw346 : k0_chk346 i v3221), ∀ (k0_h2 : k0_cond2 i = 1#1), (Rect.unit (s := S1024x128x128) (k0_off787 v3221) S1x128x128.size (k0_off787_inb i v3221 k0_hw346 k0_h2)).WholeWords (EltTy.packing .bf16) := fun i v3221 k0_hw346 k0_h2 => k0_hw346.2.1 k0_h2 (k0_off787_inb i v3221 k0_hw346 k0_h2)
theorem k0_off790_inb : ∀ (i : grid0.Coords) (v3221 : BitVec 32) (k0_hw346 : k0_chk346 i v3221), ∀ (k0_h2 : k0_cond2 i = 1#1), ∀ a, (k0_off790 v3221) a + S1x1x128.size a ≤ S1024x1x128.size a := fun i v3221 k0_hw346 k0_h2 => k0_hw346.2.2 k0_h2

def k0_off791 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c45_i32_1825 : BitVec 32 := 45#32
  let v3240 : BitVec 32 := Scalar.addi v2159 c45_i32_1825
  let v3241 : Index := Scalar.indexCast v3240
  ![v3241.toNat]
def k0_off792 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c45_i32_1827 : BitVec 32 := 45#32
  let c0_i32_1828 : BitVec 32 := 0#32
  let c0_i32_1829 : BitVec 32 := 0#32
  ![v2158.toNat, 45, 0, 0]
def k0_off793 (v3242 : BitVec 32) : Fin 3 → Nat :=
  let c0_i32_1830 : BitVec 32 := 0#32
  let c0_i32_1831 : BitVec 32 := 0#32
  ![v3242.toNat, 0, 0]

def k0_chk347 (i : grid0.Coords) (v3242 : BitVec 32) : Prop :=
  (∀ (k0_h2 : k0_cond2 i = 1#1), ∀ a, (k0_off793 v3242) a + S1x128x64.size a ≤ S4096x128x64.size a)
theorem k0_off793_inb : ∀ (i : grid0.Coords) (v3242 : BitVec 32) (k0_hw347 : k0_chk347 i v3242), ∀ (k0_h2 : k0_cond2 i = 1#1), ∀ a, (k0_off793 v3242) a + S1x128x64.size a ≤ S4096x128x64.size a := fun i v3242 k0_hw347 k0_h2 => k0_hw347 k0_h2

def k0_off794 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off795 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c45_i32_1832 : BitVec 32 := 45#32
  let c0_i32_1833 : BitVec 32 := 0#32
  let c0_i32_1834 : BitVec 32 := 0#32
  ![v2158.toNat, 45, 0, 0]
def k0_off796 (v3245 : BitVec 32) : Fin 3 → Nat :=
  let c0_i32_1835 : BitVec 32 := 0#32
  let c0_i32_1836 : BitVec 32 := 0#32
  ![v3245.toNat, 0, 0]

def k0_off797 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off798 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c45_i32_1837 : BitVec 32 := 45#32
  let c0_i32_1838 : BitVec 32 := 0#32
  let c0_i32_1839 : BitVec 32 := 0#32
  ![v2158.toNat, 45, 0, 0]
def k0_off799 (v3245 : BitVec 32) : Fin 3 → Nat :=
  let c0_i32_1840 : BitVec 32 := 0#32
  let c0_i32_1841 : BitVec 32 := 0#32
  ![v3245.toNat, 0, 0]

def k0_chk348 (i : grid0.Coords) (v3245 : BitVec 32) : Prop :=
  (∀ (k0_h2 : k0_cond2 i = 1#1), ∀ a, (k0_off796 v3245) a + S1x128x128.size a ≤ S1024x128x128.size a) ∧
  (∀ (k0_h2 : k0_cond2 i = 1#1), ∀ (hinb : ∀ a, (k0_off796 v3245) a + S1x128x128.size a ≤ S1024x128x128.size a), (Rect.unit (s := S1024x128x128) (k0_off796 v3245) S1x128x128.size hinb).WholeWords (EltTy.packing .bf16)) ∧
  (∀ (k0_h2 : k0_cond2 i = 1#1), ∀ a, (k0_off799 v3245) a + S1x1x128.size a ≤ S1024x1x128.size a)
theorem k0_off796_inb : ∀ (i : grid0.Coords) (v3245 : BitVec 32) (k0_hw348 : k0_chk348 i v3245), ∀ (k0_h2 : k0_cond2 i = 1#1), ∀ a, (k0_off796 v3245) a + S1x128x128.size a ≤ S1024x128x128.size a := fun i v3245 k0_hw348 k0_h2 => k0_hw348.1 k0_h2
theorem k0_off796_wordsbf16 : ∀ (i : grid0.Coords) (v3245 : BitVec 32) (k0_hw348 : k0_chk348 i v3245), ∀ (k0_h2 : k0_cond2 i = 1#1), (Rect.unit (s := S1024x128x128) (k0_off796 v3245) S1x128x128.size (k0_off796_inb i v3245 k0_hw348 k0_h2)).WholeWords (EltTy.packing .bf16) := fun i v3245 k0_hw348 k0_h2 => k0_hw348.2.1 k0_h2 (k0_off796_inb i v3245 k0_hw348 k0_h2)
theorem k0_off799_inb : ∀ (i : grid0.Coords) (v3245 : BitVec 32) (k0_hw348 : k0_chk348 i v3245), ∀ (k0_h2 : k0_cond2 i = 1#1), ∀ a, (k0_off799 v3245) a + S1x1x128.size a ≤ S1024x1x128.size a := fun i v3245 k0_hw348 k0_h2 => k0_hw348.2.2 k0_h2

def k0_off800 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c46_i32_1842 : BitVec 32 := 46#32
  let v3264 : BitVec 32 := Scalar.addi v2159 c46_i32_1842
  let v3265 : Index := Scalar.indexCast v3264
  ![v3265.toNat]
def k0_off801 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c46_i32_1844 : BitVec 32 := 46#32
  let c0_i32_1845 : BitVec 32 := 0#32
  let c0_i32_1846 : BitVec 32 := 0#32
  ![v2158.toNat, 46, 0, 0]
def k0_off802 (v3266 : BitVec 32) : Fin 3 → Nat :=
  let c0_i32_1847 : BitVec 32 := 0#32
  let c0_i32_1848 : BitVec 32 := 0#32
  ![v3266.toNat, 0, 0]

def k0_chk349 (i : grid0.Coords) (v3266 : BitVec 32) : Prop :=
  (∀ (k0_h2 : k0_cond2 i = 1#1), ∀ a, (k0_off802 v3266) a + S1x128x64.size a ≤ S4096x128x64.size a)
theorem k0_off802_inb : ∀ (i : grid0.Coords) (v3266 : BitVec 32) (k0_hw349 : k0_chk349 i v3266), ∀ (k0_h2 : k0_cond2 i = 1#1), ∀ a, (k0_off802 v3266) a + S1x128x64.size a ≤ S4096x128x64.size a := fun i v3266 k0_hw349 k0_h2 => k0_hw349 k0_h2

def k0_off803 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off804 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c46_i32_1849 : BitVec 32 := 46#32
  let c0_i32_1850 : BitVec 32 := 0#32
  let c0_i32_1851 : BitVec 32 := 0#32
  ![v2158.toNat, 46, 0, 0]
def k0_off805 (v3269 : BitVec 32) : Fin 3 → Nat :=
  let c0_i32_1852 : BitVec 32 := 0#32
  let c0_i32_1853 : BitVec 32 := 0#32
  ![v3269.toNat, 0, 0]

def k0_off806 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off807 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c46_i32_1854 : BitVec 32 := 46#32
  let c0_i32_1855 : BitVec 32 := 0#32
  let c0_i32_1856 : BitVec 32 := 0#32
  ![v2158.toNat, 46, 0, 0]
def k0_off808 (v3269 : BitVec 32) : Fin 3 → Nat :=
  let c0_i32_1857 : BitVec 32 := 0#32
  let c0_i32_1858 : BitVec 32 := 0#32
  ![v3269.toNat, 0, 0]

def k0_chk350 (i : grid0.Coords) (v3269 : BitVec 32) : Prop :=
  (∀ (k0_h2 : k0_cond2 i = 1#1), ∀ a, (k0_off805 v3269) a + S1x128x128.size a ≤ S1024x128x128.size a) ∧
  (∀ (k0_h2 : k0_cond2 i = 1#1), ∀ (hinb : ∀ a, (k0_off805 v3269) a + S1x128x128.size a ≤ S1024x128x128.size a), (Rect.unit (s := S1024x128x128) (k0_off805 v3269) S1x128x128.size hinb).WholeWords (EltTy.packing .bf16)) ∧
  (∀ (k0_h2 : k0_cond2 i = 1#1), ∀ a, (k0_off808 v3269) a + S1x1x128.size a ≤ S1024x1x128.size a)
theorem k0_off805_inb : ∀ (i : grid0.Coords) (v3269 : BitVec 32) (k0_hw350 : k0_chk350 i v3269), ∀ (k0_h2 : k0_cond2 i = 1#1), ∀ a, (k0_off805 v3269) a + S1x128x128.size a ≤ S1024x128x128.size a := fun i v3269 k0_hw350 k0_h2 => k0_hw350.1 k0_h2
theorem k0_off805_wordsbf16 : ∀ (i : grid0.Coords) (v3269 : BitVec 32) (k0_hw350 : k0_chk350 i v3269), ∀ (k0_h2 : k0_cond2 i = 1#1), (Rect.unit (s := S1024x128x128) (k0_off805 v3269) S1x128x128.size (k0_off805_inb i v3269 k0_hw350 k0_h2)).WholeWords (EltTy.packing .bf16) := fun i v3269 k0_hw350 k0_h2 => k0_hw350.2.1 k0_h2 (k0_off805_inb i v3269 k0_hw350 k0_h2)
theorem k0_off808_inb : ∀ (i : grid0.Coords) (v3269 : BitVec 32) (k0_hw350 : k0_chk350 i v3269), ∀ (k0_h2 : k0_cond2 i = 1#1), ∀ a, (k0_off808 v3269) a + S1x1x128.size a ≤ S1024x1x128.size a := fun i v3269 k0_hw350 k0_h2 => k0_hw350.2.2 k0_h2

def k0_off809 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c47_i32_1859 : BitVec 32 := 47#32
  let v3288 : BitVec 32 := Scalar.addi v2159 c47_i32_1859
  let v3289 : Index := Scalar.indexCast v3288
  ![v3289.toNat]
def k0_off810 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c47_i32_1861 : BitVec 32 := 47#32
  let c0_i32_1862 : BitVec 32 := 0#32
  let c0_i32_1863 : BitVec 32 := 0#32
  ![v2158.toNat, 47, 0, 0]
def k0_off811 (v3290 : BitVec 32) : Fin 3 → Nat :=
  let c0_i32_1864 : BitVec 32 := 0#32
  let c0_i32_1865 : BitVec 32 := 0#32
  ![v3290.toNat, 0, 0]

def k0_chk351 (i : grid0.Coords) (v3290 : BitVec 32) : Prop :=
  (∀ (k0_h2 : k0_cond2 i = 1#1), ∀ a, (k0_off811 v3290) a + S1x128x64.size a ≤ S4096x128x64.size a)
theorem k0_off811_inb : ∀ (i : grid0.Coords) (v3290 : BitVec 32) (k0_hw351 : k0_chk351 i v3290), ∀ (k0_h2 : k0_cond2 i = 1#1), ∀ a, (k0_off811 v3290) a + S1x128x64.size a ≤ S4096x128x64.size a := fun i v3290 k0_hw351 k0_h2 => k0_hw351 k0_h2

def k0_off812 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off813 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c47_i32_1866 : BitVec 32 := 47#32
  let c0_i32_1867 : BitVec 32 := 0#32
  let c0_i32_1868 : BitVec 32 := 0#32
  ![v2158.toNat, 47, 0, 0]
def k0_off814 (v3293 : BitVec 32) : Fin 3 → Nat :=
  let c0_i32_1869 : BitVec 32 := 0#32
  let c0_i32_1870 : BitVec 32 := 0#32
  ![v3293.toNat, 0, 0]

def k0_off815 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off816 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c47_i32_1871 : BitVec 32 := 47#32
  let c0_i32_1872 : BitVec 32 := 0#32
  let c0_i32_1873 : BitVec 32 := 0#32
  ![v2158.toNat, 47, 0, 0]
def k0_off817 (v3293 : BitVec 32) : Fin 3 → Nat :=
  let c0_i32_1874 : BitVec 32 := 0#32
  let c0_i32_1875 : BitVec 32 := 0#32
  ![v3293.toNat, 0, 0]

def k0_chk352 (i : grid0.Coords) (v3293 : BitVec 32) : Prop :=
  (∀ (k0_h2 : k0_cond2 i = 1#1), ∀ a, (k0_off814 v3293) a + S1x128x128.size a ≤ S1024x128x128.size a) ∧
  (∀ (k0_h2 : k0_cond2 i = 1#1), ∀ (hinb : ∀ a, (k0_off814 v3293) a + S1x128x128.size a ≤ S1024x128x128.size a), (Rect.unit (s := S1024x128x128) (k0_off814 v3293) S1x128x128.size hinb).WholeWords (EltTy.packing .bf16)) ∧
  (∀ (k0_h2 : k0_cond2 i = 1#1), ∀ a, (k0_off817 v3293) a + S1x1x128.size a ≤ S1024x1x128.size a)
theorem k0_off814_inb : ∀ (i : grid0.Coords) (v3293 : BitVec 32) (k0_hw352 : k0_chk352 i v3293), ∀ (k0_h2 : k0_cond2 i = 1#1), ∀ a, (k0_off814 v3293) a + S1x128x128.size a ≤ S1024x128x128.size a := fun i v3293 k0_hw352 k0_h2 => k0_hw352.1 k0_h2
theorem k0_off814_wordsbf16 : ∀ (i : grid0.Coords) (v3293 : BitVec 32) (k0_hw352 : k0_chk352 i v3293), ∀ (k0_h2 : k0_cond2 i = 1#1), (Rect.unit (s := S1024x128x128) (k0_off814 v3293) S1x128x128.size (k0_off814_inb i v3293 k0_hw352 k0_h2)).WholeWords (EltTy.packing .bf16) := fun i v3293 k0_hw352 k0_h2 => k0_hw352.2.1 k0_h2 (k0_off814_inb i v3293 k0_hw352 k0_h2)
theorem k0_off817_inb : ∀ (i : grid0.Coords) (v3293 : BitVec 32) (k0_hw352 : k0_chk352 i v3293), ∀ (k0_h2 : k0_cond2 i = 1#1), ∀ a, (k0_off817 v3293) a + S1x1x128.size a ≤ S1024x1x128.size a := fun i v3293 k0_hw352 k0_h2 => k0_hw352.2.2 k0_h2

def k0_off818 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c48_i32_1876 : BitVec 32 := 48#32
  let v3312 : BitVec 32 := Scalar.addi v2159 c48_i32_1876
  let v3313 : Index := Scalar.indexCast v3312
  ![v3313.toNat]
def k0_off819 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c48_i32_1878 : BitVec 32 := 48#32
  let c0_i32_1879 : BitVec 32 := 0#32
  let c0_i32_1880 : BitVec 32 := 0#32
  ![v2158.toNat, 48, 0, 0]
def k0_off820 (v3314 : BitVec 32) : Fin 3 → Nat :=
  let c0_i32_1881 : BitVec 32 := 0#32
  let c0_i32_1882 : BitVec 32 := 0#32
  ![v3314.toNat, 0, 0]

def k0_chk353 (i : grid0.Coords) (v3314 : BitVec 32) : Prop :=
  (∀ (k0_h2 : k0_cond2 i = 1#1), ∀ a, (k0_off820 v3314) a + S1x128x64.size a ≤ S4096x128x64.size a)
theorem k0_off820_inb : ∀ (i : grid0.Coords) (v3314 : BitVec 32) (k0_hw353 : k0_chk353 i v3314), ∀ (k0_h2 : k0_cond2 i = 1#1), ∀ a, (k0_off820 v3314) a + S1x128x64.size a ≤ S4096x128x64.size a := fun i v3314 k0_hw353 k0_h2 => k0_hw353 k0_h2

def k0_off821 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off822 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c48_i32_1883 : BitVec 32 := 48#32
  let c0_i32_1884 : BitVec 32 := 0#32
  let c0_i32_1885 : BitVec 32 := 0#32
  ![v2158.toNat, 48, 0, 0]
def k0_off823 (v3317 : BitVec 32) : Fin 3 → Nat :=
  let c0_i32_1886 : BitVec 32 := 0#32
  let c0_i32_1887 : BitVec 32 := 0#32
  ![v3317.toNat, 0, 0]

def k0_off824 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off825 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c48_i32_1888 : BitVec 32 := 48#32
  let c0_i32_1889 : BitVec 32 := 0#32
  let c0_i32_1890 : BitVec 32 := 0#32
  ![v2158.toNat, 48, 0, 0]
def k0_off826 (v3317 : BitVec 32) : Fin 3 → Nat :=
  let c0_i32_1891 : BitVec 32 := 0#32
  let c0_i32_1892 : BitVec 32 := 0#32
  ![v3317.toNat, 0, 0]

def k0_chk354 (i : grid0.Coords) (v3317 : BitVec 32) : Prop :=
  (∀ (k0_h2 : k0_cond2 i = 1#1), ∀ a, (k0_off823 v3317) a + S1x128x128.size a ≤ S1024x128x128.size a) ∧
  (∀ (k0_h2 : k0_cond2 i = 1#1), ∀ (hinb : ∀ a, (k0_off823 v3317) a + S1x128x128.size a ≤ S1024x128x128.size a), (Rect.unit (s := S1024x128x128) (k0_off823 v3317) S1x128x128.size hinb).WholeWords (EltTy.packing .bf16)) ∧
  (∀ (k0_h2 : k0_cond2 i = 1#1), ∀ a, (k0_off826 v3317) a + S1x1x128.size a ≤ S1024x1x128.size a)
theorem k0_off823_inb : ∀ (i : grid0.Coords) (v3317 : BitVec 32) (k0_hw354 : k0_chk354 i v3317), ∀ (k0_h2 : k0_cond2 i = 1#1), ∀ a, (k0_off823 v3317) a + S1x128x128.size a ≤ S1024x128x128.size a := fun i v3317 k0_hw354 k0_h2 => k0_hw354.1 k0_h2
theorem k0_off823_wordsbf16 : ∀ (i : grid0.Coords) (v3317 : BitVec 32) (k0_hw354 : k0_chk354 i v3317), ∀ (k0_h2 : k0_cond2 i = 1#1), (Rect.unit (s := S1024x128x128) (k0_off823 v3317) S1x128x128.size (k0_off823_inb i v3317 k0_hw354 k0_h2)).WholeWords (EltTy.packing .bf16) := fun i v3317 k0_hw354 k0_h2 => k0_hw354.2.1 k0_h2 (k0_off823_inb i v3317 k0_hw354 k0_h2)
theorem k0_off826_inb : ∀ (i : grid0.Coords) (v3317 : BitVec 32) (k0_hw354 : k0_chk354 i v3317), ∀ (k0_h2 : k0_cond2 i = 1#1), ∀ a, (k0_off826 v3317) a + S1x1x128.size a ≤ S1024x1x128.size a := fun i v3317 k0_hw354 k0_h2 => k0_hw354.2.2 k0_h2

def k0_off827 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c49_i32_1893 : BitVec 32 := 49#32
  let v3336 : BitVec 32 := Scalar.addi v2159 c49_i32_1893
  let v3337 : Index := Scalar.indexCast v3336
  ![v3337.toNat]
def k0_off828 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c49_i32_1895 : BitVec 32 := 49#32
  let c0_i32_1896 : BitVec 32 := 0#32
  let c0_i32_1897 : BitVec 32 := 0#32
  ![v2158.toNat, 49, 0, 0]
def k0_off829 (v3338 : BitVec 32) : Fin 3 → Nat :=
  let c0_i32_1898 : BitVec 32 := 0#32
  let c0_i32_1899 : BitVec 32 := 0#32
  ![v3338.toNat, 0, 0]

def k0_chk355 (i : grid0.Coords) (v3338 : BitVec 32) : Prop :=
  (∀ (k0_h2 : k0_cond2 i = 1#1), ∀ a, (k0_off829 v3338) a + S1x128x64.size a ≤ S4096x128x64.size a)
theorem k0_off829_inb : ∀ (i : grid0.Coords) (v3338 : BitVec 32) (k0_hw355 : k0_chk355 i v3338), ∀ (k0_h2 : k0_cond2 i = 1#1), ∀ a, (k0_off829 v3338) a + S1x128x64.size a ≤ S4096x128x64.size a := fun i v3338 k0_hw355 k0_h2 => k0_hw355 k0_h2

def k0_off830 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off831 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c49_i32_1900 : BitVec 32 := 49#32
  let c0_i32_1901 : BitVec 32 := 0#32
  let c0_i32_1902 : BitVec 32 := 0#32
  ![v2158.toNat, 49, 0, 0]
def k0_off832 (v3341 : BitVec 32) : Fin 3 → Nat :=
  let c0_i32_1903 : BitVec 32 := 0#32
  let c0_i32_1904 : BitVec 32 := 0#32
  ![v3341.toNat, 0, 0]

def k0_off833 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off834 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c49_i32_1905 : BitVec 32 := 49#32
  let c0_i32_1906 : BitVec 32 := 0#32
  let c0_i32_1907 : BitVec 32 := 0#32
  ![v2158.toNat, 49, 0, 0]
def k0_off835 (v3341 : BitVec 32) : Fin 3 → Nat :=
  let c0_i32_1908 : BitVec 32 := 0#32
  let c0_i32_1909 : BitVec 32 := 0#32
  ![v3341.toNat, 0, 0]

def k0_chk356 (i : grid0.Coords) (v3341 : BitVec 32) : Prop :=
  (∀ (k0_h2 : k0_cond2 i = 1#1), ∀ a, (k0_off832 v3341) a + S1x128x128.size a ≤ S1024x128x128.size a) ∧
  (∀ (k0_h2 : k0_cond2 i = 1#1), ∀ (hinb : ∀ a, (k0_off832 v3341) a + S1x128x128.size a ≤ S1024x128x128.size a), (Rect.unit (s := S1024x128x128) (k0_off832 v3341) S1x128x128.size hinb).WholeWords (EltTy.packing .bf16)) ∧
  (∀ (k0_h2 : k0_cond2 i = 1#1), ∀ a, (k0_off835 v3341) a + S1x1x128.size a ≤ S1024x1x128.size a)
theorem k0_off832_inb : ∀ (i : grid0.Coords) (v3341 : BitVec 32) (k0_hw356 : k0_chk356 i v3341), ∀ (k0_h2 : k0_cond2 i = 1#1), ∀ a, (k0_off832 v3341) a + S1x128x128.size a ≤ S1024x128x128.size a := fun i v3341 k0_hw356 k0_h2 => k0_hw356.1 k0_h2
theorem k0_off832_wordsbf16 : ∀ (i : grid0.Coords) (v3341 : BitVec 32) (k0_hw356 : k0_chk356 i v3341), ∀ (k0_h2 : k0_cond2 i = 1#1), (Rect.unit (s := S1024x128x128) (k0_off832 v3341) S1x128x128.size (k0_off832_inb i v3341 k0_hw356 k0_h2)).WholeWords (EltTy.packing .bf16) := fun i v3341 k0_hw356 k0_h2 => k0_hw356.2.1 k0_h2 (k0_off832_inb i v3341 k0_hw356 k0_h2)
theorem k0_off835_inb : ∀ (i : grid0.Coords) (v3341 : BitVec 32) (k0_hw356 : k0_chk356 i v3341), ∀ (k0_h2 : k0_cond2 i = 1#1), ∀ a, (k0_off835 v3341) a + S1x1x128.size a ≤ S1024x1x128.size a := fun i v3341 k0_hw356 k0_h2 => k0_hw356.2.2 k0_h2

def k0_off836 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c50_i32_1910 : BitVec 32 := 50#32
  let v3360 : BitVec 32 := Scalar.addi v2159 c50_i32_1910
  let v3361 : Index := Scalar.indexCast v3360
  ![v3361.toNat]
def k0_off837 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c50_i32_1912 : BitVec 32 := 50#32
  let c0_i32_1913 : BitVec 32 := 0#32
  let c0_i32_1914 : BitVec 32 := 0#32
  ![v2158.toNat, 50, 0, 0]
def k0_off838 (v3362 : BitVec 32) : Fin 3 → Nat :=
  let c0_i32_1915 : BitVec 32 := 0#32
  let c0_i32_1916 : BitVec 32 := 0#32
  ![v3362.toNat, 0, 0]

def k0_chk357 (i : grid0.Coords) (v3362 : BitVec 32) : Prop :=
  (∀ (k0_h2 : k0_cond2 i = 1#1), ∀ a, (k0_off838 v3362) a + S1x128x64.size a ≤ S4096x128x64.size a)
theorem k0_off838_inb : ∀ (i : grid0.Coords) (v3362 : BitVec 32) (k0_hw357 : k0_chk357 i v3362), ∀ (k0_h2 : k0_cond2 i = 1#1), ∀ a, (k0_off838 v3362) a + S1x128x64.size a ≤ S4096x128x64.size a := fun i v3362 k0_hw357 k0_h2 => k0_hw357 k0_h2

def k0_off839 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off840 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c50_i32_1917 : BitVec 32 := 50#32
  let c0_i32_1918 : BitVec 32 := 0#32
  let c0_i32_1919 : BitVec 32 := 0#32
  ![v2158.toNat, 50, 0, 0]
def k0_off841 (v3365 : BitVec 32) : Fin 3 → Nat :=
  let c0_i32_1920 : BitVec 32 := 0#32
  let c0_i32_1921 : BitVec 32 := 0#32
  ![v3365.toNat, 0, 0]

def k0_off842 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off843 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c50_i32_1922 : BitVec 32 := 50#32
  let c0_i32_1923 : BitVec 32 := 0#32
  let c0_i32_1924 : BitVec 32 := 0#32
  ![v2158.toNat, 50, 0, 0]
def k0_off844 (v3365 : BitVec 32) : Fin 3 → Nat :=
  let c0_i32_1925 : BitVec 32 := 0#32
  let c0_i32_1926 : BitVec 32 := 0#32
  ![v3365.toNat, 0, 0]

def k0_chk358 (i : grid0.Coords) (v3365 : BitVec 32) : Prop :=
  (∀ (k0_h2 : k0_cond2 i = 1#1), ∀ a, (k0_off841 v3365) a + S1x128x128.size a ≤ S1024x128x128.size a) ∧
  (∀ (k0_h2 : k0_cond2 i = 1#1), ∀ (hinb : ∀ a, (k0_off841 v3365) a + S1x128x128.size a ≤ S1024x128x128.size a), (Rect.unit (s := S1024x128x128) (k0_off841 v3365) S1x128x128.size hinb).WholeWords (EltTy.packing .bf16)) ∧
  (∀ (k0_h2 : k0_cond2 i = 1#1), ∀ a, (k0_off844 v3365) a + S1x1x128.size a ≤ S1024x1x128.size a)
theorem k0_off841_inb : ∀ (i : grid0.Coords) (v3365 : BitVec 32) (k0_hw358 : k0_chk358 i v3365), ∀ (k0_h2 : k0_cond2 i = 1#1), ∀ a, (k0_off841 v3365) a + S1x128x128.size a ≤ S1024x128x128.size a := fun i v3365 k0_hw358 k0_h2 => k0_hw358.1 k0_h2
theorem k0_off841_wordsbf16 : ∀ (i : grid0.Coords) (v3365 : BitVec 32) (k0_hw358 : k0_chk358 i v3365), ∀ (k0_h2 : k0_cond2 i = 1#1), (Rect.unit (s := S1024x128x128) (k0_off841 v3365) S1x128x128.size (k0_off841_inb i v3365 k0_hw358 k0_h2)).WholeWords (EltTy.packing .bf16) := fun i v3365 k0_hw358 k0_h2 => k0_hw358.2.1 k0_h2 (k0_off841_inb i v3365 k0_hw358 k0_h2)
theorem k0_off844_inb : ∀ (i : grid0.Coords) (v3365 : BitVec 32) (k0_hw358 : k0_chk358 i v3365), ∀ (k0_h2 : k0_cond2 i = 1#1), ∀ a, (k0_off844 v3365) a + S1x1x128.size a ≤ S1024x1x128.size a := fun i v3365 k0_hw358 k0_h2 => k0_hw358.2.2 k0_h2

def k0_off845 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c51_i32_1927 : BitVec 32 := 51#32
  let v3384 : BitVec 32 := Scalar.addi v2159 c51_i32_1927
  let v3385 : Index := Scalar.indexCast v3384
  ![v3385.toNat]
def k0_off846 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c51_i32_1929 : BitVec 32 := 51#32
  let c0_i32_1930 : BitVec 32 := 0#32
  let c0_i32_1931 : BitVec 32 := 0#32
  ![v2158.toNat, 51, 0, 0]
def k0_off847 (v3386 : BitVec 32) : Fin 3 → Nat :=
  let c0_i32_1932 : BitVec 32 := 0#32
  let c0_i32_1933 : BitVec 32 := 0#32
  ![v3386.toNat, 0, 0]

def k0_chk359 (i : grid0.Coords) (v3386 : BitVec 32) : Prop :=
  (∀ (k0_h2 : k0_cond2 i = 1#1), ∀ a, (k0_off847 v3386) a + S1x128x64.size a ≤ S4096x128x64.size a)
theorem k0_off847_inb : ∀ (i : grid0.Coords) (v3386 : BitVec 32) (k0_hw359 : k0_chk359 i v3386), ∀ (k0_h2 : k0_cond2 i = 1#1), ∀ a, (k0_off847 v3386) a + S1x128x64.size a ≤ S4096x128x64.size a := fun i v3386 k0_hw359 k0_h2 => k0_hw359 k0_h2

def k0_off848 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off849 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c51_i32_1934 : BitVec 32 := 51#32
  let c0_i32_1935 : BitVec 32 := 0#32
  let c0_i32_1936 : BitVec 32 := 0#32
  ![v2158.toNat, 51, 0, 0]
def k0_off850 (v3389 : BitVec 32) : Fin 3 → Nat :=
  let c0_i32_1937 : BitVec 32 := 0#32
  let c0_i32_1938 : BitVec 32 := 0#32
  ![v3389.toNat, 0, 0]

def k0_off851 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off852 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c51_i32_1939 : BitVec 32 := 51#32
  let c0_i32_1940 : BitVec 32 := 0#32
  let c0_i32_1941 : BitVec 32 := 0#32
  ![v2158.toNat, 51, 0, 0]
def k0_off853 (v3389 : BitVec 32) : Fin 3 → Nat :=
  let c0_i32_1942 : BitVec 32 := 0#32
  let c0_i32_1943 : BitVec 32 := 0#32
  ![v3389.toNat, 0, 0]

def k0_chk360 (i : grid0.Coords) (v3389 : BitVec 32) : Prop :=
  (∀ (k0_h2 : k0_cond2 i = 1#1), ∀ a, (k0_off850 v3389) a + S1x128x128.size a ≤ S1024x128x128.size a) ∧
  (∀ (k0_h2 : k0_cond2 i = 1#1), ∀ (hinb : ∀ a, (k0_off850 v3389) a + S1x128x128.size a ≤ S1024x128x128.size a), (Rect.unit (s := S1024x128x128) (k0_off850 v3389) S1x128x128.size hinb).WholeWords (EltTy.packing .bf16)) ∧
  (∀ (k0_h2 : k0_cond2 i = 1#1), ∀ a, (k0_off853 v3389) a + S1x1x128.size a ≤ S1024x1x128.size a)
theorem k0_off850_inb : ∀ (i : grid0.Coords) (v3389 : BitVec 32) (k0_hw360 : k0_chk360 i v3389), ∀ (k0_h2 : k0_cond2 i = 1#1), ∀ a, (k0_off850 v3389) a + S1x128x128.size a ≤ S1024x128x128.size a := fun i v3389 k0_hw360 k0_h2 => k0_hw360.1 k0_h2
theorem k0_off850_wordsbf16 : ∀ (i : grid0.Coords) (v3389 : BitVec 32) (k0_hw360 : k0_chk360 i v3389), ∀ (k0_h2 : k0_cond2 i = 1#1), (Rect.unit (s := S1024x128x128) (k0_off850 v3389) S1x128x128.size (k0_off850_inb i v3389 k0_hw360 k0_h2)).WholeWords (EltTy.packing .bf16) := fun i v3389 k0_hw360 k0_h2 => k0_hw360.2.1 k0_h2 (k0_off850_inb i v3389 k0_hw360 k0_h2)
theorem k0_off853_inb : ∀ (i : grid0.Coords) (v3389 : BitVec 32) (k0_hw360 : k0_chk360 i v3389), ∀ (k0_h2 : k0_cond2 i = 1#1), ∀ a, (k0_off853 v3389) a + S1x1x128.size a ≤ S1024x1x128.size a := fun i v3389 k0_hw360 k0_h2 => k0_hw360.2.2 k0_h2

def k0_off854 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c52_i32_1944 : BitVec 32 := 52#32
  let v3408 : BitVec 32 := Scalar.addi v2159 c52_i32_1944
  let v3409 : Index := Scalar.indexCast v3408
  ![v3409.toNat]
def k0_off855 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c52_i32_1946 : BitVec 32 := 52#32
  let c0_i32_1947 : BitVec 32 := 0#32
  let c0_i32_1948 : BitVec 32 := 0#32
  ![v2158.toNat, 52, 0, 0]
def k0_off856 (v3410 : BitVec 32) : Fin 3 → Nat :=
  let c0_i32_1949 : BitVec 32 := 0#32
  let c0_i32_1950 : BitVec 32 := 0#32
  ![v3410.toNat, 0, 0]

def k0_chk361 (i : grid0.Coords) (v3410 : BitVec 32) : Prop :=
  (∀ (k0_h2 : k0_cond2 i = 1#1), ∀ a, (k0_off856 v3410) a + S1x128x64.size a ≤ S4096x128x64.size a)
theorem k0_off856_inb : ∀ (i : grid0.Coords) (v3410 : BitVec 32) (k0_hw361 : k0_chk361 i v3410), ∀ (k0_h2 : k0_cond2 i = 1#1), ∀ a, (k0_off856 v3410) a + S1x128x64.size a ≤ S4096x128x64.size a := fun i v3410 k0_hw361 k0_h2 => k0_hw361 k0_h2

def k0_off857 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off858 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c52_i32_1951 : BitVec 32 := 52#32
  let c0_i32_1952 : BitVec 32 := 0#32
  let c0_i32_1953 : BitVec 32 := 0#32
  ![v2158.toNat, 52, 0, 0]
def k0_off859 (v3413 : BitVec 32) : Fin 3 → Nat :=
  let c0_i32_1954 : BitVec 32 := 0#32
  let c0_i32_1955 : BitVec 32 := 0#32
  ![v3413.toNat, 0, 0]

def k0_off860 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off861 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c52_i32_1956 : BitVec 32 := 52#32
  let c0_i32_1957 : BitVec 32 := 0#32
  let c0_i32_1958 : BitVec 32 := 0#32
  ![v2158.toNat, 52, 0, 0]
def k0_off862 (v3413 : BitVec 32) : Fin 3 → Nat :=
  let c0_i32_1959 : BitVec 32 := 0#32
  let c0_i32_1960 : BitVec 32 := 0#32
  ![v3413.toNat, 0, 0]

def k0_chk362 (i : grid0.Coords) (v3413 : BitVec 32) : Prop :=
  (∀ (k0_h2 : k0_cond2 i = 1#1), ∀ a, (k0_off859 v3413) a + S1x128x128.size a ≤ S1024x128x128.size a) ∧
  (∀ (k0_h2 : k0_cond2 i = 1#1), ∀ (hinb : ∀ a, (k0_off859 v3413) a + S1x128x128.size a ≤ S1024x128x128.size a), (Rect.unit (s := S1024x128x128) (k0_off859 v3413) S1x128x128.size hinb).WholeWords (EltTy.packing .bf16)) ∧
  (∀ (k0_h2 : k0_cond2 i = 1#1), ∀ a, (k0_off862 v3413) a + S1x1x128.size a ≤ S1024x1x128.size a)
theorem k0_off859_inb : ∀ (i : grid0.Coords) (v3413 : BitVec 32) (k0_hw362 : k0_chk362 i v3413), ∀ (k0_h2 : k0_cond2 i = 1#1), ∀ a, (k0_off859 v3413) a + S1x128x128.size a ≤ S1024x128x128.size a := fun i v3413 k0_hw362 k0_h2 => k0_hw362.1 k0_h2
theorem k0_off859_wordsbf16 : ∀ (i : grid0.Coords) (v3413 : BitVec 32) (k0_hw362 : k0_chk362 i v3413), ∀ (k0_h2 : k0_cond2 i = 1#1), (Rect.unit (s := S1024x128x128) (k0_off859 v3413) S1x128x128.size (k0_off859_inb i v3413 k0_hw362 k0_h2)).WholeWords (EltTy.packing .bf16) := fun i v3413 k0_hw362 k0_h2 => k0_hw362.2.1 k0_h2 (k0_off859_inb i v3413 k0_hw362 k0_h2)
theorem k0_off862_inb : ∀ (i : grid0.Coords) (v3413 : BitVec 32) (k0_hw362 : k0_chk362 i v3413), ∀ (k0_h2 : k0_cond2 i = 1#1), ∀ a, (k0_off862 v3413) a + S1x1x128.size a ≤ S1024x1x128.size a := fun i v3413 k0_hw362 k0_h2 => k0_hw362.2.2 k0_h2

def k0_off863 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c53_i32_1961 : BitVec 32 := 53#32
  let v3432 : BitVec 32 := Scalar.addi v2159 c53_i32_1961
  let v3433 : Index := Scalar.indexCast v3432
  ![v3433.toNat]
def k0_off864 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c53_i32_1963 : BitVec 32 := 53#32
  let c0_i32_1964 : BitVec 32 := 0#32
  let c0_i32_1965 : BitVec 32 := 0#32
  ![v2158.toNat, 53, 0, 0]
def k0_off865 (v3434 : BitVec 32) : Fin 3 → Nat :=
  let c0_i32_1966 : BitVec 32 := 0#32
  let c0_i32_1967 : BitVec 32 := 0#32
  ![v3434.toNat, 0, 0]

def k0_chk363 (i : grid0.Coords) (v3434 : BitVec 32) : Prop :=
  (∀ (k0_h2 : k0_cond2 i = 1#1), ∀ a, (k0_off865 v3434) a + S1x128x64.size a ≤ S4096x128x64.size a)
theorem k0_off865_inb : ∀ (i : grid0.Coords) (v3434 : BitVec 32) (k0_hw363 : k0_chk363 i v3434), ∀ (k0_h2 : k0_cond2 i = 1#1), ∀ a, (k0_off865 v3434) a + S1x128x64.size a ≤ S4096x128x64.size a := fun i v3434 k0_hw363 k0_h2 => k0_hw363 k0_h2

def k0_off866 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off867 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c53_i32_1968 : BitVec 32 := 53#32
  let c0_i32_1969 : BitVec 32 := 0#32
  let c0_i32_1970 : BitVec 32 := 0#32
  ![v2158.toNat, 53, 0, 0]
def k0_off868 (v3437 : BitVec 32) : Fin 3 → Nat :=
  let c0_i32_1971 : BitVec 32 := 0#32
  let c0_i32_1972 : BitVec 32 := 0#32
  ![v3437.toNat, 0, 0]

def k0_off869 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off870 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c53_i32_1973 : BitVec 32 := 53#32
  let c0_i32_1974 : BitVec 32 := 0#32
  let c0_i32_1975 : BitVec 32 := 0#32
  ![v2158.toNat, 53, 0, 0]
def k0_off871 (v3437 : BitVec 32) : Fin 3 → Nat :=
  let c0_i32_1976 : BitVec 32 := 0#32
  let c0_i32_1977 : BitVec 32 := 0#32
  ![v3437.toNat, 0, 0]

def k0_chk364 (i : grid0.Coords) (v3437 : BitVec 32) : Prop :=
  (∀ (k0_h2 : k0_cond2 i = 1#1), ∀ a, (k0_off868 v3437) a + S1x128x128.size a ≤ S1024x128x128.size a) ∧
  (∀ (k0_h2 : k0_cond2 i = 1#1), ∀ (hinb : ∀ a, (k0_off868 v3437) a + S1x128x128.size a ≤ S1024x128x128.size a), (Rect.unit (s := S1024x128x128) (k0_off868 v3437) S1x128x128.size hinb).WholeWords (EltTy.packing .bf16)) ∧
  (∀ (k0_h2 : k0_cond2 i = 1#1), ∀ a, (k0_off871 v3437) a + S1x1x128.size a ≤ S1024x1x128.size a)
theorem k0_off868_inb : ∀ (i : grid0.Coords) (v3437 : BitVec 32) (k0_hw364 : k0_chk364 i v3437), ∀ (k0_h2 : k0_cond2 i = 1#1), ∀ a, (k0_off868 v3437) a + S1x128x128.size a ≤ S1024x128x128.size a := fun i v3437 k0_hw364 k0_h2 => k0_hw364.1 k0_h2
theorem k0_off868_wordsbf16 : ∀ (i : grid0.Coords) (v3437 : BitVec 32) (k0_hw364 : k0_chk364 i v3437), ∀ (k0_h2 : k0_cond2 i = 1#1), (Rect.unit (s := S1024x128x128) (k0_off868 v3437) S1x128x128.size (k0_off868_inb i v3437 k0_hw364 k0_h2)).WholeWords (EltTy.packing .bf16) := fun i v3437 k0_hw364 k0_h2 => k0_hw364.2.1 k0_h2 (k0_off868_inb i v3437 k0_hw364 k0_h2)
theorem k0_off871_inb : ∀ (i : grid0.Coords) (v3437 : BitVec 32) (k0_hw364 : k0_chk364 i v3437), ∀ (k0_h2 : k0_cond2 i = 1#1), ∀ a, (k0_off871 v3437) a + S1x1x128.size a ≤ S1024x1x128.size a := fun i v3437 k0_hw364 k0_h2 => k0_hw364.2.2 k0_h2

def k0_off872 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c54_i32_1978 : BitVec 32 := 54#32
  let v3456 : BitVec 32 := Scalar.addi v2159 c54_i32_1978
  let v3457 : Index := Scalar.indexCast v3456
  ![v3457.toNat]
def k0_off873 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c54_i32_1980 : BitVec 32 := 54#32
  let c0_i32_1981 : BitVec 32 := 0#32
  let c0_i32_1982 : BitVec 32 := 0#32
  ![v2158.toNat, 54, 0, 0]
def k0_off874 (v3458 : BitVec 32) : Fin 3 → Nat :=
  let c0_i32_1983 : BitVec 32 := 0#32
  let c0_i32_1984 : BitVec 32 := 0#32
  ![v3458.toNat, 0, 0]

def k0_chk365 (i : grid0.Coords) (v3458 : BitVec 32) : Prop :=
  (∀ (k0_h2 : k0_cond2 i = 1#1), ∀ a, (k0_off874 v3458) a + S1x128x64.size a ≤ S4096x128x64.size a)
theorem k0_off874_inb : ∀ (i : grid0.Coords) (v3458 : BitVec 32) (k0_hw365 : k0_chk365 i v3458), ∀ (k0_h2 : k0_cond2 i = 1#1), ∀ a, (k0_off874 v3458) a + S1x128x64.size a ≤ S4096x128x64.size a := fun i v3458 k0_hw365 k0_h2 => k0_hw365 k0_h2

def k0_off875 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off876 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c54_i32_1985 : BitVec 32 := 54#32
  let c0_i32_1986 : BitVec 32 := 0#32
  let c0_i32_1987 : BitVec 32 := 0#32
  ![v2158.toNat, 54, 0, 0]
def k0_off877 (v3461 : BitVec 32) : Fin 3 → Nat :=
  let c0_i32_1988 : BitVec 32 := 0#32
  let c0_i32_1989 : BitVec 32 := 0#32
  ![v3461.toNat, 0, 0]

def k0_off878 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off879 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c54_i32_1990 : BitVec 32 := 54#32
  let c0_i32_1991 : BitVec 32 := 0#32
  let c0_i32_1992 : BitVec 32 := 0#32
  ![v2158.toNat, 54, 0, 0]
def k0_off880 (v3461 : BitVec 32) : Fin 3 → Nat :=
  let c0_i32_1993 : BitVec 32 := 0#32
  let c0_i32_1994 : BitVec 32 := 0#32
  ![v3461.toNat, 0, 0]

def k0_chk366 (i : grid0.Coords) (v3461 : BitVec 32) : Prop :=
  (∀ (k0_h2 : k0_cond2 i = 1#1), ∀ a, (k0_off877 v3461) a + S1x128x128.size a ≤ S1024x128x128.size a) ∧
  (∀ (k0_h2 : k0_cond2 i = 1#1), ∀ (hinb : ∀ a, (k0_off877 v3461) a + S1x128x128.size a ≤ S1024x128x128.size a), (Rect.unit (s := S1024x128x128) (k0_off877 v3461) S1x128x128.size hinb).WholeWords (EltTy.packing .bf16)) ∧
  (∀ (k0_h2 : k0_cond2 i = 1#1), ∀ a, (k0_off880 v3461) a + S1x1x128.size a ≤ S1024x1x128.size a)
theorem k0_off877_inb : ∀ (i : grid0.Coords) (v3461 : BitVec 32) (k0_hw366 : k0_chk366 i v3461), ∀ (k0_h2 : k0_cond2 i = 1#1), ∀ a, (k0_off877 v3461) a + S1x128x128.size a ≤ S1024x128x128.size a := fun i v3461 k0_hw366 k0_h2 => k0_hw366.1 k0_h2
theorem k0_off877_wordsbf16 : ∀ (i : grid0.Coords) (v3461 : BitVec 32) (k0_hw366 : k0_chk366 i v3461), ∀ (k0_h2 : k0_cond2 i = 1#1), (Rect.unit (s := S1024x128x128) (k0_off877 v3461) S1x128x128.size (k0_off877_inb i v3461 k0_hw366 k0_h2)).WholeWords (EltTy.packing .bf16) := fun i v3461 k0_hw366 k0_h2 => k0_hw366.2.1 k0_h2 (k0_off877_inb i v3461 k0_hw366 k0_h2)
theorem k0_off880_inb : ∀ (i : grid0.Coords) (v3461 : BitVec 32) (k0_hw366 : k0_chk366 i v3461), ∀ (k0_h2 : k0_cond2 i = 1#1), ∀ a, (k0_off880 v3461) a + S1x1x128.size a ≤ S1024x1x128.size a := fun i v3461 k0_hw366 k0_h2 => k0_hw366.2.2 k0_h2

def k0_off881 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c55_i32_1995 : BitVec 32 := 55#32
  let v3480 : BitVec 32 := Scalar.addi v2159 c55_i32_1995
  let v3481 : Index := Scalar.indexCast v3480
  ![v3481.toNat]
def k0_off882 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c55_i32_1997 : BitVec 32 := 55#32
  let c0_i32_1998 : BitVec 32 := 0#32
  let c0_i32_1999 : BitVec 32 := 0#32
  ![v2158.toNat, 55, 0, 0]
def k0_off883 (v3482 : BitVec 32) : Fin 3 → Nat :=
  let c0_i32_2000 : BitVec 32 := 0#32
  let c0_i32_2001 : BitVec 32 := 0#32
  ![v3482.toNat, 0, 0]

def k0_chk367 (i : grid0.Coords) (v3482 : BitVec 32) : Prop :=
  (∀ (k0_h2 : k0_cond2 i = 1#1), ∀ a, (k0_off883 v3482) a + S1x128x64.size a ≤ S4096x128x64.size a)
theorem k0_off883_inb : ∀ (i : grid0.Coords) (v3482 : BitVec 32) (k0_hw367 : k0_chk367 i v3482), ∀ (k0_h2 : k0_cond2 i = 1#1), ∀ a, (k0_off883 v3482) a + S1x128x64.size a ≤ S4096x128x64.size a := fun i v3482 k0_hw367 k0_h2 => k0_hw367 k0_h2

def k0_off884 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off885 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c55_i32_2002 : BitVec 32 := 55#32
  let c0_i32_2003 : BitVec 32 := 0#32
  let c0_i32_2004 : BitVec 32 := 0#32
  ![v2158.toNat, 55, 0, 0]
def k0_off886 (v3485 : BitVec 32) : Fin 3 → Nat :=
  let c0_i32_2005 : BitVec 32 := 0#32
  let c0_i32_2006 : BitVec 32 := 0#32
  ![v3485.toNat, 0, 0]

def k0_off887 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off888 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c55_i32_2007 : BitVec 32 := 55#32
  let c0_i32_2008 : BitVec 32 := 0#32
  let c0_i32_2009 : BitVec 32 := 0#32
  ![v2158.toNat, 55, 0, 0]
def k0_off889 (v3485 : BitVec 32) : Fin 3 → Nat :=
  let c0_i32_2010 : BitVec 32 := 0#32
  let c0_i32_2011 : BitVec 32 := 0#32
  ![v3485.toNat, 0, 0]

def k0_chk368 (i : grid0.Coords) (v3485 : BitVec 32) : Prop :=
  (∀ (k0_h2 : k0_cond2 i = 1#1), ∀ a, (k0_off886 v3485) a + S1x128x128.size a ≤ S1024x128x128.size a) ∧
  (∀ (k0_h2 : k0_cond2 i = 1#1), ∀ (hinb : ∀ a, (k0_off886 v3485) a + S1x128x128.size a ≤ S1024x128x128.size a), (Rect.unit (s := S1024x128x128) (k0_off886 v3485) S1x128x128.size hinb).WholeWords (EltTy.packing .bf16)) ∧
  (∀ (k0_h2 : k0_cond2 i = 1#1), ∀ a, (k0_off889 v3485) a + S1x1x128.size a ≤ S1024x1x128.size a)
theorem k0_off886_inb : ∀ (i : grid0.Coords) (v3485 : BitVec 32) (k0_hw368 : k0_chk368 i v3485), ∀ (k0_h2 : k0_cond2 i = 1#1), ∀ a, (k0_off886 v3485) a + S1x128x128.size a ≤ S1024x128x128.size a := fun i v3485 k0_hw368 k0_h2 => k0_hw368.1 k0_h2
theorem k0_off886_wordsbf16 : ∀ (i : grid0.Coords) (v3485 : BitVec 32) (k0_hw368 : k0_chk368 i v3485), ∀ (k0_h2 : k0_cond2 i = 1#1), (Rect.unit (s := S1024x128x128) (k0_off886 v3485) S1x128x128.size (k0_off886_inb i v3485 k0_hw368 k0_h2)).WholeWords (EltTy.packing .bf16) := fun i v3485 k0_hw368 k0_h2 => k0_hw368.2.1 k0_h2 (k0_off886_inb i v3485 k0_hw368 k0_h2)
theorem k0_off889_inb : ∀ (i : grid0.Coords) (v3485 : BitVec 32) (k0_hw368 : k0_chk368 i v3485), ∀ (k0_h2 : k0_cond2 i = 1#1), ∀ a, (k0_off889 v3485) a + S1x1x128.size a ≤ S1024x1x128.size a := fun i v3485 k0_hw368 k0_h2 => k0_hw368.2.2 k0_h2

def k0_off890 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c56_i32_2012 : BitVec 32 := 56#32
  let v3504 : BitVec 32 := Scalar.addi v2159 c56_i32_2012
  let v3505 : Index := Scalar.indexCast v3504
  ![v3505.toNat]
def k0_off891 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c56_i32_2014 : BitVec 32 := 56#32
  let c0_i32_2015 : BitVec 32 := 0#32
  let c0_i32_2016 : BitVec 32 := 0#32
  ![v2158.toNat, 56, 0, 0]
def k0_off892 (v3506 : BitVec 32) : Fin 3 → Nat :=
  let c0_i32_2017 : BitVec 32 := 0#32
  let c0_i32_2018 : BitVec 32 := 0#32
  ![v3506.toNat, 0, 0]

def k0_chk369 (i : grid0.Coords) (v3506 : BitVec 32) : Prop :=
  (∀ (k0_h2 : k0_cond2 i = 1#1), ∀ a, (k0_off892 v3506) a + S1x128x64.size a ≤ S4096x128x64.size a)
theorem k0_off892_inb : ∀ (i : grid0.Coords) (v3506 : BitVec 32) (k0_hw369 : k0_chk369 i v3506), ∀ (k0_h2 : k0_cond2 i = 1#1), ∀ a, (k0_off892 v3506) a + S1x128x64.size a ≤ S4096x128x64.size a := fun i v3506 k0_hw369 k0_h2 => k0_hw369 k0_h2

def k0_off893 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off894 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c56_i32_2019 : BitVec 32 := 56#32
  let c0_i32_2020 : BitVec 32 := 0#32
  let c0_i32_2021 : BitVec 32 := 0#32
  ![v2158.toNat, 56, 0, 0]
def k0_off895 (v3509 : BitVec 32) : Fin 3 → Nat :=
  let c0_i32_2022 : BitVec 32 := 0#32
  let c0_i32_2023 : BitVec 32 := 0#32
  ![v3509.toNat, 0, 0]

def k0_off896 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off897 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c56_i32_2024 : BitVec 32 := 56#32
  let c0_i32_2025 : BitVec 32 := 0#32
  let c0_i32_2026 : BitVec 32 := 0#32
  ![v2158.toNat, 56, 0, 0]
def k0_off898 (v3509 : BitVec 32) : Fin 3 → Nat :=
  let c0_i32_2027 : BitVec 32 := 0#32
  let c0_i32_2028 : BitVec 32 := 0#32
  ![v3509.toNat, 0, 0]

def k0_chk370 (i : grid0.Coords) (v3509 : BitVec 32) : Prop :=
  (∀ (k0_h2 : k0_cond2 i = 1#1), ∀ a, (k0_off895 v3509) a + S1x128x128.size a ≤ S1024x128x128.size a) ∧
  (∀ (k0_h2 : k0_cond2 i = 1#1), ∀ (hinb : ∀ a, (k0_off895 v3509) a + S1x128x128.size a ≤ S1024x128x128.size a), (Rect.unit (s := S1024x128x128) (k0_off895 v3509) S1x128x128.size hinb).WholeWords (EltTy.packing .bf16)) ∧
  (∀ (k0_h2 : k0_cond2 i = 1#1), ∀ a, (k0_off898 v3509) a + S1x1x128.size a ≤ S1024x1x128.size a)
theorem k0_off895_inb : ∀ (i : grid0.Coords) (v3509 : BitVec 32) (k0_hw370 : k0_chk370 i v3509), ∀ (k0_h2 : k0_cond2 i = 1#1), ∀ a, (k0_off895 v3509) a + S1x128x128.size a ≤ S1024x128x128.size a := fun i v3509 k0_hw370 k0_h2 => k0_hw370.1 k0_h2
theorem k0_off895_wordsbf16 : ∀ (i : grid0.Coords) (v3509 : BitVec 32) (k0_hw370 : k0_chk370 i v3509), ∀ (k0_h2 : k0_cond2 i = 1#1), (Rect.unit (s := S1024x128x128) (k0_off895 v3509) S1x128x128.size (k0_off895_inb i v3509 k0_hw370 k0_h2)).WholeWords (EltTy.packing .bf16) := fun i v3509 k0_hw370 k0_h2 => k0_hw370.2.1 k0_h2 (k0_off895_inb i v3509 k0_hw370 k0_h2)
theorem k0_off898_inb : ∀ (i : grid0.Coords) (v3509 : BitVec 32) (k0_hw370 : k0_chk370 i v3509), ∀ (k0_h2 : k0_cond2 i = 1#1), ∀ a, (k0_off898 v3509) a + S1x1x128.size a ≤ S1024x1x128.size a := fun i v3509 k0_hw370 k0_h2 => k0_hw370.2.2 k0_h2

def k0_off899 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c57_i32_2029 : BitVec 32 := 57#32
  let v3528 : BitVec 32 := Scalar.addi v2159 c57_i32_2029
  let v3529 : Index := Scalar.indexCast v3528
  ![v3529.toNat]
def k0_off900 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c57_i32_2031 : BitVec 32 := 57#32
  let c0_i32_2032 : BitVec 32 := 0#32
  let c0_i32_2033 : BitVec 32 := 0#32
  ![v2158.toNat, 57, 0, 0]
def k0_off901 (v3530 : BitVec 32) : Fin 3 → Nat :=
  let c0_i32_2034 : BitVec 32 := 0#32
  let c0_i32_2035 : BitVec 32 := 0#32
  ![v3530.toNat, 0, 0]

def k0_chk371 (i : grid0.Coords) (v3530 : BitVec 32) : Prop :=
  (∀ (k0_h2 : k0_cond2 i = 1#1), ∀ a, (k0_off901 v3530) a + S1x128x64.size a ≤ S4096x128x64.size a)
theorem k0_off901_inb : ∀ (i : grid0.Coords) (v3530 : BitVec 32) (k0_hw371 : k0_chk371 i v3530), ∀ (k0_h2 : k0_cond2 i = 1#1), ∀ a, (k0_off901 v3530) a + S1x128x64.size a ≤ S4096x128x64.size a := fun i v3530 k0_hw371 k0_h2 => k0_hw371 k0_h2

def k0_off902 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off903 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c57_i32_2036 : BitVec 32 := 57#32
  let c0_i32_2037 : BitVec 32 := 0#32
  let c0_i32_2038 : BitVec 32 := 0#32
  ![v2158.toNat, 57, 0, 0]
def k0_off904 (v3533 : BitVec 32) : Fin 3 → Nat :=
  let c0_i32_2039 : BitVec 32 := 0#32
  let c0_i32_2040 : BitVec 32 := 0#32
  ![v3533.toNat, 0, 0]

def k0_off905 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off906 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c57_i32_2041 : BitVec 32 := 57#32
  let c0_i32_2042 : BitVec 32 := 0#32
  let c0_i32_2043 : BitVec 32 := 0#32
  ![v2158.toNat, 57, 0, 0]
def k0_off907 (v3533 : BitVec 32) : Fin 3 → Nat :=
  let c0_i32_2044 : BitVec 32 := 0#32
  let c0_i32_2045 : BitVec 32 := 0#32
  ![v3533.toNat, 0, 0]

def k0_chk372 (i : grid0.Coords) (v3533 : BitVec 32) : Prop :=
  (∀ (k0_h2 : k0_cond2 i = 1#1), ∀ a, (k0_off904 v3533) a + S1x128x128.size a ≤ S1024x128x128.size a) ∧
  (∀ (k0_h2 : k0_cond2 i = 1#1), ∀ (hinb : ∀ a, (k0_off904 v3533) a + S1x128x128.size a ≤ S1024x128x128.size a), (Rect.unit (s := S1024x128x128) (k0_off904 v3533) S1x128x128.size hinb).WholeWords (EltTy.packing .bf16)) ∧
  (∀ (k0_h2 : k0_cond2 i = 1#1), ∀ a, (k0_off907 v3533) a + S1x1x128.size a ≤ S1024x1x128.size a)
theorem k0_off904_inb : ∀ (i : grid0.Coords) (v3533 : BitVec 32) (k0_hw372 : k0_chk372 i v3533), ∀ (k0_h2 : k0_cond2 i = 1#1), ∀ a, (k0_off904 v3533) a + S1x128x128.size a ≤ S1024x128x128.size a := fun i v3533 k0_hw372 k0_h2 => k0_hw372.1 k0_h2
theorem k0_off904_wordsbf16 : ∀ (i : grid0.Coords) (v3533 : BitVec 32) (k0_hw372 : k0_chk372 i v3533), ∀ (k0_h2 : k0_cond2 i = 1#1), (Rect.unit (s := S1024x128x128) (k0_off904 v3533) S1x128x128.size (k0_off904_inb i v3533 k0_hw372 k0_h2)).WholeWords (EltTy.packing .bf16) := fun i v3533 k0_hw372 k0_h2 => k0_hw372.2.1 k0_h2 (k0_off904_inb i v3533 k0_hw372 k0_h2)
theorem k0_off907_inb : ∀ (i : grid0.Coords) (v3533 : BitVec 32) (k0_hw372 : k0_chk372 i v3533), ∀ (k0_h2 : k0_cond2 i = 1#1), ∀ a, (k0_off907 v3533) a + S1x1x128.size a ≤ S1024x1x128.size a := fun i v3533 k0_hw372 k0_h2 => k0_hw372.2.2 k0_h2

def k0_off908 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c58_i32_2046 : BitVec 32 := 58#32
  let v3552 : BitVec 32 := Scalar.addi v2159 c58_i32_2046
  let v3553 : Index := Scalar.indexCast v3552
  ![v3553.toNat]
def k0_off909 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c58_i32_2048 : BitVec 32 := 58#32
  let c0_i32_2049 : BitVec 32 := 0#32
  let c0_i32_2050 : BitVec 32 := 0#32
  ![v2158.toNat, 58, 0, 0]
def k0_off910 (v3554 : BitVec 32) : Fin 3 → Nat :=
  let c0_i32_2051 : BitVec 32 := 0#32
  let c0_i32_2052 : BitVec 32 := 0#32
  ![v3554.toNat, 0, 0]

def k0_chk373 (i : grid0.Coords) (v3554 : BitVec 32) : Prop :=
  (∀ (k0_h2 : k0_cond2 i = 1#1), ∀ a, (k0_off910 v3554) a + S1x128x64.size a ≤ S4096x128x64.size a)
theorem k0_off910_inb : ∀ (i : grid0.Coords) (v3554 : BitVec 32) (k0_hw373 : k0_chk373 i v3554), ∀ (k0_h2 : k0_cond2 i = 1#1), ∀ a, (k0_off910 v3554) a + S1x128x64.size a ≤ S4096x128x64.size a := fun i v3554 k0_hw373 k0_h2 => k0_hw373 k0_h2

def k0_off911 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off912 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c58_i32_2053 : BitVec 32 := 58#32
  let c0_i32_2054 : BitVec 32 := 0#32
  let c0_i32_2055 : BitVec 32 := 0#32
  ![v2158.toNat, 58, 0, 0]
def k0_off913 (v3557 : BitVec 32) : Fin 3 → Nat :=
  let c0_i32_2056 : BitVec 32 := 0#32
  let c0_i32_2057 : BitVec 32 := 0#32
  ![v3557.toNat, 0, 0]

def k0_off914 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off915 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c58_i32_2058 : BitVec 32 := 58#32
  let c0_i32_2059 : BitVec 32 := 0#32
  let c0_i32_2060 : BitVec 32 := 0#32
  ![v2158.toNat, 58, 0, 0]
def k0_off916 (v3557 : BitVec 32) : Fin 3 → Nat :=
  let c0_i32_2061 : BitVec 32 := 0#32
  let c0_i32_2062 : BitVec 32 := 0#32
  ![v3557.toNat, 0, 0]

def k0_chk374 (i : grid0.Coords) (v3557 : BitVec 32) : Prop :=
  (∀ (k0_h2 : k0_cond2 i = 1#1), ∀ a, (k0_off913 v3557) a + S1x128x128.size a ≤ S1024x128x128.size a) ∧
  (∀ (k0_h2 : k0_cond2 i = 1#1), ∀ (hinb : ∀ a, (k0_off913 v3557) a + S1x128x128.size a ≤ S1024x128x128.size a), (Rect.unit (s := S1024x128x128) (k0_off913 v3557) S1x128x128.size hinb).WholeWords (EltTy.packing .bf16)) ∧
  (∀ (k0_h2 : k0_cond2 i = 1#1), ∀ a, (k0_off916 v3557) a + S1x1x128.size a ≤ S1024x1x128.size a)
theorem k0_off913_inb : ∀ (i : grid0.Coords) (v3557 : BitVec 32) (k0_hw374 : k0_chk374 i v3557), ∀ (k0_h2 : k0_cond2 i = 1#1), ∀ a, (k0_off913 v3557) a + S1x128x128.size a ≤ S1024x128x128.size a := fun i v3557 k0_hw374 k0_h2 => k0_hw374.1 k0_h2
theorem k0_off913_wordsbf16 : ∀ (i : grid0.Coords) (v3557 : BitVec 32) (k0_hw374 : k0_chk374 i v3557), ∀ (k0_h2 : k0_cond2 i = 1#1), (Rect.unit (s := S1024x128x128) (k0_off913 v3557) S1x128x128.size (k0_off913_inb i v3557 k0_hw374 k0_h2)).WholeWords (EltTy.packing .bf16) := fun i v3557 k0_hw374 k0_h2 => k0_hw374.2.1 k0_h2 (k0_off913_inb i v3557 k0_hw374 k0_h2)
theorem k0_off916_inb : ∀ (i : grid0.Coords) (v3557 : BitVec 32) (k0_hw374 : k0_chk374 i v3557), ∀ (k0_h2 : k0_cond2 i = 1#1), ∀ a, (k0_off916 v3557) a + S1x1x128.size a ≤ S1024x1x128.size a := fun i v3557 k0_hw374 k0_h2 => k0_hw374.2.2 k0_h2

def k0_off917 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c59_i32_2063 : BitVec 32 := 59#32
  let v3576 : BitVec 32 := Scalar.addi v2159 c59_i32_2063
  let v3577 : Index := Scalar.indexCast v3576
  ![v3577.toNat]
def k0_off918 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c59_i32_2065 : BitVec 32 := 59#32
  let c0_i32_2066 : BitVec 32 := 0#32
  let c0_i32_2067 : BitVec 32 := 0#32
  ![v2158.toNat, 59, 0, 0]
def k0_off919 (v3578 : BitVec 32) : Fin 3 → Nat :=
  let c0_i32_2068 : BitVec 32 := 0#32
  let c0_i32_2069 : BitVec 32 := 0#32
  ![v3578.toNat, 0, 0]

def k0_chk375 (i : grid0.Coords) (v3578 : BitVec 32) : Prop :=
  (∀ (k0_h2 : k0_cond2 i = 1#1), ∀ a, (k0_off919 v3578) a + S1x128x64.size a ≤ S4096x128x64.size a)
theorem k0_off919_inb : ∀ (i : grid0.Coords) (v3578 : BitVec 32) (k0_hw375 : k0_chk375 i v3578), ∀ (k0_h2 : k0_cond2 i = 1#1), ∀ a, (k0_off919 v3578) a + S1x128x64.size a ≤ S4096x128x64.size a := fun i v3578 k0_hw375 k0_h2 => k0_hw375 k0_h2

def k0_off920 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off921 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c59_i32_2070 : BitVec 32 := 59#32
  let c0_i32_2071 : BitVec 32 := 0#32
  let c0_i32_2072 : BitVec 32 := 0#32
  ![v2158.toNat, 59, 0, 0]
def k0_off922 (v3581 : BitVec 32) : Fin 3 → Nat :=
  let c0_i32_2073 : BitVec 32 := 0#32
  let c0_i32_2074 : BitVec 32 := 0#32
  ![v3581.toNat, 0, 0]

def k0_off923 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off924 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c59_i32_2075 : BitVec 32 := 59#32
  let c0_i32_2076 : BitVec 32 := 0#32
  let c0_i32_2077 : BitVec 32 := 0#32
  ![v2158.toNat, 59, 0, 0]
def k0_off925 (v3581 : BitVec 32) : Fin 3 → Nat :=
  let c0_i32_2078 : BitVec 32 := 0#32
  let c0_i32_2079 : BitVec 32 := 0#32
  ![v3581.toNat, 0, 0]

def k0_chk376 (i : grid0.Coords) (v3581 : BitVec 32) : Prop :=
  (∀ (k0_h2 : k0_cond2 i = 1#1), ∀ a, (k0_off922 v3581) a + S1x128x128.size a ≤ S1024x128x128.size a) ∧
  (∀ (k0_h2 : k0_cond2 i = 1#1), ∀ (hinb : ∀ a, (k0_off922 v3581) a + S1x128x128.size a ≤ S1024x128x128.size a), (Rect.unit (s := S1024x128x128) (k0_off922 v3581) S1x128x128.size hinb).WholeWords (EltTy.packing .bf16)) ∧
  (∀ (k0_h2 : k0_cond2 i = 1#1), ∀ a, (k0_off925 v3581) a + S1x1x128.size a ≤ S1024x1x128.size a)
theorem k0_off922_inb : ∀ (i : grid0.Coords) (v3581 : BitVec 32) (k0_hw376 : k0_chk376 i v3581), ∀ (k0_h2 : k0_cond2 i = 1#1), ∀ a, (k0_off922 v3581) a + S1x128x128.size a ≤ S1024x128x128.size a := fun i v3581 k0_hw376 k0_h2 => k0_hw376.1 k0_h2
theorem k0_off922_wordsbf16 : ∀ (i : grid0.Coords) (v3581 : BitVec 32) (k0_hw376 : k0_chk376 i v3581), ∀ (k0_h2 : k0_cond2 i = 1#1), (Rect.unit (s := S1024x128x128) (k0_off922 v3581) S1x128x128.size (k0_off922_inb i v3581 k0_hw376 k0_h2)).WholeWords (EltTy.packing .bf16) := fun i v3581 k0_hw376 k0_h2 => k0_hw376.2.1 k0_h2 (k0_off922_inb i v3581 k0_hw376 k0_h2)
theorem k0_off925_inb : ∀ (i : grid0.Coords) (v3581 : BitVec 32) (k0_hw376 : k0_chk376 i v3581), ∀ (k0_h2 : k0_cond2 i = 1#1), ∀ a, (k0_off925 v3581) a + S1x1x128.size a ≤ S1024x1x128.size a := fun i v3581 k0_hw376 k0_h2 => k0_hw376.2.2 k0_h2

def k0_off926 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c60_i32_2080 : BitVec 32 := 60#32
  let v3600 : BitVec 32 := Scalar.addi v2159 c60_i32_2080
  let v3601 : Index := Scalar.indexCast v3600
  ![v3601.toNat]
def k0_off927 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c60_i32_2082 : BitVec 32 := 60#32
  let c0_i32_2083 : BitVec 32 := 0#32
  let c0_i32_2084 : BitVec 32 := 0#32
  ![v2158.toNat, 60, 0, 0]
def k0_off928 (v3602 : BitVec 32) : Fin 3 → Nat :=
  let c0_i32_2085 : BitVec 32 := 0#32
  let c0_i32_2086 : BitVec 32 := 0#32
  ![v3602.toNat, 0, 0]

def k0_chk377 (i : grid0.Coords) (v3602 : BitVec 32) : Prop :=
  (∀ (k0_h2 : k0_cond2 i = 1#1), ∀ a, (k0_off928 v3602) a + S1x128x64.size a ≤ S4096x128x64.size a)
theorem k0_off928_inb : ∀ (i : grid0.Coords) (v3602 : BitVec 32) (k0_hw377 : k0_chk377 i v3602), ∀ (k0_h2 : k0_cond2 i = 1#1), ∀ a, (k0_off928 v3602) a + S1x128x64.size a ≤ S4096x128x64.size a := fun i v3602 k0_hw377 k0_h2 => k0_hw377 k0_h2

def k0_off929 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off930 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c60_i32_2087 : BitVec 32 := 60#32
  let c0_i32_2088 : BitVec 32 := 0#32
  let c0_i32_2089 : BitVec 32 := 0#32
  ![v2158.toNat, 60, 0, 0]
def k0_off931 (v3605 : BitVec 32) : Fin 3 → Nat :=
  let c0_i32_2090 : BitVec 32 := 0#32
  let c0_i32_2091 : BitVec 32 := 0#32
  ![v3605.toNat, 0, 0]

def k0_off932 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off933 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c60_i32_2092 : BitVec 32 := 60#32
  let c0_i32_2093 : BitVec 32 := 0#32
  let c0_i32_2094 : BitVec 32 := 0#32
  ![v2158.toNat, 60, 0, 0]
def k0_off934 (v3605 : BitVec 32) : Fin 3 → Nat :=
  let c0_i32_2095 : BitVec 32 := 0#32
  let c0_i32_2096 : BitVec 32 := 0#32
  ![v3605.toNat, 0, 0]

def k0_chk378 (i : grid0.Coords) (v3605 : BitVec 32) : Prop :=
  (∀ (k0_h2 : k0_cond2 i = 1#1), ∀ a, (k0_off931 v3605) a + S1x128x128.size a ≤ S1024x128x128.size a) ∧
  (∀ (k0_h2 : k0_cond2 i = 1#1), ∀ (hinb : ∀ a, (k0_off931 v3605) a + S1x128x128.size a ≤ S1024x128x128.size a), (Rect.unit (s := S1024x128x128) (k0_off931 v3605) S1x128x128.size hinb).WholeWords (EltTy.packing .bf16)) ∧
  (∀ (k0_h2 : k0_cond2 i = 1#1), ∀ a, (k0_off934 v3605) a + S1x1x128.size a ≤ S1024x1x128.size a)
theorem k0_off931_inb : ∀ (i : grid0.Coords) (v3605 : BitVec 32) (k0_hw378 : k0_chk378 i v3605), ∀ (k0_h2 : k0_cond2 i = 1#1), ∀ a, (k0_off931 v3605) a + S1x128x128.size a ≤ S1024x128x128.size a := fun i v3605 k0_hw378 k0_h2 => k0_hw378.1 k0_h2
theorem k0_off931_wordsbf16 : ∀ (i : grid0.Coords) (v3605 : BitVec 32) (k0_hw378 : k0_chk378 i v3605), ∀ (k0_h2 : k0_cond2 i = 1#1), (Rect.unit (s := S1024x128x128) (k0_off931 v3605) S1x128x128.size (k0_off931_inb i v3605 k0_hw378 k0_h2)).WholeWords (EltTy.packing .bf16) := fun i v3605 k0_hw378 k0_h2 => k0_hw378.2.1 k0_h2 (k0_off931_inb i v3605 k0_hw378 k0_h2)
theorem k0_off934_inb : ∀ (i : grid0.Coords) (v3605 : BitVec 32) (k0_hw378 : k0_chk378 i v3605), ∀ (k0_h2 : k0_cond2 i = 1#1), ∀ a, (k0_off934 v3605) a + S1x1x128.size a ≤ S1024x1x128.size a := fun i v3605 k0_hw378 k0_h2 => k0_hw378.2.2 k0_h2

def k0_off935 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c61_i32_2097 : BitVec 32 := 61#32
  let v3624 : BitVec 32 := Scalar.addi v2159 c61_i32_2097
  let v3625 : Index := Scalar.indexCast v3624
  ![v3625.toNat]
def k0_off936 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c61_i32_2099 : BitVec 32 := 61#32
  let c0_i32_2100 : BitVec 32 := 0#32
  let c0_i32_2101 : BitVec 32 := 0#32
  ![v2158.toNat, 61, 0, 0]
def k0_off937 (v3626 : BitVec 32) : Fin 3 → Nat :=
  let c0_i32_2102 : BitVec 32 := 0#32
  let c0_i32_2103 : BitVec 32 := 0#32
  ![v3626.toNat, 0, 0]

def k0_chk379 (i : grid0.Coords) (v3626 : BitVec 32) : Prop :=
  (∀ (k0_h2 : k0_cond2 i = 1#1), ∀ a, (k0_off937 v3626) a + S1x128x64.size a ≤ S4096x128x64.size a)
theorem k0_off937_inb : ∀ (i : grid0.Coords) (v3626 : BitVec 32) (k0_hw379 : k0_chk379 i v3626), ∀ (k0_h2 : k0_cond2 i = 1#1), ∀ a, (k0_off937 v3626) a + S1x128x64.size a ≤ S4096x128x64.size a := fun i v3626 k0_hw379 k0_h2 => k0_hw379 k0_h2

def k0_off938 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off939 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c61_i32_2104 : BitVec 32 := 61#32
  let c0_i32_2105 : BitVec 32 := 0#32
  let c0_i32_2106 : BitVec 32 := 0#32
  ![v2158.toNat, 61, 0, 0]
def k0_off940 (v3629 : BitVec 32) : Fin 3 → Nat :=
  let c0_i32_2107 : BitVec 32 := 0#32
  let c0_i32_2108 : BitVec 32 := 0#32
  ![v3629.toNat, 0, 0]

def k0_off941 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off942 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c61_i32_2109 : BitVec 32 := 61#32
  let c0_i32_2110 : BitVec 32 := 0#32
  let c0_i32_2111 : BitVec 32 := 0#32
  ![v2158.toNat, 61, 0, 0]
def k0_off943 (v3629 : BitVec 32) : Fin 3 → Nat :=
  let c0_i32_2112 : BitVec 32 := 0#32
  let c0_i32_2113 : BitVec 32 := 0#32
  ![v3629.toNat, 0, 0]

def k0_chk380 (i : grid0.Coords) (v3629 : BitVec 32) : Prop :=
  (∀ (k0_h2 : k0_cond2 i = 1#1), ∀ a, (k0_off940 v3629) a + S1x128x128.size a ≤ S1024x128x128.size a) ∧
  (∀ (k0_h2 : k0_cond2 i = 1#1), ∀ (hinb : ∀ a, (k0_off940 v3629) a + S1x128x128.size a ≤ S1024x128x128.size a), (Rect.unit (s := S1024x128x128) (k0_off940 v3629) S1x128x128.size hinb).WholeWords (EltTy.packing .bf16)) ∧
  (∀ (k0_h2 : k0_cond2 i = 1#1), ∀ a, (k0_off943 v3629) a + S1x1x128.size a ≤ S1024x1x128.size a)
theorem k0_off940_inb : ∀ (i : grid0.Coords) (v3629 : BitVec 32) (k0_hw380 : k0_chk380 i v3629), ∀ (k0_h2 : k0_cond2 i = 1#1), ∀ a, (k0_off940 v3629) a + S1x128x128.size a ≤ S1024x128x128.size a := fun i v3629 k0_hw380 k0_h2 => k0_hw380.1 k0_h2
theorem k0_off940_wordsbf16 : ∀ (i : grid0.Coords) (v3629 : BitVec 32) (k0_hw380 : k0_chk380 i v3629), ∀ (k0_h2 : k0_cond2 i = 1#1), (Rect.unit (s := S1024x128x128) (k0_off940 v3629) S1x128x128.size (k0_off940_inb i v3629 k0_hw380 k0_h2)).WholeWords (EltTy.packing .bf16) := fun i v3629 k0_hw380 k0_h2 => k0_hw380.2.1 k0_h2 (k0_off940_inb i v3629 k0_hw380 k0_h2)
theorem k0_off943_inb : ∀ (i : grid0.Coords) (v3629 : BitVec 32) (k0_hw380 : k0_chk380 i v3629), ∀ (k0_h2 : k0_cond2 i = 1#1), ∀ a, (k0_off943 v3629) a + S1x1x128.size a ≤ S1024x1x128.size a := fun i v3629 k0_hw380 k0_h2 => k0_hw380.2.2 k0_h2

def k0_off944 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c62_i32_2114 : BitVec 32 := 62#32
  let v3648 : BitVec 32 := Scalar.addi v2159 c62_i32_2114
  let v3649 : Index := Scalar.indexCast v3648
  ![v3649.toNat]
def k0_off945 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c62_i32_2116 : BitVec 32 := 62#32
  let c0_i32_2117 : BitVec 32 := 0#32
  let c0_i32_2118 : BitVec 32 := 0#32
  ![v2158.toNat, 62, 0, 0]
def k0_off946 (v3650 : BitVec 32) : Fin 3 → Nat :=
  let c0_i32_2119 : BitVec 32 := 0#32
  let c0_i32_2120 : BitVec 32 := 0#32
  ![v3650.toNat, 0, 0]

def k0_chk381 (i : grid0.Coords) (v3650 : BitVec 32) : Prop :=
  (∀ (k0_h2 : k0_cond2 i = 1#1), ∀ a, (k0_off946 v3650) a + S1x128x64.size a ≤ S4096x128x64.size a)
theorem k0_off946_inb : ∀ (i : grid0.Coords) (v3650 : BitVec 32) (k0_hw381 : k0_chk381 i v3650), ∀ (k0_h2 : k0_cond2 i = 1#1), ∀ a, (k0_off946 v3650) a + S1x128x64.size a ≤ S4096x128x64.size a := fun i v3650 k0_hw381 k0_h2 => k0_hw381 k0_h2

def k0_off947 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off948 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c62_i32_2121 : BitVec 32 := 62#32
  let c0_i32_2122 : BitVec 32 := 0#32
  let c0_i32_2123 : BitVec 32 := 0#32
  ![v2158.toNat, 62, 0, 0]
def k0_off949 (v3653 : BitVec 32) : Fin 3 → Nat :=
  let c0_i32_2124 : BitVec 32 := 0#32
  let c0_i32_2125 : BitVec 32 := 0#32
  ![v3653.toNat, 0, 0]

def k0_off950 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off951 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c62_i32_2126 : BitVec 32 := 62#32
  let c0_i32_2127 : BitVec 32 := 0#32
  let c0_i32_2128 : BitVec 32 := 0#32
  ![v2158.toNat, 62, 0, 0]
def k0_off952 (v3653 : BitVec 32) : Fin 3 → Nat :=
  let c0_i32_2129 : BitVec 32 := 0#32
  let c0_i32_2130 : BitVec 32 := 0#32
  ![v3653.toNat, 0, 0]

def k0_chk382 (i : grid0.Coords) (v3653 : BitVec 32) : Prop :=
  (∀ (k0_h2 : k0_cond2 i = 1#1), ∀ a, (k0_off949 v3653) a + S1x128x128.size a ≤ S1024x128x128.size a) ∧
  (∀ (k0_h2 : k0_cond2 i = 1#1), ∀ (hinb : ∀ a, (k0_off949 v3653) a + S1x128x128.size a ≤ S1024x128x128.size a), (Rect.unit (s := S1024x128x128) (k0_off949 v3653) S1x128x128.size hinb).WholeWords (EltTy.packing .bf16)) ∧
  (∀ (k0_h2 : k0_cond2 i = 1#1), ∀ a, (k0_off952 v3653) a + S1x1x128.size a ≤ S1024x1x128.size a)
theorem k0_off949_inb : ∀ (i : grid0.Coords) (v3653 : BitVec 32) (k0_hw382 : k0_chk382 i v3653), ∀ (k0_h2 : k0_cond2 i = 1#1), ∀ a, (k0_off949 v3653) a + S1x128x128.size a ≤ S1024x128x128.size a := fun i v3653 k0_hw382 k0_h2 => k0_hw382.1 k0_h2
theorem k0_off949_wordsbf16 : ∀ (i : grid0.Coords) (v3653 : BitVec 32) (k0_hw382 : k0_chk382 i v3653), ∀ (k0_h2 : k0_cond2 i = 1#1), (Rect.unit (s := S1024x128x128) (k0_off949 v3653) S1x128x128.size (k0_off949_inb i v3653 k0_hw382 k0_h2)).WholeWords (EltTy.packing .bf16) := fun i v3653 k0_hw382 k0_h2 => k0_hw382.2.1 k0_h2 (k0_off949_inb i v3653 k0_hw382 k0_h2)
theorem k0_off952_inb : ∀ (i : grid0.Coords) (v3653 : BitVec 32) (k0_hw382 : k0_chk382 i v3653), ∀ (k0_h2 : k0_cond2 i = 1#1), ∀ a, (k0_off952 v3653) a + S1x1x128.size a ≤ S1024x1x128.size a := fun i v3653 k0_hw382 k0_h2 => k0_hw382.2.2 k0_h2

def k0_off953 (i : grid0.Coords) : Fin 1 → Nat :=
  let arg0 : BitVec 32 := BitVec.ofNat 32 (i 0).val
  let c2_i32_1051 : BitVec 32 := 2#32
  let v2147 : BitVec 32 := Scalar.addi arg0 c2_i32_1051
  let c64_i32_1059 : BitVec 32 := 64#32
  let v2159 : BitVec 32 := Scalar.muli v2147 c64_i32_1059
  let c63_i32_2131 : BitVec 32 := 63#32
  let v3672 : BitVec 32 := Scalar.addi v2159 c63_i32_2131
  let v3673 : Index := Scalar.indexCast v3672
  ![v3673.toNat]
def k0_off954 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c63_i32_2133 : BitVec 32 := 63#32
  let c0_i32_2134 : BitVec 32 := 0#32
  let c0_i32_2135 : BitVec 32 := 0#32
  ![v2158.toNat, 63, 0, 0]
def k0_off955 (v3674 : BitVec 32) : Fin 3 → Nat :=
  let c0_i32_2136 : BitVec 32 := 0#32
  let c0_i32_2137 : BitVec 32 := 0#32
  ![v3674.toNat, 0, 0]

def k0_chk383 (i : grid0.Coords) (v3674 : BitVec 32) : Prop :=
  (∀ (k0_h2 : k0_cond2 i = 1#1), ∀ a, (k0_off955 v3674) a + S1x128x64.size a ≤ S4096x128x64.size a)
theorem k0_off955_inb : ∀ (i : grid0.Coords) (v3674 : BitVec 32) (k0_hw383 : k0_chk383 i v3674), ∀ (k0_h2 : k0_cond2 i = 1#1), ∀ a, (k0_off955 v3674) a + S1x128x64.size a ≤ S4096x128x64.size a := fun i v3674 k0_hw383 k0_h2 => k0_hw383 k0_h2

def k0_off956 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off957 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c63_i32_2138 : BitVec 32 := 63#32
  let c0_i32_2139 : BitVec 32 := 0#32
  let c0_i32_2140 : BitVec 32 := 0#32
  ![v2158.toNat, 63, 0, 0]
def k0_off958 (v3677 : BitVec 32) : Fin 3 → Nat :=
  let c0_i32_2141 : BitVec 32 := 0#32
  let c0_i32_2142 : BitVec 32 := 0#32
  ![v3677.toNat, 0, 0]

def k0_off959 (i : grid0.Coords) : Fin 1 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  ![v2158.toNat]
def k0_off960 (i : grid0.Coords) : Fin 4 → Nat :=
  let arg0 : BitVec 32 := BitVec.ofNat 32 (i 0).val
  let c2_i32_1052 : BitVec 32 := 2#32
  let v2148 : BitVec 32 := Scalar.addi arg0 c2_i32_1052
  let c3_i32_1053 : BitVec 32 := 3#32
  let c0_i32_1054 : BitVec 32 := 0#32
  let v2149 : BitVec 1 := Scalar.cmpi .eq c3_i32_1053 c0_i32_1054
  let c1_i32_1055 : BitVec 32 := 1#32
  let v2150 : BitVec 32 := Scalar.select v2149 c1_i32_1055 c3_i32_1053
  let v2151 : BitVec 32 := Scalar.remsi v2148 v2150
  let c0_i32_1057 : BitVec 32 := 0#32
  let v2153 : BitVec 1 := Scalar.cmpi .slt v2151 c0_i32_1057
  let c0_i32_1058 : BitVec 32 := 0#32
  let v2154 : BitVec 1 := Scalar.cmpi .slt v2150 c0_i32_1058
  let v2155 : BitVec 1 := Scalar.xori v2153 v2154
  let c0_i32_1056 : BitVec 32 := 0#32
  let v2152 : BitVec 1 := Scalar.cmpi .ne v2151 c0_i32_1056
  let v2156 : BitVec 1 := Scalar.andi v2155 v2152
  let v2157 : BitVec 32 := Scalar.addi v2151 v2150
  let v2158 : BitVec 32 := Scalar.select v2156 v2157 v2151
  let c63_i32_2143 : BitVec 32 := 63#32
  let c0_i32_2144 : BitVec 32 := 0#32
  let c0_i32_2145 : BitVec 32 := 0#32
  ![v2158.toNat, 63, 0, 0]
def k0_off961 (v3677 : BitVec 32) : Fin 3 → Nat :=
  let c0_i32_2146 : BitVec 32 := 0#32
  let c0_i32_2147 : BitVec 32 := 0#32
  ![v3677.toNat, 0, 0]

def k0_chk384 (i : grid0.Coords) (v3677 : BitVec 32) : Prop :=
  (∀ (k0_h2 : k0_cond2 i = 1#1), ∀ a, (k0_off958 v3677) a + S1x128x128.size a ≤ S1024x128x128.size a) ∧
  (∀ (k0_h2 : k0_cond2 i = 1#1), ∀ (hinb : ∀ a, (k0_off958 v3677) a + S1x128x128.size a ≤ S1024x128x128.size a), (Rect.unit (s := S1024x128x128) (k0_off958 v3677) S1x128x128.size hinb).WholeWords (EltTy.packing .bf16)) ∧
  (∀ (k0_h2 : k0_cond2 i = 1#1), ∀ a, (k0_off961 v3677) a + S1x1x128.size a ≤ S1024x1x128.size a)
theorem k0_off958_inb : ∀ (i : grid0.Coords) (v3677 : BitVec 32) (k0_hw384 : k0_chk384 i v3677), ∀ (k0_h2 : k0_cond2 i = 1#1), ∀ a, (k0_off958 v3677) a + S1x128x128.size a ≤ S1024x128x128.size a := fun i v3677 k0_hw384 k0_h2 => k0_hw384.1 k0_h2
theorem k0_off958_wordsbf16 : ∀ (i : grid0.Coords) (v3677 : BitVec 32) (k0_hw384 : k0_chk384 i v3677), ∀ (k0_h2 : k0_cond2 i = 1#1), (Rect.unit (s := S1024x128x128) (k0_off958 v3677) S1x128x128.size (k0_off958_inb i v3677 k0_hw384 k0_h2)).WholeWords (EltTy.packing .bf16) := fun i v3677 k0_hw384 k0_h2 => k0_hw384.2.1 k0_h2 (k0_off958_inb i v3677 k0_hw384 k0_h2)
theorem k0_off961_inb : ∀ (i : grid0.Coords) (v3677 : BitVec 32) (k0_hw384 : k0_chk384 i v3677), ∀ (k0_h2 : k0_cond2 i = 1#1), ∀ a, (k0_off961 v3677) a + S1x1x128.size a ≤ S1024x1x128.size a := fun i v3677 k0_hw384 k0_h2 => k0_hw384.2.2 k0_h2

def k0_off962 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off963 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  let c0_i32_8 : BitVec 32 := 0#32
  ![v16.toNat, 0, 0, 0]
def k0_off964 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_12 : BitVec 32 := 0#32
  let c0_i32_13 : BitVec 32 := 0#32
  let c0_i32_14 : BitVec 32 := 0#32
  ![v16.toNat, 0, 0, 0]
def k0_off965 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_18 : BitVec 32 := 0#32
  let c0_i32_19 : BitVec 32 := 0#32
  let c0_i32_20 : BitVec 32 := 0#32
  ![v16.toNat, 0, 0, 0]
def k0_off966 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v32 : Index := Scalar.indexCast v16
  let c0 : Index := 0#32
  let c0_24 : Index := 0#32
  let c0_25 : Index := 0#32
  ![v32.toNat, 0, 0, 0]
def k0_off967 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v35 : Index := Scalar.indexCast v16
  let c0_26 : Index := 0#32
  let c0_27 : Index := 0#32
  let c0_28 : Index := 0#32
  ![v35.toNat, 0, 0, 0]
def k0_off968 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v40 : Index := Scalar.indexCast v16
  let c0_29 : Index := 0#32
  let c0_30 : Index := 0#32
  let c0_31 : Index := 0#32
  ![v40.toNat, 0, 0, 0]
def k0_off969 (i : grid0.Coords) : Fin 1 → Nat :=
  let arg0 : BitVec 32 := BitVec.ofNat 32 (i 0).val
  let c64_i32 : BitVec 32 := 64#32
  let v53 : BitVec 32 := Scalar.muli arg0 c64_i32
  let c0_i32_34 : BitVec 32 := 0#32
  let v54 : BitVec 32 := Scalar.addi v53 c0_i32_34
  let v55 : Index := Scalar.indexCast v54
  ![v55.toNat]
def k0_off970 (v56 : BitVec 32) : Fin 3 → Nat :=
  let v57 : Index := Scalar.indexCast v56
  let c0_35 : Index := 0#32
  let c0_36 : Index := 0#32
  ![v57.toNat, 0, 0]

def k0_chk385 (v56 : BitVec 32) : Prop :=
  (∀ a, (k0_off970 v56) a + S1x64x128.size a ≤ S1024x64x128.size a)
theorem k0_off970_inb : ∀ (v56 : BitVec 32) (k0_hw385 : k0_chk385 v56), ∀ a, (k0_off970 v56) a + S1x64x128.size a ≤ S1024x64x128.size a := fun v56 k0_hw385 => k0_hw385

def k0_off971 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v65 : Index := Scalar.indexCast v16
  let c1 : Index := 1#32
  let c0_39 : Index := 0#32
  let c0_40 : Index := 0#32
  ![v65.toNat, 1, 0, 0]
def k0_off972 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v68 : Index := Scalar.indexCast v16
  let c1_41 : Index := 1#32
  let c0_42 : Index := 0#32
  let c0_43 : Index := 0#32
  ![v68.toNat, 1, 0, 0]
def k0_off973 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v73 : Index := Scalar.indexCast v16
  let c1_45 : Index := 1#32
  let c0_46 : Index := 0#32
  let c0_47 : Index := 0#32
  ![v73.toNat, 1, 0, 0]
def k0_off974 (i : grid0.Coords) : Fin 1 → Nat :=
  let arg0 : BitVec 32 := BitVec.ofNat 32 (i 0).val
  let c64_i32_50 : BitVec 32 := 64#32
  let v86 : BitVec 32 := Scalar.muli arg0 c64_i32_50
  let c1_i32_51 : BitVec 32 := 1#32
  let v87 : BitVec 32 := Scalar.addi v86 c1_i32_51
  let v88 : Index := Scalar.indexCast v87
  ![v88.toNat]
def k0_off975 (v89 : BitVec 32) : Fin 3 → Nat :=
  let v90 : Index := Scalar.indexCast v89
  let c0_52 : Index := 0#32
  let c0_53 : Index := 0#32
  ![v90.toNat, 0, 0]

def k0_chk386 (v89 : BitVec 32) : Prop :=
  (∀ a, (k0_off975 v89) a + S1x64x128.size a ≤ S1024x64x128.size a)
theorem k0_off975_inb : ∀ (v89 : BitVec 32) (k0_hw386 : k0_chk386 v89), ∀ a, (k0_off975 v89) a + S1x64x128.size a ≤ S1024x64x128.size a := fun v89 k0_hw386 => k0_hw386

def k0_off976 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v98 : Index := Scalar.indexCast v16
  let c2 : Index := 2#32
  let c0_56 : Index := 0#32
  let c0_57 : Index := 0#32
  ![v98.toNat, 2, 0, 0]
def k0_off977 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v101 : Index := Scalar.indexCast v16
  let c2_58 : Index := 2#32
  let c0_59 : Index := 0#32
  let c0_60 : Index := 0#32
  ![v101.toNat, 2, 0, 0]
def k0_off978 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v106 : Index := Scalar.indexCast v16
  let c2_62 : Index := 2#32
  let c0_63 : Index := 0#32
  let c0_64 : Index := 0#32
  ![v106.toNat, 2, 0, 0]
def k0_off979 (i : grid0.Coords) : Fin 1 → Nat :=
  let arg0 : BitVec 32 := BitVec.ofNat 32 (i 0).val
  let c64_i32_67 : BitVec 32 := 64#32
  let v119 : BitVec 32 := Scalar.muli arg0 c64_i32_67
  let c2_i32_68 : BitVec 32 := 2#32
  let v120 : BitVec 32 := Scalar.addi v119 c2_i32_68
  let v121 : Index := Scalar.indexCast v120
  ![v121.toNat]
def k0_off980 (v122 : BitVec 32) : Fin 3 → Nat :=
  let v123 : Index := Scalar.indexCast v122
  let c0_69 : Index := 0#32
  let c0_70 : Index := 0#32
  ![v123.toNat, 0, 0]

def k0_chk387 (v122 : BitVec 32) : Prop :=
  (∀ a, (k0_off980 v122) a + S1x64x128.size a ≤ S1024x64x128.size a)
theorem k0_off980_inb : ∀ (v122 : BitVec 32) (k0_hw387 : k0_chk387 v122), ∀ a, (k0_off980 v122) a + S1x64x128.size a ≤ S1024x64x128.size a := fun v122 k0_hw387 => k0_hw387

def k0_off981 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v131 : Index := Scalar.indexCast v16
  let c3 : Index := 3#32
  let c0_73 : Index := 0#32
  let c0_74 : Index := 0#32
  ![v131.toNat, 3, 0, 0]
def k0_off982 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v134 : Index := Scalar.indexCast v16
  let c3_75 : Index := 3#32
  let c0_76 : Index := 0#32
  let c0_77 : Index := 0#32
  ![v134.toNat, 3, 0, 0]
def k0_off983 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v139 : Index := Scalar.indexCast v16
  let c3_79 : Index := 3#32
  let c0_80 : Index := 0#32
  let c0_81 : Index := 0#32
  ![v139.toNat, 3, 0, 0]
def k0_off984 (i : grid0.Coords) : Fin 1 → Nat :=
  let arg0 : BitVec 32 := BitVec.ofNat 32 (i 0).val
  let c64_i32_84 : BitVec 32 := 64#32
  let v152 : BitVec 32 := Scalar.muli arg0 c64_i32_84
  let c3_i32_85 : BitVec 32 := 3#32
  let v153 : BitVec 32 := Scalar.addi v152 c3_i32_85
  let v154 : Index := Scalar.indexCast v153
  ![v154.toNat]
def k0_off985 (v155 : BitVec 32) : Fin 3 → Nat :=
  let v156 : Index := Scalar.indexCast v155
  let c0_86 : Index := 0#32
  let c0_87 : Index := 0#32
  ![v156.toNat, 0, 0]

def k0_chk388 (v155 : BitVec 32) : Prop :=
  (∀ a, (k0_off985 v155) a + S1x64x128.size a ≤ S1024x64x128.size a)
theorem k0_off985_inb : ∀ (v155 : BitVec 32) (k0_hw388 : k0_chk388 v155), ∀ a, (k0_off985 v155) a + S1x64x128.size a ≤ S1024x64x128.size a := fun v155 k0_hw388 => k0_hw388

def k0_off986 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v164 : Index := Scalar.indexCast v16
  let c4 : Index := 4#32
  let c0_90 : Index := 0#32
  let c0_91 : Index := 0#32
  ![v164.toNat, 4, 0, 0]
def k0_off987 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v167 : Index := Scalar.indexCast v16
  let c4_92 : Index := 4#32
  let c0_93 : Index := 0#32
  let c0_94 : Index := 0#32
  ![v167.toNat, 4, 0, 0]
def k0_off988 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v172 : Index := Scalar.indexCast v16
  let c4_96 : Index := 4#32
  let c0_97 : Index := 0#32
  let c0_98 : Index := 0#32
  ![v172.toNat, 4, 0, 0]
def k0_off989 (i : grid0.Coords) : Fin 1 → Nat :=
  let arg0 : BitVec 32 := BitVec.ofNat 32 (i 0).val
  let c64_i32_101 : BitVec 32 := 64#32
  let v185 : BitVec 32 := Scalar.muli arg0 c64_i32_101
  let c4_i32 : BitVec 32 := 4#32
  let v186 : BitVec 32 := Scalar.addi v185 c4_i32
  let v187 : Index := Scalar.indexCast v186
  ![v187.toNat]
def k0_off990 (v188 : BitVec 32) : Fin 3 → Nat :=
  let v189 : Index := Scalar.indexCast v188
  let c0_102 : Index := 0#32
  let c0_103 : Index := 0#32
  ![v189.toNat, 0, 0]

def k0_chk389 (v188 : BitVec 32) : Prop :=
  (∀ a, (k0_off990 v188) a + S1x64x128.size a ≤ S1024x64x128.size a)
theorem k0_off990_inb : ∀ (v188 : BitVec 32) (k0_hw389 : k0_chk389 v188), ∀ a, (k0_off990 v188) a + S1x64x128.size a ≤ S1024x64x128.size a := fun v188 k0_hw389 => k0_hw389

def k0_off991 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v197 : Index := Scalar.indexCast v16
  let c5 : Index := 5#32
  let c0_106 : Index := 0#32
  let c0_107 : Index := 0#32
  ![v197.toNat, 5, 0, 0]
def k0_off992 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v200 : Index := Scalar.indexCast v16
  let c5_108 : Index := 5#32
  let c0_109 : Index := 0#32
  let c0_110 : Index := 0#32
  ![v200.toNat, 5, 0, 0]
def k0_off993 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v205 : Index := Scalar.indexCast v16
  let c5_112 : Index := 5#32
  let c0_113 : Index := 0#32
  let c0_114 : Index := 0#32
  ![v205.toNat, 5, 0, 0]
def k0_off994 (i : grid0.Coords) : Fin 1 → Nat :=
  let arg0 : BitVec 32 := BitVec.ofNat 32 (i 0).val
  let c64_i32_117 : BitVec 32 := 64#32
  let v218 : BitVec 32 := Scalar.muli arg0 c64_i32_117
  let c5_i32 : BitVec 32 := 5#32
  let v219 : BitVec 32 := Scalar.addi v218 c5_i32
  let v220 : Index := Scalar.indexCast v219
  ![v220.toNat]
def k0_off995 (v221 : BitVec 32) : Fin 3 → Nat :=
  let v222 : Index := Scalar.indexCast v221
  let c0_118 : Index := 0#32
  let c0_119 : Index := 0#32
  ![v222.toNat, 0, 0]

def k0_chk390 (v221 : BitVec 32) : Prop :=
  (∀ a, (k0_off995 v221) a + S1x64x128.size a ≤ S1024x64x128.size a)
theorem k0_off995_inb : ∀ (v221 : BitVec 32) (k0_hw390 : k0_chk390 v221), ∀ a, (k0_off995 v221) a + S1x64x128.size a ≤ S1024x64x128.size a := fun v221 k0_hw390 => k0_hw390

def k0_off996 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v230 : Index := Scalar.indexCast v16
  let c6 : Index := 6#32
  let c0_122 : Index := 0#32
  let c0_123 : Index := 0#32
  ![v230.toNat, 6, 0, 0]
def k0_off997 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v233 : Index := Scalar.indexCast v16
  let c6_124 : Index := 6#32
  let c0_125 : Index := 0#32
  let c0_126 : Index := 0#32
  ![v233.toNat, 6, 0, 0]
def k0_off998 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v238 : Index := Scalar.indexCast v16
  let c6_128 : Index := 6#32
  let c0_129 : Index := 0#32
  let c0_130 : Index := 0#32
  ![v238.toNat, 6, 0, 0]
def k0_off999 (i : grid0.Coords) : Fin 1 → Nat :=
  let arg0 : BitVec 32 := BitVec.ofNat 32 (i 0).val
  let c64_i32_133 : BitVec 32 := 64#32
  let v251 : BitVec 32 := Scalar.muli arg0 c64_i32_133
  let c6_i32 : BitVec 32 := 6#32
  let v252 : BitVec 32 := Scalar.addi v251 c6_i32
  let v253 : Index := Scalar.indexCast v252
  ![v253.toNat]
def k0_off1000 (v254 : BitVec 32) : Fin 3 → Nat :=
  let v255 : Index := Scalar.indexCast v254
  let c0_134 : Index := 0#32
  let c0_135 : Index := 0#32
  ![v255.toNat, 0, 0]

def k0_chk391 (v254 : BitVec 32) : Prop :=
  (∀ a, (k0_off1000 v254) a + S1x64x128.size a ≤ S1024x64x128.size a)
theorem k0_off1000_inb : ∀ (v254 : BitVec 32) (k0_hw391 : k0_chk391 v254), ∀ a, (k0_off1000 v254) a + S1x64x128.size a ≤ S1024x64x128.size a := fun v254 k0_hw391 => k0_hw391

def k0_off1001 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v263 : Index := Scalar.indexCast v16
  let c7 : Index := 7#32
  let c0_138 : Index := 0#32
  let c0_139 : Index := 0#32
  ![v263.toNat, 7, 0, 0]
def k0_off1002 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v266 : Index := Scalar.indexCast v16
  let c7_140 : Index := 7#32
  let c0_141 : Index := 0#32
  let c0_142 : Index := 0#32
  ![v266.toNat, 7, 0, 0]
def k0_off1003 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v271 : Index := Scalar.indexCast v16
  let c7_144 : Index := 7#32
  let c0_145 : Index := 0#32
  let c0_146 : Index := 0#32
  ![v271.toNat, 7, 0, 0]
def k0_off1004 (i : grid0.Coords) : Fin 1 → Nat :=
  let arg0 : BitVec 32 := BitVec.ofNat 32 (i 0).val
  let c64_i32_149 : BitVec 32 := 64#32
  let v284 : BitVec 32 := Scalar.muli arg0 c64_i32_149
  let c7_i32 : BitVec 32 := 7#32
  let v285 : BitVec 32 := Scalar.addi v284 c7_i32
  let v286 : Index := Scalar.indexCast v285
  ![v286.toNat]
def k0_off1005 (v287 : BitVec 32) : Fin 3 → Nat :=
  let v288 : Index := Scalar.indexCast v287
  let c0_150 : Index := 0#32
  let c0_151 : Index := 0#32
  ![v288.toNat, 0, 0]

def k0_chk392 (v287 : BitVec 32) : Prop :=
  (∀ a, (k0_off1005 v287) a + S1x64x128.size a ≤ S1024x64x128.size a)
theorem k0_off1005_inb : ∀ (v287 : BitVec 32) (k0_hw392 : k0_chk392 v287), ∀ a, (k0_off1005 v287) a + S1x64x128.size a ≤ S1024x64x128.size a := fun v287 k0_hw392 => k0_hw392

def k0_off1006 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v296 : Index := Scalar.indexCast v16
  let c8 : Index := 8#32
  let c0_154 : Index := 0#32
  let c0_155 : Index := 0#32
  ![v296.toNat, 8, 0, 0]
def k0_off1007 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v299 : Index := Scalar.indexCast v16
  let c8_156 : Index := 8#32
  let c0_157 : Index := 0#32
  let c0_158 : Index := 0#32
  ![v299.toNat, 8, 0, 0]
def k0_off1008 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v304 : Index := Scalar.indexCast v16
  let c8_160 : Index := 8#32
  let c0_161 : Index := 0#32
  let c0_162 : Index := 0#32
  ![v304.toNat, 8, 0, 0]
def k0_off1009 (i : grid0.Coords) : Fin 1 → Nat :=
  let arg0 : BitVec 32 := BitVec.ofNat 32 (i 0).val
  let c64_i32_165 : BitVec 32 := 64#32
  let v317 : BitVec 32 := Scalar.muli arg0 c64_i32_165
  let c8_i32 : BitVec 32 := 8#32
  let v318 : BitVec 32 := Scalar.addi v317 c8_i32
  let v319 : Index := Scalar.indexCast v318
  ![v319.toNat]
def k0_off1010 (v320 : BitVec 32) : Fin 3 → Nat :=
  let v321 : Index := Scalar.indexCast v320
  let c0_166 : Index := 0#32
  let c0_167 : Index := 0#32
  ![v321.toNat, 0, 0]

def k0_chk393 (v320 : BitVec 32) : Prop :=
  (∀ a, (k0_off1010 v320) a + S1x64x128.size a ≤ S1024x64x128.size a)
theorem k0_off1010_inb : ∀ (v320 : BitVec 32) (k0_hw393 : k0_chk393 v320), ∀ a, (k0_off1010 v320) a + S1x64x128.size a ≤ S1024x64x128.size a := fun v320 k0_hw393 => k0_hw393

def k0_off1011 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v329 : Index := Scalar.indexCast v16
  let c9 : Index := 9#32
  let c0_170 : Index := 0#32
  let c0_171 : Index := 0#32
  ![v329.toNat, 9, 0, 0]
def k0_off1012 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v332 : Index := Scalar.indexCast v16
  let c9_172 : Index := 9#32
  let c0_173 : Index := 0#32
  let c0_174 : Index := 0#32
  ![v332.toNat, 9, 0, 0]
def k0_off1013 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v337 : Index := Scalar.indexCast v16
  let c9_176 : Index := 9#32
  let c0_177 : Index := 0#32
  let c0_178 : Index := 0#32
  ![v337.toNat, 9, 0, 0]
def k0_off1014 (i : grid0.Coords) : Fin 1 → Nat :=
  let arg0 : BitVec 32 := BitVec.ofNat 32 (i 0).val
  let c64_i32_181 : BitVec 32 := 64#32
  let v350 : BitVec 32 := Scalar.muli arg0 c64_i32_181
  let c9_i32 : BitVec 32 := 9#32
  let v351 : BitVec 32 := Scalar.addi v350 c9_i32
  let v352 : Index := Scalar.indexCast v351
  ![v352.toNat]
def k0_off1015 (v353 : BitVec 32) : Fin 3 → Nat :=
  let v354 : Index := Scalar.indexCast v353
  let c0_182 : Index := 0#32
  let c0_183 : Index := 0#32
  ![v354.toNat, 0, 0]

def k0_chk394 (v353 : BitVec 32) : Prop :=
  (∀ a, (k0_off1015 v353) a + S1x64x128.size a ≤ S1024x64x128.size a)
theorem k0_off1015_inb : ∀ (v353 : BitVec 32) (k0_hw394 : k0_chk394 v353), ∀ a, (k0_off1015 v353) a + S1x64x128.size a ≤ S1024x64x128.size a := fun v353 k0_hw394 => k0_hw394

def k0_off1016 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v362 : Index := Scalar.indexCast v16
  let c10 : Index := 10#32
  let c0_186 : Index := 0#32
  let c0_187 : Index := 0#32
  ![v362.toNat, 10, 0, 0]
def k0_off1017 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v365 : Index := Scalar.indexCast v16
  let c10_188 : Index := 10#32
  let c0_189 : Index := 0#32
  let c0_190 : Index := 0#32
  ![v365.toNat, 10, 0, 0]
def k0_off1018 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v370 : Index := Scalar.indexCast v16
  let c10_192 : Index := 10#32
  let c0_193 : Index := 0#32
  let c0_194 : Index := 0#32
  ![v370.toNat, 10, 0, 0]
def k0_off1019 (i : grid0.Coords) : Fin 1 → Nat :=
  let arg0 : BitVec 32 := BitVec.ofNat 32 (i 0).val
  let c64_i32_197 : BitVec 32 := 64#32
  let v383 : BitVec 32 := Scalar.muli arg0 c64_i32_197
  let c10_i32 : BitVec 32 := 10#32
  let v384 : BitVec 32 := Scalar.addi v383 c10_i32
  let v385 : Index := Scalar.indexCast v384
  ![v385.toNat]
def k0_off1020 (v386 : BitVec 32) : Fin 3 → Nat :=
  let v387 : Index := Scalar.indexCast v386
  let c0_198 : Index := 0#32
  let c0_199 : Index := 0#32
  ![v387.toNat, 0, 0]

def k0_chk395 (v386 : BitVec 32) : Prop :=
  (∀ a, (k0_off1020 v386) a + S1x64x128.size a ≤ S1024x64x128.size a)
theorem k0_off1020_inb : ∀ (v386 : BitVec 32) (k0_hw395 : k0_chk395 v386), ∀ a, (k0_off1020 v386) a + S1x64x128.size a ≤ S1024x64x128.size a := fun v386 k0_hw395 => k0_hw395

def k0_off1021 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v395 : Index := Scalar.indexCast v16
  let c11 : Index := 11#32
  let c0_202 : Index := 0#32
  let c0_203 : Index := 0#32
  ![v395.toNat, 11, 0, 0]
def k0_off1022 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v398 : Index := Scalar.indexCast v16
  let c11_204 : Index := 11#32
  let c0_205 : Index := 0#32
  let c0_206 : Index := 0#32
  ![v398.toNat, 11, 0, 0]
def k0_off1023 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v403 : Index := Scalar.indexCast v16
  let c11_208 : Index := 11#32
  let c0_209 : Index := 0#32
  let c0_210 : Index := 0#32
  ![v403.toNat, 11, 0, 0]
def k0_off1024 (i : grid0.Coords) : Fin 1 → Nat :=
  let arg0 : BitVec 32 := BitVec.ofNat 32 (i 0).val
  let c64_i32_213 : BitVec 32 := 64#32
  let v416 : BitVec 32 := Scalar.muli arg0 c64_i32_213
  let c11_i32 : BitVec 32 := 11#32
  let v417 : BitVec 32 := Scalar.addi v416 c11_i32
  let v418 : Index := Scalar.indexCast v417
  ![v418.toNat]
def k0_off1025 (v419 : BitVec 32) : Fin 3 → Nat :=
  let v420 : Index := Scalar.indexCast v419
  let c0_214 : Index := 0#32
  let c0_215 : Index := 0#32
  ![v420.toNat, 0, 0]

def k0_chk396 (v419 : BitVec 32) : Prop :=
  (∀ a, (k0_off1025 v419) a + S1x64x128.size a ≤ S1024x64x128.size a)
theorem k0_off1025_inb : ∀ (v419 : BitVec 32) (k0_hw396 : k0_chk396 v419), ∀ a, (k0_off1025 v419) a + S1x64x128.size a ≤ S1024x64x128.size a := fun v419 k0_hw396 => k0_hw396

def k0_off1026 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v428 : Index := Scalar.indexCast v16
  let c12 : Index := 12#32
  let c0_218 : Index := 0#32
  let c0_219 : Index := 0#32
  ![v428.toNat, 12, 0, 0]
def k0_off1027 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v431 : Index := Scalar.indexCast v16
  let c12_220 : Index := 12#32
  let c0_221 : Index := 0#32
  let c0_222 : Index := 0#32
  ![v431.toNat, 12, 0, 0]
def k0_off1028 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v436 : Index := Scalar.indexCast v16
  let c12_224 : Index := 12#32
  let c0_225 : Index := 0#32
  let c0_226 : Index := 0#32
  ![v436.toNat, 12, 0, 0]
def k0_off1029 (i : grid0.Coords) : Fin 1 → Nat :=
  let arg0 : BitVec 32 := BitVec.ofNat 32 (i 0).val
  let c64_i32_229 : BitVec 32 := 64#32
  let v449 : BitVec 32 := Scalar.muli arg0 c64_i32_229
  let c12_i32 : BitVec 32 := 12#32
  let v450 : BitVec 32 := Scalar.addi v449 c12_i32
  let v451 : Index := Scalar.indexCast v450
  ![v451.toNat]
def k0_off1030 (v452 : BitVec 32) : Fin 3 → Nat :=
  let v453 : Index := Scalar.indexCast v452
  let c0_230 : Index := 0#32
  let c0_231 : Index := 0#32
  ![v453.toNat, 0, 0]

def k0_chk397 (v452 : BitVec 32) : Prop :=
  (∀ a, (k0_off1030 v452) a + S1x64x128.size a ≤ S1024x64x128.size a)
theorem k0_off1030_inb : ∀ (v452 : BitVec 32) (k0_hw397 : k0_chk397 v452), ∀ a, (k0_off1030 v452) a + S1x64x128.size a ≤ S1024x64x128.size a := fun v452 k0_hw397 => k0_hw397

def k0_off1031 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v461 : Index := Scalar.indexCast v16
  let c13 : Index := 13#32
  let c0_234 : Index := 0#32
  let c0_235 : Index := 0#32
  ![v461.toNat, 13, 0, 0]
def k0_off1032 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v464 : Index := Scalar.indexCast v16
  let c13_236 : Index := 13#32
  let c0_237 : Index := 0#32
  let c0_238 : Index := 0#32
  ![v464.toNat, 13, 0, 0]
def k0_off1033 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v469 : Index := Scalar.indexCast v16
  let c13_240 : Index := 13#32
  let c0_241 : Index := 0#32
  let c0_242 : Index := 0#32
  ![v469.toNat, 13, 0, 0]
def k0_off1034 (i : grid0.Coords) : Fin 1 → Nat :=
  let arg0 : BitVec 32 := BitVec.ofNat 32 (i 0).val
  let c64_i32_245 : BitVec 32 := 64#32
  let v482 : BitVec 32 := Scalar.muli arg0 c64_i32_245
  let c13_i32 : BitVec 32 := 13#32
  let v483 : BitVec 32 := Scalar.addi v482 c13_i32
  let v484 : Index := Scalar.indexCast v483
  ![v484.toNat]
def k0_off1035 (v485 : BitVec 32) : Fin 3 → Nat :=
  let v486 : Index := Scalar.indexCast v485
  let c0_246 : Index := 0#32
  let c0_247 : Index := 0#32
  ![v486.toNat, 0, 0]

def k0_chk398 (v485 : BitVec 32) : Prop :=
  (∀ a, (k0_off1035 v485) a + S1x64x128.size a ≤ S1024x64x128.size a)
theorem k0_off1035_inb : ∀ (v485 : BitVec 32) (k0_hw398 : k0_chk398 v485), ∀ a, (k0_off1035 v485) a + S1x64x128.size a ≤ S1024x64x128.size a := fun v485 k0_hw398 => k0_hw398

def k0_off1036 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v494 : Index := Scalar.indexCast v16
  let c14 : Index := 14#32
  let c0_250 : Index := 0#32
  let c0_251 : Index := 0#32
  ![v494.toNat, 14, 0, 0]
def k0_off1037 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v497 : Index := Scalar.indexCast v16
  let c14_252 : Index := 14#32
  let c0_253 : Index := 0#32
  let c0_254 : Index := 0#32
  ![v497.toNat, 14, 0, 0]
def k0_off1038 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v502 : Index := Scalar.indexCast v16
  let c14_256 : Index := 14#32
  let c0_257 : Index := 0#32
  let c0_258 : Index := 0#32
  ![v502.toNat, 14, 0, 0]
def k0_off1039 (i : grid0.Coords) : Fin 1 → Nat :=
  let arg0 : BitVec 32 := BitVec.ofNat 32 (i 0).val
  let c64_i32_261 : BitVec 32 := 64#32
  let v515 : BitVec 32 := Scalar.muli arg0 c64_i32_261
  let c14_i32 : BitVec 32 := 14#32
  let v516 : BitVec 32 := Scalar.addi v515 c14_i32
  let v517 : Index := Scalar.indexCast v516
  ![v517.toNat]
def k0_off1040 (v518 : BitVec 32) : Fin 3 → Nat :=
  let v519 : Index := Scalar.indexCast v518
  let c0_262 : Index := 0#32
  let c0_263 : Index := 0#32
  ![v519.toNat, 0, 0]

def k0_chk399 (v518 : BitVec 32) : Prop :=
  (∀ a, (k0_off1040 v518) a + S1x64x128.size a ≤ S1024x64x128.size a)
theorem k0_off1040_inb : ∀ (v518 : BitVec 32) (k0_hw399 : k0_chk399 v518), ∀ a, (k0_off1040 v518) a + S1x64x128.size a ≤ S1024x64x128.size a := fun v518 k0_hw399 => k0_hw399

def k0_off1041 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v527 : Index := Scalar.indexCast v16
  let c15 : Index := 15#32
  let c0_266 : Index := 0#32
  let c0_267 : Index := 0#32
  ![v527.toNat, 15, 0, 0]
def k0_off1042 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v530 : Index := Scalar.indexCast v16
  let c15_268 : Index := 15#32
  let c0_269 : Index := 0#32
  let c0_270 : Index := 0#32
  ![v530.toNat, 15, 0, 0]
def k0_off1043 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v535 : Index := Scalar.indexCast v16
  let c15_272 : Index := 15#32
  let c0_273 : Index := 0#32
  let c0_274 : Index := 0#32
  ![v535.toNat, 15, 0, 0]
def k0_off1044 (i : grid0.Coords) : Fin 1 → Nat :=
  let arg0 : BitVec 32 := BitVec.ofNat 32 (i 0).val
  let c64_i32_277 : BitVec 32 := 64#32
  let v548 : BitVec 32 := Scalar.muli arg0 c64_i32_277
  let c15_i32 : BitVec 32 := 15#32
  let v549 : BitVec 32 := Scalar.addi v548 c15_i32
  let v550 : Index := Scalar.indexCast v549
  ![v550.toNat]
def k0_off1045 (v551 : BitVec 32) : Fin 3 → Nat :=
  let v552 : Index := Scalar.indexCast v551
  let c0_278 : Index := 0#32
  let c0_279 : Index := 0#32
  ![v552.toNat, 0, 0]

def k0_chk400 (v551 : BitVec 32) : Prop :=
  (∀ a, (k0_off1045 v551) a + S1x64x128.size a ≤ S1024x64x128.size a)
theorem k0_off1045_inb : ∀ (v551 : BitVec 32) (k0_hw400 : k0_chk400 v551), ∀ a, (k0_off1045 v551) a + S1x64x128.size a ≤ S1024x64x128.size a := fun v551 k0_hw400 => k0_hw400

def k0_off1046 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v560 : Index := Scalar.indexCast v16
  let c16 : Index := 16#32
  let c0_282 : Index := 0#32
  let c0_283 : Index := 0#32
  ![v560.toNat, 16, 0, 0]
def k0_off1047 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v563 : Index := Scalar.indexCast v16
  let c16_284 : Index := 16#32
  let c0_285 : Index := 0#32
  let c0_286 : Index := 0#32
  ![v563.toNat, 16, 0, 0]
def k0_off1048 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v568 : Index := Scalar.indexCast v16
  let c16_288 : Index := 16#32
  let c0_289 : Index := 0#32
  let c0_290 : Index := 0#32
  ![v568.toNat, 16, 0, 0]
def k0_off1049 (i : grid0.Coords) : Fin 1 → Nat :=
  let arg0 : BitVec 32 := BitVec.ofNat 32 (i 0).val
  let c64_i32_293 : BitVec 32 := 64#32
  let v581 : BitVec 32 := Scalar.muli arg0 c64_i32_293
  let c16_i32 : BitVec 32 := 16#32
  let v582 : BitVec 32 := Scalar.addi v581 c16_i32
  let v583 : Index := Scalar.indexCast v582
  ![v583.toNat]
def k0_off1050 (v584 : BitVec 32) : Fin 3 → Nat :=
  let v585 : Index := Scalar.indexCast v584
  let c0_294 : Index := 0#32
  let c0_295 : Index := 0#32
  ![v585.toNat, 0, 0]

def k0_chk401 (v584 : BitVec 32) : Prop :=
  (∀ a, (k0_off1050 v584) a + S1x64x128.size a ≤ S1024x64x128.size a)
theorem k0_off1050_inb : ∀ (v584 : BitVec 32) (k0_hw401 : k0_chk401 v584), ∀ a, (k0_off1050 v584) a + S1x64x128.size a ≤ S1024x64x128.size a := fun v584 k0_hw401 => k0_hw401

def k0_off1051 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v593 : Index := Scalar.indexCast v16
  let c17 : Index := 17#32
  let c0_298 : Index := 0#32
  let c0_299 : Index := 0#32
  ![v593.toNat, 17, 0, 0]
def k0_off1052 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v596 : Index := Scalar.indexCast v16
  let c17_300 : Index := 17#32
  let c0_301 : Index := 0#32
  let c0_302 : Index := 0#32
  ![v596.toNat, 17, 0, 0]
def k0_off1053 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v601 : Index := Scalar.indexCast v16
  let c17_304 : Index := 17#32
  let c0_305 : Index := 0#32
  let c0_306 : Index := 0#32
  ![v601.toNat, 17, 0, 0]
def k0_off1054 (i : grid0.Coords) : Fin 1 → Nat :=
  let arg0 : BitVec 32 := BitVec.ofNat 32 (i 0).val
  let c64_i32_309 : BitVec 32 := 64#32
  let v614 : BitVec 32 := Scalar.muli arg0 c64_i32_309
  let c17_i32 : BitVec 32 := 17#32
  let v615 : BitVec 32 := Scalar.addi v614 c17_i32
  let v616 : Index := Scalar.indexCast v615
  ![v616.toNat]
def k0_off1055 (v617 : BitVec 32) : Fin 3 → Nat :=
  let v618 : Index := Scalar.indexCast v617
  let c0_310 : Index := 0#32
  let c0_311 : Index := 0#32
  ![v618.toNat, 0, 0]

def k0_chk402 (v617 : BitVec 32) : Prop :=
  (∀ a, (k0_off1055 v617) a + S1x64x128.size a ≤ S1024x64x128.size a)
theorem k0_off1055_inb : ∀ (v617 : BitVec 32) (k0_hw402 : k0_chk402 v617), ∀ a, (k0_off1055 v617) a + S1x64x128.size a ≤ S1024x64x128.size a := fun v617 k0_hw402 => k0_hw402

def k0_off1056 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v626 : Index := Scalar.indexCast v16
  let c18 : Index := 18#32
  let c0_314 : Index := 0#32
  let c0_315 : Index := 0#32
  ![v626.toNat, 18, 0, 0]
def k0_off1057 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v629 : Index := Scalar.indexCast v16
  let c18_316 : Index := 18#32
  let c0_317 : Index := 0#32
  let c0_318 : Index := 0#32
  ![v629.toNat, 18, 0, 0]
def k0_off1058 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v634 : Index := Scalar.indexCast v16
  let c18_320 : Index := 18#32
  let c0_321 : Index := 0#32
  let c0_322 : Index := 0#32
  ![v634.toNat, 18, 0, 0]
def k0_off1059 (i : grid0.Coords) : Fin 1 → Nat :=
  let arg0 : BitVec 32 := BitVec.ofNat 32 (i 0).val
  let c64_i32_325 : BitVec 32 := 64#32
  let v647 : BitVec 32 := Scalar.muli arg0 c64_i32_325
  let c18_i32 : BitVec 32 := 18#32
  let v648 : BitVec 32 := Scalar.addi v647 c18_i32
  let v649 : Index := Scalar.indexCast v648
  ![v649.toNat]
def k0_off1060 (v650 : BitVec 32) : Fin 3 → Nat :=
  let v651 : Index := Scalar.indexCast v650
  let c0_326 : Index := 0#32
  let c0_327 : Index := 0#32
  ![v651.toNat, 0, 0]

def k0_chk403 (v650 : BitVec 32) : Prop :=
  (∀ a, (k0_off1060 v650) a + S1x64x128.size a ≤ S1024x64x128.size a)
theorem k0_off1060_inb : ∀ (v650 : BitVec 32) (k0_hw403 : k0_chk403 v650), ∀ a, (k0_off1060 v650) a + S1x64x128.size a ≤ S1024x64x128.size a := fun v650 k0_hw403 => k0_hw403

def k0_off1061 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v659 : Index := Scalar.indexCast v16
  let c19 : Index := 19#32
  let c0_330 : Index := 0#32
  let c0_331 : Index := 0#32
  ![v659.toNat, 19, 0, 0]
def k0_off1062 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v662 : Index := Scalar.indexCast v16
  let c19_332 : Index := 19#32
  let c0_333 : Index := 0#32
  let c0_334 : Index := 0#32
  ![v662.toNat, 19, 0, 0]
def k0_off1063 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v667 : Index := Scalar.indexCast v16
  let c19_336 : Index := 19#32
  let c0_337 : Index := 0#32
  let c0_338 : Index := 0#32
  ![v667.toNat, 19, 0, 0]
def k0_off1064 (i : grid0.Coords) : Fin 1 → Nat :=
  let arg0 : BitVec 32 := BitVec.ofNat 32 (i 0).val
  let c64_i32_341 : BitVec 32 := 64#32
  let v680 : BitVec 32 := Scalar.muli arg0 c64_i32_341
  let c19_i32 : BitVec 32 := 19#32
  let v681 : BitVec 32 := Scalar.addi v680 c19_i32
  let v682 : Index := Scalar.indexCast v681
  ![v682.toNat]
def k0_off1065 (v683 : BitVec 32) : Fin 3 → Nat :=
  let v684 : Index := Scalar.indexCast v683
  let c0_342 : Index := 0#32
  let c0_343 : Index := 0#32
  ![v684.toNat, 0, 0]

def k0_chk404 (v683 : BitVec 32) : Prop :=
  (∀ a, (k0_off1065 v683) a + S1x64x128.size a ≤ S1024x64x128.size a)
theorem k0_off1065_inb : ∀ (v683 : BitVec 32) (k0_hw404 : k0_chk404 v683), ∀ a, (k0_off1065 v683) a + S1x64x128.size a ≤ S1024x64x128.size a := fun v683 k0_hw404 => k0_hw404

def k0_off1066 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v692 : Index := Scalar.indexCast v16
  let c20 : Index := 20#32
  let c0_346 : Index := 0#32
  let c0_347 : Index := 0#32
  ![v692.toNat, 20, 0, 0]
def k0_off1067 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v695 : Index := Scalar.indexCast v16
  let c20_348 : Index := 20#32
  let c0_349 : Index := 0#32
  let c0_350 : Index := 0#32
  ![v695.toNat, 20, 0, 0]
def k0_off1068 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v700 : Index := Scalar.indexCast v16
  let c20_352 : Index := 20#32
  let c0_353 : Index := 0#32
  let c0_354 : Index := 0#32
  ![v700.toNat, 20, 0, 0]
def k0_off1069 (i : grid0.Coords) : Fin 1 → Nat :=
  let arg0 : BitVec 32 := BitVec.ofNat 32 (i 0).val
  let c64_i32_357 : BitVec 32 := 64#32
  let v713 : BitVec 32 := Scalar.muli arg0 c64_i32_357
  let c20_i32 : BitVec 32 := 20#32
  let v714 : BitVec 32 := Scalar.addi v713 c20_i32
  let v715 : Index := Scalar.indexCast v714
  ![v715.toNat]
def k0_off1070 (v716 : BitVec 32) : Fin 3 → Nat :=
  let v717 : Index := Scalar.indexCast v716
  let c0_358 : Index := 0#32
  let c0_359 : Index := 0#32
  ![v717.toNat, 0, 0]

def k0_chk405 (v716 : BitVec 32) : Prop :=
  (∀ a, (k0_off1070 v716) a + S1x64x128.size a ≤ S1024x64x128.size a)
theorem k0_off1070_inb : ∀ (v716 : BitVec 32) (k0_hw405 : k0_chk405 v716), ∀ a, (k0_off1070 v716) a + S1x64x128.size a ≤ S1024x64x128.size a := fun v716 k0_hw405 => k0_hw405

def k0_off1071 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v725 : Index := Scalar.indexCast v16
  let c21 : Index := 21#32
  let c0_362 : Index := 0#32
  let c0_363 : Index := 0#32
  ![v725.toNat, 21, 0, 0]
def k0_off1072 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v728 : Index := Scalar.indexCast v16
  let c21_364 : Index := 21#32
  let c0_365 : Index := 0#32
  let c0_366 : Index := 0#32
  ![v728.toNat, 21, 0, 0]
def k0_off1073 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v733 : Index := Scalar.indexCast v16
  let c21_368 : Index := 21#32
  let c0_369 : Index := 0#32
  let c0_370 : Index := 0#32
  ![v733.toNat, 21, 0, 0]
def k0_off1074 (i : grid0.Coords) : Fin 1 → Nat :=
  let arg0 : BitVec 32 := BitVec.ofNat 32 (i 0).val
  let c64_i32_373 : BitVec 32 := 64#32
  let v746 : BitVec 32 := Scalar.muli arg0 c64_i32_373
  let c21_i32 : BitVec 32 := 21#32
  let v747 : BitVec 32 := Scalar.addi v746 c21_i32
  let v748 : Index := Scalar.indexCast v747
  ![v748.toNat]
def k0_off1075 (v749 : BitVec 32) : Fin 3 → Nat :=
  let v750 : Index := Scalar.indexCast v749
  let c0_374 : Index := 0#32
  let c0_375 : Index := 0#32
  ![v750.toNat, 0, 0]

def k0_chk406 (v749 : BitVec 32) : Prop :=
  (∀ a, (k0_off1075 v749) a + S1x64x128.size a ≤ S1024x64x128.size a)
theorem k0_off1075_inb : ∀ (v749 : BitVec 32) (k0_hw406 : k0_chk406 v749), ∀ a, (k0_off1075 v749) a + S1x64x128.size a ≤ S1024x64x128.size a := fun v749 k0_hw406 => k0_hw406

def k0_off1076 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v758 : Index := Scalar.indexCast v16
  let c22 : Index := 22#32
  let c0_378 : Index := 0#32
  let c0_379 : Index := 0#32
  ![v758.toNat, 22, 0, 0]
def k0_off1077 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v761 : Index := Scalar.indexCast v16
  let c22_380 : Index := 22#32
  let c0_381 : Index := 0#32
  let c0_382 : Index := 0#32
  ![v761.toNat, 22, 0, 0]
def k0_off1078 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v766 : Index := Scalar.indexCast v16
  let c22_384 : Index := 22#32
  let c0_385 : Index := 0#32
  let c0_386 : Index := 0#32
  ![v766.toNat, 22, 0, 0]
def k0_off1079 (i : grid0.Coords) : Fin 1 → Nat :=
  let arg0 : BitVec 32 := BitVec.ofNat 32 (i 0).val
  let c64_i32_389 : BitVec 32 := 64#32
  let v779 : BitVec 32 := Scalar.muli arg0 c64_i32_389
  let c22_i32 : BitVec 32 := 22#32
  let v780 : BitVec 32 := Scalar.addi v779 c22_i32
  let v781 : Index := Scalar.indexCast v780
  ![v781.toNat]
def k0_off1080 (v782 : BitVec 32) : Fin 3 → Nat :=
  let v783 : Index := Scalar.indexCast v782
  let c0_390 : Index := 0#32
  let c0_391 : Index := 0#32
  ![v783.toNat, 0, 0]

def k0_chk407 (v782 : BitVec 32) : Prop :=
  (∀ a, (k0_off1080 v782) a + S1x64x128.size a ≤ S1024x64x128.size a)
theorem k0_off1080_inb : ∀ (v782 : BitVec 32) (k0_hw407 : k0_chk407 v782), ∀ a, (k0_off1080 v782) a + S1x64x128.size a ≤ S1024x64x128.size a := fun v782 k0_hw407 => k0_hw407

def k0_off1081 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v791 : Index := Scalar.indexCast v16
  let c23 : Index := 23#32
  let c0_394 : Index := 0#32
  let c0_395 : Index := 0#32
  ![v791.toNat, 23, 0, 0]
def k0_off1082 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v794 : Index := Scalar.indexCast v16
  let c23_396 : Index := 23#32
  let c0_397 : Index := 0#32
  let c0_398 : Index := 0#32
  ![v794.toNat, 23, 0, 0]
def k0_off1083 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v799 : Index := Scalar.indexCast v16
  let c23_400 : Index := 23#32
  let c0_401 : Index := 0#32
  let c0_402 : Index := 0#32
  ![v799.toNat, 23, 0, 0]
def k0_off1084 (i : grid0.Coords) : Fin 1 → Nat :=
  let arg0 : BitVec 32 := BitVec.ofNat 32 (i 0).val
  let c64_i32_405 : BitVec 32 := 64#32
  let v812 : BitVec 32 := Scalar.muli arg0 c64_i32_405
  let c23_i32 : BitVec 32 := 23#32
  let v813 : BitVec 32 := Scalar.addi v812 c23_i32
  let v814 : Index := Scalar.indexCast v813
  ![v814.toNat]
def k0_off1085 (v815 : BitVec 32) : Fin 3 → Nat :=
  let v816 : Index := Scalar.indexCast v815
  let c0_406 : Index := 0#32
  let c0_407 : Index := 0#32
  ![v816.toNat, 0, 0]

def k0_chk408 (v815 : BitVec 32) : Prop :=
  (∀ a, (k0_off1085 v815) a + S1x64x128.size a ≤ S1024x64x128.size a)
theorem k0_off1085_inb : ∀ (v815 : BitVec 32) (k0_hw408 : k0_chk408 v815), ∀ a, (k0_off1085 v815) a + S1x64x128.size a ≤ S1024x64x128.size a := fun v815 k0_hw408 => k0_hw408

def k0_off1086 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v824 : Index := Scalar.indexCast v16
  let c24 : Index := 24#32
  let c0_410 : Index := 0#32
  let c0_411 : Index := 0#32
  ![v824.toNat, 24, 0, 0]
def k0_off1087 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v827 : Index := Scalar.indexCast v16
  let c24_412 : Index := 24#32
  let c0_413 : Index := 0#32
  let c0_414 : Index := 0#32
  ![v827.toNat, 24, 0, 0]
def k0_off1088 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v832 : Index := Scalar.indexCast v16
  let c24_416 : Index := 24#32
  let c0_417 : Index := 0#32
  let c0_418 : Index := 0#32
  ![v832.toNat, 24, 0, 0]
def k0_off1089 (i : grid0.Coords) : Fin 1 → Nat :=
  let arg0 : BitVec 32 := BitVec.ofNat 32 (i 0).val
  let c64_i32_421 : BitVec 32 := 64#32
  let v845 : BitVec 32 := Scalar.muli arg0 c64_i32_421
  let c24_i32 : BitVec 32 := 24#32
  let v846 : BitVec 32 := Scalar.addi v845 c24_i32
  let v847 : Index := Scalar.indexCast v846
  ![v847.toNat]
def k0_off1090 (v848 : BitVec 32) : Fin 3 → Nat :=
  let v849 : Index := Scalar.indexCast v848
  let c0_422 : Index := 0#32
  let c0_423 : Index := 0#32
  ![v849.toNat, 0, 0]

def k0_chk409 (v848 : BitVec 32) : Prop :=
  (∀ a, (k0_off1090 v848) a + S1x64x128.size a ≤ S1024x64x128.size a)
theorem k0_off1090_inb : ∀ (v848 : BitVec 32) (k0_hw409 : k0_chk409 v848), ∀ a, (k0_off1090 v848) a + S1x64x128.size a ≤ S1024x64x128.size a := fun v848 k0_hw409 => k0_hw409

def k0_off1091 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v857 : Index := Scalar.indexCast v16
  let c25 : Index := 25#32
  let c0_426 : Index := 0#32
  let c0_427 : Index := 0#32
  ![v857.toNat, 25, 0, 0]
def k0_off1092 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v860 : Index := Scalar.indexCast v16
  let c25_428 : Index := 25#32
  let c0_429 : Index := 0#32
  let c0_430 : Index := 0#32
  ![v860.toNat, 25, 0, 0]
def k0_off1093 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v865 : Index := Scalar.indexCast v16
  let c25_432 : Index := 25#32
  let c0_433 : Index := 0#32
  let c0_434 : Index := 0#32
  ![v865.toNat, 25, 0, 0]
def k0_off1094 (i : grid0.Coords) : Fin 1 → Nat :=
  let arg0 : BitVec 32 := BitVec.ofNat 32 (i 0).val
  let c64_i32_437 : BitVec 32 := 64#32
  let v878 : BitVec 32 := Scalar.muli arg0 c64_i32_437
  let c25_i32 : BitVec 32 := 25#32
  let v879 : BitVec 32 := Scalar.addi v878 c25_i32
  let v880 : Index := Scalar.indexCast v879
  ![v880.toNat]
def k0_off1095 (v881 : BitVec 32) : Fin 3 → Nat :=
  let v882 : Index := Scalar.indexCast v881
  let c0_438 : Index := 0#32
  let c0_439 : Index := 0#32
  ![v882.toNat, 0, 0]

def k0_chk410 (v881 : BitVec 32) : Prop :=
  (∀ a, (k0_off1095 v881) a + S1x64x128.size a ≤ S1024x64x128.size a)
theorem k0_off1095_inb : ∀ (v881 : BitVec 32) (k0_hw410 : k0_chk410 v881), ∀ a, (k0_off1095 v881) a + S1x64x128.size a ≤ S1024x64x128.size a := fun v881 k0_hw410 => k0_hw410

def k0_off1096 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v890 : Index := Scalar.indexCast v16
  let c26 : Index := 26#32
  let c0_442 : Index := 0#32
  let c0_443 : Index := 0#32
  ![v890.toNat, 26, 0, 0]
def k0_off1097 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v893 : Index := Scalar.indexCast v16
  let c26_444 : Index := 26#32
  let c0_445 : Index := 0#32
  let c0_446 : Index := 0#32
  ![v893.toNat, 26, 0, 0]
def k0_off1098 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v898 : Index := Scalar.indexCast v16
  let c26_448 : Index := 26#32
  let c0_449 : Index := 0#32
  let c0_450 : Index := 0#32
  ![v898.toNat, 26, 0, 0]
def k0_off1099 (i : grid0.Coords) : Fin 1 → Nat :=
  let arg0 : BitVec 32 := BitVec.ofNat 32 (i 0).val
  let c64_i32_453 : BitVec 32 := 64#32
  let v911 : BitVec 32 := Scalar.muli arg0 c64_i32_453
  let c26_i32 : BitVec 32 := 26#32
  let v912 : BitVec 32 := Scalar.addi v911 c26_i32
  let v913 : Index := Scalar.indexCast v912
  ![v913.toNat]
def k0_off1100 (v914 : BitVec 32) : Fin 3 → Nat :=
  let v915 : Index := Scalar.indexCast v914
  let c0_454 : Index := 0#32
  let c0_455 : Index := 0#32
  ![v915.toNat, 0, 0]

def k0_chk411 (v914 : BitVec 32) : Prop :=
  (∀ a, (k0_off1100 v914) a + S1x64x128.size a ≤ S1024x64x128.size a)
theorem k0_off1100_inb : ∀ (v914 : BitVec 32) (k0_hw411 : k0_chk411 v914), ∀ a, (k0_off1100 v914) a + S1x64x128.size a ≤ S1024x64x128.size a := fun v914 k0_hw411 => k0_hw411

def k0_off1101 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v923 : Index := Scalar.indexCast v16
  let c27 : Index := 27#32
  let c0_458 : Index := 0#32
  let c0_459 : Index := 0#32
  ![v923.toNat, 27, 0, 0]
def k0_off1102 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v926 : Index := Scalar.indexCast v16
  let c27_460 : Index := 27#32
  let c0_461 : Index := 0#32
  let c0_462 : Index := 0#32
  ![v926.toNat, 27, 0, 0]
def k0_off1103 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v931 : Index := Scalar.indexCast v16
  let c27_464 : Index := 27#32
  let c0_465 : Index := 0#32
  let c0_466 : Index := 0#32
  ![v931.toNat, 27, 0, 0]
def k0_off1104 (i : grid0.Coords) : Fin 1 → Nat :=
  let arg0 : BitVec 32 := BitVec.ofNat 32 (i 0).val
  let c64_i32_469 : BitVec 32 := 64#32
  let v944 : BitVec 32 := Scalar.muli arg0 c64_i32_469
  let c27_i32 : BitVec 32 := 27#32
  let v945 : BitVec 32 := Scalar.addi v944 c27_i32
  let v946 : Index := Scalar.indexCast v945
  ![v946.toNat]
def k0_off1105 (v947 : BitVec 32) : Fin 3 → Nat :=
  let v948 : Index := Scalar.indexCast v947
  let c0_470 : Index := 0#32
  let c0_471 : Index := 0#32
  ![v948.toNat, 0, 0]

def k0_chk412 (v947 : BitVec 32) : Prop :=
  (∀ a, (k0_off1105 v947) a + S1x64x128.size a ≤ S1024x64x128.size a)
theorem k0_off1105_inb : ∀ (v947 : BitVec 32) (k0_hw412 : k0_chk412 v947), ∀ a, (k0_off1105 v947) a + S1x64x128.size a ≤ S1024x64x128.size a := fun v947 k0_hw412 => k0_hw412

def k0_off1106 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v956 : Index := Scalar.indexCast v16
  let c28 : Index := 28#32
  let c0_474 : Index := 0#32
  let c0_475 : Index := 0#32
  ![v956.toNat, 28, 0, 0]
def k0_off1107 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v959 : Index := Scalar.indexCast v16
  let c28_476 : Index := 28#32
  let c0_477 : Index := 0#32
  let c0_478 : Index := 0#32
  ![v959.toNat, 28, 0, 0]
def k0_off1108 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v964 : Index := Scalar.indexCast v16
  let c28_480 : Index := 28#32
  let c0_481 : Index := 0#32
  let c0_482 : Index := 0#32
  ![v964.toNat, 28, 0, 0]
def k0_off1109 (i : grid0.Coords) : Fin 1 → Nat :=
  let arg0 : BitVec 32 := BitVec.ofNat 32 (i 0).val
  let c64_i32_485 : BitVec 32 := 64#32
  let v977 : BitVec 32 := Scalar.muli arg0 c64_i32_485
  let c28_i32 : BitVec 32 := 28#32
  let v978 : BitVec 32 := Scalar.addi v977 c28_i32
  let v979 : Index := Scalar.indexCast v978
  ![v979.toNat]
def k0_off1110 (v980 : BitVec 32) : Fin 3 → Nat :=
  let v981 : Index := Scalar.indexCast v980
  let c0_486 : Index := 0#32
  let c0_487 : Index := 0#32
  ![v981.toNat, 0, 0]

def k0_chk413 (v980 : BitVec 32) : Prop :=
  (∀ a, (k0_off1110 v980) a + S1x64x128.size a ≤ S1024x64x128.size a)
theorem k0_off1110_inb : ∀ (v980 : BitVec 32) (k0_hw413 : k0_chk413 v980), ∀ a, (k0_off1110 v980) a + S1x64x128.size a ≤ S1024x64x128.size a := fun v980 k0_hw413 => k0_hw413

def k0_off1111 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v989 : Index := Scalar.indexCast v16
  let c29 : Index := 29#32
  let c0_490 : Index := 0#32
  let c0_491 : Index := 0#32
  ![v989.toNat, 29, 0, 0]
def k0_off1112 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v992 : Index := Scalar.indexCast v16
  let c29_492 : Index := 29#32
  let c0_493 : Index := 0#32
  let c0_494 : Index := 0#32
  ![v992.toNat, 29, 0, 0]
def k0_off1113 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v997 : Index := Scalar.indexCast v16
  let c29_496 : Index := 29#32
  let c0_497 : Index := 0#32
  let c0_498 : Index := 0#32
  ![v997.toNat, 29, 0, 0]
def k0_off1114 (i : grid0.Coords) : Fin 1 → Nat :=
  let arg0 : BitVec 32 := BitVec.ofNat 32 (i 0).val
  let c64_i32_501 : BitVec 32 := 64#32
  let v1010 : BitVec 32 := Scalar.muli arg0 c64_i32_501
  let c29_i32 : BitVec 32 := 29#32
  let v1011 : BitVec 32 := Scalar.addi v1010 c29_i32
  let v1012 : Index := Scalar.indexCast v1011
  ![v1012.toNat]
def k0_off1115 (v1013 : BitVec 32) : Fin 3 → Nat :=
  let v1014 : Index := Scalar.indexCast v1013
  let c0_502 : Index := 0#32
  let c0_503 : Index := 0#32
  ![v1014.toNat, 0, 0]

def k0_chk414 (v1013 : BitVec 32) : Prop :=
  (∀ a, (k0_off1115 v1013) a + S1x64x128.size a ≤ S1024x64x128.size a)
theorem k0_off1115_inb : ∀ (v1013 : BitVec 32) (k0_hw414 : k0_chk414 v1013), ∀ a, (k0_off1115 v1013) a + S1x64x128.size a ≤ S1024x64x128.size a := fun v1013 k0_hw414 => k0_hw414

def k0_off1116 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1022 : Index := Scalar.indexCast v16
  let c30 : Index := 30#32
  let c0_506 : Index := 0#32
  let c0_507 : Index := 0#32
  ![v1022.toNat, 30, 0, 0]
def k0_off1117 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1025 : Index := Scalar.indexCast v16
  let c30_508 : Index := 30#32
  let c0_509 : Index := 0#32
  let c0_510 : Index := 0#32
  ![v1025.toNat, 30, 0, 0]
def k0_off1118 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1030 : Index := Scalar.indexCast v16
  let c30_512 : Index := 30#32
  let c0_513 : Index := 0#32
  let c0_514 : Index := 0#32
  ![v1030.toNat, 30, 0, 0]
def k0_off1119 (i : grid0.Coords) : Fin 1 → Nat :=
  let arg0 : BitVec 32 := BitVec.ofNat 32 (i 0).val
  let c64_i32_517 : BitVec 32 := 64#32
  let v1043 : BitVec 32 := Scalar.muli arg0 c64_i32_517
  let c30_i32 : BitVec 32 := 30#32
  let v1044 : BitVec 32 := Scalar.addi v1043 c30_i32
  let v1045 : Index := Scalar.indexCast v1044
  ![v1045.toNat]
def k0_off1120 (v1046 : BitVec 32) : Fin 3 → Nat :=
  let v1047 : Index := Scalar.indexCast v1046
  let c0_518 : Index := 0#32
  let c0_519 : Index := 0#32
  ![v1047.toNat, 0, 0]

def k0_chk415 (v1046 : BitVec 32) : Prop :=
  (∀ a, (k0_off1120 v1046) a + S1x64x128.size a ≤ S1024x64x128.size a)
theorem k0_off1120_inb : ∀ (v1046 : BitVec 32) (k0_hw415 : k0_chk415 v1046), ∀ a, (k0_off1120 v1046) a + S1x64x128.size a ≤ S1024x64x128.size a := fun v1046 k0_hw415 => k0_hw415

def k0_off1121 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1055 : Index := Scalar.indexCast v16
  let c31 : Index := 31#32
  let c0_522 : Index := 0#32
  let c0_523 : Index := 0#32
  ![v1055.toNat, 31, 0, 0]
def k0_off1122 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1058 : Index := Scalar.indexCast v16
  let c31_524 : Index := 31#32
  let c0_525 : Index := 0#32
  let c0_526 : Index := 0#32
  ![v1058.toNat, 31, 0, 0]
def k0_off1123 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1063 : Index := Scalar.indexCast v16
  let c31_528 : Index := 31#32
  let c0_529 : Index := 0#32
  let c0_530 : Index := 0#32
  ![v1063.toNat, 31, 0, 0]
def k0_off1124 (i : grid0.Coords) : Fin 1 → Nat :=
  let arg0 : BitVec 32 := BitVec.ofNat 32 (i 0).val
  let c64_i32_533 : BitVec 32 := 64#32
  let v1076 : BitVec 32 := Scalar.muli arg0 c64_i32_533
  let c31_i32 : BitVec 32 := 31#32
  let v1077 : BitVec 32 := Scalar.addi v1076 c31_i32
  let v1078 : Index := Scalar.indexCast v1077
  ![v1078.toNat]
def k0_off1125 (v1079 : BitVec 32) : Fin 3 → Nat :=
  let v1080 : Index := Scalar.indexCast v1079
  let c0_534 : Index := 0#32
  let c0_535 : Index := 0#32
  ![v1080.toNat, 0, 0]

def k0_chk416 (v1079 : BitVec 32) : Prop :=
  (∀ a, (k0_off1125 v1079) a + S1x64x128.size a ≤ S1024x64x128.size a)
theorem k0_off1125_inb : ∀ (v1079 : BitVec 32) (k0_hw416 : k0_chk416 v1079), ∀ a, (k0_off1125 v1079) a + S1x64x128.size a ≤ S1024x64x128.size a := fun v1079 k0_hw416 => k0_hw416

def k0_off1126 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1088 : Index := Scalar.indexCast v16
  let c32 : Index := 32#32
  let c0_538 : Index := 0#32
  let c0_539 : Index := 0#32
  ![v1088.toNat, 32, 0, 0]
def k0_off1127 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1091 : Index := Scalar.indexCast v16
  let c32_540 : Index := 32#32
  let c0_541 : Index := 0#32
  let c0_542 : Index := 0#32
  ![v1091.toNat, 32, 0, 0]
def k0_off1128 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1096 : Index := Scalar.indexCast v16
  let c32_544 : Index := 32#32
  let c0_545 : Index := 0#32
  let c0_546 : Index := 0#32
  ![v1096.toNat, 32, 0, 0]
def k0_off1129 (i : grid0.Coords) : Fin 1 → Nat :=
  let arg0 : BitVec 32 := BitVec.ofNat 32 (i 0).val
  let c64_i32_549 : BitVec 32 := 64#32
  let v1109 : BitVec 32 := Scalar.muli arg0 c64_i32_549
  let c32_i32 : BitVec 32 := 32#32
  let v1110 : BitVec 32 := Scalar.addi v1109 c32_i32
  let v1111 : Index := Scalar.indexCast v1110
  ![v1111.toNat]
def k0_off1130 (v1112 : BitVec 32) : Fin 3 → Nat :=
  let v1113 : Index := Scalar.indexCast v1112
  let c0_550 : Index := 0#32
  let c0_551 : Index := 0#32
  ![v1113.toNat, 0, 0]

def k0_chk417 (v1112 : BitVec 32) : Prop :=
  (∀ a, (k0_off1130 v1112) a + S1x64x128.size a ≤ S1024x64x128.size a)
theorem k0_off1130_inb : ∀ (v1112 : BitVec 32) (k0_hw417 : k0_chk417 v1112), ∀ a, (k0_off1130 v1112) a + S1x64x128.size a ≤ S1024x64x128.size a := fun v1112 k0_hw417 => k0_hw417

def k0_off1131 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1121 : Index := Scalar.indexCast v16
  let c33 : Index := 33#32
  let c0_554 : Index := 0#32
  let c0_555 : Index := 0#32
  ![v1121.toNat, 33, 0, 0]
def k0_off1132 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1124 : Index := Scalar.indexCast v16
  let c33_556 : Index := 33#32
  let c0_557 : Index := 0#32
  let c0_558 : Index := 0#32
  ![v1124.toNat, 33, 0, 0]
def k0_off1133 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1129 : Index := Scalar.indexCast v16
  let c33_560 : Index := 33#32
  let c0_561 : Index := 0#32
  let c0_562 : Index := 0#32
  ![v1129.toNat, 33, 0, 0]
def k0_off1134 (i : grid0.Coords) : Fin 1 → Nat :=
  let arg0 : BitVec 32 := BitVec.ofNat 32 (i 0).val
  let c64_i32_565 : BitVec 32 := 64#32
  let v1142 : BitVec 32 := Scalar.muli arg0 c64_i32_565
  let c33_i32 : BitVec 32 := 33#32
  let v1143 : BitVec 32 := Scalar.addi v1142 c33_i32
  let v1144 : Index := Scalar.indexCast v1143
  ![v1144.toNat]
def k0_off1135 (v1145 : BitVec 32) : Fin 3 → Nat :=
  let v1146 : Index := Scalar.indexCast v1145
  let c0_566 : Index := 0#32
  let c0_567 : Index := 0#32
  ![v1146.toNat, 0, 0]

def k0_chk418 (v1145 : BitVec 32) : Prop :=
  (∀ a, (k0_off1135 v1145) a + S1x64x128.size a ≤ S1024x64x128.size a)
theorem k0_off1135_inb : ∀ (v1145 : BitVec 32) (k0_hw418 : k0_chk418 v1145), ∀ a, (k0_off1135 v1145) a + S1x64x128.size a ≤ S1024x64x128.size a := fun v1145 k0_hw418 => k0_hw418

def k0_off1136 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1154 : Index := Scalar.indexCast v16
  let c34 : Index := 34#32
  let c0_570 : Index := 0#32
  let c0_571 : Index := 0#32
  ![v1154.toNat, 34, 0, 0]
def k0_off1137 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1157 : Index := Scalar.indexCast v16
  let c34_572 : Index := 34#32
  let c0_573 : Index := 0#32
  let c0_574 : Index := 0#32
  ![v1157.toNat, 34, 0, 0]
def k0_off1138 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1162 : Index := Scalar.indexCast v16
  let c34_576 : Index := 34#32
  let c0_577 : Index := 0#32
  let c0_578 : Index := 0#32
  ![v1162.toNat, 34, 0, 0]
def k0_off1139 (i : grid0.Coords) : Fin 1 → Nat :=
  let arg0 : BitVec 32 := BitVec.ofNat 32 (i 0).val
  let c64_i32_581 : BitVec 32 := 64#32
  let v1175 : BitVec 32 := Scalar.muli arg0 c64_i32_581
  let c34_i32 : BitVec 32 := 34#32
  let v1176 : BitVec 32 := Scalar.addi v1175 c34_i32
  let v1177 : Index := Scalar.indexCast v1176
  ![v1177.toNat]
def k0_off1140 (v1178 : BitVec 32) : Fin 3 → Nat :=
  let v1179 : Index := Scalar.indexCast v1178
  let c0_582 : Index := 0#32
  let c0_583 : Index := 0#32
  ![v1179.toNat, 0, 0]

def k0_chk419 (v1178 : BitVec 32) : Prop :=
  (∀ a, (k0_off1140 v1178) a + S1x64x128.size a ≤ S1024x64x128.size a)
theorem k0_off1140_inb : ∀ (v1178 : BitVec 32) (k0_hw419 : k0_chk419 v1178), ∀ a, (k0_off1140 v1178) a + S1x64x128.size a ≤ S1024x64x128.size a := fun v1178 k0_hw419 => k0_hw419

def k0_off1141 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1187 : Index := Scalar.indexCast v16
  let c35 : Index := 35#32
  let c0_586 : Index := 0#32
  let c0_587 : Index := 0#32
  ![v1187.toNat, 35, 0, 0]
def k0_off1142 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1190 : Index := Scalar.indexCast v16
  let c35_588 : Index := 35#32
  let c0_589 : Index := 0#32
  let c0_590 : Index := 0#32
  ![v1190.toNat, 35, 0, 0]
def k0_off1143 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1195 : Index := Scalar.indexCast v16
  let c35_592 : Index := 35#32
  let c0_593 : Index := 0#32
  let c0_594 : Index := 0#32
  ![v1195.toNat, 35, 0, 0]
def k0_off1144 (i : grid0.Coords) : Fin 1 → Nat :=
  let arg0 : BitVec 32 := BitVec.ofNat 32 (i 0).val
  let c64_i32_597 : BitVec 32 := 64#32
  let v1208 : BitVec 32 := Scalar.muli arg0 c64_i32_597
  let c35_i32 : BitVec 32 := 35#32
  let v1209 : BitVec 32 := Scalar.addi v1208 c35_i32
  let v1210 : Index := Scalar.indexCast v1209
  ![v1210.toNat]
def k0_off1145 (v1211 : BitVec 32) : Fin 3 → Nat :=
  let v1212 : Index := Scalar.indexCast v1211
  let c0_598 : Index := 0#32
  let c0_599 : Index := 0#32
  ![v1212.toNat, 0, 0]

def k0_chk420 (v1211 : BitVec 32) : Prop :=
  (∀ a, (k0_off1145 v1211) a + S1x64x128.size a ≤ S1024x64x128.size a)
theorem k0_off1145_inb : ∀ (v1211 : BitVec 32) (k0_hw420 : k0_chk420 v1211), ∀ a, (k0_off1145 v1211) a + S1x64x128.size a ≤ S1024x64x128.size a := fun v1211 k0_hw420 => k0_hw420

def k0_off1146 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1220 : Index := Scalar.indexCast v16
  let c36 : Index := 36#32
  let c0_602 : Index := 0#32
  let c0_603 : Index := 0#32
  ![v1220.toNat, 36, 0, 0]
def k0_off1147 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1223 : Index := Scalar.indexCast v16
  let c36_604 : Index := 36#32
  let c0_605 : Index := 0#32
  let c0_606 : Index := 0#32
  ![v1223.toNat, 36, 0, 0]
def k0_off1148 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1228 : Index := Scalar.indexCast v16
  let c36_608 : Index := 36#32
  let c0_609 : Index := 0#32
  let c0_610 : Index := 0#32
  ![v1228.toNat, 36, 0, 0]
def k0_off1149 (i : grid0.Coords) : Fin 1 → Nat :=
  let arg0 : BitVec 32 := BitVec.ofNat 32 (i 0).val
  let c64_i32_613 : BitVec 32 := 64#32
  let v1241 : BitVec 32 := Scalar.muli arg0 c64_i32_613
  let c36_i32 : BitVec 32 := 36#32
  let v1242 : BitVec 32 := Scalar.addi v1241 c36_i32
  let v1243 : Index := Scalar.indexCast v1242
  ![v1243.toNat]
def k0_off1150 (v1244 : BitVec 32) : Fin 3 → Nat :=
  let v1245 : Index := Scalar.indexCast v1244
  let c0_614 : Index := 0#32
  let c0_615 : Index := 0#32
  ![v1245.toNat, 0, 0]

def k0_chk421 (v1244 : BitVec 32) : Prop :=
  (∀ a, (k0_off1150 v1244) a + S1x64x128.size a ≤ S1024x64x128.size a)
theorem k0_off1150_inb : ∀ (v1244 : BitVec 32) (k0_hw421 : k0_chk421 v1244), ∀ a, (k0_off1150 v1244) a + S1x64x128.size a ≤ S1024x64x128.size a := fun v1244 k0_hw421 => k0_hw421

def k0_off1151 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1253 : Index := Scalar.indexCast v16
  let c37 : Index := 37#32
  let c0_618 : Index := 0#32
  let c0_619 : Index := 0#32
  ![v1253.toNat, 37, 0, 0]
def k0_off1152 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1256 : Index := Scalar.indexCast v16
  let c37_620 : Index := 37#32
  let c0_621 : Index := 0#32
  let c0_622 : Index := 0#32
  ![v1256.toNat, 37, 0, 0]
def k0_off1153 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1261 : Index := Scalar.indexCast v16
  let c37_624 : Index := 37#32
  let c0_625 : Index := 0#32
  let c0_626 : Index := 0#32
  ![v1261.toNat, 37, 0, 0]
def k0_off1154 (i : grid0.Coords) : Fin 1 → Nat :=
  let arg0 : BitVec 32 := BitVec.ofNat 32 (i 0).val
  let c64_i32_629 : BitVec 32 := 64#32
  let v1274 : BitVec 32 := Scalar.muli arg0 c64_i32_629
  let c37_i32 : BitVec 32 := 37#32
  let v1275 : BitVec 32 := Scalar.addi v1274 c37_i32
  let v1276 : Index := Scalar.indexCast v1275
  ![v1276.toNat]
def k0_off1155 (v1277 : BitVec 32) : Fin 3 → Nat :=
  let v1278 : Index := Scalar.indexCast v1277
  let c0_630 : Index := 0#32
  let c0_631 : Index := 0#32
  ![v1278.toNat, 0, 0]

def k0_chk422 (v1277 : BitVec 32) : Prop :=
  (∀ a, (k0_off1155 v1277) a + S1x64x128.size a ≤ S1024x64x128.size a)
theorem k0_off1155_inb : ∀ (v1277 : BitVec 32) (k0_hw422 : k0_chk422 v1277), ∀ a, (k0_off1155 v1277) a + S1x64x128.size a ≤ S1024x64x128.size a := fun v1277 k0_hw422 => k0_hw422

def k0_off1156 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1286 : Index := Scalar.indexCast v16
  let c38 : Index := 38#32
  let c0_634 : Index := 0#32
  let c0_635 : Index := 0#32
  ![v1286.toNat, 38, 0, 0]
def k0_off1157 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1289 : Index := Scalar.indexCast v16
  let c38_636 : Index := 38#32
  let c0_637 : Index := 0#32
  let c0_638 : Index := 0#32
  ![v1289.toNat, 38, 0, 0]
def k0_off1158 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1294 : Index := Scalar.indexCast v16
  let c38_640 : Index := 38#32
  let c0_641 : Index := 0#32
  let c0_642 : Index := 0#32
  ![v1294.toNat, 38, 0, 0]
def k0_off1159 (i : grid0.Coords) : Fin 1 → Nat :=
  let arg0 : BitVec 32 := BitVec.ofNat 32 (i 0).val
  let c64_i32_645 : BitVec 32 := 64#32
  let v1307 : BitVec 32 := Scalar.muli arg0 c64_i32_645
  let c38_i32 : BitVec 32 := 38#32
  let v1308 : BitVec 32 := Scalar.addi v1307 c38_i32
  let v1309 : Index := Scalar.indexCast v1308
  ![v1309.toNat]
def k0_off1160 (v1310 : BitVec 32) : Fin 3 → Nat :=
  let v1311 : Index := Scalar.indexCast v1310
  let c0_646 : Index := 0#32
  let c0_647 : Index := 0#32
  ![v1311.toNat, 0, 0]

def k0_chk423 (v1310 : BitVec 32) : Prop :=
  (∀ a, (k0_off1160 v1310) a + S1x64x128.size a ≤ S1024x64x128.size a)
theorem k0_off1160_inb : ∀ (v1310 : BitVec 32) (k0_hw423 : k0_chk423 v1310), ∀ a, (k0_off1160 v1310) a + S1x64x128.size a ≤ S1024x64x128.size a := fun v1310 k0_hw423 => k0_hw423

def k0_off1161 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1319 : Index := Scalar.indexCast v16
  let c39 : Index := 39#32
  let c0_650 : Index := 0#32
  let c0_651 : Index := 0#32
  ![v1319.toNat, 39, 0, 0]
def k0_off1162 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1322 : Index := Scalar.indexCast v16
  let c39_652 : Index := 39#32
  let c0_653 : Index := 0#32
  let c0_654 : Index := 0#32
  ![v1322.toNat, 39, 0, 0]
def k0_off1163 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1327 : Index := Scalar.indexCast v16
  let c39_656 : Index := 39#32
  let c0_657 : Index := 0#32
  let c0_658 : Index := 0#32
  ![v1327.toNat, 39, 0, 0]
def k0_off1164 (i : grid0.Coords) : Fin 1 → Nat :=
  let arg0 : BitVec 32 := BitVec.ofNat 32 (i 0).val
  let c64_i32_661 : BitVec 32 := 64#32
  let v1340 : BitVec 32 := Scalar.muli arg0 c64_i32_661
  let c39_i32 : BitVec 32 := 39#32
  let v1341 : BitVec 32 := Scalar.addi v1340 c39_i32
  let v1342 : Index := Scalar.indexCast v1341
  ![v1342.toNat]
def k0_off1165 (v1343 : BitVec 32) : Fin 3 → Nat :=
  let v1344 : Index := Scalar.indexCast v1343
  let c0_662 : Index := 0#32
  let c0_663 : Index := 0#32
  ![v1344.toNat, 0, 0]

def k0_chk424 (v1343 : BitVec 32) : Prop :=
  (∀ a, (k0_off1165 v1343) a + S1x64x128.size a ≤ S1024x64x128.size a)
theorem k0_off1165_inb : ∀ (v1343 : BitVec 32) (k0_hw424 : k0_chk424 v1343), ∀ a, (k0_off1165 v1343) a + S1x64x128.size a ≤ S1024x64x128.size a := fun v1343 k0_hw424 => k0_hw424

def k0_off1166 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1352 : Index := Scalar.indexCast v16
  let c40 : Index := 40#32
  let c0_666 : Index := 0#32
  let c0_667 : Index := 0#32
  ![v1352.toNat, 40, 0, 0]
def k0_off1167 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1355 : Index := Scalar.indexCast v16
  let c40_668 : Index := 40#32
  let c0_669 : Index := 0#32
  let c0_670 : Index := 0#32
  ![v1355.toNat, 40, 0, 0]
def k0_off1168 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1360 : Index := Scalar.indexCast v16
  let c40_672 : Index := 40#32
  let c0_673 : Index := 0#32
  let c0_674 : Index := 0#32
  ![v1360.toNat, 40, 0, 0]
def k0_off1169 (i : grid0.Coords) : Fin 1 → Nat :=
  let arg0 : BitVec 32 := BitVec.ofNat 32 (i 0).val
  let c64_i32_677 : BitVec 32 := 64#32
  let v1373 : BitVec 32 := Scalar.muli arg0 c64_i32_677
  let c40_i32 : BitVec 32 := 40#32
  let v1374 : BitVec 32 := Scalar.addi v1373 c40_i32
  let v1375 : Index := Scalar.indexCast v1374
  ![v1375.toNat]
def k0_off1170 (v1376 : BitVec 32) : Fin 3 → Nat :=
  let v1377 : Index := Scalar.indexCast v1376
  let c0_678 : Index := 0#32
  let c0_679 : Index := 0#32
  ![v1377.toNat, 0, 0]

def k0_chk425 (v1376 : BitVec 32) : Prop :=
  (∀ a, (k0_off1170 v1376) a + S1x64x128.size a ≤ S1024x64x128.size a)
theorem k0_off1170_inb : ∀ (v1376 : BitVec 32) (k0_hw425 : k0_chk425 v1376), ∀ a, (k0_off1170 v1376) a + S1x64x128.size a ≤ S1024x64x128.size a := fun v1376 k0_hw425 => k0_hw425

def k0_off1171 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1385 : Index := Scalar.indexCast v16
  let c41 : Index := 41#32
  let c0_682 : Index := 0#32
  let c0_683 : Index := 0#32
  ![v1385.toNat, 41, 0, 0]
def k0_off1172 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1388 : Index := Scalar.indexCast v16
  let c41_684 : Index := 41#32
  let c0_685 : Index := 0#32
  let c0_686 : Index := 0#32
  ![v1388.toNat, 41, 0, 0]
def k0_off1173 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1393 : Index := Scalar.indexCast v16
  let c41_688 : Index := 41#32
  let c0_689 : Index := 0#32
  let c0_690 : Index := 0#32
  ![v1393.toNat, 41, 0, 0]
def k0_off1174 (i : grid0.Coords) : Fin 1 → Nat :=
  let arg0 : BitVec 32 := BitVec.ofNat 32 (i 0).val
  let c64_i32_693 : BitVec 32 := 64#32
  let v1406 : BitVec 32 := Scalar.muli arg0 c64_i32_693
  let c41_i32 : BitVec 32 := 41#32
  let v1407 : BitVec 32 := Scalar.addi v1406 c41_i32
  let v1408 : Index := Scalar.indexCast v1407
  ![v1408.toNat]
def k0_off1175 (v1409 : BitVec 32) : Fin 3 → Nat :=
  let v1410 : Index := Scalar.indexCast v1409
  let c0_694 : Index := 0#32
  let c0_695 : Index := 0#32
  ![v1410.toNat, 0, 0]

def k0_chk426 (v1409 : BitVec 32) : Prop :=
  (∀ a, (k0_off1175 v1409) a + S1x64x128.size a ≤ S1024x64x128.size a)
theorem k0_off1175_inb : ∀ (v1409 : BitVec 32) (k0_hw426 : k0_chk426 v1409), ∀ a, (k0_off1175 v1409) a + S1x64x128.size a ≤ S1024x64x128.size a := fun v1409 k0_hw426 => k0_hw426

def k0_off1176 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1418 : Index := Scalar.indexCast v16
  let c42 : Index := 42#32
  let c0_698 : Index := 0#32
  let c0_699 : Index := 0#32
  ![v1418.toNat, 42, 0, 0]
def k0_off1177 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1421 : Index := Scalar.indexCast v16
  let c42_700 : Index := 42#32
  let c0_701 : Index := 0#32
  let c0_702 : Index := 0#32
  ![v1421.toNat, 42, 0, 0]
def k0_off1178 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1426 : Index := Scalar.indexCast v16
  let c42_704 : Index := 42#32
  let c0_705 : Index := 0#32
  let c0_706 : Index := 0#32
  ![v1426.toNat, 42, 0, 0]
def k0_off1179 (i : grid0.Coords) : Fin 1 → Nat :=
  let arg0 : BitVec 32 := BitVec.ofNat 32 (i 0).val
  let c64_i32_709 : BitVec 32 := 64#32
  let v1439 : BitVec 32 := Scalar.muli arg0 c64_i32_709
  let c42_i32 : BitVec 32 := 42#32
  let v1440 : BitVec 32 := Scalar.addi v1439 c42_i32
  let v1441 : Index := Scalar.indexCast v1440
  ![v1441.toNat]
def k0_off1180 (v1442 : BitVec 32) : Fin 3 → Nat :=
  let v1443 : Index := Scalar.indexCast v1442
  let c0_710 : Index := 0#32
  let c0_711 : Index := 0#32
  ![v1443.toNat, 0, 0]

def k0_chk427 (v1442 : BitVec 32) : Prop :=
  (∀ a, (k0_off1180 v1442) a + S1x64x128.size a ≤ S1024x64x128.size a)
theorem k0_off1180_inb : ∀ (v1442 : BitVec 32) (k0_hw427 : k0_chk427 v1442), ∀ a, (k0_off1180 v1442) a + S1x64x128.size a ≤ S1024x64x128.size a := fun v1442 k0_hw427 => k0_hw427

def k0_off1181 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1451 : Index := Scalar.indexCast v16
  let c43 : Index := 43#32
  let c0_714 : Index := 0#32
  let c0_715 : Index := 0#32
  ![v1451.toNat, 43, 0, 0]
def k0_off1182 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1454 : Index := Scalar.indexCast v16
  let c43_716 : Index := 43#32
  let c0_717 : Index := 0#32
  let c0_718 : Index := 0#32
  ![v1454.toNat, 43, 0, 0]
def k0_off1183 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1459 : Index := Scalar.indexCast v16
  let c43_720 : Index := 43#32
  let c0_721 : Index := 0#32
  let c0_722 : Index := 0#32
  ![v1459.toNat, 43, 0, 0]
def k0_off1184 (i : grid0.Coords) : Fin 1 → Nat :=
  let arg0 : BitVec 32 := BitVec.ofNat 32 (i 0).val
  let c64_i32_725 : BitVec 32 := 64#32
  let v1472 : BitVec 32 := Scalar.muli arg0 c64_i32_725
  let c43_i32 : BitVec 32 := 43#32
  let v1473 : BitVec 32 := Scalar.addi v1472 c43_i32
  let v1474 : Index := Scalar.indexCast v1473
  ![v1474.toNat]
def k0_off1185 (v1475 : BitVec 32) : Fin 3 → Nat :=
  let v1476 : Index := Scalar.indexCast v1475
  let c0_726 : Index := 0#32
  let c0_727 : Index := 0#32
  ![v1476.toNat, 0, 0]

def k0_chk428 (v1475 : BitVec 32) : Prop :=
  (∀ a, (k0_off1185 v1475) a + S1x64x128.size a ≤ S1024x64x128.size a)
theorem k0_off1185_inb : ∀ (v1475 : BitVec 32) (k0_hw428 : k0_chk428 v1475), ∀ a, (k0_off1185 v1475) a + S1x64x128.size a ≤ S1024x64x128.size a := fun v1475 k0_hw428 => k0_hw428

def k0_off1186 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1484 : Index := Scalar.indexCast v16
  let c44 : Index := 44#32
  let c0_730 : Index := 0#32
  let c0_731 : Index := 0#32
  ![v1484.toNat, 44, 0, 0]
def k0_off1187 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1487 : Index := Scalar.indexCast v16
  let c44_732 : Index := 44#32
  let c0_733 : Index := 0#32
  let c0_734 : Index := 0#32
  ![v1487.toNat, 44, 0, 0]
def k0_off1188 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1492 : Index := Scalar.indexCast v16
  let c44_736 : Index := 44#32
  let c0_737 : Index := 0#32
  let c0_738 : Index := 0#32
  ![v1492.toNat, 44, 0, 0]
def k0_off1189 (i : grid0.Coords) : Fin 1 → Nat :=
  let arg0 : BitVec 32 := BitVec.ofNat 32 (i 0).val
  let c64_i32_741 : BitVec 32 := 64#32
  let v1505 : BitVec 32 := Scalar.muli arg0 c64_i32_741
  let c44_i32 : BitVec 32 := 44#32
  let v1506 : BitVec 32 := Scalar.addi v1505 c44_i32
  let v1507 : Index := Scalar.indexCast v1506
  ![v1507.toNat]
def k0_off1190 (v1508 : BitVec 32) : Fin 3 → Nat :=
  let v1509 : Index := Scalar.indexCast v1508
  let c0_742 : Index := 0#32
  let c0_743 : Index := 0#32
  ![v1509.toNat, 0, 0]

def k0_chk429 (v1508 : BitVec 32) : Prop :=
  (∀ a, (k0_off1190 v1508) a + S1x64x128.size a ≤ S1024x64x128.size a)
theorem k0_off1190_inb : ∀ (v1508 : BitVec 32) (k0_hw429 : k0_chk429 v1508), ∀ a, (k0_off1190 v1508) a + S1x64x128.size a ≤ S1024x64x128.size a := fun v1508 k0_hw429 => k0_hw429

def k0_off1191 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1517 : Index := Scalar.indexCast v16
  let c45 : Index := 45#32
  let c0_746 : Index := 0#32
  let c0_747 : Index := 0#32
  ![v1517.toNat, 45, 0, 0]
def k0_off1192 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1520 : Index := Scalar.indexCast v16
  let c45_748 : Index := 45#32
  let c0_749 : Index := 0#32
  let c0_750 : Index := 0#32
  ![v1520.toNat, 45, 0, 0]
def k0_off1193 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1525 : Index := Scalar.indexCast v16
  let c45_752 : Index := 45#32
  let c0_753 : Index := 0#32
  let c0_754 : Index := 0#32
  ![v1525.toNat, 45, 0, 0]
def k0_off1194 (i : grid0.Coords) : Fin 1 → Nat :=
  let arg0 : BitVec 32 := BitVec.ofNat 32 (i 0).val
  let c64_i32_757 : BitVec 32 := 64#32
  let v1538 : BitVec 32 := Scalar.muli arg0 c64_i32_757
  let c45_i32 : BitVec 32 := 45#32
  let v1539 : BitVec 32 := Scalar.addi v1538 c45_i32
  let v1540 : Index := Scalar.indexCast v1539
  ![v1540.toNat]
def k0_off1195 (v1541 : BitVec 32) : Fin 3 → Nat :=
  let v1542 : Index := Scalar.indexCast v1541
  let c0_758 : Index := 0#32
  let c0_759 : Index := 0#32
  ![v1542.toNat, 0, 0]

def k0_chk430 (v1541 : BitVec 32) : Prop :=
  (∀ a, (k0_off1195 v1541) a + S1x64x128.size a ≤ S1024x64x128.size a)
theorem k0_off1195_inb : ∀ (v1541 : BitVec 32) (k0_hw430 : k0_chk430 v1541), ∀ a, (k0_off1195 v1541) a + S1x64x128.size a ≤ S1024x64x128.size a := fun v1541 k0_hw430 => k0_hw430

def k0_off1196 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1550 : Index := Scalar.indexCast v16
  let c46 : Index := 46#32
  let c0_762 : Index := 0#32
  let c0_763 : Index := 0#32
  ![v1550.toNat, 46, 0, 0]
def k0_off1197 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1553 : Index := Scalar.indexCast v16
  let c46_764 : Index := 46#32
  let c0_765 : Index := 0#32
  let c0_766 : Index := 0#32
  ![v1553.toNat, 46, 0, 0]
def k0_off1198 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1558 : Index := Scalar.indexCast v16
  let c46_768 : Index := 46#32
  let c0_769 : Index := 0#32
  let c0_770 : Index := 0#32
  ![v1558.toNat, 46, 0, 0]
def k0_off1199 (i : grid0.Coords) : Fin 1 → Nat :=
  let arg0 : BitVec 32 := BitVec.ofNat 32 (i 0).val
  let c64_i32_773 : BitVec 32 := 64#32
  let v1571 : BitVec 32 := Scalar.muli arg0 c64_i32_773
  let c46_i32 : BitVec 32 := 46#32
  let v1572 : BitVec 32 := Scalar.addi v1571 c46_i32
  let v1573 : Index := Scalar.indexCast v1572
  ![v1573.toNat]
def k0_off1200 (v1574 : BitVec 32) : Fin 3 → Nat :=
  let v1575 : Index := Scalar.indexCast v1574
  let c0_774 : Index := 0#32
  let c0_775 : Index := 0#32
  ![v1575.toNat, 0, 0]

def k0_chk431 (v1574 : BitVec 32) : Prop :=
  (∀ a, (k0_off1200 v1574) a + S1x64x128.size a ≤ S1024x64x128.size a)
theorem k0_off1200_inb : ∀ (v1574 : BitVec 32) (k0_hw431 : k0_chk431 v1574), ∀ a, (k0_off1200 v1574) a + S1x64x128.size a ≤ S1024x64x128.size a := fun v1574 k0_hw431 => k0_hw431

def k0_off1201 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1583 : Index := Scalar.indexCast v16
  let c47 : Index := 47#32
  let c0_778 : Index := 0#32
  let c0_779 : Index := 0#32
  ![v1583.toNat, 47, 0, 0]
def k0_off1202 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1586 : Index := Scalar.indexCast v16
  let c47_780 : Index := 47#32
  let c0_781 : Index := 0#32
  let c0_782 : Index := 0#32
  ![v1586.toNat, 47, 0, 0]
def k0_off1203 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1591 : Index := Scalar.indexCast v16
  let c47_784 : Index := 47#32
  let c0_785 : Index := 0#32
  let c0_786 : Index := 0#32
  ![v1591.toNat, 47, 0, 0]
def k0_off1204 (i : grid0.Coords) : Fin 1 → Nat :=
  let arg0 : BitVec 32 := BitVec.ofNat 32 (i 0).val
  let c64_i32_789 : BitVec 32 := 64#32
  let v1604 : BitVec 32 := Scalar.muli arg0 c64_i32_789
  let c47_i32 : BitVec 32 := 47#32
  let v1605 : BitVec 32 := Scalar.addi v1604 c47_i32
  let v1606 : Index := Scalar.indexCast v1605
  ![v1606.toNat]
def k0_off1205 (v1607 : BitVec 32) : Fin 3 → Nat :=
  let v1608 : Index := Scalar.indexCast v1607
  let c0_790 : Index := 0#32
  let c0_791 : Index := 0#32
  ![v1608.toNat, 0, 0]

def k0_chk432 (v1607 : BitVec 32) : Prop :=
  (∀ a, (k0_off1205 v1607) a + S1x64x128.size a ≤ S1024x64x128.size a)
theorem k0_off1205_inb : ∀ (v1607 : BitVec 32) (k0_hw432 : k0_chk432 v1607), ∀ a, (k0_off1205 v1607) a + S1x64x128.size a ≤ S1024x64x128.size a := fun v1607 k0_hw432 => k0_hw432

def k0_off1206 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1616 : Index := Scalar.indexCast v16
  let c48 : Index := 48#32
  let c0_794 : Index := 0#32
  let c0_795 : Index := 0#32
  ![v1616.toNat, 48, 0, 0]
def k0_off1207 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1619 : Index := Scalar.indexCast v16
  let c48_796 : Index := 48#32
  let c0_797 : Index := 0#32
  let c0_798 : Index := 0#32
  ![v1619.toNat, 48, 0, 0]
def k0_off1208 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1624 : Index := Scalar.indexCast v16
  let c48_800 : Index := 48#32
  let c0_801 : Index := 0#32
  let c0_802 : Index := 0#32
  ![v1624.toNat, 48, 0, 0]
def k0_off1209 (i : grid0.Coords) : Fin 1 → Nat :=
  let arg0 : BitVec 32 := BitVec.ofNat 32 (i 0).val
  let c64_i32_805 : BitVec 32 := 64#32
  let v1637 : BitVec 32 := Scalar.muli arg0 c64_i32_805
  let c48_i32 : BitVec 32 := 48#32
  let v1638 : BitVec 32 := Scalar.addi v1637 c48_i32
  let v1639 : Index := Scalar.indexCast v1638
  ![v1639.toNat]
def k0_off1210 (v1640 : BitVec 32) : Fin 3 → Nat :=
  let v1641 : Index := Scalar.indexCast v1640
  let c0_806 : Index := 0#32
  let c0_807 : Index := 0#32
  ![v1641.toNat, 0, 0]

def k0_chk433 (v1640 : BitVec 32) : Prop :=
  (∀ a, (k0_off1210 v1640) a + S1x64x128.size a ≤ S1024x64x128.size a)
theorem k0_off1210_inb : ∀ (v1640 : BitVec 32) (k0_hw433 : k0_chk433 v1640), ∀ a, (k0_off1210 v1640) a + S1x64x128.size a ≤ S1024x64x128.size a := fun v1640 k0_hw433 => k0_hw433

def k0_off1211 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1649 : Index := Scalar.indexCast v16
  let c49 : Index := 49#32
  let c0_810 : Index := 0#32
  let c0_811 : Index := 0#32
  ![v1649.toNat, 49, 0, 0]
def k0_off1212 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1652 : Index := Scalar.indexCast v16
  let c49_812 : Index := 49#32
  let c0_813 : Index := 0#32
  let c0_814 : Index := 0#32
  ![v1652.toNat, 49, 0, 0]
def k0_off1213 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1657 : Index := Scalar.indexCast v16
  let c49_816 : Index := 49#32
  let c0_817 : Index := 0#32
  let c0_818 : Index := 0#32
  ![v1657.toNat, 49, 0, 0]
def k0_off1214 (i : grid0.Coords) : Fin 1 → Nat :=
  let arg0 : BitVec 32 := BitVec.ofNat 32 (i 0).val
  let c64_i32_821 : BitVec 32 := 64#32
  let v1670 : BitVec 32 := Scalar.muli arg0 c64_i32_821
  let c49_i32 : BitVec 32 := 49#32
  let v1671 : BitVec 32 := Scalar.addi v1670 c49_i32
  let v1672 : Index := Scalar.indexCast v1671
  ![v1672.toNat]
def k0_off1215 (v1673 : BitVec 32) : Fin 3 → Nat :=
  let v1674 : Index := Scalar.indexCast v1673
  let c0_822 : Index := 0#32
  let c0_823 : Index := 0#32
  ![v1674.toNat, 0, 0]

def k0_chk434 (v1673 : BitVec 32) : Prop :=
  (∀ a, (k0_off1215 v1673) a + S1x64x128.size a ≤ S1024x64x128.size a)
theorem k0_off1215_inb : ∀ (v1673 : BitVec 32) (k0_hw434 : k0_chk434 v1673), ∀ a, (k0_off1215 v1673) a + S1x64x128.size a ≤ S1024x64x128.size a := fun v1673 k0_hw434 => k0_hw434

def k0_off1216 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1682 : Index := Scalar.indexCast v16
  let c50 : Index := 50#32
  let c0_826 : Index := 0#32
  let c0_827 : Index := 0#32
  ![v1682.toNat, 50, 0, 0]
def k0_off1217 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1685 : Index := Scalar.indexCast v16
  let c50_828 : Index := 50#32
  let c0_829 : Index := 0#32
  let c0_830 : Index := 0#32
  ![v1685.toNat, 50, 0, 0]
def k0_off1218 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1690 : Index := Scalar.indexCast v16
  let c50_832 : Index := 50#32
  let c0_833 : Index := 0#32
  let c0_834 : Index := 0#32
  ![v1690.toNat, 50, 0, 0]
def k0_off1219 (i : grid0.Coords) : Fin 1 → Nat :=
  let arg0 : BitVec 32 := BitVec.ofNat 32 (i 0).val
  let c64_i32_837 : BitVec 32 := 64#32
  let v1703 : BitVec 32 := Scalar.muli arg0 c64_i32_837
  let c50_i32 : BitVec 32 := 50#32
  let v1704 : BitVec 32 := Scalar.addi v1703 c50_i32
  let v1705 : Index := Scalar.indexCast v1704
  ![v1705.toNat]
def k0_off1220 (v1706 : BitVec 32) : Fin 3 → Nat :=
  let v1707 : Index := Scalar.indexCast v1706
  let c0_838 : Index := 0#32
  let c0_839 : Index := 0#32
  ![v1707.toNat, 0, 0]

def k0_chk435 (v1706 : BitVec 32) : Prop :=
  (∀ a, (k0_off1220 v1706) a + S1x64x128.size a ≤ S1024x64x128.size a)
theorem k0_off1220_inb : ∀ (v1706 : BitVec 32) (k0_hw435 : k0_chk435 v1706), ∀ a, (k0_off1220 v1706) a + S1x64x128.size a ≤ S1024x64x128.size a := fun v1706 k0_hw435 => k0_hw435

def k0_off1221 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1715 : Index := Scalar.indexCast v16
  let c51 : Index := 51#32
  let c0_842 : Index := 0#32
  let c0_843 : Index := 0#32
  ![v1715.toNat, 51, 0, 0]
def k0_off1222 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1718 : Index := Scalar.indexCast v16
  let c51_844 : Index := 51#32
  let c0_845 : Index := 0#32
  let c0_846 : Index := 0#32
  ![v1718.toNat, 51, 0, 0]
def k0_off1223 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1723 : Index := Scalar.indexCast v16
  let c51_848 : Index := 51#32
  let c0_849 : Index := 0#32
  let c0_850 : Index := 0#32
  ![v1723.toNat, 51, 0, 0]
def k0_off1224 (i : grid0.Coords) : Fin 1 → Nat :=
  let arg0 : BitVec 32 := BitVec.ofNat 32 (i 0).val
  let c64_i32_853 : BitVec 32 := 64#32
  let v1736 : BitVec 32 := Scalar.muli arg0 c64_i32_853
  let c51_i32 : BitVec 32 := 51#32
  let v1737 : BitVec 32 := Scalar.addi v1736 c51_i32
  let v1738 : Index := Scalar.indexCast v1737
  ![v1738.toNat]
def k0_off1225 (v1739 : BitVec 32) : Fin 3 → Nat :=
  let v1740 : Index := Scalar.indexCast v1739
  let c0_854 : Index := 0#32
  let c0_855 : Index := 0#32
  ![v1740.toNat, 0, 0]

def k0_chk436 (v1739 : BitVec 32) : Prop :=
  (∀ a, (k0_off1225 v1739) a + S1x64x128.size a ≤ S1024x64x128.size a)
theorem k0_off1225_inb : ∀ (v1739 : BitVec 32) (k0_hw436 : k0_chk436 v1739), ∀ a, (k0_off1225 v1739) a + S1x64x128.size a ≤ S1024x64x128.size a := fun v1739 k0_hw436 => k0_hw436

def k0_off1226 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1748 : Index := Scalar.indexCast v16
  let c52 : Index := 52#32
  let c0_858 : Index := 0#32
  let c0_859 : Index := 0#32
  ![v1748.toNat, 52, 0, 0]
def k0_off1227 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1751 : Index := Scalar.indexCast v16
  let c52_860 : Index := 52#32
  let c0_861 : Index := 0#32
  let c0_862 : Index := 0#32
  ![v1751.toNat, 52, 0, 0]
def k0_off1228 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1756 : Index := Scalar.indexCast v16
  let c52_864 : Index := 52#32
  let c0_865 : Index := 0#32
  let c0_866 : Index := 0#32
  ![v1756.toNat, 52, 0, 0]
def k0_off1229 (i : grid0.Coords) : Fin 1 → Nat :=
  let arg0 : BitVec 32 := BitVec.ofNat 32 (i 0).val
  let c64_i32_869 : BitVec 32 := 64#32
  let v1769 : BitVec 32 := Scalar.muli arg0 c64_i32_869
  let c52_i32 : BitVec 32 := 52#32
  let v1770 : BitVec 32 := Scalar.addi v1769 c52_i32
  let v1771 : Index := Scalar.indexCast v1770
  ![v1771.toNat]
def k0_off1230 (v1772 : BitVec 32) : Fin 3 → Nat :=
  let v1773 : Index := Scalar.indexCast v1772
  let c0_870 : Index := 0#32
  let c0_871 : Index := 0#32
  ![v1773.toNat, 0, 0]

def k0_chk437 (v1772 : BitVec 32) : Prop :=
  (∀ a, (k0_off1230 v1772) a + S1x64x128.size a ≤ S1024x64x128.size a)
theorem k0_off1230_inb : ∀ (v1772 : BitVec 32) (k0_hw437 : k0_chk437 v1772), ∀ a, (k0_off1230 v1772) a + S1x64x128.size a ≤ S1024x64x128.size a := fun v1772 k0_hw437 => k0_hw437

def k0_off1231 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1781 : Index := Scalar.indexCast v16
  let c53 : Index := 53#32
  let c0_874 : Index := 0#32
  let c0_875 : Index := 0#32
  ![v1781.toNat, 53, 0, 0]
def k0_off1232 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1784 : Index := Scalar.indexCast v16
  let c53_876 : Index := 53#32
  let c0_877 : Index := 0#32
  let c0_878 : Index := 0#32
  ![v1784.toNat, 53, 0, 0]
def k0_off1233 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1789 : Index := Scalar.indexCast v16
  let c53_880 : Index := 53#32
  let c0_881 : Index := 0#32
  let c0_882 : Index := 0#32
  ![v1789.toNat, 53, 0, 0]
def k0_off1234 (i : grid0.Coords) : Fin 1 → Nat :=
  let arg0 : BitVec 32 := BitVec.ofNat 32 (i 0).val
  let c64_i32_885 : BitVec 32 := 64#32
  let v1802 : BitVec 32 := Scalar.muli arg0 c64_i32_885
  let c53_i32 : BitVec 32 := 53#32
  let v1803 : BitVec 32 := Scalar.addi v1802 c53_i32
  let v1804 : Index := Scalar.indexCast v1803
  ![v1804.toNat]
def k0_off1235 (v1805 : BitVec 32) : Fin 3 → Nat :=
  let v1806 : Index := Scalar.indexCast v1805
  let c0_886 : Index := 0#32
  let c0_887 : Index := 0#32
  ![v1806.toNat, 0, 0]

def k0_chk438 (v1805 : BitVec 32) : Prop :=
  (∀ a, (k0_off1235 v1805) a + S1x64x128.size a ≤ S1024x64x128.size a)
theorem k0_off1235_inb : ∀ (v1805 : BitVec 32) (k0_hw438 : k0_chk438 v1805), ∀ a, (k0_off1235 v1805) a + S1x64x128.size a ≤ S1024x64x128.size a := fun v1805 k0_hw438 => k0_hw438

def k0_off1236 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1814 : Index := Scalar.indexCast v16
  let c54 : Index := 54#32
  let c0_890 : Index := 0#32
  let c0_891 : Index := 0#32
  ![v1814.toNat, 54, 0, 0]
def k0_off1237 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1817 : Index := Scalar.indexCast v16
  let c54_892 : Index := 54#32
  let c0_893 : Index := 0#32
  let c0_894 : Index := 0#32
  ![v1817.toNat, 54, 0, 0]
def k0_off1238 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1822 : Index := Scalar.indexCast v16
  let c54_896 : Index := 54#32
  let c0_897 : Index := 0#32
  let c0_898 : Index := 0#32
  ![v1822.toNat, 54, 0, 0]
def k0_off1239 (i : grid0.Coords) : Fin 1 → Nat :=
  let arg0 : BitVec 32 := BitVec.ofNat 32 (i 0).val
  let c64_i32_901 : BitVec 32 := 64#32
  let v1835 : BitVec 32 := Scalar.muli arg0 c64_i32_901
  let c54_i32 : BitVec 32 := 54#32
  let v1836 : BitVec 32 := Scalar.addi v1835 c54_i32
  let v1837 : Index := Scalar.indexCast v1836
  ![v1837.toNat]
def k0_off1240 (v1838 : BitVec 32) : Fin 3 → Nat :=
  let v1839 : Index := Scalar.indexCast v1838
  let c0_902 : Index := 0#32
  let c0_903 : Index := 0#32
  ![v1839.toNat, 0, 0]

def k0_chk439 (v1838 : BitVec 32) : Prop :=
  (∀ a, (k0_off1240 v1838) a + S1x64x128.size a ≤ S1024x64x128.size a)
theorem k0_off1240_inb : ∀ (v1838 : BitVec 32) (k0_hw439 : k0_chk439 v1838), ∀ a, (k0_off1240 v1838) a + S1x64x128.size a ≤ S1024x64x128.size a := fun v1838 k0_hw439 => k0_hw439

def k0_off1241 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1847 : Index := Scalar.indexCast v16
  let c55 : Index := 55#32
  let c0_906 : Index := 0#32
  let c0_907 : Index := 0#32
  ![v1847.toNat, 55, 0, 0]
def k0_off1242 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1850 : Index := Scalar.indexCast v16
  let c55_908 : Index := 55#32
  let c0_909 : Index := 0#32
  let c0_910 : Index := 0#32
  ![v1850.toNat, 55, 0, 0]
def k0_off1243 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1855 : Index := Scalar.indexCast v16
  let c55_912 : Index := 55#32
  let c0_913 : Index := 0#32
  let c0_914 : Index := 0#32
  ![v1855.toNat, 55, 0, 0]
def k0_off1244 (i : grid0.Coords) : Fin 1 → Nat :=
  let arg0 : BitVec 32 := BitVec.ofNat 32 (i 0).val
  let c64_i32_917 : BitVec 32 := 64#32
  let v1868 : BitVec 32 := Scalar.muli arg0 c64_i32_917
  let c55_i32 : BitVec 32 := 55#32
  let v1869 : BitVec 32 := Scalar.addi v1868 c55_i32
  let v1870 : Index := Scalar.indexCast v1869
  ![v1870.toNat]
def k0_off1245 (v1871 : BitVec 32) : Fin 3 → Nat :=
  let v1872 : Index := Scalar.indexCast v1871
  let c0_918 : Index := 0#32
  let c0_919 : Index := 0#32
  ![v1872.toNat, 0, 0]

def k0_chk440 (v1871 : BitVec 32) : Prop :=
  (∀ a, (k0_off1245 v1871) a + S1x64x128.size a ≤ S1024x64x128.size a)
theorem k0_off1245_inb : ∀ (v1871 : BitVec 32) (k0_hw440 : k0_chk440 v1871), ∀ a, (k0_off1245 v1871) a + S1x64x128.size a ≤ S1024x64x128.size a := fun v1871 k0_hw440 => k0_hw440

def k0_off1246 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1880 : Index := Scalar.indexCast v16
  let c56 : Index := 56#32
  let c0_922 : Index := 0#32
  let c0_923 : Index := 0#32
  ![v1880.toNat, 56, 0, 0]
def k0_off1247 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1883 : Index := Scalar.indexCast v16
  let c56_924 : Index := 56#32
  let c0_925 : Index := 0#32
  let c0_926 : Index := 0#32
  ![v1883.toNat, 56, 0, 0]
def k0_off1248 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1888 : Index := Scalar.indexCast v16
  let c56_928 : Index := 56#32
  let c0_929 : Index := 0#32
  let c0_930 : Index := 0#32
  ![v1888.toNat, 56, 0, 0]
def k0_off1249 (i : grid0.Coords) : Fin 1 → Nat :=
  let arg0 : BitVec 32 := BitVec.ofNat 32 (i 0).val
  let c64_i32_933 : BitVec 32 := 64#32
  let v1901 : BitVec 32 := Scalar.muli arg0 c64_i32_933
  let c56_i32 : BitVec 32 := 56#32
  let v1902 : BitVec 32 := Scalar.addi v1901 c56_i32
  let v1903 : Index := Scalar.indexCast v1902
  ![v1903.toNat]
def k0_off1250 (v1904 : BitVec 32) : Fin 3 → Nat :=
  let v1905 : Index := Scalar.indexCast v1904
  let c0_934 : Index := 0#32
  let c0_935 : Index := 0#32
  ![v1905.toNat, 0, 0]

def k0_chk441 (v1904 : BitVec 32) : Prop :=
  (∀ a, (k0_off1250 v1904) a + S1x64x128.size a ≤ S1024x64x128.size a)
theorem k0_off1250_inb : ∀ (v1904 : BitVec 32) (k0_hw441 : k0_chk441 v1904), ∀ a, (k0_off1250 v1904) a + S1x64x128.size a ≤ S1024x64x128.size a := fun v1904 k0_hw441 => k0_hw441

def k0_off1251 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1913 : Index := Scalar.indexCast v16
  let c57 : Index := 57#32
  let c0_938 : Index := 0#32
  let c0_939 : Index := 0#32
  ![v1913.toNat, 57, 0, 0]
def k0_off1252 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1916 : Index := Scalar.indexCast v16
  let c57_940 : Index := 57#32
  let c0_941 : Index := 0#32
  let c0_942 : Index := 0#32
  ![v1916.toNat, 57, 0, 0]
def k0_off1253 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1921 : Index := Scalar.indexCast v16
  let c57_944 : Index := 57#32
  let c0_945 : Index := 0#32
  let c0_946 : Index := 0#32
  ![v1921.toNat, 57, 0, 0]
def k0_off1254 (i : grid0.Coords) : Fin 1 → Nat :=
  let arg0 : BitVec 32 := BitVec.ofNat 32 (i 0).val
  let c64_i32_949 : BitVec 32 := 64#32
  let v1934 : BitVec 32 := Scalar.muli arg0 c64_i32_949
  let c57_i32 : BitVec 32 := 57#32
  let v1935 : BitVec 32 := Scalar.addi v1934 c57_i32
  let v1936 : Index := Scalar.indexCast v1935
  ![v1936.toNat]
def k0_off1255 (v1937 : BitVec 32) : Fin 3 → Nat :=
  let v1938 : Index := Scalar.indexCast v1937
  let c0_950 : Index := 0#32
  let c0_951 : Index := 0#32
  ![v1938.toNat, 0, 0]

def k0_chk442 (v1937 : BitVec 32) : Prop :=
  (∀ a, (k0_off1255 v1937) a + S1x64x128.size a ≤ S1024x64x128.size a)
theorem k0_off1255_inb : ∀ (v1937 : BitVec 32) (k0_hw442 : k0_chk442 v1937), ∀ a, (k0_off1255 v1937) a + S1x64x128.size a ≤ S1024x64x128.size a := fun v1937 k0_hw442 => k0_hw442

def k0_off1256 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1946 : Index := Scalar.indexCast v16
  let c58 : Index := 58#32
  let c0_954 : Index := 0#32
  let c0_955 : Index := 0#32
  ![v1946.toNat, 58, 0, 0]
def k0_off1257 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1949 : Index := Scalar.indexCast v16
  let c58_956 : Index := 58#32
  let c0_957 : Index := 0#32
  let c0_958 : Index := 0#32
  ![v1949.toNat, 58, 0, 0]
def k0_off1258 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1954 : Index := Scalar.indexCast v16
  let c58_960 : Index := 58#32
  let c0_961 : Index := 0#32
  let c0_962 : Index := 0#32
  ![v1954.toNat, 58, 0, 0]
def k0_off1259 (i : grid0.Coords) : Fin 1 → Nat :=
  let arg0 : BitVec 32 := BitVec.ofNat 32 (i 0).val
  let c64_i32_965 : BitVec 32 := 64#32
  let v1967 : BitVec 32 := Scalar.muli arg0 c64_i32_965
  let c58_i32 : BitVec 32 := 58#32
  let v1968 : BitVec 32 := Scalar.addi v1967 c58_i32
  let v1969 : Index := Scalar.indexCast v1968
  ![v1969.toNat]
def k0_off1260 (v1970 : BitVec 32) : Fin 3 → Nat :=
  let v1971 : Index := Scalar.indexCast v1970
  let c0_966 : Index := 0#32
  let c0_967 : Index := 0#32
  ![v1971.toNat, 0, 0]

def k0_chk443 (v1970 : BitVec 32) : Prop :=
  (∀ a, (k0_off1260 v1970) a + S1x64x128.size a ≤ S1024x64x128.size a)
theorem k0_off1260_inb : ∀ (v1970 : BitVec 32) (k0_hw443 : k0_chk443 v1970), ∀ a, (k0_off1260 v1970) a + S1x64x128.size a ≤ S1024x64x128.size a := fun v1970 k0_hw443 => k0_hw443

def k0_off1261 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1979 : Index := Scalar.indexCast v16
  let c59 : Index := 59#32
  let c0_970 : Index := 0#32
  let c0_971 : Index := 0#32
  ![v1979.toNat, 59, 0, 0]
def k0_off1262 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1982 : Index := Scalar.indexCast v16
  let c59_972 : Index := 59#32
  let c0_973 : Index := 0#32
  let c0_974 : Index := 0#32
  ![v1982.toNat, 59, 0, 0]
def k0_off1263 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v1987 : Index := Scalar.indexCast v16
  let c59_976 : Index := 59#32
  let c0_977 : Index := 0#32
  let c0_978 : Index := 0#32
  ![v1987.toNat, 59, 0, 0]
def k0_off1264 (i : grid0.Coords) : Fin 1 → Nat :=
  let arg0 : BitVec 32 := BitVec.ofNat 32 (i 0).val
  let c64_i32_981 : BitVec 32 := 64#32
  let v2000 : BitVec 32 := Scalar.muli arg0 c64_i32_981
  let c59_i32 : BitVec 32 := 59#32
  let v2001 : BitVec 32 := Scalar.addi v2000 c59_i32
  let v2002 : Index := Scalar.indexCast v2001
  ![v2002.toNat]
def k0_off1265 (v2003 : BitVec 32) : Fin 3 → Nat :=
  let v2004 : Index := Scalar.indexCast v2003
  let c0_982 : Index := 0#32
  let c0_983 : Index := 0#32
  ![v2004.toNat, 0, 0]

def k0_chk444 (v2003 : BitVec 32) : Prop :=
  (∀ a, (k0_off1265 v2003) a + S1x64x128.size a ≤ S1024x64x128.size a)
theorem k0_off1265_inb : ∀ (v2003 : BitVec 32) (k0_hw444 : k0_chk444 v2003), ∀ a, (k0_off1265 v2003) a + S1x64x128.size a ≤ S1024x64x128.size a := fun v2003 k0_hw444 => k0_hw444

def k0_off1266 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2012 : Index := Scalar.indexCast v16
  let c60 : Index := 60#32
  let c0_986 : Index := 0#32
  let c0_987 : Index := 0#32
  ![v2012.toNat, 60, 0, 0]
def k0_off1267 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2015 : Index := Scalar.indexCast v16
  let c60_988 : Index := 60#32
  let c0_989 : Index := 0#32
  let c0_990 : Index := 0#32
  ![v2015.toNat, 60, 0, 0]
def k0_off1268 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2020 : Index := Scalar.indexCast v16
  let c60_992 : Index := 60#32
  let c0_993 : Index := 0#32
  let c0_994 : Index := 0#32
  ![v2020.toNat, 60, 0, 0]
def k0_off1269 (i : grid0.Coords) : Fin 1 → Nat :=
  let arg0 : BitVec 32 := BitVec.ofNat 32 (i 0).val
  let c64_i32_997 : BitVec 32 := 64#32
  let v2033 : BitVec 32 := Scalar.muli arg0 c64_i32_997
  let c60_i32 : BitVec 32 := 60#32
  let v2034 : BitVec 32 := Scalar.addi v2033 c60_i32
  let v2035 : Index := Scalar.indexCast v2034
  ![v2035.toNat]
def k0_off1270 (v2036 : BitVec 32) : Fin 3 → Nat :=
  let v2037 : Index := Scalar.indexCast v2036
  let c0_998 : Index := 0#32
  let c0_999 : Index := 0#32
  ![v2037.toNat, 0, 0]

def k0_chk445 (v2036 : BitVec 32) : Prop :=
  (∀ a, (k0_off1270 v2036) a + S1x64x128.size a ≤ S1024x64x128.size a)
theorem k0_off1270_inb : ∀ (v2036 : BitVec 32) (k0_hw445 : k0_chk445 v2036), ∀ a, (k0_off1270 v2036) a + S1x64x128.size a ≤ S1024x64x128.size a := fun v2036 k0_hw445 => k0_hw445

def k0_off1271 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2045 : Index := Scalar.indexCast v16
  let c61 : Index := 61#32
  let c0_1002 : Index := 0#32
  let c0_1003 : Index := 0#32
  ![v2045.toNat, 61, 0, 0]
def k0_off1272 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2048 : Index := Scalar.indexCast v16
  let c61_1004 : Index := 61#32
  let c0_1005 : Index := 0#32
  let c0_1006 : Index := 0#32
  ![v2048.toNat, 61, 0, 0]
def k0_off1273 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2053 : Index := Scalar.indexCast v16
  let c61_1008 : Index := 61#32
  let c0_1009 : Index := 0#32
  let c0_1010 : Index := 0#32
  ![v2053.toNat, 61, 0, 0]
def k0_off1274 (i : grid0.Coords) : Fin 1 → Nat :=
  let arg0 : BitVec 32 := BitVec.ofNat 32 (i 0).val
  let c64_i32_1013 : BitVec 32 := 64#32
  let v2066 : BitVec 32 := Scalar.muli arg0 c64_i32_1013
  let c61_i32 : BitVec 32 := 61#32
  let v2067 : BitVec 32 := Scalar.addi v2066 c61_i32
  let v2068 : Index := Scalar.indexCast v2067
  ![v2068.toNat]
def k0_off1275 (v2069 : BitVec 32) : Fin 3 → Nat :=
  let v2070 : Index := Scalar.indexCast v2069
  let c0_1014 : Index := 0#32
  let c0_1015 : Index := 0#32
  ![v2070.toNat, 0, 0]

def k0_chk446 (v2069 : BitVec 32) : Prop :=
  (∀ a, (k0_off1275 v2069) a + S1x64x128.size a ≤ S1024x64x128.size a)
theorem k0_off1275_inb : ∀ (v2069 : BitVec 32) (k0_hw446 : k0_chk446 v2069), ∀ a, (k0_off1275 v2069) a + S1x64x128.size a ≤ S1024x64x128.size a := fun v2069 k0_hw446 => k0_hw446

def k0_off1276 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2078 : Index := Scalar.indexCast v16
  let c62 : Index := 62#32
  let c0_1018 : Index := 0#32
  let c0_1019 : Index := 0#32
  ![v2078.toNat, 62, 0, 0]
def k0_off1277 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2081 : Index := Scalar.indexCast v16
  let c62_1020 : Index := 62#32
  let c0_1021 : Index := 0#32
  let c0_1022 : Index := 0#32
  ![v2081.toNat, 62, 0, 0]
def k0_off1278 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2086 : Index := Scalar.indexCast v16
  let c62_1024 : Index := 62#32
  let c0_1025 : Index := 0#32
  let c0_1026 : Index := 0#32
  ![v2086.toNat, 62, 0, 0]
def k0_off1279 (i : grid0.Coords) : Fin 1 → Nat :=
  let arg0 : BitVec 32 := BitVec.ofNat 32 (i 0).val
  let c64_i32_1029 : BitVec 32 := 64#32
  let v2099 : BitVec 32 := Scalar.muli arg0 c64_i32_1029
  let c62_i32 : BitVec 32 := 62#32
  let v2100 : BitVec 32 := Scalar.addi v2099 c62_i32
  let v2101 : Index := Scalar.indexCast v2100
  ![v2101.toNat]
def k0_off1280 (v2102 : BitVec 32) : Fin 3 → Nat :=
  let v2103 : Index := Scalar.indexCast v2102
  let c0_1030 : Index := 0#32
  let c0_1031 : Index := 0#32
  ![v2103.toNat, 0, 0]

def k0_chk447 (v2102 : BitVec 32) : Prop :=
  (∀ a, (k0_off1280 v2102) a + S1x64x128.size a ≤ S1024x64x128.size a)
theorem k0_off1280_inb : ∀ (v2102 : BitVec 32) (k0_hw447 : k0_chk447 v2102), ∀ a, (k0_off1280 v2102) a + S1x64x128.size a ≤ S1024x64x128.size a := fun v2102 k0_hw447 => k0_hw447

def k0_off1281 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2111 : Index := Scalar.indexCast v16
  let c63 : Index := 63#32
  let c0_1034 : Index := 0#32
  let c0_1035 : Index := 0#32
  ![v2111.toNat, 63, 0, 0]
def k0_off1282 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2114 : Index := Scalar.indexCast v16
  let c63_1036 : Index := 63#32
  let c0_1037 : Index := 0#32
  let c0_1038 : Index := 0#32
  ![v2114.toNat, 63, 0, 0]
def k0_off1283 (i : grid0.Coords) : Fin 4 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v2119 : Index := Scalar.indexCast v16
  let c63_1040 : Index := 63#32
  let c0_1041 : Index := 0#32
  let c0_1042 : Index := 0#32
  ![v2119.toNat, 63, 0, 0]
def k0_off1284 (i : grid0.Coords) : Fin 1 → Nat :=
  let arg0 : BitVec 32 := BitVec.ofNat 32 (i 0).val
  let c64_i32_1045 : BitVec 32 := 64#32
  let v2132 : BitVec 32 := Scalar.muli arg0 c64_i32_1045
  let c63_i32 : BitVec 32 := 63#32
  let v2133 : BitVec 32 := Scalar.addi v2132 c63_i32
  let v2134 : Index := Scalar.indexCast v2133
  ![v2134.toNat]
def k0_off1285 (v2135 : BitVec 32) : Fin 3 → Nat :=
  let v2136 : Index := Scalar.indexCast v2135
  let c0_1046 : Index := 0#32
  let c0_1047 : Index := 0#32
  ![v2136.toNat, 0, 0]

def k0_chk448 (v2135 : BitVec 32) : Prop :=
  (∀ a, (k0_off1285 v2135) a + S1x64x128.size a ≤ S1024x64x128.size a)
theorem k0_off1285_inb : ∀ (v2135 : BitVec 32) (k0_hw448 : k0_chk448 v2135), ∀ a, (k0_off1285 v2135) a + S1x64x128.size a ≤ S1024x64x128.size a := fun v2135 k0_hw448 => k0_hw448

def k0_cond3 (i : grid0.Coords) : BitVec 1 :=
  let arg0 : BitVec 32 := BitVec.ofNat 32 (i 0).val
  let c127_i32 : BitVec 32 := 127#32
  let v2144 : BitVec 1 := Scalar.cmpi .eq arg0 c127_i32
  let v2145 : BitVec 32 := Scalar.extui v2144
  let c0_i32_1050 : BitVec 32 := 0#32
  let v2146 : BitVec 1 := Scalar.cmpi .ne v2145 c0_i32_1050
  v2146

@[reducible] def k0_t1_loop : Scf.Loop 32 :=
  let c0_i32_1051 : BitVec 32 := 0#32
  let c32_i32_1052 : BitVec 32 := 32#32
  let v2153 : BitVec 32 := Scalar.addi c0_i32_1051 c32_i32_1052
  let c1_i32_1053 : BitVec 32 := 1#32
  ⟨c0_i32_1051, v2153, c1_i32_1053⟩
def k0_off1286 (k0_t1 : Fin k0_t1_loop.trips) (c0_i32_1592 : BitVec 32) : Fin 3 → Nat :=
  let c0_i32_1591 : BitVec 32 := 0#32
  let c0_i32_1051 : BitVec 32 := 0#32
  let c1_i32_1053 : BitVec 32 := 1#32
  let arg17 : BitVec 32 := Scf.iv c0_i32_1051 c1_i32_1053 k0_t1
  let v2417 : BitVec 32 := Scalar.addi c0_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1287 (k0_t1 : Fin k0_t1_loop.trips) : Fin 4 → Nat :=
  let c0_i32_1051 : BitVec 32 := 0#32
  let c1_i32_1053 : BitVec 32 := 1#32
  let arg17 : BitVec 32 := Scf.iv c0_i32_1051 c1_i32_1053 k0_t1
  let v2439 : Index := Scalar.indexCast arg17
  let c0_1602 : Index := 0#32
  let c0_1603 : Index := 0#32
  let c0_1604 : Index := 0#32
  ![v2439.toNat, 0, 0, 0]
@[reducible] def k0_t2_loop : Scf.Loop 32 :=
  let c0_i32_1119 : BitVec 32 := 0#32
  let c32_i32_1120 : BitVec 32 := 32#32
  let v2186 : BitVec 32 := Scalar.addi c0_i32_1119 c32_i32_1120
  let c1_i32_1121 : BitVec 32 := 1#32
  ⟨c0_i32_1119, v2186, c1_i32_1121⟩
def k0_off1288 (k0_t2 : Fin k0_t2_loop.trips) (c0_i32_1592 : BitVec 32) : Fin 3 → Nat :=
  let c32_i32_1591 : BitVec 32 := 32#32
  let c0_i32_1119 : BitVec 32 := 0#32
  let c1_i32_1121 : BitVec 32 := 1#32
  let arg17 : BitVec 32 := Scf.iv c0_i32_1119 c1_i32_1121 k0_t2
  let v2417 : BitVec 32 := Scalar.addi c32_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1289 (k0_t2 : Fin k0_t2_loop.trips) : Fin 4 → Nat :=
  let c0_i32_1119 : BitVec 32 := 0#32
  let c1_i32_1121 : BitVec 32 := 1#32
  let arg17 : BitVec 32 := Scf.iv c0_i32_1119 c1_i32_1121 k0_t2
  let v2439 : Index := Scalar.indexCast arg17
  let c0_1602 : Index := 0#32
  let c0_1603 : Index := 0#32
  let c0_1604 : Index := 0#32
  ![v2439.toNat, 0, 0, 0]
@[reducible] def k0_t3_loop : Scf.Loop 32 :=
  let c0_i32_1187 : BitVec 32 := 0#32
  let c32_i32_1188 : BitVec 32 := 32#32
  let v2219 : BitVec 32 := Scalar.addi c0_i32_1187 c32_i32_1188
  let c1_i32_1189 : BitVec 32 := 1#32
  ⟨c0_i32_1187, v2219, c1_i32_1189⟩
def k0_off1290 (k0_t3 : Fin k0_t3_loop.trips) (c0_i32_1592 : BitVec 32) : Fin 3 → Nat :=
  let c64_i32_1591 : BitVec 32 := 64#32
  let c0_i32_1187 : BitVec 32 := 0#32
  let c1_i32_1189 : BitVec 32 := 1#32
  let arg17 : BitVec 32 := Scf.iv c0_i32_1187 c1_i32_1189 k0_t3
  let v2417 : BitVec 32 := Scalar.addi c64_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1291 (k0_t3 : Fin k0_t3_loop.trips) : Fin 4 → Nat :=
  let c0_i32_1187 : BitVec 32 := 0#32
  let c1_i32_1189 : BitVec 32 := 1#32
  let arg17 : BitVec 32 := Scf.iv c0_i32_1187 c1_i32_1189 k0_t3
  let v2439 : Index := Scalar.indexCast arg17
  let c0_1602 : Index := 0#32
  let c0_1603 : Index := 0#32
  let c0_1604 : Index := 0#32
  ![v2439.toNat, 0, 0, 0]
@[reducible] def k0_t4_loop : Scf.Loop 32 :=
  let c0_i32_1255 : BitVec 32 := 0#32
  let c32_i32_1256 : BitVec 32 := 32#32
  let v2252 : BitVec 32 := Scalar.addi c0_i32_1255 c32_i32_1256
  let c1_i32_1257 : BitVec 32 := 1#32
  ⟨c0_i32_1255, v2252, c1_i32_1257⟩
def k0_off1292 (k0_t4 : Fin k0_t4_loop.trips) (c0_i32_1592 : BitVec 32) : Fin 3 → Nat :=
  let c96_i32_1591 : BitVec 32 := 96#32
  let c0_i32_1255 : BitVec 32 := 0#32
  let c1_i32_1257 : BitVec 32 := 1#32
  let arg17 : BitVec 32 := Scf.iv c0_i32_1255 c1_i32_1257 k0_t4
  let v2417 : BitVec 32 := Scalar.addi c96_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1293 (k0_t4 : Fin k0_t4_loop.trips) : Fin 4 → Nat :=
  let c0_i32_1255 : BitVec 32 := 0#32
  let c1_i32_1257 : BitVec 32 := 1#32
  let arg17 : BitVec 32 := Scf.iv c0_i32_1255 c1_i32_1257 k0_t4
  let v2439 : Index := Scalar.indexCast arg17
  let c0_1602 : Index := 0#32
  let c0_1603 : Index := 0#32
  let c0_1604 : Index := 0#32
  ![v2439.toNat, 0, 0, 0]
@[reducible] def k0_t5_loop : Scf.Loop 32 :=
  let c0_i32_1322 : BitVec 32 := 0#32
  let c32_i32_1323 : BitVec 32 := 32#32
  let v2285 : BitVec 32 := Scalar.addi c0_i32_1322 c32_i32_1323
  let c1_i32_1324 : BitVec 32 := 1#32
  ⟨c0_i32_1322, v2285, c1_i32_1324⟩
def k0_off1294 (k0_t5 : Fin k0_t5_loop.trips) (c0_i32_1592 : BitVec 32) : Fin 3 → Nat :=
  let c128_i32_1591 : BitVec 32 := 128#32
  let c0_i32_1322 : BitVec 32 := 0#32
  let c1_i32_1324 : BitVec 32 := 1#32
  let arg17 : BitVec 32 := Scf.iv c0_i32_1322 c1_i32_1324 k0_t5
  let v2417 : BitVec 32 := Scalar.addi c128_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1295 (k0_t5 : Fin k0_t5_loop.trips) : Fin 4 → Nat :=
  let c0_i32_1322 : BitVec 32 := 0#32
  let c1_i32_1324 : BitVec 32 := 1#32
  let arg17 : BitVec 32 := Scf.iv c0_i32_1322 c1_i32_1324 k0_t5
  let v2439 : Index := Scalar.indexCast arg17
  let c0_1602 : Index := 0#32
  let c0_1603 : Index := 0#32
  let c0_1604 : Index := 0#32
  ![v2439.toNat, 0, 0, 0]
@[reducible] def k0_t6_loop : Scf.Loop 32 :=
  let c0_i32_1390 : BitVec 32 := 0#32
  let c32_i32_1391 : BitVec 32 := 32#32
  let v2318 : BitVec 32 := Scalar.addi c0_i32_1390 c32_i32_1391
  let c1_i32_1392 : BitVec 32 := 1#32
  ⟨c0_i32_1390, v2318, c1_i32_1392⟩
def k0_off1296 (k0_t6 : Fin k0_t6_loop.trips) (c0_i32_1592 : BitVec 32) : Fin 3 → Nat :=
  let c160_i32_1591 : BitVec 32 := 160#32
  let c0_i32_1390 : BitVec 32 := 0#32
  let c1_i32_1392 : BitVec 32 := 1#32
  let arg17 : BitVec 32 := Scf.iv c0_i32_1390 c1_i32_1392 k0_t6
  let v2417 : BitVec 32 := Scalar.addi c160_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1297 (k0_t6 : Fin k0_t6_loop.trips) : Fin 4 → Nat :=
  let c0_i32_1390 : BitVec 32 := 0#32
  let c1_i32_1392 : BitVec 32 := 1#32
  let arg17 : BitVec 32 := Scf.iv c0_i32_1390 c1_i32_1392 k0_t6
  let v2439 : Index := Scalar.indexCast arg17
  let c0_1602 : Index := 0#32
  let c0_1603 : Index := 0#32
  let c0_1604 : Index := 0#32
  ![v2439.toNat, 0, 0, 0]
@[reducible] def k0_t7_loop : Scf.Loop 32 :=
  let c0_i32_1457 : BitVec 32 := 0#32
  let c32_i32_1458 : BitVec 32 := 32#32
  let v2351 : BitVec 32 := Scalar.addi c0_i32_1457 c32_i32_1458
  let c1_i32_1459 : BitVec 32 := 1#32
  ⟨c0_i32_1457, v2351, c1_i32_1459⟩
def k0_off1298 (k0_t7 : Fin k0_t7_loop.trips) (c0_i32_1592 : BitVec 32) : Fin 3 → Nat :=
  let c192_i32_1591 : BitVec 32 := 192#32
  let c0_i32_1457 : BitVec 32 := 0#32
  let c1_i32_1459 : BitVec 32 := 1#32
  let arg17 : BitVec 32 := Scf.iv c0_i32_1457 c1_i32_1459 k0_t7
  let v2417 : BitVec 32 := Scalar.addi c192_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1299 (k0_t7 : Fin k0_t7_loop.trips) : Fin 4 → Nat :=
  let c0_i32_1457 : BitVec 32 := 0#32
  let c1_i32_1459 : BitVec 32 := 1#32
  let arg17 : BitVec 32 := Scf.iv c0_i32_1457 c1_i32_1459 k0_t7
  let v2439 : Index := Scalar.indexCast arg17
  let c0_1602 : Index := 0#32
  let c0_1603 : Index := 0#32
  let c0_1604 : Index := 0#32
  ![v2439.toNat, 0, 0, 0]
@[reducible] def k0_t8_loop : Scf.Loop 32 :=
  let c0_i32_1524 : BitVec 32 := 0#32
  let c32_i32_1525 : BitVec 32 := 32#32
  let v2384 : BitVec 32 := Scalar.addi c0_i32_1524 c32_i32_1525
  let c1_i32_1526 : BitVec 32 := 1#32
  ⟨c0_i32_1524, v2384, c1_i32_1526⟩
def k0_off1300 (k0_t8 : Fin k0_t8_loop.trips) (c0_i32_1592 : BitVec 32) : Fin 3 → Nat :=
  let c224_i32_1591 : BitVec 32 := 224#32
  let c0_i32_1524 : BitVec 32 := 0#32
  let c1_i32_1526 : BitVec 32 := 1#32
  let arg17 : BitVec 32 := Scf.iv c0_i32_1524 c1_i32_1526 k0_t8
  let v2417 : BitVec 32 := Scalar.addi c224_i32_1591 arg17
  let v2418 : BitVec 32 := Scalar.addi v2417 c0_i32_1592
  let v2419 : Index := Scalar.indexCast v2418
  let c0_1593 : Index := 0#32
  let c0_1594 : Index := 0#32
  ![v2419.toNat, 0, 0]
def k0_off1301 (k0_t8 : Fin k0_t8_loop.trips) : Fin 4 → Nat :=
  let c0_i32_1524 : BitVec 32 := 0#32
  let c1_i32_1526 : BitVec 32 := 1#32
  let arg17 : BitVec 32 := Scf.iv c0_i32_1524 c1_i32_1526 k0_t8
  let v2439 : Index := Scalar.indexCast arg17
  let c0_1602 : Index := 0#32
  let c0_1603 : Index := 0#32
  let c0_1604 : Index := 0#32
  ![v2439.toNat, 0, 0, 0]
-- ==== ReferenceIdeal.lean ====
abbrev S4096x128x64 : Shape := ⟨3, ![4096, 128, 64]⟩
abbrev S1024x128x128 : Shape := ⟨3, ![1024, 128, 128]⟩
abbrev S1024x128 : Shape := ⟨2, ![1024, 128]⟩
abbrev S8192 : Shape := ⟨1, ![8192]⟩
abbrev S8192x1 : Shape := ⟨2, ![8192, 1]⟩
abbrev S_ : Shape := ⟨0, ![]⟩
abbrev S1 : Shape := ⟨1, ![1]⟩
abbrev S1x1 : Shape := ⟨2, ![1, 1]⟩
abbrev S8192x128x64 : Shape := ⟨3, ![8192, 128, 64]⟩
abbrev S8192x128x128 : Shape := ⟨3, ![8192, 128, 128]⟩
abbrev S8192x128 : Shape := ⟨2, ![8192, 128]⟩
abbrev S8192x128x1 : Shape := ⟨3, ![8192, 128, 1]⟩
abbrev S8192x64 : Shape := ⟨2, ![8192, 64]⟩
abbrev S8192x1x64 : Shape := ⟨3, ![8192, 1, 64]⟩
abbrev S1024x128x64 : Shape := ⟨3, ![1024, 128, 64]⟩

abbrev nBuf : Space → Nat
  | .hbm => 105
  | .vmem => 0
  | .smem => 0
  | _ => 0

abbrev bufTy : (tb : Table) → Fin (tcTables nBuf tb) → BufTy
  | .hbm, ⟨0, _⟩ => ⟨S4096x128x64, .f32⟩
  | .hbm, ⟨1, _⟩ => ⟨S1024x128x128, .f32⟩
  | .hbm, ⟨2, _⟩ => ⟨S1024x128, .f32⟩
  | .hbm, ⟨3, _⟩ => ⟨S8192, .i32⟩
  | .hbm, ⟨4, _⟩ => ⟨S8192, .i32⟩
  | .hbm, ⟨5, _⟩ => ⟨S8192x1, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S1x1, .i32⟩
  | .hbm, ⟨24, _⟩ => ⟨S8192x1, .i32⟩
  | .hbm, ⟨25, _⟩ => ⟨S8192x1, .i1⟩
  | .hbm, ⟨26, _⟩ => ⟨S8192x1, .i1⟩
  | .hbm, ⟨27, _⟩ => ⟨S_, .i1⟩
  | .hbm, ⟨28, _⟩ => ⟨S8192, .i1⟩
  | .hbm, ⟨29, _⟩ => ⟨S8192x128x64, .f32⟩
  | .hbm, ⟨30, _⟩ => ⟨S8192x128x64, .i1⟩
  | .hbm, ⟨31, _⟩ => ⟨S_, .f32⟩
  | .hbm, ⟨32, _⟩ => ⟨S8192x128x64, .f32⟩
  | .hbm, ⟨33, _⟩ => ⟨S8192x128x64, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S1, .i32⟩
  | .hbm, ⟨43, _⟩ => ⟨S_, .i32⟩
  | .hbm, ⟨44, _⟩ => ⟨S8192x1, .i32⟩
  | .hbm, ⟨45, _⟩ => ⟨S8192x1, .i1⟩
  | .hbm, ⟨46, _⟩ => ⟨S1x1, .i32⟩
  | .hbm, ⟨47, _⟩ => ⟨S8192x1, .i32⟩
  | .hbm, ⟨48, _⟩ => ⟨S8192x1, .i1⟩
  | .hbm, ⟨49, _⟩ => ⟨S8192x1, .i1⟩
  | .hbm, ⟨50, _⟩ => ⟨S_, .i1⟩
  | .hbm, ⟨51, _⟩ => ⟨S8192, .i1⟩
  | .hbm, ⟨52, _⟩ => ⟨S8192x128x128, .f32⟩
  | .hbm, ⟨53, _⟩ => ⟨S8192x128x128, .i1⟩
  | .hbm, ⟨54, _⟩ => ⟨S_, .f32⟩
  | .hbm, ⟨55, _⟩ => ⟨S8192x128x128, .f32⟩
  | .hbm, ⟨56, _⟩ => ⟨S8192x128x128, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S8192x1, .i32⟩
  | .hbm, ⟨65, _⟩ => ⟨S1, .i32⟩
  | .hbm, ⟨66, _⟩ => ⟨S_, .i32⟩
  | .hbm, ⟨67, _⟩ => ⟨S8192x1, .i32⟩
  | .hbm, ⟨68, _⟩ => ⟨S8192x1, .i1⟩
  | .hbm, ⟨69, _⟩ => ⟨S1x1, .i32⟩
  | .hbm, ⟨70, _⟩ => ⟨S8192x1, .i32⟩
  | .hbm, ⟨71, _⟩ => ⟨S8192x1, .i1⟩
  | .hbm, ⟨72, _⟩ => ⟨S8192x1, .i1⟩
  | .hbm, ⟨73, _⟩ => ⟨S_, .i1⟩
  | .hbm, ⟨74, _⟩ => ⟨S8192, .i1⟩
  | .hbm, ⟨75, _⟩ => ⟨S8192x128, .f32⟩
  | .hbm, ⟨76, _⟩ => ⟨S8192x128, .i1⟩
  | .hbm, ⟨77, _⟩ => ⟨S_, .f32⟩
  | .hbm, ⟨78, _⟩ => ⟨S8192x128, .f32⟩
  | .hbm, ⟨79, _⟩ => ⟨S8192x128, .f32⟩
  | .hbm, ⟨80, _⟩ => ⟨S8192x128x64, .f32⟩
  | .hbm, ⟨81, _⟩ => ⟨S8192x128x1, .f32⟩
  | .hbm, ⟨82, _⟩ => ⟨S8192x128x64, .f32⟩
  | .hbm, ⟨83, _⟩ => ⟨S8192x128x64, .f32⟩
  | .hbm, ⟨84, _⟩ => ⟨S8192x128x64, .f32⟩
  | .hbm, ⟨85, _⟩ => ⟨S_, .f32⟩
  | .hbm, ⟨86, _⟩ => ⟨S8192x64, .f32⟩
  | .hbm, ⟨87, _⟩ => ⟨S8192x1x64, .f32⟩
  | .hbm, ⟨88, _⟩ => ⟨S_, .f32⟩
  | .hbm, ⟨89, _⟩ => ⟨S8192x1x64, .f32⟩
  | .hbm, ⟨90, _⟩ => ⟨S8192x1x64, .f32⟩
  | .hbm, ⟨91, _⟩ => ⟨S8192x1x64, .f32⟩
  | .hbm, ⟨92, _⟩ => ⟨S8192x128x64, .f32⟩
  | .hbm, ⟨93, _⟩ => ⟨S8192x128x64, .f32⟩
  | .hbm, ⟨94, _⟩ => ⟨S_, .f32⟩
  | .hbm, ⟨95, _⟩ => ⟨S1024x128x64, .f32⟩
  | .hbm, ⟨96, _⟩ => ⟨S_, .i32⟩
  | .hbm, ⟨97, _⟩ => ⟨S8192, .i32⟩
  | .hbm, ⟨98, _⟩ => ⟨S8192, .i1⟩
  | .hbm, ⟨99, _⟩ => ⟨S_, .i32⟩
  | .hbm, ⟨100, _⟩ => ⟨S8192, .i32⟩
  | .hbm, ⟨101, _⟩ => ⟨S8192, .i32⟩
  | .hbm, ⟨102, _⟩ => ⟨S8192, .i32⟩
  | .hbm, ⟨103, _⟩ => ⟨S8192x1, .i32⟩
  | .hbm, ⟨104, _⟩ => ⟨S1024x128x64, .f32⟩
  | _, _ => ⟨S4096x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_cst : Ref sig .tc := ⟨.hbm, 85, rfl⟩
abbrev main_v12 : Ref sig .tc := ⟨.hbm, 86, rfl⟩
abbrev main_v13 : Ref sig .tc := ⟨.hbm, 87, rfl⟩
abbrev main_cst_0 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_cst_1 : Ref sig .tc := ⟨.hbm, 94, rfl⟩
abbrev main_v19 : Ref sig .tc := ⟨.hbm, 95, rfl⟩
abbrev main_c_2 : Ref sig .tc := ⟨.hbm, 96, rfl⟩
abbrev main_v20 : Ref sig .tc := ⟨.hbm, 97, rfl⟩
abbrev main_v21 : Ref sig .tc := ⟨.hbm, 98, rfl⟩
abbrev main_c_3 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩

abbrev nD : Nat := 1
abbrev τ : Topo := Topo.v7x

variable {F : FTy → Type} [FloatOps F]
-- ==== Proof.Base.lean ====
/-
  Set-up of the certificate: the resource algebra, and one OPERAND of the ring — an array of rows read by the
  transfers, a buffer of 3 slots of 64 windows written by them — with what is held of it while one slot's 64
  transfers are being issued.
-/
module

public import proofs.«01_k».proof.Kernel
public import Idealize.ShloMosaic.Lib.Pipeline.Sound
public import Idealize.ShloMosaic.Lib.Pipeline.Kit
public import Idealize.ShloMosaic.Lib.Batch
public import Idealize.ShloMosaic.Lib.ValueLayout

@[expose] public section

noncomputable section

namespace Cert.Proof

open Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

/-- The proof's resources: the pipeline library's, and the counters the transfers' batches are kept in. -/
abbrev UU (nD : Nat) (τ : Topo) : Type := UR sig nD τ × Counters

local notation "𝕄" => MT nD τ sig Unit (Elt F) ℕ (UU nD τ) ℕ

abbrev EP : Emb (UR sig nD τ) (MT nD τ sig Unit (Elt F) ℕ (UU nD τ) ℕ) := embL
abbrev EC : UEmb Counters (MT nD τ sig Unit (Elt F) ℕ (UU nD τ) ℕ) := countersEmb

/-- The kernel makes no calls. -/
abbrev 𝒱₀ : Variants := Variants.none

section Operand

variable {R m n : ℕ} {e : EltTy} (c : Dev nD)
  (src : Memref sig .tc .hbm ⟨3, ![R, m, n]⟩ e) (dst : Memref sig .tc .vmem ⟨4, ![3, 64, m, n]⟩ e)

/-- The elements of window `k` of slot `s`. -/
def cellSet (s k : ℕ) : Finset (dst.view.ty.Idx) :=
  (Finset.univ.filter fun i : (⟨4, ![3, 64, m, n]⟩ : Shape).Idx => (i 0).val = s ∧ (i 1).val = k).map dst.view.emb

/-- What transfer `k` of a slot is started from: its window at any contents, a read share of the array. -/
def Rres (s : ℕ) (q : PosShare TreeShare) (A : Buf (Elt F) (src.view.loc (c : Thread nD τ))) (k : Fin 64) : sProp 𝕄 :=
  iprop((∃ f : Buf (Elt F) (dst.view.loc (c : Thread nD τ)), (dst.view.loc (c : Thread nD τ)) ↦[cellSet dst s k.val]{fullShare} f)
    ∗ (src.view.loc (c : Thread nD τ)) ↦{shareTok q 64 k} A)

/-- What it delivers: its window at `fl`, and the share back. -/
def Dres (s : ℕ) (q : PosShare TreeShare) (A : Buf (Elt F) (src.view.loc (c : Thread nD τ)))
    (fl : Buf (Elt F) (dst.view.loc (c : Thread nD τ))) (k : Fin 64) : sProp 𝕄 :=
  iprop(((dst.view.loc (c : Thread nD τ)) ↦[cellSet dst s k.val]{fullShare} fl)
    ∗ (src.view.loc (c : Thread nD τ)) ↦{shareTok q 64 k} A)

instance Dres_storable (s : ℕ) (q : PosShare TreeShare) (A : Buf (Elt F) (src.view.loc (c : Thread nD τ)))
    (fl : Buf (Elt F) (dst.view.loc (c : Thread nD τ))) (k : Fin 64) :
    Storable (upEmb : UEmb _ 𝕄) (Dres c src dst s q A fl k) := by
  unfold Dres; infer_instance

/-- `j` of the slot's 64 transfers started on the semaphore `sm`, each of `N` units; the rest not. -/
def Iss (sm : DmaSem sig) (N : ℕ) (s : ℕ) (q : PosShare TreeShare) (A : Buf (Elt F) (src.view.loc (c : Thread nD τ)))
    (fl : Buf (Elt F) (dst.view.loc (c : Thread nD τ))) (j : ℕ) : sProp 𝕄 :=
  iprop(Batch EC (c : Thread nD τ) (.dma sm) () N (Dres c src dst s q A fl) j 0
    ∗ bigSep (pending j) (Rres c src dst s q A))

/-- The view of window `k` of slot `s`, as the transfers name it. -/
abbrev winM (o : Fin 4 → ℕ) (inb : ∀ a, o a + (![1, 1, m, n] : Fin 4 → ℕ) a ≤ (![3, 64, m, n] : Fin 4 → ℕ) a)
    (h : ∀ a, (Rect.unit (s := ⟨4, ![3, 64, m, n]⟩) o ![1, 1, m, n] inb).stride a = 1)
    (sq : (⟨4, ![1, 1, m, n]⟩ : Shape).Squeezes ⟨2, ![m, n]⟩) : Memref sig .tc .vmem ⟨2, ![m, n]⟩ e :=
  (dst.slice (Rect.unit (s := ⟨4, ![3, 64, m, n]⟩) o ![1, 1, m, n] inb) h).squeeze ⟨2, ![m, n]⟩ sq

/-- The view of one row of the array. -/
abbrev rowM (o : Fin 3 → ℕ) (inb : ∀ a, o a + (![1, m, n] : Fin 3 → ℕ) a ≤ (![R, m, n] : Fin 3 → ℕ) a)
    (h : ∀ a, (Rect.unit (s := ⟨3, ![R, m, n]⟩) o ![1, m, n] inb).stride a = 1)
    (sq : (⟨3, ![1, m, n]⟩ : Shape).Squeezes ⟨2, ![m, n]⟩) : Memref sig .tc .hbm ⟨2, ![m, n]⟩ e :=
  (src.slice (Rect.unit (s := ⟨3, ![R, m, n]⟩) o ![1, m, n] inb) h).squeeze ⟨2, ![m, n]⟩ sq

theorem winM_emb (s k : ℕ) (hs : s < 3) (hk : k < 64) (inb h sq) (x : Fin m) (y : Fin n) :
    (winM dst ![s, k, 0, 0] inb h sq).view.emb (ix2 x y) = dst.view.emb (ix4 ⟨s, hs⟩ ⟨k, hk⟩ x y) := by
  show dst.view.emb (Rect.emb _ (Shape.reshapeEquiv _ (ix2 x y))) = _
  refine congrArg dst.view.emb ?_
  rw [reshapeEquiv_ix2_11ab]
  funext a
  refine Fin.ext ?_
  rw [Rect.emb_apply]
  match a with
  | ⟨0, _⟩ => simp [Rect.unit]
  | ⟨1, _⟩ => simp [Rect.unit]
  | ⟨2, _⟩ => simp [Rect.unit]
  | ⟨3, _⟩ => simp [Rect.unit]

theorem rowM_emb (r : ℕ) (hr : r < R) (inb h sq) (x : Fin m) (y : Fin n) :
    (rowM src ![r, 0, 0] inb h sq).view.emb (ix2 x y) = src.view.emb (ix3 ⟨r, hr⟩ x y) := by
  show src.view.emb (Rect.emb _ (Shape.reshapeEquiv _ (ix2 x y))) = _
  refine congrArg src.view.emb ?_
  rw [reshapeEquiv_ix2_1ab]
  funext a
  refine Fin.ext ?_
  rw [Rect.emb_apply]
  match a with
  | ⟨0, _⟩ => simp [Rect.unit]
  | ⟨1, _⟩ => simp [Rect.unit]
  | ⟨2, _⟩ => simp [Rect.unit]

theorem winM_set (s k : ℕ) (hs : s < 3) (hk : k < 64) (inb h sq) :
    (winM dst ![s, k, 0, 0] inb h sq).view.set = cellSet dst s k := by
  ext i
  simp only [View.set, cellSet, Finset.mem_map, Finset.mem_univ, true_and, Finset.mem_filter]
  constructor
  · rintro ⟨j, rfl⟩
    rw [eq_ix2 j]
    exact ⟨_, ⟨rfl, rfl⟩, (winM_emb dst s k hs hk inb h sq _ _).symm⟩
  · rintro ⟨j, ⟨h0, h1⟩, rfl⟩
    refine ⟨ix2 (n0 := m) (n1 := n) (j 2) (j 3), (winM_emb dst s k hs hk inb h sq _ _).trans (congrArg dst.view.emb ?_)⟩
    rw [eq_ix4 j]
    congr 1
    · exact Fin.ext h0.symm
    · exact Fin.ext h1.symm

/-- A row landed in its window is the window of `fl`, when `fl` holds that row there. -/
theorem win_landed (s k r : ℕ) (hs : s < 3) (hk : k < 64) (hr : r < R) (inb h sq inb' h' sq')
    (A : Buf (Elt F) (src.view.loc (c : Thread nD τ))) (f fl : Buf (Elt F) (dst.view.loc (c : Thread nD τ)))
    (hfl : ∀ (x : Fin m) (y : Fin n), dst.view.read (Elt F) fl (ix4 ⟨s, hs⟩ ⟨k, hk⟩ x y) = src.view.read (Elt F) A (ix3 ⟨r, hr⟩ x y)) :
    ∀ i ∈ cellSet dst s k,
      (winM dst ![s, k, 0, 0] inb h sq).view.write (Elt F) f ((rowM src ![r, 0, 0] inb' h' sq').view.read (Elt F) A) Finset.univ i = fl i := by
  intro i hi
  rw [← winM_set dst s k hs hk inb h sq] at hi
  obtain ⟨j, -, rfl⟩ := Finset.mem_map.1 hi
  rw [View.write_emb_of_mem _ _ (Finset.mem_univ j)]
  obtain ⟨x, y, rfl⟩ : ∃ x y, j = ix2 x y := ⟨_, _, eq_ix2 j⟩
  have h1 := hfl x y
  rw [View.read_apply, View.read_apply] at h1
  rw [View.read_apply, rowM_emb src r hr]
  refine eq_of_heq ((cast_heq _ _).trans ((cast_heq _ _).trans ?_))
  have h2 := heq_of_eq h1
  refine ((cast_heq _ _).symm.trans (h2.symm.trans (cast_heq _ _))).trans ?_
  rw [winM_emb dst s k hs hk]

variable {α : Type} {Q : α → sProp (MT nD τ sig Unit (Elt F) ℕ (UU nD τ) ℕ)}

/-- One transfer of the slot started: from `j` started to `j + 1`. -/
theorem iss_step {sm : DmaSem sig} {N s j r : ℕ} (q : PosShare TreeShare) {A : Buf (Elt F) (src.view.loc (c : Thread nD τ))}
    {fl : Buf (Elt F) (dst.view.loc (c : Thread nD τ))} (hs : s < 3) (hj : j < 64) (hr : r < R)
    (hfl : ∀ (x : Fin m) (y : Fin n), dst.view.read (Elt F) fl (ix4 ⟨s, hs⟩ ⟨j, hj⟩ x y) = src.view.read (Elt F) A (ix3 ⟨r, hr⟩ x y))
    {inb : ∀ a, (![s, j, 0, 0] : Fin 4 → ℕ) a + (![1, 1, m, n] : Fin 4 → ℕ) a ≤ (![3, 64, m, n] : Fin 4 → ℕ) a}
    {h : ∀ a, (Rect.unit (s := ⟨4, ![3, 64, m, n]⟩) ![s, j, 0, 0] ![1, 1, m, n] inb).stride a = 1}
    {sq : (⟨4, ![1, 1, m, n]⟩ : Shape).Squeezes ⟨2, ![m, n]⟩}
    {inb' : ∀ a, (![r, 0, 0] : Fin 3 → ℕ) a + (![1, m, n] : Fin 3 → ℕ) a ≤ (![R, m, n] : Fin 3 → ℕ) a}
    {h' : ∀ a, (Rect.unit (s := ⟨3, ![R, m, n]⟩) ![r, 0, 0] ![1, m, n] inb').stride a = 1}
    {sq' : (⟨3, ![1, m, n]⟩ : Shape).Squeezes ⟨2, ![m, n]⟩}
    {hsrc : (rowM src ![r, 0, 0] inb' h' sq').view.WordExact} {hdst : (winM dst ![s, j, 0, 0] inb h sq).view.WordExact}
    {hsem : (DmaTarget.here (winM dst ![s, j, 0, 0] inb h sq) : DmaTarget nD τ sig (c : Thread nD τ).2 .vmem ⟨2, ![m, n]⟩ e).Typed .hbm (.dma sm)}
    (hN : (winM dst ![s, j, 0, 0] inb h sq).view.amount (.dma sm) = N)
    {k : PUnit → Prog (TpuEff nD τ sig (Elt F) Λ₀ .tc) α} :
    iprop(Iss c src dst sm N s q A fl j)
      ⊢ iprop((Iss c src dst sm N s q A fl (j + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (rowM src ![r, 0, 0] inb' h' sq') (.here (winM dst ![s, j, 0, 0] inb h sq)) (.dma sm) hsrc hdst hsem) k) Q) := by
  unfold Iss Batch
  iintro ⟨⟨%γ, %γ₀, %κ, #Hinv, HI, H0, Hcred⟩, HR⟩ Hk
  ihave HI' := (show bigSep (pending j) (fun t => count EC (γ t) 0) ⊢ iprop(count EC (γ ⟨j, hj⟩) 0 ∗ bigSep (pending (j + 1)) (fun t => count EC (γ t) 0))
    from Entails.of_eq (bigSep_pending_step _ j hj)) $$ HI
  icases HI' with ⟨Ht, HI⟩
  ihave HR' := (show bigSep (pending j) (Rres c src dst s q A) ⊢ iprop(Rres c src dst s q A ⟨j, hj⟩ ∗ bigSep (pending (j + 1)) (Rres c src dst s q A))
    from Entails.of_eq (bigSep_pending_step _ j hj)) $$ HR
  icases HR' with ⟨HRj, HR⟩
  ihave HRj' := (show Rres c src dst s q A ⟨j, hj⟩ ⊢ iprop((∃ f : Buf (Elt F) (dst.view.loc (c : Thread nD τ)), (dst.view.loc (c : Thread nD τ)) ↦[cellSet dst s j]{fullShare} f)
      ∗ ((src.view.loc (c : Thread nD τ)) ↦[(rowM src ![r, 0, 0] inb' h' sq').view.set]{shareTok q 64 ⟨j, hj⟩} A)
      ∗ ((src.view.loc (c : Thread nD τ)) ↦[Finset.univ \ (rowM src ![r, 0, 0] inb' h' sq').view.set]{shareTok q 64 ⟨j, hj⟩} A)) from by
        unfold Rres
        exact sep_mono_right (pointsTo_split_subset (Finset.subset_univ _)).1) $$ HRj
  icases HRj' with ⟨⟨%f, Hd⟩, Hs, Hrest⟩
  iapply (wp_enqueueDma 𝒱₀ (c : Thread nD τ) none Set.univ () N hN) $$ [Hs Hd] [Ht Hrest]
  · isplitl [Hs]; · iexact Hs
    iapply (pointsTo_writeUpdate (c : Thread nD τ) (winM_set dst s j hs hj inb h sq).subset) $$ Hd
  · iapply (batch_creditUpdate_with EC (D := Dres c src dst s q A fl) ⟨j, hj⟩
      (put := iprop((src.view.loc (c : Thread nD τ)) ↦[Finset.univ \ (rowM src ![r, 0, 0] inb' h' sq').view.set]{shareTok q 64 ⟨j, hj⟩} A)) (by
        unfold Dres
        iintro ⟨Hrest, Hd, Hs⟩
        isplitl [Hd]
        · iapply (Entails.of_eq (pointsTo_congr (win_landed c src dst s j r hs hj hr inb h sq inb' h' sq' A f fl hfl))) $$ Hd
        · iapply (pointsTo_split_subset (Finset.subset_univ (rowM src ![r, 0, 0] inb' h' sq').view.set)).2
          isplitl [Hs] <;> iassumption))
    isplitr; · iexact Hinv
    isplitl [Ht] <;> iassumption
  iintro Hcred'
  iapply Hk
  isplitl [HI H0 Hcred Hcred']
  · iexists γ, γ₀, κ
    isplitr; · iexact Hinv
    isplitl [HI]; · iexact HI
    isplitl [H0]; · iexact H0
    rw [show (j + 1) * N - 0 = (j * N - 0) + N by rw [Nat.succ_mul]; omega, ← tallyAt_add]
    icombine Hcred Hcred' as H
    iexact H
  · iexact HR

end Operand

end Cert.Proof

end
-- ==== Proof.Step.lean ====
/-
  The kernel's operands, and its statements stepped one at a time: a table's word read, a side condition met, one
  transfer of a slot started. The state is one proposition, `St`: the tables, the three operands' slots with so many
  transfers started, and whatever else is kept.
-/
module

public import proofs.«01_k».proof.Proof.Base

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

/-- The contents the body reads: the three tables of 8192 words, and the three arrays of rows. -/
structure Env (F : FTy → Type) [FloatOps F] where
  t1 : (main_v3 : Ref sig .tc).ty.Contents (Elt F)
  t2 : (main_arg4 : Ref sig .tc).ty.Contents (Elt F)
  t3 : (main_arg3 : Ref sig .tc).ty.Contents (Elt F)
  a0 : (main_arg0 : Ref sig .tc).ty.Contents (Elt F)
  a4 : (main_v4 : Ref sig .tc).ty.Contents (Elt F)
  a5 : (main_v5 : Ref sig .tc).ty.Contents (Elt F)

/-- Word `u` of a table. -/
def word (t : S8192.Idx → BitVec 32) (u : ℕ) : BitVec 32 := if h : u < 8192 then t (ix1 ⟨u, h⟩) else 0#32

namespace Env
variable (E : Env F)

/-- The row of the states operation `u` reads, its symbol, and the row of the result it adds to. -/
def i1 (u : ℕ) : BitVec 32 := word E.t1 u
def i2 (u : ℕ) : BitVec 32 := word E.t2 u
def i3 (u : ℕ) : BitVec 32 := word E.t3 u

/-- Every word of a table names a row. -/
structure Ok : Prop where
  h1 : ∀ u, (E.i1 u).toNat < 4096
  h2 : ∀ u, (E.i2 u).toNat < 1024
  h3 : ∀ u, (E.i3 u).toNat < 1024

/-- The three buffers with block `b`'s rows in every slot. -/
def fx (b : ℕ) : (cc0_scratch1 : Ref sig .tc).ty.Contents (Elt F) := fun i =>
  E.a0 (ix3 (n0 := 4096) (n1 := 128) (n2 := 64) ⟨(E.i1 (64 * b + (i 1).val)).toNat % 4096, Nat.mod_lt _ (by decide)⟩ (i 2) (i 3))
def fw (b : ℕ) : (cc0_scratch2 : Ref sig .tc).ty.Contents (Elt F) := fun i =>
  E.a4 (ix3 (n0 := 1024) (n1 := 128) (n2 := 128) ⟨(E.i2 (64 * b + (i 1).val)).toNat % 1024, Nat.mod_lt _ (by decide)⟩ (i 2) (i 3))
def fb (b : ℕ) : (cc0_scratch3 : Ref sig .tc).ty.Contents (Elt F) := fun i =>
  E.a5 (ix3 (n0 := 1024) (n1 := 1) (n2 := 128) ⟨(E.i2 (64 * b + (i 1).val)).toNat % 1024, Nat.mod_lt _ (by decide)⟩ (i 2) (i 3))
end Env

theorem inbS3 (s : ℕ) (hs : s < 3) : ∀ a, (![s] : Fin 1 → ℕ) a + S1.size a ≤ S3.size a := by
  intro a; fin_cases a; exact hs

/-- Slot `s`'s semaphore of an array of three. -/
def semOf (A : DmaSems sig S3) (s : ℕ) (hs : s < 3) : DmaSem sig :=
  ((A.slice (Rect.unit (s := S3) ![s] S1.size (inbS3 s hs))).squeeze S_ squeezes_S1_S_).sem

abbrev MX : Memref sig .tc .hbm ⟨3, ![4096, 128, 64]⟩ .f32 := Memref.whole main_arg0
abbrev MW : Memref sig .tc .hbm ⟨3, ![1024, 128, 128]⟩ .bf16 := Memref.whole main_v4
abbrev MB : Memref sig .tc .hbm ⟨3, ![1024, 1, 128]⟩ .f32 := Memref.whole main_v5
abbrev BX : Memref sig .tc .vmem ⟨4, ![3, 64, 128, 64]⟩ .f32 := Memref.whole cc0_scratch1
abbrev BW : Memref sig .tc .vmem ⟨4, ![3, 64, 128, 128]⟩ .bf16 := Memref.whole cc0_scratch2
abbrev BB : Memref sig .tc .vmem ⟨4, ![3, 64, 1, 128]⟩ .f32 := Memref.whole cc0_scratch3

/-- What one transfer of each operand credits. -/
def NX : ℕ := sig.dmaCredit .tc (Kind.table .tc .vmem) (View.whole cc0_scratch1).buf ⟨2, ![128, 64]⟩ .f32
def NW : ℕ := sig.dmaCredit .tc (Kind.table .tc .vmem) (View.whole cc0_scratch2).buf ⟨2, ![128, 128]⟩ .bf16
def NB : ℕ := sig.dmaCredit .tc (Kind.table .tc .vmem) (View.whole cc0_scratch3).buf ⟨2, ![1, 128]⟩ .f32

section

variable (c : Dev nD) (E : Env F)

/-- The three tables, held at the read share the launch leaves. -/
def Tabs : sProp 𝕄 :=
  iprop((((c : Thread nD τ).loc main_v3) ↦{fullShare.right} E.t1) ∗ (((c : Thread nD τ).loc main_arg4) ↦{fullShare.right} E.t2)
    ∗ (((c : Thread nD τ).loc main_arg3) ↦{fullShare.right} E.t3))

/-- Slot `s`'s share of an array of rows. -/
abbrev slotShare (s : ℕ) : PosShare TreeShare := shareTokN fullShare s

def IX (s : ℕ) (hs : s < 3) (b j : ℕ) : sProp 𝕄 := Iss c MX BX (semOf cc0_scratch5 s hs) NX s (slotShare s) E.a0 (E.fx b) j
def IW (s : ℕ) (hs : s < 3) (b j : ℕ) : sProp 𝕄 := Iss c MW BW (semOf cc0_scratch6 s hs) NW s (slotShare s) E.a4 (E.fw b) j
def IB (s : ℕ) (hs : s < 3) (b j : ℕ) : sProp 𝕄 := Iss c MB BB (semOf cc0_scratch7 s hs) NB s (slotShare s) E.a5 (E.fb b) j

/-- The state while block `b` is being fetched into slot `s`: `jx`, `jw`, `jb` transfers of each operand started. -/
def St (s : ℕ) (hs : s < 3) (b jx jw jb : ℕ) (P : sProp 𝕄) : sProp 𝕄 :=
  iprop(Tabs c E ∗ IX c E s hs b jx ∗ IW c E s hs b jw ∗ IB c E s hs b jb ∗ P)

variable {α : Type} {Q : α → sProp (MT nD τ sig Unit (Elt F) ℕ (UU nD τ) ℕ)}

/-- The weakest precondition the body's statements are stepped under. -/
abbrev WP (p : Prog (TpuEff nD τ sig (Elt F) Λ₀ .tc) α) (Q : α → sProp (MT nD τ sig Unit (Elt F) ℕ (UU nD τ) ℕ)) : sProp (MT nD τ sig Unit (Elt F) ℕ (UU nD τ) ℕ) :=
  wp frame (wpE (defs₀ (F := F)) 𝒱₀ (c : Thread nD τ) none) Set.univ p Q

/-- What a load of one word of a table of 8192 words reads. -/
theorem readAt_word (b : Memref sig .tc .smem S8192 .i32) (f : Buf (Elt F) (b.view.loc (c : Thread nD τ))) (t : S8192.Idx → BitVec 32)
    (hf : ∀ j, b.view.read (Elt F) f j = t j) (u : ℕ) (inb : ∀ a, (![u] : Fin 1 → ℕ) a + S1.size a ≤ S8192.size a) :
    b.view.readAt (Elt F) (Rect.unit (s := S8192) ![u] S1.size inb).toLoadRect f = fun _ => word t u := by
  have hlt : u < 8192 := inb 0
  funext x
  rw [View.readAt_apply, hf]
  unfold word
  rw [dif_pos hlt]
  refine congrArg t ?_
  funext a
  refine Fin.ext ?_
  match a, x with
  | ⟨0, _⟩, x =>
    have : (x 0).val = 0 := Nat.lt_one_iff.1 (x 0).isLt
    show u + 1 * (x 0).val = u
    omega

/-- A word of the first table read. -/
theorem ld1_step {P : sProp 𝕄} {prog : Prog (TpuEff nD τ sig (Elt F) Λ₀ .tc) α} {off : Fin 1 → ℕ} {inb hl k} (u : ℕ)
    (hp : prog = .op (.load (Memref.whole main_v3) (Rect.unit (s := S8192) off S1.size inb).toLoadRect hl) k)
    (hu : off = ![u]) (h : iprop(Tabs c E ∗ P) ⊢ WP c (k (fun _ => E.i1 u)) Q) : iprop(Tabs c E ∗ P) ⊢ WP c prog Q := by
  subst hp hu
  have hv := readAt_word c (Memref.whole main_v3) E.t1 E.t1 (fun _ => rfl) u inb
  unfold Tabs at h ⊢
  iintro ⟨⟨H1, H2, H3⟩, HP⟩
  iapply (wp_load 𝒱₀ (c : Thread nD τ) none Set.univ (m := (Memref.whole main_v3 : Memref sig .tc .smem S8192 .i32)) (f := E.t1) (q := fullShare.right) (S := Finset.univ) (Finset.subset_univ _)) $$ H1
  iintro H1
  rw [hv]
  iapply h
  isplitr [HP]
  · isplitl [H1]; · iexact H1
    isplitl [H2] <;> iassumption
  · iexact HP

/-- A word of the second. -/
theorem ld2_step {P : sProp 𝕄} {prog : Prog (TpuEff nD τ sig (Elt F) Λ₀ .tc) α} {off : Fin 1 → ℕ} {inb hl k} (u : ℕ)
    (hp : prog = .op (.load (Memref.whole main_arg4) (Rect.unit (s := S8192) off S1.size inb).toLoadRect hl) k)
    (hu : off = ![u]) (h : iprop(Tabs c E ∗ P) ⊢ WP c (k (fun _ => E.i2 u)) Q) : iprop(Tabs c E ∗ P) ⊢ WP c prog Q := by
  subst hp hu
  have hv := readAt_word c (Memref.whole main_arg4) E.t2 E.t2 (fun _ => rfl) u inb
  unfold Tabs at h ⊢
  iintro ⟨⟨H1, H2, H3⟩, HP⟩
  iapply (wp_load 𝒱₀ (c : Thread nD τ) none Set.univ (m := (Memref.whole main_arg4 : Memref sig .tc .smem S8192 .i32)) (f := E.t2) (q := fullShare.right) (S := Finset.univ) (Finset.subset_univ _)) $$ H2
  iintro H2
  rw [hv]
  iapply h
  isplitr [HP]
  · isplitl [H1]; · iexact H1
    isplitl [H2] <;> iassumption
  · iexact HP

/-- A word of the third. -/
theorem ld3_step {P : sProp 𝕄} {prog : Prog (TpuEff nD τ sig (Elt F) Λ₀ .tc) α} {off : Fin 1 → ℕ} {inb hl k} (u : ℕ)
    (hp : prog = .op (.load (Memref.whole main_arg3) (Rect.unit (s := S8192) off S1.size inb).toLoadRect hl) k)
    (hu : off = ![u]) (h : iprop(Tabs c E ∗ P) ⊢ WP c (k (fun _ => E.i3 u)) Q) : iprop(Tabs c E ∗ P) ⊢ WP c prog Q := by
  subst hp hu
  have hv := readAt_word c (Memref.whole main_arg3) E.t3 E.t3 (fun _ => rfl) u inb
  unfold Tabs at h ⊢
  iintro ⟨⟨H1, H2, H3⟩, HP⟩
  iapply (wp_load 𝒱₀ (c : Thread nD τ) none Set.univ (m := (Memref.whole main_arg3 : Memref sig .tc .smem S8192 .i32)) (f := E.t3) (q := fullShare.right) (S := Finset.univ) (Finset.subset_univ _)) $$ H3
  iintro H3
  rw [hv]
  iapply h
  isplitr [HP]
  · isplitl [H1]; · iexact H1
    isplitl [H2] <;> iassumption
  · iexact HP

/-- A side condition that holds passed. -/
theorem as_step {P : sProp 𝕄} {prog : Prog (TpuEff nD τ sig (Elt F) Λ₀ .tc) α} {A : Prop} {d : Decidable A} {k}
    (hp : prog = .op (.assume A d) k) (hA : A) (h : P ⊢ WP c (k ⟨hA⟩) Q) : P ⊢ WP c prog Q := by
  subst hp
  exact BIBase.Entails.trans h (wp_assume 𝒱₀ (c : Thread nD τ) none Set.univ hA)

/-- Row `r` of an array of `R`. -/
theorem inb3 {R m n r : ℕ} (hr : r < R) : ∀ a, (![r, 0, 0] : Fin 3 → ℕ) a + (![1, m, n] : Fin 3 → ℕ) a ≤ (![R, m, n] : Fin 3 → ℕ) a := by
  intro a; fin_cases a
  · exact hr
  · exact (Nat.zero_add m).le
  · exact (Nat.zero_add n).le

/-- A row of an array of 128-wide rows is whole words. -/
theorem words3 {r : ℕ} (inb : ∀ a, (![r, 0, 0] : Fin 3 → ℕ) a + S1x128x128.size a ≤ S1024x128x128.size a) :
    (Rect.unit (s := S1024x128x128) ![r, 0, 0] S1x128x128.size inb).WholeWords (EltTy.packing .bf16) :=
  Or.inr ⟨by decide, rfl, rfl, rfl⟩

variable {s : ℕ} {hs : s < 3} {b jx jw jb : ℕ} {P : sProp (MT nD τ sig Unit (Elt F) ℕ (UU nD τ) ℕ)}

/-- A row of the states on its way into window `jx`. -/
theorem dx_step (hok : E.Ok) {prog : Prog (TpuEff nD τ sig (Elt F) Λ₀ .tc) α} {os : Fin 1 → ℕ} {o3 : Fin 3 → ℕ} {o4 : Fin 4 → ℕ}
    {inb1 inb3 inb4 h3 h4 q3 q4 hsrc hdst hsem k}
    (hp : prog = .op (.enqueueDma
      (((Memref.whole main_arg0).slice (Rect.unit (s := S4096x128x64) o3 S1x128x64.size inb3) h3).squeeze S128x64 q3)
      (.here (((Memref.whole cc0_scratch1).slice (Rect.unit (s := S3x64x128x64) o4 S1x1x128x64.size inb4) h4).squeeze S128x64 q4))
      (.dma ((cc0_scratch5.slice (Rect.unit (s := S3) os S1.size inb1)).squeeze S_ squeezes_S1_S_).sem) hsrc hdst hsem) k)
    (hj : jx < 64) (h1 : os = ![s]) (h4' : o4 = ![s, jx, 0, 0]) (h3' : o3 = ![(E.i1 (64 * b + jx)).toNat, 0, 0])
    (h : St c E s hs b (jx + 1) jw jb P ⊢ WP c (k ⟨⟩) Q) : St c E s hs b jx jw jb P ⊢ WP c prog Q := by
  subst hp h1 h4' h3'
  unfold St IX at h ⊢
  iintro ⟨HT, HX, HW, HB, HP⟩
  iapply (iss_step (sm := semOf cc0_scratch5 s hs) (N := NX) (A := E.a0) (fl := E.fx b) c MX BX (slotShare s) hs hj (hok.h1 _) (fun x y => by
    show E.a0 (ix3 _ _ _) = E.a0 (ix3 _ _ _)
    congr 2
    exact Fin.ext (Nat.mod_eq_of_lt (hok.h1 _))) rfl) $$ HX
  iintro HX
  iapply h
  isplitl [HT]; · iexact HT
  isplitl [HX]; · iexact HX
  isplitl [HW]; · iexact HW
  isplitl [HB] <;> iassumption

/-- A weight matrix on its way into window `jw`. -/
theorem dw_step (hok : E.Ok) {prog : Prog (TpuEff nD τ sig (Elt F) Λ₀ .tc) α} {os : Fin 1 → ℕ} {o3 : Fin 3 → ℕ} {o4 : Fin 4 → ℕ}
    {inb1 inb3 inb4 h3 h4 q3 q4 hsrc hdst hsem k}
    (hp : prog = .op (.enqueueDma
      (((Memref.whole main_v4).slice (Rect.unit (s := S1024x128x128) o3 S1x128x128.size inb3) h3).squeeze S128x128 q3)
      (.here (((Memref.whole cc0_scratch2).slice (Rect.unit (s := S3x64x128x128) o4 S1x1x128x128.size inb4) h4).squeeze S128x128 q4))
      (.dma ((cc0_scratch6.slice (Rect.unit (s := S3) os S1.size inb1)).squeeze S_ squeezes_S1_S_).sem) hsrc hdst hsem) k)
    (hj : jw < 64) (h1 : os = ![s]) (h4' : o4 = ![s, jw, 0, 0]) (h3' : o3 = ![(E.i2 (64 * b + jw)).toNat, 0, 0])
    (h : St c E s hs b jx (jw + 1) jb P ⊢ WP c (k ⟨⟩) Q) : St c E s hs b jx jw jb P ⊢ WP c prog Q := by
  subst hp h1 h4' h3'
  unfold St IW at h ⊢
  iintro ⟨HT, HX, HW, HB, HP⟩
  iapply (iss_step (sm := semOf cc0_scratch6 s hs) (N := NW) (A := E.a4) (fl := E.fw b) c MW BW (slotShare s) hs hj (hok.h2 _) (fun x y => by
    show E.a4 (ix3 _ _ _) = E.a4 (ix3 _ _ _)
    congr 2
    exact Fin.ext (Nat.mod_eq_of_lt (hok.h2 _))) rfl) $$ HW
  iintro HW
  iapply h
  isplitl [HT]; · iexact HT
  isplitl [HX]; · iexact HX
  isplitl [HW]; · iexact HW
  isplitl [HB] <;> iassumption

/-- A bias row on its way into window `jb`. -/
theorem db_step (hok : E.Ok) {prog : Prog (TpuEff nD τ sig (Elt F) Λ₀ .tc) α} {os : Fin 1 → ℕ} {o3 : Fin 3 → ℕ} {o4 : Fin 4 → ℕ}
    {inb1 inb3 inb4 h3 h4 q3 q4 hsrc hdst hsem k}
    (hp : prog = .op (.enqueueDma
      (((Memref.whole main_v5).slice (Rect.unit (s := S1024x1x128) o3 S1x1x128.size inb3) h3).squeeze S1x128 q3)
      (.here (((Memref.whole cc0_scratch3).slice (Rect.unit (s := S3x64x1x128) o4 S1x1x1x128.size inb4) h4).squeeze S1x128 q4))
      (.dma ((cc0_scratch7.slice (Rect.unit (s := S3) os S1.size inb1)).squeeze S_ squeezes_S1_S_).sem) hsrc hdst hsem) k)
    (hj : jb < 64) (h1 : os = ![s]) (h4' : o4 = ![s, jb, 0, 0]) (h3' : o3 = ![(E.i2 (64 * b + jb)).toNat, 0, 0])
    (h : St c E s hs b jx jw (jb + 1) P ⊢ WP c (k ⟨⟩) Q) : St c E s hs b jx jw jb P ⊢ WP c prog Q := by
  subst hp h1 h4' h3'
  unfold St IB at h ⊢
  iintro ⟨HT, HX, HW, HB, HP⟩
  iapply (iss_step (sm := semOf cc0_scratch7 s hs) (N := NB) (A := E.a5) (fl := E.fb b) c MB BB (slotShare s) hs hj (hok.h2 _) (fun x y => by
    show E.a5 (ix3 _ _ _) = E.a5 (ix3 _ _ _)
    congr 2
    exact Fin.ext (Nat.mod_eq_of_lt (hok.h2 _))) rfl) $$ HB
  iintro HB
  iapply h
  isplitl [HT]; · iexact HT
  isplitl [HX]; · iexact HX
  isplitl [HW]; · iexact HW
  isplitl [HB] <;> iassumption

end

end Cert.Proof

end
-- ==== Proof.Args.lean ====
/-
  The kernel's body and its printed parts at the launch's own buffers.
-/
module

public import proofs.«01_k».proof.Proof.Step

@[expose] public section

noncomputable section

namespace Cert.Proof

open Cert.Kernel
open Idealize.ShloMosaic

/-- A function of the body's sixteen operands at the launch's. -/
abbrev onArgs {X : Type 1} (f : (arg1 : Memref sig .tc .smem S8192 .i32) → arg1.IsWhole → (arg2 : Memref sig .tc .smem S8192 .i32) → arg2.IsWhole
    → (arg3 : Memref sig .tc .smem S8192 .i32) → arg3.IsWhole → (arg4 : Memref sig .tc .hbm S4096x128x64 .f32) → arg4.IsWhole
    → (arg5 : Memref sig .tc .hbm S1024x128x128 .bf16) → arg5.IsWhole → (arg6 : Memref sig .tc .hbm S1024x1x128 .f32) → arg6.IsWhole
    → (arg7 : Memref sig .tc .hbm S4x256x128x64 .f32) → arg7.IsWhole → (arg8 : Memref sig .tc .vmem S1024x64x128 .f32) → arg8.IsWhole
    → (arg9 : Memref sig .tc .vmem S3x64x128x64 .f32) → arg9.IsWhole → (arg10 : Memref sig .tc .vmem S3x64x128x128 .bf16) → arg10.IsWhole
    → (arg11 : Memref sig .tc .vmem S3x64x1x128 .f32) → arg11.IsWhole → (arg12 : Memref sig .tc .vmem S32x128x4x64 .f32) → arg12.IsWhole
    → DmaSems sig S3 → DmaSems sig S3 → DmaSems sig S3 → DmaSems sig S_ → X) [Cert.Kernel.Facts] : X :=
  f (Memref.whole main_v3) (Memref.isWhole_whole _) (Memref.whole main_arg4) (Memref.isWhole_whole _) (Memref.whole main_arg3) (Memref.isWhole_whole _)
    (Memref.whole main_arg0) (Memref.isWhole_whole _) (Memref.whole main_v4) (Memref.isWhole_whole _) (Memref.whole main_v5) (Memref.isWhole_whole _)
    (Memref.whole main_v6) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8

end Cert.Proof

end
-- ==== Proof.Slots.lean ====
/-
  One operand of one slot over its life: idle, its 64 transfers all started, full again after the wait.
-/
module

public import proofs.«01_k».proof.Proof.Step

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section Operand

variable {R m n : ℕ} {e : EltTy} (c : Dev nD)
  (src : Memref sig .tc .hbm ⟨3, ![R, m, n]⟩ e) (dst : Memref sig .tc .vmem ⟨4, ![3, 64, m, n]⟩ e)

/-- The elements of slot `s`. -/
def slotSet (s : ℕ) : Finset (dst.view.ty.Idx) :=
  (Finset.univ.filter fun i : (⟨4, ![3, 64, m, n]⟩ : Shape).Idx => (i 0).val = s).map dst.view.emb

/-- A slot is its 64 windows. -/
theorem slotSet_eq (s : ℕ) : slotSet dst s = Finset.univ.biUnion (fun k : Fin 64 => cellSet dst s k.val) := by
  ext i
  simp only [slotSet, cellSet, Finset.mem_biUnion, Finset.mem_map, Finset.mem_filter, Finset.mem_univ, true_and]
  constructor
  · rintro ⟨j, h, rfl⟩
    exact ⟨j 1, j, ⟨h, rfl⟩, rfl⟩
  · rintro ⟨k, j, ⟨h, -⟩, rfl⟩
    exact ⟨j, h, rfl⟩

/-- Windows of one slot do not overlap. -/
theorem cellSet_disjoint (s : ℕ) : ∀ k ∈ (Finset.univ : Finset (Fin 64)), ∀ k' ∈ (Finset.univ : Finset (Fin 64)), k ≠ k' →
    Disjoint (cellSet dst s k.val) (cellSet dst s k'.val) := by
  intro k _ k' _ hkk
  rw [Finset.disjoint_left]
  intro i hi hi'
  simp only [cellSet, Finset.mem_map, Finset.mem_filter, Finset.mem_univ, true_and] at hi hi'
  obtain ⟨j, ⟨-, h⟩, rfl⟩ := hi
  obtain ⟨j', ⟨-, h'⟩, e'⟩ := hi'
  have := dst.view.emb.injective e'
  subst this
  exact hkk (Fin.ext (h.symm.trans h'))

/-- The slot held at `f` is its windows held at `f`. -/
theorem slot_windows (s : ℕ) (f : Buf (Elt F) (dst.view.loc (c : Thread nD τ))) :
    ((dst.view.loc (c : Thread nD τ)) ↦[slotSet dst s]{fullShare} f : sProp 𝕄)
      = bigSep Finset.univ fun k : Fin 64 => (dst.view.loc (c : Thread nD τ)) ↦[cellSet dst s k.val]{fullShare} f := by
  rw [slotSet_eq]
  exact pointsTo_biUnion _ _ (cellSet_disjoint dst s)

/-- The slot idle: its semaphore at zero, its elements at any contents, its share of the array. -/
def Idle (sm : DmaSem sig) (s : ℕ) (q : PosShare TreeShare) (A : Buf (Elt F) (src.view.loc (c : Thread nD τ))) : sProp 𝕄 :=
  iprop(semVal ((c : Thread nD τ), .dma sm) 0 ∗ (∃ f : Buf (Elt F) (dst.view.loc (c : Thread nD τ)), (dst.view.loc (c : Thread nD τ)) ↦[slotSet dst s]{fullShare} f)
    ∗ (src.view.loc (c : Thread nD τ)) ↦{q} A)

/-- What of the slot's share no transfer takes. -/
def Keep (q : PosShare TreeShare) (A : Buf (Elt F) (src.view.loc (c : Thread nD τ))) : sProp 𝕄 :=
  (src.view.loc (c : Thread nD τ)) ↦{shareDrop q 64} A

/-- The slot at `fl`: the same as idle, at known contents. -/
def Held (sm : DmaSem sig) (s : ℕ) (q : PosShare TreeShare) (A : Buf (Elt F) (src.view.loc (c : Thread nD τ)))
    (fl : Buf (Elt F) (dst.view.loc (c : Thread nD τ))) : sProp 𝕄 :=
  iprop(semVal ((c : Thread nD τ), .dma sm) 0 ∗ ((dst.view.loc (c : Thread nD τ)) ↦[slotSet dst s]{fullShare} fl)
    ∗ (src.view.loc (c : Thread nD τ)) ↦{q} A)

theorem held_idle {sm : DmaSem sig} {s : ℕ} {q : PosShare TreeShare} {A : Buf (Elt F) (src.view.loc (c : Thread nD τ))}
    {fl : Buf (Elt F) (dst.view.loc (c : Thread nD τ))} : Held c src dst sm s q A fl ⊢ Idle c src dst sm s q A := by
  unfold Held Idle
  iintro ⟨H1, H2, H3⟩
  isplitl [H1]; · iexact H1
  isplitl [H2]; · iexists fl; iexact H2
  iexact H3

theorem rres_intro (s : ℕ) (q : PosShare TreeShare) (A : Buf (Elt F) (src.view.loc (c : Thread nD τ)))
    (f : Buf (Elt F) (dst.view.loc (c : Thread nD τ))) (k : Fin 64) :
    iprop(((dst.view.loc (c : Thread nD τ)) ↦[cellSet dst s k.val]{fullShare} f) ∗ (src.view.loc (c : Thread nD τ)) ↦{shareTok q 64 k} A)
      ⊢ (Rres c src dst s q A k : sProp 𝕄) := by
  unfold Rres
  iintro ⟨H1, H2⟩
  isplitl [H1]; · iexists f; iexact H1
  iexact H2

/-- An idle slot, ready for its first transfer. -/
theorem op_start {sm : DmaSem sig} {N s : ℕ} {q : PosShare TreeShare} {A : Buf (Elt F) (src.view.loc (c : Thread nD τ))}
    (fl : Buf (Elt F) (dst.view.loc (c : Thread nD τ))) :
    Idle c src dst sm s q A ⊢ |={Set.univ}=> iprop(Iss c src dst sm N s q A fl 0 ∗ Keep c src q A) := by
  unfold Idle Iss Keep
  iintro ⟨Hv, ⟨%f, Hd⟩, Hs⟩
  imod (batch_alloc' EC (c : Thread nD τ) () N (Dres c src dst s q A fl) (E := Set.univ)) $$ Hv with HB
  imodintro
  ihave Hs' := (pointsTo_toks_split q 64) $$ Hs
  icases Hs' with ⟨Hk, Ht⟩
  isplitr [Hk]
  · isplitl [HB]; · iexact HB
    rw [← bigSep_pending_zero]
    ihave Hd' := (Entails.of_eq (slot_windows c dst s f)) $$ Hd
    iapply (show iprop(bigSep Finset.univ (fun k : Fin 64 => (dst.view.loc (c : Thread nD τ)) ↦[cellSet dst s k.val]{fullShare} f)
      ∗ bigSep Finset.univ (fun k : Fin 64 => (src.view.loc (c : Thread nD τ)) ↦{shareTok q 64 k} A)) ⊢ bigSep Finset.univ (Rres c src dst s q A) from by
        exact BIBase.Entails.trans (Entails.of_eq (bigSep_sep _ _ _).symm) (bigSep_mono fun k _ => rres_intro c src dst s q A f k))
    isplitl [Hd'] <;> iassumption
  · iexact Hk

/-- All delivered: the slot whole, and its share whole. -/
theorem op_finish {s : ℕ} {q : PosShare TreeShare} {A : Buf (Elt F) (src.view.loc (c : Thread nD τ))}
    {fl : Buf (Elt F) (dst.view.loc (c : Thread nD τ))} :
    iprop(bigSep Finset.univ (Dres c src dst s q A fl) ∗ Keep c src q A)
      ⊢ iprop(((dst.view.loc (c : Thread nD τ)) ↦[slotSet dst s]{fullShare} fl) ∗ (src.view.loc (c : Thread nD τ)) ↦{q} A) := by
  unfold Keep
  have h : bigSep Finset.univ (Dres c src dst s q A fl) ⊢ iprop(bigSep Finset.univ (fun k : Fin 64 => (dst.view.loc (c : Thread nD τ)) ↦[cellSet dst s k.val]{fullShare} fl)
      ∗ bigSep Finset.univ (fun k : Fin 64 => (src.view.loc (c : Thread nD τ)) ↦{shareTok q 64 k} A)) :=
    Entails.of_eq (bigSep_sep _ _ _)
  iintro ⟨HD, Hk⟩
  ihave HD' := h $$ HD
  icases HD' with ⟨Hd, Ht⟩
  isplitl [Hd]
  · iapply (Entails.of_eq (slot_windows c dst s fl).symm) $$ Hd
  · iapply (pointsTo_toks_join q 64)
    isplitl [Hk] <;> iassumption

variable {α : Type} {Q : α → sProp (MT nD τ sig Unit (Elt F) ℕ (UU nD τ) ℕ)}

/-- The slot's one wait, for its 64 transfers together. -/
theorem op_wait {sm : DmaSem sig} {N s : ℕ} {q : PosShare TreeShare} {A : Buf (Elt F) (src.view.loc (c : Thread nD τ))}
    {fl : Buf (Elt F) (dst.view.loc (c : Thread nD τ))} {sp : Space} {s' s'' : Shape} {e' e'' : EltTy} {sp'' : Space}
    {srcw : Memref sig .tc sp'' s'' e''} {dstw : Memref sig .tc sp s' e'}
    {hsrc : srcw.view.WordExact} {hdst : dstw.view.WordExact}
    {k : PUnit → Prog (TpuEff nD τ sig (Elt F) Λ₀ .tc) α}
    (hJ : dstw.view.dmaCredit = N * 64) (hN : 0 < N) {W : Waits sig Unit} :
    iprop(Iss c src dst sm N s q A fl 64 ∗ Keep c src q A ∗ owes (c : Thread nD τ) 0 W)
      ⊢ iprop((iprop(Held c src dst sm s q A fl ∗ owes (c : Thread nD τ) 0 (insert (SemLoc.dma sm, ()) W)) -∗ WP c (k ⟨⟩) Q)
          -∗ WP c (.op (.waitDma2 sm srcw dstw hsrc hdst) k) Q) := by
  unfold Iss Held
  iintro ⟨⟨HB, -⟩, Hkeep, HO⟩ Hk
  iapply (wp_waitBatchAll EC 𝒱₀ (c : Thread nD τ) none () hJ hN (u := 0) (Nat.zero_add _)) $$ [HB HO]
  · isplitl [HB] <;> iassumption
  iintro ⟨HD, Hv, HO⟩
  iapply Hk
  isplitr [HO]
  · isplitl [Hv]; · iexact Hv
    iapply (op_finish c src dst)
    isplitl [HD] <;> iassumption
  · iexact HO

/-- Nothing owed. -/
def Owes0 : sProp 𝕄 := iprop(∃ W : Waits sig Unit, owes (c : Thread nD τ) 0 W)

/-- The same as a step. -/
theorem op_wait_step {sm sm' : DmaSem sig} {N s : ℕ} {q : PosShare TreeShare} {A : Buf (Elt F) (src.view.loc (c : Thread nD τ))}
    {fl : Buf (Elt F) (dst.view.loc (c : Thread nD τ))} {sp : Space} {s' s'' : Shape} {e' e'' : EltTy} {sp'' : Space}
    {srcw : Memref sig .tc sp'' s'' e''} {dstw : Memref sig .tc sp s' e'}
    {hsrc : srcw.view.WordExact} {hdst : dstw.view.WordExact} {R : sProp 𝕄} {prog : Prog (TpuEff nD τ sig (Elt F) Λ₀ .tc) α}
    {k : PUnit → Prog (TpuEff nD τ sig (Elt F) Λ₀ .tc) α}
    (hp : prog = .op (.waitDma2 sm' srcw dstw hsrc hdst) k) (hsm : sm' = sm) (hJ : dstw.view.dmaCredit = N * 64) (hN : 0 < N)
    (h : iprop(Held c src dst sm s q A fl ∗ Owes0 c ∗ R) ⊢ WP c (k ⟨⟩) Q) :
    iprop(Iss c src dst sm N s q A fl 64 ∗ Keep c src q A ∗ Owes0 c ∗ R) ⊢ WP c prog Q := by
  subst hp hsm
  unfold Owes0 at h ⊢
  iintro ⟨HI, HK, ⟨%W, HO⟩, HR⟩
  iapply (op_wait c src dst (fl := fl) hJ hN) $$ [HI HK HO]
  · isplitl [HI]; · iexact HI
    isplitl [HK] <;> iassumption
  iintro ⟨HH, HO⟩
  iapply h
  isplitl [HH]; · iexact HH
  isplitl [HO]; · iexists _; iexact HO
  iexact HR

end Operand

end Cert.Proof

end
-- ==== Proof.First.lean ====
/-
  The first grid step's prologue: the accumulator cleared, blocks 0 and 1 fetched into slots 0 and 1.
-/
module

public import proofs.«01_k».proof.Proof.Args
public import proofs.«01_k».proof.Proof.Slots

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

variable (c : Dev nD) (E : Env F) {α : Type} {Q : α → sProp (MT nD τ sig Unit (Elt F) ℕ (UU nD τ) ℕ)}

/-- The accumulator held at `f`. -/
def Acc (f : (cc0_scratch0 : Ref sig .tc).ty.Contents (Elt F)) : sProp 𝕄 := ((c : Thread nD τ).loc cc0_scratch0) ↦{fullShare} f

/-- A load of a part of the accumulator. -/
theorem accLd_step {R : sProp 𝕄} {f : (cc0_scratch0 : Ref sig .tc).ty.Contents (Elt F)} {prog : Prog (TpuEff nD τ sig (Elt F) Λ₀ .tc) α}
    {off size : Fin 3 → ℕ} {inb hl k}
    (hp : prog = .op (.load (Memref.whole cc0_scratch0) (Rect.unit (s := S1024x64x128) off size inb).toLoadRect hl) k)
    (h : iprop(Acc c f ∗ R) ⊢ WP c (k ((Memref.whole cc0_scratch0 : Memref sig .tc .vmem S1024x64x128 .f32).view.readAt (Elt F)
      (Rect.unit (s := S1024x64x128) off size inb).toLoadRect f)) Q) : iprop(Acc c f ∗ R) ⊢ WP c prog Q := by
  subst hp
  unfold Acc at h ⊢
  iintro ⟨HA, HR⟩
  iapply (wp_load 𝒱₀ (c : Thread nD τ) none Set.univ (m := (Memref.whole cc0_scratch0 : Memref sig .tc .vmem S1024x64x128 .f32)) (f := f) (q := fullShare) (S := Finset.univ) (Finset.subset_univ _)) $$ HA
  iintro HA
  iapply h
  isplitl [HA] <;> iassumption

/-- A store over a part of it. -/
theorem accSt_step {R : sProp 𝕄} {f : (cc0_scratch0 : Ref sig .tc).ty.Contents (Elt F)} {prog : Prog (TpuEff nD τ sig (Elt F) Λ₀ .tc) α}
    {off size : Fin 3 → ℕ} {inb v Mk hst hms k}
    (hp : prog = .op (.store (Memref.whole cc0_scratch0) (Rect.unit (s := S1024x64x128) off size inb) v Mk hst hms) k)
    (h : iprop(Acc c (((Memref.whole cc0_scratch0 : Memref sig .tc .vmem S1024x64x128 .f32).access (Rect.unit (s := S1024x64x128) off size inb)).write (Elt F) f v Mk) ∗ R)
      ⊢ WP c (k ⟨⟩) Q) : iprop(Acc c f ∗ R) ⊢ WP c prog Q := by
  subst hp
  unfold Acc at h ⊢
  iintro ⟨HA, HR⟩
  iapply (wp_store 𝒱₀ (c : Thread nD τ) none Set.univ (m := (Memref.whole cc0_scratch0 : Memref sig .tc .vmem S1024x64x128 .f32)) (r := Rect.unit (s := S1024x64x128) off size inb) (w := v) (Mk := Mk) (f := f) (S := Finset.univ) (Finset.subset_univ _)) $$ HA
  iintro HA
  iapply h
  isplitl [HA] <;> iassumption

/-- The accumulator cleared. -/
def acc0 (f : (cc0_scratch0 : Ref sig .tc).ty.Contents (Elt F)) : (cc0_scratch0 : Ref sig .tc).ty.Contents (Elt F) :=
  ((Memref.whole cc0_scratch0 : Memref sig .tc .vmem S1024x64x128 .f32).access (Rect.unit (s := S1024x64x128) ![0, 0, 0] S1024x64x128.size inb_S1024x64x128_S1024x64x128_0_0_0)).write (Elt F) f
    (shapeCast S1024x64x128 (broadcast S1024x64x128 (Scalar.ofBits .f32 0x00000000#32)) shapeCasts_S1024x64x128_S1024x64x128) Finset.univ

variable (P : sProp (MT nD τ sig Unit (Elt F) ℕ (UU nD τ) ℕ))

/-- Block 0 all started, block 1 not: the operands of slot 1 are brought to the front. -/
theorem st_next : St c E 0 (by decide) 0 64 64 64 iprop(IX c E 1 (by decide) 1 0 ∗ IW c E 1 (by decide) 1 0 ∗ IB c E 1 (by decide) 1 0 ∗ P)
    ⊢ St c E 1 (by decide) 1 0 0 0 iprop(IX c E 0 (by decide) 0 64 ∗ IW c E 0 (by decide) 0 64 ∗ IB c E 0 (by decide) 0 64 ∗ P) := by
  unfold St
  iintro ⟨HT, H1, H2, H3, H4, H5, H6, HP⟩
  isplitl [HT]; · iexact HT
  isplitl [H4]; · iexact H4
  isplitl [H5]; · iexact H5
  isplitl [H6]; · iexact H6
  isplitl [H1]; · iexact H1
  isplitl [H2]; · iexact H2
  isplitl [H3]; · iexact H3
  iexact HP

set_option maxRecDepth 65536 in
set_option maxHeartbeats 2000000 in
/-- The first 75 windows: all of block 0's, the first of block 1's. -/
theorem wp_part103 (hok : E.Ok) (i : grid0.Coords) (h1 : k0_cond1 i = 1#1) (f : (cc0_scratch0 : Ref sig .tc).ty.Contents (Elt F))
    (k : (Σ' (v3632 : Elt F .i32), k0_chk150 i v3632) → Prog (TpuEff nD τ sig (Elt F) Λ₀ .tc) α)
    (h : ∀ hw, St c E 1 (by decide) 1 11 11 10 iprop(IX c E 0 (by decide) 0 64 ∗ IW c E 0 (by decide) 0 64 ∗ IB c E 0 (by decide) 0 64 ∗ Acc c (acc0 f) ∗ P)
      ⊢ WP c (k ⟨E.i2 74, hw⟩) Q) :
    iprop(Acc c f ∗ St c E 0 (by decide) 0 0 0 0 iprop(IX c E 1 (by decide) 1 0 ∗ IW c E 1 (by decide) 1 0 ∗ IB c E 1 (by decide) 1 0 ∗ P))
      ⊢ WP c (Prog.bind ((onArgs (k0_part103 (F := F) i)) h1) k) Q := by
  refine accLd_step c rfl ?_
  refine accSt_step c rfl ?_
  refine BIBase.Entails.trans (show _ ⊢ St c E 0 (by decide) 0 0 0 0 iprop(IX c E 1 (by decide) 1 0 ∗ IW c E 1 (by decide) 1 0 ∗ IB c E 1 (by decide) 1 0 ∗ Acc c (acc0 f) ∗ P) from ?_) ?_
  · unfold St
    show iprop(Acc c (acc0 f) ∗ _) ⊢ _
    iintro ⟨HA, HT, H1, H2, H3, H4, H5, H6, HP⟩
    isplitl [HT]; · iexact HT
    isplitl [H1]; · iexact H1
    isplitl [H2]; · iexact H2
    isplitl [H3]; · iexact H3
    isplitl [H4]; · iexact H4
    isplitl [H5]; · iexact H5
    isplitl [H6]; · iexact H6
    isplitl [HA] <;> iassumption
  iterate 64
    refine ld1_step c E _ rfl rfl ?_
    refine as_step c rfl (fun _ => inb3 (hok.h1 _)) ?_
    refine ld2_step c E _ rfl rfl ?_
    refine as_step c rfl (⟨fun _ => inb3 (hok.h2 _), fun _ => words3, fun _ => inb3 (hok.h2 _)⟩) ?_
    refine dx_step c E hok rfl (by decide) rfl rfl rfl ?_
    refine dw_step c E hok rfl (by decide) rfl rfl rfl ?_
    refine db_step c E hok rfl (by decide) rfl rfl rfl ?_
  refine BIBase.Entails.trans (st_next c E _) ?_
  iterate 10
    refine ld1_step c E _ rfl rfl ?_
    refine as_step c rfl (fun _ => inb3 (hok.h1 _)) ?_
    refine ld2_step c E _ rfl rfl ?_
    refine as_step c rfl (⟨fun _ => inb3 (hok.h2 _), fun _ => words3, fun _ => inb3 (hok.h2 _)⟩) ?_
    refine dx_step c E hok rfl (by decide) rfl rfl rfl ?_
    refine dw_step c E hok rfl (by decide) rfl rfl rfl ?_
    refine db_step c E hok rfl (by decide) rfl rfl rfl ?_
  refine ld1_step c E _ rfl rfl ?_
  refine as_step c rfl (fun _ => inb3 (hok.h1 _)) ?_
  refine ld2_step c E _ rfl rfl ?_
  refine as_step c rfl (⟨fun _ => inb3 (hok.h2 _), fun _ => words3, fun _ => inb3 (hok.h2 _)⟩) ?_
  refine dx_step c E hok rfl (by decide) rfl rfl rfl ?_
  refine dw_step c E hok rfl (by decide) rfl rfl rfl ?_
  exact h _

set_option maxRecDepth 65536 in
set_option maxHeartbeats 2000000 in
/-- The rest of block 1's, but for the last window's weights and bias. -/
theorem wp_part104 (hok : E.Ok) (i : grid0.Coords) (h1 : k0_cond1 i = 1#1) (hw150 : k0_chk150 i (E.i2 74))
    (k : (Σ' (v4692 : Elt F .i32), k0_chk256 i v4692) → Prog (TpuEff nD τ sig (Elt F) Λ₀ .tc) α)
    (h : ∀ hw, St c E 1 (by decide) 1 64 63 63 P ⊢ WP c (k ⟨E.i2 127, hw⟩) Q) :
    St c E 1 (by decide) 1 11 11 10 P ⊢ WP c (Prog.bind ((onArgs (k0_part104 (F := F) i)) h1 (E.i2 74) hw150) k) Q := by
  refine db_step c E hok rfl (by decide) rfl rfl rfl ?_
  iterate 52
    refine ld1_step c E _ rfl rfl ?_
    refine as_step c rfl (fun _ => inb3 (hok.h1 _)) ?_
    refine ld2_step c E _ rfl rfl ?_
    refine as_step c rfl (⟨fun _ => inb3 (hok.h2 _), fun _ => words3, fun _ => inb3 (hok.h2 _)⟩) ?_
    refine dx_step c E hok rfl (by decide) rfl rfl rfl ?_
    refine dw_step c E hok rfl (by decide) rfl rfl rfl ?_
    refine db_step c E hok rfl (by decide) rfl rfl rfl ?_
  refine ld1_step c E _ rfl rfl ?_
  refine as_step c rfl (fun _ => inb3 (hok.h1 _)) ?_
  refine ld2_step c E _ rfl rfl ?_
  refine as_step c rfl (⟨fun _ => inb3 (hok.h2 _), fun _ => words3, fun _ => inb3 (hok.h2 _)⟩) ?_
  refine dx_step c E hok rfl (by decide) rfl rfl rfl ?_
  exact h _

end

end Cert.Proof

end
-- ==== Proof.Third.lean ====
/-
  The fetch every grid step but the last two starts: block `g + 2` into slot `(g + 2) % 3`.
-/
module

public import proofs.«01_k».proof.Proof.First

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

/-- The ring's slot of a block, as the kernel computes it. -/
def slotWord (v : BitVec 32) : BitVec 32 :=
  let d : BitVec 32 := Scalar.select (Scalar.cmpi .eq 3#32 0#32) 1#32 3#32
  let r : BitVec 32 := Scalar.remsi v d
  Scalar.select (Scalar.andi (Scalar.xori (Scalar.cmpi .slt r 0#32) (Scalar.cmpi .slt d 0#32)) (Scalar.cmpi .ne r 0#32)) (Scalar.addi r d) r

theorem slotWord_eq : ∀ g : Fin 130, (slotWord (BitVec.ofNat 32 g.val)).toNat = g.val % 3 := by decide +kernel

theorem slotWord_add2 (g : ℕ) (hg : g < 128) : (slotWord (Scalar.addi (BitVec.ofNat 32 g) 2#32)).toNat = (g + 2) % 3 := by
  have : Scalar.addi (BitVec.ofNat 32 g) 2#32 = BitVec.ofNat 32 (g + 2) := by
    show BitVec.ofNat 32 g + 2#32 = _
    rw [BitVec.ofNat_add]
  rw [this]
  exact slotWord_eq ⟨g + 2, by omega⟩

/-- The number of a block's operation, as the kernel computes it. -/
theorem opWord (g k : ℕ) (hg : g < 128) (hk : k < 64) :
    (Scalar.indexCast (Scalar.addi (Scalar.muli (BitVec.ofNat 32 g) 64#32) (BitVec.ofNat 32 k)) : BitVec 32).toNat = 64 * g + k := by
  show (BitVec.ofNat 32 g * 64#32 + BitVec.ofNat 32 k).toNat = _
  simp only [BitVec.toNat_add, BitVec.toNat_mul, BitVec.toNat_ofNat]
  omega

theorem opWord2 (g k : ℕ) (hg : g < 128) (hk : k < 64) :
    (Scalar.indexCast (Scalar.addi (Scalar.muli (Scalar.addi (BitVec.ofNat 32 g) 2#32) 64#32) (BitVec.ofNat 32 k)) : BitVec 32).toNat = 64 * (g + 2) + k := by
  show ((BitVec.ofNat 32 g + 2#32) * 64#32 + BitVec.ofNat 32 k).toNat = _
  simp only [BitVec.toNat_add, BitVec.toNat_mul, BitVec.toNat_ofNat]
  omega

section

variable (i : grid0.Coords)

theorem tabOff2 (k : ℕ) (hk : k < 64 := by decide) :
    (![(Scalar.indexCast (Scalar.addi (Scalar.muli (Scalar.addi (BitVec.ofNat 32 (i 0).val) 2#32) 64#32) (BitVec.ofNat 32 k)) : BitVec 32).toNat] : Fin 1 → ℕ)
      = ![64 * ((i 0).val + 2) + k] := by
  rw [opWord2 _ k (i 0).isLt hk]

theorem semOff2 : (![(slotWord (Scalar.addi (BitVec.ofNat 32 (i 0).val) 2#32)).toNat] : Fin 1 → ℕ) = ![((i 0).val + 2) % 3] := by
  rw [slotWord_add2 _ (i 0).isLt]

theorem winOff2 (k : ℕ) : (![(slotWord (Scalar.addi (BitVec.ofNat 32 (i 0).val) 2#32)).toNat, k, 0, 0] : Fin 4 → ℕ) = ![((i 0).val + 2) % 3, k, 0, 0] := by
  rw [slotWord_add2 _ (i 0).isLt]

end

section

variable (c : Dev nD) (E : Env F) {α : Type} {Q : α → sProp (MT nD τ sig Unit (Elt F) ℕ (UU nD τ) ℕ)}
variable (P : sProp (MT nD τ sig Unit (Elt F) ℕ (UU nD τ) ℕ))

theorem mod3_lt (n : ℕ) : n % 3 < 3 := Nat.mod_lt _ (by decide)

set_option maxRecDepth 65536 in
set_option maxHeartbeats 2000000 in
/-- Block `g + 2`'s 64 windows, but for the last one's weights and bias. -/
theorem wp_part154 (hok : E.Ok) (i : grid0.Coords) (h2 : k0_cond2 i = 1#1)
    (k : (Σ' (v3677 : Elt F .i32), k0_chk384 i v3677) → Prog (TpuEff nD τ sig (Elt F) Λ₀ .tc) α)
    (h : ∀ hw, St c E (((i 0).val + 2) % 3) (mod3_lt _) ((i 0).val + 2) 64 63 63 P ⊢ WP c (k ⟨E.i2 (64 * ((i 0).val + 2) + 63), hw⟩) Q) :
    St c E (((i 0).val + 2) % 3) (mod3_lt _) ((i 0).val + 2) 0 0 0 P
      ⊢ WP c (Prog.bind ((onArgs (k0_part154 (F := F) i)) (BitVec.ofNat 32 (i 0).val) h2) k) Q := by
  iterate 63
    refine ld1_step c E _ rfl (tabOff2 i _) ?_
    refine as_step c rfl (fun _ => inb3 (hok.h1 _)) ?_
    refine ld2_step c E _ rfl (tabOff2 i _) ?_
    refine as_step c rfl (⟨fun _ => inb3 (hok.h2 _), fun _ => words3, fun _ => inb3 (hok.h2 _)⟩) ?_
    refine dx_step c E hok rfl (by decide) (semOff2 i) (winOff2 i _) rfl ?_
    refine dw_step c E hok rfl (by decide) (semOff2 i) (winOff2 i _) rfl ?_
    refine db_step c E hok rfl (by decide) (semOff2 i) (winOff2 i _) rfl ?_
  refine ld1_step c E _ rfl (tabOff2 i _) ?_
  refine as_step c rfl (fun _ => inb3 (hok.h1 _)) ?_
  refine ld2_step c E _ rfl (tabOff2 i _) ?_
  refine as_step c rfl (⟨fun _ => inb3 (hok.h2 _), fun _ => words3, fun _ => inb3 (hok.h2 _)⟩) ?_
  refine dx_step c E hok rfl (by decide) (semOff2 i) (winOff2 i _) rfl ?_
  exact h _

end

end Cert.Proof

end
-- ==== Proof.Head.lean ====
/-
  A grid step up to its first operation: the prologue at the first step, the next block's fetch started, the step's own
  block waited for. `Ring g` is what the accumulator and the three slots hold before step `g`.
-/
module

public import proofs.«01_k».proof.Proof.Third

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

variable (c : Dev nD) (E : Env F)

/-- Slot `s` idle, its three operands. -/
def SlotI (s : ℕ) (hs : s < 3) : sProp 𝕄 :=
  iprop(Idle c MX BX (semOf cc0_scratch5 s hs) s (slotShare s) E.a0 ∗ Idle c MW BW (semOf cc0_scratch6 s hs) s (slotShare s) E.a4
    ∗ Idle c MB BB (semOf cc0_scratch7 s hs) s (slotShare s) E.a5)

/-- What of slot `s`'s shares no transfer takes. -/
def Keeps (s : ℕ) : sProp 𝕄 := iprop(Keep c MX (slotShare s) E.a0 ∗ Keep c MW (slotShare s) E.a4 ∗ Keep c MB (slotShare s) E.a5)

/-- Slot `s` with all of block `b`'s transfers started. -/
def SlotF (s : ℕ) (hs : s < 3) (b : ℕ) : sProp 𝕄 :=
  iprop(IX c E s hs b 64 ∗ IW c E s hs b 64 ∗ IB c E s hs b 64 ∗ Keeps c E s)

/-- Slot `s` holding block `b`. -/
def SlotH (s : ℕ) (hs : s < 3) (b : ℕ) : sProp 𝕄 :=
  iprop(Held c MX BX (semOf cc0_scratch5 s hs) s (slotShare s) E.a0 (E.fx b) ∗ Held c MW BW (semOf cc0_scratch6 s hs) s (slotShare s) E.a4 (E.fw b)
    ∗ Held c MB BB (semOf cc0_scratch7 s hs) s (slotShare s) E.a5 (E.fb b))

/-- Slot `s` as block `b` finds it once fetched: in flight if there is such a block. -/
def SlotX (s : ℕ) (hs : s < 3) (b : ℕ) : sProp 𝕄 := if b < 128 then SlotF c E s hs b else SlotI c E s hs

theorem slotH_idle {s : ℕ} {hs : s < 3} {b : ℕ} : SlotH c E s hs b ⊢ SlotI c E s hs := by
  unfold SlotH SlotI
  exact BI.sep_mono (held_idle c MX BX) (BI.sep_mono (held_idle c MW BW) (held_idle c MB BB))

/-- An idle slot ready for its first transfers. -/
theorem slot_start {s : ℕ} {hs : s < 3} (b : ℕ) :
    SlotI c E s hs ⊢ |={Set.univ}=> iprop(IX c E s hs b 0 ∗ IW c E s hs b 0 ∗ IB c E s hs b 0 ∗ Keeps c E s) := by
  unfold SlotI IX IW IB Keeps
  iintro ⟨H1, H2, H3⟩
  imod (op_start c MX BX (N := NX) (E.fx b)) $$ H1 with ⟨H1, K1⟩
  imod (op_start c MW BW (N := NW) (E.fw b)) $$ H2 with ⟨H2, K2⟩
  imod (op_start c MB BB (N := NB) (E.fb b)) $$ H3 with ⟨H3, K3⟩
  imodintro
  isplitl [H1]; · iexact H1
  isplitl [H2]; · iexact H2
  isplitl [H3]; · iexact H3
  isplitl [K1]; · iexact K1
  isplitl [K2] <;> iassumption

/-- The accumulator's contents, all zeros. -/
def accZ : (cc0_scratch0 : Ref sig .tc).ty.Contents (Elt F) := fun _ => Scalar.ofBits (F := F) .f32 0x00000000#32

/-- Clearing leaves zeros, whatever was there. -/
theorem acc0_eq (f : (cc0_scratch0 : Ref sig .tc).ty.Contents (Elt F)) : acc0 f = accZ := by
  funext i
  have hi : ((Memref.whole cc0_scratch0 : Memref sig .tc .vmem S1024x64x128 .f32).access (Rect.unit (s := S1024x64x128) ![0, 0, 0] S1024x64x128.size inb_S1024x64x128_S1024x64x128_0_0_0)).emb i = i := by
    show Rect.emb (Rect.unit (s := S1024x64x128) ![0, 0, 0] S1024x64x128.size inb_S1024x64x128_S1024x64x128_0_0_0) i = i
    funext a
    refine Fin.ext ?_
    rw [Rect.emb_apply]
    match a with
    | ⟨0, _⟩ => simp [Rect.unit]
    | ⟨1, _⟩ => simp [Rect.unit]
    | ⟨2, _⟩ => simp [Rect.unit]
  unfold acc0
  have := View.write_emb_of_mem (v := ((Memref.whole cc0_scratch0 : Memref sig .tc .vmem S1024x64x128 .f32).access (Rect.unit (s := S1024x64x128) ![0, 0, 0] S1024x64x128.size inb_S1024x64x128_S1024x64x128_0_0_0)))
    (Val := Elt F) f (shapeCast S1024x64x128 (broadcast S1024x64x128 (Scalar.ofBits (F := F) .f32 0x00000000#32)) shapeCasts_S1024x64x128_S1024x64x128) (Finset.mem_univ i)
  rw [hi] at this
  exact this

/-- The accumulator after so many operations, and the slots, before step `g > 0`. -/
def RingA (accAt : ℕ → (cc0_scratch0 : Ref sig .tc).ty.Contents (Elt F)) (g : ℕ) : sProp 𝕄 :=
  iprop(Acc c (accAt (64 * g)) ∗ SlotX c E (g % 3) (mod3_lt _) g ∗ SlotX c E ((g + 1) % 3) (mod3_lt _) (g + 1) ∗ SlotI c E ((g + 2) % 3) (mod3_lt _))

/-- The same before step 0: nothing is known of the accumulator, every slot is idle. -/
def Ring0 : sProp 𝕄 :=
  iprop((∃ f, Acc (F := F) c f) ∗ SlotI c E 0 (by decide) ∗ SlotI c E 1 (by decide) ∗ SlotI c E 2 (by decide))

def Ring (accAt : ℕ → (cc0_scratch0 : Ref sig .tc).ty.Contents (Elt F)) (g : ℕ) : sProp 𝕄 := if g = 0 then Ring0 c E else RingA c E accAt g

variable {α : Type} {Q : α → sProp (MT nD τ sig Unit (Elt F) ℕ (UU nD τ) ℕ)}

/-- A conditional without an else, before `r`: `Mid` is what `r` starts from. -/
theorem ite_step {prog r : Prog (TpuEff nD τ sig (Elt F) Λ₀ .tc) α} {cnd : Prop} {_ : Decidable cnd} {A : cnd → Prog (TpuEff nD τ sig (Elt F) Λ₀ .tc) α}
    {Pre : sProp 𝕄} (Mid : sProp 𝕄) (hp : prog = dite cnd A (fun _ => r)) (hr : Mid ⊢ WP c r Q)
    (hA : ∀ hc, (Mid ⊢ WP c r Q) → (Pre ⊢ WP c (A hc) Q)) (hB : ¬ cnd → (Pre ⊢ Mid)) : Pre ⊢ WP c prog Q := by
  subst hp
  by_cases hc : cnd
  · rw [dif_pos hc]; exact hA hc hr
  · rw [dif_neg hc]; exact BIBase.Entails.trans (hB hc) hr

/-- The end of a program. -/
theorem ret_step {prog : Prog (TpuEff nD τ sig (Elt F) Λ₀ .tc) α} {a : α} {S : sProp 𝕄} (hp : prog = .ret a) (h : S ⊢ Q a) : S ⊢ WP c prog Q := by
  subst hp
  show S ⊢ iprop(|={Set.univ}=> Q a)
  iintro H
  imodintro
  iapply h $$ H

/-- Resources updated before a program. -/
theorem fupd_step {prog : Prog (TpuEff nD τ sig (Elt F) Λ₀ .tc) α} {S S' : sProp 𝕄} (h1 : S ⊢ |={Set.univ}=> S') (h : S' ⊢ WP c prog Q) : S ⊢ WP c prog Q := by
  iintro H
  imod h1 $$ H with H
  iapply h $$ H

theorem NX_pos : 0 < NX := by decide +kernel
theorem NW_pos : 0 < NW := by decide +kernel
theorem NB_pos : 0 < NB := by decide +kernel

theorem wx_step {s : ℕ} {hs : s < 3} {b : ℕ} {R : sProp 𝕄} {prog : Prog (TpuEff nD τ sig (Elt F) Λ₀ .tc) α} {os : Fin 1 → ℕ} {inb1}
    {sp : Space} {s' s'' : Shape} {e e'' : EltTy} {sp'' : Space} {srcw : Memref sig .tc sp'' s'' e''} {dstw : Memref sig .tc sp s' e} {hsrc hdst k}
    (hp : prog = .op (.waitDma2 ((cc0_scratch5.slice (Rect.unit (s := S3) os S1.size inb1)).squeeze S_ squeezes_S1_S_).sem srcw dstw hsrc hdst) k)
    (h1 : os = ![s]) (hJ : dstw.view.dmaCredit = NX * 64)
    (h : iprop(Held c MX BX (semOf cc0_scratch5 s hs) s (slotShare s) E.a0 (E.fx b) ∗ Owes0 c ∗ R) ⊢ WP c (k ⟨⟩) Q) :
    iprop(IX c E s hs b 64 ∗ Keep c MX (slotShare s) E.a0 ∗ Owes0 c ∗ R) ⊢ WP c prog Q := by
  subst h1
  exact op_wait_step c MX BX hp rfl hJ NX_pos h

theorem ww_step {s : ℕ} {hs : s < 3} {b : ℕ} {R : sProp 𝕄} {prog : Prog (TpuEff nD τ sig (Elt F) Λ₀ .tc) α} {os : Fin 1 → ℕ} {inb1}
    {sp : Space} {s' s'' : Shape} {e e'' : EltTy} {sp'' : Space} {srcw : Memref sig .tc sp'' s'' e''} {dstw : Memref sig .tc sp s' e} {hsrc hdst k}
    (hp : prog = .op (.waitDma2 ((cc0_scratch6.slice (Rect.unit (s := S3) os S1.size inb1)).squeeze S_ squeezes_S1_S_).sem srcw dstw hsrc hdst) k)
    (h1 : os = ![s]) (hJ : dstw.view.dmaCredit = NW * 64)
    (h : iprop(Held c MW BW (semOf cc0_scratch6 s hs) s (slotShare s) E.a4 (E.fw b) ∗ Owes0 c ∗ R) ⊢ WP c (k ⟨⟩) Q) :
    iprop(IW c E s hs b 64 ∗ Keep c MW (slotShare s) E.a4 ∗ Owes0 c ∗ R) ⊢ WP c prog Q := by
  subst h1
  exact op_wait_step c MW BW hp rfl hJ NW_pos h

theorem wb_step {s : ℕ} {hs : s < 3} {b : ℕ} {R : sProp 𝕄} {prog : Prog (TpuEff nD τ sig (Elt F) Λ₀ .tc) α} {os : Fin 1 → ℕ} {inb1}
    {sp : Space} {s' s'' : Shape} {e e'' : EltTy} {sp'' : Space} {srcw : Memref sig .tc sp'' s'' e''} {dstw : Memref sig .tc sp s' e} {hsrc hdst k}
    (hp : prog = .op (.waitDma2 ((cc0_scratch7.slice (Rect.unit (s := S3) os S1.size inb1)).squeeze S_ squeezes_S1_S_).sem srcw dstw hsrc hdst) k)
    (h1 : os = ![s]) (hJ : dstw.view.dmaCredit = NB * 64)
    (h : iprop(Held c MB BB (semOf cc0_scratch7 s hs) s (slotShare s) E.a5 (E.fb b) ∗ Owes0 c ∗ R) ⊢ WP c (k ⟨⟩) Q) :
    iprop(IB c E s hs b 64 ∗ Keep c MB (slotShare s) E.a5 ∗ Owes0 c ∗ R) ⊢ WP c prog Q := by
  subst h1
  exact op_wait_step c MB BB hp rfl hJ NB_pos h

theorem cond1_iff (i : grid0.Coords) : k0_cond1 i = 1#1 ↔ (i 0).val = 0 :=
  (show ∀ g : Fin 128, (Scalar.cmpi .ne (Scalar.extui (Scalar.cmpi .eq (BitVec.ofNat 32 g.val) 0#32) : BitVec 32) 0#32 : BitVec 1) = 1#1 ↔ g.val = 0 by decide +kernel) (i 0)

theorem cond2_iff (i : grid0.Coords) : k0_cond2 i = 1#1 ↔ (i 0).val + 2 < 128 :=
  (show ∀ g : Fin 128, (Scalar.cmpi .ne (Scalar.extui (Scalar.cmpi .slt (Scalar.addi (BitVec.ofNat 32 g.val) 2#32) 128#32) : BitVec 32) 0#32 : BitVec 1) = 1#1 ↔ g.val + 2 < 128 by decide +kernel) (i 0)

theorem cond3_iff (i : grid0.Coords) : k0_cond3 i = 1#1 ↔ (i 0).val = 127 :=
  (show ∀ g : Fin 128, (Scalar.cmpi .ne (Scalar.extui (Scalar.cmpi .eq (BitVec.ofNat 32 g.val) 127#32) : BitVec 32) 0#32 : BitVec 1) = 1#1 ↔ g.val = 127 by decide +kernel) (i 0)

theorem semOff (i : grid0.Coords) : (![(slotWord (BitVec.ofNat 32 (i 0).val)).toNat] : Fin 1 → ℕ) = ![(i 0).val % 3] := by
  rw [slotWord_eq ⟨(i 0).val, lt_trans (i 0).isLt (by decide)⟩]

end

end Cert.Proof

end
-- ==== Proof.Start.lean ====
/-
  A grid step up to its first operation, as one statement.
-/
module

public import proofs.«01_k».proof.Proof.Head

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

variable (c : Dev nD) (E : Env F) {Q : (Σ' (arg0 : BitVec 32), BitVec 32) → sProp (MT nD τ sig Unit (Elt F) ℕ (UU nD τ) ℕ)}
variable (accAt : ℕ → (cc0_scratch0 : Ref sig .tc).ty.Contents (Elt F)) (P : sProp (MT nD τ sig Unit (Elt F) ℕ (UU nD τ) ℕ))

/-- After the prologue. -/
def Mid1 (g : ℕ) : sProp 𝕄 :=
  iprop(Tabs c E ∗ Acc c (accAt (64 * g)) ∗ SlotF c E (g % 3) (mod3_lt _) g ∗ SlotX c E ((g + 1) % 3) (mod3_lt _) (g + 1) ∗ SlotI c E ((g + 2) % 3) (mod3_lt _)
    ∗ Owes0 c ∗ P)

/-- After the next block's fetch is started. -/
def Mid2 (g : ℕ) : sProp 𝕄 :=
  iprop(Tabs c E ∗ Acc c (accAt (64 * g)) ∗ SlotF c E (g % 3) (mod3_lt _) g ∗ SlotX c E ((g + 1) % 3) (mod3_lt _) (g + 1) ∗ SlotX c E ((g + 2) % 3) (mod3_lt _) (g + 2)
    ∗ Owes0 c ∗ P)

/-- The first two waits made: what is left to wait for is the biases. -/
def Mid3 (g : ℕ) : sProp 𝕄 :=
  iprop(IB c E (g % 3) (mod3_lt _) g 64 ∗ Keep c MB (slotShare (g % 3)) E.a5 ∗ Owes0 c
    ∗ Held c MW BW (semOf cc0_scratch6 (g % 3) (mod3_lt _)) (g % 3) (slotShare (g % 3)) E.a4 (E.fw g)
    ∗ Held c MX BX (semOf cc0_scratch5 (g % 3) (mod3_lt _)) (g % 3) (slotShare (g % 3)) E.a0 (E.fx g)
    ∗ Tabs c E ∗ Acc c (accAt (64 * g)) ∗ SlotX c E ((g + 1) % 3) (mod3_lt _) (g + 1) ∗ SlotX c E ((g + 2) % 3) (mod3_lt _) (g + 2) ∗ P)

/-- Past the first step the prologue is skipped. -/
theorem mid1_of_pos (g : ℕ) (hg : g < 128) (h : ¬ g = 0) : iprop(Tabs c E ∗ Ring c E accAt g ∗ Owes0 c ∗ P) ⊢ Mid1 c E accAt P g := by
  unfold Ring RingA Mid1
  rw [if_neg h]
  rw [show SlotX c E (g % 3) (mod3_lt _) g = SlotF c E (g % 3) (mod3_lt _) g from if_pos hg]
  iintro ⟨HT, ⟨HA, H1, H2, H3⟩, HO, HP⟩
  isplitl [HT]; · iexact HT
  isplitl [HA]; · iexact HA
  isplitl [H1]; · iexact H1
  isplitl [H2]; · iexact H2
  isplitl [H3]; · iexact H3
  isplitl [HO] <;> iassumption

/-- At the first step, the slots made ready. -/
theorem ring0_start (g : ℕ) (h : g = 0) : iprop(Tabs c E ∗ Ring c E accAt g ∗ Owes0 c ∗ P) ⊢ |={Set.univ}=>
    iprop(∃ f, Acc c f ∗ St c E 0 (by decide) 0 0 0 0 iprop(IX c E 1 (by decide) 1 0 ∗ IW c E 1 (by decide) 1 0 ∗ IB c E 1 (by decide) 1 0
      ∗ Keeps c E 0 ∗ Keeps c E 1 ∗ SlotI c E 2 (by decide) ∗ Owes0 c ∗ P)) := by
  unfold Ring Ring0 St
  rw [if_pos h]
  iintro ⟨HT, ⟨⟨%f, HA⟩, H0, H1, H2⟩, HO, HP⟩
  imod (slot_start c E 0) $$ H0 with ⟨X0, W0, B0, K0⟩
  imod (slot_start c E 1) $$ H1 with ⟨X1, W1, B1, K1⟩
  imodintro
  iexists f
  isplitl [HA]; · iexact HA
  isplitl [HT]; · iexact HT
  isplitl [X0]; · iexact X0
  isplitl [W0]; · iexact W0
  isplitl [B0]; · iexact B0
  isplitl [X1]; · iexact X1
  isplitl [W1]; · iexact W1
  isplitl [B1]; · iexact B1
  isplitl [K0]; · iexact K0
  isplitl [K1]; · iexact K1
  isplitl [H2]; · iexact H2
  isplitl [HO] <;> iassumption

/-- Both blocks started. -/
theorem mid1_of_zero (hacc : accAt 0 = accZ) (g : ℕ) (h : g = 0) (f : (cc0_scratch0 : Ref sig .tc).ty.Contents (Elt F)) :
    St c E 1 (by decide) 1 64 64 64 iprop(IX c E 0 (by decide) 0 64 ∗ IW c E 0 (by decide) 0 64 ∗ IB c E 0 (by decide) 0 64 ∗ Acc c (acc0 f)
      ∗ Keeps c E 0 ∗ Keeps c E 1 ∗ SlotI c E 2 (by decide) ∗ Owes0 c ∗ P) ⊢ Mid1 c E accAt P g := by
  subst h
  unfold St Mid1
  rw [show accAt (64 * 0) = acc0 f from hacc.trans (acc0_eq f).symm]
  show _ ⊢ iprop(Tabs c E ∗ Acc c (acc0 f) ∗ SlotF c E 0 _ 0 ∗ SlotX c E 1 _ 1 ∗ SlotI c E 2 _ ∗ Owes0 c ∗ P)
  unfold SlotX
  rw [if_pos (by decide)]
  unfold SlotF
  iintro ⟨HT, X1, W1, B1, X0, W0, B0, HA, K0, K1, H2, HO, HP⟩
  isplitl [HT]; · iexact HT
  isplitl [HA]; · iexact HA
  isplitl [X0 W0 B0 K0]
  · isplitl [X0]; · iexact X0
    isplitl [W0]; · iexact W0
    isplitl [B0] <;> iassumption
  isplitl [X1 W1 B1 K1]
  · isplitl [X1]; · iexact X1
    isplitl [W1]; · iexact W1
    isplitl [B1] <;> iassumption
  isplitl [H2]; · iexact H2
  isplitl [HO] <;> iassumption

/-- The slot two ahead made ready. -/
theorem third_start (g : ℕ) : Mid1 c E accAt P g ⊢ |={Set.univ}=> St c E ((g + 2) % 3) (mod3_lt _) (g + 2) 0 0 0
    iprop(Keeps c E ((g + 2) % 3) ∗ Acc c (accAt (64 * g)) ∗ SlotF c E (g % 3) (mod3_lt _) g ∗ SlotX c E ((g + 1) % 3) (mod3_lt _) (g + 1) ∗ Owes0 c ∗ P) := by
  unfold Mid1 St
  iintro ⟨HT, HA, H0, H1, H2, HO, HP⟩
  imod (slot_start c E (g + 2)) $$ H2 with ⟨X2, W2, B2, K2⟩
  imodintro
  isplitl [HT]; · iexact HT
  isplitl [X2]; · iexact X2
  isplitl [W2]; · iexact W2
  isplitl [B2]; · iexact B2
  isplitl [K2]; · iexact K2
  isplitl [HA]; · iexact HA
  isplitl [H0]; · iexact H0
  isplitl [H1]; · iexact H1
  isplitl [HO] <;> iassumption

theorem third_end (g : ℕ) (h : g + 2 < 128) : St c E ((g + 2) % 3) (mod3_lt _) (g + 2) 64 64 64
    iprop(Keeps c E ((g + 2) % 3) ∗ Acc c (accAt (64 * g)) ∗ SlotF c E (g % 3) (mod3_lt _) g ∗ SlotX c E ((g + 1) % 3) (mod3_lt _) (g + 1) ∗ Owes0 c ∗ P)
      ⊢ Mid2 c E accAt P g := by
  unfold Mid2 St
  rw [show SlotX c E ((g + 2) % 3) (mod3_lt _) (g + 2) = SlotF c E ((g + 2) % 3) (mod3_lt _) (g + 2) from if_pos h]
  iintro ⟨HT, X2, W2, B2, K2, HA, H0, H1, HO, HP⟩
  isplitl [HT]; · iexact HT
  isplitl [HA]; · iexact HA
  isplitl [H0]; · iexact H0
  isplitl [H1]; · iexact H1
  isplitl [X2 W2 B2 K2]
  · unfold SlotF
    isplitl [X2]; · iexact X2
    isplitl [W2]; · iexact W2
    isplitl [B2] <;> iassumption
  isplitl [HO] <;> iassumption

theorem third_skip (g : ℕ) (h : ¬ g + 2 < 128) : Mid1 c E accAt P g ⊢ Mid2 c E accAt P g := by
  unfold Mid1 Mid2
  rw [show SlotX c E ((g + 2) % 3) (mod3_lt _) (g + 2) = SlotI c E ((g + 2) % 3) (mod3_lt _) from if_neg h]

/-- Ready to wait for the states' rows. -/
theorem wait_start (g : ℕ) : Mid2 c E accAt P g ⊢ iprop(IX c E (g % 3) (mod3_lt _) g 64 ∗ Keep c MX (slotShare (g % 3)) E.a0 ∗ Owes0 c
    ∗ IW c E (g % 3) (mod3_lt _) g 64 ∗ Keep c MW (slotShare (g % 3)) E.a4 ∗ IB c E (g % 3) (mod3_lt _) g 64 ∗ Keep c MB (slotShare (g % 3)) E.a5
    ∗ Tabs c E ∗ Acc c (accAt (64 * g)) ∗ SlotX c E ((g + 1) % 3) (mod3_lt _) (g + 1) ∗ SlotX c E ((g + 2) % 3) (mod3_lt _) (g + 2) ∗ P) := by
  unfold Mid2 SlotF Keeps
  iintro ⟨HT, HA, ⟨X0, W0, B0, K1, K2, K3⟩, H1, H2, HO, HP⟩
  isplitl [X0]; · iexact X0
  isplitl [K1]; · iexact K1
  isplitl [HO]; · iexact HO
  isplitl [W0]; · iexact W0
  isplitl [K2]; · iexact K2
  isplitl [B0]; · iexact B0
  isplitl [K3]; · iexact K3
  isplitl [HT]; · iexact HT
  isplitl [HA]; · iexact HA
  isplitl [H1]; · iexact H1
  isplitl [H2] <;> iassumption

set_option maxRecDepth 65536 in
set_option maxHeartbeats 2000000 in
/-- From the start of a step to its third wait. -/
theorem wp_part170 (hok : E.Ok) (hacc : accAt 0 = accZ) (i : grid0.Coords)
    (h : Mid3 c E accAt P (i 0).val ⊢ Q ⟨BitVec.ofNat 32 (i 0).val, slotWord (BitVec.ofNat 32 (i 0).val)⟩) :
    iprop(Tabs c E ∗ Ring c E accAt (i 0).val ∗ Owes0 c ∗ P) ⊢ WP c (onArgs (k0_part170 (F := F) i)) Q := by
  refine ite_step c (Mid1 c E accAt P (i 0).val) rfl ?_ ?_ (fun hc => mid1_of_pos c E accAt P _ (i 0).isLt fun h0 => hc ((cond1_iff i).2 h0))
  · refine ite_step c (Mid2 c E accAt P (i 0).val) rfl ?_ ?_ (fun hc => third_skip c E accAt P _ fun h0 => hc ((cond2_iff i).2 h0))
    · refine BIBase.Entails.trans (wait_start c E accAt P _) ?_
      refine wx_step c E rfl (semOff i) rfl ?_
      refine BIBase.Entails.trans (show _ ⊢ iprop(IW c E ((i 0).val % 3) (mod3_lt _) (i 0).val 64 ∗ Keep c MW (slotShare ((i 0).val % 3)) E.a4 ∗ Owes0 c
        ∗ Held c MX BX (semOf cc0_scratch5 ((i 0).val % 3) (mod3_lt _)) ((i 0).val % 3) (slotShare ((i 0).val % 3)) E.a0 (E.fx (i 0).val)
        ∗ IB c E ((i 0).val % 3) (mod3_lt _) (i 0).val 64 ∗ Keep c MB (slotShare ((i 0).val % 3)) E.a5
        ∗ Tabs c E ∗ Acc c (accAt (64 * (i 0).val)) ∗ SlotX c E (((i 0).val + 1) % 3) (mod3_lt _) ((i 0).val + 1) ∗ SlotX c E (((i 0).val + 2) % 3) (mod3_lt _) ((i 0).val + 2) ∗ P) from ?_) ?_
      · iintro ⟨HX, HO, HW, HK, HR⟩
        isplitl [HW]; · iexact HW
        isplitl [HK]; · iexact HK
        isplitl [HO]; · iexact HO
        isplitl [HX] <;> iassumption
      refine ww_step c E rfl (semOff i) rfl ?_
      refine ret_step c rfl (BIBase.Entails.trans ?_ h)
      unfold Mid3
      iintro ⟨HW, HO, HX, HB, HK, HR⟩
      isplitl [HB]; · iexact HB
      isplitl [HK]; · iexact HK
      isplitl [HO]; · iexact HO
      isplitl [HW]; · iexact HW
      isplitl [HX] <;> iassumption
    · intro hc hr
      refine fupd_step c (third_start c E accAt P _) ?_
      refine wp_part154 c E _ hok i hc _ fun hw => ?_
      refine dw_step c E hok rfl (by decide) (semOff2 i) (winOff2 i _) rfl ?_
      refine db_step c E hok rfl (by decide) (semOff2 i) (winOff2 i _) rfl ?_
      exact BIBase.Entails.trans (third_end c E accAt P _ ((cond2_iff i).1 hc)) hr
  · intro hc hr
    refine fupd_step c (ring0_start c E accAt P _ ((cond1_iff i).1 hc)) ?_
    refine exists_elim fun f => ?_
    refine wp_part103 c E _ hok i hc f _ fun hw => ?_
    refine wp_part104 c E _ hok i hc hw _ fun hw => ?_
    refine dw_step c E hok rfl (by decide) rfl rfl rfl ?_
    refine db_step c E hok rfl (by decide) rfl rfl rfl ?_
    exact BIBase.Entails.trans (mid1_of_zero c E accAt P hacc _ ((cond1_iff i).1 hc) f) hr

end

end Cert.Proof

end
-- ==== Proof.Ops.lean ====
/-
  One operation of a step: a window of each operand read, the normalised affine map of it computed, added to its row of the
  accumulator. `accAt n` is the accumulator after `n` operations.
-/
module

public import proofs.«01_k».proof.Proof.Start

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

variable (E : Env F)

/-- The windows operation `u` reads. -/
def Env.lx (u : ℕ) : Vec F S1x1x128x64 .f32 := fun j =>
  E.a0 (ix3 (n0 := 4096) (n1 := 128) (n2 := 64) ⟨(E.i1 u).toNat % 4096, Nat.mod_lt _ (by decide)⟩ (j 2) (j 3))
def Env.lw (u : ℕ) : Vec F S1x1x128x128 .bf16 := fun j =>
  E.a4 (ix3 (n0 := 1024) (n1 := 128) (n2 := 128) ⟨(E.i2 u).toNat % 1024, Nat.mod_lt _ (by decide)⟩ (j 2) (j 3))
def Env.lb (u : ℕ) : Vec F S1x1x1x128 .f32 := fun j =>
  E.a5 (ix3 (n0 := 1024) (n1 := 1) (n2 := 128) ⟨(E.i2 u).toNat % 1024, Nat.mod_lt _ (by decide)⟩ (j 2) (j 3))

/-- The affine image of operation `u`, transposed. -/
def affVal (u : ℕ) : FVec F S64x128 .f32 :=
  addf (matmul dot_S128x64_S128x128_S64x128_0_1_1_0_n_n none (truncf .bf16 (shapeCast S128x64 (E.lx u) shapeCasts_S1x1x128x64_S128x64) bitsLt_bf16_f32)
      (shapeCast S128x128 (E.lw u) shapeCasts_S1x1x128x128_S128x128) (constant S64x128 .f32 0x00000000#32))
    (broadcastTo S64x128 (shapeCast S1x128 (E.lb u) shapeCasts_S1x1x1x128_S1x128) broadcasts_S1x128_S64x128)

/-- What operation `u` adds: its affine image, every row divided by its norm. -/
def opVal (u : ℕ) : FVec F S64x128 .f32 :=
  mulf (affVal E u) (broadcastTo S64x128 (rsqrt (maximumf (shapeCast S64x1
    (multiReduction .add [1] S64 (mulf (affVal E u) (affVal E u)) 0x00000000#32 reduces_S64x128_S64 (.inl rfl) rfl) shapeCasts_S64_S64x1)
    (broadcast S64x1 (Scalar.ofBits .f32 0x2B8CBCCC#32)))) broadcasts_S64x1_S64x128)

/-- The accumulator with operation `u`'s result added to its row. -/
def accStep (f : (cc0_scratch0 : Ref sig .tc).ty.Contents (Elt F)) (u : ℕ) : (cc0_scratch0 : Ref sig .tc).ty.Contents (Elt F) := fun i =>
  if (i 0).val = (E.i3 u).toNat then
    addf (F := F) (φ := .f32) (s := S1x64x128) (fun j => f (ix3 (n0 := 1024) (n1 := 64) (n2 := 128) (i 0) (j 1) (j 2))) (shapeCast S1x64x128 (opVal E u) shapeCasts_S64x128_S1x64x128)
      (ix3 (n0 := 1) (n1 := 64) (n2 := 128) ⟨0, Nat.one_pos⟩ (i 1) (i 2))
  else f i

/-- The accumulator after `n` operations. -/
def accAt : ℕ → (cc0_scratch0 : Ref sig .tc).ty.Contents (Elt F)
  | 0 => accZ
  | n + 1 => accStep E (accAt n) n

end

section Operand

variable {m n : ℕ} {e : EltTy} (c : Dev nD) (dst : Memref sig .tc .vmem ⟨4, ![3, 64, m, n]⟩ e)

/-- The elements a load of window `k` of slot `s` reads are among the slot's. -/
theorem win_sub (s k : ℕ) (inb : ∀ a, (![s, k, 0, 0] : Fin 4 → ℕ) a + (![1, 1, m, n] : Fin 4 → ℕ) a ≤ (![3, 64, m, n] : Fin 4 → ℕ) a) :
    dst.view.setOn (Rect.unit (s := ⟨4, ![3, 64, m, n]⟩) ![s, k, 0, 0] ![1, 1, m, n] inb).toLoadRect.set ⊆ slotSet dst s := by
  intro x hx
  simp only [View.setOn, Finset.mem_map] at hx
  obtain ⟨j, hj, rfl⟩ := hx
  simp only [slotSet, Finset.mem_map, Finset.mem_filter, Finset.mem_univ, true_and]
  refine ⟨j, ?_, rfl⟩
  obtain ⟨y, hy, he⟩ := (LoadRect.mem_set _).1 hj 0
  have h1 : y < 1 := hy
  have h2 : (j 0).val = s + 1 * y := he
  omega

/-- What it reads. -/
theorem readAt_win (s k : ℕ) (hs : s < 3) (hk : k < 64) (inb : ∀ a, (![s, k, 0, 0] : Fin 4 → ℕ) a + (![1, 1, m, n] : Fin 4 → ℕ) a ≤ (![3, 64, m, n] : Fin 4 → ℕ) a)
    (f : Buf (Elt F) (dst.view.loc (c : Thread nD τ))) (j : (⟨4, ![1, 1, m, n]⟩ : Shape).Idx) :
    dst.view.readAt (Elt F) (Rect.unit (s := ⟨4, ![3, 64, m, n]⟩) ![s, k, 0, 0] ![1, 1, m, n] inb).toLoadRect f j
      = dst.view.read (Elt F) f (ix4 ⟨s, hs⟩ ⟨k, hk⟩ (j 2) (j 3)) := by
  rw [View.readAt_apply]
  refine congrArg _ ?_
  funext a
  refine Fin.ext ?_
  have h0 : (j 0).val = 0 := Nat.lt_one_iff.1 (j 0).isLt
  have h1 : (j 1).val = 0 := Nat.lt_one_iff.1 (j 1).isLt
  match a with
  | ⟨0, _⟩ => show s + 1 * (j 0).val = s; omega
  | ⟨1, _⟩ => show k + 1 * (j 1).val = k; omega
  | ⟨2, _⟩ => show 0 + 1 * (j 2).val = (j 2).val; omega
  | ⟨3, _⟩ => show 0 + 1 * (j 3).val = (j 3).val; omega

end Operand

section

variable (c : Dev nD) (E : Env F)

/-- The state between statements of operation `k` of block `b`, which slot `s` holds. -/
def OpSt (s : ℕ) (hs : s < 3) (b k : ℕ) (P : sProp 𝕄) : sProp 𝕄 :=
  iprop(Acc c (accAt E (64 * b + k)) ∗ Tabs c E ∗ SlotH c E s hs b ∗ P)

variable {α : Type} {Q : α → sProp (MT nD τ sig Unit (Elt F) ℕ (UU nD τ) ℕ)}
variable {s : ℕ} {hs : s < 3} {b k : ℕ} {P : sProp (MT nD τ sig Unit (Elt F) ℕ (UU nD τ) ℕ)}

/-- The states' window of operation `k'` read. -/
theorem lx_step {prog : Prog (TpuEff nD τ sig (Elt F) Λ₀ .tc) α} {o : Fin 4 → ℕ} {inb hl kont} (k' : ℕ)
    (hp : prog = .op (.load (Memref.whole cc0_scratch1) (Rect.unit (s := S3x64x128x64) o S1x1x128x64.size inb).toLoadRect hl) kont)
    (ho : o = ![s, k', 0, 0]) (h : OpSt c E s hs b k P ⊢ WP c (kont (E.lx (64 * b + k'))) Q) : OpSt c E s hs b k P ⊢ WP c prog Q := by
  subst hp ho
  have hv : BX.view.readAt (Elt F) (Rect.unit (s := S3x64x128x64) ![s, k', 0, 0] S1x1x128x64.size inb).toLoadRect (E.fx b) = E.lx (64 * b + k') := by
    funext j
    exact readAt_win c BX s k' hs (inb 1) inb (E.fx b) j
  unfold OpSt SlotH Held at h ⊢
  iintro ⟨HA, HT, ⟨⟨V1, D1, A1⟩, H2, H3⟩, HP⟩
  iapply (wp_load 𝒱₀ (c : Thread nD τ) none Set.univ (m := BX) (f := E.fx b) (q := fullShare) (S := slotSet BX s) (win_sub BX s k' inb)) $$ D1
  iintro D1
  rw [hv]
  iapply h
  isplitl [HA]; · iexact HA
  isplitl [HT]; · iexact HT
  isplitr [HP]
  · isplitl [V1 D1 A1]
    · isplitl [V1]; · iexact V1
      isplitl [D1] <;> iassumption
    isplitl [H2] <;> iassumption
  · iexact HP

/-- Its weights. -/
theorem lw_step {prog : Prog (TpuEff nD τ sig (Elt F) Λ₀ .tc) α} {o : Fin 4 → ℕ} {inb hl kont} (k' : ℕ)
    (hp : prog = .op (.load (Memref.whole cc0_scratch2) (Rect.unit (s := S3x64x128x128) o S1x1x128x128.size inb).toLoadRect hl) kont)
    (ho : o = ![s, k', 0, 0]) (h : OpSt c E s hs b k P ⊢ WP c (kont (E.lw (64 * b + k'))) Q) : OpSt c E s hs b k P ⊢ WP c prog Q := by
  subst hp ho
  have hv : BW.view.readAt (Elt F) (Rect.unit (s := S3x64x128x128) ![s, k', 0, 0] S1x1x128x128.size inb).toLoadRect (E.fw b) = E.lw (64 * b + k') := by
    funext j
    exact readAt_win c BW s k' hs (inb 1) inb (E.fw b) j
  unfold OpSt SlotH Held at h ⊢
  iintro ⟨HA, HT, ⟨H1, ⟨V1, D1, A1⟩, H3⟩, HP⟩
  iapply (wp_load 𝒱₀ (c : Thread nD τ) none Set.univ (m := BW) (f := E.fw b) (q := fullShare) (S := slotSet BW s) (win_sub BW s k' inb)) $$ D1
  iintro D1
  rw [hv]
  iapply h
  isplitl [HA]; · iexact HA
  isplitl [HT]; · iexact HT
  isplitr [HP]
  · isplitl [H1]; · iexact H1
    isplitl [V1 D1 A1]
    · isplitl [V1]; · iexact V1
      isplitl [D1] <;> iassumption
    iexact H3
  · iexact HP

/-- Its bias. -/
theorem lb_step {prog : Prog (TpuEff nD τ sig (Elt F) Λ₀ .tc) α} {o : Fin 4 → ℕ} {inb hl kont} (k' : ℕ)
    (hp : prog = .op (.load (Memref.whole cc0_scratch3) (Rect.unit (s := S3x64x1x128) o S1x1x1x128.size inb).toLoadRect hl) kont)
    (ho : o = ![s, k', 0, 0]) (h : OpSt c E s hs b k P ⊢ WP c (kont (E.lb (64 * b + k'))) Q) : OpSt c E s hs b k P ⊢ WP c prog Q := by
  subst hp ho
  have hv : BB.view.readAt (Elt F) (Rect.unit (s := S3x64x1x128) ![s, k', 0, 0] S1x1x1x128.size inb).toLoadRect (E.fb b) = E.lb (64 * b + k') := by
    funext j
    exact readAt_win c BB s k' hs (inb 1) inb (E.fb b) j
  unfold OpSt SlotH Held at h ⊢
  iintro ⟨HA, HT, ⟨H1, H2, V1, D1, A1⟩, HP⟩
  iapply (wp_load 𝒱₀ (c : Thread nD τ) none Set.univ (m := BB) (f := E.fb b) (q := fullShare) (S := slotSet BB s) (win_sub BB s k' inb)) $$ D1
  iintro D1
  rw [hv]
  iapply h
  isplitl [HA]; · iexact HA
  isplitl [HT]; · iexact HT
  isplitr [HP]
  · isplitl [H1]; · iexact H1
    isplitl [H2]; · iexact H2
    isplitl [V1]; · iexact V1
    isplitl [D1] <;> iassumption
  · iexact HP

/-- The row it adds to. -/
theorem lr_step {prog : Prog (TpuEff nD τ sig (Elt F) Λ₀ .tc) α} {off : Fin 1 → ℕ} {inb hl kont} (u : ℕ)
    (hp : prog = .op (.load (Memref.whole main_arg3) (Rect.unit (s := S8192) off S1.size inb).toLoadRect hl) kont)
    (hu : off = ![u]) (h : OpSt c E s hs b k P ⊢ WP c (kont (fun _ => E.i3 u)) Q) : OpSt c E s hs b k P ⊢ WP c prog Q := by
  have h1 : iprop(Tabs c E ∗ (Acc c (accAt E (64 * b + k)) ∗ SlotH c E s hs b ∗ P)) ⊢ OpSt c E s hs b k P := by
    unfold OpSt
    iintro ⟨HT, HA, HR⟩
    isplitl [HA]; · iexact HA
    isplitl [HT] <;> iassumption
  have h2 : OpSt c E s hs b k P ⊢ iprop(Tabs c E ∗ (Acc c (accAt E (64 * b + k)) ∗ SlotH c E s hs b ∗ P)) := by
    unfold OpSt
    iintro ⟨HA, HT, HR⟩
    isplitl [HT]; · iexact HT
    isplitl [HA] <;> iassumption
  exact BIBase.Entails.trans h2 (ld3_step c E u hp hu (BIBase.Entails.trans h1 h))

/-- The sum stored is the accumulator one operation later. -/
theorem accStep_write (f : (cc0_scratch0 : Ref sig .tc).ty.Contents (Elt F)) (u : ℕ) (inb inb') :
    ((Memref.whole cc0_scratch0 : Memref sig .tc .vmem S1024x64x128 .f32).access (Rect.unit (s := S1024x64x128) ![(E.i3 u).toNat, 0, 0] S1x64x128.size inb)).write (Elt F) f
      (shapeCast S1x64x128 (addf ((Memref.whole cc0_scratch0 : Memref sig .tc .vmem S1024x64x128 .f32).view.readAt (Elt F)
          (Rect.unit (s := S1024x64x128) ![(E.i3 u).toNat, 0, 0] S1x64x128.size inb').toLoadRect f) (shapeCast S1x64x128 (opVal E u) shapeCasts_S64x128_S1x64x128))
        shapeCasts_S1x64x128_S1x64x128) Finset.univ = accStep E f u := by
  funext i
  by_cases hi : (i 0).val = (E.i3 u).toNat
  · have he : ((Memref.whole cc0_scratch0 : Memref sig .tc .vmem S1024x64x128 .f32).access (Rect.unit (s := S1024x64x128) ![(E.i3 u).toNat, 0, 0] S1x64x128.size inb)).emb
        (ix3 (n0 := 1) (n1 := 64) (n2 := 128) ⟨0, Nat.one_pos⟩ (i 1) (i 2)) = i := by
      show Rect.emb (Rect.unit (s := S1024x64x128) ![(E.i3 u).toNat, 0, 0] S1x64x128.size inb) _ = i
      funext a
      refine Fin.ext ?_
      rw [Rect.emb_apply]
      match a with
      | ⟨0, _⟩ => exact hi.symm
      | ⟨1, _⟩ => show 0 + 1 * (i 1).val = (i 1).val; omega
      | ⟨2, _⟩ => show 0 + 1 * (i 2).val = (i 2).val; omega
    have hw := View.write_emb_of_mem (v := ((Memref.whole cc0_scratch0 : Memref sig .tc .vmem S1024x64x128 .f32).access (Rect.unit (s := S1024x64x128) ![(E.i3 u).toNat, 0, 0] S1x64x128.size inb)))
      (Val := Elt F) f (shapeCast S1x64x128 (addf ((Memref.whole cc0_scratch0 : Memref sig .tc .vmem S1024x64x128 .f32).view.readAt (Elt F)
          (Rect.unit (s := S1024x64x128) ![(E.i3 u).toNat, 0, 0] S1x64x128.size inb').toLoadRect f) (shapeCast S1x64x128 (opVal E u) shapeCasts_S64x128_S1x64x128))
        shapeCasts_S1x64x128_S1x64x128) (Finset.mem_univ (ix3 (n0 := 1) (n1 := 64) (n2 := 128) ⟨0, Nat.one_pos⟩ (i 1) (i 2)))
    rw [he] at hw
    refine hw.trans ((cast_eq _ _).trans ((congrFun (shapeCast_self _ _) _).trans ?_))
    unfold accStep
    rw [if_pos hi]
    show addf (F := F) (φ := .f32) _ _ _ = addf (F := F) (φ := .f32) _ _ _
    congr 1
    funext j
    rw [View.readAt_apply]
    show f _ = f _
    refine congrArg f ?_
    funext a
    refine Fin.ext ?_
    have h0 : (j 0).val = 0 := Nat.lt_one_iff.1 (j 0).isLt
    match a with
    | ⟨0, _⟩ => show (E.i3 u).toNat + 1 * (j 0).val = (i 0).val; omega
    | ⟨1, _⟩ => show 0 + 1 * (j 1).val = (j 1).val; omega
    | ⟨2, _⟩ => show 0 + 1 * (j 2).val = (j 2).val; omega
  · unfold accStep
    rw [if_neg hi]
    refine View.write_of_not_mem _ _ _ ?_
    intro hm
    obtain ⟨j, -, hj⟩ := Finset.mem_map.1 hm
    refine hi ?_
    rw [← hj]
    have h0 : (j 0).val = 0 := Nat.lt_one_iff.1 (j 0).isLt
    show (E.i3 u).toNat + 1 * (j 0).val = (E.i3 u).toNat
    omega

/-- The accumulator's row read. -/
theorem la_step {prog : Prog (TpuEff nD τ sig (Elt F) Λ₀ .tc) α} {off size : Fin 3 → ℕ} {inb hl kont}
    (hp : prog = .op (.load (Memref.whole cc0_scratch0) (Rect.unit (s := S1024x64x128) off size inb).toLoadRect hl) kont)
    (h : OpSt c E s hs b k P ⊢ WP c (kont ((Memref.whole cc0_scratch0 : Memref sig .tc .vmem S1024x64x128 .f32).view.readAt (Elt F)
      (Rect.unit (s := S1024x64x128) off size inb).toLoadRect (accAt E (64 * b + k)))) Q) : OpSt c E s hs b k P ⊢ WP c prog Q :=
  accLd_step c hp h

/-- The sum stored: the next operation's state. -/
theorem sa_step {prog : Prog (TpuEff nD τ sig (Elt F) Λ₀ .tc) α} {off : Fin 3 → ℕ} {inb inb' v hst hms kont}
    (hp : prog = .op (.store (Memref.whole cc0_scratch0) (Rect.unit (s := S1024x64x128) off S1x64x128.size inb) v Finset.univ hst hms) kont)
    (ho : off = ![(E.i3 (64 * b + k)).toNat, 0, 0])
    (hv : v = shapeCast S1x64x128 (addf ((Memref.whole cc0_scratch0 : Memref sig .tc .vmem S1024x64x128 .f32).view.readAt (Elt F)
          (Rect.unit (s := S1024x64x128) ![(E.i3 (64 * b + k)).toNat, 0, 0] S1x64x128.size inb').toLoadRect (accAt E (64 * b + k)))
          (shapeCast S1x64x128 (opVal E (64 * b + k)) shapeCasts_S64x128_S1x64x128)) shapeCasts_S1x64x128_S1x64x128)
    (h : OpSt c E s hs b (k + 1) P ⊢ WP c (kont ⟨⟩) Q) : OpSt c E s hs b k P ⊢ WP c prog Q := by
  subst ho hv
  refine accSt_step c hp ?_
  rw [accStep_write E (accAt E (64 * b + k)) (64 * b + k) inb inb']
  exact h

end

end Cert.Proof

end
-- ==== Proof.Body.lean ====
/-
  One step of the kernel: its block's operands waited for, its 64 operations, and at the last step the results written out.
-/
module

public import proofs.«01_k».proof.Proof.Ops

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

variable (i : grid0.Coords)

theorem winOff (k : ℕ) : (![(slotWord (BitVec.ofNat 32 (i 0).val)).toNat, k, 0, 0] : Fin 4 → ℕ) = ![(i 0).val % 3, k, 0, 0] := by
  rw [slotWord_eq ⟨(i 0).val, lt_trans (i 0).isLt (by decide)⟩]

theorem tabOff (k : ℕ) (hk : k < 64 := by decide) :
    (![(Scalar.indexCast (Scalar.addi (Scalar.muli (BitVec.ofNat 32 (i 0).val) 64#32) (BitVec.ofNat 32 k)) : BitVec 32).toNat] : Fin 1 → ℕ)
      = ![64 * (i 0).val + k] := by
  rw [opWord _ k (i 0).isLt hk]

end

section

variable (c : Dev nD) (E : Env F) {α β : Type} {Q : α → sProp (MT nD τ sig Unit (Elt F) ℕ (UU nD τ) ℕ)}
variable (P : sProp (MT nD τ sig Unit (Elt F) ℕ (UU nD τ) ℕ))

/-- A program run before the rest. -/
theorem bind_step {S : sProp 𝕄} {p : Prog (TpuEff nD τ sig (Elt F) Λ₀ .tc) β} {k : β → Prog (TpuEff nD τ sig (Elt F) Λ₀ .tc) α}
    {prog : Prog (TpuEff nD τ sig (Elt F) Λ₀ .tc) α} (hp : prog = p >>= k) (h : S ⊢ WP c p (fun a => WP c (k a) Q)) : S ⊢ WP c prog Q := by
  subst hp
  unfold WP at h ⊢
  rw [wp_bind]
  exact h

/-- The state once block `g`'s operations are done. -/
def Mid4 (g : ℕ) : sProp 𝕄 :=
  OpSt c E (g % 3) (mod3_lt _) g 64 (iprop(SlotX c E ((g + 1) % 3) (mod3_lt _) (g + 1) ∗ SlotX c E ((g + 2) % 3) (mod3_lt _) (g + 2) ∗ Owes0 c ∗ P))

/-- The state before them. -/
theorem ops_start (g : ℕ) : iprop(Held c MB BB (semOf cc0_scratch7 (g % 3) (mod3_lt _)) (g % 3) (slotShare (g % 3)) E.a5 (E.fb g) ∗ Owes0 c
    ∗ Held c MW BW (semOf cc0_scratch6 (g % 3) (mod3_lt _)) (g % 3) (slotShare (g % 3)) E.a4 (E.fw g)
    ∗ Held c MX BX (semOf cc0_scratch5 (g % 3) (mod3_lt _)) (g % 3) (slotShare (g % 3)) E.a0 (E.fx g)
    ∗ Tabs c E ∗ Acc c (accAt E (64 * g)) ∗ SlotX c E ((g + 1) % 3) (mod3_lt _) (g + 1) ∗ SlotX c E ((g + 2) % 3) (mod3_lt _) (g + 2) ∗ P)
    ⊢ OpSt c E (g % 3) (mod3_lt _) g 0 (iprop(SlotX c E ((g + 1) % 3) (mod3_lt _) (g + 1) ∗ SlotX c E ((g + 2) % 3) (mod3_lt _) (g + 2) ∗ Owes0 c ∗ P)) := by
  unfold OpSt SlotH
  iintro ⟨HB, HO, HW, HX, HT, HA, H1, H2, HP⟩
  isplitl [HA]; · iexact HA
  isplitl [HT]; · iexact HT
  isplitl [HX HW HB]
  · isplitl [HX]; · iexact HX
    isplitl [HW] <;> iassumption
  isplitl [H1]; · iexact H1
  isplitl [H2]; · iexact H2
  isplitl [HO] <;> iassumption

set_option maxRecDepth 65536 in
set_option maxHeartbeats 2000000 in
/-- A step of the kernel. -/
theorem wp_body (hok : E.Ok) (i : grid0.Coords) (R : sProp 𝕄)
    (hno : ¬ k0_cond3 i = 1#1 → Mid4 c E P (i 0).val ⊢ R)
    (hyes : ∀ (h3 : k0_cond3 i = 1#1) (Q' : PUnit → sProp 𝕄), (R ⊢ Q' ⟨⟩) → (Mid4 c E P (i 0).val ⊢ WP c (onArgs (k0_part169 (F := F) i) h3) Q')) :
    iprop(Tabs c E ∗ Ring c E (accAt E) (i 0).val ∗ Owes0 c ∗ P) ⊢ WP c (onArgs (cc0__body (F := F) i)) (fun _ => R) := by
  refine bind_step c rfl ?_
  refine bind_step c rfl ?_
  refine wp_part170 c E (accAt E) P hok rfl i ?_
  unfold Mid3
  refine wb_step c E rfl (semOff i) rfl ?_
  refine BIBase.Entails.trans (ops_start c E P _) ?_
  iterate 63
    refine lw_step c E _ rfl (winOff i _) ?_
    refine lx_step c E _ rfl (winOff i _) ?_
    refine lb_step c E _ rfl (winOff i _) ?_
    refine lr_step c E _ rfl (tabOff i _) ?_
    refine as_step c rfl (inb3 (hok.h3 _)) ?_
    refine la_step c E rfl ?_
    refine la_step c E rfl ?_
    refine sa_step c E rfl rfl rfl ?_
  refine lw_step c E _ rfl (winOff i _) ?_
  refine lx_step c E _ rfl (winOff i _) ?_
  refine ret_step c rfl ?_
  refine lb_step c E _ rfl (winOff i _) ?_
  refine lr_step c E _ rfl (tabOff i _) ?_
  refine as_step c rfl (inb3 (hok.h3 _)) ?_
  refine la_step c E rfl ?_
  refine la_step c E rfl ?_
  refine sa_step c E rfl rfl rfl ?_
  refine ite_step c R rfl ?_ ?_ hno
  · exact ret_step c rfl .rfl
  · intro h3 hr
    refine bind_step c rfl ?_
    exact hyes h3 _ (ret_step c rfl .rfl)

end

end Cert.Proof

end
-- ==== Proof.Flight.lean ====
/-
  The transfers that write a block of results out: the four columns of a staging buffer, each to its window of the array, all on one
  semaphore, which four waits bring back to zero.
-/
module

public import proofs.«01_k».proof.Proof.Body

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section Operand

variable {e : EltTy} (c : Dev nD)
  (src : Memref sig .tc .vmem ⟨4, ![32, 128, 4, 64]⟩ e) (dst : Memref sig .tc .hbm ⟨4, ![4, 256, 128, 64]⟩ e)

/-- The elements of column `q` of the staging buffer. -/
def colSet (q : ℕ) : Finset (src.view.ty.Idx) :=
  (Finset.univ.filter fun i : (⟨4, ![32, 128, 4, 64]⟩ : Shape).Idx => (i 2).val = q).map src.view.emb

/-- The elements of the array's rows `t` to `t + 31`, and those of them in its window `q`. -/
def rowsSet (t : ℕ) : Finset (dst.view.ty.Idx) :=
  (Finset.univ.filter fun i : (⟨4, ![4, 256, 128, 64]⟩ : Shape).Idx => t ≤ (i 1).val ∧ (i 1).val < t + 32).map dst.view.emb
def rwinSet (t q : ℕ) : Finset (dst.view.ty.Idx) :=
  (Finset.univ.filter fun i : (⟨4, ![4, 256, 128, 64]⟩ : Shape).Idx => (i 0).val = q ∧ t ≤ (i 1).val ∧ (i 1).val < t + 32).map dst.view.emb

/-- The views the transfers name. -/
abbrev colM (o : Fin 4 → ℕ) (inb : ∀ a, o a + (![32, 128, 1, 64] : Fin 4 → ℕ) a ≤ (![32, 128, 4, 64] : Fin 4 → ℕ) a)
    (h : ∀ a, (Rect.unit (s := ⟨4, ![32, 128, 4, 64]⟩) o ![32, 128, 1, 64] inb).stride a = 1)
    (sq : (⟨4, ![32, 128, 1, 64]⟩ : Shape).Squeezes ⟨3, ![32, 128, 64]⟩) : Memref sig .tc .vmem ⟨3, ![32, 128, 64]⟩ e :=
  (src.slice (Rect.unit (s := ⟨4, ![32, 128, 4, 64]⟩) o ![32, 128, 1, 64] inb) h).squeeze ⟨3, ![32, 128, 64]⟩ sq
abbrev rwinM (o : Fin 4 → ℕ) (inb : ∀ a, o a + (![1, 32, 128, 64] : Fin 4 → ℕ) a ≤ (![4, 256, 128, 64] : Fin 4 → ℕ) a)
    (h : ∀ a, (Rect.unit (s := ⟨4, ![4, 256, 128, 64]⟩) o ![1, 32, 128, 64] inb).stride a = 1)
    (sq : (⟨4, ![1, 32, 128, 64]⟩ : Shape).Squeezes ⟨3, ![32, 128, 64]⟩) : Memref sig .tc .hbm ⟨3, ![32, 128, 64]⟩ e :=
  (dst.slice (Rect.unit (s := ⟨4, ![4, 256, 128, 64]⟩) o ![1, 32, 128, 64] inb) h).squeeze ⟨3, ![32, 128, 64]⟩ sq

theorem colM_emb (q : Fin 4) (inb h sq) (x : Fin 32) (y : Fin 128) (z : Fin 64) :
    (colM src ![0, 0, q.val, 0] inb h sq).view.emb (ix3 x y z) = src.view.emb (ix4 x y q z) := by
  show src.view.emb (Rect.emb _ (Shape.reshapeEquiv _ (ix3 x y z))) = _
  refine congrArg src.view.emb ?_
  rw [Shape.reshapeEquiv_eq_of_rowMajor _ (y := ix4 (n0 := 32) (n1 := 128) (n2 := 1) (n3 := 64) x y ⟨0, Nat.one_pos⟩ z) (by
    rw [Shape.rowMajor_val_four, Shape.rowMajor_val_three]
    show ((x.val * 128 + y.val) * 1 + 0) * 64 + z.val = (x.val * 128 + y.val) * 64 + z.val
    omega)]
  funext a
  refine Fin.ext ?_
  rw [Rect.emb_apply]
  match a with
  | ⟨0, _⟩ => simp [Rect.unit]
  | ⟨1, _⟩ => simp [Rect.unit]
  | ⟨2, _⟩ => simp [Rect.unit]
  | ⟨3, _⟩ => simp [Rect.unit]

theorem rwinM_emb (t : ℕ) (ht : t + 32 ≤ 256) (q : Fin 4) (inb h sq) (x : Fin 32) (y : Fin 128) (z : Fin 64) :
    (rwinM dst ![q.val, t, 0, 0] inb h sq).view.emb (ix3 x y z) = dst.view.emb (ix4 q ⟨t + x.val, by omega⟩ y z) := by
  show dst.view.emb (Rect.emb _ (Shape.reshapeEquiv _ (ix3 x y z))) = _
  refine congrArg dst.view.emb ?_
  rw [reshapeEquiv_ix3_1abc]
  funext a
  refine Fin.ext ?_
  rw [Rect.emb_apply]
  match a with
  | ⟨0, _⟩ => simp [Rect.unit]
  | ⟨1, _⟩ => simp [Rect.unit]
  | ⟨2, _⟩ => simp [Rect.unit]
  | ⟨3, _⟩ => simp [Rect.unit]

theorem colM_set (q : Fin 4) (inb h sq) : (colM src ![0, 0, q.val, 0] inb h sq).view.set = colSet src q.val := by
  ext i
  simp only [View.set, colSet, Finset.mem_map, Finset.mem_univ, true_and, Finset.mem_filter]
  constructor
  · rintro ⟨j, rfl⟩
    rw [eq_ix3 j]
    exact ⟨_, rfl, (colM_emb src q inb h sq _ _ _).symm⟩
  · rintro ⟨j, h0, rfl⟩
    refine ⟨ix3 (n0 := 32) (n1 := 128) (n2 := 64) (j 0) (j 1) (j 3), (colM_emb src q inb h sq _ _ _).trans (congrArg src.view.emb ?_)⟩
    rw [eq_ix4 j]
    congr 1
    exact Fin.ext h0.symm

theorem rwinM_set (t : ℕ) (ht : t + 32 ≤ 256) (q : Fin 4) (inb h sq) : (rwinM dst ![q.val, t, 0, 0] inb h sq).view.set = rwinSet dst t q.val := by
  ext i
  simp only [View.set, rwinSet, Finset.mem_map, Finset.mem_univ, true_and, Finset.mem_filter]
  constructor
  · rintro ⟨j, rfl⟩
    rw [eq_ix3 j]
    refine ⟨_, ⟨rfl, ?_, ?_⟩, (rwinM_emb dst t ht q inb h sq _ _ _).symm⟩
    · exact Nat.le_add_right _ _
    · exact Nat.add_lt_add_left (j 0).isLt t
  · rintro ⟨j, ⟨h0, h1, h2⟩, rfl⟩
    refine ⟨ix3 (n0 := 32) (n1 := 128) (n2 := 64) ⟨(j 1).val - t, by omega⟩ (j 2) (j 3), (rwinM_emb dst t ht q inb h sq _ _ _).trans (congrArg dst.view.emb ?_)⟩
    refine Eq.trans ?_ (eq_ix4 j).symm
    congr 1
    · exact Fin.ext h0.symm
    · exact Fin.ext (show t + ((j 1).val - t) = (j 1).val by omega)

/-- A column landed in its window is the window of `L`, when `L` holds that column there. -/
theorem rwin_landed (t : ℕ) (ht : t + 32 ≤ 256) (q : Fin 4) (inb h sq inb' h' sq')
    (S : Buf (Elt F) (src.view.loc (c : Thread nD τ))) (f L : Buf (Elt F) (dst.view.loc (c : Thread nD τ)))
    (hL : ∀ (x : Fin 32) (y : Fin 128) (z : Fin 64), dst.view.read (Elt F) L (ix4 q ⟨t + x.val, by omega⟩ y z) = src.view.read (Elt F) S (ix4 x y q z)) :
    ∀ i ∈ rwinSet dst t q.val,
      (rwinM dst ![q.val, t, 0, 0] inb h sq).view.write (Elt F) f ((colM src ![0, 0, q.val, 0] inb' h' sq').view.read (Elt F) S) Finset.univ i = L i := by
  intro i hi
  rw [← rwinM_set dst t ht q inb h sq] at hi
  obtain ⟨j, -, rfl⟩ := Finset.mem_map.1 hi
  rw [View.write_emb_of_mem _ _ (Finset.mem_univ j)]
  obtain ⟨x, y, z, rfl⟩ : ∃ x y z, j = ix3 x y z := ⟨_, _, _, eq_ix3 j⟩
  have h1 := hL x y z
  rw [View.read_apply, View.read_apply] at h1
  rw [View.read_apply, colM_emb src q]
  refine eq_of_heq ((cast_heq _ _).trans ((cast_heq _ _).trans ?_))
  have h2 := heq_of_eq h1
  refine ((cast_heq _ _).symm.trans (h2.symm.trans (cast_heq _ _))).trans ?_
  rw [rwinM_emb dst t ht]

/-- What transfer `q` is started from, and what it delivers. -/
def Rrow (t : ℕ) (S : Buf (Elt F) (src.view.loc (c : Thread nD τ))) (f : Buf (Elt F) (dst.view.loc (c : Thread nD τ))) (q : Fin 4) : sProp 𝕄 :=
  iprop(((dst.view.loc (c : Thread nD τ)) ↦[rwinSet dst t q.val]{fullShare} f) ∗ (src.view.loc (c : Thread nD τ)) ↦[colSet src q.val]{fullShare} S)

instance Rrow_storable (t : ℕ) (S : Buf (Elt F) (src.view.loc (c : Thread nD τ))) (f : Buf (Elt F) (dst.view.loc (c : Thread nD τ))) (q : Fin 4) :
    Storable (upEmb : UEmb _ 𝕄) (Rrow c src dst t S f q) := by
  unfold Rrow; infer_instance

/-- `j` of the four transfers started on the semaphore `sm`, each of `N` units, and `u` units waited for; the rest not started. -/
def Fly (sm : DmaSem sig) (N t : ℕ) (S : Buf (Elt F) (src.view.loc (c : Thread nD τ))) (f L : Buf (Elt F) (dst.view.loc (c : Thread nD τ))) (j u : ℕ) : sProp 𝕄 :=
  iprop(Batch EC (c : Thread nD τ) (.dma sm) () N (Rrow c src dst t S L) j u ∗ bigSep (pending j) (Rrow c src dst t S f))

variable {α : Type} {Q : α → sProp (MT nD τ sig Unit (Elt F) ℕ (UU nD τ) ℕ)}

/-- One transfer started. -/
theorem fly_step {sm sm' : DmaSem sig} {N t : ℕ} {S : Buf (Elt F) (src.view.loc (c : Thread nD τ))} {f L : Buf (Elt F) (dst.view.loc (c : Thread nD τ))}
    (j : ℕ) (hj : j < 4) {os od : Fin 4 → ℕ} {inb h sq inb' h' sq'} {R : sProp 𝕄} {prog : Prog (TpuEff nD τ sig (Elt F) Λ₀ .tc) α}
    {hsrc : (colM src os inb' h' sq').view.WordExact} {hdst : (rwinM dst od inb h sq).view.WordExact}
    {hsem : (DmaTarget.here (rwinM dst od inb h sq) : DmaTarget nD τ sig (c : Thread nD τ).2 .hbm ⟨3, ![32, 128, 64]⟩ e).Typed .vmem (.dma sm')}
    {k : PUnit → Prog (TpuEff nD τ sig (Elt F) Λ₀ .tc) α}
    (hp : prog = .op (.enqueueDma (colM src os inb' h' sq') (.here (rwinM dst od inb h sq)) (.dma sm') hsrc hdst hsem) k)
    (hsm : sm' = sm) (hos : os = ![0, 0, j, 0]) (hod : od = ![j, t, 0, 0]) (ht : t + 32 ≤ 256)
    (hL : ∀ (q : Fin 4) (x : Fin 32) (y : Fin 128) (z : Fin 64), dst.view.read (Elt F) L (ix4 q ⟨t + x.val, by omega⟩ y z) = src.view.read (Elt F) S (ix4 x y q z))
    (hN : (rwinM dst od inb h sq).view.amount (.dma sm') = N)
    (hk : iprop(Fly c src dst sm N t S f L (j + 1) 0 ∗ R) ⊢ WP c (k ⟨⟩) Q) : iprop(Fly c src dst sm N t S f L j 0 ∗ R) ⊢ WP c prog Q := by
  subst hp hsm hos hod
  unfold Fly Batch at hk ⊢
  iintro ⟨⟨⟨%γ, %γ₀, %κ, #Hinv, HI, H0, Hcred⟩, HR⟩, HP⟩
  ihave HI' := (show bigSep (pending j) (fun t => count EC (γ t) 0) ⊢ iprop(count EC (γ ⟨j, hj⟩) 0 ∗ bigSep (pending (j + 1)) (fun t => count EC (γ t) 0))
    from Entails.of_eq (bigSep_pending_step _ j hj)) $$ HI
  icases HI' with ⟨Ht, HI⟩
  ihave HR' := (show bigSep (pending j) (Rrow c src dst t S f) ⊢ iprop((((dst.view.loc (c : Thread nD τ)) ↦[rwinSet dst t j]{fullShare} f)
      ∗ (src.view.loc (c : Thread nD τ)) ↦[colSet src j]{fullShare} S) ∗ bigSep (pending (j + 1)) (Rrow c src dst t S f))
    from Entails.of_eq (bigSep_pending_step _ j hj)) $$ HR
  icases HR' with ⟨⟨Hd, Hs⟩, HR⟩
  ihave Hs' := (Entails.of_eq (congrArg (fun X => ((src.view.loc (c : Thread nD τ)) ↦[X]{fullShare} S : sProp 𝕄)) (colM_set src ⟨j, hj⟩ inb' h' sq').symm)) $$ Hs
  iapply (wp_enqueueDma 𝒱₀ (c : Thread nD τ) none Set.univ () N hN) $$ [Hs' Hd] [Ht]
  · isplitl [Hs']; · iexact Hs'
    iapply (pointsTo_writeUpdate (c : Thread nD τ) (rwinM_set dst t ht ⟨j, hj⟩ inb h sq).subset) $$ Hd
  · iapply (batch_creditUpdate EC (D := Rrow c src dst t S L) ⟨j, hj⟩ (by
        unfold Rrow
        iintro ⟨Hd, Hs⟩
        isplitl [Hd]
        · iapply (Entails.of_eq (pointsTo_congr (rwin_landed c src dst t ht ⟨j, hj⟩ inb h sq inb' h' sq' S f L (hL _)))) $$ Hd
        · iapply (Entails.of_eq (congrArg (fun X => ((src.view.loc (c : Thread nD τ)) ↦[X]{fullShare} S : sProp 𝕄)) (colM_set src ⟨j, hj⟩ inb' h' sq'))) $$ Hs))
    isplitr; · iexact Hinv
    iexact Ht
  iintro Hcred'
  iapply hk
  isplitr [HP]
  · isplitl [HI H0 Hcred Hcred']
    · iexists γ, γ₀, κ
      isplitr; · iexact Hinv
      isplitl [HI]; · iexact HI
      isplitl [H0]; · iexact H0
      rw [show (j + 1) * N - 0 = (j * N - 0) + N by rw [Nat.succ_mul]; omega, ← tallyAt_add]
      icombine Hcred Hcred' as H
      iexact H
    · iexact HR
  · iexact HP

/-- A wait, not the last. -/
theorem land_step {sm sm' : DmaSem sig} {N t : ℕ} {S : Buf (Elt F) (src.view.loc (c : Thread nD τ))} {f L : Buf (Elt F) (dst.view.loc (c : Thread nD τ))}
    {sp : Space} {s' s'' : Shape} {e' e'' : EltTy} {sp'' : Space}
    {srcw : Memref sig .tc sp'' s'' e''} {dstw : Memref sig .tc sp s' e'}
    {hsrc : srcw.view.WordExact} {hdst : dstw.view.WordExact} {R : sProp 𝕄} {prog : Prog (TpuEff nD τ sig (Elt F) Λ₀ .tc) α}
    {k : PUnit → Prog (TpuEff nD τ sig (Elt F) Λ₀ .tc) α} (j : ℕ)
    (hp : prog = .op (.waitDma2 sm' srcw dstw hsrc hdst) k) (hsm : sm' = sm) (hJ : dstw.view.dmaCredit = N) (hN : 0 < N) (hj : j < 3)
    (h : iprop(Fly c src dst sm N t S f L 4 ((j + 1) * N) ∗ Owes0 c ∗ R) ⊢ WP c (k ⟨⟩) Q) :
    iprop(Fly c src dst sm N t S f L 4 (j * N) ∗ Owes0 c ∗ R) ⊢ WP c prog Q := by
  subst hp hsm
  rw [show (j + 1) * N = j * N + N from Nat.succ_mul j N] at h
  have hu : j * N + N < N * 4 := by
    have h1 : (j + 1) * N < 4 * N := Nat.mul_lt_mul_of_pos_right (by omega) hN
    rwa [Nat.succ_mul, Nat.mul_comm 4] at h1
  unfold Owes0 Fly at h ⊢
  iintro ⟨⟨HB, HR⟩, ⟨%W, HO⟩, HP⟩
  iapply (wp_waitBatch EC 𝒱₀ (c : Thread nD τ) none () hJ hu) $$ [HB HO]
  · isplitl [HB] <;> iassumption
  iintro ⟨HB, HO⟩
  iapply h
  isplitl [HB HR]; · isplitl [HB] <;> iassumption
  isplitl [HO]; · iexists _; iexact HO
  iexact HP

/-- The last one. -/
theorem last_step {sm sm' : DmaSem sig} {N t : ℕ} {S : Buf (Elt F) (src.view.loc (c : Thread nD τ))} {f L : Buf (Elt F) (dst.view.loc (c : Thread nD τ))}
    {sp : Space} {s' s'' : Shape} {e' e'' : EltTy} {sp'' : Space}
    {srcw : Memref sig .tc sp'' s'' e''} {dstw : Memref sig .tc sp s' e'}
    {hsrc : srcw.view.WordExact} {hdst : dstw.view.WordExact} {R : sProp 𝕄} {prog : Prog (TpuEff nD τ sig (Elt F) Λ₀ .tc) α}
    {k : PUnit → Prog (TpuEff nD τ sig (Elt F) Λ₀ .tc) α}
    (hp : prog = .op (.waitDma2 sm' srcw dstw hsrc hdst) k) (hsm : sm' = sm) (hJ : dstw.view.dmaCredit = N) (hN : 0 < N)
    (h : iprop((bigSep Finset.univ (Rrow c src dst t S L) ∗ semVal ((c : Thread nD τ), .dma sm) 0) ∗ Owes0 c ∗ R) ⊢ WP c (k ⟨⟩) Q) :
    iprop(Fly c src dst sm N t S f L 4 (3 * N) ∗ Owes0 c ∗ R) ⊢ WP c prog Q := by
  subst hp hsm
  have hu : 3 * N + N = N * 4 := by omega
  unfold Owes0 Fly at *
  iintro ⟨⟨HB, -⟩, ⟨%W, HO⟩, HP⟩
  iapply (wp_waitBatchLast EC 𝒱₀ (c : Thread nD τ) none () hJ hN hu) $$ [HB HO]
  · isplitl [HB] <;> iassumption
  iintro ⟨HD, HV, HO⟩
  iapply h
  isplitl [HD HV]; · isplitl [HD] <;> iassumption
  isplitl [HO]; · iexists _; iexact HO
  iexact HP

/-- A set of a buffer held at `f` is its pieces held at `f`: the columns of the staging buffer, the windows of the array's rows. -/
theorem cols_split (S : Buf (Elt F) (src.view.loc (c : Thread nD τ))) :
    ((src.view.loc (c : Thread nD τ)) ↦[src.view.set]{fullShare} S : sProp 𝕄)
      = bigSep Finset.univ fun q : Fin 4 => (src.view.loc (c : Thread nD τ)) ↦[colSet src q.val]{fullShare} S := by
  have hs : src.view.set = Finset.univ.biUnion (fun q : Fin 4 => colSet src q.val) := by
    ext i
    simp only [View.set, colSet, Finset.mem_biUnion, Finset.mem_map, Finset.mem_filter, Finset.mem_univ, true_and]
    constructor
    · rintro ⟨j, rfl⟩
      exact ⟨j 2, j, rfl, rfl⟩
    · rintro ⟨k, j, -, rfl⟩
      exact ⟨j, rfl⟩
  rw [hs]
  refine pointsTo_biUnion _ _ fun k _ k' _ hkk => Finset.disjoint_left.2 fun i hi hi' => hkk ?_
  simp only [colSet, Finset.mem_map, Finset.mem_filter, Finset.mem_univ, true_and] at hi hi'
  obtain ⟨j, h, rfl⟩ := hi
  obtain ⟨j', h', e'⟩ := hi'
  have := src.view.emb.injective e'
  subst this
  exact Fin.ext (h.symm.trans h')

theorem rows_split (t : ℕ) (f : Buf (Elt F) (dst.view.loc (c : Thread nD τ))) :
    ((dst.view.loc (c : Thread nD τ)) ↦[rowsSet dst t]{fullShare} f : sProp 𝕄)
      = bigSep Finset.univ fun q : Fin 4 => (dst.view.loc (c : Thread nD τ)) ↦[rwinSet dst t q.val]{fullShare} f := by
  have hs : rowsSet dst t = Finset.univ.biUnion (fun q : Fin 4 => rwinSet dst t q.val) := by
    ext i
    simp only [rowsSet, rwinSet, Finset.mem_biUnion, Finset.mem_map, Finset.mem_filter, Finset.mem_univ, true_and]
    constructor
    · rintro ⟨j, h, rfl⟩
      exact ⟨j 0, j, ⟨rfl, h⟩, rfl⟩
    · rintro ⟨k, j, ⟨-, h⟩, rfl⟩
      exact ⟨j, h, rfl⟩
  rw [hs]
  refine pointsTo_biUnion _ _ fun k _ k' _ hkk => Finset.disjoint_left.2 fun i hi hi' => hkk ?_
  simp only [rwinSet, Finset.mem_map, Finset.mem_filter, Finset.mem_univ, true_and] at hi hi'
  obtain ⟨j, ⟨h, -⟩, rfl⟩ := hi
  obtain ⟨j', ⟨h', -⟩, e'⟩ := hi'
  have := dst.view.emb.injective e'
  subst this
  exact Fin.ext (h.symm.trans h')

/-- The pieces of both together. -/
theorem rrow_all (t : ℕ) (S : Buf (Elt F) (src.view.loc (c : Thread nD τ))) (f : Buf (Elt F) (dst.view.loc (c : Thread nD τ))) :
    (bigSep Finset.univ (Rrow c src dst t S f) : sProp 𝕄)
      = iprop(((dst.view.loc (c : Thread nD τ)) ↦[rowsSet dst t]{fullShare} f) ∗ (src.view.loc (c : Thread nD τ)) ↦[src.view.set]{fullShare} S) := by
  rw [rows_split, cols_split]
  exact bigSep_sep _ _ _

/-- Ready for the first transfer. -/
theorem fly_start {sm : DmaSem sig} {N t : ℕ} {S : Buf (Elt F) (src.view.loc (c : Thread nD τ))} {f : Buf (Elt F) (dst.view.loc (c : Thread nD τ))}
    (L : Buf (Elt F) (dst.view.loc (c : Thread nD τ))) :
    iprop(semVal ((c : Thread nD τ), .dma sm) 0 ∗ ((dst.view.loc (c : Thread nD τ)) ↦[rowsSet dst t]{fullShare} f) ∗ (src.view.loc (c : Thread nD τ)) ↦[src.view.set]{fullShare} S)
      ⊢ |={Set.univ}=> Fly c src dst sm N t S f L 0 0 := by
  unfold Fly
  iintro ⟨Hv, HR⟩
  imod (batch_alloc' EC (c : Thread nD τ) () N (Rrow c src dst t S L) (E := Set.univ)) $$ Hv with HB
  imodintro
  isplitl [HB]; · iexact HB
  rw [← bigSep_pending_zero]
  iapply (Entails.of_eq (rrow_all c src dst t S f).symm) $$ HR

end Operand

end Cert.Proof

end
-- ==== Proof.Flush.lean ====
/-
  The last step's writing out: eight times, thirty-two rows of results are gathered in the staging buffer, turned over by a product with
  the identity, and written to their rows of the array by four transfers.
-/
module

public import proofs.«01_k».proof.Proof.Flight

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

/-- The identity the products are taken with. -/
def eyeVal : FVec F S256x256 .bf16 :=
  truncf .bf16 (sitofp .f32 (extui 32 (cmpi .eq (iota .tc S256x256 32 [0] iota_S256x256_d0_w32) (iota .tc S256x256 32 [1] iota_S256x256_d1_w32)) natLt_1_32)) bitsLt_bf16_f32

variable (f : (cc0_scratch0 : Ref sig .tc).ty.Contents (Elt F))

/-- Row `r` of the accumulator. -/
def accRow (r : ℕ) : Vec F S1x64x128 .f32 := fun j =>
  f (ix3 (n0 := 1024) (n1 := 64) (n2 := 128) ⟨r % 1024, Nat.mod_lt _ (by decide)⟩ (j 1) (j 2))

/-- Rows `r`, `r + 256`, `r + 512` and `r + 768` turned over. -/
def rowVal (r : ℕ) : FVec F S1x128x4x64 .f32 :=
  shapeCast S1x128x4x64 (shapeCast S1x128x4x64 (shapeCast S128x4x64 (matmul dot_S256x128_S256x256_S128x256_0_0_1_1_n_n none
    (truncf .bf16 (concatenate S256x128 0 [⟨S64x128, shapeCast S64x128 (accRow f r) shapeCasts_S1x64x128_S64x128⟩,
      ⟨S64x128, shapeCast S64x128 (accRow f (r + 256)) shapeCasts_S1x64x128_S64x128⟩,
      ⟨S64x128, shapeCast S64x128 (accRow f (r + 512)) shapeCasts_S1x64x128_S64x128⟩,
      ⟨S64x128, shapeCast S64x128 (accRow f (r + 768)) shapeCasts_S1x64x128_S64x128⟩]
      concatenates_S64x128_S64x128_S64x128_S64x128_S256x128_d0) bitsLt_bf16_f32)
    eyeVal (constant S128x256 .f32 0x00000000#32)) shapeCasts_S128x256_S128x4x64) shapeCasts_S128x4x64_S1x128x4x64) shapeCasts_S1x128x4x64_S1x128x4x64

/-- The staging buffer after `n` rows of the block at `t`, from `s`; and once the block is gathered. -/
def stgAt (t : ℕ) (s : (cc0_scratch4 : Ref sig .tc).ty.Contents (Elt F)) (n : ℕ) : (cc0_scratch4 : Ref sig .tc).ty.Contents (Elt F) := fun x =>
  if (x 0).val < n then rowVal f (t + (x 0).val) (ix4 (n0 := 1) (n1 := 128) (n2 := 4) (n3 := 64) ⟨0, Nat.one_pos⟩ (x 1) (x 2) (x 3)) else s x
def stgFull (t : ℕ) : (cc0_scratch4 : Ref sig .tc).ty.Contents (Elt F) := fun x =>
  rowVal f (t + (x 0).val) (ix4 (n0 := 1) (n1 := 128) (n2 := 4) (n3 := 64) ⟨0, Nat.one_pos⟩ (x 1) (x 2) (x 3))

theorem stgAt_zero (t : ℕ) (s : (cc0_scratch4 : Ref sig .tc).ty.Contents (Elt F)) : stgAt f t s 0 = s :=
  funext fun _ => if_neg (Nat.not_lt_zero _)

theorem stgAt_full (t : ℕ) (s : (cc0_scratch4 : Ref sig .tc).ty.Contents (Elt F)) : stgAt f t s 32 = stgFull f t :=
  funext fun x => if_pos (x 0).isLt

/-- What the array holds in the end, and after `n` blocks, from `o`. -/
def outFull : (main_v6 : Ref sig .tc).ty.Contents (Elt F) := fun y =>
  rowVal f (y 1).val (ix4 (n0 := 1) (n1 := 128) (n2 := 4) (n3 := 64) ⟨0, Nat.one_pos⟩ (y 2) (y 0) (y 3))
def outAt (o : (main_v6 : Ref sig .tc).ty.Contents (Elt F)) (n : ℕ) : (main_v6 : Ref sig .tc).ty.Contents (Elt F) := fun y =>
  if (y 1).val < 32 * n then outFull f y else o y

theorem outAt_zero (o : (main_v6 : Ref sig .tc).ty.Contents (Elt F)) : outAt f o 0 = o :=
  funext fun _ => if_neg (Nat.not_lt_zero _)

theorem outAt_full (o : (main_v6 : Ref sig .tc).ty.Contents (Elt F)) : outAt f o 8 = outFull f :=
  funext fun y => if_pos (y 1).isLt

/-- Row `n` of the block at `t` written. -/
theorem stgAt_write (t n : ℕ) (s : (cc0_scratch4 : Ref sig .tc).ty.Contents (Elt F)) (inb) :
    ((Memref.whole cc0_scratch4 : Memref sig .tc .vmem S32x128x4x64 .f32).access (Rect.unit (s := S32x128x4x64) ![n, 0, 0, 0] S1x128x4x64.size inb)).write (Elt F) (stgAt f t s n)
      (rowVal f (t + n)) Finset.univ = stgAt f t s (n + 1) := by
  funext i
  by_cases hi : (i 0).val = n
  · have he : ((Memref.whole cc0_scratch4 : Memref sig .tc .vmem S32x128x4x64 .f32).access (Rect.unit (s := S32x128x4x64) ![n, 0, 0, 0] S1x128x4x64.size inb)).emb
        (ix4 (n0 := 1) (n1 := 128) (n2 := 4) (n3 := 64) ⟨0, Nat.one_pos⟩ (i 1) (i 2) (i 3)) = i := by
      show Rect.emb (Rect.unit (s := S32x128x4x64) ![n, 0, 0, 0] S1x128x4x64.size inb) _ = i
      funext a
      refine Fin.ext ?_
      rw [Rect.emb_apply]
      match a with
      | ⟨0, _⟩ => exact hi.symm
      | ⟨1, _⟩ => show 0 + 1 * (i 1).val = (i 1).val; omega
      | ⟨2, _⟩ => show 0 + 1 * (i 2).val = (i 2).val; omega
      | ⟨3, _⟩ => show 0 + 1 * (i 3).val = (i 3).val; omega
    have hw := View.write_emb_of_mem (v := ((Memref.whole cc0_scratch4 : Memref sig .tc .vmem S32x128x4x64 .f32).access (Rect.unit (s := S32x128x4x64) ![n, 0, 0, 0] S1x128x4x64.size inb)))
      (Val := Elt F) (stgAt f t s n) (rowVal f (t + n)) (Finset.mem_univ (ix4 (n0 := 1) (n1 := 128) (n2 := 4) (n3 := 64) ⟨0, Nat.one_pos⟩ (i 1) (i 2) (i 3)))
    rw [he] at hw
    refine hw.trans ((cast_eq _ _).trans ?_)
    unfold stgAt
    rw [if_pos (by omega), hi]
  · refine (View.write_of_not_mem _ _ _ ?_).trans ?_
    · intro hm
      obtain ⟨j, -, hj⟩ := Finset.mem_map.1 hm
      refine hi ?_
      rw [← hj]
      have h0 : (j 0).val = 0 := Nat.lt_one_iff.1 (j 0).isLt
      show n + 1 * (j 0).val = n
      omega
    · unfold stgAt
      by_cases h : (i 0).val < n
      · rw [if_pos h, if_pos (by omega)]
      · rw [if_neg h, if_neg (by omega)]

end

section

variable (c : Dev nD) (f : (cc0_scratch0 : Ref sig .tc).ty.Contents (Elt F)) (o : (main_v6 : Ref sig .tc).ty.Contents (Elt F))
variable {α β : Type} {Q : α → sProp (MT nD τ sig Unit (Elt F) ℕ (UU nD τ) ℕ)} (P : sProp (MT nD τ sig Unit (Elt F) ℕ (UU nD τ) ℕ))

/-- The staging buffer and the array, and their views. -/
def Stg (s : (cc0_scratch4 : Ref sig .tc).ty.Contents (Elt F)) : sProp 𝕄 := ((c : Thread nD τ).loc cc0_scratch4) ↦{fullShare} s
def Out (o : (main_v6 : Ref sig .tc).ty.Contents (Elt F)) : sProp 𝕄 := ((c : Thread nD τ).loc main_v6) ↦{fullShare} o
abbrev MS : Memref sig .tc .vmem S32x128x4x64 .f32 := Memref.whole cc0_scratch4
abbrev MO : Memref sig .tc .hbm S4x256x128x64 .f32 := Memref.whole main_v6
/-- The semaphore of the transfers out. -/
def osem : DmaSem sig := cc0_scratch8.sem

/-- What one transfer out adds to it. -/
def NO : ℕ := sig.dmaCredit .tc (Kind.table .tc .hbm) (View.whole main_v6).buf ⟨3, ![32, 128, 64]⟩ .f32
theorem NO_pos : 0 < NO := by decide +kernel

/-- The state between blocks, `n` of them written. -/
def Rest (n : ℕ) : sProp 𝕄 := iprop(Out c (outAt f o n) ∗ semVal ((c : Thread nD τ), .dma osem) 0 ∗ Owes0 c ∗ P)
def Blk (n : ℕ) : sProp 𝕄 := iprop(Acc c f ∗ (∃ s, Stg c s) ∗ Rest c f o P n)
/-- The state between rows. -/
def Lop (t : ℕ) (s : (cc0_scratch4 : Ref sig .tc).ty.Contents (Elt F)) (n : ℕ) (R : sProp 𝕄) : sProp 𝕄 := iprop(Acc c f ∗ Stg c (stgAt f t s n) ∗ R)

theorem loop_start (t n : ℕ) : Blk c f o P n ⊢ iprop(∃ s, Lop c f t s 0 (Rest c f o P n)) := by
  unfold Blk Lop
  iintro ⟨HA, ⟨%s, HS⟩, HR⟩
  iexists s
  rw [stgAt_zero]
  isplitl [HA]; · iexact HA
  isplitl [HS] <;> iassumption

/-- A counted loop. -/
theorem for_step {L : Scf.Loop 32} {ok : L.OK} {body : Fin L.trips → PUnit → Prog (TpuEff nD τ sig (Elt F) Λ₀ .tc) PUnit}
    {kk : PUnit → Prog (TpuEff nD τ sig (Elt F) Λ₀ .tc) α} {prog : Prog (TpuEff nD τ sig (Elt F) Λ₀ .tc) α}
    (hp : prog = L.for ok ⟨⟩ body >>= kk) (I : ℕ → sProp 𝕄) (n : ℕ) (hn : L.trips = n)
    (hbody : ∀ k : Fin L.trips, k.val < n → (I k.val ⊢ WP c (body k ⟨⟩) (fun _ => I (k.val + 1))))
    (h : I n ⊢ WP c (kk ⟨⟩) Q) : I 0 ⊢ WP c prog Q := by
  subst hp hn
  unfold WP at hbody h ⊢
  iintro HI
  iapply (Scf.wp_for_bind _ _ _ L.lb L.ub L.st ok ⟨⟩ body (fun m _ => I m) (fun k _ => hbody k k.isLt)) $$ HI
  iintro %acc HI
  iapply h $$ HI

/-- A row of the accumulator read. -/
theorem row_step {R : sProp 𝕄} {prog : Prog (TpuEff nD τ sig (Elt F) Λ₀ .tc) α} {off : Fin 3 → ℕ} {inb hl k} (r : ℕ)
    (hp : prog = .op (.load (Memref.whole cc0_scratch0) (Rect.unit (s := S1024x64x128) off S1x64x128.size inb).toLoadRect hl) k)
    (ho : off = ![r, 0, 0]) (hr : r < 1024)
    (h : iprop(Acc c f ∗ R) ⊢ WP c (k (accRow f r)) Q) : iprop(Acc c f ∗ R) ⊢ WP c prog Q := by
  subst ho
  refine accLd_step c hp ?_
  have hv : (Memref.whole cc0_scratch0 : Memref sig .tc .vmem S1024x64x128 .f32).view.readAt (Elt F)
      (Rect.unit (s := S1024x64x128) ![r, 0, 0] S1x64x128.size inb).toLoadRect f = accRow f r := by
    funext j
    rw [View.readAt_apply]
    show f _ = f _
    refine congrArg f ?_
    funext a
    refine Fin.ext ?_
    have h0 : (j 0).val = 0 := Nat.lt_one_iff.1 (j 0).isLt
    match a with
    | ⟨0, _⟩ => show r + 1 * (j 0).val = r % 1024; rw [Nat.mod_eq_of_lt hr]; omega
    | ⟨1, _⟩ => show 0 + 1 * (j 1).val = (j 1).val; omega
    | ⟨2, _⟩ => show 0 + 1 * (j 2).val = (j 2).val; omega
  rw [hv]
  exact h

/-- The staging buffer's old row read, which nothing depends on. -/
theorem old_step {R : sProp 𝕄} {t n : ℕ} {s} {prog : Prog (TpuEff nD τ sig (Elt F) Λ₀ .tc) α} {off size : Fin 4 → ℕ} {inb hl k}
    (hp : prog = .op (.load (Memref.whole cc0_scratch4) (Rect.unit (s := S32x128x4x64) off size inb).toLoadRect hl) k)
    (h : ∀ v, Lop c f t s n R ⊢ WP c (k v) Q) : Lop c f t s n R ⊢ WP c prog Q := by
  subst hp
  have h := h (MS.view.readAt (Elt F) (Rect.unit (s := S32x128x4x64) off size inb).toLoadRect (stgAt f t s n))
  unfold Lop Stg at h ⊢
  iintro ⟨HA, HS, HR⟩
  iapply (wp_load 𝒱₀ (c : Thread nD τ) none Set.univ (m := MS) (f := stgAt f t s n) (q := fullShare) (S := Finset.univ) (Finset.subset_univ _)) $$ HS
  iintro HS
  iapply h
  isplitl [HA]; · iexact HA
  isplitl [HS] <;> iassumption

/-- The new row written. -/
theorem new_step {R : sProp 𝕄} {t n : ℕ} {s} {prog : Prog (TpuEff nD τ sig (Elt F) Λ₀ .tc) α} {off : Fin 4 → ℕ} {inb v hst hms k}
    (hp : prog = .op (.store (Memref.whole cc0_scratch4) (Rect.unit (s := S32x128x4x64) off S1x128x4x64.size inb) v Finset.univ hst hms) k)
    (ho : off = ![n, 0, 0, 0]) (hv : v = rowVal f (t + n))
    (h : Lop c f t s (n + 1) R ⊢ WP c (k ⟨⟩) Q) : Lop c f t s n R ⊢ WP c prog Q := by
  subst hp ho hv
  unfold Lop Stg at h ⊢
  iintro ⟨HA, HS, HR⟩
  iapply (wp_store 𝒱₀ (c : Thread nD τ) none Set.univ (m := MS) (r := Rect.unit (s := S32x128x4x64) ![n, 0, 0, 0] S1x128x4x64.size inb) (w := rowVal f (t + n)) (Mk := Finset.univ) (f := stgAt f t s n) (S := Finset.univ) (Finset.subset_univ _)) $$ HS
  rw [stgAt_write f t n s inb]
  iintro HS
  iapply h
  isplitl [HA]; · iexact HA
  isplitl [HS] <;> iassumption

theorem rowOff (t q n : ℕ) (ht : t < 256) (hq : q < 1024) (hn : n < 32) :
    (![(Scalar.indexCast (Scalar.addi (Scalar.addi (BitVec.ofNat 32 t) (Scf.iv 0#32 1#32 n)) (BitVec.ofNat 32 q)) : BitVec 32).toNat, 0, 0] : Fin 3 → ℕ) = ![t + n + q, 0, 0] := by
  have : (Scalar.indexCast (Scalar.addi (Scalar.addi (BitVec.ofNat 32 t) (Scf.iv 0#32 1#32 n)) (BitVec.ofNat 32 q)) : BitVec 32).toNat = t + n + q := by
    show (BitVec.ofNat 32 t + (0#32 + BitVec.ofNat 32 n * 1#32) + BitVec.ofNat 32 q).toNat = _
    simp only [BitVec.toNat_add, BitVec.toNat_mul, BitVec.toNat_ofNat]
    omega
  rw [this]

theorem stgOff (n : ℕ) (hn : n < 32) : (![(Scalar.indexCast (Scf.iv 0#32 1#32 n) : BitVec 32).toNat, 0, 0, 0] : Fin 4 → ℕ) = ![n, 0, 0, 0] := by
  have : (Scalar.indexCast (Scf.iv 0#32 1#32 n) : BitVec 32).toNat = n := by
    show (0#32 + BitVec.ofNat 32 n * 1#32).toNat = _
    simp only [BitVec.toNat_add, BitVec.toNat_mul, BitVec.toNat_ofNat]
    omega
  rw [this]

/-- The transfers of block `n`, `j` started and `u` waited for, and the rest of the array. -/
def Flt (n j u : ℕ) : sProp 𝕄 := Fly c MS MO osem NO (32 * n) (stgFull f (32 * n)) (outAt f o n) (outFull f) j (u * NO)
def Oth (n : ℕ) : sProp 𝕄 := iprop((((c : Thread nD τ).loc main_v6) ↦[Finset.univ \ rowsSet MO (32 * n)]{fullShare} outAt f o n) ∗ Acc c f ∗ P)

theorem blk_start (n : ℕ) (s) : Lop c f (32 * n) s 32 (Rest c f o P n) ⊢ |={Set.univ}=> iprop(Flt c f o n 0 0 ∗ Owes0 c ∗ Oth c f o P n) := by
  unfold Lop Rest Stg Out
  rw [stgAt_full]
  iintro ⟨HA, HS, HO, HV, HW, HP⟩
  ihave HO' := (pointsTo_split_subset (Finset.subset_univ (rowsSet MO (32 * n)))).1 $$ HO
  icases HO' with ⟨HO1, HO2⟩
  imod (fly_start c MS MO (sm := osem) (N := NO) (t := 32 * n) (S := stgFull f (32 * n)) (f := outAt f o n) (outFull f)) $$ [HV HO1 HS] with HF
  · isplitl [HV]; · iexact HV
    isplitl [HO1]; · iexact HO1
    rw [View.set_whole]
    iexact HS
  imodintro
  isplitl [HF]; · unfold Flt; rw [Nat.zero_mul]; iexact HF
  isplitl [HW]; · iexact HW
  unfold Oth
  isplitl [HO2]; · iexact HO2
  isplitl [HA] <;> iassumption

theorem blk_end (n : ℕ) : iprop((bigSep Finset.univ (Rrow c MS MO (32 * n) (stgFull f (32 * n)) (outFull f)) ∗ semVal ((c : Thread nD τ), .dma osem) 0) ∗ Owes0 c ∗ Oth c f o P n)
    ⊢ Blk c f o P (n + 1) := by
  have hin : ∀ y ∈ rowsSet MO (32 * n), outFull f y = outAt f o (n + 1) y := by
    intro y hy
    simp only [rowsSet, Finset.mem_map, Finset.mem_filter, Finset.mem_univ, true_and] at hy
    obtain ⟨j, ⟨h1, h2⟩, rfl⟩ := hy
    exact (if_pos (show (j 1).val < 32 * (n + 1) by omega)).symm
  have hout : ∀ y ∈ Finset.univ \ rowsSet MO (32 * n), outAt f o n y = outAt f o (n + 1) y := by
    intro y hy
    have hn : ¬ (32 * n ≤ (y 1).val ∧ (y 1).val < 32 * n + 32) := fun h => (Finset.mem_sdiff.1 hy).2 (by
      simp only [rowsSet, Finset.mem_map, Finset.mem_filter, Finset.mem_univ, true_and]
      exact ⟨y, h, rfl⟩)
    unfold outAt
    by_cases h : (y 1).val < 32 * n
    · rw [if_pos h, if_pos (by omega)]
    · rw [if_neg h, if_neg (by omega)]
  rw [rrow_all]
  unfold Oth Blk Rest Stg Out
  iintro ⟨⟨⟨HO1, HS⟩, HV⟩, HW, HO2, HA, HP⟩
  isplitl [HA]; · iexact HA
  isplitl [HS]
  · iexists _
    rw [View.set_whole]
    iexact HS
  isplitl [HO1 HO2]
  · iapply (pointsTo_split_subset (Finset.subset_univ (rowsSet MO (32 * n)))).2
    isplitl [HO1]
    · iapply (Entails.of_eq (pointsTo_congr hin)) $$ HO1
    · iapply (Entails.of_eq (pointsTo_congr hout)) $$ HO2
  isplitl [HV]; · iexact HV
  isplitl [HW] <;> iassumption

end

end Cert.Proof

end
-- ==== Proof.Write.lean ====
/-
  The last step's eight blocks, one after another.
-/
module

public import proofs.«01_k».proof.Proof.Flush

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section

variable (c : Dev nD) (f : (cc0_scratch0 : Ref sig .tc).ty.Contents (Elt F)) (o : (main_v6 : Ref sig .tc).ty.Contents (Elt F))
variable {α : Type} {Q : α → sProp (MT nD τ sig Unit (Elt F) ℕ (UU nD τ) ℕ)} (P : sProp (MT nD τ sig Unit (Elt F) ℕ (UU nD τ) ℕ))

/-- The array's windows in the end are the staging buffer's columns. -/
theorem blk_landed (n : ℕ) (hn : 32 * n + 32 ≤ 256) (q : Fin 4) (x : Fin 32) (y : Fin 128) (z : Fin 64) :
    (MO).view.read (Elt F) (outFull f) (ix4 q ⟨32 * n + x.val, by omega⟩ y z) = (MS).view.read (Elt F) (stgFull f (32 * n)) (ix4 x y q z) := rfl

/-- A block gathered, ready for its transfers. -/
theorem loop_step {L : Scf.Loop 32} {ok : L.OK} {body : Fin L.trips → PUnit → Prog (TpuEff nD τ sig (Elt F) Λ₀ .tc) PUnit}
    {kk : PUnit → Prog (TpuEff nD τ sig (Elt F) Λ₀ .tc) α} {prog : Prog (TpuEff nD τ sig (Elt F) Λ₀ .tc) α} (n : ℕ)
    (hp : prog = L.for ok ⟨⟩ body >>= kk) (hn : L.trips = 32)
    (hbody : ∀ k : Fin L.trips, k.val < 32 → ∀ s, (Lop c f (32 * n) s k.val (Rest c f o P n) ⊢ WP c (body k ⟨⟩) (fun _ => Lop c f (32 * n) s (k.val + 1) (Rest c f o P n))))
    (h : iprop(Flt c f o n 0 0 ∗ Owes0 c ∗ Oth c f o P n) ⊢ WP c (kk ⟨⟩) Q) : Blk c f o P n ⊢ WP c prog Q := by
  refine BIBase.Entails.trans (loop_start c f o P (32 * n) n) (exists_elim fun s => ?_)
  refine for_step c hp (fun m => Lop c f (32 * n) s m (Rest c f o P n)) 32 hn (fun m hm => hbody m hm s) ?_
  exact fupd_step c (blk_start c f o P n s) h

/-- A transfer of it started. -/
theorem out_step {n j : ℕ} {sm' : DmaSem sig} {os od : Fin 4 → ℕ} {inb h sq inb' h' sq'} {prog : Prog (TpuEff nD τ sig (Elt F) Λ₀ .tc) α}
    {hsrc : (colM MS os inb' h' sq').view.WordExact} {hdst : (rwinM MO od inb h sq).view.WordExact}
    {hsem : (DmaTarget.here (rwinM MO od inb h sq) : DmaTarget nD τ sig (c : Thread nD τ).2 .hbm ⟨3, ![32, 128, 64]⟩ .f32).Typed .vmem (.dma sm')}
    {k : PUnit → Prog (TpuEff nD τ sig (Elt F) Λ₀ .tc) α}
    (hp : prog = .op (.enqueueDma (colM MS os inb' h' sq') (.here (rwinM MO od inb h sq)) (.dma sm') hsrc hdst hsem) k)
    (hsm : sm' = osem) (hos : os = ![0, 0, j, 0]) (hod : od = ![j, 32 * n, 0, 0]) (hj : j < 4) (ht : 32 * n + 32 ≤ 256)
    (hN : (rwinM MO od inb h sq).view.amount (.dma sm') = NO)
    (hk : iprop(Flt c f o n (j + 1) 0 ∗ Owes0 c ∗ Oth c f o P n) ⊢ WP c (k ⟨⟩) Q) : iprop(Flt c f o n j 0 ∗ Owes0 c ∗ Oth c f o P n) ⊢ WP c prog Q := by
  unfold Flt at hk ⊢
  rw [Nat.zero_mul] at hk ⊢
  exact fly_step c MS MO j hj hp hsm hos hod ht (blk_landed f n ht) hN hk

/-- One waited for, but the last. -/
theorem in_step {n j : ℕ} {sm' : DmaSem sig} {sp : Space} {s' s'' : Shape} {e' e'' : EltTy} {sp'' : Space}
    {srcw : Memref sig .tc sp'' s'' e''} {dstw : Memref sig .tc sp s' e'}
    {hsrc : srcw.view.WordExact} {hdst : dstw.view.WordExact} {prog : Prog (TpuEff nD τ sig (Elt F) Λ₀ .tc) α}
    {k : PUnit → Prog (TpuEff nD τ sig (Elt F) Λ₀ .tc) α}
    (hp : prog = .op (.waitDma2 sm' srcw dstw hsrc hdst) k) (hsm : sm' = osem) (hJ : dstw.view.dmaCredit = NO) (hj : j < 3)
    (h : iprop(Flt c f o n 4 (j + 1) ∗ Owes0 c ∗ Oth c f o P n) ⊢ WP c (k ⟨⟩) Q) : iprop(Flt c f o n 4 j ∗ Owes0 c ∗ Oth c f o P n) ⊢ WP c prog Q := by
  unfold Flt at h ⊢
  exact land_step c MS MO j hp hsm hJ NO_pos hj h

/-- The last: the block is written. -/
theorem done_step {n : ℕ} {sm' : DmaSem sig} {sp : Space} {s' s'' : Shape} {e' e'' : EltTy} {sp'' : Space}
    {srcw : Memref sig .tc sp'' s'' e''} {dstw : Memref sig .tc sp s' e'}
    {hsrc : srcw.view.WordExact} {hdst : dstw.view.WordExact} {prog : Prog (TpuEff nD τ sig (Elt F) Λ₀ .tc) α}
    {k : PUnit → Prog (TpuEff nD τ sig (Elt F) Λ₀ .tc) α}
    (hp : prog = .op (.waitDma2 sm' srcw dstw hsrc hdst) k) (hsm : sm' = osem) (hJ : dstw.view.dmaCredit = NO)
    (h : Blk c f o P (n + 1) ⊢ WP c (k ⟨⟩) Q) : iprop(Flt c f o n 4 3 ∗ Owes0 c ∗ Oth c f o P n) ⊢ WP c prog Q := by
  unfold Flt
  exact last_step c MS MO hp hsm hJ NO_pos (BIBase.Entails.trans (blk_end c f o P n) h)

end

section

variable (c : Dev nD) (f : (cc0_scratch0 : Ref sig .tc).ty.Contents (Elt F)) (o : (main_v6 : Ref sig .tc).ty.Contents (Elt F))
variable {Q : PUnit → sProp (MT nD τ sig Unit (Elt F) ℕ (UU nD τ) ℕ)} (P : sProp (MT nD τ sig Unit (Elt F) ℕ (UU nD τ) ℕ))

set_option maxRecDepth 65536 in
set_option maxHeartbeats 2000000 in
/-- The results written out. -/
theorem wp_part169 (i : grid0.Coords) (h3 : k0_cond3 i = 1#1) (h : Blk c f o P 8 ⊢ Q ⟨⟩) :
    Blk c f o P 0 ⊢ WP c (onArgs (k0_part169 (F := F) i) h3) Q := by
  refine bind_step c rfl ?_
  refine loop_step c f o P 0 rfl rfl (fun m hm s => ?_) ?_
  rotate_left
  iterate 3 refine out_step c f o P rfl rfl rfl rfl (by decide) (by decide) rfl ?_
  refine ret_step c rfl ?_
  iterate 1 refine out_step c f o P rfl rfl rfl rfl (by decide) (by decide) rfl ?_
  iterate 3 refine in_step c f o P rfl rfl rfl (by decide) ?_
  refine done_step c f o P rfl rfl rfl ?_
  refine bind_step c rfl (ret_step c rfl (bind_step c rfl ?_))
  refine loop_step c f o P 1 rfl rfl (fun m hm s => ?_) ?_
  rotate_left
  iterate 4 refine out_step c f o P rfl rfl rfl rfl (by decide) (by decide) rfl ?_
  refine ret_step c rfl ?_
  refine bind_step c rfl ?_
  iterate 3 refine in_step c f o P rfl rfl rfl (by decide) ?_
  refine done_step c f o P rfl rfl rfl ?_
  refine loop_step c f o P 2 rfl rfl (fun m hm s => ?_) ?_
  rotate_left
  refine ret_step c rfl ?_
  iterate 4 refine out_step c f o P rfl rfl rfl rfl (by decide) (by decide) rfl ?_
  iterate 1 refine in_step c f o P rfl rfl rfl (by decide) ?_
  refine bind_step c rfl (ret_step c rfl (bind_step c rfl ?_))
  iterate 2 refine in_step c f o P rfl rfl rfl (by decide) ?_
  refine done_step c f o P rfl rfl rfl ?_
  refine loop_step c f o P 3 rfl rfl (fun m hm s => ?_) ?_
  rotate_left
  iterate 1 refine out_step c f o P rfl rfl rfl rfl (by decide) (by decide) rfl ?_
  refine ret_step c rfl ?_
  iterate 3 refine out_step c f o P rfl rfl rfl rfl (by decide) (by decide) rfl ?_
  iterate 2 refine in_step c f o P rfl rfl rfl (by decide) ?_
  refine bind_step c rfl (ret_step c rfl (bind_step c rfl ?_))
  iterate 1 refine in_step c f o P rfl rfl rfl (by decide) ?_
  refine done_step c f o P rfl rfl rfl ?_
  refine loop_step c f o P 4 rfl rfl (fun m hm s => ?_) ?_
  rotate_left
  iterate 2 refine out_step c f o P rfl rfl rfl rfl (by decide) (by decide) rfl ?_
  refine ret_step c rfl ?_
  iterate 2 refine out_step c f o P rfl rfl rfl rfl (by decide) (by decide) rfl ?_
  iterate 2 refine in_step c f o P rfl rfl rfl (by decide) ?_
  refine bind_step c rfl (ret_step c rfl (bind_step c rfl ?_))
  iterate 1 refine in_step c f o P rfl rfl rfl (by decide) ?_
  refine done_step c f o P rfl rfl rfl ?_
  refine loop_step c f o P 5 rfl rfl (fun m hm s => ?_) ?_
  rotate_left
  iterate 2 refine out_step c f o P rfl rfl rfl rfl (by decide) (by decide) rfl ?_
  refine ret_step c rfl ?_
  iterate 2 refine out_step c f o P rfl rfl rfl rfl (by decide) (by decide) rfl ?_
  iterate 3 refine in_step c f o P rfl rfl rfl (by decide) ?_
  refine bind_step c rfl (ret_step c rfl (bind_step c rfl ?_))
  refine done_step c f o P rfl rfl rfl ?_
  refine loop_step c f o P 6 rfl rfl (fun m hm s => ?_) ?_
  rotate_left
  iterate 3 refine out_step c f o P rfl rfl rfl rfl (by decide) (by decide) rfl ?_
  refine ret_step c rfl ?_
  iterate 1 refine out_step c f o P rfl rfl rfl rfl (by decide) (by decide) rfl ?_
  iterate 3 refine in_step c f o P rfl rfl rfl (by decide) ?_
  refine done_step c f o P rfl rfl rfl ?_
  refine bind_step c rfl (ret_step c rfl (bind_step c rfl ?_))
  refine loop_step c f o P 7 rfl rfl (fun m hm s => ?_) ?_
  rotate_left
  iterate 4 refine out_step c f o P rfl rfl rfl rfl (by decide) (by decide) rfl ?_
  refine ret_step c rfl ?_
  iterate 3 refine in_step c f o P rfl rfl rfl (by decide) ?_
  refine done_step c f o P rfl rfl rfl ?_
  refine ret_step c rfl h
  all_goals
    refine row_step c f _ rfl (rowOff _ 0 m (by decide) (by decide) hm) (by omega) ?_
    refine row_step c f _ rfl (rowOff _ 256 m (by decide) (by decide) hm) (by omega) ?_
    refine row_step c f _ rfl (rowOff _ 512 m (by decide) (by decide) hm) (by omega) ?_
    refine row_step c f _ rfl (rowOff _ 768 m (by decide) (by decide) hm) (by omega) ?_
    refine old_step c f rfl (fun _ => ?_)
    refine new_step c f rfl (stgOff m hm) rfl ?_
    exact ret_step c rfl .rfl

end

end Cert.Proof

end
-- ==== Proof.Invariant.lean ====
/-
  The invariant of the kernel's grid: what holds before each step, and that a step keeps it.
-/
module

public import proofs.«01_k».proof.Proof.Body
public import proofs.«01_k».proof.Proof.Write
public import Idealize.ShloMosaic.Lib.Ring

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

section Three

variable {ℓ : Loc nD τ sig} (I : Fin 3 → Finset (Idx ℓ)) (hd : ∀ a b, a ≠ b → Disjoint (I a) (I b)) (hc : Finset.univ.biUnion I = Finset.univ)

include hd hc

/-- A buffer cut in three. -/
theorem three_split (f : Buf (Elt F) ℓ) : (ℓ ↦{fullShare} f : sProp 𝕄) ⊢ iprop((ℓ ↦[I 0]{fullShare} f) ∗ (ℓ ↦[I 1]{fullShare} f) ∗ ℓ ↦[I 2]{fullShare} f) :=
  Entails.of_eq ((Ring.pointsTo_blocks I hd hc f).trans (Ring.bigSep_fin3 _))

/-- Three parts at some contents. -/
theorem three_join : (iprop((∃ f, ℓ ↦[I 0]{fullShare} f) ∗ (∃ f, ℓ ↦[I 1]{fullShare} f) ∗ ∃ f, ℓ ↦[I 2]{fullShare} f) : sProp 𝕄) ⊢ iprop(∃ f, ℓ ↦{fullShare} f) := by
  iintro ⟨⟨%f, H0⟩, H1, H2⟩
  iapply (Ring.pointsTo_blocks_join_exists I hd hc f)
  rw [Ring.bigSep_fin3]
  isplitl [H0]; · iexists f; iexact H0
  isplitl [H1] <;> iassumption

end Three

section Bufs

variable {R m n : ℕ} {e : EltTy} (c : Dev nD) (dst : Memref sig .tc .vmem ⟨4, ![3, 64, m, n]⟩ e)

theorem slots_disj (a b : Fin 3) (h : a ≠ b) : Disjoint (slotSet dst a.val) (slotSet dst b.val) := by
  rw [Finset.disjoint_left]
  intro i hi hj
  simp only [slotSet, Finset.mem_map, Finset.mem_filter, Finset.mem_univ, true_and] at hi hj
  obtain ⟨x, hx, rfl⟩ := hi
  obtain ⟨y, hy, hxy⟩ := hj
  have := dst.view.emb.injective hxy
  subst this
  exact h (Fin.ext (hx.symm.trans hy))

theorem slots_cover (hw : dst.view.set = Finset.univ) :
    Finset.biUnion (β := Idx (dst.view.loc (c : Thread nD τ))) Finset.univ (fun a : Fin 3 => slotSet dst a.val) = Finset.univ := by
  ext i
  simp only [Finset.mem_biUnion, Finset.mem_univ, true_and, iff_true]
  have hi : (i : dst.view.ty.Idx) ∈ dst.view.set := by rw [hw]; exact Finset.mem_univ (α := dst.view.ty.Idx) i
  simp only [View.set, Finset.mem_map, Finset.mem_univ, true_and] at hi
  obtain ⟨x, rfl⟩ := hi
  refine ⟨x 0, ?_⟩
  simp only [slotSet, Finset.mem_map, Finset.mem_filter, Finset.mem_univ, true_and]
  exact ⟨x, rfl, rfl⟩

/-- A buffer of three slots, slot by slot. -/
theorem buf_slots (hw : dst.view.set = Finset.univ) (f : Buf (Elt F) (dst.view.loc (c : Thread nD τ))) :
    ((dst.view.loc (c : Thread nD τ)) ↦{fullShare} f : sProp 𝕄)
      ⊢ iprop(((dst.view.loc (c : Thread nD τ)) ↦[slotSet dst 0]{fullShare} f) ∗ ((dst.view.loc (c : Thread nD τ)) ↦[slotSet dst 1]{fullShare} f)
          ∗ (dst.view.loc (c : Thread nD τ)) ↦[slotSet dst 2]{fullShare} f) :=
  three_split (ℓ := dst.view.loc (c : Thread nD τ)) (fun a : Fin 3 => slotSet dst a.val) (slots_disj dst) (slots_cover c dst hw) f

/-- Three slots at some contents, a buffer at some. -/
theorem slots_buf (hw : dst.view.set = Finset.univ) :
    (iprop((∃ f : Buf (Elt F) (dst.view.loc (c : Thread nD τ)), (dst.view.loc (c : Thread nD τ)) ↦[slotSet dst 0]{fullShare} f)
          ∗ (∃ f : Buf (Elt F) (dst.view.loc (c : Thread nD τ)), (dst.view.loc (c : Thread nD τ)) ↦[slotSet dst 1]{fullShare} f)
          ∗ ∃ f : Buf (Elt F) (dst.view.loc (c : Thread nD τ)), (dst.view.loc (c : Thread nD τ)) ↦[slotSet dst 2]{fullShare} f) : sProp 𝕄)
      ⊢ iprop(∃ f : Buf (Elt F) (dst.view.loc (c : Thread nD τ)), (dst.view.loc (c : Thread nD τ)) ↦{fullShare} f) :=
  three_join (ℓ := dst.view.loc (c : Thread nD τ)) (fun a : Fin 3 => slotSet dst a.val) (slots_disj dst) (slots_cover c dst hw)

variable (src : Memref sig .tc .hbm ⟨3, ![R, m, n]⟩ e)

/-- A buffer of three slots, its semaphores at zero and the array: three idle slots and the rest of the array's shares. -/
theorem idle_intro (hw : dst.view.set = Finset.univ) (s0 s1 s2 : DmaSem sig) (A : Buf (Elt F) (src.view.loc (c : Thread nD τ))) :
    iprop((∃ f : Buf (Elt F) (dst.view.loc (c : Thread nD τ)), (dst.view.loc (c : Thread nD τ)) ↦{fullShare} f)
        ∗ (semVal ((c : Thread nD τ), .dma s0) 0 ∗ semVal ((c : Thread nD τ), .dma s1) 0 ∗ semVal ((c : Thread nD τ), .dma s2) 0)
        ∗ (src.view.loc (c : Thread nD τ)) ↦{fullShare} A)
      ⊢ (iprop((Idle c src dst s0 0 (slotShare 0) A ∗ Idle c src dst s1 1 (slotShare 1) A ∗ Idle c src dst s2 2 (slotShare 2) A)
        ∗ (src.view.loc (c : Thread nD τ)) ↦{shareDrop fullShare 3} A) : sProp 𝕄) := by
  unfold Idle
  iintro ⟨⟨%f, HB⟩, ⟨S0, S1, S2⟩, HA⟩
  ihave HB := (buf_slots c dst hw f) $$ HB
  icases HB with ⟨B0, B1, B2⟩
  ihave HA := (pointsTo_toks_split fullShare 3) $$ HA
  rw [Ring.bigSep_fin3]
  icases HA with ⟨HD, A0, A1, A2⟩
  isplitr [HD]
  · isplitl [S0 B0 A0]
    · isplitl [S0]; · iexact S0
      isplitl [B0]; · iexists f; iexact B0
      iexact A0
    isplitl [S1 B1 A1]
    · isplitl [S1]; · iexact S1
      isplitl [B1]; · iexists f; iexact B1
      iexact A1
    isplitl [S2]; · iexact S2
    isplitl [B2]; · iexists f; iexact B2
    iexact A2
  · iexact HD

/-- And back. -/
theorem idle_elim (hw : dst.view.set = Finset.univ) (s0 s1 s2 : DmaSem sig) (A : Buf (Elt F) (src.view.loc (c : Thread nD τ))) :
    (iprop((Idle c src dst s0 0 (slotShare 0) A ∗ Idle c src dst s1 1 (slotShare 1) A ∗ Idle c src dst s2 2 (slotShare 2) A)
        ∗ (src.view.loc (c : Thread nD τ)) ↦{shareDrop fullShare 3} A) : sProp 𝕄)
      ⊢ iprop((∃ f : Buf (Elt F) (dst.view.loc (c : Thread nD τ)), (dst.view.loc (c : Thread nD τ)) ↦{fullShare} f)
        ∗ (semVal ((c : Thread nD τ), .dma s0) 0 ∗ semVal ((c : Thread nD τ), .dma s1) 0 ∗ semVal ((c : Thread nD τ), .dma s2) 0)
        ∗ (src.view.loc (c : Thread nD τ)) ↦{fullShare} A) := by
  unfold Idle
  iintro ⟨⟨⟨S0, B0, A0⟩, ⟨S1, B1, A1⟩, ⟨S2, B2, A2⟩⟩, HD⟩
  isplitl [B0 B1 B2]
  · iapply (slots_buf c dst hw)
    isplitl [B0]; · iexact B0
    isplitl [B1] <;> iassumption
  isplitl [S0 S1 S2]
  · isplitl [S0]; · iexact S0
    isplitl [S1] <;> iassumption
  · iapply (pointsTo_toks_join fullShare 3)
    rw [Ring.bigSep_fin3]
    isplitl [HD]; · iexact HD
    isplitl [A0]; · iexact A0
    isplitl [A1]; · iexact A1
    iexact A2

end Bufs

section

variable (c : Dev nD) (E : Env F)

/-- The ring's three slots before step `g`. -/
def Slots3 (g : ℕ) : sProp 𝕄 :=
  iprop(SlotX c E (g % 3) (mod3_lt _) g ∗ SlotX c E ((g + 1) % 3) (mod3_lt _) (g + 1) ∗ SlotI c E ((g + 2) % 3) (mod3_lt _))

/-- What of the three arrays' shares no slot holds. -/
def Res : sProp 𝕄 :=
  iprop((((c : Thread nD τ).loc main_arg0) ↦{shareDrop fullShare 3} E.a0) ∗ (((c : Thread nD τ).loc main_v4) ↦{shareDrop fullShare 3} E.a4)
    ∗ ((c : Thread nD τ).loc main_v5) ↦{shareDrop fullShare 3} E.a5)

/-- The result's array: named once the last step is done. -/
def Oarr (g : ℕ) : sProp 𝕄 := if g = 128 then Out c (outFull (accAt E (64 * 128))) else iprop(∃ o, Out (F := F) c o)

/-- What a step leaves to the flush. -/
def Extra : sProp 𝕄 := iprop((∃ o, Out (F := F) c o) ∗ (∃ s, Stg (F := F) c s) ∗ semVal ((c : Thread nD τ), .dma osem) 0 ∗ Res c E)

/-- What holds before step `g`. -/
def Phi (g : ℕ) : sProp 𝕄 :=
  iprop(Tabs c E ∗ Ring c E (accAt E) g ∗ Oarr c E g ∗ (∃ s, Stg (F := F) c s) ∗ semVal ((c : Thread nD τ), .dma osem) 0 ∗ Res c E)

theorem slotI_cast {s s' : ℕ} {hs : s < 3} {hs' : s' < 3} (h : s = s') : SlotI c E s hs ⊢ SlotI c E s' hs' := by
  subst h; exact .rfl

/-- After the step's operations its slot is idle again. -/
theorem mid_out (P : sProp 𝕄) (g : ℕ) : Mid4 c E P g ⊢ iprop(Acc c (accAt E (64 * (g + 1))) ∗ Slots3 c E (g + 1) ∗ Tabs c E ∗ Owes0 c ∗ P) := by
  unfold Mid4 OpSt Slots3
  iintro ⟨HA, HT, HS, H1, H2, HO, HP⟩
  isplitl [HA]; · iexact HA
  isplitl [HS H1 H2]
  · isplitl [H1]; · iexact H1
    isplitl [H2]; · iexact H2
    iapply (slotI_cast c E (s := g % 3) (hs := mod3_lt _) (by omega))
    iapply (slotH_idle c E) $$ HS
  isplitl [HT]; · iexact HT
  isplitl [HO] <;> iassumption

theorem ring_intro {g : ℕ} (h : g ≠ 0) : iprop(Acc c (accAt E (64 * g)) ∗ Slots3 c E g) ⊢ Ring c E (accAt E) g := by
  unfold Ring
  rw [if_neg h]
  exact BIBase.Entails.rfl

theorem oarr_some {g : ℕ} (o : (main_v6 : Ref sig .tc).ty.Contents (Elt F)) (h : g ≠ 128) : Out c o ⊢ Oarr c E g := by
  unfold Oarr
  rw [if_neg h]
  iintro H
  iexists o
  iexact H

theorem oarr_any {g : ℕ} (h : g ≠ 128) : Oarr c E g ⊢ iprop(∃ o, Out (F := F) c o) := by
  unfold Oarr
  rw [if_neg h]

theorem oarr_full : Out c (outFull (accAt E 8192)) ⊢ Oarr c E 128 := by
  unfold Oarr
  rw [if_pos rfl]

/-- A step that is not the last. -/
theorem phi_next {g : ℕ} (h : g + 1 ≠ 128) : Mid4 c E (Extra c E) g ⊢ iprop(Phi c E (g + 1) ∗ Owes0 c) := by
  refine BIBase.Entails.trans (mid_out c E _ g) ?_
  unfold Extra Phi
  iintro ⟨HA, HS, HT, HO, ⟨%o, Ho⟩, Hs, Hm, HR⟩
  isplitr [HO]
  · isplitl [HT]; · iexact HT
    isplitl [HA HS]
    · iapply (ring_intro c E (Nat.succ_ne_zero g))
      isplitl [HA] <;> iassumption
    isplitl [Ho]
    · iapply (oarr_some c E o h) $$ Ho
    isplitl [Hs]; · iexact Hs
    isplitl [Hm] <;> iassumption
  · iexact HO

/-- What the flush does not touch. -/
def Past : sProp 𝕄 := iprop(Tabs c E ∗ Slots3 c E 128 ∗ Res c E)

/-- The last step's operations, before the flush. -/
theorem blk_in : Mid4 c E (Extra c E) 127 ⊢ iprop(∃ o, Blk c (accAt E 8192) o (Past c E) 0) := by
  refine BIBase.Entails.trans (mid_out c E _ 127) ?_
  unfold Extra Blk Rest Past
  iintro ⟨HA, HS, HT, HO, ⟨%o, Ho⟩, Hs, Hm, HR⟩
  iexists o
  rw [outAt_zero]
  isplitl [HA]; · iexact HA
  isplitl [Hs]; · iexact Hs
  isplitl [Ho]; · iexact Ho
  isplitl [Hm]; · iexact Hm
  isplitl [HO]; · iexact HO
  isplitl [HT]; · iexact HT
  isplitl [HS] <;> iassumption

/-- And after it. -/
theorem blk_out (o : (main_v6 : Ref sig .tc).ty.Contents (Elt F)) : Blk c (accAt E 8192) o (Past c E) 8 ⊢ iprop(Phi c E 128 ∗ Owes0 c) := by
  unfold Blk Rest Past Phi
  rw [outAt_full]
  iintro ⟨HA, Hs, Ho, Hm, HO, HT, HS, HR⟩
  isplitr [HO]
  · isplitl [HT]; · iexact HT
    isplitl [HA HS]
    · iapply (ring_intro c E (by decide))
      isplitl [HA] <;> iassumption
    isplitl [Ho]; · iapply (oarr_full c E) $$ Ho
    isplitl [Hs]; · iexact Hs
    isplitl [Hm] <;> iassumption
  · iexact HO

theorem phi_split {g : ℕ} (h : g ≠ 128) : iprop(Phi c E g ∗ Owes0 c) ⊢ iprop(Tabs c E ∗ Ring c E (accAt E) g ∗ Owes0 c ∗ Extra c E) := by
  unfold Phi Extra
  iintro ⟨⟨HT, HR, Ho, Hs, Hm, HE⟩, HO⟩
  isplitl [HT]; · iexact HT
  isplitl [HR]; · iexact HR
  isplitl [HO]; · iexact HO
  isplitl [Ho]; · iapply (oarr_any c E h) $$ Ho
  isplitl [Hs]; · iexact Hs
  isplitl [Hm] <;> iassumption

/-- One step of the grid takes the invariant to the next point. -/
theorem wp_point (hok : E.Ok) (i : grid0.Coords) :
    iprop(Phi c E (i 0).val ∗ Owes0 c) ⊢ WP c (onArgs (cc0__body (F := F) i)) (fun _ => iprop(Phi c E ((i 0).val + 1) ∗ Owes0 c)) := by
  have hi : (i 0).val < 128 := (i 0).isLt
  refine BIBase.Entails.trans (phi_split c E (by omega)) ?_
  refine wp_body c E (Extra c E) hok i _ (fun h => ?_) (fun h3 Q' hq => ?_)
  · exact phi_next c E (fun hh => h ((cond3_iff i).2 (by omega)))
  · have h127 : (i 0).val = 127 := (cond3_iff i).1 h3
    rw [h127] at hq ⊢
    refine BIBase.Entails.trans (blk_in c E) ?_
    iintro ⟨%o, H⟩
    iapply (wp_part169 c (accAt E 8192) o (Past c E) i h3 (BIBase.Entails.trans (blk_out c E o) hq)) $$ H

end

end Cert.Proof

end
-- ==== Proof.Points.lean ====
/-
  What the kernel reads when it starts, the data of its grid, and that every step keeps the invariant.
-/
module

public import proofs.«01_k».proof.Proof.Invariant
public import proofs.«01_k».proof.Proof.Gen.Kernel.Launch
public import Idealize.ShloMosaic.Lib.Pipeline.FrameSuffixV

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable (m : (ℓ : Loc nD τ sig) → Buf (Elt F) ℓ)

/-- What the buffers hold when the kernel starts: the host's first operations done. -/
def V₀ (c : Dev nD) : Valuation τ sig (Elt F) := StableHlo.after ([Gen.hostOps0] : List (List (HloOp τ sig (Elt F)))).flatten (fun b => m (c, b))

/-- What the kernel reads. -/
def env : Env F where
  t1 := V₀ m 0 (Proc.devRef .tc main_v3)
  t2 := V₀ m 0 (Proc.devRef .tc main_arg4)
  t3 := V₀ m 0 (Proc.devRef .tc main_arg3)
  a0 := V₀ m 0 (Proc.devRef .tc main_arg0)
  a4 := V₀ m 0 (Proc.devRef .tc main_v4)
  a5 := V₀ m 0 (Proc.devRef .tc main_v5)

/-- The tables' contents. -/
def tabs : pre0.Contents (Elt F) := fun k => V₀ m 0 (Proc.devRef .tc (pre0.ref k))

/-- The pipeline pinned at them: it stages nothing, so any contents will do. -/
def adm : (p : Fin 1) → (pcfgs (F := F) p).Adm := fun _ => ⟨tabs m, trivial⟩

/-- The grid's data: no window; the invariant before each step. -/
def dats (p : Fin 1) (c : Dev nD) : Pipeline.Dat τ (Elt F) Unit ℕ (UU nD τ) ℕ (Pipeline.pin (pcfgs (F := F)) (adm m) p) c where
  A := fun w => w.elim0
  after := fun w => w.elim0
  Φ := fun t => Phi c (env m) t.val
  q := fun _ => fullShare
  owed := fun _ => 0

/-- Point `t` of the grid is step `t`. -/
theorem coords_val : ∀ t : Fin grid0.N, (grid0.coords t 0).val = t.val := by decide +kernel

theorem phi_eq (c : Dev nD) (t : Fin (grid0.N + 1)) : (dats m 0 c).Φ t = Phi c (env m) t.val := rfl

theorem phi_succ (c : Dev nD) (t : Fin grid0.N) : Phi c (env m) (t.val + 1) ⊢ (dats m 0 c).Φ t.succ := Entails.of_eq rfl

theorem owes_in (c : Dev nD) (t : Fin (grid0.N + 1)) : (dats m 0 c).owesAt () t ⊢ Owes0 (F := F) c := by
  unfold Pipeline.Dat.owesAt Pipeline.owesWithin Owes0
  iintro ⟨%W, -, HO⟩
  iexists W
  iexact HO

theorem owes_out (c : Dev nD) (t : Fin (grid0.N + 1)) : Owes0 (F := F) c ⊢ (dats m 0 c).owesAt () t := by
  unfold Pipeline.Dat.owesAt Pipeline.owesWithin Owes0 Pipeline.Dat.bound
  iintro ⟨%W, HO⟩
  iexists W
  isplitr
  · ipureintro; exact fun _ _ => Or.inl trivial
  · iexact HO

/-- Every step keeps the invariant. -/
theorem body_ok (hok : (env m).Ok) (c : Dev nD) : Pipeline.BodyObligationLoose (dats m 0 c) defs₀ 𝒱₀ () Set.univ := fun t => by
  have ht : (grid0.coords t 0).val = t.val := coords_val t
  have hp := wp_point c (env m) hok (grid0.coords t)
  rw [ht] at hp
  iintro ⟨HP, HO, -⟩
  ihave HO := (owes_in m c t.castSucc) $$ HO
  iapply (wp_mono _ _ _ (Q := fun _ => iprop(Phi c (env m) (t.val + 1) ∗ Owes0 c)) (fun a => by
    iintro ⟨HP, HO⟩
    isplitl [HP]; · iapply (phi_succ m c t) $$ HP
    isplitl [HO]; · iapply (owes_out m c t.succ) $$ HO
    rw [show (Finset.univ : Finset (Fin 0)) = ∅ from rfl, BI.bigSep_empty]
    iempintro))
  iapply hp
  isplitl [HP]
  · iapply (Entails.of_eq (phi_eq m c t.castSucc)) $$ HP
  · iexact HO

end Cert.Proof

end
-- ==== Proof.Entry.lean ====
/-
  What the grid starts from and what it leaves.
-/
module

public import proofs.«01_k».proof.Proof.Points

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable (c : Dev nD) (m : (ℓ : Loc nD τ sig) → Buf (Elt F) ℓ)

/-- The kernel's own semaphores: three of each ring, one of the flush. -/
def own : Fin 10 → SemLoc sig := ![.dma (semOf cc0_scratch5 0 (by decide)), .dma (semOf cc0_scratch5 1 (by decide)), .dma (semOf cc0_scratch5 2 (by decide)),
  .dma (semOf cc0_scratch6 0 (by decide)), .dma (semOf cc0_scratch6 1 (by decide)), .dma (semOf cc0_scratch6 2 (by decide)),
  .dma (semOf cc0_scratch7 0 (by decide)), .dma (semOf cc0_scratch7 1 (by decide)), .dma (semOf cc0_scratch7 2 (by decide)), .dma osem]

theorem semOf_val (b : ℕ) (h : b + S3.numel ≤ 10) (s : ℕ) (hs : s < 3) : (semOf (SemArray.consecutive b S3 h : DmaSems sig S3) s hs).val = b + s := by
  show b + _ = b + s
  refine congrArg (b + ·) ?_
  rw [Shape.rowMajor_val_one]
  show s + 1 * _ = s
  have : ∀ x : Fin 1, s + 1 * x.val = s := by intro x; omega
  exact this _

theorem own_is : (own : Fin 10 → SemLoc sig) = fun k => .dma k := funext fun k =>
  match k with
  | 0 => congrArg SemLoc.dma (Fin.ext (semOf_val 0 _ 0 _))
  | 1 => congrArg SemLoc.dma (Fin.ext (semOf_val 0 _ 1 _))
  | 2 => congrArg SemLoc.dma (Fin.ext (semOf_val 0 _ 2 _))
  | 3 => congrArg SemLoc.dma (Fin.ext (semOf_val 3 _ 0 _))
  | 4 => congrArg SemLoc.dma (Fin.ext (semOf_val 3 _ 1 _))
  | 5 => congrArg SemLoc.dma (Fin.ext (semOf_val 3 _ 2 _))
  | 6 => congrArg SemLoc.dma (Fin.ext (semOf_val 6 _ 0 _))
  | 7 => congrArg SemLoc.dma (Fin.ext (semOf_val 6 _ 1 _))
  | 8 => congrArg SemLoc.dma (Fin.ext (semOf_val 6 _ 2 _))
  | 9 => rfl

theorem own_facts : Pipeline.OwnSemFacts spec0 own where
  isScoped := by rw [own_is]; decide
  inj := by rw [own_is]; intro a b h; injection h
  disj := fun _ w => w.elim0

/-- The arrays the kernel reads itself, and the one it writes. -/
def HR : Finset (Ref sig .tc) := {main_arg0, main_v4, main_v5}
def HW : Finset (Ref sig .tc) := {main_v6}

/-- What the kernel leaves in the buffers. -/
def VOut (b : Ref sig .tc) : Buf (Elt F) ((c.tc : Thread nD τ).loc b) :=
  Function.update (β := fun b => Buf (Elt F) ((c.tc : Thread nD τ).loc b)) (fun b => V₀ m c (Proc.devRef .tc b)) main_v6 (outFull (accAt (env m) (64 * 128))) b

theorem own_eq : (Pipeline.ownSems0 (Ix := Unit) (Name := ℕ) (U := UU nD τ) (Lvl := ℕ) (Val := Elt F) (τ := τ) own c : sProp 𝕄)
    = iprop(semVal ((c : Thread nD τ), .dma (semOf cc0_scratch5 0 (by decide))) 0 ∗ semVal ((c : Thread nD τ), .dma (semOf cc0_scratch5 1 (by decide))) 0
      ∗ semVal ((c : Thread nD τ), .dma (semOf cc0_scratch5 2 (by decide))) 0 ∗ semVal ((c : Thread nD τ), .dma (semOf cc0_scratch6 0 (by decide))) 0
      ∗ semVal ((c : Thread nD τ), .dma (semOf cc0_scratch6 1 (by decide))) 0 ∗ semVal ((c : Thread nD τ), .dma (semOf cc0_scratch6 2 (by decide))) 0
      ∗ semVal ((c : Thread nD τ), .dma (semOf cc0_scratch7 0 (by decide))) 0 ∗ semVal ((c : Thread nD τ), .dma (semOf cc0_scratch7 1 (by decide))) 0
      ∗ semVal ((c : Thread nD τ), .dma (semOf cc0_scratch7 2 (by decide))) 0 ∗ semVal ((c : Thread nD τ), .dma osem) 0) := by
  unfold Pipeline.ownSems0
  rw [show (Finset.univ : Finset (Fin 10)) = {0, 1, 2, 3, 4, 5, 6, 7, 8, 9} from by decide]
  iterate 9 rw [BI.bigSep_insert (by decide)]
  rw [BI.bigSep_singleton]
  rfl

theorem read_eq (V : (b : Ref sig .tc) → Buf (Elt F) ((c : Thread nD τ).loc b)) :
    (bigSep HR fun b => ((c.tc : Thread nD τ).loc b) ↦{fullShare} V b : sProp 𝕄)
      = iprop((((c : Thread nD τ).loc main_arg0) ↦{fullShare} V main_arg0) ∗ (((c : Thread nD τ).loc main_v4) ↦{fullShare} V main_v4)
          ∗ ((c : Thread nD τ).loc main_v5) ↦{fullShare} V main_v5) := by
  unfold HR
  iterate 2 rw [BI.bigSep_insert (by decide)]
  rw [BI.bigSep_singleton]
  rfl

theorem written_eq (V : (b : Ref sig .tc) → Buf (Elt F) ((c : Thread nD τ).loc b)) :
    (bigSep HW fun b => ((c.tc : Thread nD τ).loc b) ↦{fullShare} V b : sProp 𝕄) = iprop(((c : Thread nD τ).loc main_v6) ↦{fullShare} V main_v6) := by
  unfold HW
  rw [BI.bigSep_singleton]

theorem tabs_eq (V : pre0.Contents (Elt F)) :
    (Pipeline.prefHeld pre0 c (fun _ => fullShare.right) V : sProp 𝕄)
      = iprop((((c : Thread nD τ).loc main_v3) ↦{fullShare.right} V 0) ∗ (((c : Thread nD τ).loc main_arg4) ↦{fullShare.right} V 1)
          ∗ ((c : Thread nD τ).loc main_arg3) ↦{fullShare.right} V 2) := by
  unfold Pipeline.prefHeld
  exact Ring.bigSep_fin3 _

/-- The buffers the grid works in, the arrays it reads and the array it writes. -/
def Works (o : (main_v6 : Ref sig .tc).ty.Contents (Elt F)) : sProp 𝕄 :=
  iprop((∃ f, Acc (F := F) c f)
    ∗ ((∃ f : Buf (Elt F) ((c : Thread nD τ).loc cc0_scratch1), ((c : Thread nD τ).loc cc0_scratch1) ↦{fullShare} f)
      ∗ (semVal ((c : Thread nD τ), .dma (semOf cc0_scratch5 0 (by decide))) 0 ∗ semVal ((c : Thread nD τ), .dma (semOf cc0_scratch5 1 (by decide))) 0
        ∗ semVal ((c : Thread nD τ), .dma (semOf cc0_scratch5 2 (by decide))) 0)
      ∗ ((c : Thread nD τ).loc main_arg0) ↦{fullShare} (env m).a0)
    ∗ ((∃ f : Buf (Elt F) ((c : Thread nD τ).loc cc0_scratch2), ((c : Thread nD τ).loc cc0_scratch2) ↦{fullShare} f)
      ∗ (semVal ((c : Thread nD τ), .dma (semOf cc0_scratch6 0 (by decide))) 0 ∗ semVal ((c : Thread nD τ), .dma (semOf cc0_scratch6 1 (by decide))) 0
        ∗ semVal ((c : Thread nD τ), .dma (semOf cc0_scratch6 2 (by decide))) 0)
      ∗ ((c : Thread nD τ).loc main_v4) ↦{fullShare} (env m).a4)
    ∗ ((∃ f : Buf (Elt F) ((c : Thread nD τ).loc cc0_scratch3), ((c : Thread nD τ).loc cc0_scratch3) ↦{fullShare} f)
      ∗ (semVal ((c : Thread nD τ), .dma (semOf cc0_scratch7 0 (by decide))) 0 ∗ semVal ((c : Thread nD τ), .dma (semOf cc0_scratch7 1 (by decide))) 0
        ∗ semVal ((c : Thread nD τ), .dma (semOf cc0_scratch7 2 (by decide))) 0)
      ∗ ((c : Thread nD τ).loc main_v5) ↦{fullShare} (env m).a5)
    ∗ (∃ s, Stg (F := F) c s) ∗ semVal ((c : Thread nD τ), .dma osem) 0 ∗ Out c o)

theorem ring0_of {P : sProp 𝕄} : iprop((∃ f, Acc (F := F) c f)
    ∗ (Idle c MX BX (semOf cc0_scratch5 0 (by decide)) 0 (slotShare 0) (env m).a0 ∗ Idle c MX BX (semOf cc0_scratch5 1 (by decide)) 1 (slotShare 1) (env m).a0
      ∗ Idle c MX BX (semOf cc0_scratch5 2 (by decide)) 2 (slotShare 2) (env m).a0)
    ∗ (Idle c MW BW (semOf cc0_scratch6 0 (by decide)) 0 (slotShare 0) (env m).a4 ∗ Idle c MW BW (semOf cc0_scratch6 1 (by decide)) 1 (slotShare 1) (env m).a4
      ∗ Idle c MW BW (semOf cc0_scratch6 2 (by decide)) 2 (slotShare 2) (env m).a4)
    ∗ (Idle c MB BB (semOf cc0_scratch7 0 (by decide)) 0 (slotShare 0) (env m).a5 ∗ Idle c MB BB (semOf cc0_scratch7 1 (by decide)) 1 (slotShare 1) (env m).a5
      ∗ Idle c MB BB (semOf cc0_scratch7 2 (by decide)) 2 (slotShare 2) (env m).a5) ∗ P) ⊢ iprop(Ring0 c (env m) ∗ P) := by
  unfold Ring0 SlotI
  iintro ⟨HA, ⟨X0, X1, X2⟩, ⟨W0, W1, W2⟩, ⟨B0, B1, B2⟩, HP⟩
  isplitr [HP]
  · isplitl [HA]; · iexact HA
    isplitl [X0 W0 B0]
    · isplitl [X0]; · iexact X0
      isplitl [W0] <;> iassumption
    isplitl [X1 W1 B1]
    · isplitl [X1]; · iexact X1
      isplitl [W1] <;> iassumption
    isplitl [X2]; · iexact X2
    isplitl [W2] <;> iassumption
  · iexact HP

/-- The invariant before the first step. -/
theorem works_in (o : (main_v6 : Ref sig .tc).ty.Contents (Elt F)) : iprop(Works c m o ∗ Tabs c (env m)) ⊢ Phi c (env m) 0 := by
  unfold Works Phi Ring
  rw [if_pos rfl]
  iintro ⟨⟨HA, HX, HW, HB, Hs, Hm, Ho⟩, HT⟩
  ihave HX := (idle_intro c BX MX (View.set_whole _) (semOf cc0_scratch5 0 _) (semOf cc0_scratch5 1 _) (semOf cc0_scratch5 2 _) (env m).a0) $$ HX
  ihave HW := (idle_intro c BW MW (View.set_whole _) (semOf cc0_scratch6 0 _) (semOf cc0_scratch6 1 _) (semOf cc0_scratch6 2 _) (env m).a4) $$ HW
  ihave HB := (idle_intro c BB MB (View.set_whole _) (semOf cc0_scratch7 0 _) (semOf cc0_scratch7 1 _) (semOf cc0_scratch7 2 _) (env m).a5) $$ HB
  icases HX with ⟨HX, RX⟩
  icases HW with ⟨HW, RW⟩
  icases HB with ⟨HB, RB⟩
  isplitl [HT]; · iexact HT
  iapply (ring0_of c m)
  isplitl [HA]; · iexact HA
  isplitl [HX]; · iexact HX
  isplitl [HW]; · iexact HW
  isplitl [HB]; · iexact HB
  isplitl [Ho]; · iapply (oarr_some c (env m) o (by decide)) $$ Ho
  isplitl [Hs]; · iexact Hs
  isplitl [Hm]; · iexact Hm
  unfold Res
  isplitl [RX]; · iexact RX
  isplitl [RW] <;> iassumption

/-- The slots past the last block are idle. -/
theorem slots_last (E : Env F) : Slots3 c E 128 ⊢ iprop(SlotI c E 2 (by decide) ∗ SlotI c E 0 (by decide) ∗ SlotI c E 1 (by decide)) := by
  unfold Slots3 SlotX
  rw [if_neg (by decide), if_neg (by decide)]

/-- The invariant after the last step. -/
theorem works_out : Phi c (env m) 128 ⊢ Works c m (outFull (accAt (env m) (64 * 128))) := by
  unfold Phi Ring Oarr
  rw [if_neg (by decide), if_pos rfl]
  unfold RingA
  have hS := slots_last c (env m)
  unfold Slots3 at hS
  iintro ⟨-, ⟨HA, HS⟩, Ho, Hs, Hm, HR⟩
  ihave HS := hS $$ HS
  unfold SlotI Res Works
  icases HS with ⟨⟨X2, W2, B2⟩, ⟨X0, W0, B0⟩, X1, W1, B1⟩
  icases HR with ⟨RX, RW, RB⟩
  isplitl [HA]; · iexists _; iexact HA
  isplitl [X0 X1 X2 RX]
  · iapply (idle_elim c BX MX (View.set_whole _) (semOf cc0_scratch5 0 _) (semOf cc0_scratch5 1 _) (semOf cc0_scratch5 2 _) (env m).a0)
    isplitr [RX]
    · isplitl [X0]; · iexact X0
      isplitl [X1] <;> iassumption
    · iexact RX
  isplitl [W0 W1 W2 RW]
  · iapply (idle_elim c BW MW (View.set_whole _) (semOf cc0_scratch6 0 _) (semOf cc0_scratch6 1 _) (semOf cc0_scratch6 2 _) (env m).a4)
    isplitr [RW]
    · isplitl [W0]; · iexact W0
      isplitl [W1] <;> iassumption
    · iexact RW
  isplitl [B0 B1 B2 RB]
  · iapply (idle_elim c BB MB (View.set_whole _) (semOf cc0_scratch7 0 _) (semOf cc0_scratch7 1 _) (semOf cc0_scratch7 2 _) (env m).a5)
    isplitr [RB]
    · isplitl [B0]; · iexact B0
      isplitl [B1] <;> iassumption
    · iexact RB
  isplitl [Hs]; · iexact Hs
  isplitl [Hm] <;> iassumption

end Cert.Proof

end
-- ==== Proof.Run.lean ====
/-
  The run of the whole program, from what its grid starts from and leaves.

-/
module

public import proofs.«01_k».proof.Proof.Entry

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable (m : (ℓ : Loc nD τ sig) → Buf (Elt F) ℓ) (g : Dev nD → PrngReg)

theorem out_intro (c : Dev nD) (o : (main_v6 : Ref sig .tc).ty.Contents (Elt F)) : (((c : Thread nD τ).loc main_v6) ↦{fullShare} o : sProp 𝕄) ⊢ Out c o := Entails.of_eq rfl
theorem out_elim (c : Dev nD) (o : (main_v6 : Ref sig .tc).ty.Contents (Elt F)) : (Out c o : sProp 𝕄) ⊢ ((c : Thread nD τ).loc main_v6) ↦{fullShare} o := Entails.of_eq rfl

/-- What the grid starts from is its invariant before the first step. -/
theorem grid_at (c : Dev nD) (W : (b : Ref sig .tc) → Buf (Elt F) ((c.tc : Thread nD τ).loc b)) :
    iprop(iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) own c
      ∗ (bigSep HR fun b => ((c.tc : Thread nD τ).loc b) ↦{fullShare} V₀ m c (Proc.devRef .tc b)) ∗ (bigSep HW fun b => ((c.tc : Thread nD τ).loc b) ↦{fullShare} W b)) ∗ Pipeline.ΦT pre0 (tabs m) c) ⊢ (dats m 0 c).Φ 0 := by
  obtain rfl : c = 0 := Subsingleton.elim _ _
  refine BIBase.Entails.trans ?_ (works_in 0 m (W main_v6))
  unfold Pipeline.ΦT Works Tabs
  rw [Gen.scopedRest0_eq, own_eq, read_eq, written_eq, tabs_eq]
  iintro ⟨⟨⟨HA, HX, HW, HB, HS⟩, ⟨X0, X1, X2, W0, W1, W2, B0, B1, B2, Hm⟩, ⟨A0, A4, A5⟩, Ho⟩, T1, T2, T3⟩
  isplitr [T1 T2 T3]
  · isplitl [HA]; · iexact HA
    isplitl [HX X0 X1 X2 A0]
    · isplitl [HX]; · iexact HX
      isplitl [X0 X1 X2]
      · isplitl [X0]; · iexact X0
        isplitl [X1] <;> iassumption
      · iexact A0
    isplitl [HW W0 W1 W2 A4]
    · isplitl [HW]; · iexact HW
      isplitl [W0 W1 W2]
      · isplitl [W0]; · iexact W0
        isplitl [W1] <;> iassumption
      · iexact A4
    isplitl [HB B0 B1 B2 A5]
    · isplitl [HB]; · iexact HB
      isplitl [B0 B1 B2]
      · isplitl [B0]; · iexact B0
        isplitl [B1] <;> iassumption
      · iexact A5
    isplitl [HS]; · iexact HS
    isplitl [Hm]; · iexact Hm
    iapply (out_intro 0 (W main_v6)) $$ Ho
  · isplitl [T1]; · iexact T1
    isplitl [T2]; · iexact T2
    iexact T3

theorem phi_last (c : Dev nD) : (dats m 0 c).Φ (Fin.last (Pipeline.pin (pcfgs (F := F)) (adm m) 0).N) ⊢ Phi c (env m) 128 :=
  Entails.of_eq (congrArg (Phi c (env m)) Gen.N_0)

theorem vout_v6 (c : Dev nD) : VOut c m main_v6 = outFull (accAt (env m) (64 * 128)) := Function.update_self ..

theorem grid_inV (c : Dev nD) : iprop(Pipeline.ΦDRV own spec0 HR HW (fun c b => V₀ m c (Proc.devRef .tc b)) (fun c b => V₀ m c (Proc.devRef .tc b)) c
    ∗ Pipeline.ΦT pre0 (tabs m) c) ⊢ (dats m 0 c).Φ 0 := by
  unfold Pipeline.ΦDRV
  exact grid_at m c _

/-- The invariant after the last step gives the buffers back, the result written. -/
theorem grid_back (c : Dev nD) : (dats m 0 c).Φ (Fin.last (Pipeline.pin (pcfgs (F := F)) (adm m) 0).N)
    ⊢ iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) own c
      ∗ (bigSep HR fun b => ((c.tc : Thread nD τ).loc b) ↦{fullShare} V₀ m c (Proc.devRef .tc b)) ∗ bigSep HW fun b => ((c.tc : Thread nD τ).loc b) ↦{fullShare} VOut c m b) := by
  refine BIBase.Entails.trans (phi_last m c) ?_
  refine BIBase.Entails.trans (works_out c m) ?_
  obtain rfl : c = 0 := Subsingleton.elim _ _
  unfold Works
  rw [Gen.scopedRest0_eq, own_eq, read_eq, written_eq, vout_v6]
  iintro ⟨HA, ⟨HX, ⟨X0, X1, X2⟩, A0⟩, ⟨HW, ⟨W0, W1, W2⟩, A4⟩, ⟨HB, ⟨B0, B1, B2⟩, A5⟩, HS, Hm, Ho⟩
  isplitl [HA HX HW HB HS]
  · isplitl [HA]; · iexact HA
    isplitl [HX]; · iexact HX
    isplitl [HW]; · iexact HW
    isplitl [HB]; · iexact HB
    iexact HS
  isplitl [X0 X1 X2 W0 W1 W2 B0 B1 B2 Hm]
  · isplitl [X0]; · iexact X0
    isplitl [X1]; · iexact X1
    isplitl [X2]; · iexact X2
    isplitl [W0]; · iexact W0
    isplitl [W1]; · iexact W1
    isplitl [W2]; · iexact W2
    isplitl [B0]; · iexact B0
    isplitl [B1]; · iexact B1
    isplitl [B2]; · iexact B2
    iexact Hm
  isplitl [A0 A4 A5]
  · isplitl [A0]; · iexact A0
    isplitl [A4]; · iexact A4
    iexact A5
  iapply (out_elim 0 _) $$ Ho

theorem grid_outV (c : Dev nD) : (dats m 0 c).Φ (Fin.last (Pipeline.pin (pcfgs (F := F)) (adm m) 0).N) ⊢ Pipeline.ΦDRV own spec0 HR HW (fun c b => V₀ m c (Proc.devRef .tc b)) (fun c => VOut c m) c := by
  unfold Pipeline.ΦDRV
  exact grid_back m c

/-- The same, the result's contents left unnamed. -/
theorem grid_in (c : Dev nD) : iprop(Pipeline.ΦDR own spec0 HR HW (fun c b => V₀ m c (Proc.devRef .tc b)) c ∗ Pipeline.ΦT pre0 (tabs m) c) ⊢ (dats m 0 c).Φ 0 := by
  rw [Pipeline.ΦDR_eq]
  iintro ⟨⟨Hr, -, Ho, HH, HR⟩, HT⟩
  ihave HR := (Pipeline.owned_elim_fn HW c) $$ HR
  icases HR with ⟨%W, HR⟩
  iapply (grid_at m c W)
  isplitr [HT]
  · isplitl [Hr]; · iexact Hr
    isplitl [Ho]; · iexact Ho
    isplitl [HH]; · iexact HH
    iexact HR
  · iexact HT

theorem grid_out (c : Dev nD) : (dats m 0 c).Φ (Fin.last (Pipeline.pin (pcfgs (F := F)) (adm m) 0).N)
    ⊢ iprop(Pipeline.scopedRest (Ix := Unit) (Name := ℕ) (U := UU nD τ) (Lvl := ℕ) (Val := Elt F) spec0 c
      ∗ Pipeline.ownSems0 (Ix := Unit) (Name := ℕ) (U := UU nD τ) (Lvl := ℕ) (Val := Elt F) (τ := τ) own c
      ∗ (bigSep HR fun b => ((c.tc : Thread nD τ).loc b) ↦{fullShare} V₀ m c (Proc.devRef .tc b)) ∗ Pipeline.owned HW c) := by
  refine BIBase.Entails.trans (grid_back m c) ?_
  iintro ⟨Hr, Ho, HH, HR⟩
  isplitl [Hr]; · iexact Hr
  isplitl [Ho]; · iexact Ho
  isplitl [HH]; · iexact HH
  iapply (Pipeline.owned_intro HW c (VOut c m)) $$ HR

theorem hr_sub : HR ⊆ Pipeline.restRefsP sig pre0 spec0 := by decide
theorem hw_sub : HW ⊆ Pipeline.restRefsP sig pre0 spec0 \ HR := by decide

theorem tail_sub : ∀ ops ∈ ([Gen.hostOps1] : List (List (HloOp τ sig (Elt F)))), ∀ op ∈ ops, op.bufs ⊆ Pipeline.tailRefs sig pre0 spec0 := by
  simp only [List.mem_singleton, forall_eq]
  rw [show (StableHlo.reshape main_v6 main_v7 (rfl : (.f32 : EltTy) = .f32) Gen.shapeCasts_S4x256x128x64_S1024x128x64 : HloOp τ sig (Elt F)).bufs
      = {Proc.devRef .tc main_v6, Proc.devRef .tc main_v7} from rfl]
  decide

theorem tail_fresh : ∀ ops ∈ ([Gen.hostOps1] : List (List (HloOp τ sig (Elt F)))), ∀ op ∈ ops, op.fresh = ∅ := by
  simp only [List.mem_singleton, forall_eq]
  rfl

theorem main_around : Pipeline.HMainPK (Ix := Unit) (Name := ℕ) (U := UU nD τ) (Lvl := ℕ) (pcfgs (F := F)) 0 defs₀ 𝒱₀ m main
    (fun c b => V₀ m c (Proc.devRef .tc b)) (fun _ => Pipeline.chain (([Gen.hostOps1] : List (List (HloOp τ sig (Elt F)))).map StableHlo.seq)) :=
  Pipeline.hmainP_around pcfgs 0 defs₀ 𝒱₀ m main [Gen.hostOps0] [Gen.hostOps1] Gen.hostOps0_sub ⟨rfl, rfl, rfl, rfl, rfl, rfl, rfl⟩ Gen.main_chain

theorem tabs_at (c : Dev nD) (k : Fin 3) : V₀ m c (Proc.devRef .tc (pre0.ref k)) = tabs m k := by
  obtain rfl : c = 0 := Subsingleton.elim _ _
  rfl

/-- The run: every buffer that is no table ends at what the host's last operation makes of the grid's result. -/
theorem run_value (hok : (env m).Ok) : θ_run defs (onTc main) ⟨m, fun _ => 0, g⟩ (fun r => (∀ c : Dev nD, ∀ b ∈ Pipeline.restRefsP sig pre0 spec0,
      r.2.mem ((c.tc : Thread nD τ).loc b) = StableHlo.after ([Gen.hostOps1] : List (List (HloOp τ sig (Elt F)))).flatten (Pipeline.withArrays spec0 c (Pipeline.withR (V₀ m c) HW c (VOut c m)) fun w => w.elim0) (Proc.devRef .tc b))
      ∧ r.2.sem = fun _ => 0) :=
  Pipeline.θ_run_frameP_dmaR_aroundV_shared (Q' := _) (hQ' := fun r h => ⟨fun c b hb => (h.1 c).2 b hb, h.2⟩)
    (pcfgs (F := F)) (adm m) (dats m) 0 Gen.launch0.to₀ own defs₀ 𝒱₀ own_facts HR HW hr_sub hw_sub m g main
    (fun c => body_ok m hok c) (fun _ w => w.elim0) (fun _ _ => rfl) (V₀ m) [Gen.hostOps1] tail_sub tail_fresh (fun _ _ _ _ w => w.elim0) (fun c => VOut c m)
    (main_around m) (fun _ w => w.elim0) (tabs_at m) (grid_inV m) (grid_outV m)

end Cert.Proof

end
-- ==== Proof.Outcome.lean ====
/-
  What the whole program leaves: its result array, its arguments, its semaphores.

-/
module

public import proofs.«01_k».proof.Proof.Run
public import Idealize.ShloMosaic.Lib.Claim

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable (m : (ℓ : Loc nD τ sig) → Buf (Elt F) ℓ) (g : Dev nD → PrngReg)

theorem tail_writes : ∀ ops ∈ ([Gen.hostOps1] : List (List (HloOp τ sig (Elt F)))), ∀ op ∈ ops, ∀ b : Ref sig .tc, Proc.devRef .tc b ∈ op.writes → b ∈ ({main_v7} : Finset (Ref sig .tc)) := by
  simp only [List.mem_singleton, forall_eq]
  rw [show (StableHlo.reshape main_v6 main_v7 (rfl : (.f32 : EltTy) = .f32) Gen.shapeCasts_S4x256x128x64_S1024x128x64 : HloOp τ sig (Elt F)).writes
      = {Proc.devRef .tc main_v7} from rfl]
  decide

/-- The run: every buffer but the two the result goes through ends at what the grid started from, the tables among them. -/
theorem run_frame (hok : (env m).Ok) : θ_run defs (onTc main) ⟨m, fun _ => 0, g⟩ (fun r => ∀ c : Dev nD, ∀ b ∈ Pipeline.restRefs sig spec0 \ (HW ∪ {main_v7}),
      r.2.mem ((c.tc : Thread nD τ).loc b) = V₀ m c (Proc.devRef .tc b)) :=
  Pipeline.θ_run_frameP_dmaR_around_drop_shared (Q' := _) (hQ' := fun r h => fun c b hb => (h.1 c).2 b hb)
    (pcfgs (F := F)) (adm m) (dats m) 0 Gen.launch0.to₀ own defs₀ 𝒱₀ own_facts HR HW {main_v7} hr_sub hw_sub m g main
    (fun c => body_ok m hok c) (fun _ w => w.elim0) (fun _ _ => rfl) (V₀ m) [Gen.hostOps1] tail_sub tail_fresh (fun _ _ _ _ w => w.elim0) tail_writes
    (main_around m) (fun _ w => w.elim0) (tabs_at m) (grid_in m) (grid_out m)

/-- The result: the grid's array, its two leading axes as one. -/
def result : FVec F S1024x128x64 .f32 :=
  shapeCast S1024x128x64 (outFull (accAt (env m) (64 * 128))) Gen.shapeCasts_S4x256x128x64_S1024x128x64

theorem after_v7 (W : Valuation τ sig (Elt F)) : StableHlo.after ([Gen.hostOps1] : List (List (HloOp τ sig (Elt F)))).flatten W (Proc.devRef .tc main_v7)
    = shapeCast S1024x128x64 (W (Proc.devRef .tc main_v6)) Gen.shapeCasts_S4x256x128x64_S1024x128x64 := by
  rfl

theorem with_v6 (c : Dev nD) (W : (w : Fin 0) → _) : Pipeline.withArrays spec0 c (Pipeline.withR (V₀ m c) HW c (VOut c m)) W (Proc.devRef .tc main_v6) = outFull (accAt (env m) (64 * 128)) := by
  unfold Pipeline.withArrays
  rw [dif_neg (fun ⟨w, _⟩ => w.elim0), Pipeline.withR_of_mem _ _ _ _ main_v6 (by unfold HW; exact Finset.mem_singleton_self _), vout_v6]

/-- The run: the result array, the arguments unchanged, every semaphore zero. -/
theorem run (hok : (env m).Ok) : θ_run defs (onTc main) ⟨m, fun _ => 0, g⟩ (fun r => (∀ c : Dev nD,
      r.2.mem ((c.tc : Thread nD τ).loc main_v7) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine θ_run_mono (θ_run_and (run_value m g hok) (run_frame m g hok)) ?_
  rintro r ⟨⟨h1, hs⟩, h2⟩
  refine ⟨fun c => ⟨(h1 c main_v7 (by decide)).trans ((after_v7 _).trans (congrArg (fun A : FVec F S4x256x128x64 .f32 => shapeCast S1024x128x64 A Gen.shapeCasts_S4x256x128x64_S1024x128x64) (with_v6 m c _))),
    (h2 c main_arg0 (by decide)).trans rfl, (h2 c main_arg1 (by decide)).trans rfl, (h2 c main_arg2 (by decide)).trans rfl,
    (h2 c main_arg3 (by decide)).trans rfl, (h2 c main_arg4 (by decide)).trans rfl, (h2 c main_arg5 (by decide)).trans rfl⟩, hs⟩

end Cert.Proof

end
-- ==== Proof.Inputs.lean ====
/-
  What the tables hold when the integer arguments are drawn from their ranges.

-/
module

public import proofs.«01_k».proof.Proof.Points
public import proofs.«01_k».proof.Pre_in_range
public import proofs.«01_k».proof.Proof.Gen.Pre_in_range

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

/-- A word between zero and a positive bound, as signed words, is below the bound. -/
theorem word_lt (w n : BitVec 32) (hn : n.toNat < 2147483648)
    (h : IntOp.andi (IntOp.cmpi .sge w 0#32) (IntOp.cmpi .slt w n) = 1#1) : w.toNat < n.toNat := by
  have two (p q : Bool) : (IntOp.andi (BitVec.ofBool p) (BitVec.ofBool q) = 1#1) ↔ (p = true ∧ q = true) := by
    simp only [IntOp.andi]; decide +revert
  simp only [IntOp.cmpi, two, BitVec.sle_eq_decide, BitVec.slt_eq_decide, decide_eq_true_eq, BitVec.toInt_eq_toNat_cond,
    BitVec.toNat_ofNat, Nat.reducePow, Nat.reduceMod] at h
  omega

variable (m : (ℓ : Loc nD τ sig) → Buf (Elt F) ℓ)

/-- The ranges the integer arguments are drawn from, at a memory. -/
def InRange : Prop := (Cert.Pre_in_range.fn (F := F) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) (m (((0 : Dev nD).tc : Thread nD τ).loc main_arg4))
    (m (((0 : Dev nD).tc : Thread nD τ).loc main_arg5))).1 = (fun _ => 1#1)
  ∧ (Cert.Pre_in_range.fn (F := F) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) (m (((0 : Dev nD).tc : Thread nD τ).loc main_arg4))
    (m (((0 : Dev nD).tc : Thread nD τ).loc main_arg5))).2.1 = (fun _ => 1#1)
  ∧ (Cert.Pre_in_range.fn (F := F) (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) (m (((0 : Dev nD).tc : Thread nD τ).loc main_arg4))
    (m (((0 : Dev nD).tc : Thread nD τ).loc main_arg5))).2.2 = (fun _ => 1#1)

/-- The three integer arguments' words. -/
def rowArg : IVec S8192 32 := m (((0 : Dev nD).tc : Thread nD τ).loc main_arg3)
def symArg : IVec S8192 32 := m (((0 : Dev nD).tc : Thread nD τ).loc main_arg4)
def bankArg : IVec S8192x1 32 := m (((0 : Dev nD).tc : Thread nD τ).loc main_arg5)

theorem rowArg_lt (h : InRange m) (u : S8192.Idx) : (rowArg m u).toNat < 1024 := word_lt _ 1024#32 (by decide) (congrFun h.1 u)
theorem symArg_lt (h : InRange m) (u : S8192.Idx) : (symArg m u).toNat < 1024 := word_lt _ 1024#32 (by decide) (congrFun h.2.1 u)
theorem bankArg_lt (h : InRange m) (u : S8192x1.Idx) : (bankArg m u).toNat < 4 := word_lt _ 4#32 (by decide) (congrFun h.2.2 u)

theorem env_t2 : (env m).t2 = symArg m := rfl
theorem env_t3 : (env m).t3 = rowArg m := rfl

/-- The table of state rows: each operation's bank times the rows of a bank, plus its row. -/
theorem env_t1 (u : Fin 8192) : (env m).t1 (ix1 u) = bankArg m (ix2 u 0) * 1024#32 + rowArg m (ix1 u) := by
  refine (show (env m).t1 (ix1 u) = IntOp.addi (IntOp.muli (shapeCast S8192 (bankArg m) Gen.shapeCasts_S8192x1_S8192 (ix1 u)) 1024#32) (rowArg m (ix1 u)) from rfl).trans ?_
  rw [shapeCast_apply (bankArg m) _ (ix1 u) (ix2 u 0) (by rw [Shape.rowMajor_val_one, Shape.rowMajor_val_two]; simp)]
  rfl

theorem t1_val (h : InRange m) (u : Fin 8192) : ((env m).t1 (ix1 u)).toNat = (bankArg m (ix2 u 0)).toNat * 1024 + (rowArg m (ix1 u)).toNat := by
  rw [env_t1]
  have h1 := bankArg_lt m h (ix2 u 0)
  have h2 := rowArg_lt m h (ix1 u)
  rw [BitVec.toNat_add, BitVec.toNat_mul]
  simp only [BitVec.toNat_ofNat, Nat.reducePow, Nat.reduceMod]
  omega

/-- Arguments in range make every word of the tables name a row. -/
theorem env_ok (h : InRange m) : (env m).Ok where
  h1 u := by
    unfold Env.i1 word
    split
    · rename_i hu
      have h1 := bankArg_lt m h (ix2 ⟨u, hu⟩ 0)
      have h2 := rowArg_lt m h (ix1 ⟨u, hu⟩)
      have h3 := t1_val m h ⟨u, hu⟩
      omega
    · decide
  h2 u := by
    unfold Env.i2 word
    split
    · exact symArg_lt m h _
    · decide
  h3 u := by
    unfold Env.i3 word
    split
    · exact rowArg_lt m h _
    · decide

end Cert.Proof

end
-- ==== Proof.Same.lean ====
/-
  The kernel and its idealization are the same text: equality of the two programs at every float model.

-/
module

public import proofs.«01_k».proof.Proof.Outcome
public import proofs.«01_k».proof.KernelIdeal

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable [Cert.KernelIdeal.Facts]
universe v

/-- Two programs that begin alike and go on alike are one. -/
theorem bind_same {E : Type → Type v} {α β : Type} {x y : Prog E α} {f g : α → Prog E β} (h : x = y) (k : ∀ a, f a = g a) : (x >>= f) = (y >>= g) := by
  rw [h, funext k]

set_option maxRecDepth 65536 in
set_option maxHeartbeats 2000000 in
theorem part103_same : Cert.KernelIdeal.k0_part103 (F := F) = Cert.Kernel.k0_part103 (F := F) := by
  repeat (funext _)
  unfold Cert.KernelIdeal.k0_part103 Cert.Kernel.k0_part103
  iterate 44 refine bind_same rfl fun _ => ?_
  rfl
set_option maxRecDepth 65536 in
set_option maxHeartbeats 2000000 in
theorem part104_same : Cert.KernelIdeal.k0_part104 (F := F) = Cert.Kernel.k0_part104 (F := F) := by
  repeat (funext _)
  unfold Cert.KernelIdeal.k0_part104 Cert.Kernel.k0_part104
  iterate 31 refine bind_same rfl fun _ => ?_
  rfl
set_option maxRecDepth 65536 in
set_option maxHeartbeats 2000000 in
theorem part154_same : Cert.KernelIdeal.k0_part154 (F := F) = Cert.Kernel.k0_part154 (F := F) := by
  repeat (funext _)
  unfold Cert.KernelIdeal.k0_part154 Cert.Kernel.k0_part154
  iterate 34 refine bind_same rfl fun _ => ?_
  rfl
set_option maxRecDepth 65536 in
set_option maxHeartbeats 2000000 in
theorem part169_same : Cert.KernelIdeal.k0_part169 (F := F) = Cert.Kernel.k0_part169 (F := F) := by
  repeat (funext _)
  unfold Cert.KernelIdeal.k0_part169 Cert.Kernel.k0_part169
  iterate 3 refine bind_same rfl fun _ => ?_
  rfl
set_option maxRecDepth 65536 in
set_option maxHeartbeats 2000000 in
theorem part170_same : Cert.KernelIdeal.k0_part170 (F := F) = Cert.Kernel.k0_part170 (F := F) := by
  repeat (funext _)
  unfold Cert.KernelIdeal.k0_part170 Cert.Kernel.k0_part170
  rw [part103_same, part104_same, part154_same]
  rfl
set_option maxRecDepth 65536 in
set_option maxHeartbeats 2000000 in
theorem part227_same : Cert.KernelIdeal.k0_part227 (F := F) = Cert.Kernel.k0_part227 (F := F) := by
  repeat (funext _)
  unfold Cert.KernelIdeal.k0_part227 Cert.Kernel.k0_part227
  rw [part170_same]
  iterate 57 refine bind_same rfl fun _ => ?_
  rfl
set_option maxRecDepth 65536 in
set_option maxHeartbeats 2000000 in
/-- The two programs have one body. -/
theorem body_same : Cert.KernelIdeal.cc0__body (F := F) = Cert.Kernel.cc0__body (F := F) := by
  repeat (funext _)
  unfold Cert.KernelIdeal.cc0__body Cert.Kernel.cc0__body
  rw [part227_same, part169_same]
  refine bind_same rfl fun _ => ?_
  rfl

set_option maxRecDepth 65536 in
set_option maxHeartbeats 2000000 in
theorem defs0_same : (Cert.KernelIdeal.defs₀ (F := F)) = Cert.Kernel.defs₀ (F := F) := by
  unfold Cert.KernelIdeal.defs₀ Cert.Kernel.defs₀
  rw [body_same]
  rfl

set_option maxRecDepth 65536 in
set_option maxHeartbeats 2000000 in
/-- And one table of bodies. -/
theorem defs_same : (Cert.KernelIdeal.defs (F := F)) = Cert.Kernel.defs (F := F) := by
  unfold Cert.KernelIdeal.defs Cert.Kernel.defs
  rw [defs0_same]
  rfl

set_option maxRecDepth 65536 in
set_option maxHeartbeats 2000000 in
/-- And one host program. -/
theorem main_same : (Cert.KernelIdeal.main (F := F)) = Cert.Kernel.main (F := F) := rfl

set_option maxRecDepth 65536 in
set_option maxHeartbeats 2000000 in
/-- So a run of the idealized program is a run of the program. -/
theorem run_same (m : (ℓ : Loc nD τ sig) → Buf (Elt F) ℓ) (g : Dev nD → PrngReg) (Q) (h : θ_run (Cert.Kernel.defs (F := F)) (onTc Cert.Kernel.main) ⟨m, fun _ => 0, g⟩ Q) :
    θ_run (Cert.KernelIdeal.defs (F := F)) (onTc Cert.KernelIdeal.main) ⟨m, fun _ => 0, g⟩ Q := by
  rw [defs_same, main_same]
  exact h

end Cert.Proof

end
-- ==== Proof.RefOps.lean ====
/-
  The reference as a line of host operations, its run, and the functions its operations compose to.
-/
module

public import proofs.«01_k».proof.ReferenceIdeal
public import Idealize.ShloMosaic.Lib.StableHlo.Run
public import Idealize.ShloMosaic.Lib.ValueIdx

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Idealize.ShloMosaic.ValueIdx

variable {F : FTy → Type} [FloatOps F] [Cert.ReferenceIdeal.Facts]

/-- The operations of the take from the states. -/
def statesOps (arg0 : TRef sig ⟨S4096x128x64, .f32⟩) (arg1 : TRef sig ⟨S8192, .i32⟩) (φ : fn_take.Bufs) : List (HloOp τ sig (Elt F)) :=
  [ TRef.nullary φ.c (constantI S_ 32 0#32),
    TRef.unary φ.c φ.v0 (broadcastInDim S8192 ![] bcast_S_S8192),
    TRef.binary arg1 φ.v0 φ.v1 (cmpi .slt),
    TRef.nullary φ.c_0 (constantI S_ 32 4096#32),
    TRef.unary φ.c_0 φ.v2 (broadcastInDim S8192 ![] bcast_S_S8192),
    TRef.binary arg1 φ.v2 φ.v3 addi,
    TRef.ternary φ.v1 φ.v3 arg1 φ.call0.v0 select,
    TRef.unary φ.call0.v0 φ.v5 (broadcastInDim S8192x1 ![0] bcast_S8192_S8192x1_0),
    TRef.nullary φ.c_1 (constantI S1 32 4095#32),
    TRef.nullary φ.c_2 (constantI S_ 32 0#32),
    TRef.unary φ.c_2 φ.v6 (broadcastInDim S8192x1 ![] bcast_S_S8192x1),
    TRef.binary φ.v5 φ.v6 φ.v7 (cmpi .sge),
    TRef.unary φ.c_1 φ.v8 (broadcastInDim S1x1 ![1] bcast_S1_S1x1_1),
    TRef.unary φ.v8 φ.v9 (broadcastInDim S8192x1 ![0, 1] bcast_S1x1_S8192x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1_S8192_d1 h_S_),
    TRef.binary arg0 φ.v5 φ.v13 (fun x i => Host.gather gather_S4096x128x64_S8192x1_S8192x128x64_12_0_n_n_0_1_112864 x i),
    TRef.unary φ.v12 φ.v14 (broadcastInDim S8192x128x64 ![0] bcast_S8192_S8192x128x64_0),
    TRef.nullary φ.cst (constant S_ .f32 0x7FC00000#32),
    TRef.unary φ.cst φ.v15 (broadcastInDim S8192x128x64 ![] bcast_S_S8192x128x64),
    TRef.ternary φ.v14 φ.v13 φ.v15 φ.v16 select ]

theorem states_eq (arg0 : TRef sig ⟨S4096x128x64, .f32⟩) (arg1 : TRef sig ⟨S8192, .i32⟩) (φ : fn_take.Bufs) :
    fn_take.body (F := F) arg0 arg1 φ = seq (statesOps arg0 arg1 φ) := by
  simp only [fn_take.body, fn_where.body, fn_where_1.body, statesOps, seq, bind_assoc, pure_bind]

/-- The operations of the take from the weights. -/
def weightsOps (arg0 : TRef sig ⟨S1024x128x128, .f32⟩) (arg1 : TRef sig ⟨S8192, .i32⟩) (φ : fn_take_0.Bufs) : List (HloOp τ sig (Elt F)) :=
  [ TRef.nullary φ.c (constantI S_ 32 0#32),
    TRef.unary φ.c φ.v0 (broadcastInDim S8192 ![] bcast_S_S8192),
    TRef.binary arg1 φ.v0 φ.v1 (cmpi .slt),
    TRef.nullary φ.c_0 (constantI S_ 32 1024#32),
    TRef.unary φ.c_0 φ.v2 (broadcastInDim S8192 ![] bcast_S_S8192),
    TRef.binary arg1 φ.v2 φ.v3 addi,
    TRef.ternary φ.v1 φ.v3 arg1 φ.call0.v0 select,
    TRef.unary φ.call0.v0 φ.v5 (broadcastInDim S8192x1 ![0] bcast_S8192_S8192x1_0),
    TRef.nullary φ.c_1 (constantI S1 32 1023#32),
    TRef.nullary φ.c_2 (constantI S_ 32 0#32),
    TRef.unary φ.c_2 φ.v6 (broadcastInDim S8192x1 ![] bcast_S_S8192x1),
    TRef.binary φ.v5 φ.v6 φ.v7 (cmpi .sge),
    TRef.unary φ.c_1 φ.v8 (broadcastInDim S1x1 ![1] bcast_S1_S1x1_1),
    TRef.unary φ.v8 φ.v9 (broadcastInDim S8192x1 ![0, 1] bcast_S1x1_S8192x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1_S8192_d1 h_S_),
    TRef.binary arg0 φ.v5 φ.v13 (fun x i => Host.gather gather_S1024x128x128_S8192x1_S8192x128x128_12_0_n_n_0_1_1128128 x i),
    TRef.unary φ.v12 φ.v14 (broadcastInDim S8192x128x128 ![0] bcast_S8192_S8192x128x128_0),
    TRef.nullary φ.cst (constant S_ .f32 0x7FC00000#32),
    TRef.unary φ.cst φ.v15 (broadcastInDim S8192x128x128 ![] bcast_S_S8192x128x128),
    TRef.ternary φ.v14 φ.v13 φ.v15 φ.v16 select ]

theorem weights_eq (arg0 : TRef sig ⟨S1024x128x128, .f32⟩) (arg1 : TRef sig ⟨S8192, .i32⟩) (φ : fn_take_0.Bufs) :
    fn_take_0.body (F := F) arg0 arg1 φ = seq (weightsOps arg0 arg1 φ) := by
  simp only [fn_take_0.body, fn_where.body, fn_where_1.body, weightsOps, seq, bind_assoc, pure_bind]

/-- The operations of the take from the biases. -/
def biasesOps (arg0 : TRef sig ⟨S1024x128, .f32⟩) (arg1 : TRef sig ⟨S8192, .i32⟩) (φ : fn_take_2.Bufs) : List (HloOp τ sig (Elt F)) :=
  [ TRef.nullary φ.c (constantI S_ 32 0#32),
    TRef.unary φ.c φ.v0 (broadcastInDim S8192 ![] bcast_S_S8192),
    TRef.binary arg1 φ.v0 φ.v1 (cmpi .slt),
    TRef.nullary φ.c_0 (constantI S_ 32 1024#32),
    TRef.unary φ.c_0 φ.v2 (broadcastInDim S8192 ![] bcast_S_S8192),
    TRef.binary arg1 φ.v2 φ.v3 addi,
    TRef.ternary φ.v1 φ.v3 arg1 φ.call0.v0 select,
    TRef.unary φ.call0.v0 φ.v5 (broadcastInDim S8192x1 ![0] bcast_S8192_S8192x1_0),
    TRef.nullary φ.c_1 (constantI S1 32 1023#32),
    TRef.nullary φ.c_2 (constantI S_ 32 0#32),
    TRef.unary φ.c_2 φ.v6 (broadcastInDim S8192x1 ![] bcast_S_S8192x1),
    TRef.binary φ.v5 φ.v6 φ.v7 (cmpi .sge),
    TRef.unary φ.c_1 φ.v8 (broadcastInDim S1x1 ![1] bcast_S1_S1x1_1),
    TRef.unary φ.v8 φ.v9 (broadcastInDim S8192x1 ![0, 1] bcast_S1x1_S8192x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8192x1_S8192_d1 h_S_),
    TRef.binary arg0 φ.v5 φ.v13 (fun x i => Host.gather gather_S1024x128_S8192x1_S8192x128_1_0_n_n_0_1_1128 x i),
    TRef.unary φ.v12 φ.v14 (broadcastInDim S8192x128 ![0] bcast_S8192_S8192x128_0),
    TRef.nullary φ.cst (constant S_ .f32 0x7FC00000#32),
    TRef.unary φ.cst φ.v15 (broadcastInDim S8192x128 ![] bcast_S_S8192x128),
    TRef.ternary φ.v14 φ.v13 φ.v15 φ.v16 select ]

theorem biases_eq (arg0 : TRef sig ⟨S1024x128, .f32⟩) (arg1 : TRef sig ⟨S8192, .i32⟩) (φ : fn_take_2.Bufs) :
    fn_take_2.body (F := F) arg0 arg1 φ = seq (biasesOps arg0 arg1 φ) := by
  simp only [fn_take_2.body, fn_where.body, fn_where_1.body, biasesOps, seq, bind_assoc, pure_bind]

/-- The operations before the takes: the row of the states each operation reads. -/
def headOps : List (HloOp τ sig (Elt F)) :=
  [ reshape main_arg5 main_v0 (rfl : (.i32 : EltTy) = .i32) shapeCasts_S8192x1_S8192,
    nullary main_c (constantI S_ 32 1024#32),
    unary main_c main_v1 (broadcastInDim S8192 ![] bcast_S_S8192),
    binary main_v0 main_v1 main_v2 (muli),
    binary main_v2 main_arg3 main_v3 (addi) ]

/-- The operations after them: the affine images, their normalisation, the sum. -/
def tailOps : List (HloOp τ sig (Elt F)) :=
  [ binary main_v5 main_v4 main_v7 ((fun l r => Host.dotGeneral dot_S8192x128x128_S8192x128x64_S8192x128x64_2_1_1_2_0_0 none l r)),
    unary main_v6 main_v8 (broadcastInDim S8192x128x1 ![0, 1] bcast_S8192x128_S8192x128x1_0_1),
    unary main_v8 main_v9 (broadcastInDim S8192x128x64 ![0, 1, 2] bcast_S8192x128x1_S8192x128x64_0_1_2),
    binary main_v7 main_v9 main_v10 (addf),
    binary main_v10 main_v10 main_v11 (mulf),
    nullary main_cst (constant S_ .f32 0x00000000#32),
    binary main_v11 main_cst main_v12 ((fun x v => Host.reduceAdd x v reducesTo_S8192x128x64_S8192x64_d1 h_S_)),
    unary main_v12 main_v13 (broadcastInDim S8192x1x64 ![0, 2] bcast_S8192x64_S8192x1x64_0_2),
    nullary main_cst_0 (constant S_ .f32 0x2B8CBCCC#32),
    unary main_cst_0 main_v14 (broadcastInDim S8192x1x64 ![] bcast_S_S8192x1x64),
    binary main_v13 main_v14 main_v15 (maximumf),
    unary main_v15 main_v16 (Host.rsqrt),
    unary main_v16 main_v17 (broadcastInDim S8192x128x64 ![0, 1, 2] bcast_S8192x1x64_S8192x128x64_0_1_2),
    binary main_v10 main_v17 main_v18 (mulf),
    nullary main_cst_1 (constant S_ .f32 0x00000000#32),
    unary main_cst_1 main_v19 (broadcastInDim S1024x128x64 ![] bcast_S_S1024x128x64),
    nullary main_c_2 (constantI S_ 32 0#32),
    unary main_c_2 main_v20 (broadcastInDim S8192 ![] bcast_S_S8192),
    binary main_arg3 main_v20 main_v21 (cmpi .slt),
    nullary main_c_3 (constantI S_ 32 1024#32),
    unary main_c_3 main_v22 (broadcastInDim S8192 ![] bcast_S_S8192),
    binary main_arg3 main_v22 main_v23 (addi),
    ternary main_v21 main_v23 main_arg3 main_v24 (select),
    unary main_v24 main_v25 (broadcastInDim S8192x1 ![0] bcast_S8192_S8192x1_0),
    ternary main_v19 main_v25 main_v18 main_v26 ((fun x i u => Host.scatterAdd scatter_S1024x128x64_S8192x1_S8192x128x64_12_0_0_1 x i u)) ]

/-- The reference's operations in order. -/
def ops : List (HloOp τ sig (Elt F)) :=
  headOps ++ (statesOps (.of main_arg0) (.of main_v3) main_call0 ++ (weightsOps (.of main_arg1) (.of main_arg4) main_call1
    ++ (biasesOps (.of main_arg2) (.of main_arg4) main_call2 ++ tailOps)))

set_option maxRecDepth 4096 in
/-- The reference is their line. -/
theorem main_eq (c : Dev nD) : main (F := F) c = seq ops := by
  simp only [main, states_eq, weights_eq, biases_eq, ops, seq_append, headOps, tailOps, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem states_sub (arg0 : TRef sig ⟨S4096x128x64, .f32⟩) (arg1 : TRef sig ⟨S8192, .i32⟩) (φ : fn_take.Bufs) :
    (statesOps (F := F) arg0 arg1 φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem weights_sub (arg0 : TRef sig ⟨S1024x128x128, .f32⟩) (arg1 : TRef sig ⟨S8192, .i32⟩) (φ : fn_take_0.Bufs) :
    (weightsOps (F := F) arg0 arg1 φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem biases_sub (arg0 : TRef sig ⟨S1024x128, .f32⟩) (arg1 : TRef sig ⟨S8192, .i32⟩) (φ : fn_take_2.Bufs) :
    (biasesOps (F := F) arg0 arg1 φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem head_sub : (headOps (F := F)).Forall fun op => op.bufs ⊆ tcRefs τ sig :=
  ⟨reshape_bufs_sub .., nullary_bufs_sub .., unary_bufs_sub .., binary_bufs_sub .., binary_bufs_sub ..⟩
theorem tail_sub : (tailOps (F := F)).Forall fun op => op.bufs ⊆ tcRefs τ sig :=
  ⟨binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem ops_sub : (ops : List (HloOp τ sig (Elt F))).Forall fun op => op.bufs ⊆ tcRefs τ sig := by
  simp only [ops, List.forall_append]
  exact ⟨head_sub, states_sub _ _ _, weights_sub _ _ _, biases_sub _ _ _, tail_sub⟩

/-- The run: every buffer ends at the operations' fold. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold holds -/

/-- A take's start rows: the index, a negative one counted from the end. -/
def starts (n : BitVec 32) (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 n))) i)

/-- Whether a start row is inside the array. -/
def inside (last : BitVec 32) (j : IVec S8192x1 32) : IVec S8192 1 :=
  Host.reduce IntOp.andi (andi (cmpi .sge j (broadcastInDim S8192x1 ![] bcast_S_S8192x1 (constantI S_ 32 0#32)))
      (cmpi .sle j (broadcastInDim S8192x1 ![0, 1] bcast_S1x1_S8192x1_0_1 (broadcastInDim S1x1 ![1] bcast_S1_S1x1_1 (constantI S1 32 last)))))
    (constantI S_ 1 1#1) reducesTo_S8192x1_S8192_d1 h_S_

/-- The three takes. -/
def takeX (x : FVec F S4096x128x64 .f32) (i : IVec S8192 32) : FVec F S8192x128x64 .f32 :=
  select (broadcastInDim S8192x128x64 ![0] bcast_S8192_S8192x128x64_0 (inside 4095#32 (starts 4096#32 i)))
    (Host.gather gather_S4096x128x64_S8192x1_S8192x128x64_12_0_n_n_0_1_112864 x (starts 4096#32 i))
    (broadcastInDim S8192x128x64 ![] bcast_S_S8192x128x64 (constant S_ .f32 0x7FC00000#32))
def takeW (x : FVec F S1024x128x128 .f32) (i : IVec S8192 32) : FVec F S8192x128x128 .f32 :=
  select (broadcastInDim S8192x128x128 ![0] bcast_S8192_S8192x128x128_0 (inside 1023#32 (starts 1024#32 i)))
    (Host.gather gather_S1024x128x128_S8192x1_S8192x128x128_12_0_n_n_0_1_1128128 x (starts 1024#32 i))
    (broadcastInDim S8192x128x128 ![] bcast_S_S8192x128x128 (constant S_ .f32 0x7FC00000#32))
def takeB (x : FVec F S1024x128 .f32) (i : IVec S8192 32) : FVec F S8192x128 .f32 :=
  select (broadcastInDim S8192x128 ![0] bcast_S8192_S8192x128_0 (inside 1023#32 (starts 1024#32 i)))
    (Host.gather gather_S1024x128_S8192x1_S8192x128_1_0_n_n_0_1_1128 x (starts 1024#32 i))
    (broadcastInDim S8192x128 ![] bcast_S_S8192x128 (constant S_ .f32 0x7FC00000#32))

/-- The row of the states each operation reads: its bank's rows before it, and its row. -/
def stateRow (bank : IVec S8192x1 32) (row : IVec S8192 32) : IVec S8192 32 :=
  addi (muli (shapeCast S8192 bank shapeCasts_S8192x1_S8192) (broadcastInDim S8192 ![] bcast_S_S8192 (constantI S_ 32 1024#32))) row

/-- The affine images. -/
def affine (x : FVec F S8192x128x64 .f32) (w : FVec F S8192x128x128 .f32) (b : FVec F S8192x128 .f32) : FVec F S8192x128x64 .f32 :=
  addf (Host.dotGeneral dot_S8192x128x128_S8192x128x64_S8192x128x64_2_1_1_2_0_0 none w x)
    (broadcastInDim S8192x128x64 ![0, 1, 2] bcast_S8192x128x1_S8192x128x64_0_1_2 (broadcastInDim S8192x128x1 ![0, 1] bcast_S8192x128_S8192x128x1_0_1 b))

/-- Each column over its norm. -/
def normed (y : FVec F S8192x128x64 .f32) : FVec F S8192x128x64 .f32 :=
  mulf y (broadcastInDim S8192x128x64 ![0, 1, 2] bcast_S8192x1x64_S8192x128x64_0_1_2 (Host.rsqrt (maximumf
    (broadcastInDim S8192x1x64 ![0, 2] bcast_S8192x64_S8192x1x64_0_2
      (Host.reduceAdd (mulf y y) (constant S_ .f32 0x00000000#32) reducesTo_S8192x128x64_S8192x64_d1 h_S_))
    (broadcastInDim S8192x1x64 ![] bcast_S_S8192x1x64 (constant S_ .f32 0x2B8CBCCC#32)))))

/-- The sum of the operations' results at their rows. -/
def summed (row : IVec S8192 32) (y : FVec F S8192x128x64 .f32) : FVec F S1024x128x64 .f32 :=
  Host.scatterAdd scatter_S1024x128x64_S8192x1_S8192x128x64_12_0_0_1
    (broadcastInDim S1024x128x64 ![] bcast_S_S1024x128x64 (constant S_ .f32 0x00000000#32)) (starts 1024#32 row) y

/-- What the reference computes. -/
def out (x : FVec F S4096x128x64 .f32) (w : FVec F S1024x128x128 .f32) (b : FVec F S1024x128 .f32) (row sym : IVec S8192 32) (bank : IVec S8192x1 32) :
    FVec F S1024x128x64 .f32 :=
  summed row (normed (affine (takeX x (stateRow bank row)) (takeW w sym) (takeB b sym)))

end Cert.Proof.Ref

end
-- ==== Proof.RefRun.lean ====
/-
  What the reference leaves: its result, a term of the arguments, and the arguments as they were.
-/
module

public import proofs.«01_k».proof.Proof.RefOps

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Idealize.ShloMosaic.ValueIdx

variable {F : FTy → Type} [FloatOps F] [Cert.ReferenceIdeal.Facts]

variable (V : Valuation τ sig (Elt F))

set_option maxRecDepth 65536 in
set_option maxHeartbeats 2000000 in
/-- The fold at the result. -/
theorem out_eq : after ops V (main_v26 : DevRef τ sig)
    = out (V (main_arg0 : DevRef τ sig)) (V (main_arg1 : DevRef τ sig)) (V (main_arg2 : DevRef τ sig))
        (V (main_arg3 : DevRef τ sig)) (V (main_arg4 : DevRef τ sig)) (V (main_arg5 : DevRef τ sig)) := by
  simp only [ops, headOps, tailOps, statesOps, weightsOps, biasesOps, List.cons_append, List.nil_append]
  after_results_simp
  rfl

/-- The references the operations write. -/
def written : List (Ref sig .tc) := [main_v0, main_c, main_v1, main_v2, main_v3, main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref, main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref, main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref, main_v7, main_v8, main_v9, main_v10, main_v11, main_cst, main_v12, main_v13, main_cst_0, main_v14, main_v15, main_v16, main_v17, main_v18, main_cst_1, main_v19, main_c_2, main_v20, main_v21, main_c_3, main_v22, main_v23, main_v24, main_v25, main_v26]

set_option maxRecDepth 65536 in
theorem writes_eq : (ops : List (HloOp τ sig (Elt F))).map HloOp.writes = written.map fun r => {Proc.devRef (τ := τ) .tc r} := rfl

/-- The fold keeps whatever they do not write. -/
theorem keeps {b : Ref sig .tc} (h : b ∉ written) : after ops V (b : DevRef τ sig) = V (b : DevRef τ sig) :=
  after_of_writes_sub ops V (forall_writes_sub_of_map writes_eq) h

/-- The run: the result, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v26).trans (out_eq _), (h c main_arg0).trans (keeps _ (by decide)),
    (h c main_arg1).trans (keeps _ (by decide)), (h c main_arg2).trans (keeps _ (by decide)), (h c main_arg3).trans (keeps _ (by decide)),
    (h c main_arg4).trans (keeps _ (by decide)), (h c main_arg5).trans (keeps _ (by decide))⟩) (run_main m ρ)

end Cert.Proof.Ref

end
-- ==== Proof.Frames.lean ====
/-
  The three frames: each program runs, leaves its arguments as they were, and leaves every semaphore at zero.
-/
module

public import proofs.«01_k».proof.Defs
public import proofs.«01_k».proof.Proof.Outcome
public import proofs.«01_k».proof.Proof.Inputs
public import proofs.«01_k».proof.Proof.Same
public import proofs.«01_k».proof.Proof.RefRun
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Proof

open Idealize.ShloMosaic Idealize.ShloMosaic.TcCoe Idealize.SL.Sem

/-- The kernel's frame. -/
theorem frame_kernel : Cert.quiescent_Kernel := fun m g h =>
  θ_run_mono (run m g (env_ok m (h 0))) fun _ hr => ⟨fun c => (hr.1 c).2, hr.2⟩

/-- The idealized kernel's run: the same result. -/
theorem run_ideal (m : (ℓ : Loc Cert.KernelIdeal.nD Cert.KernelIdeal.τ Cert.KernelIdeal.sig) → Buf (Elt Ideal) ℓ) (g : Dev Cert.KernelIdeal.nD → PrngReg)
    (h : Cert.Pre_KernelIdeal m) : θ_run (Cert.KernelIdeal.defs (F := Ideal)) (onTc (τ := Cert.KernelIdeal.τ) (Cert.KernelIdeal.main (F := Ideal))) ⟨m, fun _ => 0, g⟩
      (fun r => (∀ c : Dev Cert.KernelIdeal.nD,
      r.2.mem ((c.tc : Thread Cert.KernelIdeal.nD Cert.KernelIdeal.τ).loc Cert.KernelIdeal.main_v7) = result (F := Ideal) m
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  run_same (F := Ideal) m g _ (run (F := Ideal) m g (env_ok m (h 0)))

/-- Its frame. -/
theorem frame_ideal : Cert.quiescent_KernelIdeal := fun m g h =>
  θ_run_mono (run_ideal m g h) fun _ hr => ⟨fun c => (hr.1 c).2, hr.2⟩

/-- The reference's frame, on any arguments: it has no semaphore. -/
theorem frame_reference : Cert.quiescent_ReferenceIdeal := fun m g _ =>
  (θ_run Cert.ReferenceIdeal.defs _ _).mono (fun r h => ⟨fun c => (h c).2, sem_eq_zero_of_no_sems (by decide) r.2⟩) (Ref.run (F := Ideal) m g)

/-- So also on the arguments of the equation. -/
theorem frame_reference_in_range : Cert.quiescent_ReferenceIdeal_pre_in_range := fun m g _ => frame_reference m g trivial

end Cert.Proof

end
-- ==== Proof.OpVal.lean ====
/-
One operation's result read at an index over the extended reals: the affine image, and the image over its norm.
-/
module

public import proofs.«01_k».proof.Proof.Ops
public import Idealize.ShloMosaic.PureOps.Ideal.Laws
public import Idealize.ShloMosaic.Lib.ValueIdx

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable (E : Env Ideal) (u : ℕ)

/-- The row of the states operation `u` reads, and the row of the weights and the biases. -/
def xRow : Fin 4096 := ⟨(E.i1 u).toNat % 4096, Nat.mod_lt _ (by decide)⟩
def wRow : Fin 1024 := ⟨(E.i2 u).toNat % 1024, Nat.mod_lt _ (by decide)⟩

/-- The operands' elements as numbers. -/
def xNum (k : Fin 128) (w : Fin 64) : EReal := E.a0 (ix3 (n0 := 4096) (n1 := 128) (n2 := 64) (xRow E u) k w)
def wNum (d k : Fin 128) : EReal := E.a4 (ix3 (n0 := 1024) (n1 := 128) (n2 := 128) (wRow E u) d k)
def bNum (d : Fin 128) : EReal := E.a5 (ix3 (n0 := 1024) (n1 := 1) (n2 := 128) (wRow E u) 0 d)

/-- The affine image of operation `u`: component `d` of column `w`. -/
def aff (w : Fin 64) (d : Fin 128) : EReal :=
  (∑ k : Fin 128, xNum E u k w * wNum E u d k) + bNum E u d

/-- The operands read at an index. -/
theorem x_at (j : S128x64.Idx) : shapeCast S128x64 (E.lx u) shapeCasts_S1x1x128x64_S128x64 j = E.a0 (ix3 (n0 := 4096) (n1 := 128) (n2 := 64) (xRow E u) (j 0) (j 1)) := by
  rw [shapeCast_apply (E.lx u) _ j (ix4 (n0 := 1) (n1 := 1) (n2 := 128) (n3 := 64) 0 0 (j 0) (j 1)) (by
    rw [Shape.rowMajor_val_two, Shape.rowMajor_val_four]; simp)]
  rfl
theorem w_at (j : S128x128.Idx) : shapeCast S128x128 (E.lw u) shapeCasts_S1x1x128x128_S128x128 j = E.a4 (ix3 (n0 := 1024) (n1 := 128) (n2 := 128) (wRow E u) (j 0) (j 1)) := by
  rw [shapeCast_apply (E.lw u) _ j (ix4 (n0 := 1) (n1 := 1) (n2 := 128) (n3 := 128) 0 0 (j 0) (j 1)) (by
    rw [Shape.rowMajor_val_two, Shape.rowMajor_val_four]; simp)]
  rfl
theorem b_at (j : S1x128.Idx) : shapeCast S1x128 (E.lb u) shapeCasts_S1x1x1x128_S1x128 j = E.a5 (ix3 (n0 := 1024) (n1 := 1) (n2 := 128) (wRow E u) 0 (j 1)) := by
  have h0 : (j 0).val = 0 := Nat.lt_one_iff.1 (j 0).isLt
  rw [shapeCast_apply (E.lb u) _ j (ix4 (n0 := 1) (n1 := 1) (n2 := 1) (n3 := 128) 0 0 0 (j 1)) (by
    rw [Shape.rowMajor_val_two, Shape.rowMajor_val_four, h0]; simp)]
  rfl

/-- The affine image at an index. -/
theorem affVal_at (j : S64x128.Idx) : affVal E u j = aff E u (j 0) (j 1) := by
  refine (addf_apply _ _ j).trans (congrArg₂ (fun p q : EReal => p + q) ?_ ?_)
  · generalize hx : shapeCast S128x64 (E.lx u) shapeCasts_S1x1x128x64_S128x64 = X
    generalize hw : shapeCast S128x128 (E.lw u) shapeCasts_S1x1x128x128_S128x128 = W
    refine (show _ = Ideal.ofBits .f32 0x00000000#32 + ∑ k : dot_S128x64_S128x128_S64x128_0_1_1_0_n_n.contr.Idx,
      (X (dot_S128x64_S128x128_S64x128_0_1_1_0_n_n.lhsIdx j k) : EReal) * (W (dot_S128x64_S128x128_S64x128_0_1_1_0_n_n.rhsIdx j k) : EReal) from rfl).trans ?_
    rw [Ideal.ofBits_zero_f32, zero_add]
    refine ((contrEquiv1 dot_S128x64_S128x128_S64x128_0_1_1_0_n_n 128 rfl rfl).symm.sum_comp _).symm.trans ?_
    refine Finset.sum_congr rfl fun k _ => congrArg₂ (fun p q : EReal => p * q) ?_ ?_
    · subst hx
      exact x_at E u _
    · subst hw
      exact w_at E u _
  · generalize hb : shapeCast S1x128 (E.lb u) shapeCasts_S1x1x1x128_S1x128 = B
    refine (show _ = B (ix2 (n0 := 1) (n1 := 128) 0 (j 1)) from ?_).trans (by subst hb; exact b_at E u _)
    unfold broadcastTo
    refine congrArg B ?_
    funext a
    match a with
    | ⟨0, _⟩ => rfl
    | ⟨1, _⟩ => rfl

/-- The squares of a column summed. -/
theorem norm_at (y : FVec Ideal S64x128 .f32) (j : S64.Idx) :
    multiReduction .add [1] S64 (mulf y y) 0x00000000#32 reduces_S64x128_S64 (.inl rfl) rfl j
      = ∑ d : Fin 128, (y (ix2 (n0 := 64) (n1 := 128) (j 0) d) : EReal) * (y (ix2 (n0 := 64) (n1 := 128) (j 0) d) : EReal) := by
  refine (Ideal.multiReduction_add_single (mulf y y) _ reduces_S64x128_S64 (.inl rfl) rfl j).trans ?_
  refine Finset.sum_congr rfl fun d _ => ?_
  refine (congrArg (mulf y y) (?_ : _ = ix2 (n0 := 64) (n1 := 128) (j 0) d)).trans (mulf_apply _ _ _)
  funext a
  match a with
  | ⟨0, _⟩ => rfl
  | ⟨1, _⟩ => rfl

/-- What operation `u` adds, at an index. -/
theorem opVal_at (j : S64x128.Idx) : opVal E u j
    = aff E u (j 0) (j 1) * Ideal.rsqrt (max (∑ d : Fin 128, aff E u (j 0) d * aff E u (j 0) d) (Ideal.ofBits .f32 0x2B8CBCCC#32)) := by
  unfold opVal
  have hy := affVal_at E u
  revert hy
  generalize affVal E u = y
  intro hy
  refine (mulf_apply _ _ j).trans (congrArg₂ (fun p q : EReal => p * q) (hy j) ?_)
  have hn : shapeCast S64x1 (multiReduction .add [1] S64 (mulf y y) 0x00000000#32 reduces_S64x128_S64 (.inl rfl) rfl) shapeCasts_S64_S64x1 (ix2 (n0 := 64) (n1 := 1) (j 0) 0)
      = ∑ d : Fin 128, aff E u (j 0) d * aff E u (j 0) d := by
    rw [shapeCast_apply _ _ _ (ix1 (n := 64) (j 0)) (by rw [Shape.rowMajor_val_one, Shape.rowMajor_val_two]; simp)]
    refine (norm_at y _).trans (Finset.sum_congr rfl fun d _ => ?_)
    rw [hy]
  rw [← hn]
  generalize shapeCast S64x1 (multiReduction .add [1] S64 (mulf y y) 0x00000000#32 reduces_S64x128_S64 (.inl rfl) rfl) shapeCasts_S64_S64x1 = f
  generalize hg : rsqrt (maximumf f (broadcast S64x1 (Scalar.ofBits .f32 0x2B8CBCCC#32))) = g
  rw [show Ideal.rsqrt (max (f (ix2 (n0 := 64) (n1 := 1) (j 0) 0)) (Ideal.ofBits .f32 0x2B8CBCCC#32)) = g (ix2 (n0 := 64) (n1 := 1) (j 0) 0) from by subst hg; rfl]
  unfold broadcastTo
  refine congrArg g ?_
  funext a
  match a with
  | ⟨0, _⟩ => rfl
  | ⟨1, _⟩ => rfl

/-- An element of the accumulator, and what operation `u` adds to row `r`, as numbers. -/
def accNum (f : (cc0_scratch0 : Ref sig .tc).ty.Contents (Elt Ideal)) (i : S1024x64x128.Idx) : EReal := f i
def addNum (r : ℕ) (w : Fin 64) (d : Fin 128) : EReal := if (E.i3 u).toNat = r then opVal E u (ix2 (n0 := 64) (n1 := 128) w d) else (0 : EReal)

/-- The row operation `u` adds to. -/
theorem accStep_at (f : (cc0_scratch0 : Ref sig .tc).ty.Contents (Elt Ideal)) (i : S1024x64x128.Idx) :
    accNum (accStep E f u) i = accNum f i + addNum E u (i 0).val (i 1) (i 2) := by
  unfold accNum addNum accStep
  by_cases h : (i 0).val = (E.i3 u).toNat
  · rw [if_pos h, if_pos h.symm]
    refine (addf_apply _ _ _).trans (congrArg₂ (fun p q : EReal => p + q) ?_ ?_)
    · exact congrArg f (eq_ix3 i).symm
    · exact shapeCast_apply (opVal E u) _ _ (ix2 (n0 := 64) (n1 := 128) (i 1) (i 2)) (by rw [Shape.rowMajor_val_two, Shape.rowMajor_val_three]; simp)
  · rw [if_neg h, if_neg (fun e => h e.symm)]
    exact (add_zero (accNum f i)).symm

/-- The accumulator after `n` operations: at each index, the operations of its row. -/
theorem accAt_at (n : ℕ) (i : S1024x64x128.Idx) : accNum (accAt E n) i = ∑ u ∈ Finset.range n, addNum E u (i 0).val (i 1) (i 2) := by
  induction n with
  | zero => exact Ideal.ofBits_zero_f32
  | succ n ih => rw [Finset.sum_range_succ, ← ih]; exact accStep_at E n (accAt E n) i

end Cert.Proof

end
-- ==== Proof.FlushVal.lean ====
/-
What the writing out gives over the extended reals: the product with the identity turns the rows over and changes no number.
-/
module

public import proofs.«01_k».proof.Proof.Flush
public import proofs.«01_k».proof.Proof.OpVal
public import Idealize.ShloMosaic.Lib.Pipeline.Value

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

/-- The identity at an index. -/
theorem eye_at (k c : Fin 256) : eyeVal (F := Ideal) (ix2 (n0 := 256) (n1 := 256) k c) = if k = c then (1 : EReal) else 0 := by
  refine (show _ = ((((IntOp.cmpi .eq (BitVec.ofNat 32 (0 * 256 + k.val)) (BitVec.ofNat 32 (0 * 256 + c.val))).setWidth 32).toInt : ℝ) : EReal) from rfl).trans ?_
  by_cases h : k = c
  · subst h
    rw [if_pos rfl, show IntOp.cmpi .eq (BitVec.ofNat 32 (0 * 256 + k.val)) (BitVec.ofNat 32 (0 * 256 + k.val)) = 1#1 from by simp [IntOp.cmpi]]
    simp
  · have hk := k.isLt
    have hc := c.isLt
    have hn : k.val ≠ c.val := fun e => h (Fin.ext e)
    have hb : ¬ (BitVec.ofNat 32 (0 * 256 + k.val) = BitVec.ofNat 32 (0 * 256 + c.val)) := fun e => hn (by
      have e' := congrArg BitVec.toNat e
      simp only [BitVec.toNat_ofNat] at e'
      omega)
    rw [if_neg h, show IntOp.cmpi .eq (BitVec.ofNat 32 (0 * 256 + k.val)) (BitVec.ofNat 32 (0 * 256 + c.val)) = 0#1 from by
      simp only [IntOp.cmpi, beq_eq_false_iff_ne.2 hb]; rfl]
    simp

/-- A product with the identity on the right, contracting the rows of both, is the left operand turned over. -/
theorem turn_at (X : FVec Ideal S256x128 .bf16) (d : Fin 128) (c : Fin 256) :
    matmul dot_S256x128_S256x256_S128x256_0_0_1_1_n_n none X eyeVal (constant S128x256 .f32 0x00000000#32) (ix2 (n0 := 128) (n1 := 256) d c) = X (ix2 (n0 := 256) (n1 := 128) c d) := by
  generalize he : eyeVal (F := Ideal) = Y
  refine (show _ = Ideal.ofBits .f32 0x00000000#32 + ∑ k : dot_S256x128_S256x256_S128x256_0_0_1_1_n_n.contr.Idx,
    (X (dot_S256x128_S256x256_S128x256_0_0_1_1_n_n.lhsIdx (ix2 (n0 := 128) (n1 := 256) d c) k) : EReal) * (Y (dot_S256x128_S256x256_S128x256_0_0_1_1_n_n.rhsIdx (ix2 (n0 := 128) (n1 := 256) d c) k) : EReal) from rfl).trans ?_
  rw [Ideal.ofBits_zero_f32, zero_add]
  refine ((contrEquiv1 dot_S256x128_S256x256_S128x256_0_0_1_1_n_n 256 rfl rfl).symm.sum_comp _).symm.trans ?_
  refine (Finset.sum_congr rfl fun k _ => (congrArg₂ (fun p q : EReal => p * q) (congrArg X (?_ : _ = ix2 (n0 := 256) (n1 := 128) k d))
    ((congrArg Y (?_ : _ = ix2 (n0 := 256) (n1 := 256) k c)).trans (by subst he; exact eye_at k c)) : _ = (X (ix2 (n0 := 256) (n1 := 128) k d) : EReal) * (if k = c then (1 : EReal) else 0))).trans ?_
  · funext a
    match a with
    | ⟨0, _⟩ => rfl
    | ⟨1, _⟩ => rfl
  · funext a
    match a with
    | ⟨0, _⟩ => rfl
    | ⟨1, _⟩ => rfl
  · refine (Finset.sum_eq_single c (fun k _ hk => ?_) (fun h => absurd (Finset.mem_univ _) h)).trans ?_
    · rw [if_neg hk, mul_zero]
    · rw [if_pos rfl, mul_one]

variable (f : (cc0_scratch0 : Ref sig .tc).ty.Contents (Elt Ideal))

/-- Row `r` of the accumulator as a matrix. -/
theorem row_at (r : ℕ) (j : S64x128.Idx) : shapeCast S64x128 (accRow f r) shapeCasts_S1x64x128_S64x128 j
    = f (ix3 (n0 := 1024) (n1 := 64) (n2 := 128) ⟨r % 1024, Nat.mod_lt _ (by decide)⟩ (j 0) (j 1)) := by
  rw [shapeCast_apply (accRow f r) _ j (ix3 (n0 := 1) (n1 := 64) (n2 := 128) 0 (j 0) (j 1)) (by
    rw [Shape.rowMajor_val_two, Shape.rowMajor_val_three]; simp)]
  rfl

/-- The four rows one above another. -/
theorem rows_at (r : ℕ) (q : Fin 4) (w : Fin 64) (d : Fin 128) (p : Fin 256) (hp : p.val = q.val * 64 + w.val) :
    concatenate S256x128 0 [⟨S64x128, shapeCast S64x128 (accRow f r) shapeCasts_S1x64x128_S64x128⟩,
      ⟨S64x128, shapeCast S64x128 (accRow f (r + 256)) shapeCasts_S1x64x128_S64x128⟩,
      ⟨S64x128, shapeCast S64x128 (accRow f (r + 512)) shapeCasts_S1x64x128_S64x128⟩,
      ⟨S64x128, shapeCast S64x128 (accRow f (r + 768)) shapeCasts_S1x64x128_S64x128⟩]
      concatenates_S64x128_S64x128_S64x128_S64x128_S256x128_d0 (ix2 (n0 := 256) (n1 := 128) p d)
      = f (ix3 (n0 := 1024) (n1 := 64) (n2 := 128) ⟨(r + 256 * q.val) % 1024, Nat.mod_lt _ (by decide)⟩ w d) := by
  have hw := w.isLt
  refine (concatenate_ofFn_apply (t := S256x128) (s₁ := S64x128) 0 (N := 4) (fun n => shapeCast S64x128 (accRow f (r + 256 * n.val)) shapeCasts_S1x64x128_S64x128)
    concatenates_S64x128_S64x128_S64x128_S64x128_S256x128_d0 rfl 64 rfl (ix2 (n0 := 256) (n1 := 128) p d) q (?_ : p.val / 64 = q.val)
    (ix2 (n0 := 64) (n1 := 128) w d) (?_ : w.val = p.val % 64) ?_).trans (row_at f _ _)
  · omega
  · omega
  · intro b hb
    match b with
    | ⟨0, _⟩ => exact absurd rfl hb
    | ⟨1, _⟩ => rfl

/-- What one row of the writing out holds: element `d` of column `w` of row `r + 256 q`. -/
theorem rowVal_at (r : ℕ) (d : Fin 128) (q : Fin 4) (w : Fin 64) : rowVal f r (ix4 (n0 := 1) (n1 := 128) (n2 := 4) (n3 := 64) ⟨0, Nat.one_pos⟩ d q w)
    = f (ix3 (n0 := 1024) (n1 := 64) (n2 := 128) ⟨(r + 256 * q.val) % 1024, Nat.mod_lt _ (by decide)⟩ w d) := by
  have hq := q.isLt
  have hw := w.isLt
  unfold rowVal
  rw [shapeCast_apply _ _ _ (ix4 (n0 := 1) (n1 := 128) (n2 := 4) (n3 := 64) ⟨0, Nat.one_pos⟩ d q w) rfl,
    shapeCast_apply _ _ _ (ix3 (n0 := 128) (n1 := 4) (n2 := 64) d q w) (by rw [Shape.rowMajor_val_three, Shape.rowMajor_val_four]; simp),
    shapeCast_apply _ _ _ (ix2 (n0 := 128) (n1 := 256) d ⟨q.val * 64 + w.val, by omega⟩) (by
      rw [Shape.rowMajor_val_two, Shape.rowMajor_val_three]
      show d.val * 256 + (q.val * 64 + w.val) = (d.val * 4 + q.val) * 64 + w.val
      omega), turn_at]
  exact rows_at f r q w d _ rfl

/-- The array written, its two leading axes as one: the accumulator with its other two axes exchanged. -/
theorem out_at (h : S4x256x128x64.ShapeCasts S1024x128x64) (i : S1024x128x64.Idx) :
    shapeCast S1024x128x64 (outFull f) h i = accNum f (ix3 (n0 := 1024) (n1 := 64) (n2 := 128) (i 0) (i 2) (i 1)) := by
  have h0 : (i 0).val < 1024 := (i 0).isLt
  have hc : ∀ O : S4x256x128x64.Idx → EReal, shapeCast S1024x128x64 O h i
      = O (ix4 (n0 := 4) (n1 := 256) (n2 := 128) (n3 := 64) ⟨(i 0).val / 256, by omega⟩ ⟨(i 0).val % 256, by omega⟩ (i 1) (i 2)) := fun O =>
    shapeCast_apply O h i _ (by
      rw [Shape.rowMajor_val_three, Shape.rowMajor_val_four]
      show (((i 0).val / 256 * 256 + (i 0).val % 256) * 128 + (i 1).val) * 64 + (i 2).val = ((i 0).val * 128 + (i 1).val) * 64 + (i 2).val
      omega)
  refine (hc (outFull f)).trans ?_
  refine (rowVal_at f _ (i 1) ⟨(i 0).val / 256, by omega⟩ (i 2)).trans ?_
  refine congrArg (fun q => f (ix3 (n0 := 1024) (n1 := 64) (n2 := 128) q (i 2) (i 1))) (Fin.ext ?_)
  show ((i 0).val % 256 + 256 * ((i 0).val / 256)) % 1024 = (i 0).val
  omega

end Cert.Proof

end
-- ==== Proof.Takes.lean ====
/-
  The reference's takes read at an index: where every start row is inside the array, a take is the array at that row.
-/
module

public import proofs.«01_k».proof.Proof.RefOps
public import Idealize.ShloMosaic.Lib.StableHlo.Predicate

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Idealize.ShloMosaic.ValueIdx

variable {F : FTy → Type} [FloatOps F]

section Words

/-- A row of positions repeated along an axis of a larger array. -/
theorem bcast_at {α : Type} {t : Shape} (d : Fin t.rank) (hd : t.size d = 8192) (h : S8192.BroadcastsInDim t ![d]) (x : S8192.Idx → α) (j : t.Idx) :
    broadcastInDim t ![d] h x j = x (ix1 (n := 8192) ⟨(j d).val, hd ▸ (j d).isLt⟩) := by
  unfold broadcastInDim
  refine congrArg x ?_
  funext a
  match a with
  | ⟨0, _⟩ => rfl

/-- A word below `2^31` is not negative. -/
theorem not_neg (w : BitVec 32) (h : w.toNat < 2147483648) : IntOp.cmpi .slt w 0#32 = 0#1 :=
  eq_zero_of_ne_one fun h1 => absurd ((Predicate.slt_iff_toNat h (by decide)).1 h1) (Nat.not_lt_zero _)

/-- Such a word as a signed number is itself. -/
theorem signed_eq (w : BitVec 32) (h : w.toNat < 2147483648) : w.toInt = (w.toNat : Int) := by
  rw [BitVec.toInt_eq_toNat_cond, if_pos (by omega)]

end Words

section Starts

variable [Cert.ReferenceIdeal.Facts] (i : IVec S8192 32)

/-- The start rows are the rows themselves: none is negative. -/
theorem starts_at (n : BitVec 32) (hi : ∀ u, (i u).toNat < 2147483648) (j : S8192x1.Idx) : starts n i j = i (ix1 (n := 8192) (j 0)) := by
  refine (bcast_at (t := S8192x1) 0 rfl _ _ j).trans ?_
  refine (show _ = Scalar.select (IntOp.cmpi .slt (i (ix1 (n := 8192) (j 0))) 0#32) (IntOp.addi (i (ix1 (n := 8192) (j 0))) n) (i (ix1 (n := 8192) (j 0))) from rfl).trans ?_
  rw [not_neg _ (hi _), select_zero]

/-- Folding ones from one gives one. -/
theorem fold_ones {β : Type} (l : List β) (f : β → BitVec 1) (hf : ∀ b, f b = 1#1) : l.foldl (fun r b => IntOp.andi r (f b)) 1#1 = 1#1 := by
  induction l with
  | nil => rfl
  | cons b l ih =>
    rw [List.foldl_cons, hf b]
    exact ih

/-- Rows at most the last one are inside. -/
theorem inside_at (n last : BitVec 32) (hl : last.toNat < 2147483648) (hi : ∀ u, (i u).toNat ≤ last.toNat) (u : S8192.Idx) : inside last (starts n i) u = 1#1 := by
  unfold inside Host.reduce
  refine fold_ones _ _ fun b => ?_
  generalize S8192x1.rowMajor.symm b = j
  refine (show _ = IntOp.andi (IntOp.cmpi .sge (starts n i j) 0#32) (IntOp.cmpi .sle (starts n i j) last) from rfl).trans ?_
  have hj := hi (ix1 (n := 8192) (j 0))
  rw [starts_at i n (fun u => by have := hi u; omega) j, (Predicate.sge_iff_toNat (by omega) (by decide)).2 (Nat.zero_le _),
    (Predicate.sle_iff_toNat (by omega) (by omega)).2 hj]
  rfl

end Starts

section Gathers

variable {α : Type}

/-- The dimension numbers of a gather of whole rows of three axes. -/
abbrev rows3 (N A B : ℕ) (wf : GatherDims.WF ⟨3, ![N, A, B]⟩ ⟨2, ![8192, 1]⟩ ⟨3, ![8192, A, B]⟩ [1, 2] [0] [] [0] [] 1 ![1, A, B]) : GatherDims ⟨3, ![N, A, B]⟩ ⟨2, ![8192, 1]⟩ ⟨3, ![8192, A, B]⟩ where
  offsetDims := [1, 2]
  collapsedSliceDims := [0]
  operandBatchingDims := []
  startIndicesBatchingDims := []
  startIndexMap := [0]
  indexVectorDim := 1
  sliceSizes := ![1, A, B]
  wf := wf

/-- A gather of whole rows, at an index: the operand at the row the start index names. -/
theorem rows3_at {N A B : ℕ} (hN : 0 < N)
    (wf : GatherDims.WF ⟨3, ![N, A, B]⟩ ⟨2, ![8192, 1]⟩ ⟨3, ![8192, A, B]⟩ [1, 2] [0] [] [0] [] 1 ![1, A, B])
    (x : (⟨3, ![N, A, B]⟩ : Shape).Idx → α) (idx : IVec ⟨2, ![8192, 1]⟩ 32) (y : (⟨3, ![8192, A, B]⟩ : Shape).Idx) :
    Host.gather (rows3 N A B wf) x idx y
      = x (ix3 ⟨min (idx (ix2 (y 0) 0)).toInt.toNat (N - 1), by omega⟩ (y 1) (y 2)) := by
  generalize hd : rows3 N A B wf = d
  unfold Host.gather
  refine congrArg x ?_
  funext a
  refine Fin.ext ?_
  show d.start y idx a + d.batchCoord y a + d.offCoord y a = _
  rw [GatherDims.batchCoord_eq_zero _ _ _ (by subst hd; exact List.not_mem_nil)]
  subst hd
  match a with
  | ⟨0, _⟩ =>
    rw [GatherDims.offCoord_eq_zero _ _ _ (fun h => ((GatherDims.mem_sKept _ _).mp h).1 (List.mem_singleton.mpr rfl))]
    refine (dif_pos (List.mem_singleton.mpr rfl) : (rows3 N A B wf).start y idx 0 = min (idx ((rows3 N A B wf).siIdx y ⟨0, Nat.one_pos⟩)).toInt.toNat (N - 1)).trans ?_
    refine congrArg (fun q => min (idx q).toInt.toNat (N - 1)) (?_ : _ = ix2 (y 0) 0)
    funext b
    match b with
    | ⟨0, _⟩ => rfl
    | ⟨1, _⟩ => rfl
  | ⟨1, _⟩ => exact Nat.zero_add _
  | ⟨2, _⟩ => exact Nat.zero_add _

/-- The dimension numbers of a gather of whole rows of a matrix. -/
abbrev rows2 (N A : ℕ) (wf : GatherDims.WF ⟨2, ![N, A]⟩ ⟨2, ![8192, 1]⟩ ⟨2, ![8192, A]⟩ [1] [0] [] [0] [] 1 ![1, A]) : GatherDims ⟨2, ![N, A]⟩ ⟨2, ![8192, 1]⟩ ⟨2, ![8192, A]⟩ where
  offsetDims := [1]
  collapsedSliceDims := [0]
  operandBatchingDims := []
  startIndicesBatchingDims := []
  startIndexMap := [0]
  indexVectorDim := 1
  sliceSizes := ![1, A]
  wf := wf

/-- The same of a matrix's rows. -/
theorem rows2_at {N A : ℕ} (hN : 0 < N)
    (wf : GatherDims.WF ⟨2, ![N, A]⟩ ⟨2, ![8192, 1]⟩ ⟨2, ![8192, A]⟩ [1] [0] [] [0] [] 1 ![1, A])
    (x : (⟨2, ![N, A]⟩ : Shape).Idx → α) (idx : IVec ⟨2, ![8192, 1]⟩ 32) (y : (⟨2, ![8192, A]⟩ : Shape).Idx) :
    Host.gather (rows2 N A wf) x idx y
      = x (ix2 ⟨min (idx (ix2 (y 0) 0)).toInt.toNat (N - 1), by omega⟩ (y 1)) := by
  generalize hd : rows2 N A wf = d
  unfold Host.gather
  refine congrArg x ?_
  funext a
  refine Fin.ext ?_
  show d.start y idx a + d.batchCoord y a + d.offCoord y a = _
  rw [GatherDims.batchCoord_eq_zero _ _ _ (by subst hd; exact List.not_mem_nil)]
  subst hd
  match a with
  | ⟨0, _⟩ =>
    rw [GatherDims.offCoord_eq_zero _ _ _ (fun h => ((GatherDims.mem_sKept _ _).mp h).1 (List.mem_singleton.mpr rfl))]
    refine (dif_pos (List.mem_singleton.mpr rfl) : (rows2 N A wf).start y idx 0 = min (idx ((rows2 N A wf).siIdx y ⟨0, Nat.one_pos⟩)).toInt.toNat (N - 1)).trans ?_
    refine congrArg (fun q => min (idx q).toInt.toNat (N - 1)) (?_ : _ = ix2 (y 0) 0)
    funext b
    match b with
    | ⟨0, _⟩ => rfl
    | ⟨1, _⟩ => rfl
  | ⟨1, _⟩ => exact Nat.zero_add _

end Gathers

section Takes

variable [Cert.ReferenceIdeal.Facts] (i : IVec S8192 32)

/-- The row a start index names. -/
theorem row_at (n : BitVec 32) (N : ℕ) (hN : N ≤ 4096) (hi : ∀ u, (i u).toNat < N) (j : S8192x1.Idx) :
    min (starts n i j).toInt.toNat (N - 1) = (i (ix1 (n := 8192) (j 0))).toNat := by
  have h := hi (ix1 (n := 8192) (j 0))
  rw [starts_at i n (fun u => by have := hi u; omega) j, signed_eq _ (by omega)]
  omega

/-- The take from the states. -/
theorem takeX_at (x : FVec F S4096x128x64 .f32) (hi : ∀ u, (i u).toNat < 4096) (y : S8192x128x64.Idx) :
    takeX x i y = x (ix3 (n0 := 4096) (n1 := 128) (n2 := 64) ⟨(i (ix1 (n := 8192) (y 0))).toNat, hi _⟩ (y 1) (y 2)) := by
  refine (select_apply _ _ _ y).trans ?_
  rw [bcast_at (t := S8192x128x64) 0 rfl, inside_at i 4096#32 4095#32 (by decide) (fun u => Nat.le_of_lt_succ (hi u)), select_one]
  refine (rows3_at (N := 4096) (A := 128) (B := 64) (by decide) gather_S4096x128x64_S8192x1_S8192x128x64_12_0_n_n_0_1_112864_wf x _ y).trans ?_
  refine congrArg (fun q => x (ix3 (n0 := 4096) (n1 := 128) (n2 := 64) q (y 1) (y 2))) (Fin.ext ?_)
  exact row_at i _ 4096 (by decide) hi _

/-- The take from the weights. -/
theorem takeW_at (x : FVec F S1024x128x128 .f32) (hi : ∀ u, (i u).toNat < 1024) (y : S8192x128x128.Idx) :
    takeW x i y = x (ix3 (n0 := 1024) (n1 := 128) (n2 := 128) ⟨(i (ix1 (n := 8192) (y 0))).toNat, hi _⟩ (y 1) (y 2)) := by
  refine (select_apply _ _ _ y).trans ?_
  rw [bcast_at (t := S8192x128x128) 0 rfl, inside_at i 1024#32 1023#32 (by decide) (fun u => Nat.le_of_lt_succ (hi u)), select_one]
  refine (rows3_at (N := 1024) (A := 128) (B := 128) (by decide) gather_S1024x128x128_S8192x1_S8192x128x128_12_0_n_n_0_1_1128128_wf x _ y).trans ?_
  refine congrArg (fun q => x (ix3 (n0 := 1024) (n1 := 128) (n2 := 128) q (y 1) (y 2))) (Fin.ext ?_)
  exact row_at i _ 1024 (by decide) hi _

/-- The take from the biases. -/
theorem takeB_at (x : FVec F S1024x128 .f32) (hi : ∀ u, (i u).toNat < 1024) (y : S8192x128.Idx) :
    takeB x i y = x (ix2 (n0 := 1024) (n1 := 128) ⟨(i (ix1 (n := 8192) (y 0))).toNat, hi _⟩ (y 1)) := by
  refine (select_apply _ _ _ y).trans ?_
  rw [bcast_at (t := S8192x128) 0 rfl, inside_at i 1024#32 1023#32 (by decide) (fun u => Nat.le_of_lt_succ (hi u)), select_one]
  refine (rows2_at (N := 1024) (A := 128) (by decide) gather_S1024x128_S8192x1_S8192x128_1_0_n_n_0_1_1128_wf x _ y).trans ?_
  refine congrArg (fun q => x (ix2 (n0 := 1024) (n1 := 128) q (y 1))) (Fin.ext ?_)
  exact row_at i _ 1024 (by decide) hi _

end Takes

end Cert.Proof.Ref

end
-- ==== Proof.RefVal.lean ====
/-
  The reference's affine images, their normalisation and their sum, read at an index over the extended reals.
-/
module

public import proofs.«01_k».proof.Proof.Takes
public import Idealize.ShloMosaic.PureOps.Ideal.Laws

@[expose] public section

noncomputable section

namespace Cert.Proof.Ref

open Cert.ReferenceIdeal Cert.ReferenceIdeal.Facts₀
open Idealize.ShloMosaic Idealize.ShloMosaic.TcCoe Idealize.ShloMosaic.StableHlo Idealize.SL.Sem
open Idealize.ShloMosaic.ValueIdx

variable [Cert.ReferenceIdeal.Facts]

/-- The contraction's sum over its one coordinate. -/
theorem dot_at (w : FVec Ideal S8192x128x128 .f32) (x : FVec Ideal S8192x128x64 .f32) (y : S8192x128x64.Idx) :
    Host.dotGeneral dot_S8192x128x128_S8192x128x64_S8192x128x64_2_1_1_2_0_0 none w x y
      = ∑ k : Fin 128, w (ix3 (n0 := 8192) (n1 := 128) (n2 := 128) (y 0) (y 1) k) * x (ix3 (n0 := 8192) (n1 := 128) (n2 := 64) (y 0) k (y 2)) := by
  refine (show _ = (0 : EReal) + ∑ k : dot_S8192x128x128_S8192x128x64_S8192x128x64_2_1_1_2_0_0.contr.Idx,
    w (dot_S8192x128x128_S8192x128x64_S8192x128x64_2_1_1_2_0_0.lhsIdx y k) * x (dot_S8192x128x128_S8192x128x64_S8192x128x64_2_1_1_2_0_0.rhsIdx y k) from rfl).trans ?_
  rw [zero_add]
  refine ((contrEquiv1 dot_S8192x128x128_S8192x128x64_S8192x128x64_2_1_1_2_0_0 128 rfl rfl).symm.sum_comp _).symm.trans ?_
  refine Finset.sum_congr rfl fun k _ => congrArg₂ (fun p q : EReal => p * q) (congrArg w ?_) (congrArg x ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- An affine image at an index. -/
theorem affine_at (x : FVec Ideal S8192x128x64 .f32) (w : FVec Ideal S8192x128x128 .f32) (b : FVec Ideal S8192x128 .f32) (y : S8192x128x64.Idx) :
    affine x w b y = (∑ k : Fin 128, w (ix3 (n0 := 8192) (n1 := 128) (n2 := 128) (y 0) (y 1) k) * x (ix3 (n0 := 8192) (n1 := 128) (n2 := 64) (y 0) k (y 2)))
      + b (ix2 (n0 := 8192) (n1 := 128) (y 0) (y 1)) := by
  refine (addf_apply _ _ y).trans (congrArg₂ (fun p q : EReal => p + q) (dot_at w x y) ?_)
  unfold broadcastInDim
  refine congrArg b ?_
  funext a
  match a with
  | ⟨0, _⟩ => rfl
  | ⟨1, _⟩ => rfl

theorem reduces : S8192x128x64.Reduces [1] S8192x64 := by decide

/-- The sum of the squares of a column. -/
theorem squares_at (y : FVec Ideal S8192x128x64 .f32) (j : S8192x64.Idx) :
    Host.reduceAdd (mulf y y) (constant S_ .f32 0x00000000#32) reducesTo_S8192x128x64_S8192x64_d1 h_S_ j
      = ∑ d : Fin 128, y (ix3 (n0 := 8192) (n1 := 128) (n2 := 64) (j 0) d (j 1)) * y (ix3 (n0 := 8192) (n1 := 128) (n2 := 64) (j 0) d (j 1)) := by
  refine (Ideal.hostReduceAdd_single reducesTo_S8192x128x64_S8192x64_d1 reduces (mulf y y) (Ideal.ofBits .f32 0x00000000#32) j).trans ?_
  rw [Ideal.ofBits_zero_f32, zero_add]
  refine Finset.sum_congr rfl fun d _ => ?_
  refine (congrArg (mulf y y) (?_ : _ = ix3 (n0 := 8192) (n1 := 128) (n2 := 64) (j 0) d (j 1))).trans (mulf_apply _ _ _)
  funext a
  match a with
  | ⟨0, _⟩ => rfl
  | ⟨1, _⟩ => rfl
  | ⟨2, _⟩ => rfl

/-- A normalised column at an index. -/
theorem normed_at (y : FVec Ideal S8192x128x64 .f32) (i : S8192x128x64.Idx) :
    normed y i = y i * Ideal.rsqrt (max (∑ d : Fin 128, y (ix3 (n0 := 8192) (n1 := 128) (n2 := 64) (i 0) d (i 2)) * y (ix3 (n0 := 8192) (n1 := 128) (n2 := 64) (i 0) d (i 2)))
      (Ideal.ofBits .f32 0x2B8CBCCC#32)) := by
  have hr : broadcastInDim S8192x1x64 ![0, 2] bcast_S8192x64_S8192x1x64_0_2
      (Host.reduceAdd (mulf y y) (constant S_ .f32 0x00000000#32) reducesTo_S8192x128x64_S8192x64_d1 h_S_) (ix3 (n0 := 8192) (n1 := 1) (n2 := 64) (i 0) 0 (i 2))
      = ∑ d : Fin 128, y (ix3 (n0 := 8192) (n1 := 128) (n2 := 64) (i 0) d (i 2)) * y (ix3 (n0 := 8192) (n1 := 128) (n2 := 64) (i 0) d (i 2)) := by
    rw [← show (ix2 (n0 := 8192) (n1 := 64) (i 0) (i 2)) 0 = i 0 from rfl, ← show (ix2 (n0 := 8192) (n1 := 64) (i 0) (i 2)) 1 = i 2 from rfl]
    refine Eq.trans ?_ (squares_at y (ix2 (n0 := 8192) (n1 := 64) (i 0) (i 2)))
    generalize Host.reduceAdd (mulf y y) (constant S_ .f32 0x00000000#32) reducesTo_S8192x128x64_S8192x64_d1 h_S_ = f
    unfold broadcastInDim
    refine congrArg f ?_
    funext a
    match a with
    | ⟨0, _⟩ => rfl
    | ⟨1, _⟩ => rfl
  rw [← hr]
  unfold normed
  generalize broadcastInDim S8192x1x64 ![0, 2] bcast_S8192x64_S8192x1x64_0_2
      (Host.reduceAdd (mulf y y) (constant S_ .f32 0x00000000#32) reducesTo_S8192x128x64_S8192x64_d1 h_S_) = f
  refine (mulf_apply _ _ i).trans (congrArg (fun q : EReal => y i * q) ?_)
  generalize hg : Host.rsqrt (maximumf f (broadcastInDim S8192x1x64 ![] bcast_S_S8192x1x64 (constant S_ .f32 0x2B8CBCCC#32))) = g
  rw [show Ideal.rsqrt (max (f (ix3 (n0 := 8192) (n1 := 1) (n2 := 64) (i 0) 0 (i 2))) (Ideal.ofBits .f32 0x2B8CBCCC#32)) = g (ix3 (n0 := 8192) (n1 := 1) (n2 := 64) (i 0) 0 (i 2)) from by subst hg; rfl]
  unfold broadcastInDim
  refine congrArg g ?_
  funext a
  match a with
  | ⟨0, _⟩ => rfl
  | ⟨1, _⟩ => rfl
  | ⟨2, _⟩ => rfl

/-- The start of an update's window is its row. -/
theorem start_at (idx : IVec S8192x1 32) (u : S8192x128x64.Idx) :
    scatter_S1024x128x64_S8192x1_S8192x128x64_12_0_0_1.start u idx 0 = (idx (ix2 (n0 := 8192) (n1 := 1) (u 0) 0)).toInt := by
  refine (dif_pos (List.mem_singleton.mpr rfl)).trans (congrArg (fun q => (idx q).toInt) ?_)
  funext b
  match b with
  | ⟨0, _⟩ => rfl
  | ⟨1, _⟩ => rfl

/-- Where an update lands: its row, at its own other coordinates. -/
theorem lands_at (row : IVec S8192 32) (hi : ∀ u, (row u).toNat < 1024) (u : S8192x128x64.Idx) :
    scatter_S1024x128x64_S8192x1_S8192x128x64_12_0_0_1.resultIdx? u (starts 1024#32 row)
      = some (ix3 (n0 := 1024) (n1 := 128) (n2 := 64) ⟨(row (ix1 (n := 8192) (u 0))).toNat, hi _⟩ (u 1) (u 2)) := by
  have hs : scatter_S1024x128x64_S8192x1_S8192x128x64_12_0_0_1.start u (starts 1024#32 row) 0 = ((row (ix1 (n := 8192) (u 0))).toNat : Int) := by
    have h := hi (ix1 (n := 8192) (u 0))
    refine (start_at _ u).trans ?_
    rw [starts_at row 1024#32 (fun u => by have := hi u; omega)]
    exact signed_eq _ (by show (row (ix1 (n := 8192) (u 0))).toNat < _; omega)
  have c0 : scatter_S1024x128x64_S8192x1_S8192x128x64_12_0_0_1.start u (starts 1024#32 row) 0 + (scatter_S1024x128x64_S8192x1_S8192x128x64_12_0_0_1.window u 0 : Int)
      = ((row (ix1 (n := 8192) (u 0))).toNat : Int) := by
    rw [hs]; exact Int.add_zero _
  have c1 : scatter_S1024x128x64_S8192x1_S8192x128x64_12_0_0_1.start u (starts 1024#32 row) 1 + (scatter_S1024x128x64_S8192x1_S8192x128x64_12_0_0_1.window u 1 : Int)
      = ((u 1).val : Int) := Int.zero_add _
  have c2 : scatter_S1024x128x64_S8192x1_S8192x128x64_12_0_0_1.start u (starts 1024#32 row) 2 + (scatter_S1024x128x64_S8192x1_S8192x128x64_12_0_0_1.window u 2 : Int)
      = ((u 2).val : Int) := Int.zero_add _
  have b0 := hi (ix1 (n := 8192) (u 0))
  have b1 : (u 1).val < 128 := (u 1).isLt
  have b2 : (u 2).val < 64 := (u 2).isLt
  unfold ScatterDims.resultIdx?
  refine (dif_pos ?_).trans (congrArg some ?_)
  · intro a
    match a with
    | ⟨0, _⟩ => exact ⟨by rw [show (⟨0, _⟩ : Fin S1024x128x64.rank) = 0 from rfl, c0]; omega, by rw [show (⟨0, _⟩ : Fin S1024x128x64.rank) = 0 from rfl, c0]; show _ < ((1024 : ℕ) : Int); omega⟩
    | ⟨1, _⟩ => exact ⟨by rw [show (⟨1, _⟩ : Fin S1024x128x64.rank) = 1 from rfl, c1]; omega, by rw [show (⟨1, _⟩ : Fin S1024x128x64.rank) = 1 from rfl, c1]; show _ < ((128 : ℕ) : Int); omega⟩
    | ⟨2, _⟩ => exact ⟨by rw [show (⟨2, _⟩ : Fin S1024x128x64.rank) = 2 from rfl, c2]; omega, by rw [show (⟨2, _⟩ : Fin S1024x128x64.rank) = 2 from rfl, c2]; show _ < ((64 : ℕ) : Int); omega⟩
  · funext a
    refine Fin.ext ?_
    match a with
    | ⟨0, _⟩ => exact (congrArg Int.toNat c0).trans (Int.toNat_natCast _)
    | ⟨1, _⟩ => exact (congrArg Int.toNat c1).trans (Int.toNat_natCast _)
    | ⟨2, _⟩ => exact (congrArg Int.toNat c2).trans (Int.toNat_natCast _)

/-- The sum at an index: the operations of its row, each at the index's other coordinates. -/
theorem summed_at (row : IVec S8192 32) (hi : ∀ u, (row u).toNat < 1024) (y : FVec Ideal S8192x128x64 .f32) (i : S1024x128x64.Idx) :
    summed row y i = ∑ u : Fin 8192, if (row (ix1 (n := 8192) u)).toNat = (i 0).val then y (ix3 (n0 := 8192) (n1 := 128) (n2 := 64) u (i 1) (i 2)) else 0 := by
  refine (show _ = Ideal.ofBits .f32 0x00000000#32 + ∑ u ∈ Finset.univ.filter (fun u => scatter_S1024x128x64_S8192x1_S8192x128x64_12_0_0_1.resultIdx? u (starts 1024#32 row) = some i), y u from rfl).trans ?_
  rw [Ideal.ofBits_zero_f32, zero_add, ← Finset.sum_filter]
  have hl : ∀ u : S8192x128x64.Idx, scatter_S1024x128x64_S8192x1_S8192x128x64_12_0_0_1.resultIdx? u (starts 1024#32 row) = some i
      ↔ ((row (ix1 (n := 8192) (u 0))).toNat = (i 0).val ∧ u 1 = i 1 ∧ u 2 = i 2) := by
    intro u
    rw [lands_at row hi u, Option.some.injEq]
    constructor
    · rintro rfl
      exact ⟨rfl, rfl, rfl⟩
    · rintro ⟨h0, h1, h2⟩
      funext a
      match a with
      | ⟨0, _⟩ => exact Fin.ext h0
      | ⟨1, _⟩ => exact h1
      | ⟨2, _⟩ => exact h2
  refine Finset.sum_bij' (fun u _ => (u 0 : Fin 8192)) (fun u _ => ix3 (n0 := 8192) (n1 := 128) (n2 := 64) u (i 1) (i 2)) ?_ ?_ ?_ ?_ ?_
  · intro u hu
    exact Finset.mem_filter.2 ⟨Finset.mem_univ _, ((hl u).1 (Finset.mem_filter.1 hu).2).1⟩
  · intro u hu
    exact Finset.mem_filter.2 ⟨Finset.mem_univ _, (hl _).2 ⟨(Finset.mem_filter.1 hu).2, rfl, rfl⟩⟩
  · intro u hu
    obtain ⟨-, h1, h2⟩ := (hl u).1 (Finset.mem_filter.1 hu).2
    rw [← h1, ← h2]
    exact (eq_ix3 u).symm
  · intro u _
    rfl
  · intro u hu
    obtain ⟨-, h1, h2⟩ := (hl u).1 (Finset.mem_filter.1 hu).2
    show y u = y (ix3 (n0 := 8192) (n1 := 128) (n2 := 64) (u 0) (i 1) (i 2))
    rw [← h1, ← h2]
    exact congrArg y (eq_ix3 u)

end Cert.Proof.Ref

end
-- ==== Proof.Images.lean ====
/-
The affine image of every operation is the same number in the kernel and in the reference.
-/
module

public import proofs.«01_k».proof.Proof.Inputs
public import proofs.«01_k».proof.Proof.FlushVal
public import proofs.«01_k».proof.Proof.RefVal
public import proofs.«01_k».proof.Proof.Outcome
public import proofs.«01_k».proof.Proof.Gen.ReferenceIdeal

@[expose] public section

noncomputable section

namespace Cert.Proof

open Cert.Kernel
open Cert.Kernel.K0.Facts₀ Cert.Kernel.Shapes1.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Cert.Kernel.Facts]

local notation "𝕄" => MT nD τ sig Unit (Elt F) ℕ (UU nD τ) ℕ

variable (m : (ℓ : Loc nD τ sig) → Buf (Elt Ideal) ℓ)

/-- The three float arguments. -/
def statesArg : FVec Ideal S4096x128x64 .f32 := m (((0 : Dev nD).tc : Thread nD τ).loc main_arg0)
def weightsArg : FVec Ideal S1024x128x128 .f32 := m (((0 : Dev nD).tc : Thread nD τ).loc main_arg1)
def biasesArg : FVec Ideal S1024x128 .f32 := m (((0 : Dev nD).tc : Thread nD τ).loc main_arg2)

/-- The words the tables hold for operation `u`. -/
theorem i1_eq (u : Fin 8192) : (env m).i1 u.val = (env m).t1 (ix1 u) := dif_pos u.isLt
theorem i2_eq (u : Fin 8192) : (env m).i2 u.val = symArg m (ix1 u) := dif_pos u.isLt
theorem i3_eq (u : Fin 8192) : (env m).i3 u.val = rowArg m (ix1 u) := dif_pos u.isLt

/-- What the kernel reads, from the arguments. -/
theorem xNum_eq (u : ℕ) (k : Fin 128) (w : Fin 64) : xNum (env m) u k w = statesArg m (ix3 (n0 := 4096) (n1 := 128) (n2 := 64) (xRow (env m) u) k w) := rfl
theorem wNum_eq (u : ℕ) (d k : Fin 128) : wNum (env m) u d k = weightsArg m (ix3 (n0 := 1024) (n1 := 128) (n2 := 128) (wRow (env m) u) d k) := rfl
theorem bNum_eq (u : ℕ) (d : Fin 128) : bNum (env m) u d = biasesArg m (ix2 (n0 := 1024) (n1 := 128) (wRow (env m) u) d) := by
  refine (show _ = broadcastInDim S1024x1x128 ![0, 2] Gen.bcast_S1024x128_S1024x1x128_0_2 (biasesArg m) (ix3 (n0 := 1024) (n1 := 1) (n2 := 128) (wRow (env m) u) 0 d) from rfl).trans ?_
  unfold broadcastInDim
  refine congrArg (biasesArg m) ?_
  funext a
  match a with
  | ⟨0, _⟩ => rfl
  | ⟨1, _⟩ => rfl

/-- The reference's row of the states. -/
theorem stateRow_eq (u : Fin 8192) : Ref.stateRow (bankArg m) (rowArg m) (ix1 u) = (env m).t1 (ix1 u) := by
  rw [env_t1]
  refine (show _ = IntOp.addi (IntOp.muli (shapeCast S8192 (bankArg m) Gen.shapeCasts_S8192x1_S8192 (ix1 u)) 1024#32) (rowArg m (ix1 u)) from rfl).trans ?_
  rw [shapeCast_apply (bankArg m) _ (ix1 u) (ix2 u 0) (by rw [Shape.rowMajor_val_one, Shape.rowMajor_val_two]; simp)]
  rfl

theorem stateRow_lt (h : InRange m) (u : S8192.Idx) : (Ref.stateRow (bankArg m) (rowArg m) u).toNat < 4096 := by
  rw [eq_ix1 u]
  refine (congrArg (fun q : BitVec 32 => q.toNat < 4096) (stateRow_eq m (u 0))).mpr ?_
  have h1 := bankArg_lt m h (ix2 (u 0) 0)
  have h2 := rowArg_lt m h (ix1 (u 0))
  have h3 := t1_val m h (u 0)
  omega

/-- The reference's affine images. -/
def refAff : FVec Ideal Cert.ReferenceIdeal.S8192x128x64 .f32 :=
  Ref.affine (Ref.takeX (statesArg m) (Ref.stateRow (bankArg m) (rowArg m))) (Ref.takeW (weightsArg m) (symArg m)) (Ref.takeB (biasesArg m) (symArg m))

/-- The two affine images agree. -/
theorem image_eq (h : InRange m) (u : Fin 8192) (w : Fin 64) (d : Fin 128) : aff (env m) u.val w d = refAff m (ix3 (n0 := 8192) (n1 := 128) (n2 := 64) u d w) := by
  have hx : xRow (env m) u.val = ⟨(Ref.stateRow (bankArg m) (rowArg m) (ix1 u)).toNat, stateRow_lt m h _⟩ := by
    refine Fin.ext ?_
    show ((env m).i1 u.val).toNat % 4096 = _
    rw [i1_eq, ← stateRow_eq]
    exact Nat.mod_eq_of_lt (stateRow_lt m h _)
  have hw : wRow (env m) u.val = ⟨(symArg m (ix1 u)).toNat, symArg_lt m h _⟩ := by
    refine Fin.ext ?_
    show ((env m).i2 u.val).toNat % 1024 = _
    rw [i2_eq]
    exact Nat.mod_eq_of_lt (symArg_lt m h _)
  refine Eq.trans ?_ (Ref.affine_at _ _ _ (ix3 (n0 := 8192) (n1 := 128) (n2 := 64) u d w)).symm
  refine congrArg₂ (fun p q : EReal => p + q) (Finset.sum_congr rfl fun k _ => ?_) ?_
  · refine (mul_comm _ _).trans (congrArg₂ (fun p q : EReal => p * q) ?_ ?_)
    · refine Eq.trans ?_ (Ref.takeW_at (symArg m) (weightsArg m) (symArg_lt m h) (ix3 (n0 := 8192) (n1 := 128) (n2 := 128) u d k)).symm
      rw [wNum_eq, hw]
    · refine Eq.trans ?_ (Ref.takeX_at (Ref.stateRow (bankArg m) (rowArg m)) (statesArg m) (stateRow_lt m h) (ix3 (n0 := 8192) (n1 := 128) (n2 := 64) u k w)).symm
      rw [xNum_eq, hx]
  · refine Eq.trans ?_ (Ref.takeB_at (symArg m) (biasesArg m) (symArg_lt m h) (ix2 (n0 := 8192) (n1 := 128) u d)).symm
    rw [bNum_eq, hw]

/-- So what an operation adds is the reference's normalised image. -/
theorem added_eq (h : InRange m) (u : Fin 8192) (r : ℕ) (w : Fin 64) (d : Fin 128) : addNum (env m) u.val r w d
    = if (rowArg m (ix1 u)).toNat = r then Ref.normed (refAff m) (ix3 (n0 := 8192) (n1 := 128) (n2 := 64) u d w) else 0 := by
  unfold addNum
  rw [i3_eq]
  refine congrArg (fun q : EReal => if (rowArg m (ix1 u)).toNat = r then q else 0) ?_
  refine (opVal_at (env m) u.val _).trans (Eq.trans ?_ (Ref.normed_at (refAff m) _).symm)
  refine congrArg₂ (fun p q : EReal => p * Ideal.rsqrt (max q (Ideal.ofBits .f32 0x2B8CBCCC#32))) (image_eq m h u w d) ?_
  exact Finset.sum_congr rfl fun k _ => congrArg₂ (fun p q : EReal => p * q) (image_eq m h u w k) (image_eq m h u w k)

/-- The kernel's result is the reference's. -/
theorem result_eq (h : InRange m) : result m = Ref.out (statesArg m) (weightsArg m) (biasesArg m) (rowArg m) (symArg m) (bankArg m) := by
  funext i
  refine (out_at _ _ i).trans ((accAt_at (env m) 8192 _).trans ?_)
  refine Eq.trans ?_ (Ref.summed_at (rowArg m) (rowArg_lt m h) (Ref.normed (refAff m)) i).symm
  rw [Finset.sum_range]
  exact Finset.sum_congr rfl fun u _ => added_eq m h u (i 0).val (i 2) (i 1)

end Cert.Proof

end
-- ==== Proof.Equation.lean ====
/-
  The equation: run on the same arguments, the idealized kernel and the reference leave the same result.
-/
module

public import proofs.«01_k».proof.Proof.Frames
public import proofs.«01_k».proof.Proof.Images

@[expose] public section

noncomputable section

namespace Cert.Proof

open Idealize.ShloMosaic Idealize.ShloMosaic.TcCoe Idealize.SL.Sem

/-- Every run of the kernel ends with the array that every run of the reference ends with. -/
theorem algebraic : Cert.algebraic_KernelIdeal_ReferenceIdeal := fun m g m' g' h hm =>
  ⟨fun _ => result (F := Ideal) m, θ_run_mono (run_ideal m g h) fun _ hr => hr.1,
    (θ_run Cert.ReferenceIdeal.defs _ _).mono (fun r hr c => by
      obtain rfl : c = 0 := Subsingleton.elim _ _
      obtain ⟨h0, h1, h2, h3, h4, h5⟩ := hm 0
      have hv := (hr 0).1
      rw [h0, h1, h2, h3, h4, h5] at hv
      exact ⟨hv.trans (result_eq m (h 0)).symm, (hr 0).2⟩) (Ref.run (F := Ideal) m' g')⟩

end Cert.Proof

end
-- ==== Proof.lean ====
/-
  The proof of `Cert.Claim`, assembled: the facts that the programs state, the three frames, the preserved
  program and the equation of the idealized kernel with the reference.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.Pre_in_range

@[expose] public section

noncomputable section

namespace Cert.Proof

/-- All the claims: each program runs to its end and keeps its arguments, and the idealized kernel's result is the
reference's. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
